-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite2 [hPre_finite2 : Cert.Pre_finite2.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite2.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite2 [hPre_finite2 : Cert.Pre_finite2.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite2.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite2 [hKernel5Ideal : Cert.Kernel5Ideal.Facts] [hPre_finite2 : Cert.Pre_finite2.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite2 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite2 [hReference5Ideal : Cert.Reference5Ideal.Facts] [hPre_finite2 : Cert.Pre_finite2.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite2 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12_1)) (v1 : (c : Dev Cert.Kernel2Ideal.nD) → Buf (Elt Ideal) ((c.tc : Thread Cert.Kernel2Ideal.nD Cert.Kernel2Ideal.τ).loc Cert.Kernel2Ideal.main_v13)) (v2 : (c : Dev Cert.Kernel2Ideal.nD) → Buf (Elt Ideal) ((c.tc : Thread Cert.Kernel2Ideal.nD Cert.Kernel2Ideal.τ).loc Cert.Kernel2Ideal.main_v15)) (v3 : (c : Dev Cert.Kernel2Ideal.nD) → Buf (Elt Ideal) ((c.tc : Thread Cert.Kernel2Ideal.nD Cert.Kernel2Ideal.τ).loc Cert.Kernel2Ideal.main_v21)) (v4 : (c : Dev Cert.Kernel2Ideal.nD) → Buf (Elt Ideal) ((c.tc : Thread Cert.Kernel2Ideal.nD Cert.Kernel2Ideal.τ).loc Cert.Kernel2Ideal.main_v17)) (v5 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_1) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_v15) = v2 c
          ∧ r.2.mem ((c.tc : Thread Cert.Kernel2Ideal.nD Cert.Kernel2Ideal.τ).loc Cert.Kernel2Ideal.main_v21) = v3 c
          ∧ r.2.mem ((c.tc : Thread Cert.Kernel2Ideal.nD Cert.Kernel2Ideal.τ).loc Cert.Kernel2Ideal.main_v17) = v4 c
          ∧ r.2.mem ((c.tc : Thread Cert.Kernel2Ideal.nD Cert.Kernel2Ideal.τ).loc Cert.Kernel2Ideal.main_v20) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v99) = v0 c
          ∧ r.2.mem ((c.tc : Thread Cert.Reference2Ideal.nD Cert.Reference2Ideal.τ).loc Cert.Reference2Ideal.main_v100) = v1 c
          ∧ r.2.mem ((c.tc : Thread Cert.Reference2Ideal.nD Cert.Reference2Ideal.τ).loc Cert.Reference2Ideal.main_v103) = v2 c
          ∧ r.2.mem ((c.tc : Thread Cert.Reference2Ideal.nD Cert.Reference2Ideal.τ).loc Cert.Reference2Ideal.main_v105) = v3 c
          ∧ r.2.mem ((c.tc : Thread Cert.Reference2Ideal.nD Cert.Reference2Ideal.τ).loc Cert.Reference2Ideal.main_v107) = v4 c
          ∧ r.2.mem ((c.tc : Thread Cert.Reference2Ideal.nD Cert.Reference2Ideal.τ).loc Cert.Reference2Ideal.main_v60) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite2 [hKernel5Ideal : Cert.Kernel5Ideal.Facts] [hReference5Ideal : Cert.Reference5Ideal.Facts] [hPre_finite2 : Cert.Pre_finite2.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite2 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12_1)) (v1 : (c : Dev Cert.Kernel5Ideal.nD) → Buf (Elt Ideal) ((c.tc : Thread Cert.Kernel5Ideal.nD Cert.Kernel5Ideal.τ).loc Cert.Kernel5Ideal.main_v13)) (v2 : (c : Dev Cert.Kernel5Ideal.nD) → Buf (Elt Ideal) ((c.tc : Thread Cert.Kernel5Ideal.nD Cert.Kernel5Ideal.τ).loc Cert.Kernel5Ideal.main_v15)) (v3 : (c : Dev Cert.Kernel5Ideal.nD) → Buf (Elt Ideal) ((c.tc : Thread Cert.Kernel5Ideal.nD Cert.Kernel5Ideal.τ).loc Cert.Kernel5Ideal.main_v21)) (v4 : (c : Dev Cert.Kernel5Ideal.nD) → Buf (Elt Ideal) ((c.tc : Thread Cert.Kernel5Ideal.nD Cert.Kernel5Ideal.τ).loc Cert.Kernel5Ideal.main_v17)) (v5 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_1) = v0 c
          ∧ r.2.mem ((c.tc : Thread Cert.Kernel5Ideal.nD Cert.Kernel5Ideal.τ).loc Cert.Kernel5Ideal.main_v13) = v1 c
          ∧ r.2.mem ((c.tc : Thread Cert.Kernel5Ideal.nD Cert.Kernel5Ideal.τ).loc Cert.Kernel5Ideal.main_v15) = v2 c
          ∧ r.2.mem ((c.tc : Thread Cert.Kernel5Ideal.nD Cert.Kernel5Ideal.τ).loc Cert.Kernel5Ideal.main_v21) = v3 c
          ∧ r.2.mem ((c.tc : Thread Cert.Kernel5Ideal.nD Cert.Kernel5Ideal.τ).loc Cert.Kernel5Ideal.main_v17) = v4 c
          ∧ r.2.mem ((c.tc : Thread Cert.Kernel5Ideal.nD Cert.Kernel5Ideal.τ).loc Cert.Kernel5Ideal.main_v20) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_v103) = v2 c
          ∧ r.2.mem ((c.tc : Thread Cert.Reference5Ideal.nD Cert.Reference5Ideal.τ).loc Cert.Reference5Ideal.main_v105) = v3 c
          ∧ r.2.mem ((c.tc : Thread Cert.Reference5Ideal.nD Cert.Reference5Ideal.τ).loc Cert.Reference5Ideal.main_v107) = v4 c
          ∧ r.2.mem ((c.tc : Thread Cert.Reference5Ideal.nD Cert.Reference5Ideal.τ).loc Cert.Reference5Ideal.main_v60) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0)) (v1 : (c : Dev Cert.Kernel9Ideal.nD) → Buf (Elt Ideal) ((c.tc : Thread Cert.Kernel9Ideal.nD Cert.Kernel9Ideal.τ).loc Cert.Kernel9Ideal.main_v3_0)) (v2 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_v3_0) = v1 c
          ∧ r.2.mem ((c.tc : Thread Cert.Kernel9Ideal.nD Cert.Kernel9Ideal.τ).loc Cert.Kernel9Ideal.main_v3_1) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite2 (hKernel5Ideal := hKernel5Ideal) (hPre_finite2 := hPre_finite2)
    ∧ quiescent_Reference5Ideal (hReference5Ideal := hReference5Ideal)
    ∧ quiescent_Reference5Ideal_pre_finite2 (hReference5Ideal := hReference5Ideal) (hPre_finite2 := hPre_finite2)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite2 (hKernel5Ideal := hKernel5Ideal) (hReference5Ideal := hReference5Ideal) (hPre_finite2 := hPre_finite2)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S24x4096x64 : Shape := ⟨3, ![24, 4096, 64]⟩
abbrev S16x4096x64 : Shape := ⟨3, ![16, 4096, 64]⟩
abbrev S_ : Shape := ⟨0, ![]⟩

class Facts : Prop where
  bitsLt_bf16_f32 : FTy.bits .bf16 < FTy.bits .f32
  bcast_S_S24x4096x64 : S_.BroadcastsInDim S24x4096x64 (![] : Fin 0 → Fin S24x4096x64.rank)
  reducesTo_S24x4096x64_S_d0_1_2 : S24x4096x64.ReducesTo [0, 1, 2] S_
  h_S_ : 0 < S_.numel
  bcast_S_S16x4096x64 : S_.BroadcastsInDim S16x4096x64 (![] : Fin 0 → Fin S16x4096x64.rank)
  reducesTo_S16x4096x64_S_d0_1_2 : S16x4096x64.ReducesTo [0, 1, 2] S_

variable [Facts]

def fn {F : FTy → Type} [FloatOps F] (main_arg0 : FVec F S24x4096x64 .bf16) (main_arg1 : FVec F S16x4096x64 .bf16) : IVec S_ 1 :=
  let main_v0 : FVec F S24x4096x64 .f32 := (extf .f32 · bitsLt_bf16_f32) main_arg0
  let main_v1 : FVec F S24x4096x64 .f32 := Host.absf main_v0
  let main_cst : FVec F S_ .f32 := constant S_ .f32 0x7F800000#32
  let main_v2 : FVec F S24x4096x64 .f32 := broadcastInDim S24x4096x64 ![] bcast_S_S24x4096x64 main_cst
  let main_v3 : IVec S24x4096x64 1 := cmpf .olt main_v1 main_v2
  let main_c : IVec S_ 1 := constantI S_ 1 1#1
  let main_v4 : IVec S_ 1 := (fun x v => Host.reduce IntOp.andi x v reducesTo_S24x4096x64_S_d0_1_2 h_S_) main_v3 main_c
  let main_v5 : FVec F S16x4096x64 .f32 := (extf .f32 · bitsLt_bf16_f32) main_arg1
  let main_v6 : FVec F S16x4096x64 .f32 := Host.absf main_v5
  let main_cst_0 : FVec F S_ .f32 := constant S_ .f32 0x7F800000#32
  let main_v7 : FVec F S16x4096x64 .f32 := broadcastInDim S16x4096x64 ![] bcast_S_S16x4096x64 main_cst_0
  let main_v8 : IVec S16x4096x64 1 := cmpf .olt main_v6 main_v7
  let main_c_1 : IVec S_ 1 := constantI S_ 1 1#1
  let main_v9 : IVec S_ 1 := (fun x v => Host.reduce IntOp.andi x v reducesTo_S16x4096x64_S_d0_1_2 h_S_) main_v8 main_c_1
  let main_v10 : IVec S_ 1 := andi main_v4 main_v9
  main_v10
-- ==== Pre_finite2.lean ====
abbrev S4096x1024 : Shape := ⟨2, ![4096, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2x1024x5632 : S_.BroadcastsInDim S2x1024x5632 (![] : Fin 0 → Fin S2x1024x5632.rank)
  reducesTo_S2x1024x5632_S_d0_1_2 : S2x1024x5632.ReducesTo [0, 1, 2] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_arg8 : FVec F S4096x1024 .f32) (main_v29 : IVec S_ 1) (main_v33 : IVec S_ 1) : IVec S_ 1 :=
  let main_v34 : IVec S_ 1 := andi main_v29 main_v33
  let main_v35 : FVec F S2816x1024 .f32 := Host.absf main_arg7
  let main_cst_12 : FVec F S_ .f32 := constant S_ .f32 0x7F800000#32
  let main_v36 : FVec F S2816x1024 .f32 := broadcastInDim S2816x1024 ![] bcast_S_S2816x1024 main_cst_12
  let main_v37 : IVec S2816x1024 1 := cmpf .olt main_v35 main_v36
  let main_c_13 : IVec S_ 1 := constantI S_ 1 1#1
  let main_v38 : IVec S_ 1 := (fun x v => Host.reduce IntOp.andi x v reducesTo_S2816x1024_S_d0_1 h_S_) main_v37 main_c_13
  let main_v39 : IVec S_ 1 := andi main_v34 main_v38
  let main_v40 : FVec F S4096x1024 .f32 := Host.absf main_arg8
  let main_cst_14 : FVec F S_ .f32 := constant S_ .f32 0x7F800000#32
  let main_v41 : FVec F S4096x1024 .f32 := broadcastInDim S4096x1024 ![] bcast_S_S4096x1024 main_cst_14
  let main_v42 : IVec S4096x1024 1 := cmpf .olt main_v40 main_v41
  let main_c_15 : IVec S_ 1 := constantI S_ 1 1#1
  let main_v43 : IVec S_ 1 := (fun x v => Host.reduce IntOp.andi x v reducesTo_S4096x1024_S_d0_1 h_S_) main_v42 main_c_15
  let main_v44 : IVec S_ 1 := andi main_v39 main_v43
  main_v44

def fn_part1 {F : FTy → Type} [FloatOps F] (main_arg4 : FVec F S2x1024x5632 .f32) (main_arg5 : FVec F S3x5632 .f32) (main_arg6 : FVec F S5632 .f32) (main_arg7 : FVec F S2816x1024 .f32) (main_arg8 : FVec F S4096x1024 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S2x1024x5632 .f32 := Host.absf main_arg4
  let main_cst_6 : FVec F S_ .f32 := constant S_ .f32 0x7F800000#32
  let main_v21 : FVec F S2x1024x5632 .f32 := broadcastInDim S2x1024x5632 ![] bcast_S_S2x1024x5632 main_cst_6
  let main_v22 : IVec S2x1024x5632 1 := cmpf .olt main_v20 main_v21
  let main_c_7 : IVec S_ 1 := constantI S_ 1 1#1
  let main_v23 : IVec S_ 1 := (fun x v => Host.reduce IntOp.andi x v reducesTo_S2x1024x5632_S_d0_1_2 h_S_) main_v22 main_c_7
  let main_v24 : IVec S_ 1 := andi main_v19 main_v23
  let main_v25 : FVec F S3x5632 .f32 := Host.absf main_arg5
  let main_cst_8 : FVec F S_ .f32 := constant S_ .f32 0x7F800000#32
  let main_v26 : FVec F S3x5632 .f32 := broadcastInDim S3x5632 ![] bcast_S_S3x5632 main_cst_8
  let main_v27 : IVec S3x5632 1 := cmpf .olt main_v25 main_v26
  let main_c_9 : IVec S_ 1 := constantI S_ 1 1#1
  let main_v28 : IVec S_ 1 := (fun x v => Host.reduce IntOp.andi x v reducesTo_S3x5632_S_d0_1 h_S_) main_v27 main_c_9
  let main_v29 : IVec S_ 1 := andi main_v24 main_v28
  let main_v30 : FVec F S5632 .f32 := Host.absf main_arg6
  let main_cst_10 : FVec F S_ .f32 := constant S_ .f32 0x7F800000#32
  let main_v31 : FVec F S5632 .f32 := broadcastInDim S5632 ![] bcast_S_S5632 main_cst_10
  let main_v32 : IVec S5632 1 := cmpf .olt main_v30 main_v31
  let main_c_11 : IVec S_ 1 := constantI S_ 1 1#1
  let main_v33 : IVec S_ 1 := (fun x v => Host.reduce IntOp.andi x v reducesTo_S5632_S_d0 h_S_) main_v32 main_c_11
  fn_part2 (F := F) main_arg7 main_arg8 main_v29 main_v33

def fn {F : FTy → Type} [FloatOps F] (main_arg0 : FVec F S4096x1024 .f32) (main_arg1 : FVec F S4096x1024 .bf16) (main_arg2 : FVec F S1024x1024 .f32) (main_arg3 : FVec F S1024 .f32) (main_arg4 : FVec F S2x1024x5632 .f32) (main_arg5 : FVec F S3x5632 .f32) (main_arg6 : FVec F S5632 .f32) (main_arg7 : FVec F S2816x1024 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S1024x1024 .f32 := Host.absf main_arg2
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_arg6 main_arg7 main_arg8 main_v14 main_v15 main_v16
-- ==== Kernel.lean ====
abbrev S24x4096x64 : Shape := ⟨3, ![24, 4096, 64]⟩
abbrev S16x4096x64 : Shape := ⟨3, ![16, 4096, 64]⟩
abbrev S16x4096x1 : Shape := ⟨3, ![16, 4096, 1]⟩
abbrev S4x256x64 : Shape := ⟨3, ![4, 256, 64]⟩
abbrev S1x4096x64 : Shape := ⟨3, ![1, 4096, 64]⟩
abbrev S4x256x1 : Shape := ⟨3, ![4, 256, 1]⟩
abbrev S1024x64 : Shape := ⟨2, ![1024, 64]⟩
abbrev S1024x1 : Shape := ⟨2, ![1024, 1]⟩
abbrev S1x1024x64 : Shape := ⟨3, ![1, 1024, 64]⟩
abbrev S1024x1024 : Shape := ⟨2, ![1024, 1024]⟩
abbrev S1024 : Shape := ⟨1, ![1024]⟩
abbrev S4x4096x64 : Shape := ⟨3, ![4, 4096, 64]⟩
abbrev S4x128x64 : Shape := ⟨3, ![4, 128, 64]⟩
abbrev S4x128x1 : Shape := ⟨3, ![4, 128, 1]⟩
abbrev S4096x64 : Shape := ⟨2, ![4096, 64]⟩
abbrev S512x64 : Shape := ⟨2, ![512, 64]⟩
abbrev S512 : Shape := ⟨1, ![512]⟩
abbrev S512x1 : Shape := ⟨2, ![512, 1]⟩
abbrev S512x1024 : Shape := ⟨2, ![512, 1024]⟩

abbrev nBuf : Space → Nat
  | .hbm => 7
  | .vmem => 28
  | .smem => 0
  | _ => 0

abbrev bufTy : (tb : Table) → Fin (tcTables nBuf tb) → BufTy
  | .hbm, ⟨0, _⟩ => ⟨S24x4096x64, .bf16⟩
  | .hbm, ⟨1, _⟩ => ⟨S16x4096x64, .bf16⟩
  | .hbm, ⟨2, _⟩ => ⟨S16x4096x64, .bf16⟩
  | .hbm, ⟨3, _⟩ => ⟨S16x4096x1, .f32⟩
  | .hbm, ⟨4, _⟩ => ⟨S16x4096x64, .f32⟩
  | .hbm, ⟨5, _⟩ => ⟨S4x4096x64, .f32⟩
  | .hbm, ⟨6, _⟩ => ⟨S4x4096x64, .f32⟩
  | .local _ .vmem, ⟨0, _⟩ => ⟨S4x256x64, .bf16⟩
  | .local _ .vmem, ⟨1, _⟩ => ⟨S4x256x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S4x256x64, .bf16⟩
  | .local _ .vmem, ⟨7, _⟩ => ⟨S4x256x64, .bf16⟩
  | .local _ .vmem, ⟨8, _⟩ => ⟨S4x256x1, .f32⟩
  | .local _ .vmem, ⟨9, _⟩ => ⟨S4x256x1, .f32⟩
  | .local _ .vmem, ⟨10, _⟩ => ⟨S4x128x64, .bf16⟩
  | .local _ .vmem, ⟨11, _⟩ => ⟨S4x128x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S4x128x64, .bf16⟩
  | .local _ .vmem, ⟨17, _⟩ => ⟨S4x128x64, .bf16⟩
  | .local _ .vmem, ⟨18, _⟩ => ⟨S4x128x1, .f32⟩
  | .local _ .vmem, ⟨19, _⟩ => ⟨S4x128x1, .f32⟩
  | .local _ .vmem, ⟨20, _⟩ => ⟨S4x128x64, .bf16⟩
  | .local _ .vmem, ⟨21, _⟩ => ⟨S4x128x64, .bf16⟩
  | .local _ .vmem, ⟨22, _⟩ => ⟨S4x128x64, .f32⟩
  | .local _ .vmem, ⟨23, _⟩ => ⟨S4x128x64, .f32⟩
  | .local _ .vmem, ⟨24, _⟩ => ⟨S1x4096x64, .f32⟩
  | .local _ .vmem, ⟨25, _⟩ => ⟨S1x4096x64, .f32⟩
  | .local _ .vmem, ⟨26, _⟩ => ⟨S1x4096x64, .f32⟩
  | .local _ .vmem, ⟨27, _⟩ => ⟨S1x4096x64, .f32⟩
  | _, _ => ⟨S24x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x128x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x4096x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x4096x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S24x4096x64 : Shape := ⟨3, ![24, 4096, 64]⟩
abbrev S16x4096x64 : Shape := ⟨3, ![16, 4096, 64]⟩
abbrev S4x4096x64 : Shape := ⟨3, ![4, 4096, 64]⟩
abbrev S4x4x4096x64 : Shape := ⟨4, ![4, 4, 4096, 64]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x64x4096 : Shape := ⟨3, ![4, 64, 4096]⟩

abbrev nBuf : Space → Nat
  | .hbm => 73
  | .vmem => 0
  | .smem => 0
  | _ => 0

abbrev bufTy : (tb : Table) → Fin (tcTables nBuf tb) → BufTy
  | .hbm, ⟨0, _⟩ => ⟨S24x4096x64, .bf16⟩
  | .hbm, ⟨1, _⟩ => ⟨S16x4096x64, .bf16⟩
  | .hbm, ⟨2, _⟩ => ⟨S16x4096x64, .bf16⟩
  | .hbm, ⟨3, _⟩ => ⟨S16x4096x64, .f32⟩
  | .hbm, ⟨4, _⟩ => ⟨S4x4096x64, .bf16⟩
  | .hbm, ⟨5, _⟩ => ⟨S4x4096x64, .f32⟩
  | .hbm, ⟨6, _⟩ => ⟨S4x4096x64, .bf16⟩
  | .hbm, ⟨7, _⟩ => ⟨S4x4096x64, .f32⟩
  | .hbm, ⟨8, _⟩ => ⟨S4x4x4096x64, .f32⟩
  | .hbm, ⟨9, _⟩ => ⟨S4x4x4096x4096, .f32⟩
  | .hbm, ⟨10, _⟩ => ⟨S_, .f32⟩
  | .hbm, ⟨11, _⟩ => ⟨S4x4x4096, .f32⟩
  | .hbm, ⟨12, _⟩ => ⟨S4x4x4096x1, .f32⟩
  | .hbm, ⟨13, _⟩ => ⟨S4x4x4096x4096, .f32⟩
  | .hbm, ⟨14, _⟩ => ⟨S4x4x4096x4096, .i1⟩
  | .hbm, ⟨15, _⟩ => ⟨S4x4x4096x4096, .f32⟩
  | .hbm, ⟨16, _⟩ => ⟨S_, .f32⟩
  | .hbm, ⟨17, _⟩ => ⟨S4x4x4096, .f32⟩
  | .hbm, ⟨18, _⟩ => ⟨S_, .f32⟩
  | .hbm, ⟨19, _⟩ => ⟨S4x4x4096, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .i1⟩
  | .hbm, ⟨24, _⟩ => ⟨S_, .f32⟩
  | .hbm, ⟨25, _⟩ => ⟨S4x4x4096, .f32⟩
  | .hbm, ⟨26, _⟩ => ⟨S4x4x4096, .i1⟩
  | .hbm, ⟨27, _⟩ => ⟨S_, .f32⟩
  | .hbm, ⟨28, _⟩ => ⟨S4x4x4096, .f32⟩
  | .hbm, ⟨29, _⟩ => ⟨S_, .f32⟩
  | .hbm, ⟨30, _⟩ => ⟨S4x4x4096, .f32⟩
  | .hbm, ⟨31, _⟩ => ⟨S_, .f32⟩
  | .hbm, ⟨32, _⟩ => ⟨S4x4x4096, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x4096, .f32⟩
  | .hbm, ⟨37, _⟩ => ⟨S4x4x4096x4096, .f32⟩
  | .hbm, ⟨38, _⟩ => ⟨S4x4x4096x4096, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S4x4x4096x4096, .f32⟩
  | .hbm, ⟨43, _⟩ => ⟨S4x4x4096x4096, .f32⟩
  | .hbm, ⟨44, _⟩ => ⟨S4x4x4096x1, .f32⟩
  | .hbm, ⟨45, _⟩ => ⟨S_, .f32⟩
  | .hbm, ⟨46, _⟩ => ⟨S4x4x4096x1, .f32⟩
  | .hbm, ⟨47, _⟩ => ⟨S4x4x4096x1, .f32⟩
  | .hbm, ⟨48, _⟩ => ⟨S4x4x4096x64, .f32⟩
  | .hbm, ⟨49, _⟩ => ⟨S16x4096x64, .f32⟩
  | .hbm, ⟨50, _⟩ => ⟨S16x4096x64, .bf16⟩
  | .hbm, ⟨51, _⟩ => ⟨S16x4096x64, .f32⟩
  | .hbm, ⟨52, _⟩ => ⟨S4x4x4096x64, .f32⟩
  | .hbm, ⟨53, _⟩ => ⟨S4x64x4096, .f32⟩
  | .hbm, ⟨54, _⟩ => ⟨S4x4096x64, .f32⟩
  | .hbm, ⟨55, _⟩ => ⟨S4x4x4096x4096, .f32⟩
  | .hbm, ⟨56, _⟩ => ⟨S4x4x4096x4096, .f32⟩
  | .hbm, ⟨57, _⟩ => ⟨S4x4x4096x4096, .f32⟩
  | .hbm, ⟨58, _⟩ => ⟨S4x4x4096x4096, .f32⟩
  | .hbm, ⟨59, _⟩ => ⟨S_, .f32⟩
  | .hbm, ⟨60, _⟩ => ⟨S4x4x4096, .f32⟩
  | .hbm, ⟨61, _⟩ => ⟨S4x4x4096x1, .f32⟩
  | .hbm, ⟨62, _⟩ => ⟨S4x4x4096x1, .f32⟩
  | .hbm, ⟨63, _⟩ => ⟨S4x4x4096x4096, .f32⟩
  | .hbm, ⟨64, _⟩ => ⟨S4x4x4096x4096, .f32⟩
  | .hbm, ⟨65, _⟩ => ⟨S_, .f32⟩
  | .hbm, ⟨66, _⟩ => ⟨S4x4x4096, .f32⟩
  | .hbm, ⟨67, _⟩ => ⟨S4x4x4096x4096, .f32⟩
  | .hbm, ⟨68, _⟩ => ⟨S4x4x4096x4096, .f32⟩
  | .hbm, ⟨69, _⟩ => ⟨S4x4x4096x4096, .f32⟩
  | .hbm, ⟨70, _⟩ => ⟨S4x4096x64, .f32⟩
  | .hbm, ⟨71, _⟩ => ⟨S4x4x4096x64, .f32⟩
  | .hbm, ⟨72, _⟩ => ⟨S16x4096x64, .f32⟩
  | _, _ => ⟨S24x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel2.lean ====
abbrev S4096x1024 : Shape := ⟨2, ![4096, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2816x1024 : Shape := ⟨2, ![2816, 1024]⟩
abbrev S2048x8x704 : Shape := ⟨3, ![2048, 8, 704]⟩
abbrev S8x2048x704 : Shape := ⟨3, ![8, 2048, 704]⟩
abbrev S3x8x704 : Shape := ⟨3, ![3, 8, 704]⟩
abbrev S8x3x704 : Shape := ⟨3, ![8, 3, 704]⟩
abbrev S2x4x3x704 : Shape := ⟨4, ![2, 4, 3, 704]⟩
abbrev S2x4x1x704 : Shape := ⟨4, ![2, 4, 1, 704]⟩
abbrev S1x1024 : Shape := ⟨2, ![1, 1024]⟩
abbrev S1024x1 : Shape := ⟨2, ![1024, 1]⟩
abbrev S2x4x2048x704 : Shape := ⟨4, ![2, 4, 2048, 704]⟩
abbrev S2x4x4096x704 : Shape := ⟨4, ![2, 4, 4096, 704]⟩
abbrev S4x4096x704 : Shape := ⟨3, ![4, 4096, 704]⟩
abbrev S512x1024 : Shape := ⟨2, ![512, 1024]⟩
abbrev S16x1024 : Shape := ⟨2, ![16, 1024]⟩
abbrev S2x1x1024x704 : Shape := ⟨4, ![2, 1, 1024, 704]⟩
abbrev S2x1x3x704 : Shape := ⟨4, ![2, 1, 3, 704]⟩
abbrev S2x1x1x704 : Shape := ⟨4, ![2, 1, 1, 704]⟩
abbrev S2x1x512x704 : Shape := ⟨4, ![2, 1, 512, 704]⟩
abbrev S1x512x704 : Shape := ⟨3, ![1, 512, 704]⟩
abbrev S544x1024 : Shape := ⟨2, ![544, 1024]⟩
abbrev S1x1x1024x704 : Shape := ⟨4, ![1, 1, 1024, 704]⟩
abbrev S1024x704 : Shape := ⟨2, ![1024, 704]⟩
abbrev S544x704 : Shape := ⟨2, ![544, 704]⟩
abbrev S512x704 : Shape := ⟨2, ![512, 704]⟩
abbrev S1x1x512x704 : Shape := ⟨4, ![1, 1, 512, 704]⟩
abbrev S1x1x3x704 : Shape := ⟨4, ![1, 1, 3, 704]⟩
abbrev S3x704 : Shape := ⟨2, ![3, 704]⟩
abbrev S1x704 : Shape := ⟨2, ![1, 704]⟩
abbrev S1x1x1x704 : Shape := ⟨4, ![1, 1, 1, 704]⟩
abbrev S4x1024x704 : Shape := ⟨3, ![4, 1024, 704]⟩
abbrev S1x1024x704 : Shape := ⟨3, ![1, 1024, 704]⟩
abbrev S704x1024 : Shape := ⟨2, ![704, 1024]⟩
abbrev S2x4x8x704 : Shape := ⟨4, ![2, 4, 8, 704]⟩
abbrev S2x1x8x704 : Shape := ⟨4, ![2, 1, 8, 704]⟩
abbrev S8x1024 : Shape := ⟨2, ![8, 1024]⟩
abbrev S2x8x704 : Shape := ⟨3, ![2, 8, 704]⟩
abbrev S528x1024 : Shape := ⟨2, ![528, 1024]⟩
abbrev S528x704 : Shape := ⟨2, ![528, 704]⟩
abbrev S1x1x8x704 : Shape := ⟨4, ![1, 1, 8, 704]⟩
abbrev S8x704 : Shape := ⟨2, ![8, 704]⟩
abbrev S704 : Shape := ⟨1, ![704]⟩
abbrev S8x4096x704 : Shape := ⟨3, ![8, 4096, 704]⟩
abbrev S8x8x704 : Shape := ⟨3, ![8, 8, 704]⟩
abbrev S8x1x704 : Shape := ⟨3, ![8, 1, 704]⟩
abbrev S8x1024x704 : Shape := ⟨3, ![8, 1024, 704]⟩
abbrev S1x4096x704 : Shape := ⟨3, ![1, 4096, 704]⟩
abbrev S4096x704 : Shape := ⟨2, ![4096, 704]⟩

abbrev nBuf : Space → Nat
  | .hbm => 34
  | .vmem => 60
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S2x1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S4096x1024, .f32⟩
  | .hbm, ⟨9, _⟩ => ⟨S2816x1024, .bf16⟩
  | .hbm, ⟨10, _⟩ => ⟨S2x1024x5632, .bf16⟩
  | .hbm, ⟨11, _⟩ => ⟨S2048x8x704, .bf16⟩
  | .hbm, ⟨12, _⟩ => ⟨S8x2048x704, .bf16⟩
  | .hbm, ⟨13, _⟩ => ⟨S3x8x704, .f32⟩
  | .hbm, ⟨14, _⟩ => ⟨S8x3x704, .f32⟩
  | .hbm, ⟨15, _⟩ => ⟨S2x4x3x704, .f32⟩
  | .hbm, ⟨16, _⟩ => ⟨S2x4x1x704, .f32⟩
  | .hbm, ⟨17, _⟩ => ⟨S1024x1024, .bf16⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S2x4x2048x704, .bf16⟩
  | .hbm, ⟨22, _⟩ => ⟨S2x4x4096x704, .f32⟩
  | .hbm, ⟨23, _⟩ => ⟨S4x4096x704, .bf16⟩
  | .hbm, ⟨24, _⟩ => ⟨S4096x1024, .f32⟩
  | .hbm, ⟨25, _⟩ => ⟨S2x4x4096x704, .bf16⟩
  | .hbm, ⟨26, _⟩ => ⟨S2x4x8x704, .f32⟩
  | .hbm, ⟨27, _⟩ => ⟨S8x4096x704, .bf16⟩
  | .hbm, ⟨28, _⟩ => ⟨S8x8x704, .f32⟩
  | .hbm, ⟨29, _⟩ => ⟨S8x3x704, .f32⟩
  | .hbm, ⟨30, _⟩ => ⟨S8x1x704, .f32⟩
  | .hbm, ⟨31, _⟩ => ⟨S8x704, .f32⟩
  | .hbm, ⟨32, _⟩ => ⟨S5632, .f32⟩
  | .hbm, ⟨33, _⟩ => ⟨S8x1024x704, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S2x1x1024x704, .bf16⟩
  | .local _ .vmem, ⟨17, _⟩ => ⟨S2x1x1024x704, .bf16⟩
  | .local _ .vmem, ⟨18, _⟩ => ⟨S2x1x3x704, .f32⟩
  | .local _ .vmem, ⟨19, _⟩ => ⟨S2x1x3x704, .f32⟩
  | .local _ .vmem, ⟨20, _⟩ => ⟨S2x1x1x704, .f32⟩
  | .local _ .vmem, ⟨21, _⟩ => ⟨S2x1x1x704, .f32⟩
  | .local _ .vmem, ⟨22, _⟩ => ⟨S2x1x512x704, .f32⟩
  | .local _ .vmem, ⟨23, _⟩ => ⟨S2x1x512x704, .f32⟩
  | .local _ .vmem, ⟨24, _⟩ => ⟨S1x512x704, .bf16⟩
  | .local _ .vmem, ⟨25, _⟩ => ⟨S1x512x704, .bf16⟩
  | .local _ .vmem, ⟨26, _⟩ => ⟨S4x1024x704, .bf16⟩
  | .local _ .vmem, ⟨27, _⟩ => ⟨S4x1024x704, .bf16⟩
  | .local _ .vmem, ⟨28, _⟩ => ⟨S2816x1024, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S2x1x512x704, .f32⟩
  | .local _ .vmem, ⟨34, _⟩ => ⟨S2x1x512x704, .f32⟩
  | .local _ .vmem, ⟨35, _⟩ => ⟨S2x1x8x704, .f32⟩
  | .local _ .vmem, ⟨36, _⟩ => ⟨S2x1x8x704, .f32⟩
  | .local _ .vmem, ⟨37, _⟩ => ⟨S2x1x8x704, .f32⟩
  | .local _ .vmem, ⟨38, _⟩ => ⟨S2x1x8x704, .f32⟩
  | .local _ .vmem, ⟨39, _⟩ => ⟨S512x1024, .f32⟩
  | .local _ .vmem, ⟨40, _⟩ => ⟨S512x1024, .f32⟩
  | .local _ .vmem, ⟨41, _⟩ => ⟨S8x1024, .f32⟩
  | .local _ .vmem, ⟨42, _⟩ => ⟨S8x1024, .f32⟩
  | .local _ .vmem, ⟨43, _⟩ => ⟨S8x1024, .f32⟩
  | .local _ .vmem, ⟨44, _⟩ => ⟨S8x1024, .f32⟩
  | .local _ .vmem, ⟨45, _⟩ => ⟨S704x1024, .bf16⟩
  | .local _ .vmem, ⟨46, _⟩ => ⟨S704x1024, .bf16⟩
  | .local _ .vmem, ⟨47, _⟩ => ⟨S2x1x3x704, .f32⟩
  | .local _ .vmem, ⟨48, _⟩ => ⟨S2x1x3x704, .f32⟩
  | .local _ .vmem, ⟨49, _⟩ => ⟨S2x1x1x704, .f32⟩
  | .local _ .vmem, ⟨50, _⟩ => ⟨S2x1x1x704, .f32⟩
  | .local _ .vmem, ⟨51, _⟩ => ⟨S2x1x512x704, .bf16⟩
  | .local _ .vmem, ⟨52, _⟩ => ⟨S2x1x512x704, .bf16⟩
  | .local _ .vmem, ⟨53, _⟩ => ⟨S2x1x8x704, .f32⟩
  | .local _ .vmem, ⟨54, _⟩ => ⟨S2x1x8x704, .f32⟩
  | .local _ .vmem, ⟨55, _⟩ => ⟨S4096x1024, .bf16⟩
  | .local _ .vmem, ⟨56, _⟩ => ⟨S1x4096x704, .bf16⟩
  | .local _ .vmem, ⟨57, _⟩ => ⟨S1x4096x704, .bf16⟩
  | .local _ .vmem, ⟨58, _⟩ => ⟨S1x1024x704, .f32⟩
  | .local _ .vmem, ⟨59, _⟩ => ⟨S1x1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg6_1 : Ref sig .tc := ⟨.vmem, 46, rfl⟩
abbrev cc3_stg7_0 : Ref sig .tc := ⟨.vmem, 47, rfl⟩
abbrev cc3_stg7_1 : Ref sig .tc := ⟨.vmem, 48, rfl⟩
abbrev cc3_stg8_0 : Ref sig .tc := ⟨.vmem, 49, rfl⟩
abbrev cc3_stg8_1 : Ref sig .tc := ⟨.vmem, 50, rfl⟩
abbrev cc3_stg9_0 : Ref sig .tc := ⟨.vmem, 51, rfl⟩
abbrev cc3_stg9_1 : Ref sig .tc := ⟨.vmem, 52, rfl⟩
abbrev cc3_stg10_0 : Ref sig .tc := ⟨.vmem, 53, rfl⟩
abbrev cc3_stg10_1 : Ref sig .tc := ⟨.vmem, 54, rfl⟩
abbrev cc4_stg0_0 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem3_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem5_1 : DmaSem sig := 44
abbrev cc3_sem6_0 : DmaSem sig := 45
abbrev cc3_sem6_1 : DmaSem sig := 46
abbrev cc3_sem7_0 : DmaSem sig := 47
abbrev cc3_sem7_1 : DmaSem sig := 48
abbrev cc3_sem8_0 : DmaSem sig := 49
abbrev cc3_sem8_1 : DmaSem sig := 50
abbrev cc3_sem9_0 : DmaSem sig := 51
abbrev cc3_sem9_1 : DmaSem sig := 52
abbrev cc3_sem10_0 : DmaSem sig := 53
abbrev cc3_sem10_1 : DmaSem sig := 54
abbrev cc4_sem0_0 : DmaSem sig := 55
abbrev cc4_sem1_0 : DmaSem sig := 56
abbrev cc4_sem1_1 : DmaSem sig := 57
abbrev cc4_sem2_0 : DmaSem sig := 58
abbrev cc4_sem2_1 : DmaSem sig := 59

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2x1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x1x3x704 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x1x1x704 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2x1x512x704 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x704 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨3, ![4, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4x1024x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg0.toNat, v2.toNat, c0_i32_1.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![c0_i32.toNat, arg0.toNat, v2.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_5 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_8 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_9 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_10 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S2x1x512x704 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2x1x8x704 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2x1x8x704 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S8x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S8x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S704x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S2x1x3x704 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S2x1x1x704 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S2x1x512x704 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S2x1x8x704 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, true]

abbrev stage4_1 : Fin 2 → Memref sig .tc .vmem S1x4096x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x1024x704 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S4096x1024 : Shape := ⟨2, ![4096, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S1x5632 : Shape := ⟨2, ![1, 5632]⟩
abbrev S4098x5632 : Shape := ⟨2, ![4098, 5632]⟩
abbrev S4096x2816 : Shape := ⟨2, ![4096, 2816]⟩
abbrev S5632x1024 : Shape := ⟨2, ![5632, 1024]⟩
abbrev S4096x4x704 : Shape := ⟨3, ![4096, 4, 704]⟩
abbrev S4x4096x704 : Shape := ⟨3, ![4, 4096, 704]⟩
abbrev S4096x8x704 : Shape := ⟨3, ![4096, 8, 704]⟩
abbrev S8x4096x704 : Shape := ⟨3, ![8, 4096, 704]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩

abbrev nBuf : Space → Nat
  | .hbm => 154
  | .vmem => 0
  | .smem => 0
  | _ => 0

abbrev hbmTy0_0 (i : Nat) : BufTy := match i % 128 with
  | 0 => ⟨S4096x1024, .f32⟩
  | 1 => ⟨S4096x1024, .bf16⟩
  | 2 => ⟨S1024x1024, .f32⟩
  | 3 => ⟨S1024, .f32⟩
  | 4 => ⟨S2x1024x5632, .f32⟩
  | 5 => ⟨S3x5632, .f32⟩
  | 6 => ⟨S5632, .f32⟩
  | 7 => ⟨S2816x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S1x1024x5632, .f32⟩
  | 29 => ⟨S1024x5632, .f32⟩
  | 30 => ⟨S4096x5632, .f32⟩
  | 31 => ⟨S_, .f32⟩
  | 32 => ⟨S1x5632, .f32⟩
  | 33 => ⟨S4098x5632, .f32⟩
  | 34 => ⟨S_, .f32⟩
  | 35 => ⟨S1x5632, .f32⟩
  | 36 => ⟨S_, .f32⟩
  | 37 => ⟨S1x5632, .f32⟩
  | 38 => ⟨S4096x5632, .f32⟩
  | 39 => ⟨S1x5632, .f32⟩
  | 40 => ⟨S5632, .f32⟩
  | 41 => ⟨S1x5632, .f32⟩
  | 42 => ⟨S4096x5632, .f32⟩
  | 43 => ⟨S4096x5632, .f32⟩
  | 44 => ⟨S4096x5632, .f32⟩
  | 45 => ⟨S1x5632, .f32⟩
  | 46 => ⟨S5632, .f32⟩
  | 47 => ⟨S1x5632, .f32⟩
  | 48 => ⟨S4096x5632, .f32⟩
  | 49 => ⟨S4096x5632, .f32⟩
  | 50 => ⟨S4096x5632, .f32⟩
  | 51 => ⟨S4096x5632, .f32⟩
  | 52 => ⟨S1x5632, .f32⟩
  | 53 => ⟨S5632, .f32⟩
  | 54 => ⟨S1x5632, .f32⟩
  | 55 => ⟨S4096x5632, .f32⟩
  | 56 => ⟨S4096x5632, .f32⟩
  | 57 => ⟨S4096x5632, .f32⟩
  | 58 => ⟨S1x5632, .f32⟩
  | 59 => ⟨S4096x5632, .f32⟩
  | 60 => ⟨S4096x5632, .f32⟩
  | 61 => ⟨S4096x2816, .f32⟩
  | 62 => ⟨S4096x2816, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S_, .f32⟩
  | 69 => ⟨S4096x2816, .f32⟩
  | 70 => ⟨S4096x2816, .f32⟩
  | 71 => ⟨S_, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S4096x1024, .f32⟩
  | 78 => ⟨S4096x2816, .f32⟩
  | 79 => ⟨S4096x2816, .f32⟩
  | 80 => ⟨S4096x2816, .f32⟩
  | 81 => ⟨S4096x2816, .f32⟩
  | 82 => ⟨S4096x2816, .f32⟩
  | 83 => ⟨S4096x2816, .f32⟩
  | 84 => ⟨S4096x2816, .f32⟩
  | 85 => ⟨S_, .f32⟩
  | 86 => ⟨S4096x5632, .f32⟩
  | 87 => ⟨S_, .f32⟩
  | 88 => ⟨S4096x5632, .f32⟩
  | 89 => ⟨S4096x5632, .f32⟩
  | 90 => ⟨S_, .f32⟩
  | 91 => ⟨S5632, .f32⟩
  | 92 => ⟨S1x5632, .f32⟩
  | 93 => ⟨S_, .f32⟩
  | 94 => ⟨S5632, .f32⟩
  | 95 => ⟨S4096x5632, .f32⟩
  | 96 => ⟨S_, .f32⟩
  | 97 => ⟨S5632, .f32⟩
  | 98 => ⟨S1x5632, .f32⟩
  | 99 => ⟨S4096x5632, .f32⟩
  | 100 => ⟨S4096x5632, .f32⟩
  | 101 => ⟨S_, .f32⟩
  | 102 => ⟨S5632, .f32⟩
  | 103 => ⟨S1x5632, .f32⟩
  | 104 => ⟨S_, .f32⟩
  | 105 => ⟨S3x5632, .f32⟩
  | 106 => ⟨S_, .f32⟩
  | 107 => ⟨S4098x5632, .f32⟩
  | 108 => ⟨S4096x5632, .f32⟩
  | 109 => ⟨S_, .f32⟩
  | 110 => ⟨S5632, .f32⟩
  | 111 => ⟨S1x5632, .f32⟩
  | 112 => ⟨S4096x5632, .f32⟩
  | 113 => ⟨S4096x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S4098x5632, .f32⟩
  | 122 => ⟨S4098x5632, .f32⟩
  | 123 => ⟨S4096x5632, .f32⟩
  | 124 => ⟨S_, .f32⟩
  | 125 => ⟨S5632, .f32⟩
  | 126 => ⟨S1x5632, .f32⟩
  | 127 => ⟨S4096x5632, .f32⟩
  | _ => ⟨S4096x1024, .f32⟩

abbrev hbmTy0_1 (i : Nat) : BufTy := match i % 128 with
  | 0 => ⟨S4096x5632, .f32⟩
  | 1 => ⟨S_, .f32⟩
  | 2 => ⟨S5632, .f32⟩
  | 3 => ⟨S1x5632, .f32⟩
  | 4 => ⟨S_, .f32⟩
  | 5 => ⟨S3x5632, .f32⟩
  | 6 => ⟨S3x5632, .f32⟩
  | 7 => ⟨S_, .f32⟩
  | 8 => ⟨S4098x5632, .f32⟩
  | 9 => ⟨S4098x5632, .f32⟩
  | 10 => ⟨S1x5632, .f32⟩
  | 11 => ⟨S4096x5632, .f32⟩
  | 12 => ⟨S1x5632, .f32⟩
  | 13 => ⟨S5632x1024, .f32⟩
  | 14 => ⟨S1024x5632, .f32⟩
  | 15 => ⟨S4096x4x704, .f32⟩
  | 16 => ⟨S4x4096x704, .f32⟩
  | 17 => ⟨S4x4096x704, .bf16⟩
  | 18 => ⟨S4096x1024, .f32⟩
  | 19 => ⟨S4096x8x704, .f32⟩
  | 20 => ⟨S8x4096x704, .f32⟩
  | 21 => ⟨S8x4096x704, .bf16⟩
  | 22 => ⟨S1024x8x704, .f32⟩
  | 23 => ⟨S8x1024x704, .f32⟩
  | 24 => ⟨S3x8x704, .f32⟩
  | 25 => ⟨S8x3x704, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v48_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v48_1 : Ref sig .tc := ⟨.hbm, 74, rfl⟩
abbrev main_v48_0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v54 : Ref sig .tc := ⟨.hbm, 84, rfl⟩
abbrev main_cst_5 : Ref sig .tc := ⟨.hbm, 85, rfl⟩
abbrev main_v55 : Ref sig .tc := ⟨.hbm, 86, rfl⟩
abbrev main_cst_6 : Ref sig .tc := ⟨.hbm, 87, rfl⟩
abbrev main_v56 : Ref sig .tc := ⟨.hbm, 88, rfl⟩
abbrev main_v57 : Ref sig .tc := ⟨.hbm, 89, rfl⟩
abbrev main_cst_7 : Ref sig .tc := ⟨.hbm, 90, rfl⟩
abbrev main_v58 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩
abbrev main_v67 : Ref sig .tc := ⟨.hbm, 103, rfl⟩
abbrev main_cst_11 : Ref sig .tc := ⟨.hbm, 104, rfl⟩
abbrev main_v68 : Ref sig .tc := ⟨.hbm, 105, rfl⟩
abbrev main_cst_12 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_cst_16 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_17 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_cst_19 : Ref sig .tc := ⟨.hbm, 132, rfl⟩
abbrev main_v88 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩

abbrev nD : Nat := 1
abbrev τ : Topo := Topo.v7x

variable {F : FTy → Type} [FloatOps F]
-- ==== Kernel3.lean ====
abbrev S8x4096x704 : Shape := ⟨3, ![8, 4096, 704]⟩
abbrev S2x1024x5632 : Shape := ⟨3, ![2, 1024, 5632]⟩
abbrev S4096x1024 : Shape := ⟨2, ![4096, 1024]⟩
abbrev S1024 : Shape := ⟨1, ![1024]⟩
abbrev S2048x8x704 : Shape := ⟨3, ![2048, 8, 704]⟩
abbrev S8x2048x704 : Shape := ⟨3, ![8, 2048, 704]⟩
abbrev S1x1024 : Shape := ⟨2, ![1, 1024]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x704, .bf16⟩
  | .hbm, ⟨1, _⟩ => ⟨S2x1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2x1024x5632, .bf16⟩
  | .hbm, ⟨6, _⟩ => ⟨S2048x8x704, .bf16⟩
  | .hbm, ⟨7, _⟩ => ⟨S8x2048x704, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_18 : BitVec 32 := 0#32
  let v26 : BitVec 1 := Scalar.cmpi .ne v25 c0_i32_18
  v26

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let arg2 : BitVec 32 := BitVec.ofNat 32 (i 2).val
  let c0_i32_12 : BitVec 32 := 0#32
  let v14 : BitVec 1 := Scalar.cmpi .eq arg2 c0_i32_12
  let v15 : BitVec 1 := Scalar.andi v13 v14
  let v16 : BitVec 32 := Scalar.extui v15
  let c0_i32_13 : BitVec 32 := 0#32
  let v17 : BitVec 1 := Scalar.cmpi .ne v16 c0_i32_13
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference3Ideal.lean ====
abbrev S8x4096x704 : Shape := ⟨3, ![8, 4096, 704]⟩
abbrev S2x1024x5632 : Shape := ⟨3, ![2, 1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x8x704 : Shape := ⟨3, ![4096, 8, 704]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S2x1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024x5632, .f32⟩
  | .hbm, ⟨26, _⟩ => ⟨S1024x5632, .f32⟩
  | .hbm, ⟨27, _⟩ => ⟨S4096x5632, .f32⟩
  | .hbm, ⟨28, _⟩ => ⟨S4096x8x704, .bf16⟩
  | .hbm, ⟨29, _⟩ => ⟨S4096x5632, .bf16⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S4x4096x704 : Shape := ⟨3, ![4, 4096, 704]⟩
abbrev S4096x1024 : Shape := ⟨2, ![4096, 1024]⟩
abbrev S2816x1024 : Shape := ⟨2, ![2816, 1024]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S2816x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S704x1024, .f32⟩
  | .local _ .vmem, ⟨5, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4096x4x704, .bf16⟩
  | .hbm, ⟨3, _⟩ => ⟨S4096x2816, .bf16⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S1024x2816, .f32⟩
  | .hbm, ⟨9, _⟩ => ⟨S2816x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2816x1024 : Shape := ⟨2, ![2816, 1024]⟩
abbrev S2048x8x704 : Shape := ⟨3, ![2048, 8, 704]⟩
abbrev S8x2048x704 : Shape := ⟨3, ![8, 2048, 704]⟩
abbrev S3x8x704 : Shape := ⟨3, ![3, 8, 704]⟩
abbrev S8x3x704 : Shape := ⟨3, ![8, 3, 704]⟩
abbrev S2x4x3x704 : Shape := ⟨4, ![2, 4, 3, 704]⟩
abbrev S2x4x1x704 : Shape := ⟨4, ![2, 4, 1, 704]⟩
abbrev S1x1024 : Shape := ⟨2, ![1, 1024]⟩
abbrev S1024x1 : Shape := ⟨2, ![1024, 1]⟩
abbrev S2x4x2048x704 : Shape := ⟨4, ![2, 4, 2048, 704]⟩
abbrev S2x4x4096x704 : Shape := ⟨4, ![2, 4, 4096, 704]⟩
abbrev S4x4096x704 : Shape := ⟨3, ![4, 4096, 704]⟩
abbrev S512x1024 : Shape := ⟨2, ![512, 1024]⟩
abbrev S16x1024 : Shape := ⟨2, ![16, 1024]⟩
abbrev S2x1x1024x704 : Shape := ⟨4, ![2, 1, 1024, 704]⟩
abbrev S2x1x3x704 : Shape := ⟨4, ![2, 1, 3, 704]⟩
abbrev S2x1x1x704 : Shape := ⟨4, ![2, 1, 1, 704]⟩
abbrev S2x1x512x704 : Shape := ⟨4, ![2, 1, 512, 704]⟩
abbrev S1x512x704 : Shape := ⟨3, ![1, 512, 704]⟩
abbrev S544x1024 : Shape := ⟨2, ![544, 1024]⟩
abbrev S1x1x1024x704 : Shape := ⟨4, ![1, 1, 1024, 704]⟩
abbrev S1024x704 : Shape := ⟨2, ![1024, 704]⟩
abbrev S544x704 : Shape := ⟨2, ![544, 704]⟩
abbrev S512x704 : Shape := ⟨2, ![512, 704]⟩
abbrev S1x1x512x704 : Shape := ⟨4, ![1, 1, 512, 704]⟩
abbrev S1x1x3x704 : Shape := ⟨4, ![1, 1, 3, 704]⟩
abbrev S3x704 : Shape := ⟨2, ![3, 704]⟩
abbrev S1x704 : Shape := ⟨2, ![1, 704]⟩
abbrev S1x1x1x704 : Shape := ⟨4, ![1, 1, 1, 704]⟩
abbrev S4x1024x704 : Shape := ⟨3, ![4, 1024, 704]⟩
abbrev S1x1024x704 : Shape := ⟨3, ![1, 1024, 704]⟩
abbrev S704x1024 : Shape := ⟨2, ![704, 1024]⟩
abbrev S2x4x8x704 : Shape := ⟨4, ![2, 4, 8, 704]⟩
abbrev S2x1x8x704 : Shape := ⟨4, ![2, 1, 8, 704]⟩
abbrev S8x1024 : Shape := ⟨2, ![8, 1024]⟩
abbrev S2x8x704 : Shape := ⟨3, ![2, 8, 704]⟩
abbrev S528x1024 : Shape := ⟨2, ![528, 1024]⟩
abbrev S528x704 : Shape := ⟨2, ![528, 704]⟩
abbrev S1x1x8x704 : Shape := ⟨4, ![1, 1, 8, 704]⟩
abbrev S8x704 : Shape := ⟨2, ![8, 704]⟩
abbrev S704 : Shape := ⟨1, ![704]⟩
abbrev S8x4096x704 : Shape := ⟨3, ![8, 4096, 704]⟩
abbrev S8x8x704 : Shape := ⟨3, ![8, 8, 704]⟩
abbrev S8x1x704 : Shape := ⟨3, ![8, 1, 704]⟩
abbrev S8x1024x704 : Shape := ⟨3, ![8, 1024, 704]⟩
abbrev S1x4096x704 : Shape := ⟨3, ![1, 4096, 704]⟩
abbrev S4096x704 : Shape := ⟨2, ![4096, 704]⟩

abbrev nBuf : Space → Nat
  | .hbm => 34
  | .vmem => 60
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S2x1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S4096x1024, .f32⟩
  | .hbm, ⟨9, _⟩ => ⟨S2816x1024, .bf16⟩
  | .hbm, ⟨10, _⟩ => ⟨S2x1024x5632, .bf16⟩
  | .hbm, ⟨11, _⟩ => ⟨S2048x8x704, .bf16⟩
  | .hbm, ⟨12, _⟩ => ⟨S8x2048x704, .bf16⟩
  | .hbm, ⟨13, _⟩ => ⟨S3x8x704, .f32⟩
  | .hbm, ⟨14, _⟩ => ⟨S8x3x704, .f32⟩
  | .hbm, ⟨15, _⟩ => ⟨S2x4x3x704, .f32⟩
  | .hbm, ⟨16, _⟩ => ⟨S2x4x1x704, .f32⟩
  | .hbm, ⟨17, _⟩ => ⟨S1024x1024, .bf16⟩
  | .hbm, ⟨18, _⟩ => ⟨S1x1024, .f32⟩
  | .hbm, ⟨19, _⟩ => ⟨S4096x1024, .f32⟩
  | .hbm, ⟨20, _⟩ => ⟨S4096x1024, .bf16⟩
  | .hbm, ⟨21, _⟩ => ⟨S2x4x2048x704, .bf16⟩
  | .hbm, ⟨22, _⟩ => ⟨S2x4x4096x704, .f32⟩
  | .hbm, ⟨23, _⟩ => ⟨S4x4096x704, .bf16⟩
  | .hbm, ⟨24, _⟩ => ⟨S4096x1024, .f32⟩
  | .hbm, ⟨25, _⟩ => ⟨S2x4x4096x704, .bf16⟩
  | .hbm, ⟨26, _⟩ => ⟨S2x4x8x704, .f32⟩
  | .hbm, ⟨27, _⟩ => ⟨S8x4096x704, .bf16⟩
  | .hbm, ⟨28, _⟩ => ⟨S8x8x704, .f32⟩
  | .hbm, ⟨29, _⟩ => ⟨S8x3x704, .f32⟩
  | .hbm, ⟨30, _⟩ => ⟨S8x1x704, .f32⟩
  | .hbm, ⟨31, _⟩ => ⟨S8x704, .f32⟩
  | .hbm, ⟨32, _⟩ => ⟨S5632, .f32⟩
  | .hbm, ⟨33, _⟩ => ⟨S8x1024x704, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S2x1x1024x704, .bf16⟩
  | .local _ .vmem, ⟨17, _⟩ => ⟨S2x1x1024x704, .bf16⟩
  | .local _ .vmem, ⟨18, _⟩ => ⟨S2x1x3x704, .f32⟩
  | .local _ .vmem, ⟨19, _⟩ => ⟨S2x1x3x704, .f32⟩
  | .local _ .vmem, ⟨20, _⟩ => ⟨S2x1x1x704, .f32⟩
  | .local _ .vmem, ⟨21, _⟩ => ⟨S2x1x1x704, .f32⟩
  | .local _ .vmem, ⟨22, _⟩ => ⟨S2x1x512x704, .f32⟩
  | .local _ .vmem, ⟨23, _⟩ => ⟨S2x1x512x704, .f32⟩
  | .local _ .vmem, ⟨24, _⟩ => ⟨S1x512x704, .bf16⟩
  | .local _ .vmem, ⟨25, _⟩ => ⟨S1x512x704, .bf16⟩
  | .local _ .vmem, ⟨26, _⟩ => ⟨S4x1024x704, .bf16⟩
  | .local _ .vmem, ⟨27, _⟩ => ⟨S4x1024x704, .bf16⟩
  | .local _ .vmem, ⟨28, _⟩ => ⟨S2816x1024, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S2x1x512x704, .f32⟩
  | .local _ .vmem, ⟨34, _⟩ => ⟨S2x1x512x704, .f32⟩
  | .local _ .vmem, ⟨35, _⟩ => ⟨S2x1x8x704, .f32⟩
  | .local _ .vmem, ⟨36, _⟩ => ⟨S2x1x8x704, .f32⟩
  | .local _ .vmem, ⟨37, _⟩ => ⟨S2x1x8x704, .f32⟩
  | .local _ .vmem, ⟨38, _⟩ => ⟨S2x1x8x704, .f32⟩
  | .local _ .vmem, ⟨39, _⟩ => ⟨S512x1024, .f32⟩
  | .local _ .vmem, ⟨40, _⟩ => ⟨S512x1024, .f32⟩
  | .local _ .vmem, ⟨41, _⟩ => ⟨S8x1024, .f32⟩
  | .local _ .vmem, ⟨42, _⟩ => ⟨S8x1024, .f32⟩
  | .local _ .vmem, ⟨43, _⟩ => ⟨S8x1024, .f32⟩
  | .local _ .vmem, ⟨44, _⟩ => ⟨S8x1024, .f32⟩
  | .local _ .vmem, ⟨45, _⟩ => ⟨S704x1024, .bf16⟩
  | .local _ .vmem, ⟨46, _⟩ => ⟨S704x1024, .bf16⟩
  | .local _ .vmem, ⟨47, _⟩ => ⟨S2x1x3x704, .f32⟩
  | .local _ .vmem, ⟨48, _⟩ => ⟨S2x1x3x704, .f32⟩
  | .local _ .vmem, ⟨49, _⟩ => ⟨S2x1x1x704, .f32⟩
  | .local _ .vmem, ⟨50, _⟩ => ⟨S2x1x1x704, .f32⟩
  | .local _ .vmem, ⟨51, _⟩ => ⟨S2x1x512x704, .bf16⟩
  | .local _ .vmem, ⟨52, _⟩ => ⟨S2x1x512x704, .bf16⟩
  | .local _ .vmem, ⟨53, _⟩ => ⟨S2x1x8x704, .f32⟩
  | .local _ .vmem, ⟨54, _⟩ => ⟨S2x1x8x704, .f32⟩
  | .local _ .vmem, ⟨55, _⟩ => ⟨S4096x1024, .bf16⟩
  | .local _ .vmem, ⟨56, _⟩ => ⟨S1x4096x704, .bf16⟩
  | .local _ .vmem, ⟨57, _⟩ => ⟨S1x4096x704, .bf16⟩
  | .local _ .vmem, ⟨58, _⟩ => ⟨S1x1024x704, .f32⟩
  | .local _ .vmem, ⟨59, _⟩ => ⟨S1x1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg6_1 : Ref sig .tc := ⟨.vmem, 46, rfl⟩
abbrev cc3_stg7_0 : Ref sig .tc := ⟨.vmem, 47, rfl⟩
abbrev cc3_stg7_1 : Ref sig .tc := ⟨.vmem, 48, rfl⟩
abbrev cc3_stg8_0 : Ref sig .tc := ⟨.vmem, 49, rfl⟩
abbrev cc3_stg8_1 : Ref sig .tc := ⟨.vmem, 50, rfl⟩
abbrev cc3_stg9_0 : Ref sig .tc := ⟨.vmem, 51, rfl⟩
abbrev cc3_stg9_1 : Ref sig .tc := ⟨.vmem, 52, rfl⟩
abbrev cc3_stg10_0 : Ref sig .tc := ⟨.vmem, 53, rfl⟩
abbrev cc3_stg10_1 : Ref sig .tc := ⟨.vmem, 54, rfl⟩
abbrev cc4_stg0_0 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem3_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem5_1 : DmaSem sig := 44
abbrev cc3_sem6_0 : DmaSem sig := 45
abbrev cc3_sem6_1 : DmaSem sig := 46
abbrev cc3_sem7_0 : DmaSem sig := 47
abbrev cc3_sem7_1 : DmaSem sig := 48
abbrev cc3_sem8_0 : DmaSem sig := 49
abbrev cc3_sem8_1 : DmaSem sig := 50
abbrev cc3_sem9_0 : DmaSem sig := 51
abbrev cc3_sem9_1 : DmaSem sig := 52
abbrev cc3_sem10_0 : DmaSem sig := 53
abbrev cc3_sem10_1 : DmaSem sig := 54
abbrev cc4_sem0_0 : DmaSem sig := 55
abbrev cc4_sem1_0 : DmaSem sig := 56
abbrev cc4_sem1_1 : DmaSem sig := 57
abbrev cc4_sem2_0 : DmaSem sig := 58
abbrev cc4_sem2_1 : DmaSem sig := 59

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S16x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2x1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x1x3x704 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x1x1x704 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2x1x512x704 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x704 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨3, ![4, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4x1024x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg0.toNat, v2.toNat, c0_i32_1.toNat]

def cc3_transform_2 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![c0_i32.toNat, arg0.toNat, v2.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc3_transform_5 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_8 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_9 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc3_transform_10 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S2x1x512x704 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2x1x8x704 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2x1x8x704 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S8x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S8x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S704x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S2x1x3x704 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S2x1x1x704 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S2x1x512x704 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S2x1x8x704 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true, true]

abbrev stage4_1 : Fin 2 → Memref sig .tc .vmem S1x4096x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x1024x704 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference5Ideal.lean ====
abbrev S4096x1024 : Shape := ⟨2, ![4096, 1024]⟩
abbrev S1024x1024 : Shape := ⟨2, ![1024, 1024]⟩
abbrev S1024 : Shape := ⟨1, ![1024]⟩
abbrev S2x1024x5632 : Shape := ⟨3, ![2, 1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S1x5632 : Shape := ⟨2, ![1, 5632]⟩
abbrev S4098x5632 : Shape := ⟨2, ![4098, 5632]⟩
abbrev S4096x2816 : Shape := ⟨2, ![4096, 2816]⟩
abbrev S5632x1024 : Shape := ⟨2, ![5632, 1024]⟩
abbrev S4096x4x704 : Shape := ⟨3, ![4096, 4, 704]⟩
abbrev S4x4096x704 : Shape := ⟨3, ![4, 4096, 704]⟩
abbrev S4096x8x704 : Shape := ⟨3, ![4096, 8, 704]⟩
abbrev S8x4096x704 : Shape := ⟨3, ![8, 4096, 704]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩

abbrev nBuf : Space → Nat
  | .hbm => 154
  | .vmem => 0
  | .smem => 0
  | _ => 0

abbrev hbmTy0_0 (i : Nat) : BufTy := match i % 128 with
  | 0 => ⟨S4096x1024, .f32⟩
  | 1 => ⟨S4096x1024, .bf16⟩
  | 2 => ⟨S1024x1024, .f32⟩
  | 3 => ⟨S1024, .f32⟩
  | 4 => ⟨S2x1024x5632, .f32⟩
  | 5 => ⟨S3x5632, .f32⟩
  | 6 => ⟨S5632, .f32⟩
  | 7 => ⟨S2816x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S1x1024x5632, .f32⟩
  | 29 => ⟨S1024x5632, .f32⟩
  | 30 => ⟨S4096x5632, .f32⟩
  | 31 => ⟨S_, .f32⟩
  | 32 => ⟨S1x5632, .f32⟩
  | 33 => ⟨S4098x5632, .f32⟩
  | 34 => ⟨S_, .f32⟩
  | 35 => ⟨S1x5632, .f32⟩
  | 36 => ⟨S_, .f32⟩
  | 37 => ⟨S1x5632, .f32⟩
  | 38 => ⟨S4096x5632, .f32⟩
  | 39 => ⟨S1x5632, .f32⟩
  | 40 => ⟨S5632, .f32⟩
  | 41 => ⟨S1x5632, .f32⟩
  | 42 => ⟨S4096x5632, .f32⟩
  | 43 => ⟨S4096x5632, .f32⟩
  | 44 => ⟨S4096x5632, .f32⟩
  | 45 => ⟨S1x5632, .f32⟩
  | 46 => ⟨S5632, .f32⟩
  | 47 => ⟨S1x5632, .f32⟩
  | 48 => ⟨S4096x5632, .f32⟩
  | 49 => ⟨S4096x5632, .f32⟩
  | 50 => ⟨S4096x5632, .f32⟩
  | 51 => ⟨S4096x5632, .f32⟩
  | 52 => ⟨S1x5632, .f32⟩
  | 53 => ⟨S5632, .f32⟩
  | 54 => ⟨S1x5632, .f32⟩
  | 55 => ⟨S4096x5632, .f32⟩
  | 56 => ⟨S4096x5632, .f32⟩
  | 57 => ⟨S4096x5632, .f32⟩
  | 58 => ⟨S1x5632, .f32⟩
  | 59 => ⟨S4096x5632, .f32⟩
  | 60 => ⟨S4096x5632, .f32⟩
  | 61 => ⟨S4096x2816, .f32⟩
  | 62 => ⟨S4096x2816, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S_, .f32⟩
  | 69 => ⟨S4096x2816, .f32⟩
  | 70 => ⟨S4096x2816, .f32⟩
  | 71 => ⟨S_, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S4096x1024, .f32⟩
  | 78 => ⟨S4096x2816, .f32⟩
  | 79 => ⟨S4096x2816, .f32⟩
  | 80 => ⟨S4096x2816, .f32⟩
  | 81 => ⟨S4096x2816, .f32⟩
  | 82 => ⟨S4096x2816, .f32⟩
  | 83 => ⟨S4096x2816, .f32⟩
  | 84 => ⟨S4096x2816, .f32⟩
  | 85 => ⟨S_, .f32⟩
  | 86 => ⟨S4096x5632, .f32⟩
  | 87 => ⟨S_, .f32⟩
  | 88 => ⟨S4096x5632, .f32⟩
  | 89 => ⟨S4096x5632, .f32⟩
  | 90 => ⟨S_, .f32⟩
  | 91 => ⟨S5632, .f32⟩
  | 92 => ⟨S1x5632, .f32⟩
  | 93 => ⟨S_, .f32⟩
  | 94 => ⟨S5632, .f32⟩
  | 95 => ⟨S4096x5632, .f32⟩
  | 96 => ⟨S_, .f32⟩
  | 97 => ⟨S5632, .f32⟩
  | 98 => ⟨S1x5632, .f32⟩
  | 99 => ⟨S4096x5632, .f32⟩
  | 100 => ⟨S4096x5632, .f32⟩
  | 101 => ⟨S_, .f32⟩
  | 102 => ⟨S5632, .f32⟩
  | 103 => ⟨S1x5632, .f32⟩
  | 104 => ⟨S_, .f32⟩
  | 105 => ⟨S3x5632, .f32⟩
  | 106 => ⟨S_, .f32⟩
  | 107 => ⟨S4098x5632, .f32⟩
  | 108 => ⟨S4096x5632, .f32⟩
  | 109 => ⟨S_, .f32⟩
  | 110 => ⟨S5632, .f32⟩
  | 111 => ⟨S1x5632, .f32⟩
  | 112 => ⟨S4096x5632, .f32⟩
  | 113 => ⟨S4096x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S4098x5632, .f32⟩
  | 122 => ⟨S4098x5632, .f32⟩
  | 123 => ⟨S4096x5632, .f32⟩
  | 124 => ⟨S_, .f32⟩
  | 125 => ⟨S5632, .f32⟩
  | 126 => ⟨S1x5632, .f32⟩
  | 127 => ⟨S4096x5632, .f32⟩
  | _ => ⟨S4096x1024, .f32⟩

abbrev hbmTy0_1 (i : Nat) : BufTy := match i % 128 with
  | 0 => ⟨S4096x5632, .f32⟩
  | 1 => ⟨S_, .f32⟩
  | 2 => ⟨S5632, .f32⟩
  | 3 => ⟨S1x5632, .f32⟩
  | 4 => ⟨S_, .f32⟩
  | 5 => ⟨S3x5632, .f32⟩
  | 6 => ⟨S3x5632, .f32⟩
  | 7 => ⟨S_, .f32⟩
  | 8 => ⟨S4098x5632, .f32⟩
  | 9 => ⟨S4098x5632, .f32⟩
  | 10 => ⟨S1x5632, .f32⟩
  | 11 => ⟨S4096x5632, .f32⟩
  | 12 => ⟨S1x5632, .f32⟩
  | 13 => ⟨S5632x1024, .f32⟩
  | 14 => ⟨S1024x5632, .f32⟩
  | 15 => ⟨S4096x4x704, .f32⟩
  | 16 => ⟨S4x4096x704, .f32⟩
  | 17 => ⟨S4x4096x704, .bf16⟩
  | 18 => ⟨S4096x1024, .f32⟩
  | 19 => ⟨S4096x8x704, .f32⟩
  | 20 => ⟨S8x4096x704, .f32⟩
  | 21 => ⟨S8x4096x704, .bf16⟩
  | 22 => ⟨S1024x8x704, .f32⟩
  | 23 => ⟨S8x1024x704, .f32⟩
  | 24 => ⟨S3x8x704, .f32⟩
  | 25 => ⟨S8x3x704, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v48_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v48_1 : Ref sig .tc := ⟨.hbm, 74, rfl⟩
abbrev main_v48_0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v54 : Ref sig .tc := ⟨.hbm, 84, rfl⟩
abbrev main_cst_5 : Ref sig .tc := ⟨.hbm, 85, rfl⟩
abbrev main_v55 : Ref sig .tc := ⟨.hbm, 86, rfl⟩
abbrev main_cst_6 : Ref sig .tc := ⟨.hbm, 87, rfl⟩
abbrev main_v56 : Ref sig .tc := ⟨.hbm, 88, rfl⟩
abbrev main_v57 : Ref sig .tc := ⟨.hbm, 89, rfl⟩
abbrev main_cst_7 : Ref sig .tc := ⟨.hbm, 90, rfl⟩
abbrev main_v58 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩
abbrev main_v67 : Ref sig .tc := ⟨.hbm, 103, rfl⟩
abbrev main_cst_11 : Ref sig .tc := ⟨.hbm, 104, rfl⟩
abbrev main_v68 : Ref sig .tc := ⟨.hbm, 105, rfl⟩
abbrev main_cst_12 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_cst_16 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_17 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_18 : Ref sig .tc := ⟨.hbm, 129, rfl⟩
abbrev main_v86 : Ref sig .tc := ⟨.hbm, 130, rfl⟩
abbrev main_v87 : Ref sig .tc := ⟨.hbm, 131, rfl⟩
abbrev main_cst_19 : Ref sig .tc := ⟨.hbm, 132, rfl⟩
abbrev main_v88 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩

abbrev nD : Nat := 1
abbrev τ : Topo := Topo.v7x

variable {F : FTy → Type} [FloatOps F]
-- ==== Kernel6.lean ====
abbrev S8x4096x704 : Shape := ⟨3, ![8, 4096, 704]⟩
abbrev S2x1024x5632 : Shape := ⟨3, ![2, 1024, 5632]⟩
abbrev S4096x1024 : Shape := ⟨2, ![4096, 1024]⟩
abbrev S1024 : Shape := ⟨1, ![1024]⟩
abbrev S2048x8x704 : Shape := ⟨3, ![2048, 8, 704]⟩
abbrev S8x2048x704 : Shape := ⟨3, ![8, 2048, 704]⟩
abbrev S1x1024 : Shape := ⟨2, ![1, 1024]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8x4096x704, .bf16⟩
  | .hbm, ⟨1, _⟩ => ⟨S2x1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2x1024x5632, .bf16⟩
  | .hbm, ⟨6, _⟩ => ⟨S2048x8x704, .bf16⟩
  | .hbm, ⟨7, _⟩ => ⟨S8x2048x704, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_18 : BitVec 32 := 0#32
  let v26 : BitVec 1 := Scalar.cmpi .ne v25 c0_i32_18
  v26

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let arg2 : BitVec 32 := BitVec.ofNat 32 (i 2).val
  let c0_i32_12 : BitVec 32 := 0#32
  let v14 : BitVec 1 := Scalar.cmpi .eq arg2 c0_i32_12
  let v15 : BitVec 1 := Scalar.andi v13 v14
  let v16 : BitVec 32 := Scalar.extui v15
  let c0_i32_13 : BitVec 32 := 0#32
  let v17 : BitVec 1 := Scalar.cmpi .ne v16 c0_i32_13
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference6Ideal.lean ====
abbrev S8x4096x704 : Shape := ⟨3, ![8, 4096, 704]⟩
abbrev S2x1024x5632 : Shape := ⟨3, ![2, 1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x5632 : Shape := ⟨3, ![1, 1024, 5632]⟩
abbrev S1024x5632 : Shape := ⟨2, ![1024, 5632]⟩
abbrev S4096x5632 : Shape := ⟨2, ![4096, 5632]⟩
abbrev S4096x8x704 : Shape := ⟨3, ![4096, 8, 704]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S2x1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024x5632, .f32⟩
  | .hbm, ⟨26, _⟩ => ⟨S1024x5632, .f32⟩
  | .hbm, ⟨27, _⟩ => ⟨S4096x5632, .f32⟩
  | .hbm, ⟨28, _⟩ => ⟨S4096x8x704, .bf16⟩
  | .hbm, ⟨29, _⟩ => ⟨S4096x5632, .bf16⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S1024x1024 : Shape := ⟨2, ![1024, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]
-- ==== Reference9Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Finite.lean ====
module

public import proofs.«01_k».proof.Defs
public import proofs.«01_k».proof.Proof.Gen.Pre_finite
public import Idealize.ShloMosaic.Lib.ReduceAll
public import Idealize.ShloMosaic.PureOps.Ideal

@[expose] public section

/-!
# Finite arguments are real

The precondition asks that every absolute value of the two arguments be below infinity; such an argument is an array
of reals.
-/

set_option maxRecDepth 16384

noncomputable section

namespace Cert.Proof

open Idealize.ShloMosaic Idealize.SL.Sem

/-- The word of infinity. -/
theorem word_top : (FloatOps.ofBits (F := Ideal) .f32 0x7F800000#32 : EReal) = ⊤ := by
  show Ideal.ofBits .f32 0x7F800000#32 = ⊤
  simp [Ideal.ofBits, Ideal.ieee]

/-- A number whose absolute value compares below infinity is real. -/
theorem real_of_abs_lt (x : EReal) (h : Ideal.cmp .olt (max x (-x)) ⊤ = 1#1) : ∃ r : ℝ, x = r := by
  have hlt : max x (-x) < ⊤ := by
    by_contra hn
    simp [Ideal.cmp, hn] at h
  induction x with
  | bot => simp at hlt
  | top => simp at hlt
  | coe r => exact ⟨r, rfl⟩

variable [Cert.Pre_finite.Facts]

/-- The precondition's function is one only of arrays of reals. -/
theorem finite_real (x0 : FVec Ideal Pre_finite.S24x4096x64 .bf16) (x1 : FVec Ideal Pre_finite.S16x4096x64 .bf16)
    (h : Cert.Pre_finite.fn x0 x1 = fun _ => 1#1) : (∀ y, ∃ r : ℝ, x0 y = ((r : ℝ) : EReal)) ∧ ∀ y, ∃ r : ℝ, x1 y = ((r : ℝ) : EReal) := by
  have hp := congrFun h (Shape.Idx.first Pre_finite.Facts.h_S_)
  obtain ⟨h0, h1⟩ := IntOp.andi_eq_one.mp hp
  haveI : Subsingleton Pre_finite.S_.Idx := ⟨fun a b => by funext k; exact k.elim0⟩
  constructor
  · intro y
    have e := Host.reduce_andi_all _ _ _ _ _ h0 y
    refine real_of_abs_lt _ ?_
    rw [← word_top]
    exact e
  · intro y
    have e := Host.reduce_andi_all _ _ _ _ _ h1 y
    refine real_of_abs_lt _ ?_
    rw [← word_top]
    exact e

end Cert.Proof

end
-- ==== Proof.Ops.lean ====
/-
  Matrices of real numbers among the ideal values: one statement per operation of the two kernel bodies, saying which
  real matrix the operation yields when its operands are real matrices.
-/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.Value

@[expose] public section

set_option maxRecDepth 16384

noncomputable section

namespace Cert.Proof

open Idealize.ShloMosaic Idealize.ShloMosaic.ValueIdx
open scoped BigOperators

variable {M N K : ℕ} {φ ψ : FTy}

/-- The ideal matrix `v` is the real matrix `f`. -/
def Rep (v : FVec Ideal ⟨2, ![M, N]⟩ φ) (f : Fin M → Fin N → ℝ) : Prop := ∀ i j, v (ix2 i j) = ((f i j : ℝ) : EReal)

/-- A finite sum of reals is the same sum taken among the ideal values. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace Rep

variable {v w : FVec Ideal ⟨2, ![M, N]⟩ φ} {f g : Fin M → Fin N → ℝ}

/-- Equal real matrices represent the same ideal matrix. -/
theorem congr (h : Rep v f) (e : ∀ i j, f i j = g i j) : Rep v g := fun i j => by rw [h i j, e i j]

/-- The sum of two real matrices. -/
theorem add (h : Rep v f) (k : Rep w g) : Rep (addf v w) (fun i j => f i j + g i j) := fun i j => by
  rw [addf_apply, h i j, k i j, EReal.coe_add]

/-- The difference of two real matrices. -/
theorem sub (h : Rep v f) (k : Rep w g) : Rep (subf v w) (fun i j => f i j - g i j) := fun i j => by
  rw [subf_apply, h i j, k i j, EReal.coe_sub]

/-- The entrywise product of two real matrices. -/
theorem mul (h : Rep v f) (k : Rep w g) : Rep (mulf v w) (fun i j => f i j * g i j) := fun i j => by
  rw [mulf_apply, h i j, k i j, EReal.coe_mul]

/-- The entrywise quotient of two real matrices, the divisor nowhere zero. -/
theorem div (h : Rep v f) (k : Rep w g) (hg : ∀ i j, g i j ≠ 0) : Rep (divf v w) (fun i j => f i j / g i j) := fun i j => by
  rw [divf_apply, h i j, k i j, Ideal.div_coe (hg i j), ← EReal.coe_mul, mul_one_div]

/-- The entrywise exponential of a real matrix. -/
theorem exp (h : Rep v f) : Rep (exp v) (fun i j => Real.exp (f i j)) := fun i j => by
  show Ideal.exp (v (ix2 i j)) = _
  rw [h i j, Ideal.exp_coe]

/-- The entrywise logarithm of a real matrix with positive entries. -/
theorem log (h : Rep v f) (hf : ∀ i j, 0 < f i j) : Rep (log v) (fun i j => Real.log (f i j)) := fun i j => by
  show Ideal.log (v (ix2 i j)) = _
  rw [h i j, Ideal.log_coe, if_neg (not_le.mpr (hf i j))]

/-- Narrowing the format changes no ideal value. -/
theorem trunc (h : Rep v f) (hb : ψ.bits < φ.bits) : Rep (truncf ψ v hb : FVec Ideal ⟨2, ![M, N]⟩ ψ) f := h

/-- Widening the format changes no ideal value. -/
theorem ext (h : Rep v f) (hb : φ.bits < ψ.bits) : Rep (extf ψ v hb : FVec Ideal ⟨2, ![M, N]⟩ ψ) f := h

/-- A column repeated along the rows. -/
theorem bcast {c : FVec Ideal ⟨2, ![M, 1]⟩ φ} {f : Fin M → Fin 1 → ℝ} (h : Rep c f)
    (hb : (⟨2, ![M, 1]⟩ : Shape).Broadcasts ⟨2, ![M, N]⟩) (h1 : M ≠ 1) :
    Rep (broadcastTo ⟨2, ![M, N]⟩ c hb : FVec Ideal ⟨2, ![M, N]⟩ φ) (fun i _ => f i 0) := fun i j => by
  rw [broadcastTo_apply c hb (ix2 i j) (ix2 i 0) (fun a => by
    match a with
    | ⟨0, _⟩ => exact (if_neg h1).symm
    | ⟨1, _⟩ => exact (if_pos rfl).symm)]
  exact h i 0

/-- The row sums of a real matrix, as a column. -/
theorem rowSum (h : Rep v f) (hr : Shape.Reduces ⟨2, ![M, N]⟩ [1] ⟨1, ![M]⟩) (hc : (⟨1, ![M]⟩ : Shape).ShapeCasts ⟨2, ![M, 1]⟩)
    (acc : BitVec φ.bits) (hφ : FKind.Formats φ) (hacc : acc = FKind.add.neutral φ hφ) :
    Rep (shapeCast ⟨2, ![M, 1]⟩ (multiReduction .add [1] ⟨1, ![M]⟩ v acc hr hφ hacc) hc : FVec Ideal ⟨2, ![M, 1]⟩ φ)
      (fun i _ => ∑ j, f i j) := fun i k => by
  have hk : k = 0 := Subsingleton.elim _ _
  subst hk
  rw [shapeCast_a_a1_apply, Ideal.multiReduction_add_single, coe_sum]
  refine Finset.sum_congr rfl fun j _ => ?_
  rw [← h i j]
  congr 1
  funext a
  match a with
  | ⟨0, _⟩ => rfl
  | ⟨1, _⟩ => rfl

/-- A fold of maxima over real numbers, begun at any value below all of them, is that value or a real number. -/
theorem fold_max {ι : Type} (s : Finset ι) (b : EReal) (f : ι → EReal) (hf : ∀ i, ∃ r : ℝ, f i = r) :
    s.fold max b f = b ∨ ∃ r : ℝ, s.fold max b f = r := by
  classical
  induction s using Finset.induction_on with
  | empty => exact .inl rfl
  | insert a s ha ih =>
    rw [Finset.fold_insert ha]
    rcases max_choice (f a) (s.fold max b f) with e | e
    · obtain ⟨r, hr⟩ := hf a; exact .inr ⟨r, by rw [e, hr]⟩
    · rw [e]; exact ih

/-- The row maxima of a real matrix against a column of reals: some column of reals. -/
theorem rowMax {m : FVec Ideal ⟨2, ![M, 1]⟩ .f32} {μ : Fin M → ℝ} {v : FVec Ideal ⟨2, ![M, N]⟩ .f32} (hm : Rep m fun i _ => μ i) (h : Rep v f)
    (hr : Shape.Reduces ⟨2, ![M, N]⟩ [1] ⟨1, ![M]⟩) (hc : (⟨1, ![M]⟩ : Shape).ShapeCasts ⟨2, ![M, 1]⟩)
    (hφ : FKind.Formats .f32) (hacc : 0xFF800000#32 = FKind.maximumf.neutral .f32 hφ) :
    ∃ μ' : Fin M → ℝ, Rep (maximumf m
      (shapeCast ⟨2, ![M, 1]⟩ (multiReduction .maximumf [1] ⟨1, ![M]⟩ v 0xFF800000#32 hr hφ hacc) hc : FVec Ideal ⟨2, ![M, 1]⟩ .f32))
      (fun i _ => μ' i) := by
  have key : ∀ i : Fin M, ∃ r : ℝ, maximumf m
      (shapeCast ⟨2, ![M, 1]⟩ (multiReduction .maximumf [1] ⟨1, ![M]⟩ v 0xFF800000#32 hr hφ hacc) hc : FVec Ideal ⟨2, ![M, 1]⟩ .f32) (ix2 i 0) = r := by
    intro i
    rw [maximumf_apply, shapeCast_a_a1_apply, Ideal.multiReduction_maximumf_single, hm i 0]
    have hb : (FloatOps.ofBits (F := Ideal) .f32 0xFF800000#32 : EReal) = ⊥ := by
      show Ideal.ofBits .f32 0xFF800000#32 = ⊥
      simp [Ideal.ofBits, Ideal.ieee]
    rcases fold_max Finset.univ (FloatOps.ofBits (F := Ideal) .f32 0xFF800000#32 : EReal) (v ∘ hr.lift (ix1 i)) (fun j => ⟨f i j, by
        rw [← h i j]
        show v _ = v _
        congr 1
        funext a
        match a with
        | ⟨0, _⟩ => rfl
        | ⟨1, _⟩ => rfl⟩) with e | ⟨r, e⟩
    · exact ⟨μ i, by rw [show (Finset.univ.fold max (FloatOps.ofBits (F := Ideal) .f32 0xFF800000#32 : EReal) (v ∘ hr.lift (ix1 i))) = ⊥ from e.trans hb]; exact max_eq_left bot_le⟩
    · exact ⟨max (μ i) r, by rw [show (Finset.univ.fold max (FloatOps.ofBits (F := Ideal) .f32 0xFF800000#32 : EReal) (v ∘ hr.lift (ix1 i))) = r from e]; exact (EReal.coe_strictMono.monotone.map_max).symm⟩
  choose μ' h' using key
  exact ⟨μ', fun i j => by rw [Subsingleton.elim j 0]; exact h' i⟩

/-- A product of two real matrices. -/
theorem nn {a : FVec Ideal ⟨2, ![M, K]⟩ φ} {b : FVec Ideal ⟨2, ![K, N]⟩ ψ} {f : Fin M → Fin K → ℝ} {g : Fin K → Fin N → ℝ}
    {acc : FVec Ideal ⟨2, ![M, N]⟩ .f32} {e : Fin M → Fin N → ℝ} (ha : Rep a f) (hb : Rep b g) (hacc : Rep acc e) (prec : Option ContractPrecision)
    {D : DotDims ⟨2, ![M, K]⟩ ⟨2, ![K, N]⟩ ⟨2, ![M, N]⟩} (hD : D = DotDims.plain M K N) :
    Rep (matmul D prec a b acc) (fun i j => e i j + ∑ k, f i k * g k j) := fun i j => by
  subst hD
  refine (Ideal.matmul_plain_apply prec a b acc i j).trans ?_
  rw [hacc i j, EReal.coe_add, coe_sum]
  exact congrArg _ (Finset.sum_congr rfl fun k _ => by rw [ha i k, hb k j, EReal.coe_mul])

/-- A product of a real matrix with a real matrix transposed. -/
theorem nt {a : FVec Ideal ⟨2, ![M, K]⟩ φ} {b : FVec Ideal ⟨2, ![N, K]⟩ ψ} {f : Fin M → Fin K → ℝ} {g : Fin N → Fin K → ℝ}
    {acc : FVec Ideal ⟨2, ![M, N]⟩ .f32} {e : Fin M → Fin N → ℝ} (ha : Rep a f) (hb : Rep b g) (hacc : Rep acc e) (prec : Option ContractPrecision)
    {D : DotDims ⟨2, ![M, K]⟩ ⟨2, ![N, K]⟩ ⟨2, ![M, N]⟩} (hD : D = DotDims.transposedRhs M K N) :
    Rep (matmul D prec a b acc) (fun i j => e i j + ∑ k, f i k * g j k) := fun i j => by
  subst hD
  refine (Ideal.matmul_transposedRhs_apply prec a b acc i j).trans ?_
  rw [hacc i j, EReal.coe_add, coe_sum]
  exact congrArg _ (Finset.sum_congr rfl fun k _ => by rw [ha i k, hb j k, EReal.coe_mul])

/-- The zero matrix. -/
theorem zero : Rep (constant (F := Ideal) ⟨2, ![M, N]⟩ .f32 0x00000000#32) (fun _ _ => 0) := fun i j => by
  rw [constant_apply, Ideal.ofBits_zero_f32, EReal.coe_zero]

/-- The zero matrix, written as a repeated scalar. -/
theorem zero' : Rep (broadcast ⟨2, ![M, N]⟩ (Scalar.ofBits (F := Ideal) .f32 0x00000000#32) : FVec Ideal ⟨2, ![M, N]⟩ .f32) (fun _ _ => 0) := fun i j => by
  show Ideal.ofBits .f32 0x00000000#32 = _
  rw [Ideal.ofBits_zero_f32, EReal.coe_zero]

/-- The starting maximum, some real number everywhere. -/
theorem low : ∃ r : ℝ, Rep (broadcast ⟨2, ![M, N]⟩ (Scalar.ofBits (F := Ideal) .f32 0xF149F2CA#32) : FVec Ideal ⟨2, ![M, N]⟩ .f32) (fun _ _ => r) := by
  have h : ∃ r : ℝ, Ideal.ofBits .f32 0xF149F2CA#32 = (r : EReal) := by
    simp only [Ideal.ofBits, Ideal.ieee]
    rw [if_neg (by decide), if_neg (by decide)]
    exact ⟨_, rfl⟩
  obtain ⟨r, hr⟩ := h
  exact ⟨r, fun _ _ => hr⟩

/-- A matrix written under a leading axis of extent one. -/
theorem ofSlab {x : FVec Ideal ⟨3, ![1, M, N]⟩ φ} (h : ∀ i j, x (ix3 0 i j) = ((f i j : ℝ) : EReal))
    (hc : (⟨3, ![1, M, N]⟩ : Shape).ShapeCasts ⟨2, ![M, N]⟩) : Rep (shapeCast ⟨2, ![M, N]⟩ x hc : FVec Ideal ⟨2, ![M, N]⟩ φ) f := fun i j => by
  rw [shapeCast_1ab_ab_apply]; exact h i j

/-- A block of several heads, its heads and rows written as one row axis. -/
theorem ofHeads {A B : ℕ} {x : FVec Ideal ⟨3, ![A, B, N]⟩ φ} {f : Fin A → Fin B → Fin N → ℝ}
    (h : ∀ a b j, x (ix3 a b j) = ((f a b j : ℝ) : EReal)) (hc : (⟨3, ![A, B, N]⟩ : Shape).ShapeCasts ⟨2, ![A * B, N]⟩) :
    Rep (shapeCast ⟨2, ![A * B, N]⟩ x hc : FVec Ideal ⟨2, ![A * B, N]⟩ φ) (fun i j => f i.divNat i.modNat j) := fun i j => by
  rw [shapeCast_apply x hc (ix2 i j) (ix3 i.divNat i.modNat j) (by
    rw [Shape.rowMajor_val_three, Shape.rowMajor_val_two]
    show (i.val / B * B + i.val % B) * N + j.val = i.val * N + j.val
    rw [Nat.div_add_mod'])]
  exact h _ _ _

/-- One row axis split into heads and rows. -/
theorem toHeads {A B : ℕ} {v : FVec Ideal ⟨2, ![A * B, N]⟩ φ} {f : Fin (A * B) → Fin N → ℝ} (h : Rep v f)
    (hc : (⟨2, ![A * B, N]⟩ : Shape).ShapeCasts ⟨3, ![A, B, N]⟩) (a : Fin A) (b : Fin B) (j : Fin N) :
    (shapeCast ⟨3, ![A, B, N]⟩ v hc : FVec Ideal ⟨3, ![A, B, N]⟩ φ) (ix3 a b j) = ((f (finProdFinEquiv (a, b)) j : ℝ) : EReal) := by
  rw [shapeCast_apply v hc (ix3 a b j) (ix2 (finProdFinEquiv (a, b)) j) (by
    rw [Shape.rowMajor_val_three, Shape.rowMajor_val_two]
    show (b.val + B * a.val) * N + j.val = (a.val * B + b.val) * N + j.val
    rw [Nat.add_comm b.val, Nat.mul_comm B])]
  exact h _ _

/-- A matrix put under a leading axis of extent one. -/
theorem toSlab (h : Rep v f) (hc : (⟨2, ![M, N]⟩ : Shape).ShapeCasts ⟨3, ![1, M, N]⟩) (u : Fin 1) (i : Fin M) (j : Fin N) :
    (shapeCast ⟨3, ![1, M, N]⟩ v hc : FVec Ideal ⟨3, ![1, M, N]⟩ φ) (ix3 u i j) = ((f i j : ℝ) : EReal) := by
  rw [shapeCast_ab_1ab_apply]; exact h i j

/-- A product of a real matrix transposed with a real matrix. -/
theorem tn {a : FVec Ideal ⟨2, ![K, M]⟩ φ} {b : FVec Ideal ⟨2, ![K, N]⟩ ψ} {f : Fin K → Fin M → ℝ} {g : Fin K → Fin N → ℝ}
    {acc : FVec Ideal ⟨2, ![M, N]⟩ .f32} {e : Fin M → Fin N → ℝ} (ha : Rep a f) (hb : Rep b g) (hacc : Rep acc e) (prec : Option ContractPrecision)
    {D : DotDims ⟨2, ![K, M]⟩ ⟨2, ![K, N]⟩ ⟨2, ![M, N]⟩} (hr : D.contr.rank = 1) (hs : D.contr.size ⟨0, by rw [hr]; exact Nat.one_pos⟩ = K)
    (hl : ∀ i j (k : D.contr.Idx), D.lhsIdx (ix2 i j) k = ix2 ((contrEquiv1 D K hr hs) k) i)
    (hr' : ∀ i j (k : D.contr.Idx), D.rhsIdx (ix2 i j) k = ix2 ((contrEquiv1 D K hr hs) k) j) :
    Rep (matmul D prec a b acc) (fun i j => e i j + ∑ k, f k i * g k j) := fun i j => by
  refine (Ideal.matmul_apply D prec a b acc (ix2 i j)).trans ?_
  rw [hacc i j, EReal.coe_add, coe_sum, ← Equiv.sum_comp (contrEquiv1 D K hr hs).symm]
  refine congrArg _ (Finset.sum_congr rfl fun k _ => ?_)
  rw [hl, hr', Equiv.apply_symm_apply, ha, hb, EReal.coe_mul]

end Rep

end Cert.Proof

end
-- ==== Proof.FwdBlock.lean ====
/-
  One block of the forward attention kernel over the ideal values: the running maximum, the running sum of exponentials and
  the running weighted sum, taken over the key chunks, end at the softmax average and the logarithm of its denominator.
-/
module

public import proofs.«01_k».proof.Proof.Ops
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof

open Idealize.ShloMosaic hiding ix3
open Idealize.ShloMosaic.ValueIdx Cert.KernelIdeal
open scoped BigOperators

variable {M N D : ℕ}

/-- The running maximum `m`, sum `l` and weighted sum `o` of a streamed softmax stand for the sum `A` of the exponentials and
    the weighted sum `B`, each scaled down by the exponential of the maximum, whichever real number that is. -/
def Stream (m l : FVec Ideal ⟨2, ![M, 1]⟩ .f32) (o : FVec Ideal ⟨2, ![M, D]⟩ .f32) (A : Fin M → ℝ) (B : Fin M → Fin D → ℝ) : Prop :=
  ∃ μ : Fin M → ℝ, Rep m (fun i _ => μ i) ∧ Rep l (fun i _ => Real.exp (-μ i) * A i) ∧ Rep o (fun i d => Real.exp (-μ i) * B i d)

/-- The step of the streamed softmax: one more chunk of scores `s` with values `w`. -/
theorem Stream.step {m l : FVec Ideal ⟨2, ![M, 1]⟩ .f32} {o : FVec Ideal ⟨2, ![M, D]⟩ .f32} {A : Fin M → ℝ} {B : Fin M → Fin D → ℝ}
    (h : Stream m l o A B) {s : FVec Ideal ⟨2, ![M, N]⟩ .f32} {S : Fin M → Fin N → ℝ} (hs : Rep s S)
    {w : FVec Ideal ⟨2, ![N, D]⟩ .bf16} {W : Fin N → Fin D → ℝ} (hw : Rep w W)
    (hM : M ≠ 1) (hr : Shape.Reduces ⟨2, ![M, N]⟩ [1] ⟨1, ![M]⟩) (hc : (⟨1, ![M]⟩ : Shape).ShapeCasts ⟨2, ![M, 1]⟩)
    (hφ : FKind.Formats .f32) (hacc : 0xFF800000#32 = FKind.maximumf.neutral .f32 hφ)
    (hacc' : 0x00000000#32 = FKind.add.neutral .f32 hφ) (hb : (⟨2, ![M, 1]⟩ : Shape).Broadcasts ⟨2, ![M, N]⟩)
    (hb' : (⟨2, ![M, 1]⟩ : Shape).Broadcasts ⟨2, ![M, D]⟩) (ht : FTy.bits .bf16 < FTy.bits .f32)
    (Dm : DotDims ⟨2, ![M, N]⟩ ⟨2, ![N, D]⟩ ⟨2, ![M, D]⟩) (hD : Dm = DotDims.plain M N D)
    {m' l' : FVec Ideal ⟨2, ![M, 1]⟩ .f32} {o' : FVec Ideal ⟨2, ![M, D]⟩ .f32}
    (em : m' = maximumf m (shapeCast ⟨2, ![M, 1]⟩ (multiReduction .maximumf [1] ⟨1, ![M]⟩ s 0xFF800000#32 hr hφ hacc) hc))
    (el : l' = addf (mulf (exp (subf m m')) l) (shapeCast ⟨2, ![M, 1]⟩
      (multiReduction .add [1] ⟨1, ![M]⟩ (exp (subf s (broadcastTo ⟨2, ![M, N]⟩ m' hb))) 0x00000000#32 hr hφ hacc') hc))
    (eo : o' = addf (mulf (broadcastTo ⟨2, ![M, D]⟩ (exp (subf m m')) hb') o)
      (matmul Dm none (truncf .bf16 (exp (subf s (broadcastTo ⟨2, ![M, N]⟩ m' hb))) ht) w (constant ⟨2, ![M, D]⟩ .f32 0x00000000#32))) :
    Stream m' l' o' (fun i => A i + ∑ j, Real.exp (S i j)) (fun i d => B i d + ∑ j, Real.exp (S i j) * W j d) := by
  obtain ⟨μ, hm, hl, ho⟩ := h
  obtain ⟨μ', hm'⟩ := Rep.rowMax hm hs hr hc hφ hacc
  rw [← em] at hm'
  have ha := (hm.sub hm').exp
  have hp := (hs.sub (hm'.bcast hb hM)).exp
  have hl' := (ha.mul hl).add (hp.rowSum hr hc _ hφ hacc')
  have ho' := ((ha.bcast hb' hM).mul ho).add ((hp.trunc ht).nn hw Rep.zero none hD)
  rw [← el] at hl'
  rw [← eo] at ho'
  have e1 : ∀ i (x : ℝ), Real.exp (μ i - μ' i) * (Real.exp (-μ i) * x) = Real.exp (-μ' i) * x := fun i x => by
    rw [← mul_assoc, ← Real.exp_add]; congr 2; ring
  have e2 : ∀ i j, Real.exp (S i j - μ' i) = Real.exp (-μ' i) * Real.exp (S i j) := fun i j => by
    rw [← Real.exp_add]; congr 1; ring
  refine ⟨μ', hm', hl'.congr fun i _ => ?_, ho'.congr fun i d => ?_⟩
  · simp only [e1, e2]
    rw [mul_add, Finset.mul_sum]
  · simp only [e1, e2]
    rw [mul_add, Finset.mul_sum, zero_add]
    exact congrArg _ (Finset.sum_congr rfl fun j _ => mul_assoc _ _ _)

/-- The streamed softmax begins at nothing summed. -/
theorem Stream.start {m l : FVec Ideal ⟨2, ![M, 1]⟩ .f32} {o : FVec Ideal ⟨2, ![M, D]⟩ .f32}
    (em : m = broadcast ⟨2, ![M, 1]⟩ (Scalar.ofBits (F := Ideal) .f32 0xF149F2CA#32))
    (el : l = broadcast ⟨2, ![M, 1]⟩ (Scalar.ofBits (F := Ideal) .f32 0x00000000#32))
    (eo : o = broadcast ⟨2, ![M, D]⟩ (Scalar.ofBits (F := Ideal) .f32 0x00000000#32)) : Stream m l o (fun _ => 0) (fun _ _ => 0) := by
  subst em el eo
  obtain ⟨r, hr⟩ := Rep.low (M := M) (N := 1)
  exact ⟨fun _ => r, hr, Rep.zero'.congr fun _ _ => (mul_zero _).symm, Rep.zero'.congr fun _ _ => (mul_zero _).symm⟩

/-- The streamed softmax ends: the weighted sum over the sum. -/
theorem Stream.out {m l : FVec Ideal ⟨2, ![M, 1]⟩ .f32} {o : FVec Ideal ⟨2, ![M, D]⟩ .f32} {A : Fin M → ℝ} {B : Fin M → Fin D → ℝ}
    (h : Stream m l o A B) (hA : ∀ i, 0 < A i) (hM : M ≠ 1) (hb : (⟨2, ![M, 1]⟩ : Shape).Broadcasts ⟨2, ![M, D]⟩) :
    Rep (divf o (broadcastTo ⟨2, ![M, D]⟩ l hb)) (fun i d => B i d / A i) := by
  obtain ⟨μ, _, hl, ho⟩ := h
  have hne : ∀ i, Real.exp (-μ i) * A i ≠ 0 := fun i => (mul_pos (Real.exp_pos _) (hA i)).ne'
  exact (ho.div (hl.bcast hb hM) fun i _ => hne i).congr fun i d => mul_div_mul_left _ _ (Real.exp_pos _).ne'

/-- The streamed softmax ends: the maximum plus the logarithm of the scaled sum is the logarithm of the sum. -/
theorem Stream.lse {m l : FVec Ideal ⟨2, ![M, 1]⟩ .f32} {o : FVec Ideal ⟨2, ![M, D]⟩ .f32} {A : Fin M → ℝ} {B : Fin M → Fin D → ℝ}
    (h : Stream m l o A B) (hA : ∀ i, 0 < A i) : Rep (addf m (log l)) (fun i _ => Real.log (A i)) := by
  obtain ⟨μ, hm, hl, _⟩ := h
  refine (hm.add (hl.log fun i _ => mul_pos (Real.exp_pos _) (hA i))).congr fun i _ => ?_
  rw [Real.log_mul (Real.exp_pos _).ne' (hA i).ne', Real.log_exp]; ring

/-- A chunk's scores: the block's query rows against the chunk's keys. -/
def scores {R C E : ℕ} (Q : Fin R → Fin E → ℝ) (K : Fin C → Fin E → ℝ) (i : Fin R) (j : Fin C) : ℝ := ∑ d, Q i d * K j d

section
variable (x0 : Vec Ideal S4x256x64 .bf16) (x1 x2 : Vec Ideal S1x4096x64 .bf16)
  {Q : Fin 4 → Fin 256 → Fin 64 → ℝ} {K W : Fin 4096 → Fin 64 → ℝ}

/-- Row `j` of key chunk `c`. -/
def row (c : Fin 4) (j : Fin 1024) : Fin 4096 := ⟨c.val * 1024 + j.val, by omega⟩

/-- A chunk of a key or value block, loaded. -/
theorem ld_chunk {x : Vec Ideal S1x4096x64 .bf16} {f : Fin 4096 → Fin 64 → ℝ} (h : ∀ j d, x (ix3 0 j d) = ((f j d : ℝ) : EReal))
    (c : Fin 4) (hi : ∀ a, (![0, c.val * 1024, 0] : Fin 3 → Nat) a + S1x1024x64.size a ≤ S1x4096x64.size a) (i : Fin 1024) (d : Fin 64) :
    View.ld x (Rect.unit (s := S1x4096x64) ![0, c.val * 1024, 0] S1x1024x64.size hi) (ix3 0 i d) = ((f (row c i) d : ℝ) : EReal) := by
  rw [← h (row c i) d]
  show x _ = x _
  congr 1
  funext a
  match a with
  | ⟨0, _⟩ => rfl
  | ⟨1, _⟩ => exact Fin.ext (by show c.val * 1024 + 1 * i.val = _; simp [row])
  | ⟨2, _⟩ => exact Fin.ext (by show 0 + 1 * d.val = _; simp)

/-- A sum over the keys, chunk by chunk. -/
theorem sum_chunks (f : Fin 4096 → ℝ) : ∑ j, f j
    = (((∑ j, f (row 0 j)) + ∑ j, f (row 1 j)) + ∑ j, f (row 2 j)) + ∑ j, f (row 3 j) := by
  rw [← Equiv.sum_comp (finProdFinEquiv : Fin 4 × Fin 1024 ≃ Fin (4 * 1024)) (f : Fin (4 * 1024) → ℝ), Fintype.sum_prod_type, Fin.sum_univ_four]
  have e : ∀ (c : Fin 4) (j : Fin 1024), (finProdFinEquiv (c, j) : Fin (4 * 1024)) = row c j := fun c j => Fin.ext (by
    show j.val + 1024 * c.val = c.val * 1024 + j.val
    ring)
  simp only [e]

/-- The running sum after one more chunk of scores `s`, the maximum having gone from `m` to `m'`. -/
def nextSum (m m' l : FVec Ideal S1024x1 .f32) (s : FVec Ideal S1024x1024 .f32) : FVec Ideal S1024x1 .f32 :=
  addf (mulf (exp (subf m m')) l) (shapeCast S1024x1 (multiReduction .add [1] S1024 (exp (subf s (broadcastTo S1024x1024 m' Facts₀.broadcasts_S1024x1_S1024x1024)))
    0x00000000#32 Facts₀.reduces_S1024x1024_S1024 (.inl rfl) rfl) Facts₀.shapeCasts_S1024_S1024x1)

/-- The running weighted sum after one more chunk of scores `s` with values `w`. -/
def nextOut (m m' : FVec Ideal S1024x1 .f32) (o : FVec Ideal S1024x64 .f32) (s : FVec Ideal S1024x1024 .f32) (w : FVec Ideal S1024x64 .bf16) :
    FVec Ideal S1024x64 .f32 :=
  addf (mulf (broadcastTo S1024x64 (exp (subf m m')) Facts₀.broadcasts_S1024x1_S1024x64) o)
    (matmul dot_S1024x1024_S1024x64_S1024x64_1_0_0_1_n_n none
      (truncf .bf16 (exp (subf s (broadcastTo S1024x1024 m' Facts₀.broadcasts_S1024x1_S1024x1024))) (by decide)) w (constant S1024x64 .f32 0x00000000#32))

/-- A value chunk, loaded as a matrix. -/
abbrev chunk (x : Vec Ideal S1x1024x64 .bf16) : FVec Ideal S1024x64 .bf16 := shapeCast S1024x64 x Facts₀.shapeCasts_S1x1024x64_S1024x64

/-- The forward kernel's query rows: row `r` is head `r / 256`, row `r % 256` of the block. -/
abbrev rows {A B : ℕ} (Q : Fin A → Fin B → Fin 64 → ℝ) (r : Fin (A * B)) (d : Fin 64) : ℝ := Q r.divNat r.modNat d

/-- The streamed softmax of one block after its four key chunks: over every key, the sum of the exponentials of the scores and
    the sum of the values weighted by them; the block's two stores hold their quotient and the logarithm of the first. -/
theorem fwd_rows (hQ : ∀ a b j, x0 (ix3 a b j) = ((Q a b j : ℝ) : EReal)) (hK : ∀ j d, x1 (ix3 0 j d) = ((K j d : ℝ) : EReal))
    (hW : ∀ j d, x2 (ix3 0 j d) = ((W j d : ℝ) : EReal)) :
    (∀ a b d, Gen.out0_3 x0 x1 x2 (ix3 a b d) = (((∑ j, Real.exp (scores (rows Q) K (finProdFinEquiv (a, b)) j) * W j d) /
        ∑ j, Real.exp (scores (rows Q) K (finProdFinEquiv (a, b)) j) : ℝ) : EReal)) ∧
    ∀ a b, Gen.out0_4 x0 x1 x2 (ix3 a b 0) = ((Real.log (∑ j, Real.exp (scores (rows Q) K (finProdFinEquiv (a, b)) j)) : ℝ) : EReal) := by
  set R : Fin (4 * 256) → Fin 64 → ℝ := rows Q with hR
  have hq : Rep (Gen.k0_pay6 (View.ld x0 Gen.r0_0)) R := Rep.ofHeads (A := 4) (B := 256) (fun a b j => by
    rw [View.ld_unit_zero (by funext a; match a with | ⟨0, _⟩ => rfl | ⟨1, _⟩ => rfl | ⟨2, _⟩ => rfl)]
    exact hQ a b j) _
  have hk : ∀ (c : Fin 4) (hi : ∀ a, (![0, c.val * 1024, 0] : Fin 3 → Nat) a + S1x1024x64.size a ≤ S1x4096x64.size a),
      Rep (shapeCast S1024x64 (View.ld x1 (Rect.unit (s := S1x4096x64) ![0, c.val * 1024, 0] S1x1024x64.size hi)) Facts₀.shapeCasts_S1x1024x64_S1024x64 : FVec Ideal S1024x64 .bf16)
        (fun j d => K (row c j) d) := fun c hi => Rep.ofSlab (fun i d => ld_chunk hK c hi i d) _
  have hw : ∀ (c : Fin 4) (hi : ∀ a, (![0, c.val * 1024, 0] : Fin 3 → Nat) a + S1x1024x64.size a ≤ S1x4096x64.size a),
      Rep (shapeCast S1024x64 (View.ld x2 (Rect.unit (s := S1x4096x64) ![0, c.val * 1024, 0] S1x1024x64.size hi)) Facts₀.shapeCasts_S1x1024x64_S1024x64 : FVec Ideal S1024x64 .bf16)
        (fun j d => W (row c j) d) := fun c hi => Rep.ofSlab (fun i d => ld_chunk hW c hi i d) _
  have hs : ∀ (c : Fin 4) (hi : ∀ a, (![0, c.val * 1024, 0] : Fin 3 → Nat) a + S1x1024x64.size a ≤ S1x4096x64.size a),
      Rep (Gen.k0_pay19 (Gen.k0_pay6 (View.ld x0 Gen.r0_0)) (View.ld x1 (Rect.unit (s := S1x4096x64) ![0, c.val * 1024, 0] S1x1024x64.size hi)))
        (fun i j => scores R K i (row c j)) := fun c hi => (hq.nt (hk c hi) Rep.zero none rfl).congr fun i j => zero_add _
  have st0 : Stream (Gen.k0_pay7 (F := Ideal)) _ _ (fun _ : Fin 1024 => 0) (fun (_ : Fin 1024) (_ : Fin 64) => 0) := Stream.start rfl rfl rfl
  have st1 : Stream (Gen.k0_pay9 (View.ld x0 Gen.r0_0) (View.ld x1 Gen.r0_1)) (Gen.k0_pay12 (View.ld x0 Gen.r0_0) (View.ld x1 Gen.r0_1))
      (Gen.k0_pay13 (View.ld x0 Gen.r0_0) (View.ld x1 Gen.r0_1) (View.ld x2 Gen.r0_1)) _ _ :=
    st0.step (hs 0 _) (hw 0 _) (by decide) (by decide) (by decide) (.inl rfl) rfl rfl (by decide) (by decide) (by decide)
      dot_S1024x1024_S1024x64_S1024x64_1_0_0_1_n_n rfl rfl rfl rfl
  have st2 : Stream (Gen.k0_pay28 x0 x1 x2)
      (nextSum (Gen.k0_pay9 (View.ld x0 Gen.r0_0) (View.ld x1 Gen.r0_1)) (Gen.k0_pay28 x0 x1 x2) (Gen.k0_pay12 (View.ld x0 Gen.r0_0) (View.ld x1 Gen.r0_1))
        (Gen.k0_pay14 (View.ld x0 Gen.r0_0) (View.ld x1 Gen.r0_2)))
      (nextOut (Gen.k0_pay9 (View.ld x0 Gen.r0_0) (View.ld x1 Gen.r0_1)) (Gen.k0_pay28 x0 x1 x2)
        (Gen.k0_pay13 (View.ld x0 Gen.r0_0) (View.ld x1 Gen.r0_1) (View.ld x2 Gen.r0_1))
        (Gen.k0_pay14 (View.ld x0 Gen.r0_0) (View.ld x1 Gen.r0_2)) (chunk (View.ld x2 Gen.r0_2))) _ _ :=
    st1.step (hs 1 _) (hw 1 _) (by decide) (by decide) (by decide) (.inl rfl) rfl rfl (by decide) (by decide) (by decide)
      dot_S1024x1024_S1024x64_S1024x64_1_0_0_1_n_n rfl rfl rfl rfl
  have st3 : Stream (Gen.k0_pay31 x0 x1 x2) (Gen.k0_pay32 x0 x1 x2) (Gen.k0_pay24 (Gen.k0_pay27 x0 x1 x2)
      (Gen.k0_pay13 (View.ld x0 Gen.r0_0) (View.ld x1 Gen.r0_1) (View.ld x2 Gen.r0_1)) (Gen.k0_pay28 x0 x1 x2) (Gen.k0_pay29 x0 x1 x2)
      (Gen.k0_pay30 x0 x1 x2) (View.ld x2 Gen.r0_2) (View.ld x1 Gen.r0_3) (View.ld x2 Gen.r0_3)) _ _ :=
    st2.step (hs 2 _) (hw 2 _) (by decide) (by decide) (by decide) (.inl rfl) rfl rfl (by decide) (by decide) (by decide)
      dot_S1024x1024_S1024x64_S1024x64_1_0_0_1_n_n rfl rfl rfl rfl
  have st4 : Stream (Gen.k0_pay34 x0 x1 x2)
      (Gen.k0_pay3 (Gen.k0_pay31 x0 x1 x2) (Gen.k0_pay32 x0 x1 x2) (Gen.k0_pay33 x0 x1 x2) (Gen.k0_pay34 x0 x1 x2))
      (nextOut (Gen.k0_pay31 x0 x1 x2) (Gen.k0_pay34 x0 x1 x2) (Gen.k0_pay24 (Gen.k0_pay27 x0 x1 x2)
        (Gen.k0_pay13 (View.ld x0 Gen.r0_0) (View.ld x1 Gen.r0_1) (View.ld x2 Gen.r0_1)) (Gen.k0_pay28 x0 x1 x2) (Gen.k0_pay29 x0 x1 x2)
        (Gen.k0_pay30 x0 x1 x2) (View.ld x2 Gen.r0_2) (View.ld x1 Gen.r0_3) (View.ld x2 Gen.r0_3)) (Gen.k0_pay33 x0 x1 x2) (chunk (View.ld x2 Gen.r0_4))) _ _ :=
    st3.step (hs 3 _) (hw 3 _) (by decide) (by decide) (by decide) (.inl rfl) rfl rfl (by decide) (by decide) (by decide)
      dot_S1024x1024_S1024x64_S1024x64_1_0_0_1_n_n rfl rfl rfl rfl
  have eA : ∀ i, (((0 + ∑ j, Real.exp (scores R K i (row 0 j))) + ∑ j, Real.exp (scores R K i (row 1 j)))
      + ∑ j, Real.exp (scores R K i (row 2 j))) + ∑ j, Real.exp (scores R K i (row 3 j)) = ∑ j, Real.exp (scores R K i j) := fun i => by
    rw [sum_chunks fun j => Real.exp (scores R K i j), zero_add]
  have eB : ∀ i d, (((0 + ∑ j, Real.exp (scores R K i (row 0 j)) * W (row 0 j) d) + ∑ j, Real.exp (scores R K i (row 1 j)) * W (row 1 j) d)
      + ∑ j, Real.exp (scores R K i (row 2 j)) * W (row 2 j) d) + ∑ j, Real.exp (scores R K i (row 3 j)) * W (row 3 j) d
      = ∑ j, Real.exp (scores R K i j) * W j d := fun i d => by
    rw [sum_chunks fun j => Real.exp (scores R K i j) * W j d, zero_add]
  have hpos : ∀ i, 0 < (((0 + ∑ j, Real.exp (scores R K i (row 0 j))) + ∑ j, Real.exp (scores R K i (row 1 j)))
      + ∑ j, Real.exp (scores R K i (row 2 j))) + ∑ j, Real.exp (scores R K i (row 3 j)) := fun i => by
    rw [eA]; exact Finset.sum_pos (fun _ _ => Real.exp_pos _) ⟨0, Finset.mem_univ _⟩
  constructor
  · intro a b d
    have h := Rep.toHeads (A := 4) (B := 256) ((st4.out hpos (by decide) (by decide)).trunc (ψ := .bf16) (by decide)) (by decide) a b d
    rw [eA, eB] at h
    rw [← h]
    unfold Gen.out0_3
    frame_out
    rfl
  · intro a b
    have h := Rep.toHeads (A := 4) (B := 256) (st4.lse hpos) (by decide) a b 0
    rw [eA] at h
    rw [← h]
    unfold Gen.out0_4
    frame_out
    rfl

end

end Cert.Proof

end
-- ==== Proof.BwdBlock.lean ====
/-
  One block of the backward attention kernel over the ideal values: what one block of query rows adds to the gradients of the
  keys and of the values, and the gradient of its own rows.
-/
module

public import proofs.«01_k».proof.Proof.FwdBlock

@[expose] public section

set_option maxRecDepth 16384

noncomputable section

namespace Cert.Proof

open Idealize.ShloMosaic hiding ix3
open Idealize.ShloMosaic.ValueIdx Cert.KernelIdeal
open scoped BigOperators

section
variable (Q G O : Fin 4 → Fin 128 → Fin 64 → ℝ) (L : Fin 4 → Fin 128 → ℝ) (K W : Fin 4096 → Fin 64 → ℝ)

/-- The block's attention weights: exponentials of the scores less the saved logarithms. -/
def blkP (i : Fin (4 * 128)) (j : Fin 4096) : ℝ := Real.exp (scores (rows Q) K i j - L i.divNat i.modNat)

/-- The gradients of the block's scores. -/
def blkS (i : Fin (4 * 128)) (j : Fin 4096) : ℝ :=
  blkP Q L K i j * (scores (rows G) W i j - ∑ d, rows G i d * rows O i d)

end

/-- The transposed product of the backward kernel, over the ideal values. -/
theorem Rep.tn512 {a : FVec Ideal S512x1024 .bf16} {b : FVec Ideal S512x64 .bf16} {f : Fin 512 → Fin 1024 → ℝ} {g : Fin 512 → Fin 64 → ℝ}
    (ha : Rep a f) (hb : Rep b g) :
    Rep (matmul dot_S512x1024_S512x64_S1024x64_0_0_1_1_n_n none a b (constant S1024x64 .f32 0x00000000#32)) (fun i j => ∑ k, f k i * g k j) :=
  (Rep.tn ha hb Rep.zero none (D := dot_S512x1024_S512x64_S1024x64_0_0_1_1_n_n) rfl rfl
    (fun i j k => by funext x; match x with | ⟨0, _⟩ => rfl | ⟨1, _⟩ => rfl)
    (fun i j k => by funext x; match x with | ⟨0, _⟩ => rfl | ⟨1, _⟩ => rfl)).congr fun i j => zero_add _

/-- A cast to the same shape reads the operand where it is read. -/
theorem cast_self {s : Shape} {α : Type} (x : s.Idx → α) (h : s.ShapeCasts s) : shapeCast s x h = x :=
  funext fun j => shapeCast_apply x h j j rfl

/-- A tile read, added to and written back. -/
theorem tile_add {x : FVec Ideal S1x1024x64 .f32} {v : FVec Ideal S1024x64 .f32} {f : Fin 1024 → Fin 64 → ℝ} (h : Rep v f)
    (h1 : S1x1024x64.ShapeCasts S1024x64) (h2 : S1024x64.ShapeCasts S1x1024x64) (u : Fin 1) (i : Fin 1024) (d : Fin 64) :
    (shapeCast S1x1024x64 (addf (shapeCast S1024x64 x h1) v) h2 : FVec Ideal S1x1024x64 .f32) (ix3 u i d) = x (ix3 0 i d) + ((f i d : ℝ) : EReal) := by
  rw [shapeCast_ab_1ab_apply, addf_apply, shapeCast_1ab_ab_apply, h i d]

/-- The tile of a key or value gradient that belongs to chunk `c`. -/
abbrev tile (c : Fin 4) (hi : ∀ a, (![0, c.val * 1024, 0] : Fin 3 → Nat) a + S1x1024x64.size a ≤ S1x4096x64.size a) : Rect S1x4096x64 :=
  Rect.unit (s := S1x4096x64) ![0, c.val * 1024, 0] S1x1024x64.size hi

/-- Where the tile of chunk `c` lies. -/
theorem tile_emb (c : Fin 4) (hi) (u : Fin 1) (i : Fin 1024) (d : Fin 64) : (tile c hi).emb (ix3 u i d) = ix3 0 (row c i) d := by
  funext a
  match a with
  | ⟨0, _⟩ => exact Fin.ext (by show 0 + 1 * u.val = 0; omega)
  | ⟨1, _⟩ => exact Fin.ext (by show c.val * 1024 + 1 * i.val = _; simp [row])
  | ⟨2, _⟩ => exact Fin.ext (by show 0 + 1 * d.val = _; simp)

/-- Four tiles, each the old contents plus its share, leave the old contents plus the whole. -/
theorem tiles_add (old : Vec Ideal S1x4096x64 .f32) (f : Fin 4096 → Fin 64 → ℝ) (L' : List (View.Piece (Elt Ideal) S1x4096x64 .f32))
    (p0 p1 p2 p3 : Vec Ideal S1x1024x64 .f32) {h0 h1 h2 h3}
    (e0 : ∀ i d, p0 (ix3 0 i d) = old (ix3 0 (row 0 i) d) + ((f (row 0 i) d : ℝ) : EReal))
    (e1 : ∀ i d, p1 (ix3 0 i d) = old (ix3 0 (row 1 i) d) + ((f (row 1 i) d : ℝ) : EReal))
    (e2 : ∀ i d, p2 (ix3 0 i d) = old (ix3 0 (row 2 i) d) + ((f (row 2 i) d : ℝ) : EReal))
    (e3 : ∀ i d, p3 (ix3 0 i d) = old (ix3 0 (row 3 i) d) + ((f (row 3 i) d : ℝ) : EReal)) (j : Fin 4096) (d : Fin 64) :
    View.canon (([⟨tile 3 h3, p3⟩, ⟨tile 2 h2, p2⟩, ⟨tile 1 h1, p1⟩, ⟨tile 0 h0, p0⟩] : List (View.Piece (Elt Ideal) S1x4096x64 .f32)) ++ L') (ix3 0 j d)
      = old (ix3 0 j d) + ((f j d : ℝ) : EReal) := by
  have key : ∀ (c : Fin 4) (hi) (p : Vec Ideal S1x1024x64 .f32)
      (_ : ∀ i d, p (ix3 0 i d) = old (ix3 0 (row c i) d) + ((f (row c i) d : ℝ) : EReal)) (x : S1x1024x64.Idx),
      p x = (fun y : S1x4096x64.Idx => old (ix3 0 (y 1) (y 2)) + ((f (y 1) (y 2) : ℝ) : EReal)) ((tile c hi).emb x) := by
    intro c hi p e x
    obtain ⟨u, i, d, rfl⟩ : ∃ (u : Fin 1) (i : Fin 1024) (d : Fin 64), x = ix3 u i d := ⟨x 0, x 1, x 2, ValueIdx.eq_ix3 x⟩
    rw [tile_emb, Subsingleton.elim u 0]
    exact e _ _
  refine View.canon_append_of_piecesOf (fun y : S1x4096x64.Idx => old (ix3 0 (y 1) (y 2)) + ((f (y 1) (y 2) : ℝ) : EReal)) L'
    [⟨tile 3 h3, p3⟩, ⟨tile 2 h2, p2⟩, ⟨tile 1 h1, p1⟩, ⟨tile 0 h0, p0⟩]
    ⟨key 3 h3 p3 e3, key 2 h2 p2 e2, key 1 h1 p1 e1, key 0 h0 p0 e0, trivial⟩ (ix3 0 j d) ?_
  have hm : ∀ (c : Fin 4) (hi), c.val * 1024 ≤ j.val → j.val < c.val * 1024 + 1024 → ix3 0 j d ∈ (tile c hi).set := fun c hi h h' =>
    Rect.mem_set_unit.mpr fun a => by
      match a with
      | ⟨0, _⟩ => exact ⟨le_refl 0, Nat.one_pos⟩
      | ⟨1, _⟩ => exact ⟨h, h'⟩
      | ⟨2, _⟩ => exact ⟨Nat.zero_le _, by show d.val < 0 + 64; omega⟩
  have hj := j.isLt
  by_cases c3 : 3072 ≤ j.val
  · exact ⟨_, List.mem_cons_self, hm 3 h3 c3 (by show _ < 3072 + 1024; omega)⟩
  by_cases c2 : 2048 ≤ j.val
  · exact ⟨_, List.mem_cons_of_mem _ List.mem_cons_self, hm 2 h2 c2 (by show _ < 2048 + 1024; omega)⟩
  by_cases c1 : 1024 ≤ j.val
  · exact ⟨_, List.mem_cons_of_mem _ (List.mem_cons_of_mem _ List.mem_cons_self), hm 1 h1 c1 (by show _ < 1024 + 1024; omega)⟩
  · exact ⟨_, List.mem_cons_of_mem _ (List.mem_cons_of_mem _ (List.mem_cons_of_mem _ List.mem_cons_self)),
      hm 0 h0 (Nat.zero_le _) (by show _ < 0 + 1024; omega)⟩

/-- A tile loaded. -/
theorem ld_tile {e : EltTy} (x : Vec Ideal S1x4096x64 e) (c : Fin 4) (hi) (i : Fin 1024) (d : Fin 64) :
    View.ld x (tile c hi) (ix3 0 i d) = x (ix3 0 (row c i) d) := by
  rw [View.ld_apply]
  exact congrArg x (tile_emb c hi 0 i d)

/-- A tile read at its place, added to and written back. -/
theorem tile_step (old : Vec Ideal S1x4096x64 .f32) (c : Fin 4) (hi) {v : FVec Ideal S1024x64 .f32} {f : Fin 4096 → Fin 64 → ℝ}
    (h : Rep v fun i d => f (row c i) d) (h1 : S1x1024x64.ShapeCasts S1024x64) (h2 : S1024x64.ShapeCasts S1x1024x64) (i : Fin 1024) (d : Fin 64) :
    (shapeCast S1x1024x64 (addf (shapeCast S1024x64 (View.ld old (tile c hi)) h1) v) h2 : FVec Ideal S1x1024x64 .f32) (ix3 0 i d)
      = old (ix3 0 (row c i) d) + ((f (row c i) d : ℝ) : EReal) :=
  (tile_add h h1 h2 0 i d).trans (by rw [ld_tile])

/-- The six blocks one grid point of the backward kernel reads: the queries, the keys, the values, the attention's output, the
    logarithms of its denominators and the gradient of its output. -/
structure Reads (x0 : Vec Ideal S4x128x64 .bf16) (x1 x2 : Vec Ideal S1x4096x64 .bf16) (x3 : Vec Ideal S4x128x64 .bf16)
    (x4 : Vec Ideal S4x128x1 .f32) (x5 : Vec Ideal S4x128x64 .bf16) (Q G O : Fin 4 → Fin 128 → Fin 64 → ℝ) (L : Fin 4 → Fin 128 → ℝ)
    (K W : Fin 4096 → Fin 64 → ℝ) : Prop where
  q : ∀ a b d, x0 (ix3 a b d) = ((Q a b d : ℝ) : EReal)
  k : ∀ j d, x1 (ix3 0 j d) = ((K j d : ℝ) : EReal)
  w : ∀ j d, x2 (ix3 0 j d) = ((W j d : ℝ) : EReal)
  o : ∀ a b d, x3 (ix3 a b d) = ((O a b d : ℝ) : EReal)
  l : ∀ a b, x4 (ix3 a b 0) = ((L a b : ℝ) : EReal)
  g : ∀ a b d, x5 (ix3 a b d) = ((G a b d : ℝ) : EReal)

namespace Reads
variable {x0 : Vec Ideal S4x128x64 .bf16} {x1 x2 : Vec Ideal S1x4096x64 .bf16} {x3 : Vec Ideal S4x128x64 .bf16} {x4 : Vec Ideal S4x128x1 .f32}
  {x5 : Vec Ideal S4x128x64 .bf16} {Q G O : Fin 4 → Fin 128 → Fin 64 → ℝ} {L : Fin 4 → Fin 128 → ℝ} {K W : Fin 4096 → Fin 64 → ℝ}
  (h : Reads x0 x1 x2 x3 x4 x5 Q G O L K W)
include h

/-- The query rows as one matrix. -/
theorem rq : Rep (Gen.k1_pay5 x0) (rows Q) := Rep.ofHeads (A := 4) (B := 128) h.q _

/-- The rows of the output's gradient as one matrix. -/
theorem rg : Rep (Gen.k1_pay6 x5) (rows G) := Rep.ofHeads (A := 4) (B := 128) h.g _

/-- The saved logarithms as one column. -/
theorem rl : Rep (Gen.k1_pay8 x4) (fun i _ => L (Fin.divNat (m := 4) (n := 128) i) (Fin.modNat (m := 4) (n := 128) i)) := by
  refine Rep.ofHeads (A := 4) (B := 128) (f := fun a b _ => L a b) (fun a b j => ?_) _
  rw [cast_self, Subsingleton.elim j 0]
  exact h.l a b

/-- The row sums of the output against its gradient. -/
theorem rdelta : Rep (Gen.k1_pay7 x5 x3) (fun i _ => ∑ d, rows G i d * rows O i d) := by
  refine Rep.rowSum (f := fun i d => rows G i d * rows O i d) ((h.rg.ext (by decide)).mul (Rep.ext (φ := .bf16) (Rep.ofHeads (A := 4) (B := 128) (f := O) (fun a b j => ?_) _) (by decide))) _ _ _ _ _
  rw [cast_self]
  exact h.o a b j

/-- A chunk of the keys as a matrix. -/
theorem rk (c : Fin 4) (hi) : Rep (Gen.k1_pay10 (View.ld x1 (tile c hi))) (fun j d => K (row c j) d) :=
  Rep.ofSlab (fun i d => ld_chunk h.k c hi i d) _

/-- A chunk of the values as a matrix. -/
theorem rw (c : Fin 4) (hi) : Rep (Gen.k1_pay10 (View.ld x2 (tile c hi))) (fun j d => W (row c j) d) :=
  Rep.ofSlab (fun i d => ld_chunk h.w c hi i d) _

/-- The attention weights of a chunk. -/
theorem rp (c : Fin 4) (hi) : Rep (Gen.k1_pay35 (Gen.k1_pay5 x0) (Gen.k1_pay8 x4) (View.ld x1 (tile c hi))) (fun i j => blkP Q L K i (row c j)) :=
  (((h.rq.nt (h.rk c hi) Rep.zero none (by rfl)).sub (h.rl.bcast _ (by decide))).exp).congr fun i j => by
    unfold blkP scores; rw [zero_add]

/-- The gradients of the scores of a chunk. -/
theorem rs (c : Fin 4) (hi) : Rep (Gen.k1_pay37 (Gen.k1_pay5 x0) (Gen.k1_pay6 x5) (Gen.k1_pay7 x5 x3) (Gen.k1_pay8 x4)
    (View.ld x1 (tile c hi)) (View.ld x2 (tile c hi))) (fun i j => blkS Q G O L K W i (row c j)) :=
  (((h.rp c hi).mul ((h.rg.nt (h.rw c hi) Rep.zero none (by rfl)).sub (h.rdelta.bcast _ (by decide)))).trunc _).congr fun i j => by
    unfold blkS scores; rw [zero_add]

/-- A chunk's share of the gradient of the keys. -/
theorem rdk (c : Fin 4) (hi) : Rep (matmul dot_S512x1024_S512x64_S1024x64_0_0_1_1_n_n none (Gen.k1_pay37 (Gen.k1_pay5 x0) (Gen.k1_pay6 x5) (Gen.k1_pay7 x5 x3)
    (Gen.k1_pay8 x4) (View.ld x1 (tile c hi)) (View.ld x2 (tile c hi))) (Gen.k1_pay5 x0) (constant S1024x64 .f32 0x00000000#32))
    (fun j d => ∑ i, blkS Q G O L K W i (row c j) * rows Q i d) := Rep.tn512 (h.rs c hi) h.rq

/-- A chunk's share of the gradient of the values. -/
theorem rdv (c : Fin 4) (hi) : Rep (matmul dot_S512x1024_S512x64_S1024x64_0_0_1_1_n_n none (truncf .bf16 (Gen.k1_pay35 (Gen.k1_pay5 x0)
    (Gen.k1_pay8 x4) (View.ld x1 (tile c hi))) (by decide)) (Gen.k1_pay6 x5) (constant S1024x64 .f32 0x00000000#32))
    (fun j d => ∑ i, blkP Q L K i (row c j) * rows G i d) := Rep.tn512 ((h.rp c hi).trunc (by decide)) h.rg

/-- A chunk's share of the gradient of the queries, onto what the earlier chunks gave. -/
theorem rdq (c : Fin 4) (hi) {v : FVec Ideal S512x64 .f32} {f : Fin 512 → Fin 64 → ℝ} (hv : Rep v f) :
    Rep (addf v (matmul dot_S512x1024_S1024x64_S512x64_1_0_0_1_n_n none (Gen.k1_pay37 (Gen.k1_pay5 x0) (Gen.k1_pay6 x5) (Gen.k1_pay7 x5 x3)
      (Gen.k1_pay8 x4) (View.ld x1 (tile c hi)) (View.ld x2 (tile c hi))) (Gen.k1_pay10 (View.ld x1 (tile c hi))) (constant S512x64 .f32 0x00000000#32)))
    (fun i d => f i d + ∑ j, blkS Q G O L K W i (row c j) * K (row c j) d) :=
  (hv.add ((h.rs c hi).nn (h.rk c hi) Rep.zero none (by rfl))).congr fun i d => by rw [zero_add]

end Reads

end Cert.Proof

end
-- ==== Proof.BwdPoint.lean ====
module
public import proofs.«01_k».proof.Proof.BwdBlock
@[expose] public section
set_option maxRecDepth 16384

/-! # What one grid point of the backward kernel leaves

Point `t` works on query block `t % 32` of group `t / 32`. It writes the gradient of its query block, and adds to the gradients of the
group's keys and values; the first point of a group begins these at zero. -/

noncomputable section
namespace Cert.Proof
open Idealize.ShloMosaic hiding ix3
open Idealize.ShloMosaic.TcCoe Idealize.SL Idealize.SL.Sem Idealize.ShloMosaic.ValueIdx Cert.KernelIdeal

variable (V : (c : Dev nD) → (b : Ref sig .tc) → Buf (Elt Ideal) ((c : Thread nD τ).loc b))

/-- What point `t` reads, as real matrices. -/
abbrev ReadsAt (c : Dev nD) (t : Fin cfg1.N) (Q G O : Fin 4 → Fin 128 → Fin 64 → ℝ) (L : Fin 4 → Fin 128 → ℝ) (K W : Fin 4096 → Fin 64 → ℝ) : Prop :=
  Reads (Gen.iblk1 V c 0 t) (Gen.iblk1 V c 1 t) (Gen.iblk1 V c 2 t) (Gen.iblk1 V c 3 t) (Gen.iblk1 V c 4 t) (Gen.iblk1 V c 5 t) Q G O L K W

variable {V} {c : Dev nD} {t : Fin cfg1.N} {Q G O : Fin 4 → Fin 128 → Fin 64 → ℝ} {L : Fin 4 → Fin 128 → ℝ} {K W : Fin 4096 → Fin 64 → ℝ}

/-- The four chunks' shares of the gradient of the queries, taken together. -/
theorem dq_rep (h : ReadsAt V c t Q G O L K W) {v : FVec Ideal S512x64 .f32}
    (hv : Rep v (fun i d => (((0 + ∑ j, blkS Q G O L K W i (row 0 j) * K (row 0 j) d) + ∑ j, blkS Q G O L K W i (row 1 j) * K (row 1 j) d)
      + ∑ j, blkS Q G O L K W i (row 2 j) * K (row 2 j) d) + ∑ j, blkS Q G O L K W i (row 3 j) * K (row 3 j) d)) :
    Rep v (fun i d => ∑ j, blkS Q G O L K W i j * K j d) :=
  hv.congr fun i d => by rw [sum_chunks, zero_add]

/-- The gradient of the point's query block. -/
theorem point_dq (h : ReadsAt V c t Q G O L K W) (a : Fin 4) (b : Fin 128) (d : Fin 64) :
    (Gen.outsAt1 V c t.val t.isLt).1 (ix3 a b d)
      = ((∑ j, blkS Q G O L K W (finProdFinEquiv (a, b) : Fin (4 * 128)) j * K j d : ℝ) : EReal) := by
  have key := (dq_rep h (h.rdq 3 Gen.inb_S1x4096x64_S1x1024x64_0_3072_0 (h.rdq 2 Gen.inb_S1x4096x64_S1x1024x64_0_2048_0 (h.rdq 1 Gen.inb_S1x4096x64_S1x1024x64_0_1024_0
    (h.rdq 0 Gen.inb_S1x4096x64_S1x1024x64_0_0_0 Rep.zero))))).toHeads (A := 4) (B := 128) (by decide) a b d
  by_cases h0 : t.val % 32 = 0
  · rw [Gen.outsAt1_A V c t h0]
    frame_open
    frame_out
    exact key
  · rw [Gen.outsAt1_B V c t h0]
    frame_out
    exact key

/-- The array of zeros a group begins with. -/
theorem zero_slab (hc : S4096x64.ShapeCasts S1x4096x64) (j : Fin 4096) (d : Fin 64) :
    (shapeCast S1x4096x64 (constant S4096x64 .f32 0x00000000#32 : FVec Ideal S4096x64 .f32) hc) (ix3 0 j d) = 0 := by
  rw [shapeCast_ab_1ab_apply]
  exact (Rep.zero j d).trans EReal.coe_zero

/-- The first point of a group begins the gradient of the keys. -/
theorem point_dk_first (h : ReadsAt V c t Q G O L K W) (h0 : t.val % 32 = 0) (j : Fin 4096) (d : Fin 64) :
    (Gen.outsAt1 V c t.val t.isLt).2.1 (ix3 0 j d) = 0 + ((∑ i, blkS Q G O L K W i j * rows Q i d : ℝ) : EReal) := by
  have D := fun c hi => tile_step (f := fun j d => ∑ i, blkS Q G O L K W i j * rows Q i d) (Gen.k1_pay3 (F := Ideal)) c hi (h.rdk c hi) Facts₀.shapeCasts_S1x1024x64_S1024x64
    Facts₀.shapeCasts_S1024x64_S1x1024x64
  rw [Gen.outsAt1_A V c t h0]
  frame_open
  simp (disch := decide) only [↓ View.readCov_skip, ↓ View.readCov_cons_toLoadRect, ↓ View.readCov_fill]
  frame_out
  refine (tiles_add (Gen.k1_pay3 (F := Ideal)) (fun j d => ∑ i, blkS Q G O L K W i j * rows Q i d) _ _ _ _ _
    (D 0 Gen.inb_S1x4096x64_S1x1024x64_0_0_0) (D 1 Gen.inb_S1x4096x64_S1x1024x64_0_1024_0)
    (D 2 Gen.inb_S1x4096x64_S1x1024x64_0_2048_0) (D 3 Gen.inb_S1x4096x64_S1x1024x64_0_3072_0) j d).trans ?_
  exact congrArg (· + _) (zero_slab (by decide) j d)

/-- A later point of a group adds to the gradient of the keys. -/
theorem point_dk_next (h : ReadsAt V c t Q G O L K W) (h0 : ¬ t.val % 32 = 0) (j : Fin 4096) (d : Fin 64) :
    (Gen.outsAt1 V c t.val t.isLt).2.1 (ix3 0 j d)
      = (Gen.outsAt1 V c (t.val - 1) (Nat.lt_of_le_of_lt (Nat.sub_le _ _) t.isLt)).2.1 (ix3 0 j d) + ((∑ i, blkS Q G O L K W i j * rows Q i d : ℝ) : EReal) := by
  have D := fun c' hi => tile_step (f := fun j d => ∑ i, blkS Q G O L K W i j * rows Q i d)
    (Gen.outsAt1 V c (t.val - 1) (Nat.lt_of_le_of_lt (Nat.sub_le _ _) t.isLt)).2.1 c' hi (h.rdk c' hi) Facts₀.shapeCasts_S1x1024x64_S1024x64
    Facts₀.shapeCasts_S1024x64_S1x1024x64
  rw [Gen.outsAt1_B V c t h0]
  frame_out
  exact tiles_add _ (fun j d => ∑ i, blkS Q G O L K W i j * rows Q i d) [] _ _ _ _
    (D 0 Gen.inb_S1x4096x64_S1x1024x64_0_0_0) (D 1 Gen.inb_S1x4096x64_S1x1024x64_0_1024_0)
    (D 2 Gen.inb_S1x4096x64_S1x1024x64_0_2048_0) (D 3 Gen.inb_S1x4096x64_S1x1024x64_0_3072_0) j d

/-- The first point of a group begins the gradient of the values. -/
theorem point_dv_first (h : ReadsAt V c t Q G O L K W) (h0 : t.val % 32 = 0) (j : Fin 4096) (d : Fin 64) :
    (Gen.outsAt1 V c t.val t.isLt).2.2 (ix3 0 j d) = 0 + ((∑ i, blkP Q L K i j * rows G i d : ℝ) : EReal) := by
  have D := fun c hi => tile_step (f := fun j d => ∑ i, blkP Q L K i j * rows G i d) (Gen.k1_pay4 (F := Ideal)) c hi (h.rdv c hi) Facts₀.shapeCasts_S1x1024x64_S1024x64
    Facts₀.shapeCasts_S1024x64_S1x1024x64
  rw [Gen.outsAt1_A V c t h0]
  frame_open
  simp (disch := decide) only [↓ View.readCov_skip, ↓ View.readCov_cons_toLoadRect, ↓ View.readCov_fill]
  frame_out
  refine (tiles_add (Gen.k1_pay4 (F := Ideal)) (fun j d => ∑ i, blkP Q L K i j * rows G i d) _ _ _ _ _
    (D 0 Gen.inb_S1x4096x64_S1x1024x64_0_0_0) (D 1 Gen.inb_S1x4096x64_S1x1024x64_0_1024_0)
    (D 2 Gen.inb_S1x4096x64_S1x1024x64_0_2048_0) (D 3 Gen.inb_S1x4096x64_S1x1024x64_0_3072_0) j d).trans ?_
  exact congrArg (· + _) (zero_slab (by decide) j d)

/-- A later point of a group adds to the gradient of the values. -/
theorem point_dv_next (h : ReadsAt V c t Q G O L K W) (h0 : ¬ t.val % 32 = 0) (j : Fin 4096) (d : Fin 64) :
    (Gen.outsAt1 V c t.val t.isLt).2.2 (ix3 0 j d)
      = (Gen.outsAt1 V c (t.val - 1) (Nat.lt_of_le_of_lt (Nat.sub_le _ _) t.isLt)).2.2 (ix3 0 j d) + ((∑ i, blkP Q L K i j * rows G i d : ℝ) : EReal) := by
  have D := fun c' hi => tile_step (f := fun j d => ∑ i, blkP Q L K i j * rows G i d)
    (Gen.outsAt1 V c (t.val - 1) (Nat.lt_of_le_of_lt (Nat.sub_le _ _) t.isLt)).2.2 c' hi (h.rdv c' hi) Facts₀.shapeCasts_S1x1024x64_S1024x64
    Facts₀.shapeCasts_S1024x64_S1x1024x64
  rw [Gen.outsAt1_B V c t h0]
  frame_out
  exact tiles_add _ (fun j d => ∑ i, blkP Q L K i j * rows G i d) [] _ _ _ _
    (D 0 Gen.inb_S1x4096x64_S1x1024x64_0_0_0) (D 1 Gen.inb_S1x4096x64_S1x1024x64_0_1024_0)
    (D 2 Gen.inb_S1x4096x64_S1x1024x64_0_2048_0) (D 3 Gen.inb_S1x4096x64_S1x1024x64_0_3072_0) j d

end Cert.Proof
end
-- ==== Proof.AttnFwd.lean ====
module
public import proofs.«01_k».proof.Proof.FwdBlock
@[expose] public section
set_option maxRecDepth 16384

/-! # The forward kernel's arrays

The forward kernel runs over 4 groups of 4 query heads and 16 blocks of 256 queries. After it the first array holds every query's
attention output and the second the logarithm of its softmax's denominator. -/

noncomputable section
namespace Cert.Proof
open Idealize.ShloMosaic hiding ix3
open Idealize.ShloMosaic.TcCoe Idealize.SL Idealize.SL.Sem Idealize.ShloMosaic.ValueIdx Cert.KernelIdeal

variable (V : (c : Dev nD) → (b : Ref sig .tc) → Buf (Elt Ideal) ((c : Thread nD τ).loc b))

/-- Query head `h` of the stacked heads. -/
def qh (X : Fin 24 → Fin 4096 → Fin 64 → ℝ) (h : Fin 16) : Fin 4096 → Fin 64 → ℝ := X ⟨h.val, by omega⟩
/-- Key head `g` of the stacked heads. -/
def kh (X : Fin 24 → Fin 4096 → Fin 64 → ℝ) (g : Fin 4) : Fin 4096 → Fin 64 → ℝ := X ⟨16 + g.val, by omega⟩
/-- Value head `g` of the stacked heads. -/
def vh (X : Fin 24 → Fin 4096 → Fin 64 → ℝ) (g : Fin 4) : Fin 4096 → Fin 64 → ℝ := X ⟨20 + g.val, by omega⟩
/-- The group whose keys and values query head `h` uses. -/
def grp (h : Fin 16) : Fin 4 := ⟨h.val / 4, by omega⟩

/-- The exponential of the score of query `i` against key `j` in head `h`. -/
def attE (X : Fin 24 → Fin 4096 → Fin 64 → ℝ) (h : Fin 16) (i j : Fin 4096) : ℝ := Real.exp (scores (qh X h) (kh X (grp h)) i j)
/-- The denominator of the softmax. -/
def attZ (X : Fin 24 → Fin 4096 → Fin 64 → ℝ) (h : Fin 16) (i : Fin 4096) : ℝ := ∑ j, attE X h i j
/-- The attention's output. -/
def attO (X : Fin 24 → Fin 4096 → Fin 64 → ℝ) (h : Fin 16) (i : Fin 4096) (d : Fin 64) : ℝ :=
  (∑ j, attE X h i j * vh X (grp h) j d) / attZ X h i

variable (c : Dev nD) (X : Fin 24 → Fin 4096 → Fin 64 → ℝ)

/-- Where each window's block of a grid point lies. -/
theorem idx0 : ∀ t : Fin cfg0.N, win0_0.index t = ![t.val / 16, t.val % 16, 0] ∧ win0_1.index t = ![16 + t.val / 16, 0, 0] ∧
    win0_2.index t = ![20 + t.val / 16, 0, 0] ∧ win0_3.index t = ![t.val / 16, t.val % 16, 0] ∧ win0_4.index t = ![t.val / 16, t.val % 16, 0] := by
  decide +kernel

/-- The grid has 64 points. -/
theorem lt0 (t : Fin cfg0.N) : t.val < 64 := lt_of_lt_of_eq t.isLt Gen.N_0

/-- The group of a point. -/
def g0 (t : Fin cfg0.N) : Fin 4 := ⟨t.val / 16, by have := lt0 t; omega⟩
/-- The query head of row `a` of a point's block. -/
def h0 (t : Fin cfg0.N) (a : Fin 4) : Fin 16 := ⟨t.val / 16 * 4 + a.val, by have := lt0 t; omega⟩
/-- The query of column `b` of a point's block. -/
def i0 (t : Fin cfg0.N) (b : Fin 256) : Fin 4096 := ⟨t.val % 16 * 256 + b.val, by omega⟩

/-- A grid point's heads lie in its group. -/
theorem grp_h0 (t : Fin cfg0.N) (a : Fin 4) : grp (h0 t a) = g0 t := Fin.ext (by show (t.val / 16 * 4 + a.val) / 4 = t.val / 16; omega)

/-- The queries a point reads. -/
theorem read0_q (hX : ∀ h i d, V c main_arg0 (ix3 h i d) = ((X h i d : ℝ) : EReal)) (t : Fin cfg0.N) (a : Fin 4) (b : Fin 256) (d : Fin 64) :
    Gen.iblk0 V c 0 t (ix3 a b d) = ((qh X (h0 t a) (i0 t b) d : ℝ) : EReal) := by
  unfold qh h0
  rw [← hX]
  blk_ext [Gen.iblk0, idx0 t, i0]

/-- The keys a point reads. -/
theorem read0_k (hX : ∀ h i d, V c main_arg0 (ix3 h i d) = ((X h i d : ℝ) : EReal)) (t : Fin cfg0.N) (j : Fin 4096) (d : Fin 64) :
    Gen.iblk0 V c 1 t (ix3 0 j d) = ((kh X (g0 t) j d : ℝ) : EReal) := by
  unfold kh g0
  rw [← hX]
  blk_ext [Gen.iblk0, idx0 t]

/-- The values a point reads. -/
theorem read0_v (hX : ∀ h i d, V c main_arg0 (ix3 h i d) = ((X h i d : ℝ) : EReal)) (t : Fin cfg0.N) (j : Fin 4096) (d : Fin 64) :
    Gen.iblk0 V c 2 t (ix3 0 j d) = ((vh X (g0 t) j d : ℝ) : EReal) := by
  unfold vh g0
  rw [← hX]
  blk_ext [Gen.iblk0, idx0 t]

/-- The scores of a point's rows are those of its heads. -/
theorem scores0 (t : Fin cfg0.N) (a : Fin 4) (b : Fin 256) (j : Fin 4096) :
    scores (rows fun a b => qh X (h0 t a) (i0 t b)) (kh X (g0 t)) (finProdFinEquiv (a, b)) j = scores (qh X (h0 t a)) (kh X (grp (h0 t a))) (i0 t b) j := by
  rw [grp_h0]
  unfold scores rows
  have e := (finProdFinEquiv (m := 4) (n := 256)).symm_apply_apply (a, b)
  rw [show (finProdFinEquiv (a, b)).divNat = a from congrArg Prod.fst e, show (finProdFinEquiv (a, b)).modNat = b from congrArg Prod.snd e]

/-- The array of outputs after the forward kernel. -/
theorem o_array (hX : ∀ h i d, V c main_arg0 (ix3 h i d) = ((X h i d : ℝ) : EReal)) :
    (Gen.dat0 V c).arrAt 3 cfg0.N = fun y : S16x4096x64.Idx => ((attO X (y 0) (y 1) (y 2) : ℝ) : EReal) := by
  refine (Gen.dat0 V c).arrAt_eq_of_covers 3 _ (by decide +kernel) fun t hf y => ?_
  blk_simp
  rw [Gen.after0_3]
  obtain ⟨a, b, d, rfl⟩ : ∃ (a : Fin 4) (b : Fin 256) (d : Fin 64), y = ix3 a b d := ⟨y 0, y 1, y 2, ValueIdx.eq_ix3 (n0 := 4) (n1 := 256) (n2 := 64) y⟩
  have e0 : (win0_3.blk t).view.emb (ix3 a b d) 0 = h0 t a := Fin.ext (by blk_simp [idx0 t]; rfl)
  have e1 : (win0_3.blk t).view.emb (ix3 a b d) 1 = i0 t b := Fin.ext (by blk_simp [idx0 t]; rfl)
  have e2 : (win0_3.blk t).view.emb (ix3 a b d) 2 = d := Fin.ext (by blk_simp [idx0 t]; simp; rfl)
  rw [e0, e1, e2]
  refine ((fwd_rows _ _ _ (read0_q V c X hX t) (read0_k V c X hX t) (read0_v V c X hX t)).1 a b d).trans ?_
  simp only [scores0]
  unfold attO attZ attE
  rw [grp_h0]

/-- The array of the denominators' logarithms after the forward kernel. -/
theorem l_array (hX : ∀ h i d, V c main_arg0 (ix3 h i d) = ((X h i d : ℝ) : EReal)) :
    (Gen.dat0 V c).arrAt 4 cfg0.N = fun y : S16x4096x1.Idx => ((Real.log (attZ X (y 0) (y 1)) : ℝ) : EReal) := by
  refine (Gen.dat0 V c).arrAt_eq_of_covers 4 _ (by decide +kernel) fun t hf y => ?_
  blk_simp
  rw [Gen.after0_4]
  obtain ⟨a, b, rfl⟩ : ∃ (a : Fin 4) (b : Fin 256), y = ix3 a b (0 : Fin 1) := ⟨y 0, y 1, by
    exact (ValueIdx.eq_ix3 (n0 := 4) (n1 := 256) (n2 := 1) y).trans (congrArg (ix3 (n0 := 4) (n1 := 256) (n2 := 1) (y 0) (y 1)) (Subsingleton.elim (α := Fin 1) _ _))⟩
  have e0 : (win0_4.blk t).view.emb (ix3 a b (0 : Fin 1)) 0 = h0 t a := Fin.ext (by blk_simp [idx0 t]; rfl)
  have e1 : (win0_4.blk t).view.emb (ix3 a b (0 : Fin 1)) 1 = i0 t b := Fin.ext (by blk_simp [idx0 t]; rfl)
  rw [e0, e1]
  refine ((fwd_rows _ _ _ (read0_q V c X hX t) (read0_k V c X hX t) (read0_v V c X hX t)).2 a b).trans ?_
  simp only [scores0]
  unfold attZ attE
  rfl

end Cert.Proof
end
-- ==== Proof.AttnBwd.lean ====
module
public import proofs.«01_k».proof.Proof.BwdPoint
public import proofs.«01_k».proof.Proof.AttnFwd
@[expose] public section
set_option maxRecDepth 16384

/-! # The backward kernel's arrays

The backward kernel runs over 4 groups of 4 query heads and 32 blocks of 128 queries. After it one array holds the gradient of every
query, and two hold the gradients of every key and value, summed over the queries of the four heads that use them. -/

noncomputable section
namespace Cert.Proof
open Idealize.ShloMosaic hiding ix3
open Idealize.ShloMosaic.TcCoe Idealize.SL Idealize.SL.Sem Idealize.ShloMosaic.ValueIdx Cert.KernelIdeal

/-- The attention weight of key `j` for query `i` in head `h`, from the saved logarithm of the denominator. -/
def attP (X : Fin 24 → Fin 4096 → Fin 64 → ℝ) (h : Fin 16) (i j : Fin 4096) : ℝ :=
  Real.exp (scores (qh X h) (kh X (grp h)) i j - Real.log (attZ X h i))
/-- The gradient of the score of query `i` against key `j` in head `h`. -/
def attS (X : Fin 24 → Fin 4096 → Fin 64 → ℝ) (D : Fin 16 → Fin 4096 → Fin 64 → ℝ) (h : Fin 16) (i j : Fin 4096) : ℝ :=
  attP X h i j * (scores (D h) (vh X (grp h)) i j - ∑ d, D h i d * attO X h i d)
/-- The gradient of the queries. -/
def attDQ (X : Fin 24 → Fin 4096 → Fin 64 → ℝ) (D : Fin 16 → Fin 4096 → Fin 64 → ℝ) (h : Fin 16) (i : Fin 4096) (d : Fin 64) : ℝ :=
  ∑ j, attS X D h i j * kh X (grp h) j d
/-- Query head `a` of group `g`. -/
def hd (g a : Fin 4) : Fin 16 := ⟨g.val * 4 + a.val, by omega⟩
/-- The gradient of the keys. -/
def attDK (X : Fin 24 → Fin 4096 → Fin 64 → ℝ) (D : Fin 16 → Fin 4096 → Fin 64 → ℝ) (g : Fin 4) (j : Fin 4096) (d : Fin 64) : ℝ :=
  ∑ a, ∑ i, attS X D (hd g a) i j * qh X (hd g a) i d
/-- The gradient of the values. -/
def attDV (X : Fin 24 → Fin 4096 → Fin 64 → ℝ) (D : Fin 16 → Fin 4096 → Fin 64 → ℝ) (g : Fin 4) (j : Fin 4096) (d : Fin 64) : ℝ :=
  ∑ a, ∑ i, attP X (hd g a) i j * D (hd g a) i d

variable (V : (c : Dev nD) → (b : Ref sig .tc) → Buf (Elt Ideal) ((c : Thread nD τ).loc b))
variable (c : Dev nD) (X : Fin 24 → Fin 4096 → Fin 64 → ℝ) (D : Fin 16 → Fin 4096 → Fin 64 → ℝ)

/-- Where each window's block of a grid point lies. -/
theorem idx1 : ∀ t : Fin cfg1.N, win1_0.index t = ![t.val / 32, t.val % 32, 0] ∧ win1_1.index t = ![16 + t.val / 32, 0, 0] ∧
    win1_2.index t = ![20 + t.val / 32, 0, 0] ∧ win1_3.index t = ![t.val / 32, t.val % 32, 0] ∧ win1_4.index t = ![t.val / 32, t.val % 32, 0] ∧
    win1_5.index t = ![t.val / 32, t.val % 32, 0] ∧ win1_6.index t = ![t.val / 32, t.val % 32, 0] ∧ win1_7.index t = ![t.val / 32, 0, 0] ∧
    win1_8.index t = ![t.val / 32, 0, 0] := by
  decide +kernel

/-- The grid has 128 points. -/
theorem lt1 (t : Fin cfg1.N) : t.val < 128 := lt_of_lt_of_eq t.isLt Gen.N_1

/-- The group of a point. -/
def g1 (t : Fin cfg1.N) : Fin 4 := ⟨t.val / 32, by have := lt1 t; omega⟩
/-- The query of column `b` of a point's block. -/
def i1 (t : Fin cfg1.N) (b : Fin 128) : Fin 4096 := ⟨t.val % 32 * 128 + b.val, by omega⟩

/-- A head of a group lies in the group. -/
theorem grp_hd (g a : Fin 4) : grp (hd g a) = g := Fin.ext (by show (g.val * 4 + a.val) / 4 = g.val; omega)

/-- What the arrays of the backward kernel hold when it begins. -/
structure Entry : Prop where
  x : ∀ h i d, V c main_arg0 (ix3 h i d) = ((X h i d : ℝ) : EReal)
  d : ∀ h i d, V c main_arg1 (ix3 h i d) = ((D h i d : ℝ) : EReal)
  o : ∀ h i d, V c main_v0_0 (ix3 h i d) = ((attO X h i d : ℝ) : EReal)
  l : ∀ h i, V c main_v0_1 (ix3 h i (0 : Fin 1)) = ((Real.log (attZ X h i) : ℝ) : EReal)

variable {V c X D} (E : Entry V c X D)
include E

/-- What a point reads. -/
theorem reads1 (t : Fin cfg1.N) : ReadsAt V c t (fun a b => qh X (hd (g1 t) a) (i1 t b)) (fun a b => D (hd (g1 t) a) (i1 t b))
    (fun a b => attO X (hd (g1 t) a) (i1 t b)) (fun a b => Real.log (attZ X (hd (g1 t) a) (i1 t b))) (kh X (g1 t)) (vh X (g1 t)) where
  q a b d := by unfold qh hd g1; rw [← E.x]; blk_ext [Gen.iblk1, idx1 t, i1]
  k j d := by unfold kh g1; rw [← E.x]; blk_ext [Gen.iblk1, idx1 t]
  w j d := by unfold vh g1; rw [← E.x]; blk_ext [Gen.iblk1, idx1 t]
  o a b d := by unfold hd g1; rw [← E.o]; blk_ext [Gen.iblk1, idx1 t, i1]
  l a b := by unfold hd g1; rw [← E.l]; blk_ext [Gen.iblk1, idx1 t, i1]
  g a b d := by unfold hd g1; rw [← E.d]; blk_ext [Gen.iblk1, idx1 t, i1]

omit E in
/-- The attention weights of a point's rows. -/
theorem blkP1 (t : Fin cfg1.N) (i : Fin 512) (j : Fin 4096) :
    blkP (fun a b => qh X (hd (g1 t) a) (i1 t b)) (fun a b => Real.log (attZ X (hd (g1 t) a) (i1 t b))) (kh X (g1 t)) i j
      = attP X (hd (g1 t) (Fin.divNat (m := 4) (n := 128) i)) (i1 t (Fin.modNat (m := 4) (n := 128) i)) j := by
  unfold attP
  rw [grp_hd]
  rfl

omit E in
/-- The gradients of the scores of a point's rows. -/
theorem blkS1 (t : Fin cfg1.N) (i : Fin 512) (j : Fin 4096) :
    blkS (fun a b => qh X (hd (g1 t) a) (i1 t b)) (fun a b => D (hd (g1 t) a) (i1 t b)) (fun a b => attO X (hd (g1 t) a) (i1 t b))
        (fun a b => Real.log (attZ X (hd (g1 t) a) (i1 t b))) (kh X (g1 t)) (vh X (g1 t)) i j
      = attS X D (hd (g1 t) (Fin.divNat (m := 4) (n := 128) i)) (i1 t (Fin.modNat (m := 4) (n := 128) i)) j := by
  unfold blkS attS
  rw [blkP1, grp_hd]
  rfl

omit E in
/-- A sum over a group's points and their rows is a sum over the group's heads and all queries. -/
theorem sum_group (φ : Fin 4 → Fin 4096 → ℝ) (u : Fin 32 → Fin 128 → Fin 4096) (hu : ∀ s b, (u s b).val = s.val * 128 + b.val) :
    ∑ s : Fin 32, ∑ i : Fin 512, φ (Fin.divNat (m := 4) (n := 128) i) (u s (Fin.modNat (m := 4) (n := 128) i)) = ∑ a, ∑ l, φ a l := by
  have e : ∀ s : Fin 32, ∑ i : Fin 512, φ (Fin.divNat (m := 4) (n := 128) i) (u s (Fin.modNat (m := 4) (n := 128) i))
      = ∑ a : Fin 4, ∑ b : Fin 128, φ a (u s b) := fun s => by
    rw [← Fintype.sum_prod_type (f := fun p : Fin 4 × Fin 128 => φ p.1 (u s p.2))]
    exact Equiv.sum_comp (finProdFinEquiv (m := 4) (n := 128)).symm fun p => φ p.1 (u s p.2)
  simp only [e]
  rw [Finset.sum_comm]
  refine Finset.sum_congr rfl fun a _ => ?_
  exact Fin.sum_mul_add_congr fun s b hl => congrArg (φ a) (Fin.ext (hu s b))

/-- The array of the queries' gradients. -/
theorem dq_array : (Gen.dat1 V c).arrAt 6 cfg1.N = fun y : S16x4096x64.Idx => ((attDQ X D (y 0) (y 1) (y 2) : ℝ) : EReal) := by
  refine (Gen.dat1 V c).arrAt_eq_of_covers 6 _ (by decide +kernel) fun t hf y => ?_
  blk_simp
  rw [Gen.after1_6]
  obtain ⟨a, b, d, rfl⟩ : ∃ (a : Fin 4) (b : Fin 128) (d : Fin 64), y = ix3 a b d := ⟨y 0, y 1, y 2, ValueIdx.eq_ix3 (n0 := 4) (n1 := 128) (n2 := 64) y⟩
  have e0 : (win1_6.blk t).view.emb (ix3 a b d) 0 = hd (g1 t) a := Fin.ext (by blk_simp [idx1 t]; rfl)
  have e1 : (win1_6.blk t).view.emb (ix3 a b d) 1 = i1 t b := Fin.ext (by blk_simp [idx1 t]; rfl)
  have e2 : (win1_6.blk t).view.emb (ix3 a b d) 2 = d := Fin.ext (by blk_simp [idx1 t]; simp; rfl)
  rw [e0, e1, e2]
  refine (point_dq (reads1 E t) a b d).trans ?_
  simp only [blkS1]
  have e := (finProdFinEquiv (m := 4) (n := 128)).symm_apply_apply (a, b)
  rw [show (finProdFinEquiv (a, b)).divNat = a from congrArg Prod.fst e, show (finProdFinEquiv (a, b)).modNat = b from congrArg Prod.snd e]
  unfold attDQ
  rw [grp_hd]

/-- The gradients of a group's keys after its last point: the sum over its points. -/
theorem dk_run (t : Fin cfg1.N) (ht : t.val % 32 = 31) (j : Fin 4096) (d : Fin 64) :
    (Gen.outsAt1 V c t.val t.isLt).2.1 (ix3 0 j d) = ((attDK X D (g1 t) j d : ℝ) : EReal) := by
  refine (Pipeline.eq_sum_fin_of_reset_step_apply_of_flush (ι := Fin 4096 × Fin 64) (fun n h p => (Gen.outsAt1 V c n h).2.1 (ix3 0 p.1 p.2)) 32 (fun _ => (0 : EReal)) _
    (fun t h p => point_dk_first (reads1 E t) h p.1 p.2) (fun t h p => point_dk_next (reads1 E t) h p.1 p.2) t ht (j, d)).trans ?_
  rw [zero_add, ← coe_sum]
  refine congrArg _ ?_
  simp only [rows, blkS1]
  unfold attDK
  have eg : ∀ (s : Fin 32) (h : 32 * (t.val / 32) + s.val < cfg1.N), g1 ⟨32 * (t.val / 32) + s.val, h⟩ = g1 t := fun s h => Fin.ext (by
    show (32 * (t.val / 32) + s.val) / 32 = t.val / 32; omega)
  simp only [eg]
  exact sum_group (fun a l => attS X D (hd (g1 t) a) l j * qh X (hd (g1 t) a) l d) (fun s b => i1 ⟨32 * (t.val / 32) + s.val, Pipeline.run_point_lt_of_flush t ht s⟩ b)
    (fun s b => by show (32 * (t.val / 32) + s.val) % 32 * 128 + b.val = s.val * 128 + b.val; omega)

/-- The array of the keys' gradients. -/
theorem dk_array : (Gen.dat1 V c).arrAt 7 cfg1.N = fun y : S4x4096x64.Idx => ((attDK X D (y 0) (y 1) (y 2) : ℝ) : EReal) := by
  refine (Gen.dat1 V c).arrAt_eq_of_covers 7 _ (by decide +kernel) fun t hf y => ?_
  blk_simp
  rw [Gen.after1_7]
  obtain ⟨j, d, rfl⟩ : ∃ (j : Fin 4096) (d : Fin 64), y = ix3 (0 : Fin 1) j d := ⟨y 1, y 2,
    (ValueIdx.eq_ix3 (n0 := 1) (n1 := 4096) (n2 := 64) y).trans (congrArg (fun u => ix3 (n0 := 1) (n1 := 4096) (n2 := 64) u (y 1) (y 2)) (Subsingleton.elim (α := Fin 1) _ _))⟩
  have e0 : (win1_7.blk t).view.emb (ix3 (0 : Fin 1) j d) 0 = g1 t := Fin.ext (by blk_simp [idx1 t]; simp; rfl)
  have e1 : (win1_7.blk t).view.emb (ix3 (0 : Fin 1) j d) 1 = j := Fin.ext (by blk_simp [idx1 t]; simp; rfl)
  have e2 : (win1_7.blk t).view.emb (ix3 (0 : Fin 1) j d) 2 = d := Fin.ext (by blk_simp [idx1 t]; simp; rfl)
  rw [e0, e1, e2]
  exact dk_run E t ((Gen.flush1_7 t).mp hf) j d

/-- The gradients of a group's values after its last point: the sum over its points. -/
theorem dv_run (t : Fin cfg1.N) (ht : t.val % 32 = 31) (j : Fin 4096) (d : Fin 64) :
    (Gen.outsAt1 V c t.val t.isLt).2.2 (ix3 0 j d) = ((attDV X D (g1 t) j d : ℝ) : EReal) := by
  refine (Pipeline.eq_sum_fin_of_reset_step_apply_of_flush (ι := Fin 4096 × Fin 64) (fun n h p => (Gen.outsAt1 V c n h).2.2 (ix3 0 p.1 p.2)) 32 (fun _ => (0 : EReal)) _
    (fun t h p => point_dv_first (reads1 E t) h p.1 p.2) (fun t h p => point_dv_next (reads1 E t) h p.1 p.2) t ht (j, d)).trans ?_
  rw [zero_add, ← coe_sum]
  refine congrArg _ ?_
  simp only [rows, blkP1]
  unfold attDV
  have eg : ∀ (s : Fin 32) (h : 32 * (t.val / 32) + s.val < cfg1.N), g1 ⟨32 * (t.val / 32) + s.val, h⟩ = g1 t := fun s h => Fin.ext (by
    show (32 * (t.val / 32) + s.val) / 32 = t.val / 32; omega)
  simp only [eg]
  exact sum_group (fun a l => attP X (hd (g1 t) a) l j * D (hd (g1 t) a) l d) (fun s b => i1 ⟨32 * (t.val / 32) + s.val, Pipeline.run_point_lt_of_flush t ht s⟩ b)
    (fun s b => by show (32 * (t.val / 32) + s.val) % 32 * 128 + b.val = s.val * 128 + b.val; omega)

/-- The array of the values' gradients. -/
theorem dv_array : (Gen.dat1 V c).arrAt 8 cfg1.N = fun y : S4x4096x64.Idx => ((attDV X D (y 0) (y 1) (y 2) : ℝ) : EReal) := by
  refine (Gen.dat1 V c).arrAt_eq_of_covers 8 _ (by decide +kernel) fun t hf y => ?_
  blk_simp
  rw [Gen.after1_8]
  obtain ⟨j, d, rfl⟩ : ∃ (j : Fin 4096) (d : Fin 64), y = ix3 (0 : Fin 1) j d := ⟨y 1, y 2,
    (ValueIdx.eq_ix3 (n0 := 1) (n1 := 4096) (n2 := 64) y).trans (congrArg (fun u => ix3 (n0 := 1) (n1 := 4096) (n2 := 64) u (y 1) (y 2)) (Subsingleton.elim (α := Fin 1) _ _))⟩
  have e0 : (win1_8.blk t).view.emb (ix3 (0 : Fin 1) j d) 0 = g1 t := Fin.ext (by blk_simp [idx1 t]; simp; rfl)
  have e1 : (win1_8.blk t).view.emb (ix3 (0 : Fin 1) j d) 1 = j := Fin.ext (by blk_simp [idx1 t]; simp; rfl)
  have e2 : (win1_8.blk t).view.emb (ix3 (0 : Fin 1) j d) 2 = d := Fin.ext (by blk_simp [idx1 t]; simp; rfl)
  rw [e0, e1, e2]
  exact dv_run E t ((Gen.flush1_8 t).mp hf) j d

end Cert.Proof
end
-- ==== Proof.Run.lean ====
module

public import proofs.«01_k».proof.Proof.AttnBwd
public import proofs.«01_k».proof.Proof.Gen.KernelIdeal.Frame

@[expose] public section

/-!
# What the kernel leaves in its arrays

The kernel is two regions, the attention's forward pass and its backward pass. Its launch leaves every array at the
contents after the second region; from there each result is the array of a window of one of the two regions.
-/

set_option maxRecDepth 16384

noncomputable section

namespace Cert.Proof

open Idealize.ShloMosaic hiding ix3 ix4
open Idealize.ShloMosaic.TcCoe Idealize.SL Idealize.SL.RA Idealize.SL.BI Idealize.SL.Sem Idealize.ShloMosaic.ValueIdx Cert.KernelIdeal
open scoped Idealize.SL.BI
open Idealize.ShloMosaic.Rounds
open Idealize.SL.BI.BIBase Idealize.SL.BI.Laws Idealize.SL.ProofMode

variable (m : (ℓ : Loc nD τ sig) → Buf (Elt Ideal) ℓ) (ρ : Dev nD → PrngReg)

local notation "World" => MT nD τ sig Unit (Elt Ideal) ℕ (UR sig nD τ) ℕ

set_option backward.isDefEq.respectTransparency.types false in
/-- Every execution ends with each array at its contents after the second region. -/
theorem run_arrays : θ_run defs (onTc (τ := τ) (main (F := Ideal))) ⟨m, fun _ => 0, ρ⟩ (fun r =>
      ∀ (c : Dev nD), ∀ b ∈ Pipeline.ucRefs τ sig, r.2.mem ((c : Thread nD τ).1, b) = Gen.W2 m ρ c b) :=
  Pipeline.θ_run_regions_kit_sems (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Htok
      imodintro
      isplitl [Htok]
      · iapply (show (ownU (initOf (Pipeline.cells cfgs Gen.cellOf_inj) (Pipeline.launchToks cfgs Gen.cellOf_inj)) : sProp World)
            ⊢ BI.own (emb₁ (initOf (Pipeline.cells cfgs Gen.cellOf_inj) (Pipeline.launchToks cfgs Gen.cellOf_inj))) from .rfl)
        iexact Htok
      · iapply (show (BI.emp : sProp World) ⊢ bigSep Finset.univ (fun _ : Dev nD => (BI.emp : sProp World)) from by rw [BI.bigSep_emp_const])
        iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hbuf, -, Howe, -, Hreg, -⟩, -⟩
      imodintro
      isplitl [Hbuf]
      · iexact Hbuf
      isplitl [Hreg]
      · iexists _; iexact Hreg
      · iexists ∅; iexact Howe)
    (QY := fun c s => ∀ b ∈ Pipeline.ucRefs τ sig, s.mem (((c : Thread nD τ)).1, b) = Gen.W2 m ρ c b)
    (hfin := fun c s' => by
      iintro ⟨⟨Hbuf, -⟩, HSI⟩
      unfold StableHlo.held
      imodintro
      iapply (pointsTo_read_all (Pipeline.ucRefs τ sig) (fun b => (((c : Thread nD τ)).1, b)) (Gen.W2 m ρ c) s')
      isplitl [Hbuf] <;> iassumption)
    (hQ := fun s h _ => h)

section
variable {X : Fin 24 → Fin 4096 → Fin 64 → ℝ} {D : Fin 16 → Fin 4096 → Fin 64 → ℝ} {c : Dev nD}
variable (hX : ∀ h i d, m ((c.tc : Thread nD τ).loc main_arg0) (ix3 h i d) = ((X h i d : ℝ) : EReal))
include hX

/-- After the first region the attention's output is in its array. -/
theorem w1_o : Gen.W1 m ρ c (Proc.devRef .tc main_v0_0) = fun y : S16x4096x64.Idx => ((attO X (y 0) (y 1) (y 2) : ℝ) : EReal) :=
  (Gen.W1_arr m ρ c 3).trans (o_array (Gen.V0 m ρ) c X hX)

/-- After the first region the logarithms of the softmax denominators are in theirs. -/
theorem w1_l : Gen.W1 m ρ c (Proc.devRef .tc main_v0_1) = fun y : S16x4096x1.Idx => ((Real.log (attZ X (y 0) (y 1)) : ℝ) : EReal) :=
  (Gen.W1_arr m ρ c 4).trans (l_array (Gen.V0 m ρ) c X hX)

variable (hD : ∀ h i d, m ((c.tc : Thread nD τ).loc main_arg1) (ix3 h i d) = ((D h i d : ℝ) : EReal))
include hD

/-- What the second region finds in its arrays. -/
theorem entry : Entry (Gen.V1 m ρ) c X D where
  x h i d := (congrFun (Gen.W1_args m ρ c main_arg0 (by decide)) _).trans (hX h i d)
  d h i d := (congrFun (Gen.W1_args m ρ c main_arg1 (by decide)) _).trans (hD h i d)
  o h i d := congrFun (w1_o m ρ hX) (ix3 h i d)
  l h i := congrFun (w1_l m ρ hX) (ix3 h i (0 : Fin 1))

/-- The attention's output stays where the first region left it. -/
theorem w2_o : Gen.W2 m ρ c (Proc.devRef .tc main_v0_0) = fun y : S16x4096x64.Idx => ((attO X (y 0) (y 1) (y 2) : ℝ) : EReal) :=
  (Gen.W2_of m ρ c main_v0_0 (by decide +kernel)).trans (w1_o m ρ hX)

/-- The gradient of the queries. -/
theorem w2_dq : Gen.W2 m ρ c (Proc.devRef .tc main_v1_0) = fun y : S16x4096x64.Idx => ((attDQ X D (y 0) (y 1) (y 2) : ℝ) : EReal) :=
  (Gen.W2_arr m ρ c 6).trans (dq_array (entry m ρ hX hD))

/-- The gradient of the keys. -/
theorem w2_dk : Gen.W2 m ρ c (Proc.devRef .tc main_v1_1) = fun y : S4x4096x64.Idx => ((attDK X D (y 0) (y 1) (y 2) : ℝ) : EReal) :=
  (Gen.W2_arr m ρ c 7).trans (dk_array (entry m ρ hX hD))

/-- The gradient of the values. -/
theorem w2_dv : Gen.W2 m ρ c (Proc.devRef .tc main_v1_2) = fun y : S4x4096x64.Idx => ((attDV X D (y 0) (y 1) (y 2) : ℝ) : EReal) :=
  (Gen.W2_arr m ρ c 8).trans (dv_array (entry m ρ hX hD))
end

/-- What a real argument pair makes of the kernel's results. -/
theorem run_values (X : Dev nD → Fin 24 → Fin 4096 → Fin 64 → ℝ) (D : Dev nD → Fin 16 → Fin 4096 → Fin 64 → ℝ)
    (hX : ∀ (c : Dev nD) h i d, m ((c.tc : Thread nD τ).loc main_arg0) (ix3 h i d) = ((X c h i d : ℝ) : EReal))
    (hD : ∀ (c : Dev nD) h i d, m ((c.tc : Thread nD τ).loc main_arg1) (ix3 h i d) = ((D c h i d : ℝ) : EReal)) :
    θ_run defs (onTc (τ := τ) (main (F := Ideal))) ⟨m, fun _ => 0, ρ⟩ (fun r => ∀ c : Dev nD,
      (r.2.mem ((c.tc : Thread nD τ).loc main_v0_0) = fun y : S16x4096x64.Idx => ((attO (X c) (y 0) (y 1) (y 2) : ℝ) : EReal))
      ∧ (r.2.mem ((c.tc : Thread nD τ).loc main_v1_0) = fun y : S16x4096x64.Idx => ((attDQ (X c) (D c) (y 0) (y 1) (y 2) : ℝ) : EReal))
      ∧ (r.2.mem ((c.tc : Thread nD τ).loc main_v1_1) = fun y : S4x4096x64.Idx => ((attDK (X c) (D c) (y 0) (y 1) (y 2) : ℝ) : EReal))
      ∧ (r.2.mem ((c.tc : Thread nD τ).loc main_v1_2) = fun y : S4x4096x64.Idx => ((attDV (X c) (D c) (y 0) (y 1) (y 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (Gen.mem_uc main_v0_0 (by decide))).trans (w2_o m ρ (hX c) (hD c)),
     (h c _ (Gen.mem_uc main_v1_0 (by decide))).trans (w2_dq m ρ (hX c) (hD c)),
     (h c _ (Gen.mem_uc main_v1_1 (by decide))).trans (w2_dk m ρ (hX c) (hD c)),
     (h c _ (Gen.mem_uc main_v1_2 (by decide))).trans (w2_dv m ρ (hX c) (hD c)),
     (h c _ (Gen.mem_uc main_arg0 (by decide))).trans (Gen.W2_main_arg0 m ρ c),
     (h c _ (Gen.mem_uc main_arg1 (by decide))).trans (Gen.W2_main_arg1 m ρ c)⟩) (run_arrays m ρ)

end Cert.Proof

end
-- ==== Proof.Ref.lean ====
module
public import proofs.«01_k».proof.Proof.AttnBwd
public import proofs.«01_k».proof.Proof.Gen.ReferenceIdeal.Read
public import Idealize.ShloMosaic.Lib.TwoAxisContraction
@[expose] public section
set_option maxRecDepth 16384

/-! # What the reference computes, among the reals

The reference's intermediate arrays read one by one at real arguments, up to its four results. -/

noncomputable section
namespace Cert.Proof
open Idealize.ShloMosaic hiding ix3 ix4
open Idealize.ShloMosaic.TcCoe Idealize.SL Idealize.SL.Sem Idealize.ShloMosaic.ValueIdx Cert.ReferenceIdeal Cert.ReferenceIdeal.Read

/-- The quotient of two reals, the divisor not zero. -/
theorem div_real (x y : ℝ) (hy : y ≠ 0) : Ideal.div (x : EReal) (y : EReal) = ((x / y : ℝ) : EReal) := by
  rw [Ideal.div_coe hy, ← EReal.coe_mul, mul_one_div]

/-- The word of a zero. -/
theorem word_zero : (FloatOps.ofBits (F := Ideal) .f32 0x00000000#32 : EReal) = 0 := by
  show Ideal.ofBits .f32 0x00000000#32 = 0
  simp [Ideal.ofBits, Ideal.ieee]

/-- The word of a one. -/
theorem word_one : (FloatOps.ofBits (F := Ideal) .f32 0x3F800000#32 : EReal) = ((1 : ℝ) : EReal) := by
  show Ideal.ofBits .f32 0x3F800000#32 = _
  simp [Ideal.ofBits, Ideal.ieee]
  exact_mod_cast (by norm_num : (8388608 : ℝ) * (2 ^ 23)⁻¹ = 1)

/-- The word of minus infinity. -/
theorem word_bot : (FloatOps.ofBits (F := Ideal) .f32 0xFF800000#32 : EReal) = ⊥ := by
  show Ideal.ofBits .f32 0xFF800000#32 = ⊥
  simp [Ideal.ofBits, Ideal.ieee]

/-- The maximum of some reals, taken from minus infinity, is a real. -/
theorem fold_max_real {ι : Type} (s : Finset ι) (f : ι → EReal) (hs : s.Nonempty) (hf : ∀ i, ∃ r : ℝ, f i = r) : ∃ r : ℝ, s.fold max ⊥ f = r := by
  rcases Rep.fold_max s ⊥ f hf with e | e
  · obtain ⟨i, hi⟩ := hs
    obtain ⟨r, hr⟩ := hf i
    have h : f i ≤ s.fold max ⊥ f := (Finset.le_fold_max _).mpr (.inr ⟨i, hi, le_rfl⟩)
    rw [e, hr] at h
    exact absurd (le_bot_iff.mp h) (EReal.coe_ne_bot r)
  · exact e

variable {x0 : (⟨S24x4096x64, .bf16⟩ : BufTy).Contents (Elt Ideal)} {x1 : (⟨S16x4096x64, .bf16⟩ : BufTy).Contents (Elt Ideal)}
  {X : Fin 24 → Fin 4096 → Fin 64 → ℝ} {D : Fin 16 → Fin 4096 → Fin 64 → ℝ}

section
variable (hX : ∀ h i d, x0 (ix3 h i d) = ((X h i d : ℝ) : EReal))
include hX

/-- The queries, head `a` of group `g`. -/
theorem ref_q (g a : Fin 4) (i : Fin 4096) (d : Fin 64) : val_main_v6 (F := Ideal) x0 (ix4 g a i d) = ((qh X (hd g a) i d : ℝ) : EReal) := by
  rw [val_main_v6_apply]
  have e : idx_main_v6 (ix4 g a i d) = ix3 (hd g a) i d := by
    funext k
    match k with
    | ⟨0, _⟩ => exact Fin.ext (by show (((g.val * 4 + a.val) * 4096 + i.val) * 64 + d.val) / 262144 = g.val * 4 + a.val; omega)
    | ⟨1, _⟩ => exact Fin.ext (by show (((g.val * 4 + a.val) * 4096 + i.val) * 64 + d.val) / 64 % 4096 = i.val; omega)
    | ⟨2, _⟩ => exact Fin.ext (by show (((g.val * 4 + a.val) * 4096 + i.val) * 64 + d.val) % 64 = d.val; omega)
  rw [e]
  show val_main_v0 (F := Ideal) x0 (ix3 (hd g a) i d) = _
  rw [val_main_v0_apply]
  unfold qh
  rw [← hX]
  exact congrArg x0 (by funext k; match k with | ⟨0, _⟩ => rfl | ⟨1, _⟩ => rfl | ⟨2, _⟩ => rfl)

/-- The keys. -/
theorem ref_k (g : Fin 4) (j : Fin 4096) (d : Fin 64) : val_main_v3 (F := Ideal) x0 (ix3 g j d) = ((kh X g j d : ℝ) : EReal) := by
  show val_main_v2 (F := Ideal) x0 (ix3 g j d) = _
  rw [val_main_v2_apply]
  unfold kh
  rw [← hX]
  exact congrArg x0 (by funext k; match k with | ⟨0, _⟩ => rfl | ⟨1, _⟩ => rfl | ⟨2, _⟩ => rfl)

/-- The values. -/
theorem ref_v (g : Fin 4) (j : Fin 4096) (d : Fin 64) : val_main_v5 (F := Ideal) x0 (ix3 g j d) = ((vh X g j d : ℝ) : EReal) := by
  show val_main_v4 (F := Ideal) x0 (ix3 g j d) = _
  rw [val_main_v4_apply]
  unfold vh
  rw [← hX]
  exact congrArg x0 (by funext k; match k with | ⟨0, _⟩ => rfl | ⟨1, _⟩ => rfl | ⟨2, _⟩ => rfl)

/-- The scores. -/
theorem ref_s (g a : Fin 4) (i j : Fin 4096) : val_main_v7 (F := Ideal) x0 (ix4 g a i j) = ((scores (qh X (hd g a)) (kh X g) i j : ℝ) : EReal) := by
  rw [val_main_v7_apply]
  unfold scores
  rw [coe_sum]
  refine Finset.sum_congr rfl fun d _ => ?_
  have e1 : lidx_main_v7 (ix4 g a i j) d = ix4 g a i d := by funext k; match k with | ⟨0, _⟩ => rfl | ⟨1, _⟩ => rfl | ⟨2, _⟩ => rfl | ⟨3, _⟩ => rfl
  have e2 : ridx_main_v7 (ix4 g a i j) d = ix3 g j d := by funext k; match k with | ⟨0, _⟩ => rfl | ⟨1, _⟩ => rfl | ⟨2, _⟩ => rfl
  rw [e1, e2, ref_q hX, ref_k hX, EReal.coe_mul]

/-- The reference shifts each row of scores by some real before the exponential. -/
theorem ref_max (g a : Fin 4) (i : Fin 4096) : ∃ M : ℝ, val_main_v15 (F := Ideal) x0 (ix3 g a i) = M := by
  rw [val_main_v15_apply, val_main_v14_apply, val_main_cst_1_apply, word_bot]
  show ∃ M : ℝ, max ⊥ (val_main_v8 (F := Ideal) x0 (ix3 g a i)) = M
  rw [max_eq_right bot_le]
  unfold val_main_v8
  rw [Host.reduce_eq_fold, val_main_cst_apply, word_bot]
  refine fold_max_real _ _ ⟨ix4 g a i 0, ?_⟩ fun y => ?_
  · rw [Finset.mem_filter]
    refine ⟨Finset.mem_univ _, ?_⟩
    funext k
    match k with
    | ⟨0, _⟩ => rfl
    | ⟨1, _⟩ => rfl
    | ⟨2, _⟩ => rfl
  · obtain ⟨g, a, i, j, rfl⟩ : ∃ (g a : Fin 4) (i j : Fin 4096), y = ix4 g a i j := ⟨y 0, y 1, y 2, y 3, ValueIdx.eq_ix4 (n0 := 4) (n1 := 4) (n2 := 4096) (n3 := 4096) y⟩
    exact ⟨_, ref_s hX g a i j⟩

/-- The exponential of the shifted scores. -/
theorem ref_e (g a : Fin 4) (i : Fin 4096) {M : ℝ} (hM : val_main_v15 (F := Ideal) x0 (ix3 g a i) = M) (j : Fin 4096) :
    val_main_v28 (F := Ideal) x0 (ix4 g a i j) = ((attE X (hd g a) i j / Real.exp M : ℝ) : EReal) := by
  rw [val_main_v28_apply, val_main_v27_apply, val_main_v26_apply, val_main_v25_apply]
  have e : idx_main_v25 (idx_main_v26 (ix4 g a i j)) = ix3 g a i := by funext k; match k with | ⟨0, _⟩ => rfl | ⟨1, _⟩ => rfl | ⟨2, _⟩ => rfl
  rw [e, hM, ref_s hX]
  show Ideal.exp (((scores (qh X (hd g a)) (kh X g) i j : ℝ) : EReal) - (M : EReal)) = _
  rw [← EReal.coe_sub, Ideal.exp_coe, Real.exp_sub]
  unfold attE
  rw [grp_hd]

/-- The row sums of the shifted exponentials. -/
theorem ref_z (g a : Fin 4) (i : Fin 4096) {M : ℝ} (hM : val_main_v15 (F := Ideal) x0 (ix3 g a i) = M) :
    val_main_v29 (F := Ideal) x0 (ix3 g a i) = ((attZ X (hd g a) i / Real.exp M : ℝ) : EReal) := by
  rw [val_main_v29_apply, val_main_cst_7_apply, word_zero, zero_add]
  unfold attZ
  rw [Finset.sum_div, coe_sum]
  refine Finset.sum_congr rfl fun j _ => ?_
  have e : idx_main_v29 (ix3 g a i) j = ix4 g a i j := by funext k; match k with | ⟨0, _⟩ => rfl | ⟨1, _⟩ => rfl | ⟨2, _⟩ => rfl | ⟨3, _⟩ => rfl
  rw [e, ref_e hX g a i hM j]

omit hX in
/-- The sum of a row's exponentials is positive. -/
theorem attZ_pos (h : Fin 16) (i : Fin 4096) : 0 < attZ X h i :=
  Finset.sum_pos (fun _ _ => Real.exp_pos _) ⟨0, Finset.mem_univ _⟩

omit hX in
/-- The attention weight is the exponential of the score over the denominator. -/
theorem attP_eq (h : Fin 16) (i j : Fin 4096) : attP X h i j = attE X h i j / attZ X h i := by
  unfold attP attE
  rw [Real.exp_sub, Real.exp_log (attZ_pos h i)]

/-- The row sums, kept as a column. -/
theorem ref_z30 (g a : Fin 4) (i : Fin 4096) {M : ℝ} (hM : val_main_v15 (F := Ideal) x0 (ix3 g a i) = M) :
    val_main_v30 (F := Ideal) x0 (ix4 g a i (0 : Fin 1)) = ((attZ X (hd g a) i / Real.exp M : ℝ) : EReal) := by
  rw [val_main_v30_apply]
  have e : idx_main_v30 (ix4 g a i (0 : Fin 1)) = ix3 g a i := by funext k; match k with | ⟨0, _⟩ => rfl | ⟨1, _⟩ => rfl | ⟨2, _⟩ => rfl
  rw [e, ref_z hX g a i hM]

/-- The attention weights. -/
theorem ref_p (g a : Fin 4) (i j : Fin 4096) : val_main_v32 (F := Ideal) x0 (ix4 g a i j) = ((attP X (hd g a) i j : ℝ) : EReal) := by
  obtain ⟨M, hM⟩ := ref_max hX g a i
  rw [val_main_v32_apply, val_main_v31_apply]
  have e : idx_main_v31 (ix4 g a i j) = ix4 g a i (0 : Fin 1) := by funext k; match k with | ⟨0, _⟩ => rfl | ⟨1, _⟩ => rfl | ⟨2, _⟩ => rfl | ⟨3, _⟩ => rfl
  rw [e, ref_z30 hX g a i hM, ref_e hX g a i hM]
  have hz := attZ_pos (X := X) (hd g a) i
  have hm := Real.exp_pos M
  refine (div_real _ _ (by positivity)).trans ?_
  rw [attP_eq]
  refine congrArg Real.toEReal ?_
  field_simp

/-- The attention's output. -/
theorem ref_o (h : Fin 16) (i : Fin 4096) (d : Fin 64) : val_main_v38 (F := Ideal) x0 (ix3 h i d) = ((attO X h i d : ℝ) : EReal) := by
  show val_main_v37 (F := Ideal) x0 (ix3 h i d) = _
  rw [val_main_v37_apply]
  obtain ⟨g, a, rfl⟩ : ∃ g a, h = hd g a := ⟨grp h, ⟨h.val % 4, by omega⟩, Fin.ext (by show h.val = h.val / 4 * 4 + h.val % 4; omega)⟩
  have e : idx_main_v37 (ix3 (hd g a) i d) = ix4 g a i d := by
    funext k
    match k with
    | ⟨0, _⟩ => exact Fin.ext (by show (((g.val * 4 + a.val) * 4096 + i.val) * 64 + d.val) / 1048576 = g.val; omega)
    | ⟨1, _⟩ => exact Fin.ext (by show (((g.val * 4 + a.val) * 4096 + i.val) * 64 + d.val) / 262144 % 4 = a.val; omega)
    | ⟨2, _⟩ => exact Fin.ext (by show (((g.val * 4 + a.val) * 4096 + i.val) * 64 + d.val) / 64 % 4096 = i.val; omega)
    | ⟨3, _⟩ => exact Fin.ext (by show (((g.val * 4 + a.val) * 4096 + i.val) * 64 + d.val) % 64 = d.val; omega)
  rw [e, val_main_v36_apply]
  unfold attO
  rw [Finset.sum_div, coe_sum]
  refine Finset.sum_congr rfl fun j _ => ?_
  have e1 : lidx_main_v36 (ix4 g a i d) j = ix4 g a i j := by funext k; match k with | ⟨0, _⟩ => rfl | ⟨1, _⟩ => rfl | ⟨2, _⟩ => rfl | ⟨3, _⟩ => rfl
  have e2 : ridx_main_v36 (ix4 g a i d) j = ix3 g j d := by funext k; match k with | ⟨0, _⟩ => rfl | ⟨1, _⟩ => rfl | ⟨2, _⟩ => rfl
  rw [e1, e2, ref_p hX, ref_v hX, ← EReal.coe_mul, attP_eq, grp_hd]
  congr 1
  ring

variable (hD : ∀ h i d, x1 (ix3 h i d) = ((D h i d : ℝ) : EReal))
include hD

omit hX in
/-- The output's gradient, head `a` of group `g`. -/
theorem ref_g (g a : Fin 4) (i : Fin 4096) (d : Fin 64) : val_main_v40 (F := Ideal) x1 (ix4 g a i d) = ((D (hd g a) i d : ℝ) : EReal) := by
  rw [val_main_v40_apply]
  have e : idx_main_v40 (ix4 g a i d) = ix3 (hd g a) i d := by
    funext k
    match k with
    | ⟨0, _⟩ => exact Fin.ext (by show (((g.val * 4 + a.val) * 4096 + i.val) * 64 + d.val) / 262144 = g.val * 4 + a.val; omega)
    | ⟨1, _⟩ => exact Fin.ext (by show (((g.val * 4 + a.val) * 4096 + i.val) * 64 + d.val) / 64 % 4096 = i.val; omega)
    | ⟨2, _⟩ => exact Fin.ext (by show (((g.val * 4 + a.val) * 4096 + i.val) * 64 + d.val) % 64 = d.val; omega)
  rw [e]
  exact hD _ _ _

/-- The gradient of the attention weights. -/
theorem ref_dp (g a : Fin 4) (i j : Fin 4096) : val_main_v43 (F := Ideal) x0 x1 (ix4 g a i j) = ((scores (D (hd g a)) (vh X g) i j : ℝ) : EReal) := by
  rw [val_main_v43_apply]
  unfold scores
  rw [coe_sum]
  refine Finset.sum_congr rfl fun d _ => ?_
  have e1 : lidx_main_v43 (ix4 g a i j) d = ix4 g a i d := by funext k; match k with | ⟨0, _⟩ => rfl | ⟨1, _⟩ => rfl | ⟨2, _⟩ => rfl | ⟨3, _⟩ => rfl
  have e2 : ridx_main_v43 (ix4 g a i j) d = ix3 g j d := by funext k; match k with | ⟨0, _⟩ => rfl | ⟨1, _⟩ => rfl | ⟨2, _⟩ => rfl
  rw [e1, e2, ref_g hD, ref_v hX, EReal.coe_mul]

omit hX hD in
/-- The output against its gradient is the weighted sum of the weights' gradients. -/
theorem delta_eq (g a : Fin 4) (i : Fin 4096) :
    ∑ d, D (hd g a) i d * attO X (hd g a) i d = ∑ j, scores (D (hd g a)) (vh X g) i j * attP X (hd g a) i j := by
  unfold attO scores
  simp only [attP_eq, grp_hd, Finset.sum_mul, Finset.sum_div, Finset.mul_sum]
  rw [Finset.sum_comm]
  refine Finset.sum_congr rfl fun j _ => Finset.sum_congr rfl fun d _ => ?_
  ring

/-- The gradient of the scores. -/
theorem ref_ds (g a : Fin 4) (i j : Fin 4096) : val_main_v55 (F := Ideal) x0 x1 (ix4 g a i j) = ((attS X D (hd g a) i j : ℝ) : EReal) := by
  obtain ⟨M, hM⟩ := ref_max hX g a i
  have hz := attZ_pos (X := X) (hd g a) i
  have hm := Real.exp_pos M
  have h35 : val_main_v35 (F := Ideal) x0 (ix4 g a i (0 : Fin 1)) = ((1 / (attZ X (hd g a) i / Real.exp M * (attZ X (hd g a) i / Real.exp M)) : ℝ) : EReal) := by
    rw [val_main_v35_apply, val_main_v34_apply, val_main_cst_8_apply, word_one, val_main_v33_apply, ref_z30 hX g a i hM]
    show Ideal.div _ (((attZ X (hd g a) i / Real.exp M : ℝ) : EReal) * ((attZ X (hd g a) i / Real.exp M : ℝ) : EReal)) = _
    rw [← EReal.coe_mul]
    exact div_real _ _ (by positivity)
  have h47 : val_main_v47 (F := Ideal) x0 x1 (ix3 g a i) = ((∑ j, scores (D (hd g a)) (vh X g) i j
      * (1 / (attZ X (hd g a) i / Real.exp M * (attZ X (hd g a) i / Real.exp M))) * (attE X (hd g a) i j / Real.exp M) : ℝ) : EReal) := by
    rw [val_main_v47_apply, val_main_cst_9_apply, word_zero, zero_add, coe_sum]
    refine Finset.sum_congr rfl fun j _ => ?_
    have e : idx_main_v47 (ix3 g a i) j = ix4 g a i j := by funext k; match k with | ⟨0, _⟩ => rfl | ⟨1, _⟩ => rfl | ⟨2, _⟩ => rfl | ⟨3, _⟩ => rfl
    have e' : idx_main_v44 (ix4 g a i j) = ix4 g a i (0 : Fin 1) := by funext k; match k with | ⟨0, _⟩ => rfl | ⟨1, _⟩ => rfl | ⟨2, _⟩ => rfl | ⟨3, _⟩ => rfl
    rw [e, val_main_v46_apply, val_main_v45_apply, val_main_v44_apply, e', h35, ref_dp hX hD, ref_e hX g a i hM, EReal.coe_mul, EReal.coe_mul]
    rfl
  rw [val_main_v55_apply, val_main_v54_apply, val_main_v53_apply, val_main_v51_apply, val_main_v50_apply, val_main_v52_apply]
  have e50 : idx_main_v50 (ix4 g a i j) = ix4 g a i (0 : Fin 1) := by funext k; match k with | ⟨0, _⟩ => rfl | ⟨1, _⟩ => rfl | ⟨2, _⟩ => rfl | ⟨3, _⟩ => rfl
  have e52 : ∀ k, idx_main_v52 (idx_main_v53 (ix4 g a i j)) k = ix4 g a i (0 : Fin 1) := fun k => by
    rw [Subsingleton.elim k 0]
    funext k; match k with | ⟨0, _⟩ => rfl | ⟨1, _⟩ => rfl | ⟨2, _⟩ => rfl | ⟨3, _⟩ => rfl
  have e48 : idx_main_v48 (ix4 g a i (0 : Fin 1)) = ix3 g a i := by
    funext k
    match k with
    | ⟨0, _⟩ => exact Fin.ext (by show (((g.val * 4 + a.val) * 4096 + i.val) * 1 + 0) / 16384 = g.val; omega)
    | ⟨1, _⟩ => exact Fin.ext (by show (((g.val * 4 + a.val) * 4096 + i.val) * 1 + 0) / 4096 % 4 = a.val; omega)
    | ⟨2, _⟩ => exact Fin.ext (by show (((g.val * 4 + a.val) * 4096 + i.val) * 1 + 0) % 4096 = i.val; omega)
  simp only [e52, Fin.sum_univ_one, val_main_v49_apply, val_main_v48_apply, e48]
  rw [e50, ref_z30 hX g a i hM, ref_dp hX hD, ref_e hX g a i hM, h47, val_main_cst_10_apply, word_zero, zero_add]
  show (Ideal.div _ _ + -_) * _ = _
  rw [div_real _ _ (by positivity), ← EReal.coe_neg, ← EReal.coe_add, ← EReal.coe_mul]
  refine congrArg Real.toEReal ?_
  unfold attS
  rw [delta_eq, grp_hd]
  simp only [attP_eq]
  rw [show (∑ j, scores (D (hd g a)) (vh X g) i j * (1 / (attZ X (hd g a) i / Real.exp M * (attZ X (hd g a) i / Real.exp M))) * (attE X (hd g a) i j / Real.exp M))
    = (∑ j, scores (D (hd g a)) (vh X g) i j * (attE X (hd g a) i j / attZ X (hd g a) i)) * (Real.exp M / attZ X (hd g a) i) from by
      rw [Finset.sum_mul]
      refine Finset.sum_congr rfl fun j _ => ?_
      field_simp]
  field_simp
  ring

/-- The gradient of the queries. -/
theorem ref_dq (h : Fin 16) (i : Fin 4096) (d : Fin 64) : val_main_v58 (F := Ideal) x0 x1 (ix3 h i d) = ((attDQ X D h i d : ℝ) : EReal) := by
  rw [val_main_v58_apply]
  obtain ⟨g, a, rfl⟩ : ∃ g a, h = hd g a := ⟨grp h, ⟨h.val % 4, by omega⟩, Fin.ext (by show h.val = h.val / 4 * 4 + h.val % 4; omega)⟩
  have e : idx_main_v58 (ix3 (hd g a) i d) = ix4 g a i d := by
    funext k
    match k with
    | ⟨0, _⟩ => exact Fin.ext (by show (((g.val * 4 + a.val) * 4096 + i.val) * 64 + d.val) / 1048576 = g.val; omega)
    | ⟨1, _⟩ => exact Fin.ext (by show (((g.val * 4 + a.val) * 4096 + i.val) * 64 + d.val) / 262144 % 4 = a.val; omega)
    | ⟨2, _⟩ => exact Fin.ext (by show (((g.val * 4 + a.val) * 4096 + i.val) * 64 + d.val) / 64 % 4096 = i.val; omega)
    | ⟨3, _⟩ => exact Fin.ext (by show (((g.val * 4 + a.val) * 4096 + i.val) * 64 + d.val) % 64 = d.val; omega)
  rw [e, val_main_v57_apply]
  unfold attDQ
  rw [coe_sum]
  refine Finset.sum_congr rfl fun j _ => ?_
  have e1 : lidx_main_v57 (ix4 g a i d) j = ix4 g a i j := by funext k; match k with | ⟨0, _⟩ => rfl | ⟨1, _⟩ => rfl | ⟨2, _⟩ => rfl | ⟨3, _⟩ => rfl
  have e2 : ridx_main_v57 (ix4 g a i d) j = ix3 g j d := by funext k; match k with | ⟨0, _⟩ => rfl | ⟨1, _⟩ => rfl | ⟨2, _⟩ => rfl
  rw [e1, e2, ref_ds hX hD, ref_k hX, ← EReal.coe_mul, grp_hd]

/-- The gradient of the keys. -/
theorem ref_dk (g : Fin 4) (j : Fin 4096) (d : Fin 64) : val_main_v56 (F := Ideal) x0 x1 (ix3 g j d) = ((attDK X D g j d : ℝ) : EReal) := by
  unfold val_main_v56
  simp only [Host.dotGeneral]
  rw [Ideal.dotGeneral_apply, sum_contr2 _ 4 4096 rfl rfl rfl]
  unfold attDK
  rw [coe_sum]
  refine Finset.sum_congr rfl fun a _ => ?_
  rw [coe_sum]
  refine Finset.sum_congr rfl fun i _ => ?_
  rw [EReal.coe_mul, ← ref_ds hX hD, ← ref_q hX]
  congr 2
  · funext k; match k with | ⟨0, _⟩ => rfl | ⟨1, _⟩ => rfl | ⟨2, _⟩ => rfl | ⟨3, _⟩ => rfl
  · funext k; match k with | ⟨0, _⟩ => rfl | ⟨1, _⟩ => rfl | ⟨2, _⟩ => rfl | ⟨3, _⟩ => rfl

/-- The gradient of the values. -/
theorem ref_dv (g : Fin 4) (j : Fin 4096) (d : Fin 64) : val_main_v42 (F := Ideal) x0 x1 (ix3 g j d) = ((attDV X D g j d : ℝ) : EReal) := by
  rw [val_main_v42_apply]
  unfold val_main_v41
  simp only [Host.dotGeneral]
  rw [Ideal.dotGeneral_apply, sum_contr2 _ 4 4096 rfl rfl rfl]
  unfold attDV
  rw [coe_sum]
  refine Finset.sum_congr rfl fun a _ => ?_
  rw [coe_sum]
  refine Finset.sum_congr rfl fun i _ => ?_
  rw [mul_comm (attP _ _ _ _), EReal.coe_mul, ← ref_p hX, ← ref_g hD]
  congr 2
  · funext k; match k with | ⟨0, _⟩ => rfl | ⟨1, _⟩ => rfl | ⟨2, _⟩ => rfl | ⟨3, _⟩ => rfl
  · funext k; match k with | ⟨0, _⟩ => rfl | ⟨1, _⟩ => rfl | ⟨2, _⟩ => rfl | ⟨3, _⟩ => rfl
end
end Cert.Proof
end
-- ==== Proof.RefRun.lean ====
module

public import proofs.«01_k».proof.Proof.Ref
public import proofs.«01_k».proof.Proof.Gen.ReferenceIdeal.Run

@[expose] public section

/-!
# What the reference leaves in its results

The reference is host operations only: it has no semaphore, and each of its results is its operations' composed term,
which on real arguments is the attention's formula.
-/

set_option maxRecDepth 16384

noncomputable section

namespace Cert.Proof

open Idealize.ShloMosaic hiding ix3 ix4
open Idealize.ShloMosaic.TcCoe Idealize.SL Idealize.SL.Sem Idealize.ShloMosaic.ValueIdx Cert.ReferenceIdeal Cert.ReferenceIdeal.Read

variable (m : (ℓ : Loc nD τ sig) → Buf (Elt Ideal) ℓ) (ρ : Dev nD → PrngReg)

/-- The reference has no semaphore. -/
theorem no_sem : ∀ _ : SemLoc sig, False := by decide

/-- The reference terminates with its arguments unchanged and every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2.2.2.2, funext fun g => (no_sem g.2).elim⟩) (Cert.ReferenceIdeal.Value.run m ρ)

/-- An array is known by its entries at three coordinates. -/
theorem array_ext {n0 n1 n2 : ℕ} (v : (⟨3, ![n0, n1, n2]⟩ : Shape).Idx → EReal) (f : Fin n0 → Fin n1 → Fin n2 → ℝ)
    (h : ∀ a b c, v (ix3 a b c) = ((f a b c : ℝ) : EReal)) : v = fun y => ((f (y 0) (y 1) (y 2) : ℝ) : EReal) := by
  funext y
  refine Eq.trans (congrArg v (ValueIdx.eq_ix3 (n0 := n0) (n1 := n1) (n2 := n2) y)) (h _ _ _)

/-- What a real argument pair makes of the reference's results. -/
theorem ref_values (X : Dev nD → Fin 24 → Fin 4096 → Fin 64 → ℝ) (D : Dev nD → Fin 16 → Fin 4096 → Fin 64 → ℝ)
    (hX : ∀ (c : Dev nD) h i d, m ((c.tc : Thread nD τ).loc main_arg0) (ix3 h i d) = ((X c h i d : ℝ) : EReal))
    (hD : ∀ (c : Dev nD) h i d, m ((c.tc : Thread nD τ).loc main_arg1) (ix3 h i d) = ((D c h i d : ℝ) : EReal)) :
    θ_run defs (onTc (τ := τ) (main (F := Ideal))) ⟨m, fun _ => 0, ρ⟩ (fun r => ∀ c : Dev nD,
      (r.2.mem ((c.tc : Thread nD τ).loc main_v38) = fun y : S16x4096x64.Idx => ((attO (X c) (y 0) (y 1) (y 2) : ℝ) : EReal))
      ∧ (r.2.mem ((c.tc : Thread nD τ).loc main_v58) = fun y : S16x4096x64.Idx => ((attDQ (X c) (D c) (y 0) (y 1) (y 2) : ℝ) : EReal))
      ∧ (r.2.mem ((c.tc : Thread nD τ).loc main_v56) = fun y : S4x4096x64.Idx => ((attDK (X c) (D c) (y 0) (y 1) (y 2) : ℝ) : EReal))
      ∧ (r.2.mem ((c.tc : Thread nD τ).loc main_v42) = fun y : S4x4096x64.Idx => ((attDV (X c) (D c) (y 0) (y 1) (y 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1.trans (val_main_v38_eq (F := Ideal) _)).trans (array_ext _ _ (ref_o (hX c))),
     ((h c).2.1.trans (val_main_v58_eq (F := Ideal) m c)).trans (array_ext _ _ (ref_dq (hX c) (hD c))),
     ((h c).2.2.1.trans (val_main_v56_eq (F := Ideal) m c)).trans (array_ext _ _ (ref_dk (hX c) (hD c))),
     ((h c).2.2.2.1.trans (val_main_v42_eq (F := Ideal) _ _)).trans (array_ext _ _ (ref_dv (hX c) (hD c))),
     (h c).2.2.2.2⟩) (Cert.ReferenceIdeal.Value.run m ρ)

end Cert.Proof

end
-- ==== Proof.RowOps.lean ====
/-
  Operations on the rows of real matrices among the ideal values: joining blocks of rows, rotating the rows, taking a
  run of rows, repeating a row, adding up a column, and choosing by a row's number or by a grid coordinate.
-/
module

public import proofs.«01_k».proof.Proof.Ops
public import Idealize.ShloMosaic.Lib.WordCmp
public import Idealize.ShloMosaic.Lib.KernelVsHost
public import Idealize.ShloMosaic.Lib.Pipeline.FrameBody

@[expose] public section

set_option maxRecDepth 16384

noncomputable section

namespace Cert.Proof

open Idealize.ShloMosaic Idealize.ShloMosaic.ValueIdx
open scoped BigOperators

/-- The word `1.0`. -/
theorem one_word : Ideal.ofBits .f32 0x3F800000#32 = ((1 : ℝ) : EReal) := by
  simp only [Ideal.ofBits, Ideal.ieee]
  rw [if_neg (by decide), if_neg (by decide)]
  refine congrArg _ ?_
  rw [if_neg (by decide)]
  norm_num [show (BitVec.extractLsb' 0 23 0x3F800000#32).toNat = 0 from rfl, show (BitVec.extractLsb' 23 8 0x3F800000#32).toNat = 127 from rfl]

/-- The word `1024.0`. -/
theorem thousand_word : Ideal.ofBits .f32 0x44800000#32 = ((1024 : ℝ) : EReal) := by
  simp only [Ideal.ofBits, Ideal.ieee]
  rw [if_neg (by decide), if_neg (by decide)]
  refine congrArg _ ?_
  rw [if_neg (by decide)]
  norm_num [show (BitVec.extractLsb' 0 23 0x44800000#32).toNat = 0 from rfl, show (BitVec.extractLsb' 23 8 0x44800000#32).toNat = 137 from rfl]

/-- The small number added to a mean square: the value of its word. -/
def eps : ℝ := (Ideal.ofBits .f32 0x358637BD#32).toReal

/-- The word of the small number, and its sign. -/
theorem eps_word : Ideal.ofBits .f32 0x358637BD#32 = ((eps : ℝ) : EReal) ∧ 0 < eps := by
  have h : ∃ r : ℝ, Ideal.ofBits .f32 0x358637BD#32 = ((r : ℝ) : EReal) ∧ 0 < r := by
    simp only [Ideal.ofBits, Ideal.ieee]
    rw [if_neg (by decide), if_neg (by decide)]
    refine ⟨_, rfl, ?_⟩
    rw [if_neg (by decide)]
    positivity
  obtain ⟨r, hr, hp⟩ := h
  unfold eps
  rw [hr]
  exact ⟨rfl, hp⟩

variable {M N K A B T : ℕ} {φ ψ : FTy}

namespace Rep

variable {v w : FVec Ideal ⟨2, ![M, N]⟩ φ} {f g : Fin M → Fin N → ℝ}

/-- The matrix with one real number everywhere, from that number's word. -/
theorem const {x : ℝ} {b : BitVec φ.bits} (h : Ideal.ofBits φ b = (x : EReal)) :
    Rep (broadcast ⟨2, ![M, N]⟩ (Scalar.ofBits (F := Ideal) φ b) : FVec Ideal ⟨2, ![M, N]⟩ φ) (fun _ _ => x) := fun _ _ => h

/-- The reciprocal square root of a positive real matrix. -/
theorem rsqrt (h : Rep v f) (hf : ∀ i j, 0 < f i j) : Rep (rsqrt v) (fun i j => (Real.sqrt (f i j))⁻¹) := fun i j => by
  show Ideal.rsqrt (v (ix2 i j)) = _
  rw [h i j, Ideal.rsqrt_coe, if_neg (not_lt.mpr (hf i j).le), if_neg (hf i j).ne']

/-- Casting to the same shape changes nothing. -/
theorem same (h : Rep v f) (hc : (⟨2, ![M, N]⟩ : Shape).ShapeCasts ⟨2, ![M, N]⟩) :
    Rep (shapeCast ⟨2, ![M, N]⟩ v hc : FVec Ideal ⟨2, ![M, N]⟩ φ) f := fun i j => by
  rw [shapeCast_apply v hc (ix2 i j) (ix2 i j) rfl]; exact h i j

/-- A matrix written under two leading axes of extent one. -/
theorem ofQuad {x : FVec Ideal ⟨4, ![1, 1, M, N]⟩ φ} (h : ∀ i j, x (ix4 0 0 i j) = ((f i j : ℝ) : EReal))
    (hc : (⟨4, ![1, 1, M, N]⟩ : Shape).ShapeCasts ⟨2, ![M, N]⟩) : Rep (shapeCast ⟨2, ![M, N]⟩ x hc : FVec Ideal ⟨2, ![M, N]⟩ φ) f := fun i j => by
  rw [shapeCast_apply x hc (ix2 i j) (ix4 0 0 i j) (by
    rw [Shape.rowMajor_val_four, Shape.rowMajor_val_two]
    show ((0 * 1 + 0) * M + i.val) * N + j.val = i.val * N + j.val
    simp)]
  exact h i j

/-- A matrix put under two leading axes of extent one. -/
theorem toQuad (h : Rep v f) (hc : (⟨2, ![M, N]⟩ : Shape).ShapeCasts ⟨4, ![1, 1, M, N]⟩) (p q : Fin 1) (i : Fin M) (j : Fin N) :
    (shapeCast ⟨4, ![1, 1, M, N]⟩ v hc : FVec Ideal ⟨4, ![1, 1, M, N]⟩ φ) (ix4 p q i j) = ((f i j : ℝ) : EReal) := by
  rw [shapeCast_apply v hc (ix4 p q i j) (ix2 i j) (by
    rw [Shape.rowMajor_val_four, Shape.rowMajor_val_two, Subsingleton.elim p 0, Subsingleton.elim q 0]
    show i.val * N + j.val = ((0 * 1 + 0) * M + i.val) * N + j.val
    simp)]
  exact h i j

/-- A row repeated down the columns. -/
theorem rowBcast {c : FVec Ideal ⟨2, ![1, N]⟩ φ} {f : Fin N → ℝ} (h : Rep c fun _ j => f j)
    (hb : (⟨2, ![1, N]⟩ : Shape).Broadcasts ⟨2, ![M, N]⟩) :
    Rep (broadcastTo ⟨2, ![M, N]⟩ c hb : FVec Ideal ⟨2, ![M, N]⟩ φ) (fun _ j => f j) := fun i j => by
  rw [broadcastTo_1b_ab_apply]
  exact h 0 j

/-- A run of rows. -/
theorem rows (h : Rep v f) (o : ℕ) (hs : (⟨2, ![M, N]⟩ : Shape).Slices ![o, 0] ⟨2, ![K, N]⟩) (hk : ∀ i : Fin K, o + i.val < M) :
    Rep (extractStridedSlice ⟨2, ![K, N]⟩ ![o, 0] v hs : FVec Ideal ⟨2, ![K, N]⟩ φ) (fun i j => f ⟨o + i.val, hk i⟩ j) := fun i j => by
  rw [extractStridedSlice_apply ![o, 0] v hs (ix2 i j) (ix2 ⟨o + i.val, hk i⟩ j) (fun a => by
    match a with
    | ⟨0, _⟩ => rfl
    | ⟨1, _⟩ => exact (Nat.zero_add _).symm)]
  exact h _ _

/-- The rows moved down by `s`, around the end. -/
theorem rotate (h : Rep v f) (s : BitVec 32) (hr : (⟨2, ![M, N]⟩ : Shape).Rotates 0 none) :
    Rep (dynamicRotate 0 s none v hr : FVec Ideal ⟨2, ![M, N]⟩ φ)
      (fun i j => f ⟨(i.val + M - s.toNat % M) % M, Nat.mod_lt _ (Nat.lt_of_le_of_lt (Nat.zero_le _) i.isLt)⟩ j) := fun i j => by
  rw [dynamicRotate_apply 0 s v hr (ix2 i j) (ix2 ⟨(i.val + M - s.toNat % M) % M, Nat.mod_lt _ (Nat.lt_of_le_of_lt (Nat.zero_le _) i.isLt)⟩ j) (fun a => by
    match a with
    | ⟨0, _⟩ => rfl
    | ⟨1, _⟩ => rfl)]
  exact h _ _

/-- Three blocks of rows, one under another. -/
theorem cat3 {a c : FVec Ideal ⟨2, ![A, N]⟩ φ} {b : FVec Ideal ⟨2, ![B, N]⟩ φ} {p r : Fin A → Fin N → ℝ} {q : Fin B → Fin N → ℝ}
    (ha : Rep a p) (hb : Rep b q) (hc : Rep c r)
    (hcat : Shape.Concatenates [(⟨2, ![A, N]⟩ : Shape), ⟨2, ![B, N]⟩, ⟨2, ![A, N]⟩] ⟨2, ![T, N]⟩ 0) (hT : T = A + B + A) (f : Fin T → Fin N → ℝ)
    (h0 : ∀ (e : Fin T) (i : Fin A) j, e.val = i.val → f e j = p i j) (h1 : ∀ (e : Fin T) (i : Fin B) j, e.val = A + i.val → f e j = q i j)
    (h2 : ∀ (e : Fin T) (i : Fin A) j, e.val = A + B + i.val → f e j = r i j) :
    Rep (concatenate ⟨2, ![T, N]⟩ 0 [⟨⟨2, ![A, N]⟩, a⟩, ⟨⟨2, ![B, N]⟩, b⟩, ⟨⟨2, ![A, N]⟩, c⟩] hcat : FVec Ideal ⟨2, ![T, N]⟩ φ) f := fun e j => by
  by_cases e0 : e.val < A
  · rw [concatenate_apply_piece (t := ⟨2, ![T, N]⟩) (0 : Fin 2) [⟨⟨2, ![A, N]⟩, a⟩, ⟨⟨2, ![B, N]⟩, b⟩, ⟨⟨2, ![A, N]⟩, c⟩] hcat (ix2 e j) 0 (by simp) ⟨2, ![A, N]⟩ a rfl rfl 0 rfl (ix2 ⟨e.val, e0⟩ j)
      (fun x hx => by match x with | ⟨0, _⟩ => exact absurd rfl hx | ⟨1, _⟩ => rfl) (Nat.zero_add _), h0 e ⟨e.val, e0⟩ j rfl]
    exact ha _ _
  · by_cases e1 : e.val < A + B
    · rw [concatenate_apply_piece (t := ⟨2, ![T, N]⟩) (0 : Fin 2) [⟨⟨2, ![A, N]⟩, a⟩, ⟨⟨2, ![B, N]⟩, b⟩, ⟨⟨2, ![A, N]⟩, c⟩] hcat (ix2 e j) 1 (by simp) ⟨2, ![B, N]⟩ b rfl rfl A rfl (ix2 ⟨e.val - A, by omega⟩ j)
        (fun x hx => by match x with | ⟨0, _⟩ => exact absurd rfl hx | ⟨1, _⟩ => rfl) (by show A + (e.val - A) = e.val; omega),
        h1 e ⟨e.val - A, by omega⟩ j (by show e.val = A + (e.val - A); omega)]
      exact hb _ _
    · have := e.isLt
      rw [concatenate_apply_piece (t := ⟨2, ![T, N]⟩) (0 : Fin 2) [⟨⟨2, ![A, N]⟩, a⟩, ⟨⟨2, ![B, N]⟩, b⟩, ⟨⟨2, ![A, N]⟩, c⟩] hcat (ix2 e j) 2 (by simp) ⟨2, ![A, N]⟩ c rfl rfl (A + B) rfl (ix2 ⟨e.val - (A + B), by omega⟩ j)
        (fun x hx => by match x with | ⟨0, _⟩ => exact absurd rfl hx | ⟨1, _⟩ => rfl) (by show A + B + (e.val - (A + B)) = e.val; omega),
        h2 e ⟨e.val - (A + B), by omega⟩ j (by show e.val = A + B + (e.val - (A + B)); omega)]
      exact hc _ _

/-- The column sums of a real matrix, as a row. -/
theorem colSum (h : Rep v f) (hr : Shape.Reduces ⟨2, ![M, N]⟩ [0] ⟨1, ![N]⟩) (hc : (⟨1, ![N]⟩ : Shape).ShapeCasts ⟨2, ![1, N]⟩)
    (acc : BitVec φ.bits) (hφ : FKind.Formats φ) (hacc : acc = FKind.add.neutral φ hφ) :
    Rep (shapeCast ⟨2, ![1, N]⟩ (multiReduction .add [0] ⟨1, ![N]⟩ v acc hr hφ hacc) hc : FVec Ideal ⟨2, ![1, N]⟩ φ)
      (fun _ j => ∑ i, f i j) := fun k j => by
  have hk : k = 0 := Subsingleton.elim _ _
  subst hk
  rw [shapeCast_a_1a_apply, Ideal.multiReduction_add_single, coe_sum]
  refine Finset.sum_congr rfl fun i _ => ?_
  rw [← h i j]
  congr 1
  funext a
  match a with
  | ⟨0, _⟩ => rfl
  | ⟨1, _⟩ => rfl

/-- One of two real matrices, chosen by a bit. -/
theorem pick (h : Rep v f) (k : Rep w g) (b : BitVec 1) : Rep (Scalar.select b v w) (fun i j => if b = 1#1 then f i j else g i j) := by
  unfold Scalar.select
  by_cases hb : b = 1
  · rw [if_pos hb]; exact h.congr fun i j => (if_pos hb).symm
  · rw [if_neg hb]; exact k.congr fun i j => (if_neg hb).symm

/-- One of two real matrices, chosen by whether a small number is a given one. -/
theorem pickNat (h : Rep v f) (k : Rep w g) (a b : ℕ) (ha : a < 2 ^ 32) (hb : b < 2 ^ 32) :
    Rep (Scalar.select (Scalar.cmpi .eq (BitVec.ofNat 32 a) (BitVec.ofNat 32 b)) v w) (fun i j => if a = b then f i j else g i j) :=
  (h.pick k _).congr fun i j => if_congr (WordCmp.cmpi_eq_ofNat_eq_one_iff ha hb) rfl rfl

/-- One of two real matrices row by row, chosen by whether the row's number is a given one. -/
theorem pickRow (h : Rep v f) (k : Rep w g) (hi : (⟨2, ![M, N]⟩ : Shape).Iotas .tc 32 [0]) (r : ℕ) (hr : r < 2 ^ 32) (hM : M < 2 ^ 32) :
    Rep (select (cmpi .eq (iota .tc ⟨2, ![M, N]⟩ 32 [0] hi) (broadcast ⟨2, ![M, N]⟩ (BitVec.ofNat 32 r))) v w)
      (fun i j => if i.val = r then f i j else g i j) := fun i j => by
  show Scalar.select (IntOp.cmpi .eq (iota .tc ⟨2, ![M, N]⟩ 32 [0] hi (ix2 i j)) (BitVec.ofNat 32 r)) (v (ix2 i j)) (w (ix2 i j)) = _
  rw [iota_single_apply, h i j, k i j]
  unfold Scalar.select
  have e : IntOp.cmpi .eq (BitVec.ofNat 32 ((ix2 i j : (⟨2, ![M, N]⟩ : Shape).Idx) 0).val) (BitVec.ofNat 32 r) = 1#1 ↔ i.val = r :=
    WordCmp.cmpi_eq_ofNat_eq_one_iff (lt_trans i.isLt hM) hr
  by_cases hi : i.val = r
  · exact (if_pos (e.mpr hi)).trans (congrArg Real.toEReal (if_pos hi).symm)
  · exact (if_neg (fun x => hi (e.mp x))).trans (congrArg Real.toEReal (if_neg hi).symm)

/-- A load of one half of a two-half buffer whose halves are real matrices. -/
theorem ofHalf {x : (⟨4, ![2, 1, M, N]⟩ : Shape).Idx → EReal} {f : Fin 2 → Fin M → Fin N → ℝ} (h : ∀ s i j, x (ix4 s 0 i j) = ((f s i j : ℝ) : EReal)) (s : Fin 2)
    (hi : ∀ a, (![s.val, 0, 0, 0] : Fin 4 → Nat) a + (⟨4, ![1, 1, M, N]⟩ : Shape).size a ≤ (⟨4, ![2, 1, M, N]⟩ : Shape).size a) (i : Fin M) (j : Fin N) :
    x ((Rect.unit (s := ⟨4, ![2, 1, M, N]⟩) ![s.val, 0, 0, 0] (⟨4, ![1, 1, M, N]⟩ : Shape).size hi).idx (ix4 0 0 i j)) = ((f s i j : ℝ) : EReal) := by
  rw [← h s i j]
  congr 1
  funext a
  match a with
  | ⟨0, _⟩ => exact Fin.ext (by show s.val + 1 * 0 = s.val; omega)
  | ⟨1, _⟩ => rfl
  | ⟨2, _⟩ => exact Fin.ext (by show 0 + 1 * i.val = i.val; omega)
  | ⟨3, _⟩ => exact Fin.ext (by show 0 + 1 * j.val = j.val; omega)

end Rep

end Cert.Proof

end
-- ==== Proof.Mlp.lean ====
/-
  The gated MLP with its three-row convolution over the real numbers, and its gradients, column by column.
-/
module

public import proofs.«01_k».proof.Proof.RowOps

@[expose] public section

noncomputable section

namespace Cert.Proof.Mlp

open scoped BigOperators

/-- A column of 4096 reals read at any integer row: zero off the column. -/
def ext (f : Fin 4096 → ℝ) (z : ℤ) : ℝ := if h : 0 ≤ z ∧ z < 4096 then f ⟨z.toNat, by omega⟩ else 0

/-- On the column, its entry. -/
theorem ext_row (f : Fin 4096 → ℝ) (i : Fin 4096) {z : ℤ} (h : z = i.val) : ext f z = f i := by
  subst h
  unfold ext
  rw [dif_pos ⟨by omega, by omega⟩]
  exact congrArg f (Fin.ext (by simp))

/-- Off the column, zero. -/
theorem ext_off (f : Fin 4096 → ℝ) {z : ℤ} (h : ¬ (0 ≤ z ∧ z < 4096)) : ext f z = 0 := dif_neg h

/-- Extending by zeros before or after a row-wise product is the same. -/
theorem ext_sum {N : ℕ} (f : Fin 4096 → Fin N → ℝ) (w : Fin N → ℝ) (z : ℤ) :
    ∑ d, ext (fun i => f i d) z * w d = ext (fun i => ∑ d, f i d * w d) z := by
  unfold ext
  split
  · rfl
  · simp

/-- A column convolved with three weights, and a bias added. -/
def conv (u : Fin 4096 → ℝ) (w : Fin 3 → ℝ) (b : ℝ) (i : Fin 4096) : ℝ :=
  ext u ((i.val : ℤ) - 1) * w 0 + u i * w 1 + ext u ((i.val : ℤ) + 1) * w 2 + b

/-- The logistic function. -/
def logi (x : ℝ) : ℝ := 1 / (1 + Real.exp (0 - x))

/-- The gated activation. -/
def gate (a b : ℝ) : ℝ := a * logi a * b

/-- The gradient of the activation in its first argument. -/
def gate0 (d a b : ℝ) : ℝ := d * b * (logi a * (1 + a * (1 - logi a)))

/-- The gradient of the activation in its second argument. -/
def gate1 (d a : ℝ) : ℝ := d * (a * logi a)

/-- The gradient of a convolution in its column. -/
def convT (d : Fin 4096 → ℝ) (w : Fin 3 → ℝ) (i : Fin 4096) : ℝ :=
  ext d ((i.val : ℤ) + 1) * w 0 + d i * w 1 + ext d ((i.val : ℤ) - 1) * w 2

/-- The four sums over rows that a convolution's weights and bias take from its gradient. -/
def convW (d u : Fin 4096 → ℝ) (t : ℕ) (i : Fin 4096) : ℝ :=
  if t = 0 then d i * ext u ((i.val : ℤ) - 1) else if t = 1 then d i * u i else if t = 2 then d i * ext u ((i.val : ℤ) + 1) else
    if t = 3 then d i else 0

/-- Row `i` of the block of 512 rows numbered `k`. -/
def row (k : Fin 8) (i : Fin 512) : Fin 4096 := ⟨512 * k.val + i.val, by omega⟩

/-- The projection added to the input. -/
def xres (X : Fin 4096 → Fin 1024 → ℝ) (O : Fin 4096 → Fin 1024 → ℝ) (W : Fin 1024 → Fin 1024 → ℝ) (i : Fin 4096) (d : Fin 1024) : ℝ :=
  X i d + ∑ k, O i k * W k d

/-- The reciprocal of a row's root mean square. -/
def rms {N : ℕ} (x : Fin N → ℝ) : ℝ := (Real.sqrt ((∑ d, x d * x d) / 1024 + eps))⁻¹

/-- A row divided by its root mean square and scaled. -/
def norm {N : ℕ} (x g : Fin N → ℝ) (d : Fin N) : ℝ := x d * rms x * g d

/-- The number under the root is positive. -/
theorem mean_pos {N : ℕ} (x : Fin N → ℝ) : 0 < (∑ d, x d * x d) / 1024 + eps :=
  add_pos_of_nonneg_of_pos (div_nonneg (Finset.sum_nonneg fun d _ => mul_self_nonneg (x d)) (by norm_num)) eps_word.2

/-- The logistic function's denominator is not zero. -/
theorem logi_den (x : ℝ) : 1 + Real.exp (0 - x) ≠ 0 := by positivity

/-- The rows of a block with their neighbours, as entries of the extended column: the middle rows. -/
theorem ext_mid (f : Fin 4096 → ℝ) (k : Fin 8) (i : Fin 512) {z : ℤ} (h : z = 512 * k.val + i.val) : ext f z = f (row k i) :=
  ext_row f (row k i) (by rw [h]; show _ = ((512 * k.val + i.val : ℕ) : ℤ); push_cast; ring)

end Cert.Proof.Mlp

end
-- ==== Proof.MlpFwd.lean ====
/-
  The forward kernels of the gated MLP over the ideal values, one block at a time: the projection with its norm, the
  product with the convolution and the gate, and the second product.
-/
module

public import proofs.«01_k».proof.Proof.Mlp
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Proof.Mlp

open Idealize.ShloMosaic hiding ix2 ix3 ix4
open Idealize.ShloMosaic.ValueIdx Cert.Kernel2Ideal
open scoped BigOperators

/-- A load of a whole buffer. -/
theorem ld_whole2 {M N : ℕ} {x : (⟨2, ![M, N]⟩ : Shape).Idx → EReal} {f : Fin M → Fin N → ℝ} (h : ∀ i j, x (ix2 i j) = ((f i j : ℝ) : EReal))
    (hi : ∀ a, (![0, 0] : Fin 2 → Nat) a + (⟨2, ![M, N]⟩ : Shape).size a ≤ (⟨2, ![M, N]⟩ : Shape).size a) (i : Fin M) (j : Fin N) :
    x ((Rect.unit (s := ⟨2, ![M, N]⟩) ![0, 0] (⟨2, ![M, N]⟩ : Shape).size hi).idx (ix2 i j)) = ((f i j : ℝ) : EReal) := by
  rw [← h i j]
  congr 1
  funext a
  match a with
  | ⟨0, _⟩ => exact Fin.ext (by show 0 + 1 * i.val = i.val; omega)
  | ⟨1, _⟩ => exact Fin.ext (by show 0 + 1 * j.val = j.val; omega)

/-- A load of a run of rows. -/
theorem ld_rows {M N K : ℕ} {x : (⟨2, ![M, N]⟩ : Shape).Idx → EReal} {f : Fin M → Fin N → ℝ} (h : ∀ i j, x (ix2 i j) = ((f i j : ℝ) : EReal)) (o : ℕ)
    (hi : ∀ a, (![o, 0] : Fin 2 → Nat) a + (⟨2, ![K, N]⟩ : Shape).size a ≤ (⟨2, ![M, N]⟩ : Shape).size a) (ho : ∀ i : Fin K, o + i.val < M) (i : Fin K) (j : Fin N) :
    x ((Rect.unit (s := ⟨2, ![M, N]⟩) ![o, 0] (⟨2, ![K, N]⟩ : Shape).size hi).idx (ix2 i j)) = ((f ⟨o + i.val, ho i⟩ j : ℝ) : EReal) := by
  rw [← h ⟨o + i.val, ho i⟩ j]
  congr 1
  funext a
  match a with
  | ⟨0, _⟩ => exact Fin.ext (by show o + 1 * i.val = o + i.val; omega)
  | ⟨1, _⟩ => exact Fin.ext (by show 0 + 1 * j.val = j.val; omega)

/-- A load of one of several matrices. -/
theorem ld_slab {A M N : ℕ} {x : (⟨3, ![A, M, N]⟩ : Shape).Idx → EReal} {f : Fin A → Fin M → Fin N → ℝ} (h : ∀ a i j, x (ix3 a i j) = ((f a i j : ℝ) : EReal)) (s : Fin A)
    (hi : ∀ a, (![s.val, 0, 0] : Fin 3 → Nat) a + (⟨3, ![1, M, N]⟩ : Shape).size a ≤ (⟨3, ![A, M, N]⟩ : Shape).size a) (i : Fin M) (j : Fin N) :
    x ((Rect.unit (s := ⟨3, ![A, M, N]⟩) ![s.val, 0, 0] (⟨3, ![1, M, N]⟩ : Shape).size hi).idx (ix3 0 i j)) = ((f s i j : ℝ) : EReal) := by
  rw [← h s i j]
  congr 1
  funext a
  match a with
  | ⟨0, _⟩ => exact Fin.ext (by show s.val + 1 * 0 = s.val; omega)
  | ⟨1, _⟩ => exact Fin.ext (by show 0 + 1 * i.val = i.val; omega)
  | ⟨2, _⟩ => exact Fin.ext (by show 0 + 1 * j.val = j.val; omega)

/-- Two halves of a block, stored one after the other. -/
theorem canon_halves {M N : ℕ} {e : EltTy} (p q : (⟨4, ![1, 1, M, N]⟩ : Shape).Idx → Elt Ideal e) (L : List (View.Piece (Elt Ideal) ⟨4, ![2, 1, M, N]⟩ e))
    {h0 : ∀ a, (![0, 0, 0, 0] : Fin 4 → Nat) a + (⟨4, ![1, 1, M, N]⟩ : Shape).size a ≤ (⟨4, ![2, 1, M, N]⟩ : Shape).size a}
    {h1 : ∀ a, (![1, 0, 0, 0] : Fin 4 → Nat) a + (⟨4, ![1, 1, M, N]⟩ : Shape).size a ≤ (⟨4, ![2, 1, M, N]⟩ : Shape).size a} (s : Fin 2) (i : Fin M) (j : Fin N) :
    View.canon ((⟨Rect.unit (s := ⟨4, ![2, 1, M, N]⟩) ![1, 0, 0, 0] (⟨4, ![1, 1, M, N]⟩ : Shape).size h1, q⟩ : View.Piece (Elt Ideal) ⟨4, ![2, 1, M, N]⟩ e) ::
      ⟨Rect.unit (s := ⟨4, ![2, 1, M, N]⟩) ![0, 0, 0, 0] (⟨4, ![1, 1, M, N]⟩ : Shape).size h0, p⟩ :: L) (ix4 s 0 i j)
      = if s = 0 then p (ix4 0 0 i j) else q (ix4 0 0 i j) := by
  match s with
  | ⟨0, _⟩ =>
    rw [View.canon_cons_of_not_mem]
    · rw [show (ix4 (⟨0, by decide⟩ : Fin 2) 0 i j : (⟨4, ![2, 1, M, N]⟩ : Shape).Idx)
          = (Rect.unit (s := ⟨4, ![2, 1, M, N]⟩) ![0, 0, 0, 0] (⟨4, ![1, 1, M, N]⟩ : Shape).size h0).emb (ix4 0 0 i j) from funext fun a => by
        match a with
        | ⟨0, _⟩ => exact Fin.ext (by show 0 = 0 + 1 * 0; omega)
        | ⟨1, _⟩ => exact Fin.ext (by show 0 = 0 + 1 * 0; omega)
        | ⟨2, _⟩ => exact Fin.ext (by show i.val = 0 + 1 * i.val; omega)
        | ⟨3, _⟩ => exact Fin.ext (by show j.val = 0 + 1 * j.val; omega)]
      rw [View.canon_cons_emb]
      exact (if_pos rfl).symm
    · intro hm
      have hm' : (ix4 (⟨0, by decide⟩ : Fin 2) 0 i j : (⟨4, ![2, 1, M, N]⟩ : Shape).Idx) ∈ (Rect.unit (s := ⟨4, ![2, 1, M, N]⟩) ![1, 0, 0, 0] (⟨4, ![1, 1, M, N]⟩ : Shape).size h1).set := hm
      have := (Rect.mem_set_unit.mp hm' 0).1
      exact absurd this (by show ¬ (1 ≤ 0); omega)
  | ⟨1, _⟩ =>
    rw [show (ix4 (⟨1, by decide⟩ : Fin 2) 0 i j : (⟨4, ![2, 1, M, N]⟩ : Shape).Idx)
        = (Rect.unit (s := ⟨4, ![2, 1, M, N]⟩) ![1, 0, 0, 0] (⟨4, ![1, 1, M, N]⟩ : Shape).size h1).emb (ix4 0 0 i j) from funext fun a => by
      match a with
      | ⟨0, _⟩ => exact Fin.ext (by show 1 = 1 + 1 * 0; omega)
      | ⟨1, _⟩ => exact Fin.ext (by show 0 = 0 + 1 * 0; omega)
      | ⟨2, _⟩ => exact Fin.ext (by show i.val = 0 + 1 * i.val; omega)
      | ⟨3, _⟩ => exact Fin.ext (by show j.val = 0 + 1 * j.val; omega)]
    rw [View.canon_cons_emb]
    exact (if_neg (fun h => absurd (congrArg Fin.val h) Nat.one_ne_zero)).symm

/-- A block stored whole. -/
theorem canon_whole2 {M N : ℕ} {e : EltTy} (p : (⟨2, ![M, N]⟩ : Shape).Idx → Elt Ideal e)
    {h0 : ∀ a, (![0, 0] : Fin 2 → Nat) a + (⟨2, ![M, N]⟩ : Shape).size a ≤ (⟨2, ![M, N]⟩ : Shape).size a} (i : Fin M) (j : Fin N) :
    View.canon [(⟨Rect.unit (s := ⟨2, ![M, N]⟩) ![0, 0] (⟨2, ![M, N]⟩ : Shape).size h0, p⟩ : View.Piece (Elt Ideal) ⟨2, ![M, N]⟩ e)] (ix2 i j) = p (ix2 i j) := by
  conv_lhs => rw [show (ix2 i j : (⟨2, ![M, N]⟩ : Shape).Idx) = (Rect.unit (s := ⟨2, ![M, N]⟩) ![0, 0] (⟨2, ![M, N]⟩ : Shape).size h0).emb (ix2 i j) from funext fun a => by
      match a with
      | ⟨0, _⟩ => exact Fin.ext (by show i.val = 0 + 1 * i.val; omega)
      | ⟨1, _⟩ => exact Fin.ext (by show j.val = 0 + 1 * j.val; omega)]
  exact View.canon_cons_emb _ _ _ _

/-- A block of one matrix stored whole. -/
theorem canon_whole3 {M N : ℕ} {e : EltTy} (p : (⟨3, ![1, M, N]⟩ : Shape).Idx → Elt Ideal e)
    {h0 : ∀ a, (![0, 0, 0] : Fin 3 → Nat) a + (⟨3, ![1, M, N]⟩ : Shape).size a ≤ (⟨3, ![1, M, N]⟩ : Shape).size a} (i : Fin M) (j : Fin N) :
    View.canon [(⟨Rect.unit (s := ⟨3, ![1, M, N]⟩) ![0, 0, 0] (⟨3, ![1, M, N]⟩ : Shape).size h0, p⟩ : View.Piece (Elt Ideal) ⟨3, ![1, M, N]⟩ e)] (ix3 0 i j) = p (ix3 0 i j) := by
  conv_lhs => rw [show (ix3 0 i j : (⟨3, ![1, M, N]⟩ : Shape).Idx) = (Rect.unit (s := ⟨3, ![1, M, N]⟩) ![0, 0, 0] (⟨3, ![1, M, N]⟩ : Shape).size h0).emb (ix3 0 i j) from funext fun a => by
      match a with
      | ⟨0, _⟩ => rfl
      | ⟨1, _⟩ => exact Fin.ext (by show i.val = 0 + 1 * i.val; omega)
      | ⟨2, _⟩ => exact Fin.ext (by show j.val = 0 + 1 * j.val; omega)]
  exact View.canon_cons_emb _ _ _ _

section proj
variable {x0 : Vec Ideal S1024x1024 .bf16} {x1 : Vec Ideal S1024x1024 .bf16} {x2 : Vec Ideal S1024x1024 .f32} {x3 : Vec Ideal S1x1024 .f32}
  {O X W : Fin 1024 → Fin 1024 → ℝ} {G : Fin 1024 → ℝ}

/-- The projection's block plus the input's. -/
theorem proj_rep {v0 : FVec Ideal S1024x1024 .f32} {v1 v2 : FVec Ideal S1024x1024 .bf16} (h0 : Rep v0 X) (h1 : Rep v1 O) (h2 : Rep v2 W) :
    Rep (Gen.k0_pay1 v0 v1 v2) (fun i d => X i d + ∑ k, O i k * W k d) :=
  (h0.add (h1.nn (h2.same _) Rep.zero none rfl)).congr fun i j => by rw [zero_add]

/-- The block of the first result. -/
theorem proj_block (h0 : ∀ i k, x0 (ix2 i k) = ((O i k : ℝ) : EReal)) (h1 : ∀ i k, x1 (ix2 i k) = ((W i k : ℝ) : EReal))
    (h2 : ∀ i k, x2 (ix2 i k) = ((X i k : ℝ) : EReal)) (i d : Fin 1024) :
    Gen.out0_4 x0 x1 x2 x3 (ix2 i d) = ((X i d + ∑ k, O i k * W k d : ℝ) : EReal) := by
  unfold Gen.out0_4
  rw [canon_whole2]
  exact proj_rep (v0 := View.ld x2 Gen.r0_0) (v1 := View.ld x0 Gen.r0_0) (v2 := View.ld x1 Gen.r0_0) (ld_whole2 h2 _) (ld_whole2 h0 _) (ld_whole2 h1 _) i d

/-- The block of the second result: the first normed and scaled. -/
theorem norm_block (h0 : ∀ i k, x0 (ix2 i k) = ((O i k : ℝ) : EReal)) (h1 : ∀ i k, x1 (ix2 i k) = ((W i k : ℝ) : EReal))
    (h2 : ∀ i k, x2 (ix2 i k) = ((X i k : ℝ) : EReal)) (h3 : ∀ k, x3 (ix2 0 k) = ((G k : ℝ) : EReal)) (i d : Fin 1024) :
    Gen.out0_5 x0 x1 x2 x3 (ix2 i d) = ((norm (fun d => X i d + ∑ k, O i k * W k d) G d : ℝ) : EReal) := by
  unfold Gen.out0_5
  rw [canon_whole2]
  have hp := proj_rep (v0 := View.ld x2 Gen.r0_0) (v1 := View.ld x0 Gen.r0_0) (v2 := View.ld x1 Gen.r0_0) (ld_whole2 h2 _) (ld_whole2 h0 _) (ld_whole2 h1 _)
  have hg : Rep (φ := .f32) (View.ld x3 Gen.r0_1 : FVec Ideal S1x1024 .f32) fun _ j => G j := ld_whole2 (fun i j => by rw [Subsingleton.elim i 0]; exact h3 j) _
  have hs := (((hp.mul hp).rowSum Facts₀.reduces_S1024x1024_S1024 Facts₀.shapeCasts_S1024_S1024x1 0x00000000#32 (.inl rfl) rfl).div (Rep.const thousand_word) (fun _ _ => by norm_num)).add (Rep.const eps_word.1)
  have hr := (hs.rsqrt fun i _ => mean_pos fun d => X i d + ∑ k, O i k * W k d).bcast Facts₀.broadcasts_S1024x1_S1024x1024 (by decide)
  exact ((hp.mul hr).mul ((hg.same _).rowBcast Facts₀.broadcasts_S1x1024_S1024x1024)).trunc _ i d

end proj

section up
variable {i : grid1.Coords} {k : Fin 8} {x0 : Vec Ideal S512x1024 .bf16} {x1 x2 : Vec Ideal S16x1024 .bf16} {x3 : Vec Ideal S2x1x1024x704 .bf16}
  {x4 : Vec Ideal S2x1x3x704 .f32} {x5 : Vec Ideal S2x1x1x704 .f32}
  {H : Fin 4096 → Fin 1024 → ℝ} {P Q : Fin 16 → Fin 1024 → ℝ} {W : Fin 2 → Fin 1024 → Fin 704 → ℝ} {C : Fin 2 → Fin 3 → Fin 704 → ℝ} {B : Fin 2 → Fin 704 → ℝ}

/-- Rows 16 to 528 of a block joined with its neighbours, moved by a row either way or not at all. -/
theorem shifts {v : FVec Ideal S544x704 .f32} {U : Fin 4096 → Fin 704 → ℝ} (h : Rep v fun e n => ext (fun i => U i n) (512 * k.val + e.val - 16)) :
    Rep (extractStridedSlice S512x704 ![16, 0] v Facts₀.slices_S544x704_o16_0_S512x704 : FVec Ideal S512x704 .f32) (fun i n => U (row k i) n) ∧
    Rep (extractStridedSlice S512x704 ![16, 0] (dynamicRotate 0 1#32 none v Facts₀.rotates_S544x704_d0) Facts₀.slices_S544x704_o16_0_S512x704 : FVec Ideal S512x704 .f32)
      (fun i n => ext (fun i => U i n) (((row k i).val : ℤ) - 1)) ∧
    Rep (extractStridedSlice S512x704 ![16, 0] (dynamicRotate 0 543#32 none v Facts₀.rotates_S544x704_d0) Facts₀.slices_S544x704_o16_0_S512x704 : FVec Ideal S512x704 .f32)
      (fun i n => ext (fun i => U i n) (((row k i).val : ℤ) + 1)) := by
  refine ⟨?_, ?_, ?_⟩
  · exact (h.rows 16 _ fun i => by omega).congr fun i n => ext_mid _ k i (by push_cast; ring)
  · refine ((h.rotate 1#32 Facts₀.rotates_S544x704_d0).rows 16 _ fun i => by omega).congr fun i n => congrArg _ ?_
    have e : (16 + i.val + 544 - 1 % 544) % 544 = 15 + i.val := by omega
    show (512 * k.val + ((16 + i.val + 544 - 1 % 544) % 544 : ℕ) - 16 : ℤ) = ((512 * k.val + i.val : ℕ) : ℤ) - 1
    rw [e]; push_cast; ring
  · refine ((h.rotate 543#32 Facts₀.rotates_S544x704_d0).rows 16 _ fun i => by omega).congr fun i n => congrArg _ ?_
    have e : (16 + i.val + 544 - 543 % 544) % 544 = 17 + i.val := by omega
    show (512 * k.val + ((16 + i.val + 544 - 543 % 544) % 544 : ℕ) - 16 : ℤ) = ((512 * k.val + i.val : ℕ) : ℤ) + 1
    rw [e]; push_cast; ring

/-- The convolution of one half of a block. -/
theorem conv_rep {v : FVec Ideal S544x704 .f32} {U : Fin 4096 → Fin 704 → ℝ} (h : Rep v fun e n => ext (fun i => U i n) (512 * k.val + e.val - 16))
    {w : FVec Ideal S3x704 .f32} {c : Fin 3 → Fin 704 → ℝ} (hw : Rep w c) {b : FVec Ideal S1x704 .f32} {β : Fin 704 → ℝ} (hb : Rep b fun _ n => β n) :
    Rep (addf (addf (addf (mulf (extractStridedSlice S512x704 ![16, 0] (dynamicRotate 0 1#32 none v Facts₀.rotates_S544x704_d0) Facts₀.slices_S544x704_o16_0_S512x704)
        (broadcastTo S512x704 (extractStridedSlice S1x704 ![0, 0] w Facts₀.slices_S3x704_o0_0_S1x704) Facts₀.broadcasts_S1x704_S512x704))
      (mulf (extractStridedSlice S512x704 ![16, 0] v Facts₀.slices_S544x704_o16_0_S512x704)
        (broadcastTo S512x704 (extractStridedSlice S1x704 ![1, 0] w Facts₀.slices_S3x704_o1_0_S1x704) Facts₀.broadcasts_S1x704_S512x704)))
      (mulf (extractStridedSlice S512x704 ![16, 0] (dynamicRotate 0 543#32 none v Facts₀.rotates_S544x704_d0) Facts₀.slices_S544x704_o16_0_S512x704)
        (broadcastTo S512x704 (extractStridedSlice S1x704 ![2, 0] w Facts₀.slices_S3x704_o2_0_S1x704) Facts₀.broadcasts_S1x704_S512x704)))
      (broadcastTo S512x704 b Facts₀.broadcasts_S1x704_S512x704) : FVec Ideal S512x704 .f32)
      (fun i n => conv (fun i => U i n) (fun t => c t n) (β n) (row k i)) := by
  obtain ⟨h1, h0, h2⟩ := shifts h
  have hc : ∀ (t : Fin 3) (hs : S3x704.Slices ![t.val, 0] S1x704), Rep (broadcastTo S512x704 (extractStridedSlice S1x704 ![t.val, 0] w hs) Facts₀.broadcasts_S1x704_S512x704 : FVec Ideal S512x704 .f32)
      fun _ n => c t n := fun t hs => Rep.rowBcast ((hw.rows t.val hs fun i => by have := t.isLt; omega).congr fun i n => congrArg (fun t => c t n) (Fin.ext (by simp))) _
  exact (((h0.mul (hc 0 _)).add (h1.mul (hc 1 _))).add (h2.mul (hc 2 _))).add (hb.rowBcast _)

variable (hk : (i 1).val = k.val) (h0 : ∀ r d, x0 (ix2 r d) = ((H (row k r) d : ℝ) : EReal))
  (h1 : ∀ r d, x1 (ix2 r d) = ((P r d : ℝ) : EReal)) (hP : ∀ (e : Fin 4096) (r : Fin 16) d, e.val + 16 = 512 * k.val + r.val → P r d = H e d)
  (h2 : ∀ r d, x2 (ix2 r d) = ((Q r d : ℝ) : EReal)) (hQ : ∀ (e : Fin 4096) (r : Fin 16) d, e.val = 512 * k.val + 512 + r.val → Q r d = H e d)
  (h3 : ∀ s d n, x3 (ix4 s 0 d n) = ((W s d n : ℝ) : EReal)) (h4 : ∀ s t n, x4 (ix4 s 0 t n) = ((C s t n : ℝ) : EReal))
  (h5 : ∀ s n, x5 (ix4 s 0 0 n) = ((B s n : ℝ) : EReal))

include hk h0 h1 hP h2 hQ in
/-- The block's rows of the normed input with 16 rows on either side, zeros beyond the ends. -/
theorem rows_rep : Rep (Gen.k1_pay15 i x0 x1 x2 x3 x4 x5) (fun e d => ext (fun i => H i d) (512 * k.val + e.val - 16)) := by
  have hz : Rep (broadcast S16x1024 (Scalar.ofBits (F := Ideal) .bf16 0x0000#16) : FVec Ideal S16x1024 .bf16) fun _ _ => 0 :=
    Rep.const (by simp [Ideal.ofBits, Ideal.ieee])
  have a : Rep (φ := .bf16) (View.ld x1 Gen.r1_0 : FVec Ideal S16x1024 .bf16) P := ld_whole2 h1 _
  have b : Rep (φ := .bf16) (View.ld x0 Gen.r1_1 : FVec Ideal S512x1024 .bf16) fun r d => H (row k r) d := ld_whole2 h0 _
  have c : Rep (φ := .bf16) (View.ld x2 Gen.r1_0 : FVec Ideal S16x1024 .bf16) Q := ld_whole2 h2 _
  refine Rep.cat3 (hz.pickNat (a.same Facts₀.shapeCasts_S16x1024_S16x1024) (i 1).val 0 (by have := (i 1).isLt; show (i 1).val < 2 ^ 32; omega) (by decide)) (b.same Facts₀.shapeCasts_S512x1024_S512x1024)
    (hz.pickNat (c.same Facts₀.shapeCasts_S16x1024_S16x1024) (i 1).val 7 (by have := (i 1).isLt; omega) (by decide)) Facts₀.concatenates_S16x1024_S512x1024_S16x1024_S544x1024_d0 rfl _ ?_ ?_ ?_
  · intro e r d he
    rw [hk]
    split
    · next h => exact ext_off _ (by omega)
    · next h => exact (ext_row _ ⟨512 * k.val + r.val - 16, by omega⟩ (by show _ = ((512 * k.val + r.val - 16 : ℕ) : ℤ); omega)).trans (hP _ r d (by show 512 * k.val + r.val - 16 + 16 = _; omega)).symm
  · intro e r d he
    exact ext_mid _ k r (by omega)
  · intro e r d he
    rw [hk]
    split
    · next h => exact ext_off _ (by omega)
    · next h => exact (ext_row _ ⟨512 * k.val + 512 + r.val, by omega⟩ (by show _ = ((512 * k.val + 512 + r.val : ℕ) : ℤ); omega)).trans (hQ _ r d rfl).symm

/-- The first product at hidden column `n` of half `s`. -/
def pre (H : Fin 4096 → Fin 1024 → ℝ) (W : Fin 1024 → Fin 704 → ℝ) (i : Fin 4096) (n : Fin 704) : ℝ := ∑ d, H i d * W d n

include hk h0 h1 hP h2 hQ h3 in
/-- One half of the first product on the block's rows and their neighbours. -/
theorem pre_rep (s : Fin 2) (hi : ∀ a, (![s.val, 0, 0, 0] : Fin 4 → Nat) a + S1x1x1024x704.size a ≤ S2x1x1024x704.size a) :
    Rep (Gen.k1_pay11 (Gen.k1_pay15 i x0 x1 x2 x3 x4 x5) (View.ld x3 (Rect.unit (s := S2x1x1024x704) ![s.val, 0, 0, 0] S1x1x1024x704.size hi)))
      (fun e n => ext (fun i => pre H (W s) i n) (512 * k.val + e.val - 16)) :=
  ((rows_rep hk h0 h1 hP h2 hQ).nn (Rep.ofQuad (fun d n => Rep.ofHalf h3 s hi d n) Facts₀.shapeCasts_S1x1x1024x704_S1024x704) Rep.zero none rfl).congr
    fun e n => by rw [zero_add]; exact ext_sum H (fun d => W s d n) _

include hk h0 h1 hP h2 hQ h3 in
/-- The block of the first product. -/
theorem up_block (s : Fin 2) (r : Fin 512) (n : Fin 704) :
    Gen.out1_6 i x0 x1 x2 x3 x4 x5 (ix4 s 0 r n) = ((pre H (W s) (row k r) n : ℝ) : EReal) := by
  unfold Gen.out1_6
  rw [canon_halves]
  match s with
  | ⟨0, _⟩ => exact (if_pos rfl).trans (Rep.toQuad (shifts (pre_rep (x4 := x4) (x5 := x5) hk h0 h1 hP h2 hQ h3 0 _)).1 Facts₀.shapeCasts_S512x704_S1x1x512x704 0 0 r n)
  | ⟨1, _⟩ => exact (if_neg (fun h => absurd (congrArg Fin.val h) Nat.one_ne_zero)).trans (Rep.toQuad (shifts (pre_rep (x4 := x4) (x5 := x5) hk h0 h1 hP h2 hQ h3 1 _)).1 Facts₀.shapeCasts_S512x704_S1x1x512x704 0 0 r n)

include hk h0 h1 hP h2 hQ h3 h4 h5 in
/-- The block of the activation. -/
theorem act_block (r : Fin 512) (n : Fin 704) :
    Gen.out1_7 i x0 x1 x2 x3 x4 x5 (ix3 0 r n) = ((gate (conv (fun i => pre H (W 0) i n) (fun t => C 0 t n) (B 0 n) (row k r))
      (conv (fun i => pre H (W 1) i n) (fun t => C 1 t n) (B 1 n) (row k r)) : ℝ) : EReal) := by
  unfold Gen.out1_7
  rw [canon_whole3]
  have hc : ∀ (s : Fin 2) (hi : ∀ a, (![s.val, 0, 0, 0] : Fin 4 → Nat) a + S1x1x3x704.size a ≤ S2x1x3x704.size a),
      Rep (shapeCast S3x704 (View.ld x4 (Rect.unit (s := S2x1x3x704) ![s.val, 0, 0, 0] S1x1x3x704.size hi)) Facts₀.shapeCasts_S1x1x3x704_S3x704 : FVec Ideal S3x704 .f32) (C s) :=
    fun s hi => Rep.ofQuad (fun d n => Rep.ofHalf h4 s hi d n) _
  have hb : ∀ (s : Fin 2) (hi : ∀ a, (![s.val, 0, 0, 0] : Fin 4 → Nat) a + S1x1x1x704.size a ≤ S2x1x1x704.size a),
      Rep (shapeCast S1x704 (View.ld x5 (Rect.unit (s := S2x1x1x704) ![s.val, 0, 0, 0] S1x1x1x704.size hi)) Facts₀.shapeCasts_S1x1x1x704_S1x704 : FVec Ideal S1x704 .f32) (fun _ n => B s n) :=
    fun s hi => Rep.ofQuad (fun d n => Rep.ofHalf (f := fun s _ n => B s n) (fun s i j => by rw [Subsingleton.elim i 0]; exact h5 s j) s hi d n) _
  have c0 := conv_rep (pre_rep (x4 := x4) (x5 := x5) hk h0 h1 hP h2 hQ h3 0 Facts₀.inb_S2x1x1024x704_S1x1x1024x704_0_0_0_0) (hc 0 Facts₀.inb_S2x1x3x704_S1x1x3x704_0_0_0_0) (hb 0 Facts₀.inb_S2x1x1x704_S1x1x1x704_0_0_0_0)
  have c1 := conv_rep (pre_rep (x4 := x4) (x5 := x5) hk h0 h1 hP h2 hQ h3 1 Facts₀.inb_S2x1x1024x704_S1x1x1024x704_1_0_0_0) (hc 1 Facts₀.inb_S2x1x3x704_S1x1x3x704_1_0_0_0) (hb 1 Facts₀.inb_S2x1x1x704_S1x1x1x704_1_0_0_0)
  exact Rep.toSlab (((c0.mul ((Rep.const one_word).div ((Rep.const one_word).add (Rep.zero'.sub c0).exp) (fun _ _ => logi_den _))).mul c1).trunc (by decide)) Facts₀.shapeCasts_S512x704_S1x512x704 0 r n

end up

section down
variable {x0 : Vec Ideal S4x1024x704 .bf16} {x1 : Vec Ideal S2816x1024 .bf16} {x2 : Vec Ideal S1024x1024 .f32}
  {A : Fin 4 → Fin 1024 → Fin 704 → ℝ} {W : Fin 2816 → Fin 1024 → ℝ} {X : Fin 1024 → Fin 1024 → ℝ}

/-- A sum over the hidden columns, block by block. -/
theorem sum_hidden (f : Fin 2816 → ℝ) : ∑ y, f y = (((∑ n : Fin 704, f ⟨n.val, by omega⟩) + ∑ n : Fin 704, f ⟨704 + n.val, by omega⟩)
    + ∑ n : Fin 704, f ⟨1408 + n.val, by omega⟩) + ∑ n : Fin 704, f ⟨2112 + n.val, by omega⟩ := by
  rw [← Equiv.sum_comp (finProdFinEquiv : Fin 4 × Fin 704 ≃ Fin (4 * 704)) (f : Fin (4 * 704) → ℝ), Fintype.sum_prod_type, Fin.sum_univ_four]
  refine congrArg₂ (· + ·) (congrArg₂ (· + ·) (congrArg₂ (· + ·) ?_ ?_) ?_) ?_ <;>
    exact Finset.sum_congr rfl fun n _ => congrArg f (Fin.ext (by simp [finProdFinEquiv, Nat.add_comm]))

/-- The block of the second product plus the residual. -/
theorem down_block (h0 : ∀ b i n, x0 (ix3 b i n) = ((A b i n : ℝ) : EReal)) (h1 : ∀ y d, x1 (ix2 y d) = ((W y d : ℝ) : EReal))
    (h2 : ∀ i d, x2 (ix2 i d) = ((X i d : ℝ) : EReal)) (i d : Fin 1024) :
    Gen.out2_3 x0 x1 x2 (ix2 i d) = ((X i d + ∑ y : Fin 2816, A ⟨y.val / 704, by omega⟩ i ⟨y.val % 704, by omega⟩ * W y d : ℝ) : EReal) := by
  unfold Gen.out2_3
  rw [canon_whole2]
  have ha : ∀ (b : Fin 4) (hi : ∀ a, (![b.val, 0, 0] : Fin 3 → Nat) a + S1x1024x704.size a ≤ S4x1024x704.size a),
      Rep (shapeCast S1024x704 (View.ld x0 (Rect.unit (s := S4x1024x704) ![b.val, 0, 0] S1x1024x704.size hi)) Facts₀.shapeCasts_S1x1024x704_S1024x704 : FVec Ideal S1024x704 .bf16) (A b) :=
    fun b hi => Rep.ofSlab (fun i j => ld_slab h0 b hi i j) _
  have hw : ∀ (o : ℕ) (ho : ∀ i : Fin 704, o + i.val < 2816) (hi : ∀ a, (![o, 0] : Fin 2 → Nat) a + S704x1024.size a ≤ S2816x1024.size a),
      Rep (shapeCast S704x1024 (View.ld x1 (Rect.unit (s := S2816x1024) ![o, 0] S704x1024.size hi)) Facts₀.shapeCasts_S704x1024_S704x1024 : FVec Ideal S704x1024 .bf16) (fun n d => W ⟨o + n.val, ho n⟩ d) :=
    fun o ho hi => Rep.same (v := View.ld x1 (Rect.unit (s := S2816x1024) ![o, 0] S704x1024.size hi)) (fun i j => ld_rows h1 o hi ho i j) _
  have hx : Rep (φ := .f32) (View.ld x2 Gen.r2_8 : FVec Ideal S1024x1024 .f32) X := ld_whole2 h2 _
  have hp : ∀ (b : Fin 4) (hi) (o : ℕ) (ho) (hj), _ := fun b hi o ho hj => (ha b hi).nn (hw o ho hj) Rep.zero none (D := dot_S1024x704_S704x1024_S1024x1024_1_0_0_1_n_n) rfl
  have key := ((((Rep.zero'.add (hp 0 Facts₀.inb_S4x1024x704_S1x1024x704_0_0_0 0 (fun i => by omega) Facts₀.inb_S2816x1024_S704x1024_0_0)).add
    (hp 1 Facts₀.inb_S4x1024x704_S1x1024x704_1_0_0 704 (fun i => by omega) Facts₀.inb_S2816x1024_S704x1024_704_0)).add
    (hp 2 Facts₀.inb_S4x1024x704_S1x1024x704_2_0_0 1408 (fun i => by omega) Facts₀.inb_S2816x1024_S704x1024_1408_0)).add
    (hp 3 Facts₀.inb_S4x1024x704_S1x1024x704_3_0_0 2112 (fun i => by omega) Facts₀.inb_S2816x1024_S704x1024_2112_0)).add (hx.same Facts₀.shapeCasts_S1024x1024_S1024x1024)
  refine (key i d).trans (congrArg Real.toEReal ?_)
  rw [sum_hidden]
  simp only [zero_add]
  rw [add_comm (X i d)]
  refine congrArg (· + X i d) (congrArg₂ (· + ·) (congrArg₂ (· + ·) (congrArg₂ (· + ·) ?_ ?_) ?_) ?_) <;>
    refine Finset.sum_congr rfl fun n _ => congrArg₂ (· * ·) (congrArg₂ (fun b n => A b i n) (Fin.ext ?_) (Fin.ext ?_)) (congrArg (fun y => W y d) (Fin.ext ?_)) <;>
    simp <;> omega

end down

/-- The block of the gradient of the first product's weights. -/
theorem dup_block {x0 : Vec Ideal S4096x1024 .bf16} {x1 : Vec Ideal S1x4096x704 .bf16} {H : Fin 4096 → Fin 1024 → ℝ} {D : Fin 4096 → Fin 704 → ℝ}
    (h0 : ∀ i d, x0 (ix2 i d) = ((H i d : ℝ) : EReal)) (h1 : ∀ i n, x1 (ix3 0 i n) = ((D i n : ℝ) : EReal)) (d : Fin 1024) (n : Fin 704) :
    Gen.out4_2 x0 x1 (ix3 0 d n) = ((∑ i, H i d * D i n : ℝ) : EReal) := by
  unfold Gen.out4_2
  rw [canon_whole3]
  have hx : Rep (φ := .bf16) (View.ld x0 Gen.r4_0 : FVec Ideal S4096x1024 .bf16) H := ld_whole2 h0 _
  have hy : Rep (shapeCast S4096x704 (View.ld x1 Gen.r4_1) Facts₀.shapeCasts_S1x4096x704_S4096x704 : FVec Ideal S4096x704 .bf16) D :=
    Rep.ofSlab (fun i j => ld_slab (A := 1) (f := fun _ => D) (fun a i j => by rw [Subsingleton.elim a 0]; exact h1 i j) 0 _ i j) _
  exact Rep.toSlab ((Rep.tn (hx.same Facts₀.shapeCasts_S4096x1024_S4096x1024) hy Rep.zero none (D := dot_S4096x1024_S4096x704_S1024x704_0_0_1_1_n_n) rfl rfl
    (fun i j k => by funext x; match x with | ⟨0, _⟩ => rfl | ⟨1, _⟩ => rfl)
    (fun i j k => by funext x; match x with | ⟨0, _⟩ => rfl | ⟨1, _⟩ => rfl)).congr fun i j => zero_add _) Facts₀.shapeCasts_S1024x704_S1x1024x704 0 d n

end Cert.Proof.Mlp

end
-- ==== Proof.MlpBwd.lean ====
/-
  The backward kernel through the gate and the convolution over the ideal values, one block at a time: the gradient
  of the first product's rows, and the sums the convolution's weights and bias take from the block.
-/
module

public import proofs.«01_k».proof.Proof.MlpFwd

@[expose] public section

set_option maxRecDepth 16384

noncomputable section

namespace Cert.Proof.Mlp

open Idealize.ShloMosaic hiding ix2 ix3 ix4
open Idealize.ShloMosaic.TcCoe Idealize.SL Idealize.SL.Sem Idealize.ShloMosaic.ValueIdx Cert.Kernel2Ideal
open scoped BigOperators

/-- Row `e` of a block's 512 rows with eight more on either side, as a row of the column. -/
def edge (k : Fin 8) (e : Fin 528) : ℤ := 512 * k.val + e.val - 8

/-- The gradient of the activation: the gradient of the second product's rows against its weights. -/
def dact (G : Fin 4096 → Fin 1024 → ℝ) (W : Fin 704 → Fin 1024 → ℝ) (i : Fin 4096) (n : Fin 704) : ℝ := ∑ d, G i d * W n d

/-- The convolution's column `n` of half `s`. -/
def cval (U : Fin 2 → Fin 4096 → Fin 704 → ℝ) (C : Fin 2 → Fin 3 → Fin 704 → ℝ) (B : Fin 2 → Fin 704 → ℝ) (s : Fin 2) (i : Fin 4096) (n : Fin 704) : ℝ :=
  conv (fun i => U s i n) (fun t => C s t n) (B s n) i

/-- The gradient of the convolution's value in half `s`. -/
def dconv (DA : Fin 4096 → Fin 704 → ℝ) (U : Fin 2 → Fin 4096 → Fin 704 → ℝ) (C : Fin 2 → Fin 3 → Fin 704 → ℝ) (B : Fin 2 → Fin 704 → ℝ) (s : Fin 2) (i : Fin 4096) (n : Fin 704) : ℝ :=
  if s = 0 then gate0 (DA i n) (cval U C B 0 i n) (cval U C B 1 i n) else gate1 (DA i n) (cval U C B 0 i n)

/-- The first half's choice. -/
theorem half_zero {α : Type} {h : 0 < 2} (a b : α) : (if (⟨0, h⟩ : Fin 2) = 0 then a else b) = a := if_pos rfl

/-- The second half's choice. -/
theorem half_one {α : Type} {h : 1 < 2} (a b : α) : (if (⟨1, h⟩ : Fin 2) = 0 then a else b) = b :=
  if_neg fun h => absurd (congrArg Fin.val h) Nat.one_ne_zero

/-- The second half is not the first. -/
theorem one_ne : ¬ (1 : Fin 2) = 0 := fun h => absurd (congrArg Fin.val h) Nat.one_ne_zero

/-- There are two halves. -/
theorem half_cases (s : Fin 2) : s = 0 ∨ s = 1 := by omega

section rows
variable {k : Fin 8}

/-- Rows 8 to 520 of an extended block, moved by a row either way or not at all; only rows 1 to 526 matter. -/
theorem shifts8 {v : FVec Ideal S528x704 .f32} {f : Fin 528 → Fin 704 → ℝ} {U : Fin 4096 → Fin 704 → ℝ} (h : Rep v f)
    (hf : ∀ e n, 1 ≤ e.val → e.val ≤ 526 → f e n = ext (fun i => U i n) (edge k e)) :
    Rep (extractStridedSlice S512x704 ![8, 0] v Facts₀.slices_S528x704_o8_0_S512x704 : FVec Ideal S512x704 .f32) (fun i n => U (row k i) n) ∧
    Rep (extractStridedSlice S512x704 ![8, 0] (dynamicRotate 0 1#32 none v Facts₀.rotates_S528x704_d0) Facts₀.slices_S528x704_o8_0_S512x704 : FVec Ideal S512x704 .f32)
      (fun i n => ext (fun i => U i n) (((row k i).val : ℤ) - 1)) ∧
    Rep (extractStridedSlice S512x704 ![8, 0] (dynamicRotate 0 527#32 none v Facts₀.rotates_S528x704_d0) Facts₀.slices_S528x704_o8_0_S512x704 : FVec Ideal S512x704 .f32)
      (fun i n => ext (fun i => U i n) (((row k i).val : ℤ) + 1)) := by
  refine ⟨?_, ?_, ?_⟩
  · refine (h.rows 8 _ fun i => by omega).congr fun i n => (hf _ n (by show 1 ≤ 8 + i.val; omega) (by show 8 + i.val ≤ 526; omega)).trans (ext_mid _ k i ?_)
    show (512 * k.val + (8 + i.val : ℕ) - 8 : ℤ) = _
    push_cast; ring
  · have e : ∀ i : Fin 512, (8 + i.val + 528 - 1 % 528) % 528 = 7 + i.val := fun i => by omega
    refine ((h.rotate 1#32 Facts₀.rotates_S528x704_d0).rows 8 _ fun i => by omega).congr fun i n => (hf _ n ?_ ?_).trans (congrArg _ ?_)
    · show 1 ≤ (8 + i.val + 528 - 1 % 528) % 528
      omega
    · show (8 + i.val + 528 - 1 % 528) % 528 ≤ 526
      omega
    · show (512 * k.val + ((8 + i.val + 528 - 1 % 528) % 528 : ℕ) - 8 : ℤ) = ((512 * k.val + i.val : ℕ) : ℤ) - 1
      rw [e]; push_cast; ring
  · have e : ∀ i : Fin 512, (8 + i.val + 528 - 527 % 528) % 528 = 9 + i.val := fun i => by omega
    refine ((h.rotate 527#32 Facts₀.rotates_S528x704_d0).rows 8 _ fun i => by omega).congr fun i n => (hf _ n ?_ ?_).trans (congrArg _ ?_)
    · show 1 ≤ (8 + i.val + 528 - 527 % 528) % 528
      omega
    · show (8 + i.val + 528 - 527 % 528) % 528 ≤ 526
      omega
    · show (512 * k.val + ((8 + i.val + 528 - 527 % 528) % 528 : ℕ) - 8 : ℤ) = ((512 * k.val + i.val : ℕ) : ℤ) + 1
      rw [e]; push_cast; ring

/-- The convolution on all 528 rows is a real matrix, and the true one on rows 1 to 526. -/
theorem conv8 {v : FVec Ideal S528x704 .f32} {U : Fin 4096 → Fin 704 → ℝ} (h : Rep v fun e n => ext (fun i => U i n) (edge k e))
    {w : FVec Ideal S3x704 .f32} {c : Fin 3 → Fin 704 → ℝ} (hw : Rep w c) {b : FVec Ideal S1x704 .f32} {β : Fin 704 → ℝ} (hb : Rep b fun _ n => β n) :
    ∃ f : Fin 528 → Fin 704 → ℝ, Rep (addf (addf (addf (mulf (dynamicRotate 0 1#32 none v Facts₀.rotates_S528x704_d0)
        (broadcastTo S528x704 (extractStridedSlice S1x704 ![0, 0] w Facts₀.slices_S3x704_o0_0_S1x704) Facts₀.broadcasts_S1x704_S528x704))
      (mulf v (broadcastTo S528x704 (extractStridedSlice S1x704 ![1, 0] w Facts₀.slices_S3x704_o1_0_S1x704) Facts₀.broadcasts_S1x704_S528x704)))
      (mulf (dynamicRotate 0 527#32 none v Facts₀.rotates_S528x704_d0)
        (broadcastTo S528x704 (extractStridedSlice S1x704 ![2, 0] w Facts₀.slices_S3x704_o2_0_S1x704) Facts₀.broadcasts_S1x704_S528x704)))
      (broadcastTo S528x704 b Facts₀.broadcasts_S1x704_S528x704) : FVec Ideal S528x704 .f32) f ∧
      ∀ (e : Fin 528) n (i : Fin 4096), 1 ≤ e.val → e.val ≤ 526 → (i.val : ℤ) = edge k e → f e n = conv (fun i => U i n) (fun t => c t n) (β n) i := by
  have hc : ∀ (t : Fin 3) (hs : S3x704.Slices ![t.val, 0] S1x704), Rep (broadcastTo S528x704 (extractStridedSlice S1x704 ![t.val, 0] w hs) Facts₀.broadcasts_S1x704_S528x704 : FVec Ideal S528x704 .f32)
      fun _ n => c t n := fun t hs => Rep.rowBcast ((hw.rows t.val hs fun i => by have := t.isLt; omega).congr fun i n => congrArg (fun t => c t n) (Fin.ext (by simp))) _
  refine ⟨_, ((((h.rotate 1#32 Facts₀.rotates_S528x704_d0).mul (hc 0 _)).add (h.mul (hc 1 _))).add ((h.rotate 527#32 Facts₀.rotates_S528x704_d0).mul (hc 2 _))).add (hb.rowBcast _), ?_⟩
  intro e n i h1 h2 hi
  unfold conv
  have e1 : (e.val + 528 - 1 % 528) % 528 = e.val - 1 := by omega
  have e2 : (e.val + 528 - 527 % 528) % 528 = e.val + 1 := by omega
  refine congrArg₂ (· + ·) (congrArg₂ (· + ·) (congrArg₂ (· + ·) (congrArg (· * c 0 n) (congrArg _ ?_)) (congrArg (· * c 1 n) (ext_row _ i hi.symm))) (congrArg (· * c 2 n) (congrArg _ ?_))) rfl
  · rw [hi]
    show (512 * k.val + ((e.val + 528 - 1 % 528) % 528 : ℕ) - 8 : ℤ) = 512 * k.val + e.val - 8 - 1
    rw [e1]; push_cast [h1]; ring
  · rw [hi]
    show (512 * k.val + ((e.val + 528 - 527 % 528) % 528 : ℕ) - 8 : ℤ) = 512 * k.val + e.val - 8 + 1
    rw [e2]; push_cast; ring

/-- The gradient of a convolution in its column, for a block. -/
theorem convT8 {v : FVec Ideal S528x704 .f32} {f : Fin 528 → Fin 704 → ℝ} {D : Fin 4096 → Fin 704 → ℝ} (h : Rep v f)
    (hf : ∀ e n, 1 ≤ e.val → e.val ≤ 526 → f e n = ext (fun i => D i n) (edge k e)) {w : FVec Ideal S3x704 .f32} {c : Fin 3 → Fin 704 → ℝ} (hw : Rep w c) :
    Rep (addf (addf (mulf (extractStridedSlice S512x704 ![8, 0] (dynamicRotate 0 527#32 none v Facts₀.rotates_S528x704_d0) Facts₀.slices_S528x704_o8_0_S512x704)
        (broadcastTo S512x704 (extractStridedSlice S1x704 ![0, 0] w Facts₀.slices_S3x704_o0_0_S1x704) Facts₀.broadcasts_S1x704_S512x704))
      (mulf (extractStridedSlice S512x704 ![8, 0] v Facts₀.slices_S528x704_o8_0_S512x704)
        (broadcastTo S512x704 (extractStridedSlice S1x704 ![1, 0] w Facts₀.slices_S3x704_o1_0_S1x704) Facts₀.broadcasts_S1x704_S512x704)))
      (mulf (extractStridedSlice S512x704 ![8, 0] (dynamicRotate 0 1#32 none v Facts₀.rotates_S528x704_d0) Facts₀.slices_S528x704_o8_0_S512x704)
        (broadcastTo S512x704 (extractStridedSlice S1x704 ![2, 0] w Facts₀.slices_S3x704_o2_0_S1x704) Facts₀.broadcasts_S1x704_S512x704)) : FVec Ideal S512x704 .f32)
      (fun i n => convT (fun i => D i n) (fun t => c t n) (row k i)) := by
  obtain ⟨h1, h0, h2⟩ := shifts8 h hf
  have hc : ∀ (t : Fin 3) (hs : S3x704.Slices ![t.val, 0] S1x704), Rep (broadcastTo S512x704 (extractStridedSlice S1x704 ![t.val, 0] w hs) Facts₀.broadcasts_S1x704_S512x704 : FVec Ideal S512x704 .f32)
      fun _ n => c t n := fun t hs => Rep.rowBcast ((hw.rows t.val hs fun i => by have := t.isLt; omega).congr fun i n => congrArg (fun t => c t n) (Fin.ext (by simp))) _
  exact ((h2.mul (hc 0 _)).add (h1.mul (hc 1 _))).add (h0.mul (hc 2 _))

/-- A product of two blocks summed down its columns. -/
theorem sum8 {v w : FVec Ideal S512x704 .f32} {f g : Fin 512 → Fin 704 → ℝ} (h : Rep v f) (hg : Rep w g) :
    Rep (shapeCast S1x704 (multiReduction .add [0] S704 (mulf v w) 0x00000000#32 Facts₀.reduces_S512x704_S704 (.inl rfl) rfl) Facts₀.shapeCasts_S704_S1x704 : FVec Ideal S1x704 .f32)
      (fun _ n => ∑ i, f i n * g i n) :=
  (h.mul hg).colSum _ _ _ _ _

/-- Four rows added to rows 0 to 3 of eight. -/
theorem stat8 {old : FVec Ideal S8x704 .f32} {o : Fin 8 → Fin 704 → ℝ} {s0 s1 s2 s3 : FVec Ideal S1x704 .f32} {S : ℕ → Fin 704 → ℝ} (ho : Rep old o)
    (h0 : Rep s0 fun _ n => S 0 n) (h1 : Rep s1 fun _ n => S 1 n) (h2 : Rep s2 fun _ n => S 2 n) (h3 : Rep s3 fun _ n => S 3 n) (hS : ∀ r n, 4 ≤ r → S r n = 0)
    (hb : (S1x704).ShapeCasts S1x704) (hc : (S1x704).Broadcasts S8x704) (hi : S8x704.Iotas .tc 32 [0]) :
    Rep (addf old (select (cmpi .eq (iota .tc S8x704 32 [0] hi) (broadcast S8x704 0#32)) (broadcastTo S8x704 (shapeCast S1x704 s0 hb) hc)
      (select (cmpi .eq (iota .tc S8x704 32 [0] hi) (broadcast S8x704 1#32)) (broadcastTo S8x704 (shapeCast S1x704 s1 hb) hc)
      (select (cmpi .eq (iota .tc S8x704 32 [0] hi) (broadcast S8x704 2#32)) (broadcastTo S8x704 (shapeCast S1x704 s2 hb) hc)
      (select (cmpi .eq (iota .tc S8x704 32 [0] hi) (broadcast S8x704 3#32)) (broadcastTo S8x704 (shapeCast S1x704 s3 hb) hc)
        (broadcast S8x704 (Scalar.ofBits (F := Ideal) .f32 0x00000000#32)))))) : FVec Ideal S8x704 .f32) (fun r n => o r n + S r.val n) := by
  refine (ho.add (Rep.pickRow ((h0.same hb).rowBcast hc) (Rep.pickRow ((h1.same hb).rowBcast hc) (Rep.pickRow ((h2.same hb).rowBcast hc)
    (Rep.pickRow ((h3.same hb).rowBcast hc) Rep.zero' hi 3 (by decide) (by decide)) hi 2 (by decide) (by decide)) hi 1 (by decide) (by decide)) hi 0 (by decide) (by decide))).congr fun r n => congrArg (o r n + ·) ?_
  split
  · next h => rw [h]
  · split
    · next h => rw [h]
    · split
      · next h => rw [h]
      · split
        · next h => rw [h]
        · exact (hS _ n (by omega)).symm

end rows

section point
variable {i : grid3.Coords} {k : Fin 8} {x0 : Vec Ideal S2x1x512x704 .f32} {x1 x2 : Vec Ideal S2x1x8x704 .f32} {x3 : Vec Ideal S512x1024 .f32} {x4 x5 : Vec Ideal S8x1024 .f32}
  {x6 : Vec Ideal S704x1024 .bf16} {x7 : Vec Ideal S2x1x3x704 .f32} {x8 : Vec Ideal S2x1x1x704 .f32}
  {U : Fin 2 → Fin 4096 → Fin 704 → ℝ} {P Q : Fin 2 → Fin 8 → Fin 704 → ℝ} {G : Fin 4096 → Fin 1024 → ℝ} {R T : Fin 8 → Fin 1024 → ℝ}
  {W : Fin 704 → Fin 1024 → ℝ} {C : Fin 2 → Fin 3 → Fin 704 → ℝ} {B : Fin 2 → Fin 704 → ℝ}

/-- Eight rows, 512 rows and eight rows more, zeros beyond the ends of the column. -/
theorem edges {N : ℕ} {a c : FVec Ideal ⟨2, ![8, N]⟩ .f32} {b : FVec Ideal ⟨2, ![512, N]⟩ .f32} {H : Fin 4096 → Fin N → ℝ} {p q : Fin 8 → Fin N → ℝ}
    (hk : (i 1).val = k.val) (ha : Rep a p) (hb : Rep b fun r d => H (row k r) d) (hc : Rep c q)
    (hP : ∀ (e : Fin 4096) (r : Fin 8) d, e.val + 8 = 512 * k.val + r.val → p r d = H e d)
    (hQ : ∀ (e : Fin 4096) (r : Fin 8) d, e.val = 512 * k.val + 512 + r.val → q r d = H e d)
    (hcat : Shape.Concatenates [(⟨2, ![8, N]⟩ : Shape), ⟨2, ![512, N]⟩, ⟨2, ![8, N]⟩] ⟨2, ![528, N]⟩ 0) :
    Rep (concatenate ⟨2, ![528, N]⟩ 0 [⟨⟨2, ![8, N]⟩, Scalar.select (Scalar.cmpi .eq (BitVec.ofNat 32 (i 1).val) 0#32) (broadcast ⟨2, ![8, N]⟩ (Scalar.ofBits (F := Ideal) .f32 0x00000000#32)) a⟩,
      ⟨⟨2, ![512, N]⟩, b⟩, ⟨⟨2, ![8, N]⟩, Scalar.select (Scalar.cmpi .eq (BitVec.ofNat 32 (i 1).val) 7#32) (broadcast ⟨2, ![8, N]⟩ (Scalar.ofBits (F := Ideal) .f32 0x00000000#32)) c⟩] hcat : FVec Ideal ⟨2, ![528, N]⟩ .f32)
      (fun e d => Mlp.ext (fun i => H i d) (edge k e)) := by
  refine Rep.cat3 (Rep.zero'.pickNat ha (i 1).val 0 (by have := (i 1).isLt; show (i 1).val < 2 ^ 32; omega) (by decide)) hb
    (Rep.zero'.pickNat hc (i 1).val 7 (by have := (i 1).isLt; omega) (by decide)) hcat rfl _ ?_ ?_ ?_
  · intro e r d he
    rw [hk]
    unfold edge
    split
    · next h => exact ext_off _ (by omega)
    · next h => exact (ext_row _ ⟨512 * k.val + r.val - 8, by omega⟩ (by show _ = ((512 * k.val + r.val - 8 : ℕ) : ℤ); omega)).trans (hP _ r d (by show 512 * k.val + r.val - 8 + 8 = _; omega)).symm
  · intro e r d he
    exact ext_mid _ k r (by unfold edge; omega)
  · intro e r d he
    rw [hk]
    unfold edge
    split
    · next h => exact ext_off _ (by omega)
    · next h => exact (ext_row _ ⟨512 * k.val + 512 + r.val, by omega⟩ (by show _ = ((512 * k.val + 512 + r.val : ℕ) : ℤ); omega)).trans (hQ _ r d rfl).symm

variable (hk : (i 1).val = k.val) (h0 : ∀ s r n, x0 (ix4 s 0 r n) = ((U s (row k r) n : ℝ) : EReal))
  (h1 : ∀ s r n, x1 (ix4 s 0 r n) = ((P s r n : ℝ) : EReal)) (hP : ∀ (e : Fin 4096) s (r : Fin 8) n, e.val + 8 = 512 * k.val + r.val → P s r n = U s e n)
  (h2 : ∀ s r n, x2 (ix4 s 0 r n) = ((Q s r n : ℝ) : EReal)) (hQ : ∀ (e : Fin 4096) s (r : Fin 8) n, e.val = 512 * k.val + 512 + r.val → Q s r n = U s e n)
  (h3 : ∀ r d, x3 (ix2 r d) = ((G (row k r) d : ℝ) : EReal))
  (h4 : ∀ r d, x4 (ix2 r d) = ((R r d : ℝ) : EReal)) (hR : ∀ (e : Fin 4096) (r : Fin 8) d, e.val + 8 = 512 * k.val + r.val → R r d = G e d)
  (h5 : ∀ r d, x5 (ix2 r d) = ((T r d : ℝ) : EReal)) (hT : ∀ (e : Fin 4096) (r : Fin 8) d, e.val = 512 * k.val + 512 + r.val → T r d = G e d)
  (h6 : ∀ n d, x6 (ix2 n d) = ((W n d : ℝ) : EReal)) (h7 : ∀ s t n, x7 (ix4 s 0 t n) = ((C s t n : ℝ) : EReal))
  (h8 : ∀ s n, x8 (ix4 s 0 0 n) = ((B s n : ℝ) : EReal))

/-- The rows of the first product a point works on, by half. -/
def urows (i : grid3.Coords) (x0 : Vec Ideal S2x1x512x704 .f32) (x1 x2 : Vec Ideal S2x1x8x704 .f32) (s : Fin 2) : FVec Ideal S528x704 .f32 :=
  if s = 0 then Gen.k3_pay7 (Gen.k3_pay4 (View.ld x0 (Rect.unit ![0, 0, 0, 0] ![1, 1, 512, 704] Gen.inb_S2x1x512x704_S1x1x512x704_0_0_0_0)))
      (Gen.k3_pay5 (View.ld x2 (Rect.unit ![0, 0, 0, 0] ![1, 1, 8, 704] Gen.inb_S2x1x8x704_S1x1x8x704_0_0_0_0)))
      (Gen.k3_pay6 i (View.ld x1 (Rect.unit ![0, 0, 0, 0] ![1, 1, 8, 704] Gen.inb_S2x1x8x704_S1x1x8x704_0_0_0_0)))
      (Scalar.cmpi CmpIPredicate.eq (BitVec.ofNat 32 (i 1).val) 7#32)
    else Gen.k3_pay15 (Gen.k3_pay11 (View.ld x0 (Rect.unit ![1, 0, 0, 0] ![1, 1, 512, 704] Gen.inb_S2x1x512x704_S1x1x512x704_1_0_0_0)))
      (Gen.k3_pay12 (View.ld x2 (Rect.unit ![1, 0, 0, 0] ![1, 1, 8, 704] Gen.inb_S2x1x8x704_S1x1x8x704_1_0_0_0)))
      (Gen.k3_pay13 (BitVec.ofNat 32 (i 1).val) (View.ld x1 (Rect.unit ![1, 0, 0, 0] ![1, 1, 8, 704] Gen.inb_S2x1x8x704_S1x1x8x704_1_0_0_0)))
      (Scalar.cmpi CmpIPredicate.eq (BitVec.ofNat 32 (i 1).val) 7#32) Gen.k3_pay14

include hk h0 h1 hP h2 hQ in
/-- They are the extended column's rows. -/
theorem urows_rep (s : Fin 2) : Rep (urows i x0 x1 x2 s) fun e n => ext (fun i => U s i n) (edge k e) := by
  have a : ∀ (s : Fin 2) (hi : ∀ a, (![s.val, 0, 0, 0] : Fin 4 → Nat) a + S1x1x8x704.size a ≤ S2x1x8x704.size a),
      Rep (shapeCast S8x704 (View.ld x1 (Rect.unit (s := S2x1x8x704) ![s.val, 0, 0, 0] S1x1x8x704.size hi)) Facts₀.shapeCasts_S1x1x8x704_S8x704 : FVec Ideal S8x704 .f32) (P s) :=
    fun s hi => Rep.ofQuad (fun d n => Rep.ofHalf h1 s hi d n) _
  have c : ∀ (s : Fin 2) (hi : ∀ a, (![s.val, 0, 0, 0] : Fin 4 → Nat) a + S1x1x8x704.size a ≤ S2x1x8x704.size a),
      Rep (shapeCast S8x704 (View.ld x2 (Rect.unit (s := S2x1x8x704) ![s.val, 0, 0, 0] S1x1x8x704.size hi)) Facts₀.shapeCasts_S1x1x8x704_S8x704 : FVec Ideal S8x704 .f32) (Q s) :=
    fun s hi => Rep.ofQuad (fun d n => Rep.ofHalf h2 s hi d n) _
  have b : ∀ (s : Fin 2) (hi : ∀ a, (![s.val, 0, 0, 0] : Fin 4 → Nat) a + S1x1x512x704.size a ≤ S2x1x512x704.size a),
      Rep (shapeCast S512x704 (View.ld x0 (Rect.unit (s := S2x1x512x704) ![s.val, 0, 0, 0] S1x1x512x704.size hi)) Facts₀.shapeCasts_S1x1x512x704_S512x704 : FVec Ideal S512x704 .f32) (fun r n => U s (row k r) n) :=
    fun s hi => Rep.ofQuad (fun d n => Rep.ofHalf (f := fun s r n => U s (row k r) n) h0 s hi d n) _
  have key := fun (s : Fin 2) hi hj => edges (i := i) hk (a s hi) (b s hj) (c s hi) (fun e r d he => hP e s r d he) (fun e r d he => hQ e s r d he) Facts₀.concatenates_S8x704_S512x704_S8x704_S528x704_d0
  unfold urows
  match s with
  | ⟨0, _⟩ => have e := key 0 Facts₀.inb_S2x1x8x704_S1x1x8x704_0_0_0_0 Facts₀.inb_S2x1x512x704_S1x1x512x704_0_0_0_0; rw [half_zero]; exact e
  | ⟨1, _⟩ => have e := key 1 Facts₀.inb_S2x1x8x704_S1x1x8x704_1_0_0_0 Facts₀.inb_S2x1x512x704_S1x1x512x704_1_0_0_0; rw [half_one]; exact e

include hk h3 h4 hR h5 hT h6 in
/-- The activation's gradient on the block's rows and their neighbours. -/
theorem dact_rep : Rep (Gen.k3_pay3 i x4 x3 x5 x6) fun e n => ext (fun i => dact G W i n) (edge k e) :=
  (Rep.nt ((edges (i := i) hk h4 h3 h5 hR hT Facts₀.concatenates_S8x1024_S512x1024_S8x1024_S528x1024_d0).trunc (by decide)) (Rep.same h6 Facts₀.shapeCasts_S704x1024_S704x1024) Rep.zero none
    (D := dot_S528x1024_S704x1024_S528x704_1_1_0_0_n_n) rfl).congr
    fun e n => by rw [zero_add]; exact ext_sum G (fun d => W n d) _

include h7 in
/-- The convolution's weights of a half. -/
theorem cw_rep (s : Fin 2) (hi : ∀ a, (![s.val, 0, 0, 0] : Fin 4 → Nat) a + S1x1x3x704.size a ≤ S2x1x3x704.size a) :
    Rep (shapeCast S3x704 (View.ld x7 (Rect.unit (s := S2x1x3x704) ![s.val, 0, 0, 0] S1x1x3x704.size hi)) Facts₀.shapeCasts_S1x1x3x704_S3x704 : FVec Ideal S3x704 .f32) (C s) :=
  Rep.ofQuad (fun d n => Rep.ofHalf h7 s hi d n) _

include h8 in
/-- The convolution's bias of a half. -/
theorem cb_rep (s : Fin 2) (hi : ∀ a, (![s.val, 0, 0, 0] : Fin 4 → Nat) a + S1x1x1x704.size a ≤ S2x1x1x704.size a) :
    Rep (shapeCast S1x704 (View.ld x8 (Rect.unit (s := S2x1x1x704) ![s.val, 0, 0, 0] S1x1x1x704.size hi)) Facts₀.shapeCasts_S1x1x1x704_S1x704 : FVec Ideal S1x704 .f32) (fun _ n => B s n) :=
  Rep.ofQuad (fun d n => Rep.ofHalf (f := fun s _ n => B s n) (fun s i j => by rw [Subsingleton.elim i 0]; exact h8 s j) s hi d n) _

/-- The convolution's value on the 528 rows, in the first half. -/
def crows (i : grid3.Coords) (x0 : Vec Ideal S2x1x512x704 .f32) (x1 x2 : Vec Ideal S2x1x8x704 .f32) (x7 : Vec Ideal S2x1x3x704 .f32) (x8 : Vec Ideal S2x1x1x704 .f32) : FVec Ideal S528x704 .f32 :=
  Gen.k3_pay10 (Gen.k3_pay4 (View.ld x0 (Rect.unit ![0, 0, 0, 0] ![1, 1, 512, 704] Gen.inb_S2x1x512x704_S1x1x512x704_0_0_0_0)))
      (Gen.k3_pay5 (View.ld x2 (Rect.unit ![0, 0, 0, 0] ![1, 1, 8, 704] Gen.inb_S2x1x8x704_S1x1x8x704_0_0_0_0)))
      (Gen.k3_pay6 i (View.ld x1 (Rect.unit ![0, 0, 0, 0] ![1, 1, 8, 704] Gen.inb_S2x1x8x704_S1x1x8x704_0_0_0_0)))
      (Scalar.cmpi CmpIPredicate.eq (BitVec.ofNat 32 (i 1).val) 7#32)
      (View.ld x7 (Rect.unit ![0, 0, 0, 0] ![1, 1, 3, 704] Gen.inb_S2x1x3x704_S1x1x3x704_0_0_0_0))
      (View.ld x8 (Rect.unit ![0, 0, 0, 0] ![1, 1, 1, 704] Gen.inb_S2x1x1x704_S1x1x1x704_0_0_0_0))

/-- The gradient of the convolution's value on the 528 rows, by half. -/
def drows (i : grid3.Coords) (x0 : Vec Ideal S2x1x512x704 .f32) (x1 x2 : Vec Ideal S2x1x8x704 .f32) (x3 : Vec Ideal S512x1024 .f32) (x4 x5 : Vec Ideal S8x1024 .f32)
    (x6 : Vec Ideal S704x1024 .bf16) (x7 : Vec Ideal S2x1x3x704 .f32) (x8 : Vec Ideal S2x1x1x704 .f32) (s : Fin 2) : FVec Ideal S528x704 .f32 :=
  if s = 0 then Gen.k3_pay19 (Gen.k3_pay3 i x4 x3 x5 x6) (crows i x0 x1 x2 x7 x8)
      (Gen.k3_pay11 (View.ld x0 (Rect.unit ![1, 0, 0, 0] ![1, 1, 512, 704] Gen.inb_S2x1x512x704_S1x1x512x704_1_0_0_0)))
      (Gen.k3_pay12 (View.ld x2 (Rect.unit ![1, 0, 0, 0] ![1, 1, 8, 704] Gen.inb_S2x1x8x704_S1x1x8x704_1_0_0_0)))
      (Gen.k3_pay13 (BitVec.ofNat 32 (i 1).val) (View.ld x1 (Rect.unit ![1, 0, 0, 0] ![1, 1, 8, 704] Gen.inb_S2x1x8x704_S1x1x8x704_1_0_0_0)))
      (Scalar.cmpi CmpIPredicate.eq (BitVec.ofNat 32 (i 1).val) 7#32) Gen.k3_pay14
      (View.ld x7 (Rect.unit ![1, 0, 0, 0] ![1, 1, 3, 704] Gen.inb_S2x1x3x704_S1x1x3x704_1_0_0_0))
      (View.ld x8 (Rect.unit ![1, 0, 0, 0] ![1, 1, 1, 704] Gen.inb_S2x1x1x704_S1x1x1x704_1_0_0_0))
    else Gen.k3_pay20 (Gen.k3_pay3 i x4 x3 x5 x6) (crows i x0 x1 x2 x7 x8)

include hk h0 h1 hP h2 hQ h3 h4 hR h5 hT h6 h7 h8 in
/-- They are a real matrix, and the true gradient on rows 1 to 526. -/
theorem drows_rep (s : Fin 2) : ∃ f : Fin 528 → Fin 704 → ℝ, Rep (drows i x0 x1 x2 x3 x4 x5 x6 x7 x8 s) f ∧
    ∀ e n, 1 ≤ e.val → e.val ≤ 526 → f e n = ext (fun i => dconv (dact G W) U C B s i n) (edge k e) := by
  have u0 := urows_rep hk h0 h1 hP h2 hQ 0
  have u1 := urows_rep hk h0 h1 hP h2 hQ 1
  have da := dact_rep hk h3 h4 hR h5 hT h6
  obtain ⟨f0, c0, e0⟩ := conv8 u0 (cw_rep h7 0 Facts₀.inb_S2x1x3x704_S1x1x3x704_0_0_0_0) (cb_rep h8 0 Facts₀.inb_S2x1x1x704_S1x1x1x704_0_0_0_0)
  obtain ⟨f1, c1, e1⟩ := conv8 u1 (cw_rep h7 1 Facts₀.inb_S2x1x3x704_S1x1x3x704_1_0_0_0) (cb_rep h8 1 Facts₀.inb_S2x1x1x704_S1x1x1x704_1_0_0_0)
  have sg := (Rep.const one_word).div ((Rep.const one_word).add (Rep.zero'.sub c0).exp) (fun _ _ => logi_den _)
  unfold drows
  match s with
  | ⟨0, _⟩ =>
    rw [half_zero]
    refine ⟨_, (da.mul c1).mul (sg.mul ((Rep.const one_word).add (c0.mul ((Rep.const one_word).sub sg)))), fun e n hl hr => ?_⟩
    by_cases hz : 0 ≤ edge k e ∧ edge k e < 4096
    · have hi : ((⟨(edge k e).toNat, by omega⟩ : Fin 4096).val : ℤ) = edge k e := Int.toNat_of_nonneg hz.1
      rw [ext_row _ ⟨(edge k e).toNat, by omega⟩ hi.symm, ext_row _ ⟨(edge k e).toNat, by omega⟩ hi.symm, e0 e n _ hl hr hi, e1 e n _ hl hr hi]
      rfl
    · rw [ext_off _ hz, ext_off _ hz]
      simp
  | ⟨1, _⟩ =>
    rw [half_one]
    refine ⟨_, da.mul (c0.mul sg), fun e n hl hr => ?_⟩
    by_cases hz : 0 ≤ edge k e ∧ edge k e < 4096
    · have hi : ((⟨(edge k e).toNat, by omega⟩ : Fin 4096).val : ℤ) = edge k e := Int.toNat_of_nonneg hz.1
      rw [ext_row _ ⟨(edge k e).toNat, by omega⟩ hi.symm, ext_row _ ⟨(edge k e).toNat, by omega⟩ hi.symm, e0 e n _ hl hr hi]
      rfl
    · rw [ext_off _ hz, ext_off _ hz]
      simp

/-- The sums a block adds to the statistics of half `s`. -/
def part (D U : Fin 4096 → Fin 704 → ℝ) (k : Fin 8) (r : ℕ) (n : Fin 704) : ℝ := ∑ i : Fin 512, convW (fun i => D i n) (fun i => U i n) r (row k i)

/-- The statistics a block adds, from the gradient's rows and the first product's. -/
theorem part_rep {d u : FVec Ideal S528x704 .f32} {f : Fin 528 → Fin 704 → ℝ} {D U : Fin 4096 → Fin 704 → ℝ} (hd : Rep d f)
    (hf : ∀ e n, 1 ≤ e.val → e.val ≤ 526 → f e n = Mlp.ext (fun i => D i n) (edge k e)) (hu : Rep u fun e n => Mlp.ext (fun i => U i n) (edge k e)) :
    Rep (Gen.k3_pay24 (dynamicRotate 0 1#32 none u Facts₀.rotates_S528x704_d0) d) (fun _ n => part D U k 0 n) ∧
    Rep (Gen.k3_pay25 u d) (fun _ n => part D U k 1 n) ∧
    Rep (Gen.k3_pay26 (dynamicRotate 0 527#32 none u Facts₀.rotates_S528x704_d0) d) (fun _ n => part D U k 2 n) ∧
    Rep (Gen.k3_pay27 d) (fun _ n => part D U k 3 n) := by
  obtain ⟨d1, _, _⟩ := shifts8 hd hf
  obtain ⟨u1, u0, u2⟩ := shifts8 hu fun _ _ _ _ => rfl
  exact ⟨sum8 d1 u0, sum8 d1 u1, sum8 d1 u2, d1.colSum Facts₀.reduces_S512x704_S704 Facts₀.shapeCasts_S704_S1x704 0x00000000#32 (.inl rfl) rfl⟩

/-- Past the fourth row nothing is added. -/
theorem part_zero (D U : Fin 4096 → Fin 704 → ℝ) (k : Fin 8) (r : ℕ) (n : Fin 704) (h : 4 ≤ r) : part D U k r n = 0 := by
  unfold part
  refine Finset.sum_eq_zero fun i _ => ?_
  unfold convW
  rw [if_neg (by omega), if_neg (by omega), if_neg (by omega), if_neg (by omega)]

/-- What a point stores of the gradient, first half. -/
theorem du_pay0 {d : FVec Ideal S528x704 .f32} {f : Fin 528 → Fin 704 → ℝ} {D : Fin 4096 → Fin 704 → ℝ} (hd : Rep d f)
    (hf : ∀ e n, 1 ≤ e.val → e.val ≤ 526 → f e n = Mlp.ext (fun i => D i n) (edge k e)) (h7 : ∀ s t n, x7 (ix4 s 0 t n) = ((C s t n : ℝ) : EReal)) (r : Fin 512) (n : Fin 704) :
    Gen.k3_pay23 d (Gen.k3_pay21 (View.ld x7 (Rect.unit ![0, 0, 0, 0] ![1, 1, 3, 704] Gen.inb_S2x1x3x704_S1x1x3x704_0_0_0_0))) (ix4 0 0 r n)
      = ((convT (fun i => D i n) (fun j => C 0 j n) (row k r) : ℝ) : EReal) :=
  Rep.toQuad ((convT8 hd hf (cw_rep h7 0 Facts₀.inb_S2x1x3x704_S1x1x3x704_0_0_0_0)).trunc (ψ := .bf16) (by decide)) Facts₀.shapeCasts_S512x704_S1x1x512x704 0 0 r n

/-- What a point stores of the gradient, second half. -/
theorem du_pay1 {d : FVec Ideal S528x704 .f32} {f : Fin 528 → Fin 704 → ℝ} {D : Fin 4096 → Fin 704 → ℝ} (hd : Rep d f)
    (hf : ∀ e n, 1 ≤ e.val → e.val ≤ 526 → f e n = Mlp.ext (fun i => D i n) (edge k e)) (h7 : ∀ s t n, x7 (ix4 s 0 t n) = ((C s t n : ℝ) : EReal)) (r : Fin 512) (n : Fin 704) :
    Gen.k3_pay34 d (View.ld x7 (Rect.unit ![1, 0, 0, 0] ![1, 1, 3, 704] Gen.inb_S2x1x3x704_S1x1x3x704_1_0_0_0)) (ix4 0 0 r n)
      = ((convT (fun i => D i n) (fun j => C 1 j n) (row k r) : ℝ) : EReal) :=
  Rep.toQuad ((convT8 hd hf (cw_rep h7 1 Facts₀.inb_S2x1x3x704_S1x1x3x704_1_0_0_0)).trunc (ψ := .bf16) (by decide)) Facts₀.shapeCasts_S512x704_S1x1x512x704 0 0 r n

/-- What a point stores of the statistics, first half. -/
theorem st_pay0 {d u u1 u2 : FVec Ideal S528x704 .f32} {f : Fin 528 → Fin 704 → ℝ} {D U : Fin 4096 → Fin 704 → ℝ} {y : Vec Ideal S2x1x8x704 .f32} {O : Fin 2 → Fin 8 → Fin 704 → ℝ} (hd : Rep d f)
    (hf : ∀ e n, 1 ≤ e.val → e.val ≤ 526 → f e n = Mlp.ext (fun i => D i n) (edge k e)) (hu : Rep u fun e n => Mlp.ext (fun i => U i n) (edge k e))
    (e1 : u1 = dynamicRotate 0 1#32 none u Facts₀.rotates_S528x704_d0) (e2 : u2 = dynamicRotate 0 527#32 none u Facts₀.rotates_S528x704_d0)
    (hy : ∀ s r n, y (ix4 s 0 r n) = ((O s r n : ℝ) : EReal)) (r : Fin 8) (n : Fin 704) :
    Gen.k3_pay32 (iota Kind.tc S8x704 32 [0] Gen.iota_S8x704_d0_w32) (Gen.k3_pay24 u1 d) (Gen.k3_pay25 u d) (Gen.k3_pay26 u2 d) (Gen.k3_pay27 d)
      (Gen.k3_pay28 (View.ld y (Rect.unit ![0, 0, 0, 0] ![1, 1, 8, 704] Gen.inb_S2x1x8x704_S1x1x8x704_0_0_0_0)))
      (Gen.k3_pay29 (iota Kind.tc S8x704 32 [0] Gen.iota_S8x704_d0_w32)) (Gen.k3_pay30 (iota Kind.tc S8x704 32 [0] Gen.iota_S8x704_d0_w32))
      (Gen.k3_pay31 (iota Kind.tc S8x704 32 [0] Gen.iota_S8x704_d0_w32)) (ix4 0 0 r n) = ((O 0 r n + part D U k r.val n : ℝ) : EReal) := by
  subst e1 e2
  obtain ⟨a0, a1, a2, a3⟩ := part_rep hd hf hu
  have o : Rep (shapeCast S8x704 (View.ld y (Rect.unit (s := S2x1x8x704) ![0, 0, 0, 0] S1x1x8x704.size Facts₀.inb_S2x1x8x704_S1x1x8x704_0_0_0_0)) Facts₀.shapeCasts_S1x1x8x704_S8x704 : FVec Ideal S8x704 .f32) (O 0) :=
    Rep.ofQuad (fun d n => Rep.ofHalf hy 0 Facts₀.inb_S2x1x8x704_S1x1x8x704_0_0_0_0 d n) Facts₀.shapeCasts_S1x1x8x704_S8x704
  exact Rep.toQuad (stat8 o a0 a1 a2 a3 (part_zero _ _ k) Facts₀.shapeCasts_S1x704_S1x704 Facts₀.broadcasts_S1x704_S8x704 Facts₀.iota_S8x704_d0_w32) Facts₀.shapeCasts_S8x704_S1x1x8x704 0 0 r n

/-- What a point stores of the statistics, second half. -/
theorem st_pay1 {d u u1 u2 : FVec Ideal S528x704 .f32} {f : Fin 528 → Fin 704 → ℝ} {D U : Fin 4096 → Fin 704 → ℝ} {y : Vec Ideal S2x1x8x704 .f32} {O : Fin 2 → Fin 8 → Fin 704 → ℝ} (hd : Rep d f)
    (hf : ∀ e n, 1 ≤ e.val → e.val ≤ 526 → f e n = Mlp.ext (fun i => D i n) (edge k e)) (hu : Rep u fun e n => Mlp.ext (fun i => U i n) (edge k e))
    (e1 : u1 = dynamicRotate 0 1#32 none u Facts₀.rotates_S528x704_d0) (e2 : u2 = dynamicRotate 0 527#32 none u Facts₀.rotates_S528x704_d0)
    (hy : ∀ s r n, y (ix4 s 0 r n) = ((O s r n : ℝ) : EReal)) (r : Fin 8) (n : Fin 704) :
    Gen.k3_pay1 (Gen.k3_pay36 u u2 (iota Kind.tc S8x704 32 [0] Gen.iota_S8x704_d0_w32) (Gen.k3_pay33 d) (Gen.k3_pay35 u1)
      (View.ld y (Rect.unit ![1, 0, 0, 0] ![1, 1, 8, 704] Gen.inb_S2x1x8x704_S1x1x8x704_1_0_0_0))) (ix4 0 0 r n) = ((O 1 r n + part D U k r.val n : ℝ) : EReal) := by
  subst e1 e2
  obtain ⟨a0, a1, a2, a3⟩ := part_rep hd hf hu
  have o : Rep (shapeCast S8x704 (View.ld y (Rect.unit (s := S2x1x8x704) ![1, 0, 0, 0] S1x1x8x704.size Facts₀.inb_S2x1x8x704_S1x1x8x704_1_0_0_0)) Facts₀.shapeCasts_S1x1x8x704_S8x704 : FVec Ideal S8x704 .f32) (O 1) :=
    Rep.ofQuad (fun d n => Rep.ofHalf hy 1 Facts₀.inb_S2x1x8x704_S1x1x8x704_1_0_0_0 d n) Facts₀.shapeCasts_S1x1x8x704_S8x704
  exact Rep.toQuad (stat8 o a0 a1 a2 a3 (part_zero _ _ k) Facts₀.shapeCasts_S1x704_S1x704 Facts₀.broadcasts_S1x704_S8x704 Facts₀.iota_S8x704_d0_w32) Facts₀.shapeCasts_S8x704_S1x1x8x704 0 0 r n

end point

section du
variable {V : (c : Dev nD) → (b : Ref sig .tc) → Buf (Elt Ideal) ((c.tc : Thread nD τ).loc b)} {c : Dev nD} {t : Fin cfg3.N} {k : Fin 8}
  {x0 : Vec Ideal S2x1x512x704 .f32} {x1 x2 : Vec Ideal S2x1x8x704 .f32} {x3 : Vec Ideal S512x1024 .f32} {x4 x5 : Vec Ideal S8x1024 .f32}
  {x6 : Vec Ideal S704x1024 .bf16} {x7 : Vec Ideal S2x1x3x704 .f32} {x8 : Vec Ideal S2x1x1x704 .f32}
  {U : Fin 2 → Fin 4096 → Fin 704 → ℝ} {P Q : Fin 2 → Fin 8 → Fin 704 → ℝ} {G : Fin 4096 → Fin 1024 → ℝ} {R T : Fin 8 → Fin 1024 → ℝ}
  {W : Fin 704 → Fin 1024 → ℝ} {C : Fin 2 → Fin 3 → Fin 704 → ℝ} {B : Fin 2 → Fin 704 → ℝ}
  (hk : (grid3.coords t 1).val = k.val) (h0 : ∀ s r n, x0 (ix4 s 0 r n) = ((U s (row k r) n : ℝ) : EReal))
  (h1 : ∀ s r n, x1 (ix4 s 0 r n) = ((P s r n : ℝ) : EReal)) (hP : ∀ (e : Fin 4096) s (r : Fin 8) n, e.val + 8 = 512 * k.val + r.val → P s r n = U s e n)
  (h2 : ∀ s r n, x2 (ix4 s 0 r n) = ((Q s r n : ℝ) : EReal)) (hQ : ∀ (e : Fin 4096) s (r : Fin 8) n, e.val = 512 * k.val + 512 + r.val → Q s r n = U s e n)
  (h3 : ∀ r d, x3 (ix2 r d) = ((G (row k r) d : ℝ) : EReal))
  (h4 : ∀ r d, x4 (ix2 r d) = ((R r d : ℝ) : EReal)) (hR : ∀ (e : Fin 4096) (r : Fin 8) d, e.val + 8 = 512 * k.val + r.val → R r d = G e d)
  (h5 : ∀ r d, x5 (ix2 r d) = ((T r d : ℝ) : EReal)) (hT : ∀ (e : Fin 4096) (r : Fin 8) d, e.val = 512 * k.val + 512 + r.val → T r d = G e d)
  (h6 : ∀ n d, x6 (ix2 n d) = ((W n d : ℝ) : EReal)) (h7 : ∀ s j n, x7 (ix4 s 0 j n) = ((C s j n : ℝ) : EReal))
  (h8 : ∀ s n, x8 (ix4 s 0 0 n) = ((B s n : ℝ) : EReal))
  (g0 : Gen.iblk3 V c 0 t = x0) (g1 : Gen.iblk3 V c 1 t = x1) (g2 : Gen.iblk3 V c 2 t = x2) (g3 : Gen.iblk3 V c 3 t = x3) (g4 : Gen.iblk3 V c 4 t = x4) (g5 : Gen.iblk3 V c 5 t = x5) (g6 : Gen.iblk3 V c 6 t = x6) (g7 : Gen.iblk3 V c 7 t = x7) (g8 : Gen.iblk3 V c 8 t = x8)

include hk h0 h1 hP h2 hQ h3 h4 hR h5 hT h6 h7 h8 g0 g1 g2 g3 g4 g5 g6 g7 g8

/-- The block of the first product's gradient. -/
theorem du_block (s : Fin 2) (r : Fin 512) (n : Fin 704) :
    (Gen.outsAt3 V c t.val t.isLt).1 (ix4 s 0 r n) = ((convT (fun i => dconv (dact G W) U C B s i n) (fun j => C s j n) (row k r) : ℝ) : EReal) := by
  obtain ⟨f0, d0, e0⟩ := drows_rep hk h0 h1 hP h2 hQ h3 h4 hR h5 hT h6 h7 h8 0
  obtain ⟨f1, d1, e1⟩ := drows_rep hk h0 h1 hP h2 hQ h3 h4 hR h5 hT h6 h7 h8 1
  rw [drows, if_pos rfl, crows] at d0
  rw [drows, if_neg one_ne, crows] at d1
  by_cases h : t.val % 8 = 0
  · rw [Gen.outsAt3_A V c t h, g0, g1, g2, g3, g4, g5, g6, g7, g8]
    frame_out
    rw [canon_halves]
    rcases half_cases s with hs | hs
    · have e := du_pay0 d0 e0 h7 r n; rw [hs, if_pos rfl]; exact e
    · have e := du_pay1 d1 e1 h7 r n; rw [hs, if_neg one_ne]; exact e
  · rw [Gen.outsAt3_B V c t h, g0, g1, g2, g3, g4, g5, g6, g7, g8]
    frame_out
    rw [canon_halves]
    rcases half_cases s with hs | hs
    · have e := du_pay0 d0 e0 h7 r n; rw [hs, if_pos rfl]; exact e
    · have e := du_pay1 d1 e1 h7 r n; rw [hs, if_neg one_ne]; exact e

/-- The statistics after a first block. -/
theorem st_first (h : t.val % 8 = 0) (s : Fin 2) (r : Fin 8) (n : Fin 704) :
    (Gen.outsAt3 V c t.val t.isLt).2 (ix4 s 0 r n) = ((part (dconv (dact G W) U C B s) (U s) k r.val n : ℝ) : EReal) := by
  obtain ⟨f0, d0, e0⟩ := drows_rep hk h0 h1 hP h2 hQ h3 h4 hR h5 hT h6 h7 h8 0
  obtain ⟨f1, d1, e1⟩ := drows_rep hk h0 h1 hP h2 hQ h3 h4 hR h5 hT h6 h7 h8 1
  rw [drows, if_pos rfl, crows] at d0
  rw [drows, if_neg one_ne, crows] at d1
  have u0 := urows_rep hk h0 h1 hP h2 hQ 0
  have u1 := urows_rep hk h0 h1 hP h2 hQ 1
  rw [urows, if_pos rfl] at u0
  rw [urows, if_neg one_ne] at u1
  have z : ∀ s r n, (Gen.k3_pay2 (F := Ideal)) (ix4 s 0 r n) = (((fun _ _ _ => 0 : Fin 2 → Fin 8 → Fin 704 → ℝ) s r n : ℝ) : EReal) := fun s r n => by
    show Ideal.ofBits .f32 0x00000000#32 = _
    rw [Ideal.ofBits_zero_f32, EReal.coe_zero]
  rw [Gen.outsAt3_A V c t h, g0, g1, g2, g3, g4, g5, g6, g7, g8]
  frame_out
  simp (disch := decide) only [↓ View.readCov_skip, ↓ View.readCov_cons_toLoadRect, ↓ View.readCov_fill]
  rw [canon_halves]
  rcases half_cases s with hs | hs
  · have e := (st_pay0 d0 e0 u0 rfl rfl z r n).trans (congrArg Real.toEReal (zero_add _)); rw [hs, if_pos rfl]; exact e
  · have e := (st_pay1 d1 e1 u1 rfl rfl z r n).trans (congrArg Real.toEReal (zero_add _)); rw [hs, if_neg one_ne]; exact e

/-- The statistics after a later block. -/
theorem st_next (h : ¬ t.val % 8 = 0) {O : Fin 2 → Fin 8 → Fin 704 → ℝ}
    {y : Vec Ideal S2x1x8x704 .f32}
    (gy : (Gen.outsAt3 V c (t.val - 1) (Nat.lt_of_le_of_lt (Nat.sub_le _ _) t.isLt)).2 = y) (ho : ∀ s r n, y (ix4 s 0 r n) = ((O s r n : ℝ) : EReal)) (s : Fin 2) (r : Fin 8) (n : Fin 704) :
    (Gen.outsAt3 V c t.val t.isLt).2 (ix4 s 0 r n) = ((O s r n + part (dconv (dact G W) U C B s) (U s) k r.val n : ℝ) : EReal) := by
  obtain ⟨f0, d0, e0⟩ := drows_rep hk h0 h1 hP h2 hQ h3 h4 hR h5 hT h6 h7 h8 0
  obtain ⟨f1, d1, e1⟩ := drows_rep hk h0 h1 hP h2 hQ h3 h4 hR h5 hT h6 h7 h8 1
  rw [drows, if_pos rfl, crows] at d0
  rw [drows, if_neg one_ne, crows] at d1
  have u0 := urows_rep hk h0 h1 hP h2 hQ 0
  have u1 := urows_rep hk h0 h1 hP h2 hQ 1
  rw [urows, if_pos rfl] at u0
  rw [urows, if_neg one_ne] at u1
  rw [Gen.outsAt3_B V c t h, g0, g1, g2, g3, g4, g5, g6, g7, g8, gy]
  frame_out
  rw [canon_halves]
  rcases half_cases s with hs | hs
  · have e := st_pay0 d0 e0 u0 rfl rfl ho r n; rw [hs, if_pos rfl]; exact e
  · have e := st_pay1 d1 e1 u1 rfl rfl ho r n; rw [hs, if_neg one_ne]; exact e

end du

end Cert.Proof.Mlp

end
-- ==== Proof.MlpArr.lean ====
/-
  What each call of the gated MLP leaves in its arrays, block by block, given reals in the arrays it reads.
-/
module

public import proofs.«01_k».proof.Proof.MlpFwd
public import proofs.«01_k».proof.Proof.MlpBwd

@[expose] public section

set_option maxRecDepth 16384

noncomputable section

namespace Cert.Proof.Mlp

open Idealize.ShloMosaic hiding ix2 ix3 ix4
open Idealize.ShloMosaic.TcCoe Idealize.SL Idealize.SL.Sem Idealize.ShloMosaic.ValueIdx Cert.Kernel2Ideal
open scoped BigOperators

variable {V : (c : Dev nD) → (b : Ref sig .tc) → Buf (Elt Ideal) ((c.tc : Thread nD τ).loc b)} {c : Dev nD}

/-- Row `d` of the second layer's weight up. -/
def upRow (d : Fin 1024) : Fin 2048 := ⟨1024 + d.val, by omega⟩

/-- The hidden block of hidden row `z`. -/
def hidBlk (z : Fin 2816) : Fin 4 := ⟨z.val / 704, by omega⟩

/-- The place of hidden row `z` in its block. -/
def hidPos (z : Fin 2816) : Fin 704 := ⟨z.val % 704, by omega⟩

/-- Row `i` of the block of 1024 rows numbered `k`. -/
def row4 (k : Fin 4) (i : Fin 1024) : Fin 4096 := ⟨k.val * 1024 + i.val, by omega⟩

/-- Where the blocks of the projection's grid lie. -/
theorem idx0 : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] := by
  decide +kernel

/-- The projection's grid has 4 points. -/
theorem lt0 (t : Fin cfg0.N) : t.val < 4 := lt_of_lt_of_eq t.isLt Gen.N_0

section proj
variable {O X : Fin 4096 → Fin 1024 → ℝ} {W : Fin 1024 → Fin 1024 → ℝ} {g : Fin 1024 → ℝ}
  (hO : ∀ i k, V c main_arg1 (ix2 i k) = ((O i k : ℝ) : EReal)) (hW : ∀ i k, V c main_v8 (ix2 i k) = ((W i k : ℝ) : EReal))
  (hX : ∀ i k, V c main_arg0 (ix2 i k) = ((X i k : ℝ) : EReal)) (hg : ∀ k, V c main_v9 (ix2 (0 : Fin 1) k) = ((g k : ℝ) : EReal))
include hO hW hX

/-- The array of the projection plus the input. -/
theorem x2_array : (Gen.dat0 V c).arrAt 4 cfg0.N = fun y : S4096x1024.Idx => ((xres X O W (y 0) (y 1) : ℝ) : EReal) := by
  refine (Gen.dat0 V c).arrAt_eq_of_covers 4 _ (by decide +kernel) fun t hf y => ?_
  blk_simp
  rw [Gen.after0_4]
  obtain ⟨i, d, rfl⟩ : ∃ (i d : Fin 1024), y = ix2 i d := ⟨y 0, y 1, ValueIdx.eq_ix2 (n0 := 1024) (n1 := 1024) y⟩
  have e0 : (win0_4.blk t).view.emb (ix2 i d) 0 = row4 ⟨t.val, lt0 t⟩ i := Fin.ext (by unfold row4; blk_simp [idx0 t]; rfl)
  have e1 : (win0_4.blk t).view.emb (ix2 i d) 1 = d := Fin.ext (by blk_simp [idx0 t] <;> simp <;> rfl)
  rw [e0, e1]
  refine (proj_block (O := fun i => O (row4 ⟨t.val, lt0 t⟩ i)) (X := fun i => X (row4 ⟨t.val, lt0 t⟩ i)) (W := W) ?_ ?_ ?_ i d)
  · intro i k; rw [← hO]; blk_ext [Gen.iblk0, idx0 t, row4]
  · intro i k; rw [← hW]; blk_ext [Gen.iblk0, idx0 t]
  · intro i k; rw [← hX]; blk_ext [Gen.iblk0, idx0 t, row4]

include hg in
/-- The array of the normed and scaled rows. -/
theorem hf_array : (Gen.dat0 V c).arrAt 5 cfg0.N = fun y : S4096x1024.Idx => ((norm (xres X O W (y 0)) g (y 1) : ℝ) : EReal) := by
  refine (Gen.dat0 V c).arrAt_eq_of_covers 5 _ (by decide +kernel) fun t hf y => ?_
  blk_simp
  rw [Gen.after0_5]
  obtain ⟨i, d, rfl⟩ : ∃ (i d : Fin 1024), y = ix2 i d := ⟨y 0, y 1, ValueIdx.eq_ix2 (n0 := 1024) (n1 := 1024) y⟩
  have e0 : (win0_5.blk t).view.emb (ix2 i d) 0 = row4 ⟨t.val, lt0 t⟩ i := Fin.ext (by unfold row4; blk_simp [idx0 t]; rfl)
  have e1 : (win0_5.blk t).view.emb (ix2 i d) 1 = d := Fin.ext (by blk_simp [idx0 t] <;> simp <;> rfl)
  rw [e0, e1]
  refine (norm_block (O := fun i => O (row4 ⟨t.val, lt0 t⟩ i)) (X := fun i => X (row4 ⟨t.val, lt0 t⟩ i)) (W := W) (G := g) ?_ ?_ ?_ ?_ i d)
  · intro i k; rw [← hO]; blk_ext [Gen.iblk0, idx0 t, row4]
  · intro i k; rw [← hW]; blk_ext [Gen.iblk0, idx0 t]
  · intro i k; rw [← hX]; blk_ext [Gen.iblk0, idx0 t, row4]
  · intro k; rw [← hg]; blk_ext [Gen.iblk0, idx0 t]

end proj

/-- A row of a block, its number first. -/
theorem row_eq (k : Fin 8) (i : Fin 512) : row k i = ⟨k.val * 512 + i.val, by omega⟩ := Fin.ext (by show 512 * k.val + i.val = k.val * 512 + i.val; omega)

/-- The column block of a grid point. -/
def colOf (n : ℕ) (h : n < 32) : Fin 4 := ⟨n / 8, by omega⟩

/-- The row block of a grid point. -/
def rowOf (n : ℕ) : Fin 8 := ⟨n % 8, by omega⟩

/-- Where the blocks of the first product's grid lie. -/
theorem idx1 : ∀ t : Fin cfg1.N, (win1_0.index t = ![t.val % 8, 0] ∧ win1_1.index t = ![32 * (t.val % 8) - 1, 0] ∧ win1_2.index t = ![min (32 * (t.val % 8 + 1)) 255, 0] ∧
    win1_3.index t = ![0, t.val / 8, 1, 0] ∧ win1_4.index t = ![0, t.val / 8, 0, 0] ∧ win1_5.index t = ![0, t.val / 8, 0, 0]) ∧
    win1_6.index t = ![0, t.val / 8, t.val % 8, 0] ∧ win1_7.index t = ![t.val / 8, t.val % 8, 0] ∧ (grid1.coords t 1).val = t.val % 8 := by
  decide +kernel

/-- The first product's grid has 32 points. -/
theorem lt1 (t : Fin cfg1.N) : t.val < 32 := lt_of_lt_of_eq t.isLt Gen.N_1

section up
variable {H : Fin 4096 → Fin 1024 → ℝ} {W : Fin 2 → Fin 4 → Fin 1024 → Fin 704 → ℝ} {C : Fin 2 → Fin 4 → Fin 3 → Fin 704 → ℝ} {B : Fin 2 → Fin 4 → Fin 704 → ℝ}
  (hH : ∀ i k, V c main_v10_1 (ix2 i k) = ((H i k : ℝ) : EReal))
  (hW : ∀ s b (d : Fin 1024) n, V c main_v11 (ix4 s b (upRow d) n) = ((W s b d n : ℝ) : EReal))
  (hC : ∀ s b j n, V c main_v6 (ix4 s b j n) = ((C s b j n : ℝ) : EReal)) (hB : ∀ s b n, V c main_v7 (ix4 s b (0 : Fin 1) n) = ((B s b n : ℝ) : EReal))
include hH hW

/-- The array of the first product. -/
theorem u_array : (Gen.dat1 V c).arrAt 6 cfg1.N = fun y : S2x4x4096x704.Idx => ((pre H (W (y 0) (y 1)) (y 2) (y 3) : ℝ) : EReal) := by
  refine (Gen.dat1 V c).arrAt_eq_of_covers 6 _ (by decide +kernel) fun t hf y => ?_
  blk_simp
  rw [Gen.after1_6]
  obtain ⟨s, z, r, n, rfl⟩ : ∃ (s : Fin 2) (z : Fin 1) (r : Fin 512) (n : Fin 704), y = ix4 s z r n := ⟨y 0, y 1, y 2, y 3, ValueIdx.eq_ix4 (n0 := 2) (n1 := 1) (n2 := 512) (n3 := 704) y⟩
  obtain rfl : z = 0 := Subsingleton.elim _ _
  obtain ⟨⟨i0, i1, i2, i3, i4, i5⟩, i6, i7, ik⟩ := idx1 t
  have e0 : (win1_6.blk t).view.emb (ix4 s 0 r n) 0 = s := Fin.ext (by blk_simp [i6] <;> simp <;> rfl)
  have e1 : (win1_6.blk t).view.emb (ix4 s 0 r n) 1 = colOf t.val (lt1 t) := Fin.ext (by unfold colOf; blk_simp [i6] <;> rfl)
  have e2 : (win1_6.blk t).view.emb (ix4 s 0 r n) 2 = row (rowOf t.val) r := Fin.ext (by rw [row_eq]; unfold rowOf; blk_simp [i6] <;> rfl)
  have e3 : (win1_6.blk t).view.emb (ix4 s 0 r n) 3 = n := Fin.ext (by blk_simp [i6] <;> simp <;> rfl)
  rw [e0, e1, e2, e3]
  refine up_block (H := H) (W := fun s => W s (colOf t.val (lt1 t))) (P := fun r d => H ⟨(32 * (t.val % 8) - 1) * 16 + r.val, by omega⟩ d) (Q := fun r d => H ⟨min (32 * (t.val % 8 + 1)) 255 * 16 + r.val, by omega⟩ d)
    ik ?_ ?_ ?_ ?_ ?_ ?_ s r n
  · intro r d; rw [← hH, row_eq]; blk_ext [Gen.iblk1, i0, rowOf]
  · intro r d; rw [← hH]; blk_ext [Gen.iblk1, i1]
  · intro e r d he; refine congrArg (fun i => H i d) (Fin.ext ?_); unfold rowOf at he; dsimp only at he ⊢; omega
  · intro r d; rw [← hH]; blk_ext [Gen.iblk1, i2]
  · intro e r d he; refine congrArg (fun i => H i d) (Fin.ext ?_); unfold rowOf at he; dsimp only at he ⊢; omega
  · intro s d n; rw [← hW]; blk_ext [Gen.iblk1, i3, colOf]; rfl

set_option maxHeartbeats 1600000 in
include hC hB in
/-- The array of the activation. -/
theorem act_array : (Gen.dat1 V c).arrAt 7 cfg1.N = fun y : S4x4096x704.Idx => ((gate
      (conv (fun i => pre H (W 0 (y 0)) i (y 2)) (fun j => C 0 (y 0) j (y 2)) (B 0 (y 0) (y 2)) (y 1))
      (conv (fun i => pre H (W 1 (y 0)) i (y 2)) (fun j => C 1 (y 0) j (y 2)) (B 1 (y 0) (y 2)) (y 1)) : ℝ) : EReal) := by
  refine (Gen.dat1 V c).arrAt_eq_of_covers 7 _ (by decide +kernel) fun t hf y => ?_
  blk_simp
  rw [Gen.after1_7]
  obtain ⟨z, r, n, rfl⟩ : ∃ (z : Fin 1) (r : Fin 512) (n : Fin 704), y = ix3 z r n := ⟨y 0, y 1, y 2, ValueIdx.eq_ix3 (n0 := 1) (n1 := 512) (n2 := 704) y⟩
  obtain rfl : z = 0 := Subsingleton.elim _ _
  obtain ⟨⟨i0, i1, i2, i3, i4, i5⟩, i6, i7, ik⟩ := idx1 t
  have e1 : (win1_7.blk t).view.emb (ix3 0 r n) 0 = colOf t.val (lt1 t) := Fin.ext (by unfold colOf; blk_simp [i7] <;> rfl)
  have e2 : (win1_7.blk t).view.emb (ix3 0 r n) 1 = row (rowOf t.val) r := Fin.ext (by rw [row_eq]; unfold rowOf; blk_simp [i7] <;> rfl)
  have e3 : (win1_7.blk t).view.emb (ix3 0 r n) 2 = n := Fin.ext (by blk_simp [i7] <;> simp <;> rfl)
  rw [e1, e2, e3]
  refine act_block (H := H) (W := fun s => W s (colOf t.val (lt1 t))) (C := fun s => C s (colOf t.val (lt1 t))) (B := fun s => B s (colOf t.val (lt1 t)))
    (P := fun r d => H ⟨(32 * (t.val % 8) - 1) * 16 + r.val, by omega⟩ d) (Q := fun r d => H ⟨min (32 * (t.val % 8 + 1)) 255 * 16 + r.val, by omega⟩ d)
    ik ?_ ?_ ?_ ?_ ?_ ?_ ?_ ?_ r n
  · intro r d; rw [← hH, row_eq]; blk_ext [Gen.iblk1, i0, rowOf]
  · intro r d; rw [← hH]; blk_ext [Gen.iblk1, i1]
  · intro e r d he; refine congrArg (fun i => H i d) (Fin.ext ?_); unfold rowOf at he; dsimp only at he ⊢; omega
  · intro r d; rw [← hH]; blk_ext [Gen.iblk1, i2]
  · intro e r d he; refine congrArg (fun i => H i d) (Fin.ext ?_); unfold rowOf at he; dsimp only at he ⊢; omega
  · intro s d n; rw [← hW]; blk_ext [Gen.iblk1, i3, colOf]; rfl
  · intro s j n; rw [← hC]; blk_ext [Gen.iblk1, i4, colOf]
  · intro s n; rw [← hB]; blk_ext [Gen.iblk1, i5, colOf]

end up

/-- Where the blocks of the second product's grid lie. -/
theorem idx2 : ∀ t : Fin cfg2.N, win2_0.index t = ![0, t.val, 0] ∧ win2_1.index t = ![0, 0] ∧ win2_2.index t = ![t.val, 0] ∧ win2_3.index t = ![t.val, 0] := by
  decide +kernel

/-- The second product's grid has 4 points. -/
theorem lt2 (t : Fin cfg2.N) : t.val < 4 := lt_of_lt_of_eq t.isLt Gen.N_2

/-- The array of the second product plus the residual. -/
theorem x3_array {A : Fin 4 → Fin 4096 → Fin 704 → ℝ} {W : Fin 2816 → Fin 1024 → ℝ} {X : Fin 4096 → Fin 1024 → ℝ}
    (hA : ∀ b i n, V c main_v12_1 (ix3 b i n) = ((A b i n : ℝ) : EReal)) (hW : ∀ y d, V c main_v0 (ix2 y d) = ((W y d : ℝ) : EReal))
    (hX : ∀ i d, V c main_v10_0 (ix2 i d) = ((X i d : ℝ) : EReal)) :
    (Gen.dat2 V c).arrAt 3 cfg2.N = fun y : S4096x1024.Idx =>
      ((X (y 0) (y 1) + ∑ z : Fin 2816, A (hidBlk z) (y 0) (hidPos z) * W z (y 1) : ℝ) : EReal) := by
  refine (Gen.dat2 V c).arrAt_eq_of_covers 3 _ (by decide +kernel) fun t hf y => ?_
  blk_simp
  rw [Gen.after2_3]
  obtain ⟨i, d, rfl⟩ : ∃ (i d : Fin 1024), y = ix2 i d := ⟨y 0, y 1, ValueIdx.eq_ix2 (n0 := 1024) (n1 := 1024) y⟩
  have e0 : (win2_3.blk t).view.emb (ix2 i d) 0 = row4 ⟨t.val, lt2 t⟩ i := Fin.ext (by unfold row4; blk_simp [idx2 t]; rfl)
  have e1 : (win2_3.blk t).view.emb (ix2 i d) 1 = d := Fin.ext (by blk_simp [idx2 t] <;> simp <;> rfl)
  rw [e0, e1]
  refine (down_block (A := fun b i => A b (row4 ⟨t.val, lt2 t⟩ i)) (X := fun i => X (row4 ⟨t.val, lt2 t⟩ i)) (W := W) ?_ ?_ ?_ i d)
  · intro b i n; rw [← hA]; blk_ext [Gen.iblk2, idx2 t, row4]
  · intro i k; rw [← hW]; blk_ext [Gen.iblk2, idx2 t]
  · intro i k; rw [← hX]; blk_ext [Gen.iblk2, idx2 t, row4]

/-- Where the blocks of the gradient's grid lie. -/
theorem idx3 : ∀ t : Fin cfg3.N, (win3_0.index t = ![0, t.val / 8, t.val % 8, 0] ∧ win3_1.index t = ![0, t.val / 8, 64 * (t.val % 8) - 1, 0] ∧
    win3_2.index t = ![0, t.val / 8, min (64 * (t.val % 8 + 1)) 511, 0]) ∧
    (win3_3.index t = ![t.val % 8, 0] ∧ win3_4.index t = ![64 * (t.val % 8) - 1, 0] ∧ win3_5.index t = ![min (64 * (t.val % 8 + 1)) 511, 0]) ∧
    (win3_6.index t = ![t.val / 8, 0] ∧ win3_7.index t = ![0, t.val / 8, 0, 0] ∧ win3_8.index t = ![0, t.val / 8, 0, 0]) ∧
    win3_9.index t = ![0, t.val / 8, t.val % 8, 0] ∧ win3_10.index t = ![0, t.val / 8, 0, 0] ∧ (grid3.coords t 1).val = t.val % 8 := by
  decide +kernel

/-- The gradient's grid has 32 points. -/
theorem lt3 (t : Fin cfg3.N) : t.val < 32 := lt_of_lt_of_eq t.isLt Gen.N_3

/-- Row `n` of block `b` of the second product's weights. -/
def hidRow (b : Fin 4) (n : Fin 704) : Fin 2816 := ⟨b.val * 704 + n.val, by omega⟩

/-- What the gradient's call finds in its arrays. -/
structure Entry (V : (c : Dev nD) → (b : Ref sig .tc) → Buf (Elt Ideal) ((c.tc : Thread nD τ).loc b)) (c : Dev nD) (U : Fin 2 → Fin 4 → Fin 4096 → Fin 704 → ℝ) (G : Fin 4096 → Fin 1024 → ℝ)
    (W : Fin 2816 → Fin 1024 → ℝ) (C : Fin 2 → Fin 4 → Fin 3 → Fin 704 → ℝ) (B : Fin 2 → Fin 4 → Fin 704 → ℝ) : Prop where
  u : ∀ s b i n, V c main_v12_0 (ix4 s b i n) = ((U s b i n : ℝ) : EReal)
  g : ∀ i d, V c main_arg8 (ix2 i d) = ((G i d : ℝ) : EReal)
  w : ∀ y d, V c main_v0 (ix2 y d) = ((W y d : ℝ) : EReal)
  cw : ∀ s b j n, V c main_v6 (ix4 s b j n) = ((C s b j n : ℝ) : EReal)
  cb : ∀ s b n, V c main_v7 (ix4 s b (0 : Fin 1) n) = ((B s b n : ℝ) : EReal)

/-- The gradient of the convolution's result at column `n` of half `s`, block `b`. -/
def dcol (U : Fin 2 → Fin 4 → Fin 4096 → Fin 704 → ℝ) (G : Fin 4096 → Fin 1024 → ℝ) (W : Fin 2816 → Fin 1024 → ℝ) (C : Fin 2 → Fin 4 → Fin 3 → Fin 704 → ℝ)
    (B : Fin 2 → Fin 4 → Fin 704 → ℝ) (b : Fin 4) : Fin 2 → Fin 4096 → Fin 704 → ℝ :=
  dconv (dact G fun n => W (hidRow b n)) (fun s => U s b) (fun s => C s b) (fun s => B s b)

/-- The sums over rows that give the gradients of the convolution's weights (`r` below 3) and bias (`r` 3). -/
def wsum (U : Fin 2 → Fin 4 → Fin 4096 → Fin 704 → ℝ) (G : Fin 4096 → Fin 1024 → ℝ) (W : Fin 2816 → Fin 1024 → ℝ) (C : Fin 2 → Fin 4 → Fin 3 → Fin 704 → ℝ)
    (B : Fin 2 → Fin 4 → Fin 704 → ℝ) (s : Fin 2) (b : Fin 4) (r : Fin 8) (n : Fin 704) : ℝ :=
  ∑ i, convW (fun i => dcol U G W C B b s i n) (fun i => U s b i n) r.val i

section grad
variable {U : Fin 2 → Fin 4 → Fin 4096 → Fin 704 → ℝ} {G : Fin 4096 → Fin 1024 → ℝ} {W : Fin 2816 → Fin 1024 → ℝ} {C : Fin 2 → Fin 4 → Fin 3 → Fin 704 → ℝ} {B : Fin 2 → Fin 4 → Fin 704 → ℝ}
  (E : Entry V c U G W C B)
include E

set_option maxHeartbeats 3200000 in
/-- The blocks a point of the gradient's grid reads. -/
theorem blocks (t : Fin cfg3.N) :
    ((∀ s r n, (Gen.iblk3 V c 0 t : S2x1x512x704.Idx → EReal) (ix4 s 0 r n) = ((U s (colOf t.val (lt3 t)) (row (rowOf t.val) r) n : ℝ) : EReal)) ∧
    (∀ s (r : Fin 8) n, (Gen.iblk3 V c 1 t : S2x1x8x704.Idx → EReal) (ix4 s 0 r n) = ((U s (colOf t.val (lt3 t)) ⟨(64 * (t.val % 8) - 1) * 8 + r.val, by omega⟩ n : ℝ) : EReal)) ∧
    (∀ s (r : Fin 8) n, (Gen.iblk3 V c 2 t : S2x1x8x704.Idx → EReal) (ix4 s 0 r n) = ((U s (colOf t.val (lt3 t)) ⟨min (64 * (t.val % 8 + 1)) 511 * 8 + r.val, by omega⟩ n : ℝ) : EReal))) ∧
    ((∀ r d, (Gen.iblk3 V c 3 t : S512x1024.Idx → EReal) (ix2 r d) = ((G (row (rowOf t.val) r) d : ℝ) : EReal)) ∧
    (∀ (r : Fin 8) d, (Gen.iblk3 V c 4 t : S8x1024.Idx → EReal) (ix2 r d) = ((G ⟨(64 * (t.val % 8) - 1) * 8 + r.val, by omega⟩ d : ℝ) : EReal)) ∧
    (∀ (r : Fin 8) d, (Gen.iblk3 V c 5 t : S8x1024.Idx → EReal) (ix2 r d) = ((G ⟨min (64 * (t.val % 8 + 1)) 511 * 8 + r.val, by omega⟩ d : ℝ) : EReal))) ∧
    (∀ n d, (Gen.iblk3 V c 6 t : S704x1024.Idx → EReal) (ix2 n d) = ((W (hidRow (colOf t.val (lt3 t)) n) d : ℝ) : EReal)) ∧
    (∀ s j n, (Gen.iblk3 V c 7 t : S2x1x3x704.Idx → EReal) (ix4 s 0 j n) = ((C s (colOf t.val (lt3 t)) j n : ℝ) : EReal)) ∧
    (∀ s n, (Gen.iblk3 V c 8 t : S2x1x1x704.Idx → EReal) (ix4 s 0 0 n) = ((B s (colOf t.val (lt3 t)) n : ℝ) : EReal)) := by
  obtain ⟨⟨i0, i1, i2⟩, ⟨i3, i4, i5⟩, ⟨i6, i7, i8⟩, -⟩ := idx3 t
  refine ⟨⟨?_, ?_, ?_⟩, ⟨?_, ?_, ?_⟩, ?_, ?_, ?_⟩
  · intro s r n; rw [← E.u, row_eq]; blk_ext [Gen.iblk3, i0, rowOf, colOf]
  · intro s r n; rw [← E.u]; blk_ext [Gen.iblk3, i1, colOf]
  · intro s r n; rw [← E.u]; blk_ext [Gen.iblk3, i2, colOf]
  · intro r d; rw [← E.g, row_eq]; blk_ext [Gen.iblk3, i3, rowOf]
  · intro r d; rw [← E.g]; blk_ext [Gen.iblk3, i4]
  · intro r d; rw [← E.g]; blk_ext [Gen.iblk3, i5]
  · intro n d; rw [← E.w]; blk_ext [Gen.iblk3, i6, hidRow, colOf]
  · intro s j n; rw [← E.cw]; blk_ext [Gen.iblk3, i7, colOf]
  · intro s n; rw [← E.cb]; blk_ext [Gen.iblk3, i8, colOf]

/-- A point's block of the first product's gradient. -/
theorem du_point (t : Fin cfg3.N) (s : Fin 2) (r : Fin 512) (n : Fin 704) : (Gen.outsAt3 V c t.val t.isLt).1 (ix4 s 0 r n)
    = ((convT (fun i => dcol U G W C B (colOf t.val (lt3 t)) s i n) (fun j => C s (colOf t.val (lt3 t)) j n) (row (rowOf t.val) r) : ℝ) : EReal) := by
  obtain ⟨⟨a0, a1, a2⟩, ⟨a3, a4, a5⟩, a6, a7, a8⟩ := blocks E t
  refine du_block (W := fun n => W (hidRow (colOf t.val (lt3 t)) n)) (U := fun s => U s (colOf t.val (lt3 t))) (C := fun s => C s (colOf t.val (lt3 t))) (B := fun s => B s (colOf t.val (lt3 t)))
    (idx3 t).2.2.2.2.2 a0 a1 ?_ a2 ?_ a3 a4 ?_ a5 ?_ a6 a7 a8 rfl rfl rfl rfl rfl rfl rfl rfl rfl s r n
  · intro e s r n he; refine congrArg (fun i => U s _ i n) (Fin.ext ?_); unfold rowOf at he; dsimp only at he ⊢; omega
  · intro e s r n he; refine congrArg (fun i => U s _ i n) (Fin.ext ?_); unfold rowOf at he; dsimp only at he ⊢; omega
  · intro e r d he; refine congrArg (fun i => G i d) (Fin.ext ?_); unfold rowOf at he; dsimp only at he ⊢; omega
  · intro e r d he; refine congrArg (fun i => G i d) (Fin.ext ?_); unfold rowOf at he; dsimp only at he ⊢; omega

/-- The first row block begins the sums over rows. -/
theorem st_point_first (t : Fin cfg3.N) (h : t.val % 8 = 0) (s : Fin 2) (r : Fin 8) (n : Fin 704) : (Gen.outsAt3 V c t.val t.isLt).2 (ix4 s 0 r n)
    = ((part (dcol U G W C B (colOf t.val (lt3 t)) s) (U s (colOf t.val (lt3 t))) (rowOf t.val) r.val n : ℝ) : EReal) := by
  obtain ⟨⟨a0, a1, a2⟩, ⟨a3, a4, a5⟩, a6, a7, a8⟩ := blocks E t
  refine st_first (W := fun n => W (hidRow (colOf t.val (lt3 t)) n)) (U := fun s => U s (colOf t.val (lt3 t))) (C := fun s => C s (colOf t.val (lt3 t))) (B := fun s => B s (colOf t.val (lt3 t)))
    (idx3 t).2.2.2.2.2 a0 a1 ?_ a2 ?_ a3 a4 ?_ a5 ?_ a6 a7 a8 rfl rfl rfl rfl rfl rfl rfl rfl rfl h s r n
  · intro e s r n he; refine congrArg (fun i => U s _ i n) (Fin.ext ?_); unfold rowOf at he; dsimp only at he ⊢; omega
  · intro e s r n he; refine congrArg (fun i => U s _ i n) (Fin.ext ?_); unfold rowOf at he; dsimp only at he ⊢; omega
  · intro e r d he; refine congrArg (fun i => G i d) (Fin.ext ?_); unfold rowOf at he; dsimp only at he ⊢; omega
  · intro e r d he; refine congrArg (fun i => G i d) (Fin.ext ?_); unfold rowOf at he; dsimp only at he ⊢; omega

/-- Each later one adds to them. -/
theorem st_point_next (t : Fin cfg3.N) (h : ¬ t.val % 8 = 0) {O : Fin 2 → Fin 8 → Fin 704 → ℝ}
    (ho : ∀ s r n, (Gen.outsAt3 V c (t.val - 1) (Nat.lt_of_le_of_lt (Nat.sub_le _ _) t.isLt)).2 (ix4 s 0 r n) = ((O s r n : ℝ) : EReal)) (s : Fin 2) (r : Fin 8) (n : Fin 704) :
    (Gen.outsAt3 V c t.val t.isLt).2 (ix4 s 0 r n)
    = ((O s r n + part (dcol U G W C B (colOf t.val (lt3 t)) s) (U s (colOf t.val (lt3 t))) (rowOf t.val) r.val n : ℝ) : EReal) := by
  obtain ⟨⟨a0, a1, a2⟩, ⟨a3, a4, a5⟩, a6, a7, a8⟩ := blocks E t
  refine st_next (W := fun n => W (hidRow (colOf t.val (lt3 t)) n)) (U := fun s => U s (colOf t.val (lt3 t))) (C := fun s => C s (colOf t.val (lt3 t))) (B := fun s => B s (colOf t.val (lt3 t)))
    (idx3 t).2.2.2.2.2 a0 a1 ?_ a2 ?_ a3 a4 ?_ a5 ?_ a6 a7 a8 rfl rfl rfl rfl rfl rfl rfl rfl rfl h rfl ho s r n
  · intro e s r n he; refine congrArg (fun i => U s _ i n) (Fin.ext ?_); unfold rowOf at he; dsimp only at he ⊢; omega
  · intro e s r n he; refine congrArg (fun i => U s _ i n) (Fin.ext ?_); unfold rowOf at he; dsimp only at he ⊢; omega
  · intro e r d he; refine congrArg (fun i => G i d) (Fin.ext ?_); unfold rowOf at he; dsimp only at he ⊢; omega
  · intro e r d he; refine congrArg (fun i => G i d) (Fin.ext ?_); unfold rowOf at he; dsimp only at he ⊢; omega

/-- The sums over the row blocks up to a point. -/
theorem st_run : ∀ (k : ℕ) (h : k < cfg3.N) (hk : k < 32) (s : Fin 2) (r : Fin 8) (n : Fin 704), (Gen.outsAt3 V c k h).2 (ix4 s 0 r n)
    = ((∑ j ∈ Finset.range (k % 8 + 1), part (dcol U G W C B (colOf k hk) s) (U s (colOf k hk)) (rowOf j) r.val n : ℝ) : EReal) := by
  intro k
  induction k with
  | zero =>
    intro h hk s r n
    refine (st_point_first E ⟨0, h⟩ rfl s r n).trans ?_
    rw [show 0 % 8 + 1 = 1 from rfl, Finset.sum_range_one]
  | succ k ih =>
    intro h hk s r n
    by_cases h8 : (k + 1) % 8 = 0
    · refine (st_point_first E ⟨k + 1, h⟩ h8 s r n).trans ?_
      rw [h8, Finset.sum_range_one]
      refine congrArg Real.toEReal (congrArg (fun j => part _ _ j _ _) (Fin.ext ?_))
      show (k + 1) % 8 = 0 % 8
      omega
    · refine (st_point_next E ⟨k + 1, h⟩ h8 (fun s r n => ih (by omega) (by omega) s r n) s r n).trans ?_
      have e1 : colOf k (by omega) = colOf (k + 1) hk := Fin.ext (by show k / 8 = (k + 1) / 8; omega)
      have e2 : (k + 1) % 8 = k % 8 + 1 := by omega
      have e3 : rowOf (k + 1) = rowOf (k % 8 + 1) := Fin.ext (by show (k + 1) % 8 = (k % 8 + 1) % 8; omega)
      rw [e2, Finset.sum_range_succ _ (k % 8 + 1), e1]
      show ((_ + part _ _ (rowOf (k + 1)) _ _ : ℝ) : EReal) = _
      rw [e3]

/-- The array of the first product's gradient. -/
theorem du_array : (Gen.dat3 V c).arrAt 9 cfg3.N = fun y : S2x4x4096x704.Idx =>
    ((convT (fun i => dcol U G W C B (y 1) (y 0) i (y 3)) (fun j => C (y 0) (y 1) j (y 3)) (y 2) : ℝ) : EReal) := by
  refine (Gen.dat3 V c).arrAt_eq_of_covers 9 _ (by decide +kernel) fun t hf y => ?_
  blk_simp
  rw [Gen.after3_9]
  obtain ⟨s, z, r, n, rfl⟩ : ∃ (s : Fin 2) (z : Fin 1) (r : Fin 512) (n : Fin 704), y = ix4 s z r n := ⟨y 0, y 1, y 2, y 3, ValueIdx.eq_ix4 (n0 := 2) (n1 := 1) (n2 := 512) (n3 := 704) y⟩
  obtain rfl : z = 0 := Subsingleton.elim _ _
  have i9 := (idx3 t).2.2.2.1
  have e0 : (win3_9.blk t).view.emb (ix4 s 0 r n) 0 = s := Fin.ext (by blk_simp [i9] <;> simp <;> rfl)
  have e1 : (win3_9.blk t).view.emb (ix4 s 0 r n) 1 = colOf t.val (lt3 t) := Fin.ext (by unfold colOf; blk_simp [i9] <;> rfl)
  have e2 : (win3_9.blk t).view.emb (ix4 s 0 r n) 2 = row (rowOf t.val) r := Fin.ext (by rw [row_eq]; unfold rowOf; blk_simp [i9] <;> rfl)
  have e3 : (win3_9.blk t).view.emb (ix4 s 0 r n) 3 = n := Fin.ext (by blk_simp [i9] <;> simp <;> rfl)
  rw [e0, e1, e2, e3]
  exact du_point E t s r n

omit E in
/-- The sums over the row blocks are the sums over the rows. -/
theorem part_sum (D X : Fin 4096 → Fin 704 → ℝ) (r : ℕ) (n : Fin 704) :
    ∑ j ∈ Finset.range 8, part D X (rowOf j) r n = ∑ i, convW (fun i => D i n) (fun i => X i n) r i := by
  rw [Finset.sum_range]
  unfold part
  rw [← Equiv.sum_comp (finProdFinEquiv : Fin 8 × Fin 512 ≃ Fin (8 * 512)) (fun i : Fin (8 * 512) => convW (fun i => D i n) (fun i => X i n) r i), Fintype.sum_prod_type]
  refine Finset.sum_congr rfl fun k _ => Finset.sum_congr rfl fun i _ => congrArg _ (Fin.ext ?_)
  show 512 * (k.val % 8) + i.val = i.val + 512 * k.val
  omega

/-- The array of the sums over rows that give the gradients of the convolution's weights and bias. -/
theorem st_array : (Gen.dat3 V c).arrAt 10 cfg3.N = fun y : S2x4x8x704.Idx =>
    ((wsum U G W C B (y 0) (y 1) (y 2) (y 3) : ℝ) : EReal) := by
  refine (Gen.dat3 V c).arrAt_eq_of_covers 10 _ (by decide +kernel) fun t hf y => ?_
  blk_simp
  rw [Gen.after3_10]
  obtain ⟨s, z, r, n, rfl⟩ : ∃ (s : Fin 2) (z : Fin 1) (r : Fin 8) (n : Fin 704), y = ix4 s z r n := ⟨y 0, y 1, y 2, y 3, ValueIdx.eq_ix4 (n0 := 2) (n1 := 1) (n2 := 8) (n3 := 704) y⟩
  obtain rfl : z = 0 := Subsingleton.elim _ _
  have i9 := (idx3 t).2.2.2.2.1
  have e0 : (win3_10.blk t).view.emb (ix4 s 0 r n) 0 = s := Fin.ext (by blk_simp [i9] <;> simp <;> rfl)
  have e1 : (win3_10.blk t).view.emb (ix4 s 0 r n) 1 = colOf t.val (lt3 t) := Fin.ext (by unfold colOf; blk_simp [i9] <;> rfl)
  have e2 : (win3_10.blk t).view.emb (ix4 s 0 r n) 2 = r := Fin.ext (by blk_simp [i9] <;> simp <;> rfl)
  have e3 : (win3_10.blk t).view.emb (ix4 s 0 r n) 3 = n := Fin.ext (by blk_simp [i9] <;> simp <;> rfl)
  rw [e0, e1, e2, e3]
  refine (st_run E t.val t.isLt (lt3 t) s r n).trans ?_
  rw [(Gen.flush3_10 t).mp hf, part_sum]
  rfl

end grad

/-- Where the blocks of the weights' gradient's grid lie. -/
theorem idx4 : ∀ t : Fin cfg4.N, win4_0.index t = ![0, 0] ∧ win4_1.index t = ![t.val, 0, 0] ∧ win4_2.index t = ![t.val, 0, 0] := by
  decide +kernel

/-- The weights' gradient's grid has 8 points. -/
theorem lt4 (t : Fin cfg4.N) : t.val < 8 := lt_of_lt_of_eq t.isLt Gen.N_4

/-- The array of the gradient of the first product's weights. -/
theorem dup_array {H : Fin 4096 → Fin 1024 → ℝ} {D : Fin 8 → Fin 4096 → Fin 704 → ℝ}
    (hH : ∀ i d, V c main_v10_1 (ix2 i d) = ((H i d : ℝ) : EReal)) (hD : ∀ y i n, V c main_v15 (ix3 y i n) = ((D y i n : ℝ) : EReal)) :
    (Gen.dat4 V c).arrAt 2 cfg4.N = fun y : S8x1024x704.Idx => ((∑ i, H i (y 1) * D (y 0) i (y 2) : ℝ) : EReal) := by
  refine (Gen.dat4 V c).arrAt_eq_of_covers 2 _ (by decide +kernel) fun t hf y => ?_
  blk_simp
  rw [Gen.after4_2]
  obtain ⟨z, d, n, rfl⟩ : ∃ (z : Fin 1) (d : Fin 1024) (n : Fin 704), y = ix3 z d n := ⟨y 0, y 1, y 2, ValueIdx.eq_ix3 (n0 := 1) (n1 := 1024) (n2 := 704) y⟩
  obtain rfl : z = 0 := Subsingleton.elim _ _
  have e0 : (win4_2.blk t).view.emb (ix3 0 d n) 0 = ⟨t.val, lt4 t⟩ := Fin.ext (by blk_simp [idx4 t] <;> simp <;> rfl)
  have e1 : (win4_2.blk t).view.emb (ix3 0 d n) 1 = d := Fin.ext (by blk_simp [idx4 t] <;> simp <;> rfl)
  have e2 : (win4_2.blk t).view.emb (ix3 0 d n) 2 = n := Fin.ext (by blk_simp [idx4 t] <;> simp <;> rfl)
  rw [e0, e1, e2]
  refine (dup_block (H := H) (D := D ⟨t.val, lt4 t⟩) ?_ ?_ d n)
  · intro i d; rw [← hH]; blk_ext [Gen.iblk4, idx4 t]
  · intro i n; rw [← hD]; blk_ext [Gen.iblk4, idx4 t]

end Cert.Proof.Mlp

end
-- ==== Proof.MlpRef.lean ====
/-
  What the reference of the gated MLP computes, among the reals: its intermediate arrays one by one, up to its six
  results.
-/
module

public import proofs.«01_k».proof.Proof.Mlp
public import proofs.«01_k».proof.Proof.RefRun
public import proofs.«01_k».proof.Proof.Gen.Reference2Ideal.Read
public import proofs.«01_k».proof.Proof.Gen.Reference2Ideal.Run

@[expose] public section

set_option maxRecDepth 16384

noncomputable section

namespace Cert.Proof.MlpRef

open Idealize.ShloMosaic hiding ix1 ix2 ix3 ix4
open Idealize.ShloMosaic.TcCoe Idealize.SL Idealize.SL.Sem Idealize.ShloMosaic.ValueIdx Cert.Proof.Mlp
open Cert.Reference2Ideal Cert.Reference2Ideal.Read Cert.Reference2Ideal.Facts₀
open scoped BigOperators

section Host

variable {M N K T : ℕ} {v w : FVec Ideal ⟨2, ![M, N]⟩ .f32} {f g : Fin M → Fin N → ℝ}

/-- The host's quotient of real matrices. -/
theorem hdiv (h : Rep v f) (k : Rep w g) (hg : ∀ i j, g i j ≠ 0) : Rep (Host.divf v w) (fun i j => f i j / g i j) := fun i j => by
  show Ideal.div (v (ix2 i j)) (w (ix2 i j)) = _
  rw [h i j, k i j, div_real _ _ (hg i j)]

/-- The host's negation of a real matrix. -/
theorem hneg (h : Rep v f) : Rep (Host.negf v) (fun i j => -f i j) := fun i j => by
  show -(v (ix2 i j)) = _
  rw [h i j, ← EReal.coe_neg]

/-- The host's exponential of a real matrix. -/
theorem hexp (h : Rep v f) : Rep (Host.exp v) (fun i j => Real.exp (f i j)) := fun i j => by
  show Ideal.exp (v (ix2 i j)) = _
  rw [h i j]
  rfl

/-- The host's reciprocal square root of a positive real matrix. -/
theorem hrsqrt (h : Rep v f) (hf : ∀ i j, 0 < f i j) : Rep (Host.rsqrt v) (fun i j => (Real.sqrt (f i j))⁻¹) := fun i j => by
  show Ideal.rsqrt (v (ix2 i j)) = _
  rw [h i j, Ideal.rsqrt_coe, if_neg (not_lt.mpr (hf i j).le), if_neg (hf i j).ne']

/-- One number everywhere. -/
theorem hconst {c : FVec Ideal ⟨0, ![]⟩ .f32} {x : ℝ} (h : ∀ z, c z = (x : EReal)) (hb : (⟨0, ![]⟩ : Shape).BroadcastsInDim ⟨2, ![M, N]⟩ ![]) :
    Rep (broadcastInDim ⟨2, ![M, N]⟩ ![] hb c : FVec Ideal ⟨2, ![M, N]⟩ .f32) (fun _ _ => x) := fun i j =>
  (broadcastInDim_apply _ hb c (ix2 i j) (fun a => a.elim0) (fun a => a.elim0)).trans (h _)

/-- A run of rows, padded with zero rows before and after. -/
theorem padRows (h : Rep v f) {c : FVec Ideal ⟨0, ![]⟩ .f32} (hc : ∀ z, c z = 0) (o p : ℕ)
    (hp : (⟨2, ![M, N]⟩ : Shape).Pads ![o, 0] ![p, 0] ![0, 0] ⟨2, ![T, N]⟩) (hu : 0 < (⟨0, ![]⟩ : Shape).numel) :
    Rep (pad ⟨2, ![T, N]⟩ ![o, 0] ![p, 0] ![0, 0] v c hp hu : FVec Ideal ⟨2, ![T, N]⟩ .f32)
      (fun e j => if h : o ≤ e.val ∧ e.val - o < M then f ⟨e.val - o, h.2⟩ j else 0) := fun e j => by
  beta_reduce
  split_ifs with he
  · rw [pad_apply_of_inside (s := ⟨2, ![M, N]⟩) _ _ _ v c hp hu (ix2 e j) (ix2 ⟨e.val - o, he.2⟩ j) (fun a => by
      match a with
      | ⟨0, _⟩ => show e.val = o + (e.val - o) * (0 + 1); omega
      | ⟨1, _⟩ => show j.val = 0 + j.val * (0 + 1); omega)]
    exact h _ _
  · rw [pad_apply_of_not_inside (s := ⟨2, ![M, N]⟩) _ _ _ v c hp hu (ix2 e j) (0 : Fin 2) (by
      rintro ⟨h1, _, h3⟩
      refine he ⟨h1, ?_⟩
      have : (e.val - o) / (0 + 1) < M := h3
      simpa using this), hc]
    rfl

/-- A run of columns, padded with zero columns before and after. -/
theorem padCols (h : Rep v f) {c : FVec Ideal ⟨0, ![]⟩ .f32} (hc : ∀ z, c z = 0) (o p : ℕ)
    (hp : (⟨2, ![M, N]⟩ : Shape).Pads ![0, o] ![0, p] ![0, 0] ⟨2, ![M, T]⟩) (hu : 0 < (⟨0, ![]⟩ : Shape).numel) :
    Rep (pad ⟨2, ![M, T]⟩ ![0, o] ![0, p] ![0, 0] v c hp hu : FVec Ideal ⟨2, ![M, T]⟩ .f32)
      (fun i e => if h : o ≤ e.val ∧ e.val - o < N then f i ⟨e.val - o, h.2⟩ else 0) := fun i e => by
  beta_reduce
  split_ifs with he
  · rw [pad_apply_of_inside (s := ⟨2, ![M, N]⟩) _ _ _ v c hp hu (ix2 i e) (ix2 i ⟨e.val - o, he.2⟩) (fun a => by
      match a with
      | ⟨0, _⟩ => show i.val = 0 + i.val * (0 + 1); omega
      | ⟨1, _⟩ => show e.val = o + (e.val - o) * (0 + 1); omega)]
    exact h _ _
  · rw [pad_apply_of_not_inside (s := ⟨2, ![M, N]⟩) _ _ _ v c hp hu (ix2 i e) (1 : Fin 2) (by
      rintro ⟨h1, _, h3⟩
      refine he ⟨h1, ?_⟩
      have : (e.val - o) / (0 + 1) < N := h3
      simpa using this), hc]
    rfl

end Host

/-- The first half's column. -/
def lo (z : Fin 2816) : Fin 5632 := ⟨z.val, by omega⟩

/-- The second half's column. -/
def hi (z : Fin 2816) : Fin 5632 := ⟨2816 + z.val, by omega⟩

/-- Column `n` of the hidden columns' block `b` of 704. -/
def col4 (b : Fin 4) (n : Fin 704) : Fin 2816 := ⟨b.val * 704 + n.val, by omega⟩

/-- Column `n` of the columns' block `q` of 704. -/
def col8 (q : Fin 8) (n : Fin 704) : Fin 5632 := ⟨q.val * 704 + n.val, by omega⟩

/-- The real numbers behind the reference's nine arguments. -/
structure Reals where
  /-- The input rows. -/
  X : Fin 4096 → Fin 1024 → ℝ
  /-- The attention's output rows. -/
  O : Fin 4096 → Fin 1024 → ℝ
  /-- The projection. -/
  WO : Fin 1024 → Fin 1024 → ℝ
  /-- The norm's gain. -/
  gain : Fin 1024 → ℝ
  /-- The weight up. -/
  W : Fin 1024 → Fin 5632 → ℝ
  /-- The convolution's weights. -/
  CW : Fin 3 → Fin 5632 → ℝ
  /-- The convolution's bias. -/
  CB : Fin 5632 → ℝ
  /-- The weight down. -/
  WD : Fin 2816 → Fin 1024 → ℝ
  /-- The gradient. -/
  G : Fin 4096 → Fin 1024 → ℝ

namespace Reals

variable (P : Reals)

/-- The normed rows. -/
def hf (i : Fin 4096) (d : Fin 1024) : ℝ := norm (xres P.X P.O P.WO i) P.gain d
/-- The rows up. -/
def u (i : Fin 4096) (y : Fin 5632) : ℝ := ∑ d, P.hf i d * P.W d y
/-- The convolved rows. -/
def cv (i : Fin 4096) (y : Fin 5632) : ℝ := conv (fun i => P.u i y) (fun t => P.CW t y) (P.CB y) i
/-- The gated activation. -/
def act (i : Fin 4096) (z : Fin 2816) : ℝ := gate (P.cv i (lo z)) (P.cv i (hi z))
/-- The layer's output. -/
def x3 (i : Fin 4096) (d : Fin 1024) : ℝ := xres P.X P.O P.WO i d + ∑ z, P.act i z * P.WD z d
/-- The activation's gradient. -/
def da (i : Fin 4096) (z : Fin 2816) : ℝ := ∑ d, P.G i d * P.WD z d
/-- The convolved rows' gradient. -/
def dc (i : Fin 4096) (y : Fin 5632) : ℝ :=
  if h : y.val < 2816 then gate0 (P.da i ⟨y.val, h⟩) (P.cv i y) (P.cv i (hi ⟨y.val, h⟩))
  else gate1 (P.da i ⟨y.val - 2816, by omega⟩) (P.cv i (lo ⟨y.val - 2816, by omega⟩))
/-- The gradient of the rows up. -/
def du (i : Fin 4096) (y : Fin 5632) : ℝ := convT (fun i => P.dc i y) (fun t => P.CW t y) i
/-- The gradient of the weight up. -/
def dup (d : Fin 1024) (y : Fin 5632) : ℝ := ∑ i, P.hf i d * P.du i y
/-- The gradient of the convolution's weights. -/
def dcw (t : Fin 3) (y : Fin 5632) : ℝ := ∑ i, convW (fun i => P.dc i y) (fun i => P.u i y) t.val i
/-- The gradient of the convolution's bias. -/
def dcb (y : Fin 5632) : ℝ := ∑ i, P.dc i y

end Reals

/-- The reference's nine arguments are these real numbers. -/
structure Given (x0 : (⟨S4096x1024, .f32⟩ : BufTy).Contents (Elt Ideal)) (x1 : (⟨S4096x1024, .bf16⟩ : BufTy).Contents (Elt Ideal))
    (x2 : (⟨S1024x1024, .f32⟩ : BufTy).Contents (Elt Ideal)) (x3 : (⟨S1024, .f32⟩ : BufTy).Contents (Elt Ideal))
    (x4 : (⟨S2x1024x5632, .f32⟩ : BufTy).Contents (Elt Ideal)) (x5 : (⟨S3x5632, .f32⟩ : BufTy).Contents (Elt Ideal))
    (x6 : (⟨S5632, .f32⟩ : BufTy).Contents (Elt Ideal)) (x7 : (⟨S2816x1024, .f32⟩ : BufTy).Contents (Elt Ideal))
    (x8 : (⟨S4096x1024, .f32⟩ : BufTy).Contents (Elt Ideal)) (P : Reals) : Prop where
  /-- The input rows. -/
  a0 : ∀ (i : Fin 4096) (d : Fin 1024), x0 (ix2 i d) = ((P.X i d : ℝ) : EReal)
  /-- The attention's output rows. -/
  a1 : ∀ (i : Fin 4096) (d : Fin 1024), x1 (ix2 i d) = ((P.O i d : ℝ) : EReal)
  /-- The projection. -/
  a2 : ∀ (k d : Fin 1024), x2 (ix2 k d) = ((P.WO k d : ℝ) : EReal)
  /-- The norm's gain. -/
  a3 : ∀ (d : Fin 1024), x3 (ix1 d) = ((P.gain d : ℝ) : EReal)
  /-- The weight up. -/
  a4 : ∀ (d : Fin 1024) (y : Fin 5632), x4 (ix3 1 d y) = ((P.W d y : ℝ) : EReal)
  /-- The convolution's weights. -/
  a5 : ∀ (t : Fin 3) (y : Fin 5632), x5 (ix2 t y) = ((P.CW t y : ℝ) : EReal)
  /-- The convolution's bias. -/
  a6 : ∀ (y : Fin 5632), x6 (ix1 y) = ((P.CB y : ℝ) : EReal)
  /-- The weight down. -/
  a7 : ∀ (z : Fin 2816) (d : Fin 1024), x7 (ix2 z d) = ((P.WD z d : ℝ) : EReal)
  /-- The gradient. -/
  a8 : ∀ (i : Fin 4096) (d : Fin 1024), x8 (ix2 i d) = ((P.G i d : ℝ) : EReal)

variable {x0 : (⟨S4096x1024, .f32⟩ : BufTy).Contents (Elt Ideal)} {x1 : (⟨S4096x1024, .bf16⟩ : BufTy).Contents (Elt Ideal)}
    {x2 : (⟨S1024x1024, .f32⟩ : BufTy).Contents (Elt Ideal)} {x3 : (⟨S1024, .f32⟩ : BufTy).Contents (Elt Ideal)}
    {x4 : (⟨S2x1024x5632, .f32⟩ : BufTy).Contents (Elt Ideal)} {x5 : (⟨S3x5632, .f32⟩ : BufTy).Contents (Elt Ideal)}
    {x6 : (⟨S5632, .f32⟩ : BufTy).Contents (Elt Ideal)} {x7 : (⟨S2816x1024, .f32⟩ : BufTy).Contents (Elt Ideal)}
    {x8 : (⟨S4096x1024, .f32⟩ : BufTy).Contents (Elt Ideal)} {P : Reals} (E : Given x0 x1 x2 x3 x4 x5 x6 x7 x8 P)

/-- A product of two reals with the same entries. -/
theorem mul_real {a b c d : EReal} {x y : ℝ} (ha : a = c) (hb : b = d) (hc : c = (x : EReal)) (hd : d = (y : EReal)) :
    a * b = ((x * y : ℝ) : EReal) := by rw [ha, hb, hc, hd, ← EReal.coe_mul]

include E

/-- The rows that the layer adds to. -/
theorem ref_x2 : Rep (M := 4096) (N := 1024) (φ := .f32) (val_main_v2 (F := Ideal) x0 x1 x2) (xres P.X P.O P.WO) := fun i d => by
  have e1 : val_main_v1 (F := Ideal) x1 x2 (ix2 i d) = ((∑ k, P.O i k * P.WO k d : ℝ) : EReal) := by
    rw [val_main_v1_apply, coe_sum]
    refine Finset.sum_congr rfl fun k _ => ?_
    exact mul_real (congrArg x1 (funext fun a => by match a with | ⟨0, _⟩ => rfl | ⟨1, _⟩ => rfl))
      (congrArg x2 (funext fun a => by match a with | ⟨0, _⟩ => rfl | ⟨1, _⟩ => rfl)) (E.a1 i k) (E.a2 k d)
  rw [val_main_v2_apply, E.a0 i d, e1]
  exact (EReal.coe_add _ _).symm

/-- The number under the root. -/
theorem ref_mean : Rep (M := 4096) (N := 1) (φ := .f32) (val_main_v9 (F := Ideal) x0 x1 x2) (fun i _ => (∑ d, xres P.X P.O P.WO i d * xres P.X P.O P.WO i d) / 1024 + eps) := by
  have e5 : Rep (M := 4096) (N := 1) (φ := .f32) (val_main_v5 (F := Ideal) x0 x1 x2) (fun i _ => ∑ d, xres P.X P.O P.WO i d * xres P.X P.O P.WO i d) := fun i z => by
    rw [val_main_v5_apply, val_main_v4_apply, val_main_cst_apply, word_zero, zero_add, coe_sum]
    refine Finset.sum_congr rfl fun d _ => ?_
    refine (congrArg (val_main_v3 (F := Ideal) x0 x1 x2) (?_ : _ = ix2 i d)).trans (((ref_x2 E).mul (ref_x2 E)) i d)
    funext a; match a with | ⟨0, _⟩ => rfl | ⟨1, _⟩ => rfl
  have e6 : Rep (M := 4096) (N := 1) (φ := .f32) (val_main_v6 (F := Ideal)) (fun _ _ => 1024) := hconst (fun _ => thousand_word) bcast_S_S4096x1
  have e8 : Rep (M := 4096) (N := 1) (φ := .f32) (val_main_v8 (F := Ideal)) (fun _ _ => eps) := hconst (fun _ => eps_word.1) bcast_S_S4096x1
  exact (hdiv e5 e6 fun _ _ => by norm_num).add e8

/-- The normed rows. -/
theorem ref_hf : Rep (M := 4096) (N := 1024) (φ := .f32) (val_main_v15 (F := Ideal) x0 x1 x2 x3) P.hf := fun i d => by
  have e10 := hrsqrt (ref_mean E) (fun i _ => mean_pos (xres P.X P.O P.WO i)) i (0 : Fin 1)
  have e11 : val_main_v11 (F := Ideal) x0 x1 x2 (ix2 i d) = _ := (val_main_v11_apply x0 x1 x2 (ix2 i d)).trans
    ((congrArg (val_main_v10 (F := Ideal) x0 x1 x2) (funext fun a => by match a with | ⟨0, _⟩ => rfl | ⟨1, _⟩ => rfl : _ = ix2 i (0 : Fin 1))).trans e10)
  have e14 : val_main_v14 (F := Ideal) x3 (ix2 i d) = ((P.gain d : ℝ) : EReal) := by
    rw [val_main_v14_apply, val_main_v13_apply, ← E.a3 d]
    exact congrArg x3 (funext fun a => by match a with | ⟨0, _⟩ => rfl)
  rw [val_main_v15_apply, val_main_v12_apply, ref_x2 E i d, e11, e14]
  show (_ * _ : EReal) * _ = _
  rw [← EReal.coe_mul, ← EReal.coe_mul]
  rfl

/-- The second layer's weights up. -/
theorem ref_w : Rep (M := 1024) (N := 5632) (φ := .f32) (val_main_v17 (F := Ideal) x4) P.W := fun d y => by
  rw [val_main_v17_apply, val_main_v16_apply, ← E.a4 d y]
  refine congrArg x4 (funext fun a => ?_)
  have := d.isLt
  have := y.isLt
  match a with
  | ⟨0, _⟩ => rfl
  | ⟨1, _⟩ => exact Fin.ext (by show (d.val * 5632 + y.val) / 5632 % 1024 = d.val; omega)
  | ⟨2, _⟩ => exact Fin.ext (by show (d.val * 5632 + y.val) % 5632 = y.val; omega)

/-- The rows up. -/
theorem ref_u : Rep (M := 4096) (N := 5632) (φ := .f32) (val_main_v18 (F := Ideal) x0 x1 x2 x3 x4) P.u := fun i y => by
  unfold Reals.u
  rw [val_main_v18_apply, coe_sum]
  refine Finset.sum_congr rfl fun d _ => ?_
  exact mul_real (congrArg (val_main_v15 (F := Ideal) x0 x1 x2 x3) (funext fun a => by match a with | ⟨0, _⟩ => rfl | ⟨1, _⟩ => rfl))
    (congrArg (val_main_v17 (F := Ideal) x4) (funext fun a => by match a with | ⟨0, _⟩ => rfl | ⟨1, _⟩ => rfl)) (ref_hf E i d) (ref_w E d y)

/-- The rows up between two rows of zeros. -/
theorem ref_pad : Rep (M := 4098) (N := 5632) (φ := .f32) (val_main_v20 (F := Ideal) x0 x1 x2 x3 x4) (fun e y => ext (fun i => P.u i y) ((e.val : ℤ) - 1)) := by
  have e19 : Rep (M := 1) (N := 5632) (φ := .f32) (val_main_v19 (F := Ideal)) (fun _ _ => 0) := hconst (fun _ => word_zero) bcast_S_S1x5632
  exact Rep.cat3 e19 (ref_u E) e19 _ rfl _ (fun e i y h => ext_off _ (by omega)) (fun e i y h => ext_row _ i (by omega)) (fun e i y h => ext_off _ (by omega))

/-- Each row replaced by the one before it. -/
theorem ref_up : Rep (M := 4096) (N := 5632) (φ := .f32) (val_main_v23 (F := Ideal) x0 x1 x2 x3 x4) (fun i y => ext (fun i => P.u i y) ((i.val : ℤ) - 1)) :=
  ((ref_pad E).rows 0 slices_S4098x5632_S4096x5632_0_0 (fun i => by omega)).congr fun i y => by
    show ext _ (((0 + i.val : ℕ) : ℤ) - 1) = _
    rw [Nat.zero_add]

/-- The rows themselves. -/
theorem ref_mid : Rep (M := 4096) (N := 5632) (φ := .f32) (val_main_v29 (F := Ideal) x0 x1 x2 x3 x4) P.u :=
  ((ref_pad E).rows 1 slices_S4098x5632_S4096x5632_1_0 (fun i => by omega)).congr fun i y => ext_row _ i (by push_cast; ring)

/-- Each row replaced by the one after it. -/
theorem ref_down : Rep (M := 4096) (N := 5632) (φ := .f32) (val_main_v36 (F := Ideal) x0 x1 x2 x3 x4) (fun i y => ext (fun i => P.u i y) ((i.val : ℤ) + 1)) :=
  ((ref_pad E).rows 2 slices_S4098x5632_S4096x5632_2_0 (fun i => by omega)).congr fun i y => congrArg (ext _) (by push_cast; ring)

/-- The convolution's first row of weights. -/
theorem ref_w0 (i : Fin 1) : ∀ y : Fin 5632, val_main_v26 (F := Ideal) x5 (ix2 i y) = ((P.CW 0 y : ℝ) : EReal) := fun y => by
  rw [val_main_v26_apply, val_main_v25_apply, val_main_v24_apply, ← E.a5 0 y]
  exact congrArg x5 (funext fun a => by match a with | ⟨0, _⟩ => rfl | ⟨1, _⟩ => exact Fin.ext (Nat.mod_eq_of_lt y.isLt))

/-- The convolution's middle row of weights. -/
theorem ref_w1 (i : Fin 1) : ∀ y : Fin 5632, val_main_v32 (F := Ideal) x5 (ix2 i y) = ((P.CW 1 y : ℝ) : EReal) := fun y => by
  rw [val_main_v32_apply, val_main_v31_apply, val_main_v30_apply, ← E.a5 1 y]
  exact congrArg x5 (funext fun a => by match a with | ⟨0, _⟩ => rfl | ⟨1, _⟩ => exact Fin.ext (Nat.mod_eq_of_lt y.isLt))

/-- The convolution's last row of weights. -/
theorem ref_w2 (i : Fin 1) : ∀ y : Fin 5632, val_main_v39 (F := Ideal) x5 (ix2 i y) = ((P.CW 2 y : ℝ) : EReal) := fun y => by
  rw [val_main_v39_apply, val_main_v38_apply, val_main_v37_apply, ← E.a5 2 y]
  exact congrArg x5 (funext fun a => by match a with | ⟨0, _⟩ => rfl | ⟨1, _⟩ => exact Fin.ext (Nat.mod_eq_of_lt y.isLt))

/-- The first row of weights, at every row. -/
theorem ref_c0 : Rep (M := 4096) (N := 5632) (φ := .f32) (val_main_v27 (F := Ideal) x5) (fun _ y => P.CW 0 y) := fun i y => by
  rw [val_main_v27_apply, ← ref_w0 E 0 y]
  exact congrArg (val_main_v26 (F := Ideal) x5) (funext fun a => by match a with | ⟨0, _⟩ => rfl | ⟨1, _⟩ => rfl)

/-- The middle row of weights, at every row. -/
theorem ref_c1 : Rep (M := 4096) (N := 5632) (φ := .f32) (val_main_v33 (F := Ideal) x5) (fun _ y => P.CW 1 y) := fun i y => by
  rw [val_main_v33_apply, ← ref_w1 E 0 y]
  exact congrArg (val_main_v32 (F := Ideal) x5) (funext fun a => by match a with | ⟨0, _⟩ => rfl | ⟨1, _⟩ => rfl)

/-- The last row of weights, at every row. -/
theorem ref_c2 : Rep (M := 4096) (N := 5632) (φ := .f32) (val_main_v40 (F := Ideal) x5) (fun _ y => P.CW 2 y) := fun i y => by
  rw [val_main_v40_apply, ← ref_w2 E 0 y]
  exact congrArg (val_main_v39 (F := Ideal) x5) (funext fun a => by match a with | ⟨0, _⟩ => rfl | ⟨1, _⟩ => rfl)

/-- The convolution's bias, at every row. -/
theorem ref_b : Rep (M := 4096) (N := 5632) (φ := .f32) (val_main_v44 (F := Ideal) x6) (fun _ y => P.CB y) := fun i y => by
  rw [val_main_v44_apply, val_main_v43_apply, ← E.a6 y]
  exact congrArg x6 (funext fun a => by match a with | ⟨0, _⟩ => rfl)

/-- The convolution. -/
theorem ref_cv : Rep (M := 4096) (N := 5632) (φ := .f32) (val_main_v45 (F := Ideal) x0 x1 x2 x3 x4 x5 x6) P.cv :=
  ((((ref_up E).mul (ref_c0 E)).add ((ref_mid E).mul (ref_c1 E))).add ((ref_down E).mul (ref_c2 E))).add (ref_b E)

/-- The gate's half of the convolution. -/
theorem ref_a : Rep (M := 4096) (N := 2816) (φ := .f32) (val_main_v46 (F := Ideal) x0 x1 x2 x3 x4 x5 x6) (fun i z => P.cv i (lo z)) := fun i z => by
  rw [val_main_v46_apply, ← ref_cv E i (lo z)]
  exact congrArg (val_main_v45 (F := Ideal) x0 x1 x2 x3 x4 x5 x6) (funext fun a => by match a with | ⟨0, _⟩ => rfl | ⟨1, _⟩ => rfl)

/-- The value's half of the convolution. -/
theorem ref_h : Rep (M := 4096) (N := 2816) (φ := .f32) (val_main_v47 (F := Ideal) x0 x1 x2 x3 x4 x5 x6) (fun i z => P.cv i (hi z)) := fun i z => by
  rw [val_main_v47_apply, ← ref_cv E i (hi z)]
  exact congrArg (val_main_v45 (F := Ideal) x0 x1 x2 x3 x4 x5 x6) (funext fun a => by match a with | ⟨0, _⟩ => rfl | ⟨1, _⟩ => rfl)

/-- The logistic function of the gate. -/
theorem ref_logi : Rep (M := 4096) (N := 2816) (φ := .f32) (val_main_v48_2 (F := Ideal) x0 x1 x2 x3 x4 x5 x6) (fun i z => logi (P.cv i (lo z))) := by
  have e2 : Rep (M := 4096) (N := 2816) (φ := .f32) (val_main_call0_v2 (F := Ideal)) (fun _ _ => 1) := hconst (fun _ => one_word) bcast_S_S4096x2816
  have e4 : Rep (M := 4096) (N := 2816) (φ := .f32) (val_main_call0_v4 (F := Ideal)) (fun _ _ => 1) := hconst (fun _ => one_word) bcast_S_S4096x2816
  have e := hdiv e4 (e2.add (hexp (hneg (ref_a E)))) (fun i z => by positivity)
  exact Rep.congr e fun i z => by rw [logi, zero_sub]

/-- The gate times its logistic function. -/
theorem ref_silu : Rep (M := 4096) (N := 2816) (φ := .f32) (val_main_v48_0 (F := Ideal) x0 x1 x2 x3 x4 x5 x6) (fun i z => P.cv i (lo z) * logi (P.cv i (lo z))) :=
  (ref_a E).mul (ref_logi E)

/-- The derivative of the logistic function. -/
theorem ref_slope : Rep (M := 4096) (N := 2816) (φ := .f32) (val_main_v48_1 (F := Ideal) x0 x1 x2 x3 x4 x5 x6) (fun i z => logi (P.cv i (lo z)) * (1 - logi (P.cv i (lo z)))) := by
  have e6 : Rep (M := 4096) (N := 2816) (φ := .f32) (val_main_call0_v6 (F := Ideal)) (fun _ _ => 1) := hconst (fun _ => one_word) bcast_S_S4096x2816
  exact (ref_logi E).mul (e6.sub (ref_logi E))

/-- The activation. -/
theorem ref_act : Rep (M := 4096) (N := 2816) (φ := .f32) (val_main_v49 (F := Ideal) x0 x1 x2 x3 x4 x5 x6) P.act := (ref_silu E).mul (ref_h E)

/-- The layer's output. -/
theorem ref_x3 : Rep (M := 4096) (N := 1024) (φ := .f32) (val_main_v100 (F := Ideal) x0 x1 x2 x3 x4 x5 x6 x7) P.x3 := by
  have e : Rep (M := 4096) (N := 1024) (φ := .f32) (val_main_v50 (F := Ideal) x0 x1 x2 x3 x4 x5 x6 x7) (fun i d => ∑ z, P.act i z * P.WD z d) := fun i d => by
    rw [val_main_v50_apply, coe_sum]
    refine Finset.sum_congr rfl fun z _ => ?_
    exact mul_real (congrArg (val_main_v49 (F := Ideal) x0 x1 x2 x3 x4 x5 x6) (funext fun a => by match a with | ⟨0, _⟩ => rfl | ⟨1, _⟩ => rfl))
      (congrArg x7 (funext fun a => by match a with | ⟨0, _⟩ => rfl | ⟨1, _⟩ => rfl)) (ref_act E i z) (E.a7 z d)
  exact (ref_x2 E).add e

/-- The activation's gradient. -/
theorem ref_da : Rep (M := 4096) (N := 2816) (φ := .f32) (val_main_v51 (F := Ideal) x7 x8) P.da := fun i z => by
  unfold Reals.da
  rw [val_main_v51_apply, coe_sum]
  refine Finset.sum_congr rfl fun d _ => ?_
  exact mul_real (congrArg x8 (funext fun a => by match a with | ⟨0, _⟩ => rfl | ⟨1, _⟩ => rfl))
    (congrArg x7 (funext fun a => by match a with | ⟨0, _⟩ => rfl | ⟨1, _⟩ => rfl)) (E.a8 i d) (E.a7 z d)

/-- The convolution's gradient. -/
theorem ref_dc : Rep (M := 4096) (N := 5632) (φ := .f32) (val_main_v57 (F := Ideal) x0 x1 x2 x3 x4 x5 x6 x7 x8) P.dc := by
  have e53 := (ref_da E).mul (ref_h E)
  have e54 := (e53.mul (ref_logi E)).add (((ref_a E).mul e53).mul (ref_slope E))
  have e55 := padCols ((ref_silu E).mul (ref_da E)) (c := val_main_cst_5 (F := Ideal)) (fun _ => word_zero) 2816 0 pads_S4096x2816_S4096x5632_000_281600 h_S_
  have e56 := padCols e54 (c := val_main_cst_6 (F := Ideal)) (fun _ => word_zero) 0 2816 pads_S4096x2816_S4096x5632_000_028160 h_S_
  refine Rep.congr (e55.add e56) fun i y => ?_
  unfold Reals.dc
  by_cases hy : y.val < 2816
  · rw [dif_neg (by omega), dif_pos (⟨Nat.zero_le _, hy⟩ : 0 ≤ y.val ∧ y.val - 0 < 2816), dif_pos hy, zero_add]
    show P.da i ⟨y.val, _⟩ * P.cv i (hi ⟨y.val, _⟩) * logi (P.cv i y) + P.cv i y * (P.da i ⟨y.val, _⟩ * P.cv i (hi ⟨y.val, _⟩)) * (logi (P.cv i y) * (1 - logi (P.cv i y))) = _
    unfold gate0
    ring
  · rw [dif_pos (by omega : 2816 ≤ y.val ∧ y.val - 2816 < 2816), dif_neg (by omega), dif_neg hy, add_zero]
    exact mul_comm _ _

/-- The gradient of the rows up. -/
theorem ref_du : Rep (M := 4096) (N := 5632) (φ := .f32) (val_main_v93 (F := Ideal) x0 x1 x2 x3 x4 x5 x6 x7 x8) P.du := by
  have c0 : Rep (M := 4096) (N := 5632) (φ := .f32) (val_main_v84 (F := Ideal) x5) (fun _ y => P.CW 0 y) := fun i y => by
    rw [val_main_v84_apply, ← ref_w0 E 0 y]
    exact congrArg (val_main_v26 (F := Ideal) x5) (funext fun a => by match a with | ⟨0, _⟩ => rfl | ⟨1, _⟩ => rfl)
  have c1 : Rep (M := 4096) (N := 5632) (φ := .f32) (val_main_v73 (F := Ideal) x5) (fun _ y => P.CW 1 y) := fun i y => by
    rw [val_main_v73_apply, ← ref_w1 E 0 y]
    exact congrArg (val_main_v32 (F := Ideal) x5) (funext fun a => by match a with | ⟨0, _⟩ => rfl | ⟨1, _⟩ => rfl)
  have c2 : Rep (M := 4096) (N := 5632) (φ := .f32) (val_main_v64 (F := Ideal) x5) (fun _ y => P.CW 2 y) := fun i y => by
    rw [val_main_v64_apply, ← ref_w2 E 0 y]
    exact congrArg (val_main_v39 (F := Ideal) x5) (funext fun a => by match a with | ⟨0, _⟩ => rfl | ⟨1, _⟩ => rfl)
  have p2 := padRows ((ref_dc E).mul c2) (c := val_main_cst_12 (F := Ideal)) (fun _ => word_zero) 2 0 pads_S4096x5632_S4098x5632_200_000 h_S_
  have p1 := padRows ((ref_dc E).mul c1) (c := val_main_cst_16 (F := Ideal)) (fun _ => word_zero) 1 1 pads_S4096x5632_S4098x5632_110_000 h_S_
  have p0 := padRows ((ref_dc E).mul c0) (c := val_main_cst_20 (F := Ideal)) (fun _ => word_zero) 0 2 pads_S4096x5632_S4098x5632_020_000 h_S_
  refine Rep.congr (((p2.add p1).add p0).rows 1 slices_S4098x5632_S4096x5632_1_0 (fun i => by omega)) fun i y => ?_
  have hi := i.isLt
  have s (o : ℕ) (t : Fin 3) (z : ℤ) (hz : z = 1 + i.val - o) :
      (if h : o ≤ 1 + i.val ∧ 1 + i.val - o < 4096 then P.dc ⟨1 + i.val - o, h.2⟩ y * P.CW t y else 0) = ext (fun i => P.dc i y) z * P.CW t y := by
    split_ifs with h
    · exact congrArg (· * P.CW t y) (ext_row (fun i => P.dc i y) ⟨1 + i.val - o, h.2⟩ (by rw [hz]; show _ = ((1 + i.val - o : ℕ) : ℤ); omega)).symm
    · rw [ext_off _ (by omega), zero_mul]
  refine (congr (congrArg _ (congr (congrArg _ (s 2 2 (i.val - 1) (by omega))) (s 1 1 i.val (by omega)))) (s 0 0 (i.val + 1) (by omega))).trans ?_
  rw [ext_row (fun i => P.dc i y) i rfl]
  show _ = ext (fun i => P.dc i y) ((i.val : ℤ) + 1) * P.CW 0 y + P.dc i y * P.CW 1 y + ext (fun i => P.dc i y) ((i.val : ℤ) - 1) * P.CW 2 y
  ring

/-- The gradient of the weights up. -/
theorem ref_dup : Rep (M := 1024) (N := 5632) (φ := .f32) (val_main_v96 (F := Ideal) x0 x1 x2 x3 x4 x5 x6 x7 x8) P.dup := fun d y => by
  unfold Reals.dup
  rw [val_main_v96_apply, val_main_v95_apply, coe_sum]
  refine Finset.sum_congr rfl fun i _ => ?_
  rw [mul_comm (P.hf i d)]
  exact mul_real (congrArg (val_main_v93 (F := Ideal) x0 x1 x2 x3 x4 x5 x6 x7 x8) (funext fun a => by match a with | ⟨0, _⟩ => rfl | ⟨1, _⟩ => rfl))
    (congrArg (val_main_v15 (F := Ideal) x0 x1 x2 x3) (funext fun a => by match a with | ⟨0, _⟩ => rfl | ⟨1, _⟩ => rfl)) (ref_du E i y) (ref_hf E i d)

/-- The gradient of the convolution's last row of weights. -/
theorem ref_s2 : Rep (M := 1) (N := 5632) (φ := .f32) (val_main_v67 (F := Ideal) x0 x1 x2 x3 x4 x5 x6 x7 x8)
    (fun _ y => ∑ i : Fin 4096, ext (fun i => P.u i y) ((i.val : ℤ) + 1) * P.dc i y) := fun t y => by
  rw [val_main_v67_apply, val_main_v66_apply, Fin.sum_univ_one, val_main_v63_apply, val_main_v62_apply, val_main_cst_9_apply, val_main_cst_10_apply, word_zero, zero_add, zero_add, coe_sum]
  refine Finset.sum_congr rfl fun i _ => ?_
  refine (congrArg (val_main_v61 (F := Ideal) x0 x1 x2 x3 x4 x5 x6 x7 x8) (?_ : _ = ix2 i y)).trans (((ref_down E).mul (ref_dc E)) i y)
  funext a; match a with | ⟨0, _⟩ => rfl | ⟨1, _⟩ => exact Fin.ext (by show 0 * 5632 + y.val = y.val; omega)

/-- The gradient of the convolution's middle row of weights. -/
theorem ref_s1 : Rep (M := 1) (N := 5632) (φ := .f32) (val_main_v76 (F := Ideal) x0 x1 x2 x3 x4 x5 x6 x7 x8)
    (fun _ y => ∑ i : Fin 4096, P.u i y * P.dc i y) := fun t y => by
  rw [val_main_v76_apply, val_main_v75_apply, Fin.sum_univ_one, val_main_v72_apply, val_main_v71_apply, val_main_cst_13_apply, val_main_cst_14_apply, word_zero, zero_add, zero_add, coe_sum]
  refine Finset.sum_congr rfl fun i _ => ?_
  refine (congrArg (val_main_v70 (F := Ideal) x0 x1 x2 x3 x4 x5 x6 x7 x8) (?_ : _ = ix2 i y)).trans (((ref_mid E).mul (ref_dc E)) i y)
  funext a; match a with | ⟨0, _⟩ => rfl | ⟨1, _⟩ => exact Fin.ext (by show 0 * 5632 + y.val = y.val; omega)

/-- The gradient of the convolution's first row of weights. -/
theorem ref_s0 : Rep (M := 1) (N := 5632) (φ := .f32) (val_main_v87 (F := Ideal) x0 x1 x2 x3 x4 x5 x6 x7 x8)
    (fun _ y => ∑ i : Fin 4096, ext (fun i => P.u i y) ((i.val : ℤ) - 1) * P.dc i y) := fun t y => by
  rw [val_main_v87_apply, val_main_v86_apply, Fin.sum_univ_one, val_main_v83_apply, val_main_v82_apply, val_main_cst_17_apply, val_main_cst_18_apply, word_zero, zero_add, zero_add, coe_sum]
  refine Finset.sum_congr rfl fun i _ => ?_
  refine (congrArg (val_main_v81 (F := Ideal) x0 x1 x2 x3 x4 x5 x6 x7 x8) (?_ : _ = ix2 i y)).trans (((ref_up E).mul (ref_dc E)) i y)
  funext a; match a with | ⟨0, _⟩ => rfl | ⟨1, _⟩ => exact Fin.ext (by show 0 * 5632 + y.val = y.val; omega)

/-- The gradient of the convolution's weights. -/
theorem ref_dcw : Rep (M := 3) (N := 5632) (φ := .f32) (val_main_v89 (F := Ideal) x0 x1 x2 x3 x4 x5 x6 x7 x8) P.dcw := by
  have p2 := padRows (ref_s2 E) (c := val_main_cst_11 (F := Ideal)) (fun _ => word_zero) 2 0 pads_S1x5632_S3x5632_200_000 h_S_
  have p1 := padRows (ref_s1 E) (c := val_main_cst_15 (F := Ideal)) (fun _ => word_zero) 1 1 pads_S1x5632_S3x5632_110_000 h_S_
  have p0 := padRows (ref_s0 E) (c := val_main_cst_19 (F := Ideal)) (fun _ => word_zero) 0 2 pads_S1x5632_S3x5632_020_000 h_S_
  refine Rep.congr ((p2.add p1).add p0) fun t y => ?_
  unfold Reals.dcw convW
  match t with
  | ⟨0, _⟩ => simp [mul_comm]
  | ⟨1, _⟩ => simp [mul_comm]
  | ⟨2, _⟩ => simp [mul_comm]

/-- The gradient of the convolution's bias. -/
theorem ref_dcb (y : Fin 5632) : val_main_v60 (F := Ideal) x0 x1 x2 x3 x4 x5 x6 x7 x8 (ix1 y) = ((P.dcb y : ℝ) : EReal) := by
  unfold Reals.dcb
  rw [val_main_v60_apply, Fin.sum_univ_one, val_main_v59_apply, val_main_v58_apply, val_main_cst_7_apply, val_main_cst_8_apply, word_zero, zero_add, zero_add, coe_sum]
  refine Finset.sum_congr rfl fun i _ => ?_
  refine (congrArg (val_main_v57 (F := Ideal) x0 x1 x2 x3 x4 x5 x6 x7 x8) (?_ : _ = ix2 i y)).trans (ref_dc E i y)
  funext a; match a with | ⟨0, _⟩ => rfl | ⟨1, _⟩ => exact Fin.ext (by show 0 * 5632 + y.val = y.val; omega)

/-- The activation in blocks of columns. -/
theorem ref_act3 (b : Fin 4) (i : Fin 4096) (n : Fin 704) : val_main_v99 (F := Ideal) x0 x1 x2 x3 x4 x5 x6 (ix3 b i n) = ((P.act i (col4 b n) : ℝ) : EReal) := by
  refine Eq.trans ?_ (ref_act E i (col4 b n))
  refine (val_main_v99_apply (F := Ideal) x0 x1 x2 x3 x4 x5 x6 _).trans ((val_main_v98_apply (F := Ideal) x0 x1 x2 x3 x4 x5 x6 _).trans ((val_main_v97_apply (F := Ideal) x0 x1 x2 x3 x4 x5 x6 _).trans ?_))
  refine congrArg (val_main_v49 (F := Ideal) x0 x1 x2 x3 x4 x5 x6) (funext fun a => ?_)
  have h0 := b.isLt
  have h1 := n.isLt
  match a with
  | ⟨0, _⟩ => exact Fin.ext (by show ((i.val * 4 + b.val) * 704 + n.val) / 2816 = i.val; omega)
  | ⟨1, _⟩ => exact Fin.ext (by show ((i.val * 4 + b.val) * 704 + n.val) % 2816 = b.val * 704 + n.val; omega)

/-- The gradient of the rows up in blocks of columns. -/
theorem ref_du3 (q : Fin 8) (i : Fin 4096) (n : Fin 704) : val_main_v103 (F := Ideal) x0 x1 x2 x3 x4 x5 x6 x7 x8 (ix3 q i n) = ((P.du i (col8 q n) : ℝ) : EReal) := by
  refine Eq.trans ?_ (ref_du E i (col8 q n))
  refine (val_main_v103_apply (F := Ideal) x0 x1 x2 x3 x4 x5 x6 x7 x8 _).trans ((val_main_v102_apply (F := Ideal) x0 x1 x2 x3 x4 x5 x6 x7 x8 _).trans ((val_main_v101_apply (F := Ideal) x0 x1 x2 x3 x4 x5 x6 x7 x8 _).trans ?_))
  refine congrArg (val_main_v93 (F := Ideal) x0 x1 x2 x3 x4 x5 x6 x7 x8) (funext fun a => ?_)
  have h0 := q.isLt
  have h1 := n.isLt
  match a with
  | ⟨0, _⟩ => exact Fin.ext (by show ((i.val * 8 + q.val) * 704 + n.val) / 5632 = i.val; omega)
  | ⟨1, _⟩ => exact Fin.ext (by show ((i.val * 8 + q.val) * 704 + n.val) % 5632 = q.val * 704 + n.val; omega)

/-- The gradient of the weights up in blocks of columns. -/
theorem ref_dup3 (q : Fin 8) (d : Fin 1024) (n : Fin 704) : val_main_v105 (F := Ideal) x0 x1 x2 x3 x4 x5 x6 x7 x8 (ix3 q d n) = ((P.dup d (col8 q n) : ℝ) : EReal) := by
  refine Eq.trans ?_ (ref_dup E d (col8 q n))
  refine (val_main_v105_apply (F := Ideal) x0 x1 x2 x3 x4 x5 x6 x7 x8 _).trans ((val_main_v104_apply (F := Ideal) x0 x1 x2 x3 x4 x5 x6 x7 x8 _).trans ?_)
  refine congrArg (val_main_v96 (F := Ideal) x0 x1 x2 x3 x4 x5 x6 x7 x8) (funext fun a => ?_)
  have h0 := q.isLt
  have h1 := n.isLt
  match a with
  | ⟨0, _⟩ => exact Fin.ext (by show ((d.val * 8 + q.val) * 704 + n.val) / 5632 = d.val; omega)
  | ⟨1, _⟩ => exact Fin.ext (by show ((d.val * 8 + q.val) * 704 + n.val) % 5632 = q.val * 704 + n.val; omega)

/-- The gradient of the convolution's weights in blocks of columns. -/
theorem ref_dcw3 (q : Fin 8) (t : Fin 3) (n : Fin 704) : val_main_v107 (F := Ideal) x0 x1 x2 x3 x4 x5 x6 x7 x8 (ix3 q t n) = ((P.dcw t (col8 q n) : ℝ) : EReal) := by
  refine Eq.trans ?_ (ref_dcw E t (col8 q n))
  refine (val_main_v107_apply (F := Ideal) x0 x1 x2 x3 x4 x5 x6 x7 x8 _).trans ((val_main_v106_apply (F := Ideal) x0 x1 x2 x3 x4 x5 x6 x7 x8 _).trans ?_)
  refine congrArg (val_main_v89 (F := Ideal) x0 x1 x2 x3 x4 x5 x6 x7 x8) (funext fun a => ?_)
  have h0 := q.isLt
  have h1 := n.isLt
  match a with
  | ⟨0, _⟩ => exact Fin.ext (by show ((t.val * 8 + q.val) * 704 + n.val) / 5632 = t.val; omega)
  | ⟨1, _⟩ => exact Fin.ext (by show ((t.val * 8 + q.val) * 704 + n.val) % 5632 = q.val * 704 + n.val; omega)

omit E

/-- An array is known by its entries at two coordinates. -/
theorem array_ext2 {n0 n1 : ℕ} (v : (⟨2, ![n0, n1]⟩ : Shape).Idx → EReal) (f : Fin n0 → Fin n1 → ℝ) (h : ∀ a b, v (ix2 a b) = ((f a b : ℝ) : EReal)) :
    v = fun y => ((f (y 0) (y 1) : ℝ) : EReal) := by
  funext y
  exact (congrArg v (ValueIdx.eq_ix2 (n0 := n0) (n1 := n1) y)).trans (h _ _)

/-- A vector is known by its entries. -/
theorem array_ext1 {n0 : ℕ} (v : (⟨1, ![n0]⟩ : Shape).Idx → EReal) (f : Fin n0 → ℝ) (h : ∀ a, v (ix1 a) = ((f a : ℝ) : EReal)) :
    v = fun y => ((f (y 0) : ℝ) : EReal) := by
  funext y
  refine (congrArg v (?_ : y = ix1 (y 0))).trans (h _)
  funext a
  match a with
  | ⟨0, _⟩ => rfl

/-- Six arrays are the forward pass's and the gradients' real numbers. -/
def Holds (P : Reals) (act : S4x4096x704.Idx → EReal) (x3 : S4096x1024.Idx → EReal) (du : S8x4096x704.Idx → EReal) (dup : S8x1024x704.Idx → EReal)
    (dcw : S8x3x704.Idx → EReal) (dcb : S5632.Idx → EReal) : Prop :=
  act = (fun y => ((P.act (y 1) (col4 (y 0) (y 2)) : ℝ) : EReal)) ∧ x3 = (fun y => ((P.x3 (y 0) (y 1) : ℝ) : EReal)) ∧
  du = (fun y => ((P.du (y 1) (col8 (y 0) (y 2)) : ℝ) : EReal)) ∧ dup = (fun y => ((P.dup (y 1) (col8 (y 0) (y 2)) : ℝ) : EReal)) ∧
  dcw = (fun y => ((P.dcw (y 1) (col8 (y 0) (y 2)) : ℝ) : EReal)) ∧ dcb = (fun y => ((P.dcb (y 0) : ℝ) : EReal))

variable (m : (ℓ : Loc nD τ sig) → Buf (Elt Ideal) ℓ) (ρ : Dev nD → PrngReg)

/-- The reference has no semaphore. -/
theorem no_sem : ∀ _ : SemLoc sig, False := by decide

/-- What real arguments make of the reference's results. -/
theorem run_values (P : Dev nD → Reals)
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (P c)) :
    θ_run defs (onTc (τ := τ) (main (F := Ideal))) ⟨m, fun _ => 0, ρ⟩ (fun r => ∀ c : Dev nD,
      Holds (P c) (r.2.mem ((c.tc : Thread nD τ).loc main_v99)) (r.2.mem ((c.tc : Thread nD τ).loc main_v100)) (r.2.mem ((c.tc : Thread nD τ).loc main_v103))
        (r.2.mem ((c.tc : Thread nD τ).loc main_v105)) (r.2.mem ((c.tc : Thread nD τ).loc main_v107)) (r.2.mem ((c.tc : Thread nD τ).loc main_v60))) :=
  (θ_run defs _ _).mono (fun _ h c =>
    ⟨((h c).1.trans (val_main_v99_eq (F := Ideal) _)).trans (array_ext _ (fun b i n => (P c).act i (col4 b n)) (ref_act3 (hE c))),
     ((h c).2.1.trans (val_main_v100_eq (F := Ideal) _)).trans (array_ext2 _ _ (ref_x3 (hE c))),
     ((h c).2.2.1.trans (val_main_v103_eq (F := Ideal) _)).trans (array_ext _ (fun q i n => (P c).du i (col8 q n)) (ref_du3 (hE c))),
     ((h c).2.2.2.1.trans (val_main_v105_eq (F := Ideal) _)).trans (array_ext _ (fun q i n => (P c).dup i (col8 q n)) (ref_dup3 (hE c))),
     ((h c).2.2.2.2.1.trans (val_main_v107_eq (F := Ideal) _)).trans (array_ext _ (fun q i n => (P c).dcw i (col8 q n)) (ref_dcw3 (hE c))),
     ((h c).2.2.2.2.2.1.trans (val_main_v60_eq (F := Ideal) _)).trans (array_ext1 _ _ (ref_dcb (hE c)))⟩) (Cert.Reference2Ideal.Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h c).2.2.2.2.2.2, funext fun g => (no_sem g.2).elim⟩) (Cert.Reference2Ideal.Value.run m ρ)

end Cert.Proof.MlpRef

end
-- ==== Proof.MlpRun.lean ====
/-
  What the kernel of the gated MLP leaves in its arrays: what the host's operations hand each of its five regions, and
  what those regions make of real arguments.
-/
module

public import proofs.«01_k».proof.Proof.MlpArr
public import proofs.«01_k».proof.Proof.MlpRef
public import proofs.«01_k».proof.Proof.Gen.Kernel2Ideal.Frame
public import Idealize.ShloMosaic.Lib.StableHlo.RunRead

@[expose] public section

set_option maxRecDepth 16384

noncomputable section

namespace Cert.Proof.Mlp

open Idealize.ShloMosaic hiding ix1 ix2 ix3 ix4
open Idealize.ShloMosaic.TcCoe Idealize.SL Idealize.SL.RA Idealize.SL.BI Idealize.SL.Sem Idealize.ShloMosaic.ValueIdx Cert.Kernel2Ideal
open scoped Idealize.SL.BI
open Idealize.ShloMosaic.Rounds
open Idealize.SL.BI.BIBase Idealize.SL.BI.Laws Idealize.SL.ProofMode
open Cert.Proof.MlpRef (Given Reals Holds col4 col8 lo hi)
open scoped BigOperators

variable (m : (ℓ : Loc nD τ sig) → Buf (Elt Ideal) ℓ) (ρ : Dev nD → PrngReg)

local notation "World" => MT nD τ sig Unit (Elt Ideal) ℕ (UR sig nD τ) ℕ

set_option backward.isDefEq.respectTransparency.types false in
/-- Every execution ends with each array at its contents after the last region. -/
theorem run_arrays : θ_run defs (onTc (τ := τ) (main (F := Ideal))) ⟨m, fun _ => 0, ρ⟩ (fun r =>
      ∀ (c : Dev nD), ∀ b ∈ Pipeline.ucRefs τ sig, r.2.mem ((c : Thread nD τ).1, b) = Gen.W8 m ρ c b) :=
  Pipeline.θ_run_regions_kit_sems (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_region, Pipeline.Seg.pipes_host, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Htok
      imodintro
      isplitl [Htok]
      · iapply (show (ownU (initOf (Pipeline.cells cfgs Gen.cellOf_inj) (Pipeline.launchToks cfgs Gen.cellOf_inj)) : sProp World)
            ⊢ BI.own (emb₁ (initOf (Pipeline.cells cfgs Gen.cellOf_inj) (Pipeline.launchToks cfgs Gen.cellOf_inj))) from .rfl)
        iexact Htok
      · iapply (show (BI.emp : sProp World) ⊢ bigSep Finset.univ (fun _ : Dev nD => (BI.emp : sProp World)) from by rw [BI.bigSep_emp_const])
        iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hbuf, -, Howe, -, Hreg, -⟩, -⟩
      imodintro
      isplitl [Hbuf]
      · iexact Hbuf
      isplitl [Hreg]
      · iexists _; iexact Hreg
      · iexists ∅; iexact Howe)
    (QY := fun c s => ∀ b ∈ Pipeline.ucRefs τ sig, s.mem (((c : Thread nD τ)).1, b) = Gen.W8 m ρ c b)
    (hfin := fun c s' => by
      iintro ⟨⟨Hbuf, -⟩, HSI⟩
      unfold StableHlo.held
      imodintro
      iapply (pointsTo_read_all (Pipeline.ucRefs τ sig) (fun b => (((c : Thread nD τ)).1, b)) (Gen.W8 m ρ c) s')
      isplitl [Hbuf] <;> iassumption)
    (hQ := fun s h _ => h)

/-- The columns' block of half `s` and hidden block `b`. -/
def blk (s : Fin 2) (b : Fin 4) : Fin 8 := ⟨s.val * 4 + b.val, by omega⟩

/-- The first half's columns. -/
theorem col_lo (b : Fin 4) (n : Fin 704) : lo (col4 b n) = col8 (blk 0 b) n := Fin.ext (by show b.val * 704 + n.val = (0 * 4 + b.val) * 704 + n.val; omega)

/-- The second half's columns. -/
theorem col_hi (b : Fin 4) (n : Fin 704) : hi (col4 b n) = col8 (blk 1 b) n := Fin.ext (by show 2816 + (b.val * 704 + n.val) = (1 * 4 + b.val) * 704 + n.val; omega)

section reals
variable (P : Reals)

/-- The weight up, by column blocks. -/
def wUp (s : Fin 2) (b : Fin 4) (d : Fin 1024) (n : Fin 704) : ℝ := P.W d (col8 (blk s b) n)
/-- The convolution's weights, by column blocks. -/
def cWt (s : Fin 2) (b : Fin 4) (t : Fin 3) (n : Fin 704) : ℝ := P.CW t (col8 (blk s b) n)
/-- The convolution's bias, by column blocks. -/
def cBs (s : Fin 2) (b : Fin 4) (n : Fin 704) : ℝ := P.CB (col8 (blk s b) n)
/-- The rows up, by column blocks. -/
def uUp (s : Fin 2) (b : Fin 4) (i : Fin 4096) (n : Fin 704) : ℝ := P.u i (col8 (blk s b) n)

/-- The convolved rows' gradient, by column blocks. -/
theorem dcol_eq (s : Fin 2) (b : Fin 4) (i : Fin 4096) (n : Fin 704) :
    dcol (uUp P) P.G P.WD (cWt P) (cBs P) b s i n = P.dc i (col8 (blk s b) n) := by
  have h0 : (⟨b.val * 704 + n.val, by omega⟩ : Fin 2816) = col4 b n := rfl
  unfold Reals.dc
  match s with
  | ⟨0, _⟩ =>
    have hlt : (col8 (blk ⟨0, by omega⟩ b) n).val < 2816 := by show (0 * 4 + b.val) * 704 + n.val < 2816; omega
    rw [dif_pos hlt]
    have e : (⟨(col8 (blk ⟨0, by omega⟩ b) n).val, hlt⟩ : Fin 2816) = col4 b n :=
      Fin.ext (by show (0 * 4 + b.val) * 704 + n.val = b.val * 704 + n.val; omega)
    rw [e, col_hi]
    rfl
  | ⟨1, _⟩ =>
    have hge : ¬ (col8 (blk ⟨1, by omega⟩ b) n).val < 2816 := by show ¬ (1 * 4 + b.val) * 704 + n.val < 2816; omega
    rw [dif_neg hge]
    have e : (⟨(col8 (blk ⟨1, by omega⟩ b) n).val - 2816, by omega⟩ : Fin 2816) = col4 b n :=
      Fin.ext (by show (1 * 4 + b.val) * 704 + n.val - 2816 = b.val * 704 + n.val; omega)
    rw [e, col_lo]
    rfl

end reals

section
variable {P : Reals} {c : Dev nD}
variable (E : Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) P)
include E

/-- The cast projection. -/
theorem h_v8 (k d : Fin 1024) : Gen.W1 m ρ c (Proc.devRef .tc main_v8) (ix2 k d) = ((P.WO k d : ℝ) : EReal) := by
  have e : Gen.W1 m ρ c (Proc.devRef .tc main_v8) = (truncf .bf16 (m ((c.tc : Thread nD τ).loc main_arg2) : FVec Ideal S1024x1024 .f32) Facts₀.bitsLt_bf16_f32 : FVec Ideal S1024x1024 .bf16) := by
    unfold Gen.W1
    after_reads_simp
  exact (congrFun e _).trans (E.a2 k d)

/-- The cast weight down. -/
theorem h_v0 (z : Fin 2816) (d : Fin 1024) : Gen.W1 m ρ c (Proc.devRef .tc main_v0) (ix2 z d) = ((P.WD z d : ℝ) : EReal) := by
  have e : Gen.W1 m ρ c (Proc.devRef .tc main_v0) = (truncf .bf16 (m ((c.tc : Thread nD τ).loc main_arg7) : FVec Ideal S2816x1024 .f32) Facts₀.bitsLt_bf16_f32 : FVec Ideal S2816x1024 .bf16) := by
    unfold Gen.W1
    after_reads_simp
  exact (congrFun e _).trans (E.a7 z d)

/-- The gain as a row. -/
theorem h_v9 (d : Fin 1024) : Gen.W1 m ρ c (Proc.devRef .tc main_v9) (ix2 (0 : Fin 1) d) = ((P.gain d : ℝ) : EReal) := by
  have e : Gen.W1 m ρ c (Proc.devRef .tc main_v9) = shapeCast S1x1024 (m ((c.tc : Thread nD τ).loc main_arg3) : FVec Ideal S1024 .f32) Facts₀.shapeCasts_S1024_S1x1024 := by
    unfold Gen.W1
    after_reads_simp
    rfl
  refine (congrFun e _).trans ((shapeCast_apply _ _ (ix2 (0 : Fin 1) d) (ix1 d) ?_).trans (E.a3 d))
  rw [Shape.rowMajor_val_one, Shape.rowMajor_val_two]
  show d.val = 0 * 1024 + d.val
  omega

/-- The convolution's weights by column blocks. -/
theorem h_v6 (s : Fin 2) (b : Fin 4) (t : Fin 3) (n : Fin 704) : Gen.W1 m ρ c (Proc.devRef .tc main_v6) (ix4 s b t n) = ((cWt P s b t n : ℝ) : EReal) := by
  have e : Gen.W1 m ρ c (Proc.devRef .tc main_v6) = shapeCast S2x4x3x704 (transpose S8x3x704 [1, 0, 2]
      (shapeCast S3x8x704 (m ((c.tc : Thread nD τ).loc main_arg5) : FVec Ideal S3x5632 .f32) Facts₀.shapeCasts_S3x5632_S3x8x704)
        Facts₀.transposes_S3x8x704_S8x3x704_1_0_2) Facts₀.shapeCasts_S8x3x704_S2x4x3x704 := by
    unfold Gen.W1
    after_reads_simp
    rfl
  refine (congrFun e _).trans ((shapeCast_apply _ _ (ix4 s b t n) (ix3 (blk s b) t n) ?_).trans ?_)
  · rw [Shape.rowMajor_val_three, Shape.rowMajor_val_four]; rfl
  refine (transpose_apply [1, 0, 2] _ _ (ix3 (blk s b) t n) (ix3 t (blk s b) n) (fun a => match a with | ⟨0, _⟩ => rfl | ⟨1, _⟩ => rfl | ⟨2, _⟩ => rfl)).trans ?_
  refine (shapeCast_apply _ _ (ix3 t (blk s b) n) (ix2 t (col8 (blk s b) n)) ?_).trans (E.a5 t _)
  rw [Shape.rowMajor_val_three, Shape.rowMajor_val_two]
  show t.val * 5632 + ((s.val * 4 + b.val) * 704 + n.val) = (t.val * 8 + (s.val * 4 + b.val)) * 704 + n.val
  omega

/-- The convolution's bias by column blocks. -/
theorem h_v7 (s : Fin 2) (b : Fin 4) (n : Fin 704) : Gen.W1 m ρ c (Proc.devRef .tc main_v7) (ix4 s b (0 : Fin 1) n) = ((cBs P s b n : ℝ) : EReal) := by
  have e : Gen.W1 m ρ c (Proc.devRef .tc main_v7) = shapeCast S2x4x1x704 (m ((c.tc : Thread nD τ).loc main_arg6) : FVec Ideal S5632 .f32) Facts₀.shapeCasts_S5632_S2x4x1x704 := by
    unfold Gen.W1
    after_reads_simp
    rfl
  refine (congrFun e _).trans ((shapeCast_apply _ _ (ix4 s b (0 : Fin 1) n) (ix1 (col8 (blk s b) n)) ?_).trans (E.a6 _))
  rw [Shape.rowMajor_val_one, Shape.rowMajor_val_four]
  show (s.val * 4 + b.val) * 704 + n.val = ((s.val * 4 + b.val) * 1 + 0) * 704 + n.val
  omega

/-- The second layer's weight up by column blocks. -/
theorem h_v11 (s : Fin 2) (b : Fin 4) (d : Fin 1024) (n : Fin 704) :
    Gen.W3 m ρ c (Proc.devRef .tc main_v11) (ix4 s b (upRow d) n) = ((wUp P s b d n : ℝ) : EReal) := by
  have e3 : Gen.W1 m ρ c (Proc.devRef .tc main_v3) = transpose S8x2048x704 [1, 0, 2] (shapeCast S2048x8x704
      (truncf .bf16 (m ((c.tc : Thread nD τ).loc main_arg4) : FVec Ideal S2x1024x5632 .f32) Facts₀.bitsLt_bf16_f32 : FVec Ideal S2x1024x5632 .bf16)
        Facts₀.shapeCasts_S2x1024x5632_S2048x8x704) Facts₀.transposes_S2048x8x704_S8x2048x704_1_0_2 := by
    unfold Gen.W1
    after_reads_simp
    rfl
  have e11 : Gen.W3 m ρ c (Proc.devRef .tc main_v11) = shapeCast S2x4x2048x704 (Gen.W2 m ρ c (Proc.devRef .tc main_v3) : FVec Ideal S8x2048x704 .bf16)
      Facts₀.shapeCasts_S8x2048x704_S2x4x2048x704 := by
    unfold Gen.W3
    after_reads_simp
    rfl
  refine (congrFun e11 _).trans ((shapeCast_apply _ _ (ix4 s b (upRow d) n) (ix3 (blk s b) (upRow d) n) ?_).trans ?_)
  · rw [Shape.rowMajor_val_three, Shape.rowMajor_val_four]; rfl
  refine (congrFun ((Gen.W2_of m ρ c main_v3 (by decide +kernel)).trans e3) _).trans ?_
  refine (transpose_apply [1, 0, 2] _ _ (ix3 (blk s b) (upRow d) n) (ix3 (upRow d) (blk s b) n)
    (fun a => match a with | ⟨0, _⟩ => rfl | ⟨1, _⟩ => rfl | ⟨2, _⟩ => rfl)).trans ?_
  refine (shapeCast_apply _ _ (ix3 (upRow d) (blk s b) n) (ix3 (1 : Fin 2) d (col8 (blk s b) n)) ?_).trans (E.a4 d _)
  rw [Shape.rowMajor_val_three, Shape.rowMajor_val_three]
  show (1 * 1024 + d.val) * 5632 + ((s.val * 4 + b.val) * 704 + n.val) = ((1024 + d.val) * 8 + (s.val * 4 + b.val)) * 704 + n.val
  omega

/-- After the first region: the rows that the layer adds to. -/
theorem w2_x2 : Gen.W2 m ρ c (Proc.devRef .tc main_v10_0) = fun y : S4096x1024.Idx => ((xres P.X P.O P.WO (y 0) (y 1) : ℝ) : EReal) :=
  (Gen.W2_arr m ρ c 4).trans (x2_array (fun i k => (congrFun (Gen.W1_args m ρ c main_arg1 (by decide)) _).trans (E.a1 i k)) (h_v8 m ρ E)
    (fun i k => (congrFun (Gen.W1_args m ρ c main_arg0 (by decide)) _).trans (E.a0 i k)))

/-- After the first region: the normed rows. -/
theorem w2_hf : Gen.W2 m ρ c (Proc.devRef .tc main_v10_1) = fun y : S4096x1024.Idx => ((P.hf (y 0) (y 1) : ℝ) : EReal) :=
  (Gen.W2_arr m ρ c 5).trans (hf_array (fun i k => (congrFun (Gen.W1_args m ρ c main_arg1 (by decide)) _).trans (E.a1 i k)) (h_v8 m ρ E)
    (fun i k => (congrFun (Gen.W1_args m ρ c main_arg0 (by decide)) _).trans (E.a0 i k)) (h_v9 m ρ E))

/-- The second region finds the normed rows. -/
theorem w3_hf : ∀ (i : Fin 4096) (k : Fin 1024), Gen.W3 m ρ c (Proc.devRef .tc main_v10_1) (ix2 i k) = ((P.hf i k : ℝ) : EReal) := fun i k =>
  (congrFun (Gen.W3_of m ρ c main_v10_1 (by decide +kernel)) _).trans (congrFun (w2_hf m ρ E) (ix2 i k))

/-- The second region finds the convolution's weights. -/
theorem w3_c (s : Fin 2) (b : Fin 4) (t : Fin 3) (n : Fin 704) : Gen.W3 m ρ c (Proc.devRef .tc main_v6) (ix4 s b t n) = ((cWt P s b t n : ℝ) : EReal) :=
  (congrFun ((Gen.W3_of m ρ c main_v6 (by decide +kernel)).trans (Gen.W2_of m ρ c main_v6 (by decide +kernel))) _).trans (h_v6 m ρ E s b t n)

/-- The second region finds the convolution's bias. -/
theorem w3_b (s : Fin 2) (b : Fin 4) (n : Fin 704) : Gen.W3 m ρ c (Proc.devRef .tc main_v7) (ix4 s b (0 : Fin 1) n) = ((cBs P s b n : ℝ) : EReal) :=
  (congrFun ((Gen.W3_of m ρ c main_v7 (by decide +kernel)).trans (Gen.W2_of m ρ c main_v7 (by decide +kernel))) _).trans (h_v7 m ρ E s b n)

/-- After the second region: the rows up. -/
theorem w4_u (s : Fin 2) (b : Fin 4) (i : Fin 4096) (n : Fin 704) : Gen.W4 m ρ c (Proc.devRef .tc main_v12_0) (ix4 s b i n) = ((uUp P s b i n : ℝ) : EReal) :=
  (congrFun (Gen.W4_arr m ρ c 6) _).trans (congrFun (u_array (V := Gen.V3 m ρ) (c := c) (W := wUp P) (w3_hf m ρ E) (h_v11 m ρ E)) (ix4 s b i n))

/-- After the second region: the activation. -/
theorem w4_act : Gen.W4 m ρ c (Proc.devRef .tc main_v12_1) = fun y : S4x4096x704.Idx => ((P.act (y 1) (col4 (y 0) (y 2)) : ℝ) : EReal) := by
  refine (Gen.W4_arr m ρ c 7).trans ((act_array (V := Gen.V3 m ρ) (c := c) (W := wUp P) (w3_hf m ρ E) (h_v11 m ρ E) (w3_c m ρ E) (w3_b m ρ E)).trans (funext fun y => ?_))
  have e : ∀ (b : Fin 4) (i : Fin 4096) (n : Fin 704), gate (conv (fun i => pre P.hf (wUp P 0 b) i n) (fun j => cWt P 0 b j n) (cBs P 0 b n) i)
      (conv (fun i => pre P.hf (wUp P 1 b) i n) (fun j => cWt P 1 b j n) (cBs P 1 b n) i) = P.act i (col4 b n) := fun b i n => by
    unfold Reals.act
    rw [col_lo, col_hi]
    rfl
  exact congrArg Real.toEReal (e (y 0) (y 1) (y 2))

/-- After the third region: the layer's output. -/
theorem w5_x3 : Gen.W5 m ρ c (Proc.devRef .tc main_v13) = fun y : S4096x1024.Idx => ((P.x3 (y 0) (y 1) : ℝ) : EReal) := by
  refine (Gen.W5_arr m ρ c 3).trans ((x3_array (V := Gen.V4 m ρ) (c := c) (A := fun b i n => P.act i (col4 b n)) (W := P.WD) (X := xres P.X P.O P.WO)
    (fun b i n => congrFun (w4_act m ρ E) (ix3 b i n))
    (fun z d => (congrFun ((Gen.W4_of m ρ c main_v0 (by decide +kernel)).trans ((Gen.W3_of m ρ c main_v0 (by decide +kernel)).trans (Gen.W2_of m ρ c main_v0 (by decide +kernel)))) _).trans (h_v0 m ρ E z d))
    (fun i d => (congrFun ((Gen.W4_of m ρ c main_v10_0 (by decide +kernel)).trans (Gen.W3_of m ρ c main_v10_0 (by decide +kernel))) _).trans (congrFun (w2_x2 m ρ E) (ix2 i d)))).trans
    (funext fun y => ?_))
  unfold Reals.x3
  refine congrArg (fun x : ℝ => ((xres P.X P.O P.WO (y 0) (y 1) + x : ℝ) : EReal)) (Finset.sum_congr rfl fun z _ => ?_)
  refine congrArg (fun x => P.act (y 0) x * P.WD z (y 1)) (Fin.ext ?_)
  show (hidBlk z).val * 704 + (hidPos z).val = z.val
  show z.val / 704 * 704 + z.val % 704 = z.val
  omega

/-- What the gradient's region finds. -/
theorem entry : Entry (Gen.V5 m ρ) c (uUp P) P.G P.WD (cWt P) (cBs P) where
  u s b i n := (congrFun (Gen.W5_of m ρ c main_v12_0 (by decide +kernel)) _).trans (w4_u m ρ E s b i n)
  g i d := (congrFun (Gen.W5_args m ρ c main_arg8 (by decide)) _).trans (E.a8 i d)
  w z d := (congrFun ((Gen.W5_of m ρ c main_v0 (by decide +kernel)).trans ((Gen.W4_of m ρ c main_v0 (by decide +kernel)).trans ((Gen.W3_of m ρ c main_v0 (by decide +kernel)).trans (Gen.W2_of m ρ c main_v0 (by decide +kernel))))) _).trans (h_v0 m ρ E z d)
  cw s b t n := (congrFun ((Gen.W5_of m ρ c main_v6 (by decide +kernel)).trans (Gen.W4_of m ρ c main_v6 (by decide +kernel))) _).trans (w3_c m ρ E s b t n)
  cb s b n := (congrFun ((Gen.W5_of m ρ c main_v7 (by decide +kernel)).trans (Gen.W4_of m ρ c main_v7 (by decide +kernel))) _).trans (w3_b m ρ E s b n)

/-- After the gradient's region: the gradient of the rows up. -/
theorem w6_du (s : Fin 2) (b : Fin 4) (i : Fin 4096) (n : Fin 704) : Gen.W6 m ρ c (Proc.devRef .tc main_v14_0) (ix4 s b i n) = ((P.du i (col8 (blk s b) n) : ℝ) : EReal) := by
  refine (congrFun (Gen.W6_arr m ρ c 9) _).trans ((congrFun (du_array (entry m ρ E)) (ix4 s b i n)).trans (congrArg Real.toEReal ?_))
  show convT (fun i => dcol (uUp P) P.G P.WD (cWt P) (cBs P) b s i n) (fun j => cWt P s b j n) i = P.du i (col8 (blk s b) n)
  rw [show (fun i => dcol (uUp P) P.G P.WD (cWt P) (cBs P) b s i n) = fun i => P.dc i (col8 (blk s b) n) from funext fun i => dcol_eq P s b i n]
  rfl

/-- After the gradient's region: the sums over rows. -/
theorem w6_st (s : Fin 2) (b : Fin 4) (r : Fin 8) (n : Fin 704) : Gen.W6 m ρ c (Proc.devRef .tc main_v14_1) (ix4 s b r n)
    = ((∑ i, convW (fun i => P.dc i (col8 (blk s b) n)) (fun i => P.u i (col8 (blk s b) n)) r.val i : ℝ) : EReal) := by
  refine (congrFun (Gen.W6_arr m ρ c 10) _).trans ((congrFun (st_array (entry m ρ E)) (ix4 s b r n)).trans (congrArg Real.toEReal ?_))
  show wsum (uUp P) P.G P.WD (cWt P) (cBs P) s b r n = _
  unfold wsum
  rw [show (fun i => dcol (uUp P) P.G P.WD (cWt P) (cBs P) b s i n) = fun i => P.dc i (col8 (blk s b) n) from funext fun i => dcol_eq P s b i n]
  rfl

omit E in
/-- A column block is a half's hidden block. -/
theorem blk_split (q : Fin 8) : blk ⟨q.val / 4, by omega⟩ ⟨q.val % 4, by omega⟩ = q := Fin.ext (by show q.val / 4 * 4 + q.val % 4 = q.val; omega)

/-- The host's reshape of the gradient of the rows up. -/
theorem w7_du : Gen.W7 m ρ c (Proc.devRef .tc main_v15) = fun y : S8x4096x704.Idx => ((P.du (y 1) (col8 (y 0) (y 2)) : ℝ) : EReal) := by
  have e : Gen.W7 m ρ c (Proc.devRef .tc main_v15) = shapeCast S8x4096x704 (Gen.W6 m ρ c (Proc.devRef .tc main_v14_0) : FVec Ideal S2x4x4096x704 .bf16)
      Facts₀.shapeCasts_S2x4x4096x704_S8x4096x704 := by
    unfold Gen.W7
    after_reads_simp
    rfl
  refine e.trans (array_ext _ (fun q i n => P.du i (col8 q n)) fun q i n => ?_)
  refine (shapeCast_apply _ _ (ix3 q i n) (ix4 (⟨q.val / 4, by omega⟩ : Fin 2) (⟨q.val % 4, by omega⟩ : Fin 4) i n) ?_).trans ((w6_du m ρ E _ _ i n).trans ?_)
  · rw [Shape.rowMajor_val_three, Shape.rowMajor_val_four]
    show ((q.val / 4 * 4 + q.val % 4) * 4096 + i.val) * 704 + n.val = (q.val * 4096 + i.val) * 704 + n.val
    omega
  · rw [blk_split]

/-- The host's reshape of the sums over rows. -/
theorem w7_v16 (q : Fin 8) (r : Fin 8) (n : Fin 704) : (shapeCast S8x8x704 (Gen.W6 m ρ c (Proc.devRef .tc main_v14_1) : FVec Ideal S2x4x8x704 .f32)
      Facts₀.shapeCasts_S2x4x8x704_S8x8x704 : FVec Ideal S8x8x704 .f32) (ix3 q r n)
    = ((∑ i, convW (fun i => P.dc i (col8 q n)) (fun i => P.u i (col8 q n)) r.val i : ℝ) : EReal) := by
  refine (shapeCast_apply _ _ (ix3 q r n) (ix4 (⟨q.val / 4, by omega⟩ : Fin 2) (⟨q.val % 4, by omega⟩ : Fin 4) r n) ?_).trans ((w6_st m ρ E _ _ r n).trans ?_)
  · rw [Shape.rowMajor_val_three, Shape.rowMajor_val_four]
    show ((q.val / 4 * 4 + q.val % 4) * 8 + r.val) * 704 + n.val = (q.val * 8 + r.val) * 704 + n.val
    omega
  · rw [blk_split]

/-- The host's slice of the gradient of the convolution's weights. -/
theorem w7_dcw : Gen.W7 m ρ c (Proc.devRef .tc main_v17) = fun y : S8x3x704.Idx => ((P.dcw (y 1) (col8 (y 0) (y 2)) : ℝ) : EReal) := by
  have e : Gen.W7 m ρ c (Proc.devRef .tc main_v17) = extractStridedSlice S8x3x704 ![0, 0, 0] (shapeCast S8x8x704 (Gen.W6 m ρ c (Proc.devRef .tc main_v14_1) : FVec Ideal S2x4x8x704 .f32)
      Facts₀.shapeCasts_S2x4x8x704_S8x8x704 : FVec Ideal S8x8x704 .f32) Facts₀.slices_S8x8x704_S8x3x704_0_0_0 := by
    unfold Gen.W7
    after_reads_simp
    rfl
  refine e.trans (array_ext _ (fun q t n => P.dcw t (col8 q n)) fun q t n => ?_)
  have e1 : extractStridedSlice S8x3x704 ![0, 0, 0] (shapeCast S8x8x704 (Gen.W6 m ρ c (Proc.devRef .tc main_v14_1) : FVec Ideal S2x4x8x704 .f32)
      Facts₀.shapeCasts_S2x4x8x704_S8x8x704 : FVec Ideal S8x8x704 .f32) Facts₀.slices_S8x8x704_S8x3x704_0_0_0 (ix3 q t n)
      = (shapeCast S8x8x704 (Gen.W6 m ρ c (Proc.devRef .tc main_v14_1) : FVec Ideal S2x4x8x704 .f32)
      Facts₀.shapeCasts_S2x4x8x704_S8x8x704 : FVec Ideal S8x8x704 .f32) (ix3 q (⟨t.val, by omega⟩ : Fin 8) n) := by
    generalize (shapeCast S8x8x704 (Gen.W6 m ρ c (Proc.devRef .tc main_v14_1) : FVec Ideal S2x4x8x704 .f32) Facts₀.shapeCasts_S2x4x8x704_S8x8x704 : FVec Ideal S8x8x704 .f32) = x
    exact extractStridedSlice_apply ![0, 0, 0] x Facts₀.slices_S8x8x704_S8x3x704_0_0_0 (ix3 q t n) (ix3 q (⟨t.val, by omega⟩ : Fin 8) n) (fun a => by
      match a with
      | ⟨0, _⟩ => exact (Nat.zero_add q.val).symm
      | ⟨1, _⟩ => exact (Nat.zero_add t.val).symm
      | ⟨2, _⟩ => exact (Nat.zero_add n.val).symm)
  refine e1.trans ((w7_v16 m ρ E q (⟨t.val, by omega⟩ : Fin 8) n).trans ?_)
  rfl

/-- The host's slice of the gradient of the convolution's bias. -/
theorem w7_dcb : Gen.W7 m ρ c (Proc.devRef .tc main_v20) = fun y : S5632.Idx => ((P.dcb (y 0) : ℝ) : EReal) := by
  have e : Gen.W7 m ρ c (Proc.devRef .tc main_v20) = shapeCast S5632 (shapeCast S8x704 (extractStridedSlice S8x1x704 ![0, 3, 0] (shapeCast S8x8x704 (Gen.W6 m ρ c (Proc.devRef .tc main_v14_1) : FVec Ideal S2x4x8x704 .f32)
      Facts₀.shapeCasts_S2x4x8x704_S8x8x704 : FVec Ideal S8x8x704 .f32) Facts₀.slices_S8x8x704_S8x1x704_0_3_0) Facts₀.shapeCasts_S8x1x704_S8x704) Facts₀.shapeCasts_S8x704_S5632 := by
    unfold Gen.W7
    after_reads_simp
    rfl
  refine e.trans (MlpRef.array_ext1 _ P.dcb fun y => ?_)
  refine (shapeCast_apply _ _ (ix1 y) (ix2 (⟨y.val / 704, by omega⟩ : Fin 8) (⟨y.val % 704, by omega⟩ : Fin 704)) ?_).trans ?_
  · rw [Shape.rowMajor_val_one, Shape.rowMajor_val_two]
    show y.val / 704 * 704 + y.val % 704 = y.val
    omega
  refine (shapeCast_apply _ _ _ (ix3 (⟨y.val / 704, by omega⟩ : Fin 8) (0 : Fin 1) (⟨y.val % 704, by omega⟩ : Fin 704)) ?_).trans ?_
  · rw [Shape.rowMajor_val_three, Shape.rowMajor_val_two]
    show (y.val / 704 * 1 + 0) * 704 + y.val % 704 = y.val / 704 * 704 + y.val % 704
    omega
  refine (extractStridedSlice_apply ![0, 3, 0] _ _ _ (ix3 (⟨y.val / 704, by omega⟩ : Fin 8) (3 : Fin 8) (⟨y.val % 704, by omega⟩ : Fin 704)) (fun a => by
    match a with
    | ⟨0, _⟩ => exact (Nat.zero_add (y.val / 704)).symm
    | ⟨1, _⟩ => rfl
    | ⟨2, _⟩ => exact (Nat.zero_add (y.val % 704)).symm)).trans ((w7_v16 m ρ E _ _ _).trans ?_)
  have ey : col8 (⟨y.val / 704, by omega⟩ : Fin 8) (⟨y.val % 704, by omega⟩ : Fin 704) = y := Fin.ext (by show y.val / 704 * 704 + y.val % 704 = y.val; omega)
  rw [ey]
  rfl

/-- After the last region: the gradient of the weight up. -/
theorem w8_dup : Gen.W8 m ρ c (Proc.devRef .tc main_v21) = fun y : S8x1024x704.Idx => ((P.dup (y 1) (col8 (y 0) (y 2)) : ℝ) : EReal) :=
  (Gen.W8_arr m ρ c 2).trans (dup_array (V := Gen.V7 m ρ) (c := c) (H := P.hf) (D := fun q i n => P.du i (col8 q n))
    (fun i k => (congrFun ((Gen.W7_of m ρ c main_v10_1 (by decide +kernel)).trans ((Gen.W6_of m ρ c main_v10_1 (by decide +kernel)).trans ((Gen.W5_of m ρ c main_v10_1 (by decide +kernel)).trans
      (Gen.W4_of m ρ c main_v10_1 (by decide +kernel))))) _).trans (w3_hf m ρ E i k))
    (fun q i n => congrFun (w7_du m ρ E) (ix3 q i n)))

/-- The six results after the last region. -/
theorem w8_holds : Holds P (Gen.W8 m ρ c (Proc.devRef .tc main_v12_1)) (Gen.W8 m ρ c (Proc.devRef .tc main_v13)) (Gen.W8 m ρ c (Proc.devRef .tc main_v15))
    (Gen.W8 m ρ c (Proc.devRef .tc main_v21)) (Gen.W8 m ρ c (Proc.devRef .tc main_v17)) (Gen.W8 m ρ c (Proc.devRef .tc main_v20)) :=
  ⟨((Gen.W8_of m ρ c main_v12_1 (by decide +kernel)).trans ((Gen.W7_of m ρ c main_v12_1 (by decide +kernel)).trans ((Gen.W6_of m ρ c main_v12_1 (by decide +kernel)).trans
      (Gen.W5_of m ρ c main_v12_1 (by decide +kernel))))).trans (w4_act m ρ E),
   ((Gen.W8_of m ρ c main_v13 (by decide +kernel)).trans ((Gen.W7_of m ρ c main_v13 (by decide +kernel)).trans (Gen.W6_of m ρ c main_v13 (by decide +kernel)))).trans (w5_x3 m ρ E),
   (Gen.W8_of m ρ c main_v15 (by decide +kernel)).trans (w7_du m ρ E),
   w8_dup m ρ E,
   (Gen.W8_of m ρ c main_v17 (by decide +kernel)).trans (w7_dcw m ρ E),
   (Gen.W8_of m ρ c main_v20 (by decide +kernel)).trans (w7_dcb m ρ E)⟩

end

/-- What real arguments make of the kernel's results. -/
theorem run_values (P : Dev nD → Reals)
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (P c)) :
    θ_run defs (onTc (τ := τ) (main (F := Ideal))) ⟨m, fun _ => 0, ρ⟩ (fun r => ∀ c : Dev nD,
      Holds (P c) (r.2.mem ((c.tc : Thread nD τ).loc main_v12_1)) (r.2.mem ((c.tc : Thread nD τ).loc main_v13)) (r.2.mem ((c.tc : Thread nD τ).loc main_v15))
        (r.2.mem ((c.tc : Thread nD τ).loc main_v21)) (r.2.mem ((c.tc : Thread nD τ).loc main_v17)) (r.2.mem ((c.tc : Thread nD τ).loc main_v20))) :=
  (θ_run defs _ _).mono (fun _ h c =>
    ⟨(h c _ (Gen.mem_uc main_v12_1 (by decide))).trans (w8_holds m ρ (hE c)).1,
     (h c _ (Gen.mem_uc main_v13 (by decide))).trans (w8_holds m ρ (hE c)).2.1,
     (h c _ (Gen.mem_uc main_v15 (by decide))).trans (w8_holds m ρ (hE c)).2.2.1,
     (h c _ (Gen.mem_uc main_v21 (by decide))).trans (w8_holds m ρ (hE c)).2.2.2.1,
     (h c _ (Gen.mem_uc main_v17 (by decide))).trans (w8_holds m ρ (hE c)).2.2.2.2.1,
     (h c _ (Gen.mem_uc main_v20 (by decide))).trans (w8_holds m ρ (hE c)).2.2.2.2.2⟩) (run_arrays m ρ)

end Cert.Proof.Mlp

end
-- ==== Proof.Mlp0Fwd.lean ====
/-
  The forward kernels of the gated MLP over the ideal values, one block at a time: the projection with its norm, the
  product with the convolution and the gate, and the second product.
-/
module

public import proofs.«01_k».proof.Proof.MlpFwd
public import proofs.«01_k».proof.Proof.Gen.Kernel5Ideal.Frame
public import Idealize.ShloMosaic.Lib.Pipeline.ValueKit
public import Idealize.ShloMosaic.Lib.Pipeline.ReadBack

@[expose] public section

set_option maxRecDepth 16384

noncomputable section

namespace Cert.Proof.Mlp0

open Idealize.ShloMosaic hiding ix2 ix3 ix4
open Idealize.ShloMosaic.ValueIdx Cert.Kernel5Ideal
open Cert.Proof.Mlp
open scoped BigOperators

section proj
variable {x0 : Vec Ideal S1024x1024 .bf16} {x1 : Vec Ideal S1024x1024 .bf16} {x2 : Vec Ideal S1024x1024 .f32} {x3 : Vec Ideal S1x1024 .f32}
  {O X W : Fin 1024 → Fin 1024 → ℝ} {G : Fin 1024 → ℝ}

/-- The projection's block plus the input's. -/
theorem proj_rep {v0 : FVec Ideal S1024x1024 .f32} {v1 v2 : FVec Ideal S1024x1024 .bf16} (h0 : Rep v0 X) (h1 : Rep v1 O) (h2 : Rep v2 W) :
    Rep (Gen.k0_pay1 v0 v1 v2) (fun i d => X i d + ∑ k, O i k * W k d) :=
  (h0.add (h1.nn (h2.same _) Rep.zero none rfl)).congr fun i j => by rw [zero_add]

/-- The block of the first result. -/
theorem proj_block (h0 : ∀ i k, x0 (ix2 i k) = ((O i k : ℝ) : EReal)) (h1 : ∀ i k, x1 (ix2 i k) = ((W i k : ℝ) : EReal))
    (h2 : ∀ i k, x2 (ix2 i k) = ((X i k : ℝ) : EReal)) (i d : Fin 1024) :
    Gen.out0_4 x0 x1 x2 x3 (ix2 i d) = ((X i d + ∑ k, O i k * W k d : ℝ) : EReal) := by
  unfold Gen.out0_4
  rw [canon_whole2]
  exact proj_rep (v0 := View.ld x2 Gen.r0_0) (v1 := View.ld x0 Gen.r0_0) (v2 := View.ld x1 Gen.r0_0) (ld_whole2 h2 _) (ld_whole2 h0 _) (ld_whole2 h1 _) i d

/-- The block of the second result: the first normed and scaled. -/
theorem norm_block (h0 : ∀ i k, x0 (ix2 i k) = ((O i k : ℝ) : EReal)) (h1 : ∀ i k, x1 (ix2 i k) = ((W i k : ℝ) : EReal))
    (h2 : ∀ i k, x2 (ix2 i k) = ((X i k : ℝ) : EReal)) (h3 : ∀ k, x3 (ix2 0 k) = ((G k : ℝ) : EReal)) (i d : Fin 1024) :
    Gen.out0_5 x0 x1 x2 x3 (ix2 i d) = ((norm (fun d => X i d + ∑ k, O i k * W k d) G d : ℝ) : EReal) := by
  unfold Gen.out0_5
  rw [canon_whole2]
  have hp := proj_rep (v0 := View.ld x2 Gen.r0_0) (v1 := View.ld x0 Gen.r0_0) (v2 := View.ld x1 Gen.r0_0) (ld_whole2 h2 _) (ld_whole2 h0 _) (ld_whole2 h1 _)
  have hg : Rep (φ := .f32) (View.ld x3 Gen.r0_1 : FVec Ideal S1x1024 .f32) fun _ j => G j := ld_whole2 (fun i j => by rw [Subsingleton.elim i 0]; exact h3 j) _
  have hs := (((hp.mul hp).rowSum Facts₀.reduces_S1024x1024_S1024 Facts₀.shapeCasts_S1024_S1024x1 0x00000000#32 (.inl rfl) rfl).div (Rep.const thousand_word) (fun _ _ => by norm_num)).add (Rep.const eps_word.1)
  have hr := (hs.rsqrt fun i _ => mean_pos fun d => X i d + ∑ k, O i k * W k d).bcast Facts₀.broadcasts_S1024x1_S1024x1024 (by decide)
  exact ((hp.mul hr).mul ((hg.same _).rowBcast Facts₀.broadcasts_S1x1024_S1024x1024)).trunc _ i d

end proj

section up
variable {i : grid1.Coords} {k : Fin 8} {x0 : Vec Ideal S512x1024 .bf16} {x1 x2 : Vec Ideal S16x1024 .bf16} {x3 : Vec Ideal S2x1x1024x704 .bf16}
  {x4 : Vec Ideal S2x1x3x704 .f32} {x5 : Vec Ideal S2x1x1x704 .f32}
  {H : Fin 4096 → Fin 1024 → ℝ} {P Q : Fin 16 → Fin 1024 → ℝ} {W : Fin 2 → Fin 1024 → Fin 704 → ℝ} {C : Fin 2 → Fin 3 → Fin 704 → ℝ} {B : Fin 2 → Fin 704 → ℝ}

/-- Rows 16 to 528 of a block joined with its neighbours, moved by a row either way or not at all. -/
theorem shifts {v : FVec Ideal S544x704 .f32} {U : Fin 4096 → Fin 704 → ℝ} (h : Rep v fun e n => ext (fun i => U i n) (512 * k.val + e.val - 16)) :
    Rep (extractStridedSlice S512x704 ![16, 0] v Facts₀.slices_S544x704_o16_0_S512x704 : FVec Ideal S512x704 .f32) (fun i n => U (row k i) n) ∧
    Rep (extractStridedSlice S512x704 ![16, 0] (dynamicRotate 0 1#32 none v Facts₀.rotates_S544x704_d0) Facts₀.slices_S544x704_o16_0_S512x704 : FVec Ideal S512x704 .f32)
      (fun i n => ext (fun i => U i n) (((row k i).val : ℤ) - 1)) ∧
    Rep (extractStridedSlice S512x704 ![16, 0] (dynamicRotate 0 543#32 none v Facts₀.rotates_S544x704_d0) Facts₀.slices_S544x704_o16_0_S512x704 : FVec Ideal S512x704 .f32)
      (fun i n => ext (fun i => U i n) (((row k i).val : ℤ) + 1)) := by
  refine ⟨?_, ?_, ?_⟩
  · exact (h.rows 16 _ fun i => by omega).congr fun i n => ext_mid _ k i (by push_cast; ring)
  · refine ((h.rotate 1#32 Facts₀.rotates_S544x704_d0).rows 16 _ fun i => by omega).congr fun i n => congrArg _ ?_
    have e : (16 + i.val + 544 - 1 % 544) % 544 = 15 + i.val := by omega
    show (512 * k.val + ((16 + i.val + 544 - 1 % 544) % 544 : ℕ) - 16 : ℤ) = ((512 * k.val + i.val : ℕ) : ℤ) - 1
    rw [e]; push_cast; ring
  · refine ((h.rotate 543#32 Facts₀.rotates_S544x704_d0).rows 16 _ fun i => by omega).congr fun i n => congrArg _ ?_
    have e : (16 + i.val + 544 - 543 % 544) % 544 = 17 + i.val := by omega
    show (512 * k.val + ((16 + i.val + 544 - 543 % 544) % 544 : ℕ) - 16 : ℤ) = ((512 * k.val + i.val : ℕ) : ℤ) + 1
    rw [e]; push_cast; ring

/-- The convolution of one half of a block. -/
theorem conv_rep {v : FVec Ideal S544x704 .f32} {U : Fin 4096 → Fin 704 → ℝ} (h : Rep v fun e n => ext (fun i => U i n) (512 * k.val + e.val - 16))
    {w : FVec Ideal S3x704 .f32} {c : Fin 3 → Fin 704 → ℝ} (hw : Rep w c) {b : FVec Ideal S1x704 .f32} {β : Fin 704 → ℝ} (hb : Rep b fun _ n => β n) :
    Rep (addf (addf (addf (mulf (extractStridedSlice S512x704 ![16, 0] (dynamicRotate 0 1#32 none v Facts₀.rotates_S544x704_d0) Facts₀.slices_S544x704_o16_0_S512x704)
        (broadcastTo S512x704 (extractStridedSlice S1x704 ![0, 0] w Facts₀.slices_S3x704_o0_0_S1x704) Facts₀.broadcasts_S1x704_S512x704))
      (mulf (extractStridedSlice S512x704 ![16, 0] v Facts₀.slices_S544x704_o16_0_S512x704)
        (broadcastTo S512x704 (extractStridedSlice S1x704 ![1, 0] w Facts₀.slices_S3x704_o1_0_S1x704) Facts₀.broadcasts_S1x704_S512x704)))
      (mulf (extractStridedSlice S512x704 ![16, 0] (dynamicRotate 0 543#32 none v Facts₀.rotates_S544x704_d0) Facts₀.slices_S544x704_o16_0_S512x704)
        (broadcastTo S512x704 (extractStridedSlice S1x704 ![2, 0] w Facts₀.slices_S3x704_o2_0_S1x704) Facts₀.broadcasts_S1x704_S512x704)))
      (broadcastTo S512x704 b Facts₀.broadcasts_S1x704_S512x704) : FVec Ideal S512x704 .f32)
      (fun i n => conv (fun i => U i n) (fun t => c t n) (β n) (row k i)) := by
  obtain ⟨h1, h0, h2⟩ := shifts h
  have hc : ∀ (t : Fin 3) (hs : S3x704.Slices ![t.val, 0] S1x704), Rep (broadcastTo S512x704 (extractStridedSlice S1x704 ![t.val, 0] w hs) Facts₀.broadcasts_S1x704_S512x704 : FVec Ideal S512x704 .f32)
      fun _ n => c t n := fun t hs => Rep.rowBcast ((hw.rows t.val hs fun i => by have := t.isLt; omega).congr fun i n => congrArg (fun t => c t n) (Fin.ext (by simp))) _
  exact (((h0.mul (hc 0 _)).add (h1.mul (hc 1 _))).add (h2.mul (hc 2 _))).add (hb.rowBcast _)

variable (hk : (i 1).val = k.val) (h0 : ∀ r d, x0 (ix2 r d) = ((H (row k r) d : ℝ) : EReal))
  (h1 : ∀ r d, x1 (ix2 r d) = ((P r d : ℝ) : EReal)) (hP : ∀ (e : Fin 4096) (r : Fin 16) d, e.val + 16 = 512 * k.val + r.val → P r d = H e d)
  (h2 : ∀ r d, x2 (ix2 r d) = ((Q r d : ℝ) : EReal)) (hQ : ∀ (e : Fin 4096) (r : Fin 16) d, e.val = 512 * k.val + 512 + r.val → Q r d = H e d)
  (h3 : ∀ s d n, x3 (ix4 s 0 d n) = ((W s d n : ℝ) : EReal)) (h4 : ∀ s t n, x4 (ix4 s 0 t n) = ((C s t n : ℝ) : EReal))
  (h5 : ∀ s n, x5 (ix4 s 0 0 n) = ((B s n : ℝ) : EReal))

include hk h0 h1 hP h2 hQ in
/-- The block's rows of the normed input with 16 rows on either side, zeros beyond the ends. -/
theorem rows_rep : Rep (Gen.k1_pay15 i x0 x1 x2 x3 x4 x5) (fun e d => ext (fun i => H i d) (512 * k.val + e.val - 16)) := by
  have hz : Rep (broadcast S16x1024 (Scalar.ofBits (F := Ideal) .bf16 0x0000#16) : FVec Ideal S16x1024 .bf16) fun _ _ => 0 :=
    Rep.const (by simp [Ideal.ofBits, Ideal.ieee])
  have a : Rep (φ := .bf16) (View.ld x1 Gen.r1_0 : FVec Ideal S16x1024 .bf16) P := ld_whole2 h1 _
  have b : Rep (φ := .bf16) (View.ld x0 Gen.r1_1 : FVec Ideal S512x1024 .bf16) fun r d => H (row k r) d := ld_whole2 h0 _
  have c : Rep (φ := .bf16) (View.ld x2 Gen.r1_0 : FVec Ideal S16x1024 .bf16) Q := ld_whole2 h2 _
  refine Rep.cat3 (hz.pickNat (a.same Facts₀.shapeCasts_S16x1024_S16x1024) (i 1).val 0 (by have := (i 1).isLt; show (i 1).val < 2 ^ 32; omega) (by decide)) (b.same Facts₀.shapeCasts_S512x1024_S512x1024)
    (hz.pickNat (c.same Facts₀.shapeCasts_S16x1024_S16x1024) (i 1).val 7 (by have := (i 1).isLt; omega) (by decide)) Facts₀.concatenates_S16x1024_S512x1024_S16x1024_S544x1024_d0 rfl _ ?_ ?_ ?_
  · intro e r d he
    rw [hk]
    split
    · next h => exact ext_off _ (by omega)
    · next h => exact (ext_row _ ⟨512 * k.val + r.val - 16, by omega⟩ (by show _ = ((512 * k.val + r.val - 16 : ℕ) : ℤ); omega)).trans (hP _ r d (by show 512 * k.val + r.val - 16 + 16 = _; omega)).symm
  · intro e r d he
    exact ext_mid _ k r (by omega)
  · intro e r d he
    rw [hk]
    split
    · next h => exact ext_off _ (by omega)
    · next h => exact (ext_row _ ⟨512 * k.val + 512 + r.val, by omega⟩ (by show _ = ((512 * k.val + 512 + r.val : ℕ) : ℤ); omega)).trans (hQ _ r d rfl).symm

include hk h0 h1 hP h2 hQ h3 in
/-- One half of the first product on the block's rows and their neighbours. -/
theorem pre_rep (s : Fin 2) (hi : ∀ a, (![s.val, 0, 0, 0] : Fin 4 → Nat) a + S1x1x1024x704.size a ≤ S2x1x1024x704.size a) :
    Rep (Gen.k1_pay11 (Gen.k1_pay15 i x0 x1 x2 x3 x4 x5) (View.ld x3 (Rect.unit (s := S2x1x1024x704) ![s.val, 0, 0, 0] S1x1x1024x704.size hi)))
      (fun e n => ext (fun i => pre H (W s) i n) (512 * k.val + e.val - 16)) :=
  ((rows_rep hk h0 h1 hP h2 hQ).nn (Rep.ofQuad (fun d n => Rep.ofHalf h3 s hi d n) Facts₀.shapeCasts_S1x1x1024x704_S1024x704) Rep.zero none rfl).congr
    fun e n => by rw [zero_add]; exact ext_sum H (fun d => W s d n) _

include hk h0 h1 hP h2 hQ h3 in
/-- The block of the first product. -/
theorem up_block (s : Fin 2) (r : Fin 512) (n : Fin 704) :
    Gen.out1_6 i x0 x1 x2 x3 x4 x5 (ix4 s 0 r n) = ((pre H (W s) (row k r) n : ℝ) : EReal) := by
  unfold Gen.out1_6
  rw [canon_halves]
  match s with
  | ⟨0, _⟩ => exact (if_pos rfl).trans (Rep.toQuad (shifts (pre_rep (x4 := x4) (x5 := x5) hk h0 h1 hP h2 hQ h3 0 _)).1 Facts₀.shapeCasts_S512x704_S1x1x512x704 0 0 r n)
  | ⟨1, _⟩ => exact (if_neg (fun h => absurd (congrArg Fin.val h) Nat.one_ne_zero)).trans (Rep.toQuad (shifts (pre_rep (x4 := x4) (x5 := x5) hk h0 h1 hP h2 hQ h3 1 _)).1 Facts₀.shapeCasts_S512x704_S1x1x512x704 0 0 r n)

include hk h0 h1 hP h2 hQ h3 h4 h5 in
/-- The block of the activation. -/
theorem act_block (r : Fin 512) (n : Fin 704) :
    Gen.out1_7 i x0 x1 x2 x3 x4 x5 (ix3 0 r n) = ((gate (conv (fun i => pre H (W 0) i n) (fun t => C 0 t n) (B 0 n) (row k r))
      (conv (fun i => pre H (W 1) i n) (fun t => C 1 t n) (B 1 n) (row k r)) : ℝ) : EReal) := by
  unfold Gen.out1_7
  rw [canon_whole3]
  have hc : ∀ (s : Fin 2) (hi : ∀ a, (![s.val, 0, 0, 0] : Fin 4 → Nat) a + S1x1x3x704.size a ≤ S2x1x3x704.size a),
      Rep (shapeCast S3x704 (View.ld x4 (Rect.unit (s := S2x1x3x704) ![s.val, 0, 0, 0] S1x1x3x704.size hi)) Facts₀.shapeCasts_S1x1x3x704_S3x704 : FVec Ideal S3x704 .f32) (C s) :=
    fun s hi => Rep.ofQuad (fun d n => Rep.ofHalf h4 s hi d n) _
  have hb : ∀ (s : Fin 2) (hi : ∀ a, (![s.val, 0, 0, 0] : Fin 4 → Nat) a + S1x1x1x704.size a ≤ S2x1x1x704.size a),
      Rep (shapeCast S1x704 (View.ld x5 (Rect.unit (s := S2x1x1x704) ![s.val, 0, 0, 0] S1x1x1x704.size hi)) Facts₀.shapeCasts_S1x1x1x704_S1x704 : FVec Ideal S1x704 .f32) (fun _ n => B s n) :=
    fun s hi => Rep.ofQuad (fun d n => Rep.ofHalf (f := fun s _ n => B s n) (fun s i j => by rw [Subsingleton.elim i 0]; exact h5 s j) s hi d n) _
  have c0 := conv_rep (pre_rep (x4 := x4) (x5 := x5) hk h0 h1 hP h2 hQ h3 0 Facts₀.inb_S2x1x1024x704_S1x1x1024x704_0_0_0_0) (hc 0 Facts₀.inb_S2x1x3x704_S1x1x3x704_0_0_0_0) (hb 0 Facts₀.inb_S2x1x1x704_S1x1x1x704_0_0_0_0)
  have c1 := conv_rep (pre_rep (x4 := x4) (x5 := x5) hk h0 h1 hP h2 hQ h3 1 Facts₀.inb_S2x1x1024x704_S1x1x1024x704_1_0_0_0) (hc 1 Facts₀.inb_S2x1x3x704_S1x1x3x704_1_0_0_0) (hb 1 Facts₀.inb_S2x1x1x704_S1x1x1x704_1_0_0_0)
  exact Rep.toSlab (((c0.mul ((Rep.const one_word).div ((Rep.const one_word).add (Rep.zero'.sub c0).exp) (fun _ _ => logi_den _))).mul c1).trunc (by decide)) Facts₀.shapeCasts_S512x704_S1x512x704 0 r n

end up

section down
variable {x0 : Vec Ideal S4x1024x704 .bf16} {x1 : Vec Ideal S2816x1024 .bf16} {x2 : Vec Ideal S1024x1024 .f32}
  {A : Fin 4 → Fin 1024 → Fin 704 → ℝ} {W : Fin 2816 → Fin 1024 → ℝ} {X : Fin 1024 → Fin 1024 → ℝ}

/-- The block of the second product plus the residual. -/
theorem down_block (h0 : ∀ b i n, x0 (ix3 b i n) = ((A b i n : ℝ) : EReal)) (h1 : ∀ y d, x1 (ix2 y d) = ((W y d : ℝ) : EReal))
    (h2 : ∀ i d, x2 (ix2 i d) = ((X i d : ℝ) : EReal)) (i d : Fin 1024) :
    Gen.out2_3 x0 x1 x2 (ix2 i d) = ((X i d + ∑ y : Fin 2816, A ⟨y.val / 704, by omega⟩ i ⟨y.val % 704, by omega⟩ * W y d : ℝ) : EReal) := by
  unfold Gen.out2_3
  rw [canon_whole2]
  have ha : ∀ (b : Fin 4) (hi : ∀ a, (![b.val, 0, 0] : Fin 3 → Nat) a + S1x1024x704.size a ≤ S4x1024x704.size a),
      Rep (shapeCast S1024x704 (View.ld x0 (Rect.unit (s := S4x1024x704) ![b.val, 0, 0] S1x1024x704.size hi)) Facts₀.shapeCasts_S1x1024x704_S1024x704 : FVec Ideal S1024x704 .bf16) (A b) :=
    fun b hi => Rep.ofSlab (fun i j => ld_slab h0 b hi i j) _
  have hw : ∀ (o : ℕ) (ho : ∀ i : Fin 704, o + i.val < 2816) (hi : ∀ a, (![o, 0] : Fin 2 → Nat) a + S704x1024.size a ≤ S2816x1024.size a),
      Rep (shapeCast S704x1024 (View.ld x1 (Rect.unit (s := S2816x1024) ![o, 0] S704x1024.size hi)) Facts₀.shapeCasts_S704x1024_S704x1024 : FVec Ideal S704x1024 .bf16) (fun n d => W ⟨o + n.val, ho n⟩ d) :=
    fun o ho hi => Rep.same (v := View.ld x1 (Rect.unit (s := S2816x1024) ![o, 0] S704x1024.size hi)) (fun i j => ld_rows h1 o hi ho i j) _
  have hx : Rep (φ := .f32) (View.ld x2 Gen.r2_8 : FVec Ideal S1024x1024 .f32) X := ld_whole2 h2 _
  have hp : ∀ (b : Fin 4) (hi) (o : ℕ) (ho) (hj), _ := fun b hi o ho hj => (ha b hi).nn (hw o ho hj) Rep.zero none (D := dot_S1024x704_S704x1024_S1024x1024_1_0_0_1_n_n) rfl
  have key := ((((Rep.zero'.add (hp 0 Facts₀.inb_S4x1024x704_S1x1024x704_0_0_0 0 (fun i => by omega) Facts₀.inb_S2816x1024_S704x1024_0_0)).add
    (hp 1 Facts₀.inb_S4x1024x704_S1x1024x704_1_0_0 704 (fun i => by omega) Facts₀.inb_S2816x1024_S704x1024_704_0)).add
    (hp 2 Facts₀.inb_S4x1024x704_S1x1024x704_2_0_0 1408 (fun i => by omega) Facts₀.inb_S2816x1024_S704x1024_1408_0)).add
    (hp 3 Facts₀.inb_S4x1024x704_S1x1024x704_3_0_0 2112 (fun i => by omega) Facts₀.inb_S2816x1024_S704x1024_2112_0)).add (hx.same Facts₀.shapeCasts_S1024x1024_S1024x1024)
  refine (key i d).trans (congrArg Real.toEReal ?_)
  rw [sum_hidden]
  simp only [zero_add]
  rw [add_comm (X i d)]
  refine congrArg (· + X i d) (congrArg₂ (· + ·) (congrArg₂ (· + ·) (congrArg₂ (· + ·) ?_ ?_) ?_) ?_) <;>
    refine Finset.sum_congr rfl fun n _ => congrArg₂ (· * ·) (congrArg₂ (fun b n => A b i n) (Fin.ext ?_) (Fin.ext ?_)) (congrArg (fun y => W y d) (Fin.ext ?_)) <;>
    simp <;> omega

end down

/-- The block of the gradient of the first product's weights. -/
theorem dup_block {x0 : Vec Ideal S4096x1024 .bf16} {x1 : Vec Ideal S1x4096x704 .bf16} {H : Fin 4096 → Fin 1024 → ℝ} {D : Fin 4096 → Fin 704 → ℝ}
    (h0 : ∀ i d, x0 (ix2 i d) = ((H i d : ℝ) : EReal)) (h1 : ∀ i n, x1 (ix3 0 i n) = ((D i n : ℝ) : EReal)) (d : Fin 1024) (n : Fin 704) :
    Gen.out4_2 x0 x1 (ix3 0 d n) = ((∑ i, H i d * D i n : ℝ) : EReal) := by
  unfold Gen.out4_2
  rw [canon_whole3]
  have hx : Rep (φ := .bf16) (View.ld x0 Gen.r4_0 : FVec Ideal S4096x1024 .bf16) H := ld_whole2 h0 _
  have hy : Rep (shapeCast S4096x704 (View.ld x1 Gen.r4_1) Facts₀.shapeCasts_S1x4096x704_S4096x704 : FVec Ideal S4096x704 .bf16) D :=
    Rep.ofSlab (fun i j => ld_slab (A := 1) (f := fun _ => D) (fun a i j => by rw [Subsingleton.elim a 0]; exact h1 i j) 0 _ i j) _
  exact Rep.toSlab ((Rep.tn (hx.same Facts₀.shapeCasts_S4096x1024_S4096x1024) hy Rep.zero none (D := dot_S4096x1024_S4096x704_S1024x704_0_0_1_1_n_n) rfl rfl
    (fun i j k => by funext x; match x with | ⟨0, _⟩ => rfl | ⟨1, _⟩ => rfl)
    (fun i j k => by funext x; match x with | ⟨0, _⟩ => rfl | ⟨1, _⟩ => rfl)).congr fun i j => zero_add _) Facts₀.shapeCasts_S1024x704_S1x1024x704 0 d n

end Cert.Proof.Mlp0

end
-- ==== Proof.Mlp0Bwd.lean ====
/-
  The backward kernel through the gate and the convolution over the ideal values, one block at a time: the gradient
  of the first product's rows, and the sums the convolution's weights and bias take from the block.
-/
module

public import proofs.«01_k».proof.Proof.MlpBwd
public import proofs.«01_k».proof.Proof.Mlp0Fwd

@[expose] public section

set_option maxRecDepth 16384

noncomputable section

namespace Cert.Proof.Mlp0

open Idealize.ShloMosaic hiding ix2 ix3 ix4
open Idealize.ShloMosaic.TcCoe Idealize.SL Idealize.SL.Sem Idealize.ShloMosaic.ValueIdx Cert.Kernel5Ideal
open Cert.Proof.Mlp
open scoped BigOperators

section rows
variable {k : Fin 8}

/-- Rows 8 to 520 of an extended block, moved by a row either way or not at all; only rows 1 to 526 matter. -/
theorem shifts8 {v : FVec Ideal S528x704 .f32} {f : Fin 528 → Fin 704 → ℝ} {U : Fin 4096 → Fin 704 → ℝ} (h : Rep v f)
    (hf : ∀ e n, 1 ≤ e.val → e.val ≤ 526 → f e n = ext (fun i => U i n) (edge k e)) :
    Rep (extractStridedSlice S512x704 ![8, 0] v Facts₀.slices_S528x704_o8_0_S512x704 : FVec Ideal S512x704 .f32) (fun i n => U (row k i) n) ∧
    Rep (extractStridedSlice S512x704 ![8, 0] (dynamicRotate 0 1#32 none v Facts₀.rotates_S528x704_d0) Facts₀.slices_S528x704_o8_0_S512x704 : FVec Ideal S512x704 .f32)
      (fun i n => ext (fun i => U i n) (((row k i).val : ℤ) - 1)) ∧
    Rep (extractStridedSlice S512x704 ![8, 0] (dynamicRotate 0 527#32 none v Facts₀.rotates_S528x704_d0) Facts₀.slices_S528x704_o8_0_S512x704 : FVec Ideal S512x704 .f32)
      (fun i n => ext (fun i => U i n) (((row k i).val : ℤ) + 1)) := by
  refine ⟨?_, ?_, ?_⟩
  · refine (h.rows 8 _ fun i => by omega).congr fun i n => (hf _ n (by show 1 ≤ 8 + i.val; omega) (by show 8 + i.val ≤ 526; omega)).trans (ext_mid _ k i ?_)
    show (512 * k.val + (8 + i.val : ℕ) - 8 : ℤ) = _
    push_cast; ring
  · have e : ∀ i : Fin 512, (8 + i.val + 528 - 1 % 528) % 528 = 7 + i.val := fun i => by omega
    refine ((h.rotate 1#32 Facts₀.rotates_S528x704_d0).rows 8 _ fun i => by omega).congr fun i n => (hf _ n ?_ ?_).trans (congrArg _ ?_)
    · show 1 ≤ (8 + i.val + 528 - 1 % 528) % 528
      omega
    · show (8 + i.val + 528 - 1 % 528) % 528 ≤ 526
      omega
    · show (512 * k.val + ((8 + i.val + 528 - 1 % 528) % 528 : ℕ) - 8 : ℤ) = ((512 * k.val + i.val : ℕ) : ℤ) - 1
      rw [e]; push_cast; ring
  · have e : ∀ i : Fin 512, (8 + i.val + 528 - 527 % 528) % 528 = 9 + i.val := fun i => by omega
    refine ((h.rotate 527#32 Facts₀.rotates_S528x704_d0).rows 8 _ fun i => by omega).congr fun i n => (hf _ n ?_ ?_).trans (congrArg _ ?_)
    · show 1 ≤ (8 + i.val + 528 - 527 % 528) % 528
      omega
    · show (8 + i.val + 528 - 527 % 528) % 528 ≤ 526
      omega
    · show (512 * k.val + ((8 + i.val + 528 - 527 % 528) % 528 : ℕ) - 8 : ℤ) = ((512 * k.val + i.val : ℕ) : ℤ) + 1
      rw [e]; push_cast; ring

/-- The convolution on all 528 rows is a real matrix, and the true one on rows 1 to 526. -/
theorem conv8 {v : FVec Ideal S528x704 .f32} {U : Fin 4096 → Fin 704 → ℝ} (h : Rep v fun e n => ext (fun i => U i n) (edge k e))
    {w : FVec Ideal S3x704 .f32} {c : Fin 3 → Fin 704 → ℝ} (hw : Rep w c) {b : FVec Ideal S1x704 .f32} {β : Fin 704 → ℝ} (hb : Rep b fun _ n => β n) :
    ∃ f : Fin 528 → Fin 704 → ℝ, Rep (addf (addf (addf (mulf (dynamicRotate 0 1#32 none v Facts₀.rotates_S528x704_d0)
        (broadcastTo S528x704 (extractStridedSlice S1x704 ![0, 0] w Facts₀.slices_S3x704_o0_0_S1x704) Facts₀.broadcasts_S1x704_S528x704))
      (mulf v (broadcastTo S528x704 (extractStridedSlice S1x704 ![1, 0] w Facts₀.slices_S3x704_o1_0_S1x704) Facts₀.broadcasts_S1x704_S528x704)))
      (mulf (dynamicRotate 0 527#32 none v Facts₀.rotates_S528x704_d0)
        (broadcastTo S528x704 (extractStridedSlice S1x704 ![2, 0] w Facts₀.slices_S3x704_o2_0_S1x704) Facts₀.broadcasts_S1x704_S528x704)))
      (broadcastTo S528x704 b Facts₀.broadcasts_S1x704_S528x704) : FVec Ideal S528x704 .f32) f ∧
      ∀ (e : Fin 528) n (i : Fin 4096), 1 ≤ e.val → e.val ≤ 526 → (i.val : ℤ) = edge k e → f e n = conv (fun i => U i n) (fun t => c t n) (β n) i := by
  have hc : ∀ (t : Fin 3) (hs : S3x704.Slices ![t.val, 0] S1x704), Rep (broadcastTo S528x704 (extractStridedSlice S1x704 ![t.val, 0] w hs) Facts₀.broadcasts_S1x704_S528x704 : FVec Ideal S528x704 .f32)
      fun _ n => c t n := fun t hs => Rep.rowBcast ((hw.rows t.val hs fun i => by have := t.isLt; omega).congr fun i n => congrArg (fun t => c t n) (Fin.ext (by simp))) _
  refine ⟨_, ((((h.rotate 1#32 Facts₀.rotates_S528x704_d0).mul (hc 0 _)).add (h.mul (hc 1 _))).add ((h.rotate 527#32 Facts₀.rotates_S528x704_d0).mul (hc 2 _))).add (hb.rowBcast _), ?_⟩
  intro e n i h1 h2 hi
  unfold conv
  have e1 : (e.val + 528 - 1 % 528) % 528 = e.val - 1 := by omega
  have e2 : (e.val + 528 - 527 % 528) % 528 = e.val + 1 := by omega
  refine congrArg₂ (· + ·) (congrArg₂ (· + ·) (congrArg₂ (· + ·) (congrArg (· * c 0 n) (congrArg _ ?_)) (congrArg (· * c 1 n) (ext_row _ i hi.symm))) (congrArg (· * c 2 n) (congrArg _ ?_))) rfl
  · rw [hi]
    show (512 * k.val + ((e.val + 528 - 1 % 528) % 528 : ℕ) - 8 : ℤ) = 512 * k.val + e.val - 8 - 1
    rw [e1]; push_cast [h1]; ring
  · rw [hi]
    show (512 * k.val + ((e.val + 528 - 527 % 528) % 528 : ℕ) - 8 : ℤ) = 512 * k.val + e.val - 8 + 1
    rw [e2]; push_cast; ring

/-- The gradient of a convolution in its column, for a block. -/
theorem convT8 {v : FVec Ideal S528x704 .f32} {f : Fin 528 → Fin 704 → ℝ} {D : Fin 4096 → Fin 704 → ℝ} (h : Rep v f)
    (hf : ∀ e n, 1 ≤ e.val → e.val ≤ 526 → f e n = ext (fun i => D i n) (edge k e)) {w : FVec Ideal S3x704 .f32} {c : Fin 3 → Fin 704 → ℝ} (hw : Rep w c) :
    Rep (addf (addf (mulf (extractStridedSlice S512x704 ![8, 0] (dynamicRotate 0 527#32 none v Facts₀.rotates_S528x704_d0) Facts₀.slices_S528x704_o8_0_S512x704)
        (broadcastTo S512x704 (extractStridedSlice S1x704 ![0, 0] w Facts₀.slices_S3x704_o0_0_S1x704) Facts₀.broadcasts_S1x704_S512x704))
      (mulf (extractStridedSlice S512x704 ![8, 0] v Facts₀.slices_S528x704_o8_0_S512x704)
        (broadcastTo S512x704 (extractStridedSlice S1x704 ![1, 0] w Facts₀.slices_S3x704_o1_0_S1x704) Facts₀.broadcasts_S1x704_S512x704)))
      (mulf (extractStridedSlice S512x704 ![8, 0] (dynamicRotate 0 1#32 none v Facts₀.rotates_S528x704_d0) Facts₀.slices_S528x704_o8_0_S512x704)
        (broadcastTo S512x704 (extractStridedSlice S1x704 ![2, 0] w Facts₀.slices_S3x704_o2_0_S1x704) Facts₀.broadcasts_S1x704_S512x704)) : FVec Ideal S512x704 .f32)
      (fun i n => convT (fun i => D i n) (fun t => c t n) (row k i)) := by
  obtain ⟨h1, h0, h2⟩ := shifts8 h hf
  have hc : ∀ (t : Fin 3) (hs : S3x704.Slices ![t.val, 0] S1x704), Rep (broadcastTo S512x704 (extractStridedSlice S1x704 ![t.val, 0] w hs) Facts₀.broadcasts_S1x704_S512x704 : FVec Ideal S512x704 .f32)
      fun _ n => c t n := fun t hs => Rep.rowBcast ((hw.rows t.val hs fun i => by have := t.isLt; omega).congr fun i n => congrArg (fun t => c t n) (Fin.ext (by simp))) _
  exact ((h2.mul (hc 0 _)).add (h1.mul (hc 1 _))).add (h0.mul (hc 2 _))

/-- A product of two blocks summed down its columns. -/
theorem sum8 {v w : FVec Ideal S512x704 .f32} {f g : Fin 512 → Fin 704 → ℝ} (h : Rep v f) (hg : Rep w g) :
    Rep (shapeCast S1x704 (multiReduction .add [0] S704 (mulf v w) 0x00000000#32 Facts₀.reduces_S512x704_S704 (.inl rfl) rfl) Facts₀.shapeCasts_S704_S1x704 : FVec Ideal S1x704 .f32)
      (fun _ n => ∑ i, f i n * g i n) :=
  (h.mul hg).colSum _ _ _ _ _

end rows

section point
variable {i : grid3.Coords} {k : Fin 8} {x0 : Vec Ideal S2x1x512x704 .f32} {x1 x2 : Vec Ideal S2x1x8x704 .f32} {x3 : Vec Ideal S512x1024 .f32} {x4 x5 : Vec Ideal S8x1024 .f32}
  {x6 : Vec Ideal S704x1024 .bf16} {x7 : Vec Ideal S2x1x3x704 .f32} {x8 : Vec Ideal S2x1x1x704 .f32}
  {U : Fin 2 → Fin 4096 → Fin 704 → ℝ} {P Q : Fin 2 → Fin 8 → Fin 704 → ℝ} {G : Fin 4096 → Fin 1024 → ℝ} {R T : Fin 8 → Fin 1024 → ℝ}
  {W : Fin 704 → Fin 1024 → ℝ} {C : Fin 2 → Fin 3 → Fin 704 → ℝ} {B : Fin 2 → Fin 704 → ℝ}

variable (hk : (i 1).val = k.val) (h0 : ∀ s r n, x0 (ix4 s 0 r n) = ((U s (row k r) n : ℝ) : EReal))
  (h1 : ∀ s r n, x1 (ix4 s 0 r n) = ((P s r n : ℝ) : EReal)) (hP : ∀ (e : Fin 4096) s (r : Fin 8) n, e.val + 8 = 512 * k.val + r.val → P s r n = U s e n)
  (h2 : ∀ s r n, x2 (ix4 s 0 r n) = ((Q s r n : ℝ) : EReal)) (hQ : ∀ (e : Fin 4096) s (r : Fin 8) n, e.val = 512 * k.val + 512 + r.val → Q s r n = U s e n)
  (h3 : ∀ r d, x3 (ix2 r d) = ((G (row k r) d : ℝ) : EReal))
  (h4 : ∀ r d, x4 (ix2 r d) = ((R r d : ℝ) : EReal)) (hR : ∀ (e : Fin 4096) (r : Fin 8) d, e.val + 8 = 512 * k.val + r.val → R r d = G e d)
  (h5 : ∀ r d, x5 (ix2 r d) = ((T r d : ℝ) : EReal)) (hT : ∀ (e : Fin 4096) (r : Fin 8) d, e.val = 512 * k.val + 512 + r.val → T r d = G e d)
  (h6 : ∀ n d, x6 (ix2 n d) = ((W n d : ℝ) : EReal)) (h7 : ∀ s t n, x7 (ix4 s 0 t n) = ((C s t n : ℝ) : EReal))
  (h8 : ∀ s n, x8 (ix4 s 0 0 n) = ((B s n : ℝ) : EReal))

/-- The rows of the first product a point works on, by half. -/
def urows (i : grid3.Coords) (x0 : Vec Ideal S2x1x512x704 .f32) (x1 x2 : Vec Ideal S2x1x8x704 .f32) (s : Fin 2) : FVec Ideal S528x704 .f32 :=
  if s = 0 then Gen.k3_pay7 (Gen.k3_pay4 (View.ld x0 (Rect.unit ![0, 0, 0, 0] ![1, 1, 512, 704] Gen.inb_S2x1x512x704_S1x1x512x704_0_0_0_0)))
      (Gen.k3_pay5 (View.ld x2 (Rect.unit ![0, 0, 0, 0] ![1, 1, 8, 704] Gen.inb_S2x1x8x704_S1x1x8x704_0_0_0_0)))
      (Gen.k3_pay6 i (View.ld x1 (Rect.unit ![0, 0, 0, 0] ![1, 1, 8, 704] Gen.inb_S2x1x8x704_S1x1x8x704_0_0_0_0)))
      (Scalar.cmpi CmpIPredicate.eq (BitVec.ofNat 32 (i 1).val) 7#32)
    else Gen.k3_pay15 (Gen.k3_pay11 (View.ld x0 (Rect.unit ![1, 0, 0, 0] ![1, 1, 512, 704] Gen.inb_S2x1x512x704_S1x1x512x704_1_0_0_0)))
      (Gen.k3_pay12 (View.ld x2 (Rect.unit ![1, 0, 0, 0] ![1, 1, 8, 704] Gen.inb_S2x1x8x704_S1x1x8x704_1_0_0_0)))
      (Gen.k3_pay13 (BitVec.ofNat 32 (i 1).val) (View.ld x1 (Rect.unit ![1, 0, 0, 0] ![1, 1, 8, 704] Gen.inb_S2x1x8x704_S1x1x8x704_1_0_0_0)))
      (Scalar.cmpi CmpIPredicate.eq (BitVec.ofNat 32 (i 1).val) 7#32) Gen.k3_pay14

include hk h0 h1 hP h2 hQ in
/-- They are the extended column's rows. -/
theorem urows_rep (s : Fin 2) : Rep (urows i x0 x1 x2 s) fun e n => ext (fun i => U s i n) (edge k e) := by
  have a : ∀ (s : Fin 2) (hi : ∀ a, (![s.val, 0, 0, 0] : Fin 4 → Nat) a + S1x1x8x704.size a ≤ S2x1x8x704.size a),
      Rep (shapeCast S8x704 (View.ld x1 (Rect.unit (s := S2x1x8x704) ![s.val, 0, 0, 0] S1x1x8x704.size hi)) Facts₀.shapeCasts_S1x1x8x704_S8x704 : FVec Ideal S8x704 .f32) (P s) :=
    fun s hi => Rep.ofQuad (fun d n => Rep.ofHalf h1 s hi d n) _
  have c : ∀ (s : Fin 2) (hi : ∀ a, (![s.val, 0, 0, 0] : Fin 4 → Nat) a + S1x1x8x704.size a ≤ S2x1x8x704.size a),
      Rep (shapeCast S8x704 (View.ld x2 (Rect.unit (s := S2x1x8x704) ![s.val, 0, 0, 0] S1x1x8x704.size hi)) Facts₀.shapeCasts_S1x1x8x704_S8x704 : FVec Ideal S8x704 .f32) (Q s) :=
    fun s hi => Rep.ofQuad (fun d n => Rep.ofHalf h2 s hi d n) _
  have b : ∀ (s : Fin 2) (hi : ∀ a, (![s.val, 0, 0, 0] : Fin 4 → Nat) a + S1x1x512x704.size a ≤ S2x1x512x704.size a),
      Rep (shapeCast S512x704 (View.ld x0 (Rect.unit (s := S2x1x512x704) ![s.val, 0, 0, 0] S1x1x512x704.size hi)) Facts₀.shapeCasts_S1x1x512x704_S512x704 : FVec Ideal S512x704 .f32) (fun r n => U s (row k r) n) :=
    fun s hi => Rep.ofQuad (fun d n => Rep.ofHalf (f := fun s r n => U s (row k r) n) h0 s hi d n) _
  have key := fun (s : Fin 2) hi hj => edges (i := i) hk (a s hi) (b s hj) (c s hi) (fun e r d he => hP e s r d he) (fun e r d he => hQ e s r d he) Facts₀.concatenates_S8x704_S512x704_S8x704_S528x704_d0
  unfold urows
  match s with
  | ⟨0, _⟩ => have e := key 0 Facts₀.inb_S2x1x8x704_S1x1x8x704_0_0_0_0 Facts₀.inb_S2x1x512x704_S1x1x512x704_0_0_0_0; rw [half_zero]; exact e
  | ⟨1, _⟩ => have e := key 1 Facts₀.inb_S2x1x8x704_S1x1x8x704_1_0_0_0 Facts₀.inb_S2x1x512x704_S1x1x512x704_1_0_0_0; rw [half_one]; exact e

include hk h3 h4 hR h5 hT h6 in
/-- The activation's gradient on the block's rows and their neighbours. -/
theorem dact_rep : Rep (Gen.k3_pay3 i x4 x3 x5 x6) fun e n => ext (fun i => dact G W i n) (edge k e) :=
  (Rep.nt ((edges (i := i) hk h4 h3 h5 hR hT Facts₀.concatenates_S8x1024_S512x1024_S8x1024_S528x1024_d0).trunc (by decide)) (Rep.same h6 Facts₀.shapeCasts_S704x1024_S704x1024) Rep.zero none
    (D := dot_S528x1024_S704x1024_S528x704_1_1_0_0_n_n) rfl).congr
    fun e n => by rw [zero_add]; exact ext_sum G (fun d => W n d) _

include h7 in
/-- The convolution's weights of a half. -/
theorem cw_rep (s : Fin 2) (hi : ∀ a, (![s.val, 0, 0, 0] : Fin 4 → Nat) a + S1x1x3x704.size a ≤ S2x1x3x704.size a) :
    Rep (shapeCast S3x704 (View.ld x7 (Rect.unit (s := S2x1x3x704) ![s.val, 0, 0, 0] S1x1x3x704.size hi)) Facts₀.shapeCasts_S1x1x3x704_S3x704 : FVec Ideal S3x704 .f32) (C s) :=
  Rep.ofQuad (fun d n => Rep.ofHalf h7 s hi d n) _

include h8 in
/-- The convolution's bias of a half. -/
theorem cb_rep (s : Fin 2) (hi : ∀ a, (![s.val, 0, 0, 0] : Fin 4 → Nat) a + S1x1x1x704.size a ≤ S2x1x1x704.size a) :
    Rep (shapeCast S1x704 (View.ld x8 (Rect.unit (s := S2x1x1x704) ![s.val, 0, 0, 0] S1x1x1x704.size hi)) Facts₀.shapeCasts_S1x1x1x704_S1x704 : FVec Ideal S1x704 .f32) (fun _ n => B s n) :=
  Rep.ofQuad (fun d n => Rep.ofHalf (f := fun s _ n => B s n) (fun s i j => by rw [Subsingleton.elim i 0]; exact h8 s j) s hi d n) _

/-- The convolution's value on the 528 rows, in the first half. -/
def crows (i : grid3.Coords) (x0 : Vec Ideal S2x1x512x704 .f32) (x1 x2 : Vec Ideal S2x1x8x704 .f32) (x7 : Vec Ideal S2x1x3x704 .f32) (x8 : Vec Ideal S2x1x1x704 .f32) : FVec Ideal S528x704 .f32 :=
  Gen.k3_pay10 (Gen.k3_pay4 (View.ld x0 (Rect.unit ![0, 0, 0, 0] ![1, 1, 512, 704] Gen.inb_S2x1x512x704_S1x1x512x704_0_0_0_0)))
      (Gen.k3_pay5 (View.ld x2 (Rect.unit ![0, 0, 0, 0] ![1, 1, 8, 704] Gen.inb_S2x1x8x704_S1x1x8x704_0_0_0_0)))
      (Gen.k3_pay6 i (View.ld x1 (Rect.unit ![0, 0, 0, 0] ![1, 1, 8, 704] Gen.inb_S2x1x8x704_S1x1x8x704_0_0_0_0)))
      (Scalar.cmpi CmpIPredicate.eq (BitVec.ofNat 32 (i 1).val) 7#32)
      (View.ld x7 (Rect.unit ![0, 0, 0, 0] ![1, 1, 3, 704] Gen.inb_S2x1x3x704_S1x1x3x704_0_0_0_0))
      (View.ld x8 (Rect.unit ![0, 0, 0, 0] ![1, 1, 1, 704] Gen.inb_S2x1x1x704_S1x1x1x704_0_0_0_0))

/-- The gradient of the convolution's value on the 528 rows, by half. -/
def drows (i : grid3.Coords) (x0 : Vec Ideal S2x1x512x704 .f32) (x1 x2 : Vec Ideal S2x1x8x704 .f32) (x3 : Vec Ideal S512x1024 .f32) (x4 x5 : Vec Ideal S8x1024 .f32)
    (x6 : Vec Ideal S704x1024 .bf16) (x7 : Vec Ideal S2x1x3x704 .f32) (x8 : Vec Ideal S2x1x1x704 .f32) (s : Fin 2) : FVec Ideal S528x704 .f32 :=
  if s = 0 then Gen.k3_pay19 (Gen.k3_pay3 i x4 x3 x5 x6) (crows i x0 x1 x2 x7 x8)
      (Gen.k3_pay11 (View.ld x0 (Rect.unit ![1, 0, 0, 0] ![1, 1, 512, 704] Gen.inb_S2x1x512x704_S1x1x512x704_1_0_0_0)))
      (Gen.k3_pay12 (View.ld x2 (Rect.unit ![1, 0, 0, 0] ![1, 1, 8, 704] Gen.inb_S2x1x8x704_S1x1x8x704_1_0_0_0)))
      (Gen.k3_pay13 (BitVec.ofNat 32 (i 1).val) (View.ld x1 (Rect.unit ![1, 0, 0, 0] ![1, 1, 8, 704] Gen.inb_S2x1x8x704_S1x1x8x704_1_0_0_0)))
      (Scalar.cmpi CmpIPredicate.eq (BitVec.ofNat 32 (i 1).val) 7#32) Gen.k3_pay14
      (View.ld x7 (Rect.unit ![1, 0, 0, 0] ![1, 1, 3, 704] Gen.inb_S2x1x3x704_S1x1x3x704_1_0_0_0))
      (View.ld x8 (Rect.unit ![1, 0, 0, 0] ![1, 1, 1, 704] Gen.inb_S2x1x1x704_S1x1x1x704_1_0_0_0))
    else Gen.k3_pay20 (Gen.k3_pay3 i x4 x3 x5 x6) (crows i x0 x1 x2 x7 x8)

include hk h0 h1 hP h2 hQ h3 h4 hR h5 hT h6 h7 h8 in
/-- They are a real matrix, and the true gradient on rows 1 to 526. -/
theorem drows_rep (s : Fin 2) : ∃ f : Fin 528 → Fin 704 → ℝ, Rep (drows i x0 x1 x2 x3 x4 x5 x6 x7 x8 s) f ∧
    ∀ e n, 1 ≤ e.val → e.val ≤ 526 → f e n = ext (fun i => dconv (dact G W) U C B s i n) (edge k e) := by
  have u0 := urows_rep hk h0 h1 hP h2 hQ 0
  have u1 := urows_rep hk h0 h1 hP h2 hQ 1
  have da := dact_rep hk h3 h4 hR h5 hT h6
  obtain ⟨f0, c0, e0⟩ := conv8 u0 (cw_rep h7 0 Facts₀.inb_S2x1x3x704_S1x1x3x704_0_0_0_0) (cb_rep h8 0 Facts₀.inb_S2x1x1x704_S1x1x1x704_0_0_0_0)
  obtain ⟨f1, c1, e1⟩ := conv8 u1 (cw_rep h7 1 Facts₀.inb_S2x1x3x704_S1x1x3x704_1_0_0_0) (cb_rep h8 1 Facts₀.inb_S2x1x1x704_S1x1x1x704_1_0_0_0)
  have sg := (Rep.const one_word).div ((Rep.const one_word).add (Rep.zero'.sub c0).exp) (fun _ _ => logi_den _)
  unfold drows
  match s with
  | ⟨0, _⟩ =>
    rw [half_zero]
    refine ⟨_, (da.mul c1).mul (sg.mul ((Rep.const one_word).add (c0.mul ((Rep.const one_word).sub sg)))), fun e n hl hr => ?_⟩
    by_cases hz : 0 ≤ edge k e ∧ edge k e < 4096
    · have hi : ((⟨(edge k e).toNat, by omega⟩ : Fin 4096).val : ℤ) = edge k e := Int.toNat_of_nonneg hz.1
      rw [ext_row _ ⟨(edge k e).toNat, by omega⟩ hi.symm, ext_row _ ⟨(edge k e).toNat, by omega⟩ hi.symm, e0 e n _ hl hr hi, e1 e n _ hl hr hi]
      rfl
    · rw [ext_off _ hz, ext_off _ hz]
      simp
  | ⟨1, _⟩ =>
    rw [half_one]
    refine ⟨_, da.mul (c0.mul sg), fun e n hl hr => ?_⟩
    by_cases hz : 0 ≤ edge k e ∧ edge k e < 4096
    · have hi : ((⟨(edge k e).toNat, by omega⟩ : Fin 4096).val : ℤ) = edge k e := Int.toNat_of_nonneg hz.1
      rw [ext_row _ ⟨(edge k e).toNat, by omega⟩ hi.symm, ext_row _ ⟨(edge k e).toNat, by omega⟩ hi.symm, e0 e n _ hl hr hi]
      rfl
    · rw [ext_off _ hz, ext_off _ hz]
      simp

/-- The statistics a block adds, from the gradient's rows and the first product's. -/
theorem part_rep {d u : FVec Ideal S528x704 .f32} {f : Fin 528 → Fin 704 → ℝ} {D U : Fin 4096 → Fin 704 → ℝ} (hd : Rep d f)
    (hf : ∀ e n, 1 ≤ e.val → e.val ≤ 526 → f e n = Mlp.ext (fun i => D i n) (edge k e)) (hu : Rep u fun e n => Mlp.ext (fun i => U i n) (edge k e)) :
    Rep (Gen.k3_pay24 (dynamicRotate 0 1#32 none u Facts₀.rotates_S528x704_d0) d) (fun _ n => part D U k 0 n) ∧
    Rep (Gen.k3_pay25 u d) (fun _ n => part D U k 1 n) ∧
    Rep (Gen.k3_pay26 (dynamicRotate 0 527#32 none u Facts₀.rotates_S528x704_d0) d) (fun _ n => part D U k 2 n) ∧
    Rep (Gen.k3_pay27 d) (fun _ n => part D U k 3 n) := by
  obtain ⟨d1, _, _⟩ := shifts8 hd hf
  obtain ⟨u1, u0, u2⟩ := shifts8 hu fun _ _ _ _ => rfl
  exact ⟨sum8 d1 u0, sum8 d1 u1, sum8 d1 u2, d1.colSum Facts₀.reduces_S512x704_S704 Facts₀.shapeCasts_S704_S1x704 0x00000000#32 (.inl rfl) rfl⟩

/-- What a point stores of the gradient, first half. -/
theorem du_pay0 {d : FVec Ideal S528x704 .f32} {f : Fin 528 → Fin 704 → ℝ} {D : Fin 4096 → Fin 704 → ℝ} (hd : Rep d f)
    (hf : ∀ e n, 1 ≤ e.val → e.val ≤ 526 → f e n = Mlp.ext (fun i => D i n) (edge k e)) (h7 : ∀ s t n, x7 (ix4 s 0 t n) = ((C s t n : ℝ) : EReal)) (r : Fin 512) (n : Fin 704) :
    Gen.k3_pay23 d (Gen.k3_pay21 (View.ld x7 (Rect.unit ![0, 0, 0, 0] ![1, 1, 3, 704] Gen.inb_S2x1x3x704_S1x1x3x704_0_0_0_0))) (ix4 0 0 r n)
      = ((convT (fun i => D i n) (fun j => C 0 j n) (row k r) : ℝ) : EReal) :=
  Rep.toQuad ((convT8 hd hf (cw_rep h7 0 Facts₀.inb_S2x1x3x704_S1x1x3x704_0_0_0_0)).trunc (ψ := .bf16) (by decide)) Facts₀.shapeCasts_S512x704_S1x1x512x704 0 0 r n

/-- What a point stores of the gradient, second half. -/
theorem du_pay1 {d : FVec Ideal S528x704 .f32} {f : Fin 528 → Fin 704 → ℝ} {D : Fin 4096 → Fin 704 → ℝ} (hd : Rep d f)
    (hf : ∀ e n, 1 ≤ e.val → e.val ≤ 526 → f e n = Mlp.ext (fun i => D i n) (edge k e)) (h7 : ∀ s t n, x7 (ix4 s 0 t n) = ((C s t n : ℝ) : EReal)) (r : Fin 512) (n : Fin 704) :
    Gen.k3_pay34 d (View.ld x7 (Rect.unit ![1, 0, 0, 0] ![1, 1, 3, 704] Gen.inb_S2x1x3x704_S1x1x3x704_1_0_0_0)) (ix4 0 0 r n)
      = ((convT (fun i => D i n) (fun j => C 1 j n) (row k r) : ℝ) : EReal) :=
  Rep.toQuad ((convT8 hd hf (cw_rep h7 1 Facts₀.inb_S2x1x3x704_S1x1x3x704_1_0_0_0)).trunc (ψ := .bf16) (by decide)) Facts₀.shapeCasts_S512x704_S1x1x512x704 0 0 r n

/-- What a point stores of the statistics, first half. -/
theorem st_pay0 {d u u1 u2 : FVec Ideal S528x704 .f32} {f : Fin 528 → Fin 704 → ℝ} {D U : Fin 4096 → Fin 704 → ℝ} {y : Vec Ideal S2x1x8x704 .f32} {O : Fin 2 → Fin 8 → Fin 704 → ℝ} (hd : Rep d f)
    (hf : ∀ e n, 1 ≤ e.val → e.val ≤ 526 → f e n = Mlp.ext (fun i => D i n) (edge k e)) (hu : Rep u fun e n => Mlp.ext (fun i => U i n) (edge k e))
    (e1 : u1 = dynamicRotate 0 1#32 none u Facts₀.rotates_S528x704_d0) (e2 : u2 = dynamicRotate 0 527#32 none u Facts₀.rotates_S528x704_d0)
    (hy : ∀ s r n, y (ix4 s 0 r n) = ((O s r n : ℝ) : EReal)) (r : Fin 8) (n : Fin 704) :
    Gen.k3_pay32 (iota Kind.tc S8x704 32 [0] Gen.iota_S8x704_d0_w32) (Gen.k3_pay24 u1 d) (Gen.k3_pay25 u d) (Gen.k3_pay26 u2 d) (Gen.k3_pay27 d)
      (Gen.k3_pay28 (View.ld y (Rect.unit ![0, 0, 0, 0] ![1, 1, 8, 704] Gen.inb_S2x1x8x704_S1x1x8x704_0_0_0_0)))
      (Gen.k3_pay29 (iota Kind.tc S8x704 32 [0] Gen.iota_S8x704_d0_w32)) (Gen.k3_pay30 (iota Kind.tc S8x704 32 [0] Gen.iota_S8x704_d0_w32))
      (Gen.k3_pay31 (iota Kind.tc S8x704 32 [0] Gen.iota_S8x704_d0_w32)) (ix4 0 0 r n) = ((O 0 r n + part D U k r.val n : ℝ) : EReal) := by
  subst e1 e2
  obtain ⟨a0, a1, a2, a3⟩ := part_rep hd hf hu
  have o : Rep (shapeCast S8x704 (View.ld y (Rect.unit (s := S2x1x8x704) ![0, 0, 0, 0] S1x1x8x704.size Facts₀.inb_S2x1x8x704_S1x1x8x704_0_0_0_0)) Facts₀.shapeCasts_S1x1x8x704_S8x704 : FVec Ideal S8x704 .f32) (O 0) :=
    Rep.ofQuad (fun d n => Rep.ofHalf hy 0 Facts₀.inb_S2x1x8x704_S1x1x8x704_0_0_0_0 d n) Facts₀.shapeCasts_S1x1x8x704_S8x704
  exact Rep.toQuad (stat8 o a0 a1 a2 a3 (part_zero _ _ k) Facts₀.shapeCasts_S1x704_S1x704 Facts₀.broadcasts_S1x704_S8x704 Facts₀.iota_S8x704_d0_w32) Facts₀.shapeCasts_S8x704_S1x1x8x704 0 0 r n

/-- What a point stores of the statistics, second half. -/
theorem st_pay1 {d u u1 u2 : FVec Ideal S528x704 .f32} {f : Fin 528 → Fin 704 → ℝ} {D U : Fin 4096 → Fin 704 → ℝ} {y : Vec Ideal S2x1x8x704 .f32} {O : Fin 2 → Fin 8 → Fin 704 → ℝ} (hd : Rep d f)
    (hf : ∀ e n, 1 ≤ e.val → e.val ≤ 526 → f e n = Mlp.ext (fun i => D i n) (edge k e)) (hu : Rep u fun e n => Mlp.ext (fun i => U i n) (edge k e))
    (e1 : u1 = dynamicRotate 0 1#32 none u Facts₀.rotates_S528x704_d0) (e2 : u2 = dynamicRotate 0 527#32 none u Facts₀.rotates_S528x704_d0)
    (hy : ∀ s r n, y (ix4 s 0 r n) = ((O s r n : ℝ) : EReal)) (r : Fin 8) (n : Fin 704) :
    Gen.k3_pay1 (Gen.k3_pay36 u u2 (iota Kind.tc S8x704 32 [0] Gen.iota_S8x704_d0_w32) (Gen.k3_pay33 d) (Gen.k3_pay35 u1)
      (View.ld y (Rect.unit ![1, 0, 0, 0] ![1, 1, 8, 704] Gen.inb_S2x1x8x704_S1x1x8x704_1_0_0_0))) (ix4 0 0 r n) = ((O 1 r n + part D U k r.val n : ℝ) : EReal) := by
  subst e1 e2
  obtain ⟨a0, a1, a2, a3⟩ := part_rep hd hf hu
  have o : Rep (shapeCast S8x704 (View.ld y (Rect.unit (s := S2x1x8x704) ![1, 0, 0, 0] S1x1x8x704.size Facts₀.inb_S2x1x8x704_S1x1x8x704_1_0_0_0)) Facts₀.shapeCasts_S1x1x8x704_S8x704 : FVec Ideal S8x704 .f32) (O 1) :=
    Rep.ofQuad (fun d n => Rep.ofHalf hy 1 Facts₀.inb_S2x1x8x704_S1x1x8x704_1_0_0_0 d n) Facts₀.shapeCasts_S1x1x8x704_S8x704
  exact Rep.toQuad (stat8 o a0 a1 a2 a3 (part_zero _ _ k) Facts₀.shapeCasts_S1x704_S1x704 Facts₀.broadcasts_S1x704_S8x704 Facts₀.iota_S8x704_d0_w32) Facts₀.shapeCasts_S8x704_S1x1x8x704 0 0 r n

end point

section du
variable {V : (c : Dev nD) → (b : Ref sig .tc) → Buf (Elt Ideal) ((c.tc : Thread nD τ).loc b)} {c : Dev nD} {t : Fin cfg3.N} {k : Fin 8}
  {x0 : Vec Ideal S2x1x512x704 .f32} {x1 x2 : Vec Ideal S2x1x8x704 .f32} {x3 : Vec Ideal S512x1024 .f32} {x4 x5 : Vec Ideal S8x1024 .f32}
  {x6 : Vec Ideal S704x1024 .bf16} {x7 : Vec Ideal S2x1x3x704 .f32} {x8 : Vec Ideal S2x1x1x704 .f32}
  {U : Fin 2 → Fin 4096 → Fin 704 → ℝ} {P Q : Fin 2 → Fin 8 → Fin 704 → ℝ} {G : Fin 4096 → Fin 1024 → ℝ} {R T : Fin 8 → Fin 1024 → ℝ}
  {W : Fin 704 → Fin 1024 → ℝ} {C : Fin 2 → Fin 3 → Fin 704 → ℝ} {B : Fin 2 → Fin 704 → ℝ}
  (hk : (grid3.coords t 1).val = k.val) (h0 : ∀ s r n, x0 (ix4 s 0 r n) = ((U s (row k r) n : ℝ) : EReal))
  (h1 : ∀ s r n, x1 (ix4 s 0 r n) = ((P s r n : ℝ) : EReal)) (hP : ∀ (e : Fin 4096) s (r : Fin 8) n, e.val + 8 = 512 * k.val + r.val → P s r n = U s e n)
  (h2 : ∀ s r n, x2 (ix4 s 0 r n) = ((Q s r n : ℝ) : EReal)) (hQ : ∀ (e : Fin 4096) s (r : Fin 8) n, e.val = 512 * k.val + 512 + r.val → Q s r n = U s e n)
  (h3 : ∀ r d, x3 (ix2 r d) = ((G (row k r) d : ℝ) : EReal))
  (h4 : ∀ r d, x4 (ix2 r d) = ((R r d : ℝ) : EReal)) (hR : ∀ (e : Fin 4096) (r : Fin 8) d, e.val + 8 = 512 * k.val + r.val → R r d = G e d)
  (h5 : ∀ r d, x5 (ix2 r d) = ((T r d : ℝ) : EReal)) (hT : ∀ (e : Fin 4096) (r : Fin 8) d, e.val = 512 * k.val + 512 + r.val → T r d = G e d)
  (h6 : ∀ n d, x6 (ix2 n d) = ((W n d : ℝ) : EReal)) (h7 : ∀ s j n, x7 (ix4 s 0 j n) = ((C s j n : ℝ) : EReal))
  (h8 : ∀ s n, x8 (ix4 s 0 0 n) = ((B s n : ℝ) : EReal))
  (g0 : Gen.iblk3 V c 0 t = x0) (g1 : Gen.iblk3 V c 1 t = x1) (g2 : Gen.iblk3 V c 2 t = x2) (g3 : Gen.iblk3 V c 3 t = x3) (g4 : Gen.iblk3 V c 4 t = x4) (g5 : Gen.iblk3 V c 5 t = x5) (g6 : Gen.iblk3 V c 6 t = x6) (g7 : Gen.iblk3 V c 7 t = x7) (g8 : Gen.iblk3 V c 8 t = x8)

include hk h0 h1 hP h2 hQ h3 h4 hR h5 hT h6 h7 h8 g0 g1 g2 g3 g4 g5 g6 g7 g8

/-- The block of the first product's gradient. -/
theorem du_block (s : Fin 2) (r : Fin 512) (n : Fin 704) :
    (Gen.outsAt3 V c t.val t.isLt).1 (ix4 s 0 r n) = ((convT (fun i => dconv (dact G W) U C B s i n) (fun j => C s j n) (row k r) : ℝ) : EReal) := by
  obtain ⟨f0, d0, e0⟩ := drows_rep hk h0 h1 hP h2 hQ h3 h4 hR h5 hT h6 h7 h8 0
  obtain ⟨f1, d1, e1⟩ := drows_rep hk h0 h1 hP h2 hQ h3 h4 hR h5 hT h6 h7 h8 1
  rw [drows, if_pos rfl, crows] at d0
  rw [drows, if_neg one_ne, crows] at d1
  by_cases h : t.val % 8 = 0
  · rw [Gen.outsAt3_A V c t h, g0, g1, g2, g3, g4, g5, g6, g7, g8]
    frame_out
    rw [canon_halves]
    rcases half_cases s with hs | hs
    · have e := du_pay0 d0 e0 h7 r n; rw [hs, if_pos rfl]; exact e
    · have e := du_pay1 d1 e1 h7 r n; rw [hs, if_neg one_ne]; exact e
  · rw [Gen.outsAt3_B V c t h, g0, g1, g2, g3, g4, g5, g6, g7, g8]
    frame_out
    rw [canon_halves]
    rcases half_cases s with hs | hs
    · have e := du_pay0 d0 e0 h7 r n; rw [hs, if_pos rfl]; exact e
    · have e := du_pay1 d1 e1 h7 r n; rw [hs, if_neg one_ne]; exact e

/-- The statistics after a first block. -/
theorem st_first (h : t.val % 8 = 0) (s : Fin 2) (r : Fin 8) (n : Fin 704) :
    (Gen.outsAt3 V c t.val t.isLt).2 (ix4 s 0 r n) = ((part (dconv (dact G W) U C B s) (U s) k r.val n : ℝ) : EReal) := by
  obtain ⟨f0, d0, e0⟩ := drows_rep hk h0 h1 hP h2 hQ h3 h4 hR h5 hT h6 h7 h8 0
  obtain ⟨f1, d1, e1⟩ := drows_rep hk h0 h1 hP h2 hQ h3 h4 hR h5 hT h6 h7 h8 1
  rw [drows, if_pos rfl, crows] at d0
  rw [drows, if_neg one_ne, crows] at d1
  have u0 := urows_rep hk h0 h1 hP h2 hQ 0
  have u1 := urows_rep hk h0 h1 hP h2 hQ 1
  rw [urows, if_pos rfl] at u0
  rw [urows, if_neg one_ne] at u1
  have z : ∀ s r n, (Gen.k3_pay2 (F := Ideal)) (ix4 s 0 r n) = (((fun _ _ _ => 0 : Fin 2 → Fin 8 → Fin 704 → ℝ) s r n : ℝ) : EReal) := fun s r n => by
    show Ideal.ofBits .f32 0x00000000#32 = _
    rw [Ideal.ofBits_zero_f32, EReal.coe_zero]
  rw [Gen.outsAt3_A V c t h, g0, g1, g2, g3, g4, g5, g6, g7, g8]
  frame_out
  simp (disch := decide) only [↓ View.readCov_skip, ↓ View.readCov_cons_toLoadRect, ↓ View.readCov_fill]
  rw [canon_halves]
  rcases half_cases s with hs | hs
  · have e := (st_pay0 d0 e0 u0 rfl rfl z r n).trans (congrArg Real.toEReal (zero_add _)); rw [hs, if_pos rfl]; exact e
  · have e := (st_pay1 d1 e1 u1 rfl rfl z r n).trans (congrArg Real.toEReal (zero_add _)); rw [hs, if_neg one_ne]; exact e

/-- The statistics after a later block. -/
theorem st_next (h : ¬ t.val % 8 = 0) {O : Fin 2 → Fin 8 → Fin 704 → ℝ}
    {y : Vec Ideal S2x1x8x704 .f32}
    (gy : (Gen.outsAt3 V c (t.val - 1) (Nat.lt_of_le_of_lt (Nat.sub_le _ _) t.isLt)).2 = y) (ho : ∀ s r n, y (ix4 s 0 r n) = ((O s r n : ℝ) : EReal)) (s : Fin 2) (r : Fin 8) (n : Fin 704) :
    (Gen.outsAt3 V c t.val t.isLt).2 (ix4 s 0 r n) = ((O s r n + part (dconv (dact G W) U C B s) (U s) k r.val n : ℝ) : EReal) := by
  obtain ⟨f0, d0, e0⟩ := drows_rep hk h0 h1 hP h2 hQ h3 h4 hR h5 hT h6 h7 h8 0
  obtain ⟨f1, d1, e1⟩ := drows_rep hk h0 h1 hP h2 hQ h3 h4 hR h5 hT h6 h7 h8 1
  rw [drows, if_pos rfl, crows] at d0
  rw [drows, if_neg one_ne, crows] at d1
  have u0 := urows_rep hk h0 h1 hP h2 hQ 0
  have u1 := urows_rep hk h0 h1 hP h2 hQ 1
  rw [urows, if_pos rfl] at u0
  rw [urows, if_neg one_ne] at u1
  rw [Gen.outsAt3_B V c t h, g0, g1, g2, g3, g4, g5, g6, g7, g8, gy]
  frame_out
  rw [canon_halves]
  rcases half_cases s with hs | hs
  · have e := st_pay0 d0 e0 u0 rfl rfl ho r n; rw [hs, if_pos rfl]; exact e
  · have e := st_pay1 d1 e1 u1 rfl rfl ho r n; rw [hs, if_neg one_ne]; exact e

end du

end Cert.Proof.Mlp0

end
-- ==== Proof.Mlp0Arr.lean ====
/-
  What each call of the gated MLP leaves in its arrays, block by block, given reals in the arrays it reads.
-/
module

public import proofs.«01_k».proof.Proof.MlpArr
public import proofs.«01_k».proof.Proof.Mlp0Fwd
public import proofs.«01_k».proof.Proof.Mlp0Bwd

@[expose] public section

set_option maxRecDepth 16384

noncomputable section

namespace Cert.Proof.Mlp0

open Idealize.ShloMosaic hiding ix2 ix3 ix4
open Idealize.ShloMosaic.TcCoe Idealize.SL Idealize.SL.Sem Idealize.ShloMosaic.ValueIdx Cert.Kernel5Ideal
open Cert.Proof.Mlp
open scoped BigOperators

variable {V : (c : Dev nD) → (b : Ref sig .tc) → Buf (Elt Ideal) ((c.tc : Thread nD τ).loc b)} {c : Dev nD}

/-- Row `d` of the first layer's weight up. -/
def upRow (d : Fin 1024) : Fin 2048 := ⟨d.val, by omega⟩

/-- Where the blocks of the projection's grid lie. -/
theorem idx0 : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] := by
  decide +kernel

/-- The projection's grid has 4 points. -/
theorem lt0 (t : Fin cfg0.N) : t.val < 4 := lt_of_lt_of_eq t.isLt Gen.N_0

section proj
variable {O X : Fin 4096 → Fin 1024 → ℝ} {W : Fin 1024 → Fin 1024 → ℝ} {g : Fin 1024 → ℝ}
  (hO : ∀ i k, V c main_arg1 (ix2 i k) = ((O i k : ℝ) : EReal)) (hW : ∀ i k, V c main_v8 (ix2 i k) = ((W i k : ℝ) : EReal))
  (hX : ∀ i k, V c main_arg0 (ix2 i k) = ((X i k : ℝ) : EReal)) (hg : ∀ k, V c main_v9 (ix2 (0 : Fin 1) k) = ((g k : ℝ) : EReal))
include hO hW hX

/-- The array of the projection plus the input. -/
theorem x2_array : (Gen.dat0 V c).arrAt 4 cfg0.N = fun y : S4096x1024.Idx => ((xres X O W (y 0) (y 1) : ℝ) : EReal) := by
  refine (Gen.dat0 V c).arrAt_eq_of_covers 4 _ (by decide +kernel) fun t hf y => ?_
  blk_simp
  rw [Gen.after0_4]
  obtain ⟨i, d, rfl⟩ : ∃ (i d : Fin 1024), y = ix2 i d := ⟨y 0, y 1, ValueIdx.eq_ix2 (n0 := 1024) (n1 := 1024) y⟩
  have e0 : (win0_4.blk t).view.emb (ix2 i d) 0 = row4 ⟨t.val, lt0 t⟩ i := Fin.ext (by unfold row4; blk_simp [idx0 t]; rfl)
  have e1 : (win0_4.blk t).view.emb (ix2 i d) 1 = d := Fin.ext (by blk_simp [idx0 t] <;> simp <;> rfl)
  rw [e0, e1]
  refine (proj_block (O := fun i => O (row4 ⟨t.val, lt0 t⟩ i)) (X := fun i => X (row4 ⟨t.val, lt0 t⟩ i)) (W := W) ?_ ?_ ?_ i d)
  · intro i k; rw [← hO]; blk_ext [Gen.iblk0, idx0 t, row4]
  · intro i k; rw [← hW]; blk_ext [Gen.iblk0, idx0 t]
  · intro i k; rw [← hX]; blk_ext [Gen.iblk0, idx0 t, row4]

include hg in
/-- The array of the normed and scaled rows. -/
theorem hf_array : (Gen.dat0 V c).arrAt 5 cfg0.N = fun y : S4096x1024.Idx => ((norm (xres X O W (y 0)) g (y 1) : ℝ) : EReal) := by
  refine (Gen.dat0 V c).arrAt_eq_of_covers 5 _ (by decide +kernel) fun t hf y => ?_
  blk_simp
  rw [Gen.after0_5]
  obtain ⟨i, d, rfl⟩ : ∃ (i d : Fin 1024), y = ix2 i d := ⟨y 0, y 1, ValueIdx.eq_ix2 (n0 := 1024) (n1 := 1024) y⟩
  have e0 : (win0_5.blk t).view.emb (ix2 i d) 0 = row4 ⟨t.val, lt0 t⟩ i := Fin.ext (by unfold row4; blk_simp [idx0 t]; rfl)
  have e1 : (win0_5.blk t).view.emb (ix2 i d) 1 = d := Fin.ext (by blk_simp [idx0 t] <;> simp <;> rfl)
  rw [e0, e1]
  refine (norm_block (O := fun i => O (row4 ⟨t.val, lt0 t⟩ i)) (X := fun i => X (row4 ⟨t.val, lt0 t⟩ i)) (W := W) (G := g) ?_ ?_ ?_ ?_ i d)
  · intro i k; rw [← hO]; blk_ext [Gen.iblk0, idx0 t, row4]
  · intro i k; rw [← hW]; blk_ext [Gen.iblk0, idx0 t]
  · intro i k; rw [← hX]; blk_ext [Gen.iblk0, idx0 t, row4]
  · intro k; rw [← hg]; blk_ext [Gen.iblk0, idx0 t]

end proj

/-- The column block of a grid point. -/
def colOf (n : ℕ) (h : n < 32) : Fin 4 := ⟨n / 8, by omega⟩

/-- The row block of a grid point. -/
def rowOf (n : ℕ) : Fin 8 := ⟨n % 8, by omega⟩

/-- Where the blocks of the first product's grid lie. -/
theorem idx1 : ∀ t : Fin cfg1.N, (win1_0.index t = ![t.val % 8, 0] ∧ win1_1.index t = ![32 * (t.val % 8) - 1, 0] ∧ win1_2.index t = ![min (32 * (t.val % 8 + 1)) 255, 0] ∧
    win1_3.index t = ![0, t.val / 8, 0, 0] ∧ win1_4.index t = ![0, t.val / 8, 0, 0] ∧ win1_5.index t = ![0, t.val / 8, 0, 0]) ∧
    win1_6.index t = ![0, t.val / 8, t.val % 8, 0] ∧ win1_7.index t = ![t.val / 8, t.val % 8, 0] ∧ (grid1.coords t 1).val = t.val % 8 := by
  decide +kernel

/-- The first product's grid has 32 points. -/
theorem lt1 (t : Fin cfg1.N) : t.val < 32 := lt_of_lt_of_eq t.isLt Gen.N_1

section up
variable {H : Fin 4096 → Fin 1024 → ℝ} {W : Fin 2 → Fin 4 → Fin 1024 → Fin 704 → ℝ} {C : Fin 2 → Fin 4 → Fin 3 → Fin 704 → ℝ} {B : Fin 2 → Fin 4 → Fin 704 → ℝ}
  (hH : ∀ i k, V c main_v10_1 (ix2 i k) = ((H i k : ℝ) : EReal))
  (hW : ∀ s b (d : Fin 1024) n, V c main_v11 (ix4 s b (upRow d) n) = ((W s b d n : ℝ) : EReal))
  (hC : ∀ s b j n, V c main_v6 (ix4 s b j n) = ((C s b j n : ℝ) : EReal)) (hB : ∀ s b n, V c main_v7 (ix4 s b (0 : Fin 1) n) = ((B s b n : ℝ) : EReal))
include hH hW

/-- The array of the first product. -/
theorem u_array : (Gen.dat1 V c).arrAt 6 cfg1.N = fun y : S2x4x4096x704.Idx => ((pre H (W (y 0) (y 1)) (y 2) (y 3) : ℝ) : EReal) := by
  refine (Gen.dat1 V c).arrAt_eq_of_covers 6 _ (by decide +kernel) fun t hf y => ?_
  blk_simp
  rw [Gen.after1_6]
  obtain ⟨s, z, r, n, rfl⟩ : ∃ (s : Fin 2) (z : Fin 1) (r : Fin 512) (n : Fin 704), y = ix4 s z r n := ⟨y 0, y 1, y 2, y 3, ValueIdx.eq_ix4 (n0 := 2) (n1 := 1) (n2 := 512) (n3 := 704) y⟩
  obtain rfl : z = 0 := Subsingleton.elim _ _
  obtain ⟨⟨i0, i1, i2, i3, i4, i5⟩, i6, i7, ik⟩ := idx1 t
  have e0 : (win1_6.blk t).view.emb (ix4 s 0 r n) 0 = s := Fin.ext (by blk_simp [i6] <;> simp <;> rfl)
  have e1 : (win1_6.blk t).view.emb (ix4 s 0 r n) 1 = colOf t.val (lt1 t) := Fin.ext (by unfold colOf; blk_simp [i6] <;> rfl)
  have e2 : (win1_6.blk t).view.emb (ix4 s 0 r n) 2 = row (rowOf t.val) r := Fin.ext (by rw [row_eq]; unfold rowOf; blk_simp [i6] <;> rfl)
  have e3 : (win1_6.blk t).view.emb (ix4 s 0 r n) 3 = n := Fin.ext (by blk_simp [i6] <;> simp <;> rfl)
  rw [e0, e1, e2, e3]
  refine up_block (H := H) (W := fun s => W s (colOf t.val (lt1 t))) (P := fun r d => H ⟨(32 * (t.val % 8) - 1) * 16 + r.val, by omega⟩ d) (Q := fun r d => H ⟨min (32 * (t.val % 8 + 1)) 255 * 16 + r.val, by omega⟩ d)
    ik ?_ ?_ ?_ ?_ ?_ ?_ s r n
  · intro r d; rw [← hH, row_eq]; blk_ext [Gen.iblk1, i0, rowOf]
  · intro r d; rw [← hH]; blk_ext [Gen.iblk1, i1]
  · intro e r d he; refine congrArg (fun i => H i d) (Fin.ext ?_); unfold rowOf at he; dsimp only at he ⊢; omega
  · intro r d; rw [← hH]; blk_ext [Gen.iblk1, i2]
  · intro e r d he; refine congrArg (fun i => H i d) (Fin.ext ?_); unfold rowOf at he; dsimp only at he ⊢; omega
  · intro s d n; rw [← hW]; blk_ext [Gen.iblk1, i3, colOf]; rfl

set_option maxHeartbeats 1600000 in
include hC hB in
/-- The array of the activation. -/
theorem act_array : (Gen.dat1 V c).arrAt 7 cfg1.N = fun y : S4x4096x704.Idx => ((gate
      (conv (fun i => pre H (W 0 (y 0)) i (y 2)) (fun j => C 0 (y 0) j (y 2)) (B 0 (y 0) (y 2)) (y 1))
      (conv (fun i => pre H (W 1 (y 0)) i (y 2)) (fun j => C 1 (y 0) j (y 2)) (B 1 (y 0) (y 2)) (y 1)) : ℝ) : EReal) := by
  refine (Gen.dat1 V c).arrAt_eq_of_covers 7 _ (by decide +kernel) fun t hf y => ?_
  blk_simp
  rw [Gen.after1_7]
  obtain ⟨z, r, n, rfl⟩ : ∃ (z : Fin 1) (r : Fin 512) (n : Fin 704), y = ix3 z r n := ⟨y 0, y 1, y 2, ValueIdx.eq_ix3 (n0 := 1) (n1 := 512) (n2 := 704) y⟩
  obtain rfl : z = 0 := Subsingleton.elim _ _
  obtain ⟨⟨i0, i1, i2, i3, i4, i5⟩, i6, i7, ik⟩ := idx1 t
  have e1 : (win1_7.blk t).view.emb (ix3 0 r n) 0 = colOf t.val (lt1 t) := Fin.ext (by unfold colOf; blk_simp [i7] <;> rfl)
  have e2 : (win1_7.blk t).view.emb (ix3 0 r n) 1 = row (rowOf t.val) r := Fin.ext (by rw [row_eq]; unfold rowOf; blk_simp [i7] <;> rfl)
  have e3 : (win1_7.blk t).view.emb (ix3 0 r n) 2 = n := Fin.ext (by blk_simp [i7] <;> simp <;> rfl)
  rw [e1, e2, e3]
  refine act_block (H := H) (W := fun s => W s (colOf t.val (lt1 t))) (C := fun s => C s (colOf t.val (lt1 t))) (B := fun s => B s (colOf t.val (lt1 t)))
    (P := fun r d => H ⟨(32 * (t.val % 8) - 1) * 16 + r.val, by omega⟩ d) (Q := fun r d => H ⟨min (32 * (t.val % 8 + 1)) 255 * 16 + r.val, by omega⟩ d)
    ik ?_ ?_ ?_ ?_ ?_ ?_ ?_ ?_ r n
  · intro r d; rw [← hH, row_eq]; blk_ext [Gen.iblk1, i0, rowOf]
  · intro r d; rw [← hH]; blk_ext [Gen.iblk1, i1]
  · intro e r d he; refine congrArg (fun i => H i d) (Fin.ext ?_); unfold rowOf at he; dsimp only at he ⊢; omega
  · intro r d; rw [← hH]; blk_ext [Gen.iblk1, i2]
  · intro e r d he; refine congrArg (fun i => H i d) (Fin.ext ?_); unfold rowOf at he; dsimp only at he ⊢; omega
  · intro s d n; rw [← hW]; blk_ext [Gen.iblk1, i3, colOf]; rfl
  · intro s j n; rw [← hC]; blk_ext [Gen.iblk1, i4, colOf]
  · intro s n; rw [← hB]; blk_ext [Gen.iblk1, i5, colOf]

end up

/-- Where the blocks of the second product's grid lie. -/
theorem idx2 : ∀ t : Fin cfg2.N, win2_0.index t = ![0, t.val, 0] ∧ win2_1.index t = ![0, 0] ∧ win2_2.index t = ![t.val, 0] ∧ win2_3.index t = ![t.val, 0] := by
  decide +kernel

/-- The second product's grid has 4 points. -/
theorem lt2 (t : Fin cfg2.N) : t.val < 4 := lt_of_lt_of_eq t.isLt Gen.N_2

/-- The array of the second product plus the residual. -/
theorem x3_array {A : Fin 4 → Fin 4096 → Fin 704 → ℝ} {W : Fin 2816 → Fin 1024 → ℝ} {X : Fin 4096 → Fin 1024 → ℝ}
    (hA : ∀ b i n, V c main_v12_1 (ix3 b i n) = ((A b i n : ℝ) : EReal)) (hW : ∀ y d, V c main_v0 (ix2 y d) = ((W y d : ℝ) : EReal))
    (hX : ∀ i d, V c main_v10_0 (ix2 i d) = ((X i d : ℝ) : EReal)) :
    (Gen.dat2 V c).arrAt 3 cfg2.N = fun y : S4096x1024.Idx =>
      ((X (y 0) (y 1) + ∑ z : Fin 2816, A (hidBlk z) (y 0) (hidPos z) * W z (y 1) : ℝ) : EReal) := by
  refine (Gen.dat2 V c).arrAt_eq_of_covers 3 _ (by decide +kernel) fun t hf y => ?_
  blk_simp
  rw [Gen.after2_3]
  obtain ⟨i, d, rfl⟩ : ∃ (i d : Fin 1024), y = ix2 i d := ⟨y 0, y 1, ValueIdx.eq_ix2 (n0 := 1024) (n1 := 1024) y⟩
  have e0 : (win2_3.blk t).view.emb (ix2 i d) 0 = row4 ⟨t.val, lt2 t⟩ i := Fin.ext (by unfold row4; blk_simp [idx2 t]; rfl)
  have e1 : (win2_3.blk t).view.emb (ix2 i d) 1 = d := Fin.ext (by blk_simp [idx2 t] <;> simp <;> rfl)
  rw [e0, e1]
  refine (down_block (A := fun b i => A b (row4 ⟨t.val, lt2 t⟩ i)) (X := fun i => X (row4 ⟨t.val, lt2 t⟩ i)) (W := W) ?_ ?_ ?_ i d)
  · intro b i n; rw [← hA]; blk_ext [Gen.iblk2, idx2 t, row4]
  · intro i k; rw [← hW]; blk_ext [Gen.iblk2, idx2 t]
  · intro i k; rw [← hX]; blk_ext [Gen.iblk2, idx2 t, row4]

/-- Where the blocks of the gradient's grid lie. -/
theorem idx3 : ∀ t : Fin cfg3.N, (win3_0.index t = ![0, t.val / 8, t.val % 8, 0] ∧ win3_1.index t = ![0, t.val / 8, 64 * (t.val % 8) - 1, 0] ∧
    win3_2.index t = ![0, t.val / 8, min (64 * (t.val % 8 + 1)) 511, 0]) ∧
    (win3_3.index t = ![t.val % 8, 0] ∧ win3_4.index t = ![64 * (t.val % 8) - 1, 0] ∧ win3_5.index t = ![min (64 * (t.val % 8 + 1)) 511, 0]) ∧
    (win3_6.index t = ![t.val / 8, 0] ∧ win3_7.index t = ![0, t.val / 8, 0, 0] ∧ win3_8.index t = ![0, t.val / 8, 0, 0]) ∧
    win3_9.index t = ![0, t.val / 8, t.val % 8, 0] ∧ win3_10.index t = ![0, t.val / 8, 0, 0] ∧ (grid3.coords t 1).val = t.val % 8 := by
  decide +kernel

/-- The gradient's grid has 32 points. -/
theorem lt3 (t : Fin cfg3.N) : t.val < 32 := lt_of_lt_of_eq t.isLt Gen.N_3

/-- What the gradient's call finds in its arrays. -/
structure Entry (V : (c : Dev nD) → (b : Ref sig .tc) → Buf (Elt Ideal) ((c.tc : Thread nD τ).loc b)) (c : Dev nD) (U : Fin 2 → Fin 4 → Fin 4096 → Fin 704 → ℝ) (G : Fin 4096 → Fin 1024 → ℝ)
    (W : Fin 2816 → Fin 1024 → ℝ) (C : Fin 2 → Fin 4 → Fin 3 → Fin 704 → ℝ) (B : Fin 2 → Fin 4 → Fin 704 → ℝ) : Prop where
  u : ∀ s b i n, V c main_v12_0 (ix4 s b i n) = ((U s b i n : ℝ) : EReal)
  g : ∀ i d, V c main_arg8 (ix2 i d) = ((G i d : ℝ) : EReal)
  w : ∀ y d, V c main_v0 (ix2 y d) = ((W y d : ℝ) : EReal)
  cw : ∀ s b j n, V c main_v6 (ix4 s b j n) = ((C s b j n : ℝ) : EReal)
  cb : ∀ s b n, V c main_v7 (ix4 s b (0 : Fin 1) n) = ((B s b n : ℝ) : EReal)

section grad
variable {U : Fin 2 → Fin 4 → Fin 4096 → Fin 704 → ℝ} {G : Fin 4096 → Fin 1024 → ℝ} {W : Fin 2816 → Fin 1024 → ℝ} {C : Fin 2 → Fin 4 → Fin 3 → Fin 704 → ℝ} {B : Fin 2 → Fin 4 → Fin 704 → ℝ}
  (E : Entry V c U G W C B)
include E

set_option maxHeartbeats 3200000 in
/-- The blocks a point of the gradient's grid reads. -/
theorem blocks (t : Fin cfg3.N) :
    ((∀ s r n, (Gen.iblk3 V c 0 t : S2x1x512x704.Idx → EReal) (ix4 s 0 r n) = ((U s (colOf t.val (lt3 t)) (row (rowOf t.val) r) n : ℝ) : EReal)) ∧
    (∀ s (r : Fin 8) n, (Gen.iblk3 V c 1 t : S2x1x8x704.Idx → EReal) (ix4 s 0 r n) = ((U s (colOf t.val (lt3 t)) ⟨(64 * (t.val % 8) - 1) * 8 + r.val, by omega⟩ n : ℝ) : EReal)) ∧
    (∀ s (r : Fin 8) n, (Gen.iblk3 V c 2 t : S2x1x8x704.Idx → EReal) (ix4 s 0 r n) = ((U s (colOf t.val (lt3 t)) ⟨min (64 * (t.val % 8 + 1)) 511 * 8 + r.val, by omega⟩ n : ℝ) : EReal))) ∧
    ((∀ r d, (Gen.iblk3 V c 3 t : S512x1024.Idx → EReal) (ix2 r d) = ((G (row (rowOf t.val) r) d : ℝ) : EReal)) ∧
    (∀ (r : Fin 8) d, (Gen.iblk3 V c 4 t : S8x1024.Idx → EReal) (ix2 r d) = ((G ⟨(64 * (t.val % 8) - 1) * 8 + r.val, by omega⟩ d : ℝ) : EReal)) ∧
    (∀ (r : Fin 8) d, (Gen.iblk3 V c 5 t : S8x1024.Idx → EReal) (ix2 r d) = ((G ⟨min (64 * (t.val % 8 + 1)) 511 * 8 + r.val, by omega⟩ d : ℝ) : EReal))) ∧
    (∀ n d, (Gen.iblk3 V c 6 t : S704x1024.Idx → EReal) (ix2 n d) = ((W (hidRow (colOf t.val (lt3 t)) n) d : ℝ) : EReal)) ∧
    (∀ s j n, (Gen.iblk3 V c 7 t : S2x1x3x704.Idx → EReal) (ix4 s 0 j n) = ((C s (colOf t.val (lt3 t)) j n : ℝ) : EReal)) ∧
    (∀ s n, (Gen.iblk3 V c 8 t : S2x1x1x704.Idx → EReal) (ix4 s 0 0 n) = ((B s (colOf t.val (lt3 t)) n : ℝ) : EReal)) := by
  obtain ⟨⟨i0, i1, i2⟩, ⟨i3, i4, i5⟩, ⟨i6, i7, i8⟩, -⟩ := idx3 t
  refine ⟨⟨?_, ?_, ?_⟩, ⟨?_, ?_, ?_⟩, ?_, ?_, ?_⟩
  · intro s r n; rw [← E.u, row_eq]; blk_ext [Gen.iblk3, i0, rowOf, colOf]
  · intro s r n; rw [← E.u]; blk_ext [Gen.iblk3, i1, colOf]
  · intro s r n; rw [← E.u]; blk_ext [Gen.iblk3, i2, colOf]
  · intro r d; rw [← E.g, row_eq]; blk_ext [Gen.iblk3, i3, rowOf]
  · intro r d; rw [← E.g]; blk_ext [Gen.iblk3, i4]
  · intro r d; rw [← E.g]; blk_ext [Gen.iblk3, i5]
  · intro n d; rw [← E.w]; blk_ext [Gen.iblk3, i6, hidRow, colOf]
  · intro s j n; rw [← E.cw]; blk_ext [Gen.iblk3, i7, colOf]
  · intro s n; rw [← E.cb]; blk_ext [Gen.iblk3, i8, colOf]

/-- A point's block of the first product's gradient. -/
theorem du_point (t : Fin cfg3.N) (s : Fin 2) (r : Fin 512) (n : Fin 704) : (Gen.outsAt3 V c t.val t.isLt).1 (ix4 s 0 r n)
    = ((convT (fun i => dcol U G W C B (colOf t.val (lt3 t)) s i n) (fun j => C s (colOf t.val (lt3 t)) j n) (row (rowOf t.val) r) : ℝ) : EReal) := by
  obtain ⟨⟨a0, a1, a2⟩, ⟨a3, a4, a5⟩, a6, a7, a8⟩ := blocks E t
  refine du_block (W := fun n => W (hidRow (colOf t.val (lt3 t)) n)) (U := fun s => U s (colOf t.val (lt3 t))) (C := fun s => C s (colOf t.val (lt3 t))) (B := fun s => B s (colOf t.val (lt3 t)))
    (idx3 t).2.2.2.2.2 a0 a1 ?_ a2 ?_ a3 a4 ?_ a5 ?_ a6 a7 a8 rfl rfl rfl rfl rfl rfl rfl rfl rfl s r n
  · intro e s r n he; refine congrArg (fun i => U s _ i n) (Fin.ext ?_); unfold rowOf at he; dsimp only at he ⊢; omega
  · intro e s r n he; refine congrArg (fun i => U s _ i n) (Fin.ext ?_); unfold rowOf at he; dsimp only at he ⊢; omega
  · intro e r d he; refine congrArg (fun i => G i d) (Fin.ext ?_); unfold rowOf at he; dsimp only at he ⊢; omega
  · intro e r d he; refine congrArg (fun i => G i d) (Fin.ext ?_); unfold rowOf at he; dsimp only at he ⊢; omega

/-- The first row block begins the sums over rows. -/
theorem st_point_first (t : Fin cfg3.N) (h : t.val % 8 = 0) (s : Fin 2) (r : Fin 8) (n : Fin 704) : (Gen.outsAt3 V c t.val t.isLt).2 (ix4 s 0 r n)
    = ((part (dcol U G W C B (colOf t.val (lt3 t)) s) (U s (colOf t.val (lt3 t))) (rowOf t.val) r.val n : ℝ) : EReal) := by
  obtain ⟨⟨a0, a1, a2⟩, ⟨a3, a4, a5⟩, a6, a7, a8⟩ := blocks E t
  refine st_first (W := fun n => W (hidRow (colOf t.val (lt3 t)) n)) (U := fun s => U s (colOf t.val (lt3 t))) (C := fun s => C s (colOf t.val (lt3 t))) (B := fun s => B s (colOf t.val (lt3 t)))
    (idx3 t).2.2.2.2.2 a0 a1 ?_ a2 ?_ a3 a4 ?_ a5 ?_ a6 a7 a8 rfl rfl rfl rfl rfl rfl rfl rfl rfl h s r n
  · intro e s r n he; refine congrArg (fun i => U s _ i n) (Fin.ext ?_); unfold rowOf at he; dsimp only at he ⊢; omega
  · intro e s r n he; refine congrArg (fun i => U s _ i n) (Fin.ext ?_); unfold rowOf at he; dsimp only at he ⊢; omega
  · intro e r d he; refine congrArg (fun i => G i d) (Fin.ext ?_); unfold rowOf at he; dsimp only at he ⊢; omega
  · intro e r d he; refine congrArg (fun i => G i d) (Fin.ext ?_); unfold rowOf at he; dsimp only at he ⊢; omega

/-- Each later one adds to them. -/
theorem st_point_next (t : Fin cfg3.N) (h : ¬ t.val % 8 = 0) {O : Fin 2 → Fin 8 → Fin 704 → ℝ}
    (ho : ∀ s r n, (Gen.outsAt3 V c (t.val - 1) (Nat.lt_of_le_of_lt (Nat.sub_le _ _) t.isLt)).2 (ix4 s 0 r n) = ((O s r n : ℝ) : EReal)) (s : Fin 2) (r : Fin 8) (n : Fin 704) :
    (Gen.outsAt3 V c t.val t.isLt).2 (ix4 s 0 r n)
    = ((O s r n + part (dcol U G W C B (colOf t.val (lt3 t)) s) (U s (colOf t.val (lt3 t))) (rowOf t.val) r.val n : ℝ) : EReal) := by
  obtain ⟨⟨a0, a1, a2⟩, ⟨a3, a4, a5⟩, a6, a7, a8⟩ := blocks E t
  refine st_next (W := fun n => W (hidRow (colOf t.val (lt3 t)) n)) (U := fun s => U s (colOf t.val (lt3 t))) (C := fun s => C s (colOf t.val (lt3 t))) (B := fun s => B s (colOf t.val (lt3 t)))
    (idx3 t).2.2.2.2.2 a0 a1 ?_ a2 ?_ a3 a4 ?_ a5 ?_ a6 a7 a8 rfl rfl rfl rfl rfl rfl rfl rfl rfl h rfl ho s r n
  · intro e s r n he; refine congrArg (fun i => U s _ i n) (Fin.ext ?_); unfold rowOf at he; dsimp only at he ⊢; omega
  · intro e s r n he; refine congrArg (fun i => U s _ i n) (Fin.ext ?_); unfold rowOf at he; dsimp only at he ⊢; omega
  · intro e r d he; refine congrArg (fun i => G i d) (Fin.ext ?_); unfold rowOf at he; dsimp only at he ⊢; omega
  · intro e r d he; refine congrArg (fun i => G i d) (Fin.ext ?_); unfold rowOf at he; dsimp only at he ⊢; omega

/-- The sums over the row blocks up to a point. -/
theorem st_run : ∀ (k : ℕ) (h : k < cfg3.N) (hk : k < 32) (s : Fin 2) (r : Fin 8) (n : Fin 704), (Gen.outsAt3 V c k h).2 (ix4 s 0 r n)
    = ((∑ j ∈ Finset.range (k % 8 + 1), part (dcol U G W C B (colOf k hk) s) (U s (colOf k hk)) (rowOf j) r.val n : ℝ) : EReal) := by
  intro k
  induction k with
  | zero =>
    intro h hk s r n
    refine (st_point_first E ⟨0, h⟩ rfl s r n).trans ?_
    rw [show 0 % 8 + 1 = 1 from rfl, Finset.sum_range_one]
  | succ k ih =>
    intro h hk s r n
    by_cases h8 : (k + 1) % 8 = 0
    · refine (st_point_first E ⟨k + 1, h⟩ h8 s r n).trans ?_
      rw [h8, Finset.sum_range_one]
      refine congrArg Real.toEReal (congrArg (fun j => part _ _ j _ _) (Fin.ext ?_))
      show (k + 1) % 8 = 0 % 8
      omega
    · refine (st_point_next E ⟨k + 1, h⟩ h8 (fun s r n => ih (by omega) (by omega) s r n) s r n).trans ?_
      have e1 : colOf k (by omega) = colOf (k + 1) hk := Fin.ext (by show k / 8 = (k + 1) / 8; omega)
      have e2 : (k + 1) % 8 = k % 8 + 1 := by omega
      have e3 : rowOf (k + 1) = rowOf (k % 8 + 1) := Fin.ext (by show (k + 1) % 8 = (k % 8 + 1) % 8; omega)
      rw [e2, Finset.sum_range_succ _ (k % 8 + 1), e1]
      show ((_ + part _ _ (rowOf (k + 1)) _ _ : ℝ) : EReal) = _
      rw [e3]

/-- The array of the first product's gradient. -/
theorem du_array : (Gen.dat3 V c).arrAt 9 cfg3.N = fun y : S2x4x4096x704.Idx =>
    ((convT (fun i => dcol U G W C B (y 1) (y 0) i (y 3)) (fun j => C (y 0) (y 1) j (y 3)) (y 2) : ℝ) : EReal) := by
  refine (Gen.dat3 V c).arrAt_eq_of_covers 9 _ (by decide +kernel) fun t hf y => ?_
  blk_simp
  rw [Gen.after3_9]
  obtain ⟨s, z, r, n, rfl⟩ : ∃ (s : Fin 2) (z : Fin 1) (r : Fin 512) (n : Fin 704), y = ix4 s z r n := ⟨y 0, y 1, y 2, y 3, ValueIdx.eq_ix4 (n0 := 2) (n1 := 1) (n2 := 512) (n3 := 704) y⟩
  obtain rfl : z = 0 := Subsingleton.elim _ _
  have i9 := (idx3 t).2.2.2.1
  have e0 : (win3_9.blk t).view.emb (ix4 s 0 r n) 0 = s := Fin.ext (by blk_simp [i9] <;> simp <;> rfl)
  have e1 : (win3_9.blk t).view.emb (ix4 s 0 r n) 1 = colOf t.val (lt3 t) := Fin.ext (by unfold colOf; blk_simp [i9] <;> rfl)
  have e2 : (win3_9.blk t).view.emb (ix4 s 0 r n) 2 = row (rowOf t.val) r := Fin.ext (by rw [row_eq]; unfold rowOf; blk_simp [i9] <;> rfl)
  have e3 : (win3_9.blk t).view.emb (ix4 s 0 r n) 3 = n := Fin.ext (by blk_simp [i9] <;> simp <;> rfl)
  rw [e0, e1, e2, e3]
  exact du_point E t s r n

omit E in
/-- The sums over the row blocks are the sums over the rows. -/
theorem part_sum (D X : Fin 4096 → Fin 704 → ℝ) (r : ℕ) (n : Fin 704) :
    ∑ j ∈ Finset.range 8, part D X (rowOf j) r n = ∑ i, convW (fun i => D i n) (fun i => X i n) r i := by
  rw [Finset.sum_range]
  unfold part
  rw [← Equiv.sum_comp (finProdFinEquiv : Fin 8 × Fin 512 ≃ Fin (8 * 512)) (fun i : Fin (8 * 512) => convW (fun i => D i n) (fun i => X i n) r i), Fintype.sum_prod_type]
  refine Finset.sum_congr rfl fun k _ => Finset.sum_congr rfl fun i _ => congrArg _ (Fin.ext ?_)
  show 512 * (k.val % 8) + i.val = i.val + 512 * k.val
  omega

/-- The array of the sums over rows that give the gradients of the convolution's weights and bias. -/
theorem st_array : (Gen.dat3 V c).arrAt 10 cfg3.N = fun y : S2x4x8x704.Idx =>
    ((wsum U G W C B (y 0) (y 1) (y 2) (y 3) : ℝ) : EReal) := by
  refine (Gen.dat3 V c).arrAt_eq_of_covers 10 _ (by decide +kernel) fun t hf y => ?_
  blk_simp
  rw [Gen.after3_10]
  obtain ⟨s, z, r, n, rfl⟩ : ∃ (s : Fin 2) (z : Fin 1) (r : Fin 8) (n : Fin 704), y = ix4 s z r n := ⟨y 0, y 1, y 2, y 3, ValueIdx.eq_ix4 (n0 := 2) (n1 := 1) (n2 := 8) (n3 := 704) y⟩
  obtain rfl : z = 0 := Subsingleton.elim _ _
  have i9 := (idx3 t).2.2.2.2.1
  have e0 : (win3_10.blk t).view.emb (ix4 s 0 r n) 0 = s := Fin.ext (by blk_simp [i9] <;> simp <;> rfl)
  have e1 : (win3_10.blk t).view.emb (ix4 s 0 r n) 1 = colOf t.val (lt3 t) := Fin.ext (by unfold colOf; blk_simp [i9] <;> rfl)
  have e2 : (win3_10.blk t).view.emb (ix4 s 0 r n) 2 = r := Fin.ext (by blk_simp [i9] <;> simp <;> rfl)
  have e3 : (win3_10.blk t).view.emb (ix4 s 0 r n) 3 = n := Fin.ext (by blk_simp [i9] <;> simp <;> rfl)
  rw [e0, e1, e2, e3]
  refine (st_run E t.val t.isLt (lt3 t) s r n).trans ?_
  rw [(Gen.flush3_10 t).mp hf, part_sum]
  rfl

end grad

/-- Where the blocks of the weights' gradient's grid lie. -/
theorem idx4 : ∀ t : Fin cfg4.N, win4_0.index t = ![0, 0] ∧ win4_1.index t = ![t.val, 0, 0] ∧ win4_2.index t = ![t.val, 0, 0] := by
  decide +kernel

/-- The weights' gradient's grid has 8 points. -/
theorem lt4 (t : Fin cfg4.N) : t.val < 8 := lt_of_lt_of_eq t.isLt Gen.N_4

/-- The array of the gradient of the first product's weights. -/
theorem dup_array {H : Fin 4096 → Fin 1024 → ℝ} {D : Fin 8 → Fin 4096 → Fin 704 → ℝ}
    (hH : ∀ i d, V c main_v10_1 (ix2 i d) = ((H i d : ℝ) : EReal)) (hD : ∀ y i n, V c main_v15 (ix3 y i n) = ((D y i n : ℝ) : EReal)) :
    (Gen.dat4 V c).arrAt 2 cfg4.N = fun y : S8x1024x704.Idx => ((∑ i, H i (y 1) * D (y 0) i (y 2) : ℝ) : EReal) := by
  refine (Gen.dat4 V c).arrAt_eq_of_covers 2 _ (by decide +kernel) fun t hf y => ?_
  blk_simp
  rw [Gen.after4_2]
  obtain ⟨z, d, n, rfl⟩ : ∃ (z : Fin 1) (d : Fin 1024) (n : Fin 704), y = ix3 z d n := ⟨y 0, y 1, y 2, ValueIdx.eq_ix3 (n0 := 1) (n1 := 1024) (n2 := 704) y⟩
  obtain rfl : z = 0 := Subsingleton.elim _ _
  have e0 : (win4_2.blk t).view.emb (ix3 0 d n) 0 = ⟨t.val, lt4 t⟩ := Fin.ext (by blk_simp [idx4 t] <;> simp <;> rfl)
  have e1 : (win4_2.blk t).view.emb (ix3 0 d n) 1 = d := Fin.ext (by blk_simp [idx4 t] <;> simp <;> rfl)
  have e2 : (win4_2.blk t).view.emb (ix3 0 d n) 2 = n := Fin.ext (by blk_simp [idx4 t] <;> simp <;> rfl)
  rw [e0, e1, e2]
  refine (dup_block (H := H) (D := D ⟨t.val, lt4 t⟩) ?_ ?_ d n)
  · intro i d; rw [← hH]; blk_ext [Gen.iblk4, idx4 t]
  · intro i n; rw [← hD]; blk_ext [Gen.iblk4, idx4 t]

end Cert.Proof.Mlp0

end
-- ==== Proof.Mlp0Ref.lean ====
/-
  What the reference of the gated MLP computes, among the reals: its intermediate arrays one by one, up to its six
  results.
-/
module

public import proofs.«01_k».proof.Proof.MlpRef
public import proofs.«01_k».proof.Proof.RefRun
public import proofs.«01_k».proof.Proof.Gen.Reference5Ideal.Read
public import proofs.«01_k».proof.Proof.Gen.Reference5Ideal.Run

@[expose] public section

set_option maxRecDepth 16384

noncomputable section

namespace Cert.Proof.Mlp0Ref

open Idealize.ShloMosaic hiding ix1 ix2 ix3 ix4
open Idealize.ShloMosaic.TcCoe Idealize.SL Idealize.SL.Sem Idealize.ShloMosaic.ValueIdx Cert.Proof.Mlp
open Cert.Reference5Ideal Cert.Reference5Ideal.Read Cert.Reference5Ideal.Facts₀
open Cert.Proof.MlpRef hiding Given
open scoped BigOperators

/-- The reference's nine arguments are these real numbers. -/
structure Given (x0 : (⟨S4096x1024, .f32⟩ : BufTy).Contents (Elt Ideal)) (x1 : (⟨S4096x1024, .bf16⟩ : BufTy).Contents (Elt Ideal))
    (x2 : (⟨S1024x1024, .f32⟩ : BufTy).Contents (Elt Ideal)) (x3 : (⟨S1024, .f32⟩ : BufTy).Contents (Elt Ideal))
    (x4 : (⟨S2x1024x5632, .f32⟩ : BufTy).Contents (Elt Ideal)) (x5 : (⟨S3x5632, .f32⟩ : BufTy).Contents (Elt Ideal))
    (x6 : (⟨S5632, .f32⟩ : BufTy).Contents (Elt Ideal)) (x7 : (⟨S2816x1024, .f32⟩ : BufTy).Contents (Elt Ideal))
    (x8 : (⟨S4096x1024, .f32⟩ : BufTy).Contents (Elt Ideal)) (P : Reals) : Prop where
  /-- The input rows. -/
  a0 : ∀ (i : Fin 4096) (d : Fin 1024), x0 (ix2 i d) = ((P.X i d : ℝ) : EReal)
  /-- The attention's output rows. -/
  a1 : ∀ (i : Fin 4096) (d : Fin 1024), x1 (ix2 i d) = ((P.O i d : ℝ) : EReal)
  /-- The projection. -/
  a2 : ∀ (k d : Fin 1024), x2 (ix2 k d) = ((P.WO k d : ℝ) : EReal)
  /-- The norm's gain. -/
  a3 : ∀ (d : Fin 1024), x3 (ix1 d) = ((P.gain d : ℝ) : EReal)
  /-- The weight up. -/
  a4 : ∀ (d : Fin 1024) (y : Fin 5632), x4 (ix3 0 d y) = ((P.W d y : ℝ) : EReal)
  /-- The convolution's weights. -/
  a5 : ∀ (t : Fin 3) (y : Fin 5632), x5 (ix2 t y) = ((P.CW t y : ℝ) : EReal)
  /-- The convolution's bias. -/
  a6 : ∀ (y : Fin 5632), x6 (ix1 y) = ((P.CB y : ℝ) : EReal)
  /-- The weight down. -/
  a7 : ∀ (z : Fin 2816) (d : Fin 1024), x7 (ix2 z d) = ((P.WD z d : ℝ) : EReal)
  /-- The gradient. -/
  a8 : ∀ (i : Fin 4096) (d : Fin 1024), x8 (ix2 i d) = ((P.G i d : ℝ) : EReal)

variable {x0 : (⟨S4096x1024, .f32⟩ : BufTy).Contents (Elt Ideal)} {x1 : (⟨S4096x1024, .bf16⟩ : BufTy).Contents (Elt Ideal)}
    {x2 : (⟨S1024x1024, .f32⟩ : BufTy).Contents (Elt Ideal)} {x3 : (⟨S1024, .f32⟩ : BufTy).Contents (Elt Ideal)}
    {x4 : (⟨S2x1024x5632, .f32⟩ : BufTy).Contents (Elt Ideal)} {x5 : (⟨S3x5632, .f32⟩ : BufTy).Contents (Elt Ideal)}
    {x6 : (⟨S5632, .f32⟩ : BufTy).Contents (Elt Ideal)} {x7 : (⟨S2816x1024, .f32⟩ : BufTy).Contents (Elt Ideal)}
    {x8 : (⟨S4096x1024, .f32⟩ : BufTy).Contents (Elt Ideal)} {P : Reals} (E : Given x0 x1 x2 x3 x4 x5 x6 x7 x8 P)

include E

/-- The rows that the layer adds to. -/
theorem ref_x2 : Rep (M := 4096) (N := 1024) (φ := .f32) (val_main_v2 (F := Ideal) x0 x1 x2) (xres P.X P.O P.WO) := fun i d => by
  have e1 : val_main_v1 (F := Ideal) x1 x2 (ix2 i d) = ((∑ k, P.O i k * P.WO k d : ℝ) : EReal) := by
    rw [val_main_v1_apply, coe_sum]
    refine Finset.sum_congr rfl fun k _ => ?_
    exact mul_real (congrArg x1 (funext fun a => by match a with | ⟨0, _⟩ => rfl | ⟨1, _⟩ => rfl))
      (congrArg x2 (funext fun a => by match a with | ⟨0, _⟩ => rfl | ⟨1, _⟩ => rfl)) (E.a1 i k) (E.a2 k d)
  rw [val_main_v2_apply, E.a0 i d, e1]
  exact (EReal.coe_add _ _).symm

/-- The number under the root. -/
theorem ref_mean : Rep (M := 4096) (N := 1) (φ := .f32) (val_main_v9 (F := Ideal) x0 x1 x2) (fun i _ => (∑ d, xres P.X P.O P.WO i d * xres P.X P.O P.WO i d) / 1024 + eps) := by
  have e5 : Rep (M := 4096) (N := 1) (φ := .f32) (val_main_v5 (F := Ideal) x0 x1 x2) (fun i _ => ∑ d, xres P.X P.O P.WO i d * xres P.X P.O P.WO i d) := fun i z => by
    rw [val_main_v5_apply, val_main_v4_apply, val_main_cst_apply, word_zero, zero_add, coe_sum]
    refine Finset.sum_congr rfl fun d _ => ?_
    refine (congrArg (val_main_v3 (F := Ideal) x0 x1 x2) (?_ : _ = ix2 i d)).trans (((ref_x2 E).mul (ref_x2 E)) i d)
    funext a; match a with | ⟨0, _⟩ => rfl | ⟨1, _⟩ => rfl
  have e6 : Rep (M := 4096) (N := 1) (φ := .f32) (val_main_v6 (F := Ideal)) (fun _ _ => 1024) := hconst (fun _ => thousand_word) bcast_S_S4096x1
  have e8 : Rep (M := 4096) (N := 1) (φ := .f32) (val_main_v8 (F := Ideal)) (fun _ _ => eps) := hconst (fun _ => eps_word.1) bcast_S_S4096x1
  exact (hdiv e5 e6 fun _ _ => by norm_num).add e8

/-- The normed rows. -/
theorem ref_hf : Rep (M := 4096) (N := 1024) (φ := .f32) (val_main_v15 (F := Ideal) x0 x1 x2 x3) P.hf := fun i d => by
  have e10 := hrsqrt (ref_mean E) (fun i _ => mean_pos (xres P.X P.O P.WO i)) i (0 : Fin 1)
  have e11 : val_main_v11 (F := Ideal) x0 x1 x2 (ix2 i d) = _ := (val_main_v11_apply x0 x1 x2 (ix2 i d)).trans
    ((congrArg (val_main_v10 (F := Ideal) x0 x1 x2) (funext fun a => by match a with | ⟨0, _⟩ => rfl | ⟨1, _⟩ => rfl : _ = ix2 i (0 : Fin 1))).trans e10)
  have e14 : val_main_v14 (F := Ideal) x3 (ix2 i d) = ((P.gain d : ℝ) : EReal) := by
    rw [val_main_v14_apply, val_main_v13_apply, ← E.a3 d]
    exact congrArg x3 (funext fun a => by match a with | ⟨0, _⟩ => rfl)
  rw [val_main_v15_apply, val_main_v12_apply, ref_x2 E i d, e11, e14]
  show (_ * _ : EReal) * _ = _
  rw [← EReal.coe_mul, ← EReal.coe_mul]
  rfl

/-- The first layer's weights up. -/
theorem ref_w : Rep (M := 1024) (N := 5632) (φ := .f32) (val_main_v17 (F := Ideal) x4) P.W := fun d y => by
  rw [val_main_v17_apply, val_main_v16_apply, ← E.a4 d y]
  refine congrArg x4 (funext fun a => ?_)
  have := d.isLt
  have := y.isLt
  match a with
  | ⟨0, _⟩ => rfl
  | ⟨1, _⟩ => exact Fin.ext (by show (d.val * 5632 + y.val) / 5632 % 1024 = d.val; omega)
  | ⟨2, _⟩ => exact Fin.ext (by show (d.val * 5632 + y.val) % 5632 = y.val; omega)

/-- The rows up. -/
theorem ref_u : Rep (M := 4096) (N := 5632) (φ := .f32) (val_main_v18 (F := Ideal) x0 x1 x2 x3 x4) P.u := fun i y => by
  unfold Reals.u
  rw [val_main_v18_apply, coe_sum]
  refine Finset.sum_congr rfl fun d _ => ?_
  exact mul_real (congrArg (val_main_v15 (F := Ideal) x0 x1 x2 x3) (funext fun a => by match a with | ⟨0, _⟩ => rfl | ⟨1, _⟩ => rfl))
    (congrArg (val_main_v17 (F := Ideal) x4) (funext fun a => by match a with | ⟨0, _⟩ => rfl | ⟨1, _⟩ => rfl)) (ref_hf E i d) (ref_w E d y)

/-- The rows up between two rows of zeros. -/
theorem ref_pad : Rep (M := 4098) (N := 5632) (φ := .f32) (val_main_v20 (F := Ideal) x0 x1 x2 x3 x4) (fun e y => ext (fun i => P.u i y) ((e.val : ℤ) - 1)) := by
  have e19 : Rep (M := 1) (N := 5632) (φ := .f32) (val_main_v19 (F := Ideal)) (fun _ _ => 0) := hconst (fun _ => word_zero) bcast_S_S1x5632
  exact Rep.cat3 e19 (ref_u E) e19 _ rfl _ (fun e i y h => ext_off _ (by omega)) (fun e i y h => ext_row _ i (by omega)) (fun e i y h => ext_off _ (by omega))

/-- Each row replaced by the one before it. -/
theorem ref_up : Rep (M := 4096) (N := 5632) (φ := .f32) (val_main_v23 (F := Ideal) x0 x1 x2 x3 x4) (fun i y => ext (fun i => P.u i y) ((i.val : ℤ) - 1)) :=
  ((ref_pad E).rows 0 slices_S4098x5632_S4096x5632_0_0 (fun i => by omega)).congr fun i y => by
    show ext _ (((0 + i.val : ℕ) : ℤ) - 1) = _
    rw [Nat.zero_add]

/-- The rows themselves. -/
theorem ref_mid : Rep (M := 4096) (N := 5632) (φ := .f32) (val_main_v29 (F := Ideal) x0 x1 x2 x3 x4) P.u :=
  ((ref_pad E).rows 1 slices_S4098x5632_S4096x5632_1_0 (fun i => by omega)).congr fun i y => ext_row _ i (by push_cast; ring)

/-- Each row replaced by the one after it. -/
theorem ref_down : Rep (M := 4096) (N := 5632) (φ := .f32) (val_main_v36 (F := Ideal) x0 x1 x2 x3 x4) (fun i y => ext (fun i => P.u i y) ((i.val : ℤ) + 1)) :=
  ((ref_pad E).rows 2 slices_S4098x5632_S4096x5632_2_0 (fun i => by omega)).congr fun i y => congrArg (ext _) (by push_cast; ring)

/-- The convolution's first row of weights. -/
theorem ref_w0 (i : Fin 1) : ∀ y : Fin 5632, val_main_v26 (F := Ideal) x5 (ix2 i y) = ((P.CW 0 y : ℝ) : EReal) := fun y => by
  rw [val_main_v26_apply, val_main_v25_apply, val_main_v24_apply, ← E.a5 0 y]
  exact congrArg x5 (funext fun a => by match a with | ⟨0, _⟩ => rfl | ⟨1, _⟩ => exact Fin.ext (Nat.mod_eq_of_lt y.isLt))

/-- The convolution's middle row of weights. -/
theorem ref_w1 (i : Fin 1) : ∀ y : Fin 5632, val_main_v32 (F := Ideal) x5 (ix2 i y) = ((P.CW 1 y : ℝ) : EReal) := fun y => by
  rw [val_main_v32_apply, val_main_v31_apply, val_main_v30_apply, ← E.a5 1 y]
  exact congrArg x5 (funext fun a => by match a with | ⟨0, _⟩ => rfl | ⟨1, _⟩ => exact Fin.ext (Nat.mod_eq_of_lt y.isLt))

/-- The convolution's last row of weights. -/
theorem ref_w2 (i : Fin 1) : ∀ y : Fin 5632, val_main_v39 (F := Ideal) x5 (ix2 i y) = ((P.CW 2 y : ℝ) : EReal) := fun y => by
  rw [val_main_v39_apply, val_main_v38_apply, val_main_v37_apply, ← E.a5 2 y]
  exact congrArg x5 (funext fun a => by match a with | ⟨0, _⟩ => rfl | ⟨1, _⟩ => exact Fin.ext (Nat.mod_eq_of_lt y.isLt))

/-- The first row of weights, at every row. -/
theorem ref_c0 : Rep (M := 4096) (N := 5632) (φ := .f32) (val_main_v27 (F := Ideal) x5) (fun _ y => P.CW 0 y) := fun i y => by
  rw [val_main_v27_apply, ← ref_w0 E 0 y]
  exact congrArg (val_main_v26 (F := Ideal) x5) (funext fun a => by match a with | ⟨0, _⟩ => rfl | ⟨1, _⟩ => rfl)

/-- The middle row of weights, at every row. -/
theorem ref_c1 : Rep (M := 4096) (N := 5632) (φ := .f32) (val_main_v33 (F := Ideal) x5) (fun _ y => P.CW 1 y) := fun i y => by
  rw [val_main_v33_apply, ← ref_w1 E 0 y]
  exact congrArg (val_main_v32 (F := Ideal) x5) (funext fun a => by match a with | ⟨0, _⟩ => rfl | ⟨1, _⟩ => rfl)

/-- The last row of weights, at every row. -/
theorem ref_c2 : Rep (M := 4096) (N := 5632) (φ := .f32) (val_main_v40 (F := Ideal) x5) (fun _ y => P.CW 2 y) := fun i y => by
  rw [val_main_v40_apply, ← ref_w2 E 0 y]
  exact congrArg (val_main_v39 (F := Ideal) x5) (funext fun a => by match a with | ⟨0, _⟩ => rfl | ⟨1, _⟩ => rfl)

/-- The convolution's bias, at every row. -/
theorem ref_b : Rep (M := 4096) (N := 5632) (φ := .f32) (val_main_v44 (F := Ideal) x6) (fun _ y => P.CB y) := fun i y => by
  rw [val_main_v44_apply, val_main_v43_apply, ← E.a6 y]
  exact congrArg x6 (funext fun a => by match a with | ⟨0, _⟩ => rfl)

/-- The convolution. -/
theorem ref_cv : Rep (M := 4096) (N := 5632) (φ := .f32) (val_main_v45 (F := Ideal) x0 x1 x2 x3 x4 x5 x6) P.cv :=
  ((((ref_up E).mul (ref_c0 E)).add ((ref_mid E).mul (ref_c1 E))).add ((ref_down E).mul (ref_c2 E))).add (ref_b E)

/-- The gate's half of the convolution. -/
theorem ref_a : Rep (M := 4096) (N := 2816) (φ := .f32) (val_main_v46 (F := Ideal) x0 x1 x2 x3 x4 x5 x6) (fun i z => P.cv i (lo z)) := fun i z => by
  rw [val_main_v46_apply, ← ref_cv E i (lo z)]
  exact congrArg (val_main_v45 (F := Ideal) x0 x1 x2 x3 x4 x5 x6) (funext fun a => by match a with | ⟨0, _⟩ => rfl | ⟨1, _⟩ => rfl)

/-- The value's half of the convolution. -/
theorem ref_h : Rep (M := 4096) (N := 2816) (φ := .f32) (val_main_v47 (F := Ideal) x0 x1 x2 x3 x4 x5 x6) (fun i z => P.cv i (hi z)) := fun i z => by
  rw [val_main_v47_apply, ← ref_cv E i (hi z)]
  exact congrArg (val_main_v45 (F := Ideal) x0 x1 x2 x3 x4 x5 x6) (funext fun a => by match a with | ⟨0, _⟩ => rfl | ⟨1, _⟩ => rfl)

/-- The logistic function of the gate. -/
theorem ref_logi : Rep (M := 4096) (N := 2816) (φ := .f32) (val_main_v48_2 (F := Ideal) x0 x1 x2 x3 x4 x5 x6) (fun i z => logi (P.cv i (lo z))) := by
  have e2 : Rep (M := 4096) (N := 2816) (φ := .f32) (val_main_call0_v2 (F := Ideal)) (fun _ _ => 1) := hconst (fun _ => one_word) bcast_S_S4096x2816
  have e4 : Rep (M := 4096) (N := 2816) (φ := .f32) (val_main_call0_v4 (F := Ideal)) (fun _ _ => 1) := hconst (fun _ => one_word) bcast_S_S4096x2816
  have e := hdiv e4 (e2.add (hexp (hneg (ref_a E)))) (fun i z => by positivity)
  exact Rep.congr e fun i z => by rw [logi, zero_sub]

/-- The gate times its logistic function. -/
theorem ref_silu : Rep (M := 4096) (N := 2816) (φ := .f32) (val_main_v48_0 (F := Ideal) x0 x1 x2 x3 x4 x5 x6) (fun i z => P.cv i (lo z) * logi (P.cv i (lo z))) :=
  (ref_a E).mul (ref_logi E)

/-- The derivative of the logistic function. -/
theorem ref_slope : Rep (M := 4096) (N := 2816) (φ := .f32) (val_main_v48_1 (F := Ideal) x0 x1 x2 x3 x4 x5 x6) (fun i z => logi (P.cv i (lo z)) * (1 - logi (P.cv i (lo z)))) := by
  have e6 : Rep (M := 4096) (N := 2816) (φ := .f32) (val_main_call0_v6 (F := Ideal)) (fun _ _ => 1) := hconst (fun _ => one_word) bcast_S_S4096x2816
  exact (ref_logi E).mul (e6.sub (ref_logi E))

/-- The activation. -/
theorem ref_act : Rep (M := 4096) (N := 2816) (φ := .f32) (val_main_v49 (F := Ideal) x0 x1 x2 x3 x4 x5 x6) P.act := (ref_silu E).mul (ref_h E)

/-- The layer's output. -/
theorem ref_x3 : Rep (M := 4096) (N := 1024) (φ := .f32) (val_main_v100 (F := Ideal) x0 x1 x2 x3 x4 x5 x6 x7) P.x3 := by
  have e : Rep (M := 4096) (N := 1024) (φ := .f32) (val_main_v50 (F := Ideal) x0 x1 x2 x3 x4 x5 x6 x7) (fun i d => ∑ z, P.act i z * P.WD z d) := fun i d => by
    rw [val_main_v50_apply, coe_sum]
    refine Finset.sum_congr rfl fun z _ => ?_
    exact mul_real (congrArg (val_main_v49 (F := Ideal) x0 x1 x2 x3 x4 x5 x6) (funext fun a => by match a with | ⟨0, _⟩ => rfl | ⟨1, _⟩ => rfl))
      (congrArg x7 (funext fun a => by match a with | ⟨0, _⟩ => rfl | ⟨1, _⟩ => rfl)) (ref_act E i z) (E.a7 z d)
  exact (ref_x2 E).add e

/-- The activation's gradient. -/
theorem ref_da : Rep (M := 4096) (N := 2816) (φ := .f32) (val_main_v51 (F := Ideal) x7 x8) P.da := fun i z => by
  unfold Reals.da
  rw [val_main_v51_apply, coe_sum]
  refine Finset.sum_congr rfl fun d _ => ?_
  exact mul_real (congrArg x8 (funext fun a => by match a with | ⟨0, _⟩ => rfl | ⟨1, _⟩ => rfl))
    (congrArg x7 (funext fun a => by match a with | ⟨0, _⟩ => rfl | ⟨1, _⟩ => rfl)) (E.a8 i d) (E.a7 z d)

/-- The convolution's gradient. -/
theorem ref_dc : Rep (M := 4096) (N := 5632) (φ := .f32) (val_main_v57 (F := Ideal) x0 x1 x2 x3 x4 x5 x6 x7 x8) P.dc := by
  have e53 := (ref_da E).mul (ref_h E)
  have e54 := (e53.mul (ref_logi E)).add (((ref_a E).mul e53).mul (ref_slope E))
  have e55 := padCols ((ref_silu E).mul (ref_da E)) (c := val_main_cst_5 (F := Ideal)) (fun _ => word_zero) 2816 0 pads_S4096x2816_S4096x5632_000_281600 h_S_
  have e56 := padCols e54 (c := val_main_cst_6 (F := Ideal)) (fun _ => word_zero) 0 2816 pads_S4096x2816_S4096x5632_000_028160 h_S_
  refine Rep.congr (e55.add e56) fun i y => ?_
  unfold Reals.dc
  by_cases hy : y.val < 2816
  · rw [dif_neg (by omega), dif_pos (⟨Nat.zero_le _, hy⟩ : 0 ≤ y.val ∧ y.val - 0 < 2816), dif_pos hy, zero_add]
    show P.da i ⟨y.val, _⟩ * P.cv i (hi ⟨y.val, _⟩) * logi (P.cv i y) + P.cv i y * (P.da i ⟨y.val, _⟩ * P.cv i (hi ⟨y.val, _⟩)) * (logi (P.cv i y) * (1 - logi (P.cv i y))) = _
    unfold gate0
    ring
  · rw [dif_pos (by omega : 2816 ≤ y.val ∧ y.val - 2816 < 2816), dif_neg (by omega), dif_neg hy, add_zero]
    exact mul_comm _ _

/-- The gradient of the rows up. -/
theorem ref_du : Rep (M := 4096) (N := 5632) (φ := .f32) (val_main_v93 (F := Ideal) x0 x1 x2 x3 x4 x5 x6 x7 x8) P.du := by
  have c0 : Rep (M := 4096) (N := 5632) (φ := .f32) (val_main_v84 (F := Ideal) x5) (fun _ y => P.CW 0 y) := fun i y => by
    rw [val_main_v84_apply, ← ref_w0 E 0 y]
    exact congrArg (val_main_v26 (F := Ideal) x5) (funext fun a => by match a with | ⟨0, _⟩ => rfl | ⟨1, _⟩ => rfl)
  have c1 : Rep (M := 4096) (N := 5632) (φ := .f32) (val_main_v73 (F := Ideal) x5) (fun _ y => P.CW 1 y) := fun i y => by
    rw [val_main_v73_apply, ← ref_w1 E 0 y]
    exact congrArg (val_main_v32 (F := Ideal) x5) (funext fun a => by match a with | ⟨0, _⟩ => rfl | ⟨1, _⟩ => rfl)
  have c2 : Rep (M := 4096) (N := 5632) (φ := .f32) (val_main_v64 (F := Ideal) x5) (fun _ y => P.CW 2 y) := fun i y => by
    rw [val_main_v64_apply, ← ref_w2 E 0 y]
    exact congrArg (val_main_v39 (F := Ideal) x5) (funext fun a => by match a with | ⟨0, _⟩ => rfl | ⟨1, _⟩ => rfl)
  have p2 := padRows ((ref_dc E).mul c2) (c := val_main_cst_12 (F := Ideal)) (fun _ => word_zero) 2 0 pads_S4096x5632_S4098x5632_200_000 h_S_
  have p1 := padRows ((ref_dc E).mul c1) (c := val_main_cst_16 (F := Ideal)) (fun _ => word_zero) 1 1 pads_S4096x5632_S4098x5632_110_000 h_S_
  have p0 := padRows ((ref_dc E).mul c0) (c := val_main_cst_20 (F := Ideal)) (fun _ => word_zero) 0 2 pads_S4096x5632_S4098x5632_020_000 h_S_
  refine Rep.congr (((p2.add p1).add p0).rows 1 slices_S4098x5632_S4096x5632_1_0 (fun i => by omega)) fun i y => ?_
  have hi := i.isLt
  have s (o : ℕ) (t : Fin 3) (z : ℤ) (hz : z = 1 + i.val - o) :
      (if h : o ≤ 1 + i.val ∧ 1 + i.val - o < 4096 then P.dc ⟨1 + i.val - o, h.2⟩ y * P.CW t y else 0) = ext (fun i => P.dc i y) z * P.CW t y := by
    split_ifs with h
    · exact congrArg (· * P.CW t y) (ext_row (fun i => P.dc i y) ⟨1 + i.val - o, h.2⟩ (by rw [hz]; show _ = ((1 + i.val - o : ℕ) : ℤ); omega)).symm
    · rw [ext_off _ (by omega), zero_mul]
  refine (congr (congrArg _ (congr (congrArg _ (s 2 2 (i.val - 1) (by omega))) (s 1 1 i.val (by omega)))) (s 0 0 (i.val + 1) (by omega))).trans ?_
  rw [ext_row (fun i => P.dc i y) i rfl]
  show _ = ext (fun i => P.dc i y) ((i.val : ℤ) + 1) * P.CW 0 y + P.dc i y * P.CW 1 y + ext (fun i => P.dc i y) ((i.val : ℤ) - 1) * P.CW 2 y
  ring

/-- The gradient of the weights up. -/
theorem ref_dup : Rep (M := 1024) (N := 5632) (φ := .f32) (val_main_v96 (F := Ideal) x0 x1 x2 x3 x4 x5 x6 x7 x8) P.dup := fun d y => by
  unfold Reals.dup
  rw [val_main_v96_apply, val_main_v95_apply, coe_sum]
  refine Finset.sum_congr rfl fun i _ => ?_
  rw [mul_comm (P.hf i d)]
  exact mul_real (congrArg (val_main_v93 (F := Ideal) x0 x1 x2 x3 x4 x5 x6 x7 x8) (funext fun a => by match a with | ⟨0, _⟩ => rfl | ⟨1, _⟩ => rfl))
    (congrArg (val_main_v15 (F := Ideal) x0 x1 x2 x3) (funext fun a => by match a with | ⟨0, _⟩ => rfl | ⟨1, _⟩ => rfl)) (ref_du E i y) (ref_hf E i d)

/-- The gradient of the convolution's last row of weights. -/
theorem ref_s2 : Rep (M := 1) (N := 5632) (φ := .f32) (val_main_v67 (F := Ideal) x0 x1 x2 x3 x4 x5 x6 x7 x8)
    (fun _ y => ∑ i : Fin 4096, ext (fun i => P.u i y) ((i.val : ℤ) + 1) * P.dc i y) := fun t y => by
  rw [val_main_v67_apply, val_main_v66_apply, Fin.sum_univ_one, val_main_v63_apply, val_main_v62_apply, val_main_cst_9_apply, val_main_cst_10_apply, word_zero, zero_add, zero_add, coe_sum]
  refine Finset.sum_congr rfl fun i _ => ?_
  refine (congrArg (val_main_v61 (F := Ideal) x0 x1 x2 x3 x4 x5 x6 x7 x8) (?_ : _ = ix2 i y)).trans (((ref_down E).mul (ref_dc E)) i y)
  funext a; match a with | ⟨0, _⟩ => rfl | ⟨1, _⟩ => exact Fin.ext (by show 0 * 5632 + y.val = y.val; omega)

/-- The gradient of the convolution's middle row of weights. -/
theorem ref_s1 : Rep (M := 1) (N := 5632) (φ := .f32) (val_main_v76 (F := Ideal) x0 x1 x2 x3 x4 x5 x6 x7 x8)
    (fun _ y => ∑ i : Fin 4096, P.u i y * P.dc i y) := fun t y => by
  rw [val_main_v76_apply, val_main_v75_apply, Fin.sum_univ_one, val_main_v72_apply, val_main_v71_apply, val_main_cst_13_apply, val_main_cst_14_apply, word_zero, zero_add, zero_add, coe_sum]
  refine Finset.sum_congr rfl fun i _ => ?_
  refine (congrArg (val_main_v70 (F := Ideal) x0 x1 x2 x3 x4 x5 x6 x7 x8) (?_ : _ = ix2 i y)).trans (((ref_mid E).mul (ref_dc E)) i y)
  funext a; match a with | ⟨0, _⟩ => rfl | ⟨1, _⟩ => exact Fin.ext (by show 0 * 5632 + y.val = y.val; omega)

/-- The gradient of the convolution's first row of weights. -/
theorem ref_s0 : Rep (M := 1) (N := 5632) (φ := .f32) (val_main_v87 (F := Ideal) x0 x1 x2 x3 x4 x5 x6 x7 x8)
    (fun _ y => ∑ i : Fin 4096, ext (fun i => P.u i y) ((i.val : ℤ) - 1) * P.dc i y) := fun t y => by
  rw [val_main_v87_apply, val_main_v86_apply, Fin.sum_univ_one, val_main_v83_apply, val_main_v82_apply, val_main_cst_17_apply, val_main_cst_18_apply, word_zero, zero_add, zero_add, coe_sum]
  refine Finset.sum_congr rfl fun i _ => ?_
  refine (congrArg (val_main_v81 (F := Ideal) x0 x1 x2 x3 x4 x5 x6 x7 x8) (?_ : _ = ix2 i y)).trans (((ref_up E).mul (ref_dc E)) i y)
  funext a; match a with | ⟨0, _⟩ => rfl | ⟨1, _⟩ => exact Fin.ext (by show 0 * 5632 + y.val = y.val; omega)

/-- The gradient of the convolution's weights. -/
theorem ref_dcw : Rep (M := 3) (N := 5632) (φ := .f32) (val_main_v89 (F := Ideal) x0 x1 x2 x3 x4 x5 x6 x7 x8) P.dcw := by
  have p2 := padRows (ref_s2 E) (c := val_main_cst_11 (F := Ideal)) (fun _ => word_zero) 2 0 pads_S1x5632_S3x5632_200_000 h_S_
  have p1 := padRows (ref_s1 E) (c := val_main_cst_15 (F := Ideal)) (fun _ => word_zero) 1 1 pads_S1x5632_S3x5632_110_000 h_S_
  have p0 := padRows (ref_s0 E) (c := val_main_cst_19 (F := Ideal)) (fun _ => word_zero) 0 2 pads_S1x5632_S3x5632_020_000 h_S_
  refine Rep.congr ((p2.add p1).add p0) fun t y => ?_
  unfold Reals.dcw convW
  match t with
  | ⟨0, _⟩ => simp [mul_comm]
  | ⟨1, _⟩ => simp [mul_comm]
  | ⟨2, _⟩ => simp [mul_comm]

/-- The gradient of the convolution's bias. -/
theorem ref_dcb (y : Fin 5632) : val_main_v60 (F := Ideal) x0 x1 x2 x3 x4 x5 x6 x7 x8 (ix1 y) = ((P.dcb y : ℝ) : EReal) := by
  unfold Reals.dcb
  rw [val_main_v60_apply, Fin.sum_univ_one, val_main_v59_apply, val_main_v58_apply, val_main_cst_7_apply, val_main_cst_8_apply, word_zero, zero_add, zero_add, coe_sum]
  refine Finset.sum_congr rfl fun i _ => ?_
  refine (congrArg (val_main_v57 (F := Ideal) x0 x1 x2 x3 x4 x5 x6 x7 x8) (?_ : _ = ix2 i y)).trans (ref_dc E i y)
  funext a; match a with | ⟨0, _⟩ => rfl | ⟨1, _⟩ => exact Fin.ext (by show 0 * 5632 + y.val = y.val; omega)

/-- The activation in blocks of columns. -/
theorem ref_act3 (b : Fin 4) (i : Fin 4096) (n : Fin 704) : val_main_v99 (F := Ideal) x0 x1 x2 x3 x4 x5 x6 (ix3 b i n) = ((P.act i (col4 b n) : ℝ) : EReal) := by
  refine Eq.trans ?_ (ref_act E i (col4 b n))
  refine (val_main_v99_apply (F := Ideal) x0 x1 x2 x3 x4 x5 x6 _).trans ((val_main_v98_apply (F := Ideal) x0 x1 x2 x3 x4 x5 x6 _).trans ((val_main_v97_apply (F := Ideal) x0 x1 x2 x3 x4 x5 x6 _).trans ?_))
  refine congrArg (val_main_v49 (F := Ideal) x0 x1 x2 x3 x4 x5 x6) (funext fun a => ?_)
  have h0 := b.isLt
  have h1 := n.isLt
  match a with
  | ⟨0, _⟩ => exact Fin.ext (by show ((i.val * 4 + b.val) * 704 + n.val) / 2816 = i.val; omega)
  | ⟨1, _⟩ => exact Fin.ext (by show ((i.val * 4 + b.val) * 704 + n.val) % 2816 = b.val * 704 + n.val; omega)

/-- The gradient of the rows up in blocks of columns. -/
theorem ref_du3 (q : Fin 8) (i : Fin 4096) (n : Fin 704) : val_main_v103 (F := Ideal) x0 x1 x2 x3 x4 x5 x6 x7 x8 (ix3 q i n) = ((P.du i (col8 q n) : ℝ) : EReal) := by
  refine Eq.trans ?_ (ref_du E i (col8 q n))
  refine (val_main_v103_apply (F := Ideal) x0 x1 x2 x3 x4 x5 x6 x7 x8 _).trans ((val_main_v102_apply (F := Ideal) x0 x1 x2 x3 x4 x5 x6 x7 x8 _).trans ((val_main_v101_apply (F := Ideal) x0 x1 x2 x3 x4 x5 x6 x7 x8 _).trans ?_))
  refine congrArg (val_main_v93 (F := Ideal) x0 x1 x2 x3 x4 x5 x6 x7 x8) (funext fun a => ?_)
  have h0 := q.isLt
  have h1 := n.isLt
  match a with
  | ⟨0, _⟩ => exact Fin.ext (by show ((i.val * 8 + q.val) * 704 + n.val) / 5632 = i.val; omega)
  | ⟨1, _⟩ => exact Fin.ext (by show ((i.val * 8 + q.val) * 704 + n.val) % 5632 = q.val * 704 + n.val; omega)

/-- The gradient of the weights up in blocks of columns. -/
theorem ref_dup3 (q : Fin 8) (d : Fin 1024) (n : Fin 704) : val_main_v105 (F := Ideal) x0 x1 x2 x3 x4 x5 x6 x7 x8 (ix3 q d n) = ((P.dup d (col8 q n) : ℝ) : EReal) := by
  refine Eq.trans ?_ (ref_dup E d (col8 q n))
  refine (val_main_v105_apply (F := Ideal) x0 x1 x2 x3 x4 x5 x6 x7 x8 _).trans ((val_main_v104_apply (F := Ideal) x0 x1 x2 x3 x4 x5 x6 x7 x8 _).trans ?_)
  refine congrArg (val_main_v96 (F := Ideal) x0 x1 x2 x3 x4 x5 x6 x7 x8) (funext fun a => ?_)
  have h0 := q.isLt
  have h1 := n.isLt
  match a with
  | ⟨0, _⟩ => exact Fin.ext (by show ((d.val * 8 + q.val) * 704 + n.val) / 5632 = d.val; omega)
  | ⟨1, _⟩ => exact Fin.ext (by show ((d.val * 8 + q.val) * 704 + n.val) % 5632 = q.val * 704 + n.val; omega)

/-- The gradient of the convolution's weights in blocks of columns. -/
theorem ref_dcw3 (q : Fin 8) (t : Fin 3) (n : Fin 704) : val_main_v107 (F := Ideal) x0 x1 x2 x3 x4 x5 x6 x7 x8 (ix3 q t n) = ((P.dcw t (col8 q n) : ℝ) : EReal) := by
  refine Eq.trans ?_ (ref_dcw E t (col8 q n))
  refine (val_main_v107_apply (F := Ideal) x0 x1 x2 x3 x4 x5 x6 x7 x8 _).trans ((val_main_v106_apply (F := Ideal) x0 x1 x2 x3 x4 x5 x6 x7 x8 _).trans ?_)
  refine congrArg (val_main_v89 (F := Ideal) x0 x1 x2 x3 x4 x5 x6 x7 x8) (funext fun a => ?_)
  have h0 := q.isLt
  have h1 := n.isLt
  match a with
  | ⟨0, _⟩ => exact Fin.ext (by show ((t.val * 8 + q.val) * 704 + n.val) / 5632 = t.val; omega)
  | ⟨1, _⟩ => exact Fin.ext (by show ((t.val * 8 + q.val) * 704 + n.val) % 5632 = q.val * 704 + n.val; omega)

omit E

variable (m : (ℓ : Loc nD τ sig) → Buf (Elt Ideal) ℓ) (ρ : Dev nD → PrngReg)

/-- The reference has no semaphore. -/
theorem no_sem : ∀ _ : SemLoc sig, False := by decide

/-- What real arguments make of the reference's results. -/
theorem run_values (P : Dev nD → Reals)
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (P c)) :
    θ_run defs (onTc (τ := τ) (main (F := Ideal))) ⟨m, fun _ => 0, ρ⟩ (fun r => ∀ c : Dev nD,
      Holds (P c) (r.2.mem ((c.tc : Thread nD τ).loc main_v99)) (r.2.mem ((c.tc : Thread nD τ).loc main_v100)) (r.2.mem ((c.tc : Thread nD τ).loc main_v103))
        (r.2.mem ((c.tc : Thread nD τ).loc main_v105)) (r.2.mem ((c.tc : Thread nD τ).loc main_v107)) (r.2.mem ((c.tc : Thread nD τ).loc main_v60))) :=
  (θ_run defs _ _).mono (fun _ h c =>
    ⟨((h c).1.trans (val_main_v99_eq (F := Ideal) _)).trans (array_ext _ (fun b i n => (P c).act i (col4 b n)) (ref_act3 (hE c))),
     ((h c).2.1.trans (val_main_v100_eq (F := Ideal) _)).trans (array_ext2 _ _ (ref_x3 (hE c))),
     ((h c).2.2.1.trans (val_main_v103_eq (F := Ideal) _)).trans (array_ext _ (fun q i n => (P c).du i (col8 q n)) (ref_du3 (hE c))),
     ((h c).2.2.2.1.trans (val_main_v105_eq (F := Ideal) _)).trans (array_ext _ (fun q i n => (P c).dup i (col8 q n)) (ref_dup3 (hE c))),
     ((h c).2.2.2.2.1.trans (val_main_v107_eq (F := Ideal) _)).trans (array_ext _ (fun q i n => (P c).dcw i (col8 q n)) (ref_dcw3 (hE c))),
     ((h c).2.2.2.2.2.1.trans (val_main_v60_eq (F := Ideal) _)).trans (array_ext1 _ _ (ref_dcb (hE c)))⟩) (Cert.Reference5Ideal.Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h c).2.2.2.2.2.2, funext fun g => (no_sem g.2).elim⟩) (Cert.Reference5Ideal.Value.run m ρ)

end Cert.Proof.Mlp0Ref

end
-- ==== Proof.Mlp0Run.lean ====
/-
  What the kernel of the gated MLP leaves in its arrays: what the host's operations hand each of its five regions, and
  what those regions make of real arguments.
-/
module

public import proofs.«01_k».proof.Proof.MlpRun
public import proofs.«01_k».proof.Proof.Mlp0Arr
public import proofs.«01_k».proof.Proof.Mlp0Ref
public import proofs.«01_k».proof.Proof.Gen.Kernel5Ideal.Frame
public import Idealize.ShloMosaic.Lib.StableHlo.RunRead

@[expose] public section

set_option maxRecDepth 16384

noncomputable section

namespace Cert.Proof.Mlp0

open Idealize.ShloMosaic hiding ix1 ix2 ix3 ix4
open Idealize.ShloMosaic.TcCoe Idealize.SL Idealize.SL.RA Idealize.SL.BI Idealize.SL.Sem Idealize.ShloMosaic.ValueIdx Cert.Kernel5Ideal
open scoped Idealize.SL.BI
open Idealize.ShloMosaic.Rounds
open Idealize.SL.BI.BIBase Idealize.SL.BI.Laws Idealize.SL.ProofMode
open Cert.Proof.Mlp
open Cert.Proof.Mlp0Ref (Given)
open Cert.Proof.MlpRef (Reals Holds col4 col8 lo hi)
open scoped BigOperators

variable (m : (ℓ : Loc nD τ sig) → Buf (Elt Ideal) ℓ) (ρ : Dev nD → PrngReg)

local notation "World" => MT nD τ sig Unit (Elt Ideal) ℕ (UR sig nD τ) ℕ

set_option backward.isDefEq.respectTransparency.types false in
/-- Every execution ends with each array at its contents after the last region. -/
theorem run_arrays : θ_run defs (onTc (τ := τ) (main (F := Ideal))) ⟨m, fun _ => 0, ρ⟩ (fun r =>
      ∀ (c : Dev nD), ∀ b ∈ Pipeline.ucRefs τ sig, r.2.mem ((c : Thread nD τ).1, b) = Gen.W8 m ρ c b) :=
  Pipeline.θ_run_regions_kit_sems (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_region, Pipeline.Seg.pipes_host, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Htok
      imodintro
      isplitl [Htok]
      · iapply (show (ownU (initOf (Pipeline.cells cfgs Gen.cellOf_inj) (Pipeline.launchToks cfgs Gen.cellOf_inj)) : sProp World)
            ⊢ BI.own (emb₁ (initOf (Pipeline.cells cfgs Gen.cellOf_inj) (Pipeline.launchToks cfgs Gen.cellOf_inj))) from .rfl)
        iexact Htok
      · iapply (show (BI.emp : sProp World) ⊢ bigSep Finset.univ (fun _ : Dev nD => (BI.emp : sProp World)) from by rw [BI.bigSep_emp_const])
        iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hbuf, -, Howe, -, Hreg, -⟩, -⟩
      imodintro
      isplitl [Hbuf]
      · iexact Hbuf
      isplitl [Hreg]
      · iexists _; iexact Hreg
      · iexists ∅; iexact Howe)
    (QY := fun c s => ∀ b ∈ Pipeline.ucRefs τ sig, s.mem (((c : Thread nD τ)).1, b) = Gen.W8 m ρ c b)
    (hfin := fun c s' => by
      iintro ⟨⟨Hbuf, -⟩, HSI⟩
      unfold StableHlo.held
      imodintro
      iapply (pointsTo_read_all (Pipeline.ucRefs τ sig) (fun b => (((c : Thread nD τ)).1, b)) (Gen.W8 m ρ c) s')
      isplitl [Hbuf] <;> iassumption)
    (hQ := fun s h _ => h)

section reals
variable (P : Reals)

/-- The weight up, by column blocks. -/
def wUp (s : Fin 2) (b : Fin 4) (d : Fin 1024) (n : Fin 704) : ℝ := P.W d (col8 (blk s b) n)
/-- The convolution's weights, by column blocks. -/
def cWt (s : Fin 2) (b : Fin 4) (t : Fin 3) (n : Fin 704) : ℝ := P.CW t (col8 (blk s b) n)
/-- The convolution's bias, by column blocks. -/
def cBs (s : Fin 2) (b : Fin 4) (n : Fin 704) : ℝ := P.CB (col8 (blk s b) n)
/-- The rows up, by column blocks. -/
def uUp (s : Fin 2) (b : Fin 4) (i : Fin 4096) (n : Fin 704) : ℝ := P.u i (col8 (blk s b) n)

/-- The convolved rows' gradient, by column blocks. -/
theorem dcol_eq (s : Fin 2) (b : Fin 4) (i : Fin 4096) (n : Fin 704) :
    dcol (uUp P) P.G P.WD (cWt P) (cBs P) b s i n = P.dc i (col8 (blk s b) n) := by
  have h0 : (⟨b.val * 704 + n.val, by omega⟩ : Fin 2816) = col4 b n := rfl
  unfold Reals.dc
  match s with
  | ⟨0, _⟩ =>
    have hlt : (col8 (blk ⟨0, by omega⟩ b) n).val < 2816 := by show (0 * 4 + b.val) * 704 + n.val < 2816; omega
    rw [dif_pos hlt]
    have e : (⟨(col8 (blk ⟨0, by omega⟩ b) n).val, hlt⟩ : Fin 2816) = col4 b n :=
      Fin.ext (by show (0 * 4 + b.val) * 704 + n.val = b.val * 704 + n.val; omega)
    rw [e, col_hi]
    rfl
  | ⟨1, _⟩ =>
    have hge : ¬ (col8 (blk ⟨1, by omega⟩ b) n).val < 2816 := by show ¬ (1 * 4 + b.val) * 704 + n.val < 2816; omega
    rw [dif_neg hge]
    have e : (⟨(col8 (blk ⟨1, by omega⟩ b) n).val - 2816, by omega⟩ : Fin 2816) = col4 b n :=
      Fin.ext (by show (1 * 4 + b.val) * 704 + n.val - 2816 = b.val * 704 + n.val; omega)
    rw [e, col_lo]
    rfl

end reals

section
variable {P : Reals} {c : Dev nD}
variable (E : Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) P)
include E

/-- The cast projection. -/
theorem h_v8 (k d : Fin 1024) : Gen.W1 m ρ c (Proc.devRef .tc main_v8) (ix2 k d) = ((P.WO k d : ℝ) : EReal) := by
  have e : Gen.W1 m ρ c (Proc.devRef .tc main_v8) = (truncf .bf16 (m ((c.tc : Thread nD τ).loc main_arg2) : FVec Ideal S1024x1024 .f32) Facts₀.bitsLt_bf16_f32 : FVec Ideal S1024x1024 .bf16) := by
    unfold Gen.W1
    after_reads_simp
  exact (congrFun e _).trans (E.a2 k d)

/-- The cast weight down. -/
theorem h_v0 (z : Fin 2816) (d : Fin 1024) : Gen.W1 m ρ c (Proc.devRef .tc main_v0) (ix2 z d) = ((P.WD z d : ℝ) : EReal) := by
  have e : Gen.W1 m ρ c (Proc.devRef .tc main_v0) = (truncf .bf16 (m ((c.tc : Thread nD τ).loc main_arg7) : FVec Ideal S2816x1024 .f32) Facts₀.bitsLt_bf16_f32 : FVec Ideal S2816x1024 .bf16) := by
    unfold Gen.W1
    after_reads_simp
  exact (congrFun e _).trans (E.a7 z d)

/-- The gain as a row. -/
theorem h_v9 (d : Fin 1024) : Gen.W1 m ρ c (Proc.devRef .tc main_v9) (ix2 (0 : Fin 1) d) = ((P.gain d : ℝ) : EReal) := by
  have e : Gen.W1 m ρ c (Proc.devRef .tc main_v9) = shapeCast S1x1024 (m ((c.tc : Thread nD τ).loc main_arg3) : FVec Ideal S1024 .f32) Facts₀.shapeCasts_S1024_S1x1024 := by
    unfold Gen.W1
    after_reads_simp
    rfl
  refine (congrFun e _).trans ((shapeCast_apply _ _ (ix2 (0 : Fin 1) d) (ix1 d) ?_).trans (E.a3 d))
  rw [Shape.rowMajor_val_one, Shape.rowMajor_val_two]
  show d.val = 0 * 1024 + d.val
  omega

/-- The convolution's weights by column blocks. -/
theorem h_v6 (s : Fin 2) (b : Fin 4) (t : Fin 3) (n : Fin 704) : Gen.W1 m ρ c (Proc.devRef .tc main_v6) (ix4 s b t n) = ((cWt P s b t n : ℝ) : EReal) := by
  have e : Gen.W1 m ρ c (Proc.devRef .tc main_v6) = shapeCast S2x4x3x704 (transpose S8x3x704 [1, 0, 2]
      (shapeCast S3x8x704 (m ((c.tc : Thread nD τ).loc main_arg5) : FVec Ideal S3x5632 .f32) Facts₀.shapeCasts_S3x5632_S3x8x704)
        Facts₀.transposes_S3x8x704_S8x3x704_1_0_2) Facts₀.shapeCasts_S8x3x704_S2x4x3x704 := by
    unfold Gen.W1
    after_reads_simp
    rfl
  refine (congrFun e _).trans ((shapeCast_apply _ _ (ix4 s b t n) (ix3 (blk s b) t n) ?_).trans ?_)
  · rw [Shape.rowMajor_val_three, Shape.rowMajor_val_four]; rfl
  refine (transpose_apply [1, 0, 2] _ _ (ix3 (blk s b) t n) (ix3 t (blk s b) n) (fun a => match a with | ⟨0, _⟩ => rfl | ⟨1, _⟩ => rfl | ⟨2, _⟩ => rfl)).trans ?_
  refine (shapeCast_apply _ _ (ix3 t (blk s b) n) (ix2 t (col8 (blk s b) n)) ?_).trans (E.a5 t _)
  rw [Shape.rowMajor_val_three, Shape.rowMajor_val_two]
  show t.val * 5632 + ((s.val * 4 + b.val) * 704 + n.val) = (t.val * 8 + (s.val * 4 + b.val)) * 704 + n.val
  omega

/-- The convolution's bias by column blocks. -/
theorem h_v7 (s : Fin 2) (b : Fin 4) (n : Fin 704) : Gen.W1 m ρ c (Proc.devRef .tc main_v7) (ix4 s b (0 : Fin 1) n) = ((cBs P s b n : ℝ) : EReal) := by
  have e : Gen.W1 m ρ c (Proc.devRef .tc main_v7) = shapeCast S2x4x1x704 (m ((c.tc : Thread nD τ).loc main_arg6) : FVec Ideal S5632 .f32) Facts₀.shapeCasts_S5632_S2x4x1x704 := by
    unfold Gen.W1
    after_reads_simp
    rfl
  refine (congrFun e _).trans ((shapeCast_apply _ _ (ix4 s b (0 : Fin 1) n) (ix1 (col8 (blk s b) n)) ?_).trans (E.a6 _))
  rw [Shape.rowMajor_val_one, Shape.rowMajor_val_four]
  show (s.val * 4 + b.val) * 704 + n.val = ((s.val * 4 + b.val) * 1 + 0) * 704 + n.val
  omega

/-- The first layer's weight up by column blocks. -/
theorem h_v11 (s : Fin 2) (b : Fin 4) (d : Fin 1024) (n : Fin 704) :
    Gen.W3 m ρ c (Proc.devRef .tc main_v11) (ix4 s b (upRow d) n) = ((wUp P s b d n : ℝ) : EReal) := by
  have e3 : Gen.W1 m ρ c (Proc.devRef .tc main_v3) = transpose S8x2048x704 [1, 0, 2] (shapeCast S2048x8x704
      (truncf .bf16 (m ((c.tc : Thread nD τ).loc main_arg4) : FVec Ideal S2x1024x5632 .f32) Facts₀.bitsLt_bf16_f32 : FVec Ideal S2x1024x5632 .bf16)
        Facts₀.shapeCasts_S2x1024x5632_S2048x8x704) Facts₀.transposes_S2048x8x704_S8x2048x704_1_0_2 := by
    unfold Gen.W1
    after_reads_simp
    rfl
  have e11 : Gen.W3 m ρ c (Proc.devRef .tc main_v11) = shapeCast S2x4x2048x704 (Gen.W2 m ρ c (Proc.devRef .tc main_v3) : FVec Ideal S8x2048x704 .bf16)
      Facts₀.shapeCasts_S8x2048x704_S2x4x2048x704 := by
    unfold Gen.W3
    after_reads_simp
    rfl
  refine (congrFun e11 _).trans ((shapeCast_apply _ _ (ix4 s b (upRow d) n) (ix3 (blk s b) (upRow d) n) ?_).trans ?_)
  · rw [Shape.rowMajor_val_three, Shape.rowMajor_val_four]; rfl
  refine (congrFun ((Gen.W2_of m ρ c main_v3 (by decide +kernel)).trans e3) _).trans ?_
  refine (transpose_apply [1, 0, 2] _ _ (ix3 (blk s b) (upRow d) n) (ix3 (upRow d) (blk s b) n)
    (fun a => match a with | ⟨0, _⟩ => rfl | ⟨1, _⟩ => rfl | ⟨2, _⟩ => rfl)).trans ?_
  refine (shapeCast_apply _ _ (ix3 (upRow d) (blk s b) n) (ix3 (0 : Fin 2) d (col8 (blk s b) n)) ?_).trans (E.a4 d _)
  rw [Shape.rowMajor_val_three, Shape.rowMajor_val_three]
  show (0 * 1024 + d.val) * 5632 + ((s.val * 4 + b.val) * 704 + n.val) = (d.val * 8 + (s.val * 4 + b.val)) * 704 + n.val
  omega

/-- After the first region: the rows that the layer adds to. -/
theorem w2_x2 : Gen.W2 m ρ c (Proc.devRef .tc main_v10_0) = fun y : S4096x1024.Idx => ((xres P.X P.O P.WO (y 0) (y 1) : ℝ) : EReal) :=
  (Gen.W2_arr m ρ c 4).trans (x2_array (fun i k => (congrFun (Gen.W1_args m ρ c main_arg1 (by decide)) _).trans (E.a1 i k)) (h_v8 m ρ E)
    (fun i k => (congrFun (Gen.W1_args m ρ c main_arg0 (by decide)) _).trans (E.a0 i k)))

/-- After the first region: the normed rows. -/
theorem w2_hf : Gen.W2 m ρ c (Proc.devRef .tc main_v10_1) = fun y : S4096x1024.Idx => ((P.hf (y 0) (y 1) : ℝ) : EReal) :=
  (Gen.W2_arr m ρ c 5).trans (hf_array (fun i k => (congrFun (Gen.W1_args m ρ c main_arg1 (by decide)) _).trans (E.a1 i k)) (h_v8 m ρ E)
    (fun i k => (congrFun (Gen.W1_args m ρ c main_arg0 (by decide)) _).trans (E.a0 i k)) (h_v9 m ρ E))

/-- The second region finds the normed rows. -/
theorem w3_hf : ∀ (i : Fin 4096) (k : Fin 1024), Gen.W3 m ρ c (Proc.devRef .tc main_v10_1) (ix2 i k) = ((P.hf i k : ℝ) : EReal) := fun i k =>
  (congrFun (Gen.W3_of m ρ c main_v10_1 (by decide +kernel)) _).trans (congrFun (w2_hf m ρ E) (ix2 i k))

/-- The second region finds the convolution's weights. -/
theorem w3_c (s : Fin 2) (b : Fin 4) (t : Fin 3) (n : Fin 704) : Gen.W3 m ρ c (Proc.devRef .tc main_v6) (ix4 s b t n) = ((cWt P s b t n : ℝ) : EReal) :=
  (congrFun ((Gen.W3_of m ρ c main_v6 (by decide +kernel)).trans (Gen.W2_of m ρ c main_v6 (by decide +kernel))) _).trans (h_v6 m ρ E s b t n)

/-- The second region finds the convolution's bias. -/
theorem w3_b (s : Fin 2) (b : Fin 4) (n : Fin 704) : Gen.W3 m ρ c (Proc.devRef .tc main_v7) (ix4 s b (0 : Fin 1) n) = ((cBs P s b n : ℝ) : EReal) :=
  (congrFun ((Gen.W3_of m ρ c main_v7 (by decide +kernel)).trans (Gen.W2_of m ρ c main_v7 (by decide +kernel))) _).trans (h_v7 m ρ E s b n)

/-- After the second region: the rows up. -/
theorem w4_u (s : Fin 2) (b : Fin 4) (i : Fin 4096) (n : Fin 704) : Gen.W4 m ρ c (Proc.devRef .tc main_v12_0) (ix4 s b i n) = ((uUp P s b i n : ℝ) : EReal) :=
  (congrFun (Gen.W4_arr m ρ c 6) _).trans (congrFun (u_array (V := Gen.V3 m ρ) (c := c) (W := wUp P) (w3_hf m ρ E) (h_v11 m ρ E)) (ix4 s b i n))

/-- After the second region: the activation. -/
theorem w4_act : Gen.W4 m ρ c (Proc.devRef .tc main_v12_1) = fun y : S4x4096x704.Idx => ((P.act (y 1) (col4 (y 0) (y 2)) : ℝ) : EReal) := by
  refine (Gen.W4_arr m ρ c 7).trans ((act_array (V := Gen.V3 m ρ) (c := c) (W := wUp P) (w3_hf m ρ E) (h_v11 m ρ E) (w3_c m ρ E) (w3_b m ρ E)).trans (funext fun y => ?_))
  have e : ∀ (b : Fin 4) (i : Fin 4096) (n : Fin 704), gate (conv (fun i => pre P.hf (wUp P 0 b) i n) (fun j => cWt P 0 b j n) (cBs P 0 b n) i)
      (conv (fun i => pre P.hf (wUp P 1 b) i n) (fun j => cWt P 1 b j n) (cBs P 1 b n) i) = P.act i (col4 b n) := fun b i n => by
    unfold Reals.act
    rw [col_lo, col_hi]
    rfl
  exact congrArg Real.toEReal (e (y 0) (y 1) (y 2))

/-- After the third region: the layer's output. -/
theorem w5_x3 : Gen.W5 m ρ c (Proc.devRef .tc main_v13) = fun y : S4096x1024.Idx => ((P.x3 (y 0) (y 1) : ℝ) : EReal) := by
  refine (Gen.W5_arr m ρ c 3).trans ((x3_array (V := Gen.V4 m ρ) (c := c) (A := fun b i n => P.act i (col4 b n)) (W := P.WD) (X := xres P.X P.O P.WO)
    (fun b i n => congrFun (w4_act m ρ E) (ix3 b i n))
    (fun z d => (congrFun ((Gen.W4_of m ρ c main_v0 (by decide +kernel)).trans ((Gen.W3_of m ρ c main_v0 (by decide +kernel)).trans (Gen.W2_of m ρ c main_v0 (by decide +kernel)))) _).trans (h_v0 m ρ E z d))
    (fun i d => (congrFun ((Gen.W4_of m ρ c main_v10_0 (by decide +kernel)).trans (Gen.W3_of m ρ c main_v10_0 (by decide +kernel))) _).trans (congrFun (w2_x2 m ρ E) (ix2 i d)))).trans
    (funext fun y => ?_))
  unfold Reals.x3
  refine congrArg (fun x : ℝ => ((xres P.X P.O P.WO (y 0) (y 1) + x : ℝ) : EReal)) (Finset.sum_congr rfl fun z _ => ?_)
  refine congrArg (fun x => P.act (y 0) x * P.WD z (y 1)) (Fin.ext ?_)
  show (hidBlk z).val * 704 + (hidPos z).val = z.val
  show z.val / 704 * 704 + z.val % 704 = z.val
  omega

/-- What the gradient's region finds. -/
theorem entry : Entry (Gen.V5 m ρ) c (uUp P) P.G P.WD (cWt P) (cBs P) where
  u s b i n := (congrFun (Gen.W5_of m ρ c main_v12_0 (by decide +kernel)) _).trans (w4_u m ρ E s b i n)
  g i d := (congrFun (Gen.W5_args m ρ c main_arg8 (by decide)) _).trans (E.a8 i d)
  w z d := (congrFun ((Gen.W5_of m ρ c main_v0 (by decide +kernel)).trans ((Gen.W4_of m ρ c main_v0 (by decide +kernel)).trans ((Gen.W3_of m ρ c main_v0 (by decide +kernel)).trans (Gen.W2_of m ρ c main_v0 (by decide +kernel))))) _).trans (h_v0 m ρ E z d)
  cw s b t n := (congrFun ((Gen.W5_of m ρ c main_v6 (by decide +kernel)).trans (Gen.W4_of m ρ c main_v6 (by decide +kernel))) _).trans (w3_c m ρ E s b t n)
  cb s b n := (congrFun ((Gen.W5_of m ρ c main_v7 (by decide +kernel)).trans (Gen.W4_of m ρ c main_v7 (by decide +kernel))) _).trans (w3_b m ρ E s b n)

/-- After the gradient's region: the gradient of the rows up. -/
theorem w6_du (s : Fin 2) (b : Fin 4) (i : Fin 4096) (n : Fin 704) : Gen.W6 m ρ c (Proc.devRef .tc main_v14_0) (ix4 s b i n) = ((P.du i (col8 (blk s b) n) : ℝ) : EReal) := by
  refine (congrFun (Gen.W6_arr m ρ c 9) _).trans ((congrFun (du_array (entry m ρ E)) (ix4 s b i n)).trans (congrArg Real.toEReal ?_))
  show convT (fun i => dcol (uUp P) P.G P.WD (cWt P) (cBs P) b s i n) (fun j => cWt P s b j n) i = P.du i (col8 (blk s b) n)
  rw [show (fun i => dcol (uUp P) P.G P.WD (cWt P) (cBs P) b s i n) = fun i => P.dc i (col8 (blk s b) n) from funext fun i => dcol_eq P s b i n]
  rfl

/-- After the gradient's region: the sums over rows. -/
theorem w6_st (s : Fin 2) (b : Fin 4) (r : Fin 8) (n : Fin 704) : Gen.W6 m ρ c (Proc.devRef .tc main_v14_1) (ix4 s b r n)
    = ((∑ i, convW (fun i => P.dc i (col8 (blk s b) n)) (fun i => P.u i (col8 (blk s b) n)) r.val i : ℝ) : EReal) := by
  refine (congrFun (Gen.W6_arr m ρ c 10) _).trans ((congrFun (st_array (entry m ρ E)) (ix4 s b r n)).trans (congrArg Real.toEReal ?_))
  show wsum (uUp P) P.G P.WD (cWt P) (cBs P) s b r n = _
  unfold wsum
  rw [show (fun i => dcol (uUp P) P.G P.WD (cWt P) (cBs P) b s i n) = fun i => P.dc i (col8 (blk s b) n) from funext fun i => dcol_eq P s b i n]
  rfl

/-- The host's reshape of the gradient of the rows up. -/
theorem w7_du : Gen.W7 m ρ c (Proc.devRef .tc main_v15) = fun y : S8x4096x704.Idx => ((P.du (y 1) (col8 (y 0) (y 2)) : ℝ) : EReal) := by
  have e : Gen.W7 m ρ c (Proc.devRef .tc main_v15) = shapeCast S8x4096x704 (Gen.W6 m ρ c (Proc.devRef .tc main_v14_0) : FVec Ideal S2x4x4096x704 .bf16)
      Facts₀.shapeCasts_S2x4x4096x704_S8x4096x704 := by
    unfold Gen.W7
    after_reads_simp
    rfl
  refine e.trans (array_ext _ (fun q i n => P.du i (col8 q n)) fun q i n => ?_)
  refine (shapeCast_apply _ _ (ix3 q i n) (ix4 (⟨q.val / 4, by omega⟩ : Fin 2) (⟨q.val % 4, by omega⟩ : Fin 4) i n) ?_).trans ((w6_du m ρ E _ _ i n).trans ?_)
  · rw [Shape.rowMajor_val_three, Shape.rowMajor_val_four]
    show ((q.val / 4 * 4 + q.val % 4) * 4096 + i.val) * 704 + n.val = (q.val * 4096 + i.val) * 704 + n.val
    omega
  · rw [blk_split]

/-- The host's reshape of the sums over rows. -/
theorem w7_v16 (q : Fin 8) (r : Fin 8) (n : Fin 704) : (shapeCast S8x8x704 (Gen.W6 m ρ c (Proc.devRef .tc main_v14_1) : FVec Ideal S2x4x8x704 .f32)
      Facts₀.shapeCasts_S2x4x8x704_S8x8x704 : FVec Ideal S8x8x704 .f32) (ix3 q r n)
    = ((∑ i, convW (fun i => P.dc i (col8 q n)) (fun i => P.u i (col8 q n)) r.val i : ℝ) : EReal) := by
  refine (shapeCast_apply _ _ (ix3 q r n) (ix4 (⟨q.val / 4, by omega⟩ : Fin 2) (⟨q.val % 4, by omega⟩ : Fin 4) r n) ?_).trans ((w6_st m ρ E _ _ r n).trans ?_)
  · rw [Shape.rowMajor_val_three, Shape.rowMajor_val_four]
    show ((q.val / 4 * 4 + q.val % 4) * 8 + r.val) * 704 + n.val = (q.val * 8 + r.val) * 704 + n.val
    omega
  · rw [blk_split]

/-- The host's slice of the gradient of the convolution's weights. -/
theorem w7_dcw : Gen.W7 m ρ c (Proc.devRef .tc main_v17) = fun y : S8x3x704.Idx => ((P.dcw (y 1) (col8 (y 0) (y 2)) : ℝ) : EReal) := by
  have e : Gen.W7 m ρ c (Proc.devRef .tc main_v17) = extractStridedSlice S8x3x704 ![0, 0, 0] (shapeCast S8x8x704 (Gen.W6 m ρ c (Proc.devRef .tc main_v14_1) : FVec Ideal S2x4x8x704 .f32)
      Facts₀.shapeCasts_S2x4x8x704_S8x8x704 : FVec Ideal S8x8x704 .f32) Facts₀.slices_S8x8x704_S8x3x704_0_0_0 := by
    unfold Gen.W7
    after_reads_simp
    rfl
  refine e.trans (array_ext _ (fun q t n => P.dcw t (col8 q n)) fun q t n => ?_)
  have e1 : extractStridedSlice S8x3x704 ![0, 0, 0] (shapeCast S8x8x704 (Gen.W6 m ρ c (Proc.devRef .tc main_v14_1) : FVec Ideal S2x4x8x704 .f32)
      Facts₀.shapeCasts_S2x4x8x704_S8x8x704 : FVec Ideal S8x8x704 .f32) Facts₀.slices_S8x8x704_S8x3x704_0_0_0 (ix3 q t n)
      = (shapeCast S8x8x704 (Gen.W6 m ρ c (Proc.devRef .tc main_v14_1) : FVec Ideal S2x4x8x704 .f32)
      Facts₀.shapeCasts_S2x4x8x704_S8x8x704 : FVec Ideal S8x8x704 .f32) (ix3 q (⟨t.val, by omega⟩ : Fin 8) n) := by
    generalize (shapeCast S8x8x704 (Gen.W6 m ρ c (Proc.devRef .tc main_v14_1) : FVec Ideal S2x4x8x704 .f32) Facts₀.shapeCasts_S2x4x8x704_S8x8x704 : FVec Ideal S8x8x704 .f32) = x
    exact extractStridedSlice_apply ![0, 0, 0] x Facts₀.slices_S8x8x704_S8x3x704_0_0_0 (ix3 q t n) (ix3 q (⟨t.val, by omega⟩ : Fin 8) n) (fun a => by
      match a with
      | ⟨0, _⟩ => exact (Nat.zero_add q.val).symm
      | ⟨1, _⟩ => exact (Nat.zero_add t.val).symm
      | ⟨2, _⟩ => exact (Nat.zero_add n.val).symm)
  refine e1.trans ((w7_v16 m ρ E q (⟨t.val, by omega⟩ : Fin 8) n).trans ?_)
  rfl

/-- The host's slice of the gradient of the convolution's bias. -/
theorem w7_dcb : Gen.W7 m ρ c (Proc.devRef .tc main_v20) = fun y : S5632.Idx => ((P.dcb (y 0) : ℝ) : EReal) := by
  have e : Gen.W7 m ρ c (Proc.devRef .tc main_v20) = shapeCast S5632 (shapeCast S8x704 (extractStridedSlice S8x1x704 ![0, 3, 0] (shapeCast S8x8x704 (Gen.W6 m ρ c (Proc.devRef .tc main_v14_1) : FVec Ideal S2x4x8x704 .f32)
      Facts₀.shapeCasts_S2x4x8x704_S8x8x704 : FVec Ideal S8x8x704 .f32) Facts₀.slices_S8x8x704_S8x1x704_0_3_0) Facts₀.shapeCasts_S8x1x704_S8x704) Facts₀.shapeCasts_S8x704_S5632 := by
    unfold Gen.W7
    after_reads_simp
    rfl
  refine e.trans (MlpRef.array_ext1 _ P.dcb fun y => ?_)
  refine (shapeCast_apply _ _ (ix1 y) (ix2 (⟨y.val / 704, by omega⟩ : Fin 8) (⟨y.val % 704, by omega⟩ : Fin 704)) ?_).trans ?_
  · rw [Shape.rowMajor_val_one, Shape.rowMajor_val_two]
    show y.val / 704 * 704 + y.val % 704 = y.val
    omega
  refine (shapeCast_apply _ _ _ (ix3 (⟨y.val / 704, by omega⟩ : Fin 8) (0 : Fin 1) (⟨y.val % 704, by omega⟩ : Fin 704)) ?_).trans ?_
  · rw [Shape.rowMajor_val_three, Shape.rowMajor_val_two]
    show (y.val / 704 * 1 + 0) * 704 + y.val % 704 = y.val / 704 * 704 + y.val % 704
    omega
  refine (extractStridedSlice_apply ![0, 3, 0] _ _ _ (ix3 (⟨y.val / 704, by omega⟩ : Fin 8) (3 : Fin 8) (⟨y.val % 704, by omega⟩ : Fin 704)) (fun a => by
    match a with
    | ⟨0, _⟩ => exact (Nat.zero_add (y.val / 704)).symm
    | ⟨1, _⟩ => rfl
    | ⟨2, _⟩ => exact (Nat.zero_add (y.val % 704)).symm)).trans ((w7_v16 m ρ E _ _ _).trans ?_)
  have ey : col8 (⟨y.val / 704, by omega⟩ : Fin 8) (⟨y.val % 704, by omega⟩ : Fin 704) = y := Fin.ext (by show y.val / 704 * 704 + y.val % 704 = y.val; omega)
  rw [ey]
  rfl

/-- After the last region: the gradient of the weight up. -/
theorem w8_dup : Gen.W8 m ρ c (Proc.devRef .tc main_v21) = fun y : S8x1024x704.Idx => ((P.dup (y 1) (col8 (y 0) (y 2)) : ℝ) : EReal) :=
  (Gen.W8_arr m ρ c 2).trans (dup_array (V := Gen.V7 m ρ) (c := c) (H := P.hf) (D := fun q i n => P.du i (col8 q n))
    (fun i k => (congrFun ((Gen.W7_of m ρ c main_v10_1 (by decide +kernel)).trans ((Gen.W6_of m ρ c main_v10_1 (by decide +kernel)).trans ((Gen.W5_of m ρ c main_v10_1 (by decide +kernel)).trans
      (Gen.W4_of m ρ c main_v10_1 (by decide +kernel))))) _).trans (w3_hf m ρ E i k))
    (fun q i n => congrFun (w7_du m ρ E) (ix3 q i n)))

/-- The six results after the last region. -/
theorem w8_holds : Holds P (Gen.W8 m ρ c (Proc.devRef .tc main_v12_1)) (Gen.W8 m ρ c (Proc.devRef .tc main_v13)) (Gen.W8 m ρ c (Proc.devRef .tc main_v15))
    (Gen.W8 m ρ c (Proc.devRef .tc main_v21)) (Gen.W8 m ρ c (Proc.devRef .tc main_v17)) (Gen.W8 m ρ c (Proc.devRef .tc main_v20)) :=
  ⟨((Gen.W8_of m ρ c main_v12_1 (by decide +kernel)).trans ((Gen.W7_of m ρ c main_v12_1 (by decide +kernel)).trans ((Gen.W6_of m ρ c main_v12_1 (by decide +kernel)).trans
      (Gen.W5_of m ρ c main_v12_1 (by decide +kernel))))).trans (w4_act m ρ E),
   ((Gen.W8_of m ρ c main_v13 (by decide +kernel)).trans ((Gen.W7_of m ρ c main_v13 (by decide +kernel)).trans (Gen.W6_of m ρ c main_v13 (by decide +kernel)))).trans (w5_x3 m ρ E),
   (Gen.W8_of m ρ c main_v15 (by decide +kernel)).trans (w7_du m ρ E),
   w8_dup m ρ E,
   (Gen.W8_of m ρ c main_v17 (by decide +kernel)).trans (w7_dcw m ρ E),
   (Gen.W8_of m ρ c main_v20 (by decide +kernel)).trans (w7_dcb m ρ E)⟩

end

/-- What real arguments make of the kernel's results. -/
theorem run_values (P : Dev nD → Reals)
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (P c)) :
    θ_run defs (onTc (τ := τ) (main (F := Ideal))) ⟨m, fun _ => 0, ρ⟩ (fun r => ∀ c : Dev nD,
      Holds (P c) (r.2.mem ((c.tc : Thread nD τ).loc main_v12_1)) (r.2.mem ((c.tc : Thread nD τ).loc main_v13)) (r.2.mem ((c.tc : Thread nD τ).loc main_v15))
        (r.2.mem ((c.tc : Thread nD τ).loc main_v21)) (r.2.mem ((c.tc : Thread nD τ).loc main_v17)) (r.2.mem ((c.tc : Thread nD τ).loc main_v20))) :=
  (θ_run defs _ _).mono (fun _ h c =>
    ⟨(h c _ (Gen.mem_uc main_v12_1 (by decide))).trans (w8_holds m ρ (hE c)).1,
     (h c _ (Gen.mem_uc main_v13 (by decide))).trans (w8_holds m ρ (hE c)).2.1,
     (h c _ (Gen.mem_uc main_v15 (by decide))).trans (w8_holds m ρ (hE c)).2.2.1,
     (h c _ (Gen.mem_uc main_v21 (by decide))).trans (w8_holds m ρ (hE c)).2.2.2.1,
     (h c _ (Gen.mem_uc main_v17 (by decide))).trans (w8_holds m ρ (hE c)).2.2.2.2.1,
     (h c _ (Gen.mem_uc main_v20 (by decide))).trans (w8_holds m ρ (hE c)).2.2.2.2.2⟩) (run_arrays m ρ)

end Cert.Proof.Mlp0

end
-- ==== Proof.Finite2.lean ====
module

public import proofs.«01_k».proof.Proof.Finite
public import proofs.«01_k».proof.Proof.MlpRef
public import proofs.«01_k».proof.Proof.Mlp0Ref
public import proofs.«01_k».proof.Proof.Gen.Pre_finite2

@[expose] public section

/-!
# Finite arguments of the gated MLP are real

The precondition asks that every absolute value of the nine arguments be below infinity; such arguments are arrays of
reals.
-/

set_option maxRecDepth 16384

noncomputable section

namespace Cert.Proof

open Idealize.ShloMosaic hiding ix1 ix2 ix3 ix4
open Idealize.SL.Sem Idealize.ShloMosaic.ValueIdx

/-- The shape of one number. -/
abbrev S0 : Shape := ⟨0, ![]⟩

/-- Where every absolute value compares below infinity, every entry is real. -/
theorem real_all {s : Shape} {l : List (Fin s.rank)} (x : FVec Ideal s .f32) (hb : S0.BroadcastsInDim s (![] : Fin 0 → Fin s.rank)) (hr : s.ReducesTo l S0) (h0 : 0 < S0.numel)
    (j : S0.Idx) (h : Host.reduce IntOp.andi (cmpf .olt (Host.absf x) (broadcastInDim s ![] hb (constant S0 .f32 0x7F800000#32))) (constantI S0 1 1#1) hr h0 j = 1#1)
    (y : s.Idx) : ∃ r : ℝ, x y = ((r : ℝ) : EReal) := by
  haveI : Subsingleton S0.Idx := ⟨fun a b => by funext k; exact k.elim0⟩
  have e := Host.reduce_andi_all _ _ _ _ _ h y
  refine real_of_abs_lt _ ?_
  rw [← word_top]
  exact e

section
variable [Cert.Pre_finite2.Facts]

/-- The precondition's function is one only of arrays of reals. -/
theorem finite2_entries (x0 : FVec Ideal Pre_finite2.S4096x1024 .f32) (x1 : FVec Ideal Pre_finite2.S4096x1024 .bf16) (x2 : FVec Ideal Pre_finite2.S1024x1024 .f32)
    (x3 : FVec Ideal Pre_finite2.S1024 .f32) (x4 : FVec Ideal Pre_finite2.S2x1024x5632 .f32) (x5 : FVec Ideal Pre_finite2.S3x5632 .f32) (x6 : FVec Ideal Pre_finite2.S5632 .f32)
    (x7 : FVec Ideal Pre_finite2.S2816x1024 .f32) (x8 : FVec Ideal Pre_finite2.S4096x1024 .f32)
    (h : Cert.Pre_finite2.fn x0 x1 x2 x3 x4 x5 x6 x7 x8 = fun _ => 1#1) :
    (∀ y, ∃ r : ℝ, x0 y = ((r : ℝ) : EReal)) ∧
      (∀ y, ∃ r : ℝ, x1 y = ((r : ℝ) : EReal)) ∧
      (∀ y, ∃ r : ℝ, x2 y = ((r : ℝ) : EReal)) ∧
      (∀ y, ∃ r : ℝ, x3 y = ((r : ℝ) : EReal)) ∧
      (∀ y, ∃ r : ℝ, x4 y = ((r : ℝ) : EReal)) ∧
      (∀ y, ∃ r : ℝ, x5 y = ((r : ℝ) : EReal)) ∧
      (∀ y, ∃ r : ℝ, x6 y = ((r : ℝ) : EReal)) ∧
      (∀ y, ∃ r : ℝ, x7 y = ((r : ℝ) : EReal)) ∧
      (∀ y, ∃ r : ℝ, x8 y = ((r : ℝ) : EReal)) := by
  have hp : Cert.Pre_finite2.fn x0 x1 x2 x3 x4 x5 x6 x7 x8 (Shape.Idx.first Pre_finite2.Facts.h_S_) = 1#1 := congrFun h _
  unfold Pre_finite2.fn Pre_finite2.fn_part1 Pre_finite2.fn_part2 at hp
  obtain ⟨hp, h8⟩ := IntOp.andi_eq_one.mp hp
  have r8 := real_all x8 Pre_finite2.Facts.bcast_S_S4096x1024 Pre_finite2.Facts.reducesTo_S4096x1024_S_d0_1 Pre_finite2.Facts.h_S_ _ h8
  clear h8
  obtain ⟨hp, h7⟩ := IntOp.andi_eq_one.mp hp
  have r7 := real_all x7 Pre_finite2.Facts.bcast_S_S2816x1024 Pre_finite2.Facts.reducesTo_S2816x1024_S_d0_1 Pre_finite2.Facts.h_S_ _ h7
  clear h7
  obtain ⟨hp, h6⟩ := IntOp.andi_eq_one.mp hp
  have r6 := real_all x6 Pre_finite2.Facts.bcast_S_S5632 Pre_finite2.Facts.reducesTo_S5632_S_d0 Pre_finite2.Facts.h_S_ _ h6
  clear h6
  obtain ⟨hp, h5⟩ := IntOp.andi_eq_one.mp hp
  have r5 := real_all x5 Pre_finite2.Facts.bcast_S_S3x5632 Pre_finite2.Facts.reducesTo_S3x5632_S_d0_1 Pre_finite2.Facts.h_S_ _ h5
  clear h5
  obtain ⟨hp, h4⟩ := IntOp.andi_eq_one.mp hp
  have r4 := real_all x4 Pre_finite2.Facts.bcast_S_S2x1024x5632 Pre_finite2.Facts.reducesTo_S2x1024x5632_S_d0_1_2 Pre_finite2.Facts.h_S_ _ h4
  clear h4
  obtain ⟨hp, h3⟩ := IntOp.andi_eq_one.mp hp
  have r3 := real_all x3 Pre_finite2.Facts.bcast_S_S1024 Pre_finite2.Facts.reducesTo_S1024_S_d0 Pre_finite2.Facts.h_S_ _ h3
  clear h3
  obtain ⟨hp, h2⟩ := IntOp.andi_eq_one.mp hp
  have r2 := real_all x2 Pre_finite2.Facts.bcast_S_S1024x1024 Pre_finite2.Facts.reducesTo_S1024x1024_S_d0_1 Pre_finite2.Facts.h_S_ _ h2
  clear h2
  obtain ⟨h0, h1⟩ := IntOp.andi_eq_one.mp hp
  have r1 : ∀ y, ∃ r : ℝ, x1 y = ((r : ℝ) : EReal) := fun y => real_all (extf .f32 x1 Pre_finite2.Facts.bitsLt_bf16_f32) Pre_finite2.Facts.bcast_S_S4096x1024 Pre_finite2.Facts.reducesTo_S4096x1024_S_d0_1 Pre_finite2.Facts.h_S_ _ h1 y
  have r0 := real_all x0 Pre_finite2.Facts.bcast_S_S4096x1024 Pre_finite2.Facts.reducesTo_S4096x1024_S_d0_1 Pre_finite2.Facts.h_S_ _ h0
  clear h0 h1 hp h
  exact ⟨r0, r1, r2, r3, r4, r5, r6, r7, r8⟩

/-- The arguments of the second layer's gated MLP are real where the precondition holds. -/
theorem finite2_real (x0 : FVec Ideal Pre_finite2.S4096x1024 .f32) (x1 : FVec Ideal Pre_finite2.S4096x1024 .bf16) (x2 : FVec Ideal Pre_finite2.S1024x1024 .f32)
    (x3 : FVec Ideal Pre_finite2.S1024 .f32) (x4 : FVec Ideal Pre_finite2.S2x1024x5632 .f32) (x5 : FVec Ideal Pre_finite2.S3x5632 .f32) (x6 : FVec Ideal Pre_finite2.S5632 .f32)
    (x7 : FVec Ideal Pre_finite2.S2816x1024 .f32) (x8 : FVec Ideal Pre_finite2.S4096x1024 .f32)
    (h : Cert.Pre_finite2.fn x0 x1 x2 x3 x4 x5 x6 x7 x8 = fun _ => 1#1) :
    ∃ P : MlpRef.Reals, MlpRef.Given x0 x1 x2 x3 x4 x5 x6 x7 x8 P := by
  obtain ⟨r0, r1, r2, r3, r4, r5, r6, r7, r8⟩ := finite2_entries x0 x1 x2 x3 x4 x5 x6 x7 x8 h
  choose f0 e0 using r0
  choose f1 e1 using r1
  choose f2 e2 using r2
  choose f3 e3 using r3
  choose f4 e4 using r4
  choose f5 e5 using r5
  choose f6 e6 using r6
  choose f7 e7 using r7
  choose f8 e8 using r8
  exact ⟨⟨fun i d => f0 (ix2 i d), fun i d => f1 (ix2 i d), fun i d => f2 (ix2 i d), fun d => f3 (ix1 d), fun d y => f4 (ix3 1 d y),
      fun t y => f5 (ix2 t y), fun y => f6 (ix1 y), fun z d => f7 (ix2 z d), fun i d => f8 (ix2 i d)⟩,
    ⟨fun i d => e0 _, fun i d => e1 _, fun i d => e2 _, fun d => e3 _, fun d y => e4 _, fun t y => e5 _, fun y => e6 _, fun z d => e7 _, fun i d => e8 _⟩⟩

/-- The arguments of the first layer's gated MLP are real where the precondition holds. -/
theorem finite5_real (x0 : FVec Ideal Pre_finite2.S4096x1024 .f32) (x1 : FVec Ideal Pre_finite2.S4096x1024 .bf16) (x2 : FVec Ideal Pre_finite2.S1024x1024 .f32)
    (x3 : FVec Ideal Pre_finite2.S1024 .f32) (x4 : FVec Ideal Pre_finite2.S2x1024x5632 .f32) (x5 : FVec Ideal Pre_finite2.S3x5632 .f32) (x6 : FVec Ideal Pre_finite2.S5632 .f32)
    (x7 : FVec Ideal Pre_finite2.S2816x1024 .f32) (x8 : FVec Ideal Pre_finite2.S4096x1024 .f32)
    (h : Cert.Pre_finite2.fn x0 x1 x2 x3 x4 x5 x6 x7 x8 = fun _ => 1#1) :
    ∃ P : MlpRef.Reals, Mlp0Ref.Given x0 x1 x2 x3 x4 x5 x6 x7 x8 P := by
  obtain ⟨r0, r1, r2, r3, r4, r5, r6, r7, r8⟩ := finite2_entries x0 x1 x2 x3 x4 x5 x6 x7 x8 h
  choose f0 e0 using r0
  choose f1 e1 using r1
  choose f2 e2 using r2
  choose f3 e3 using r3
  choose f4 e4 using r4
  choose f5 e5 using r5
  choose f6 e6 using r6
  choose f7 e7 using r7
  choose f8 e8 using r8
  exact ⟨⟨fun i d => f0 (ix2 i d), fun i d => f1 (ix2 i d), fun i d => f2 (ix2 i d), fun d => f3 (ix1 d), fun d y => f4 (ix3 0 d y),
      fun t y => f5 (ix2 t y), fun y => f6 (ix1 y), fun z d => f7 (ix2 z d), fun i d => f8 (ix2 i d)⟩,
    ⟨fun i d => e0 _, fun i d => e1 _, fun i d => e2 _, fun d => e3 _, fun d y => e4 _, fun t y => e5 _, fun y => e6 _, fun z d => e7 _, fun i d => e8 _⟩⟩

end

end Cert.Proof

end
-- ==== Proof.ExtOps.lean ====
/-
  Matrices of extended reals: one statement per operation of the kernel bodies that the gradient of the gated MLP's
  first product uses, saying which matrix the operation yields, and the two ways of writing the gradient through the norm.
-/
module

public import proofs.«01_k».proof.Proof.MlpRef

@[expose] public section

set_option maxRecDepth 16384

noncomputable section

namespace Cert.Proof

open Idealize.ShloMosaic hiding ix1 ix2 ix3 ix4
open Idealize.ShloMosaic.ValueIdx
open scoped BigOperators

variable {M N K : ℕ} {φ ψ : FTy}

/-- The ideal matrix `v` has the entries `f`, which may be infinite. -/
def Is (v : FVec Ideal ⟨2, ![M, N]⟩ φ) (f : Fin M → Fin N → EReal) : Prop := ∀ i j, v (ix2 i j) = f i j

namespace Is

variable {v w : FVec Ideal ⟨2, ![M, N]⟩ φ} {f g : Fin M → Fin N → EReal}

/-- Equal entries. -/
theorem congr (h : Is v f) (e : ∀ i j, f i j = g i j) : Is v g := fun i j => by rw [h i j, e i j]

/-- The sum of two matrices. -/
theorem add (h : Is v f) (k : Is w g) : Is (addf v w) (fun i j => f i j + g i j) := fun i j => by rw [addf_apply, h i j, k i j]

/-- The difference of two matrices. -/
theorem sub (h : Is v f) (k : Is w g) : Is (subf v w) (fun i j => f i j - g i j) := fun i j => by rw [subf_apply, h i j, k i j]

/-- The entrywise product of two matrices. -/
theorem mul (h : Is v f) (k : Is w g) : Is (mulf v w) (fun i j => f i j * g i j) := fun i j => by rw [mulf_apply, h i j, k i j]

/-- The entrywise quotient of two matrices. -/
theorem div (h : Is v f) (k : Is w g) : Is (divf v w) (fun i j => Ideal.div (f i j) (g i j)) := fun i j => by rw [divf_apply, h i j, k i j]

/-- The host's entrywise quotient of two matrices. -/
theorem hdiv (h : Is v f) (k : Is w g) : Is (Host.divf v w) (fun i j => Ideal.div (f i j) (g i j)) := fun i j => by
  show Ideal.div (v (ix2 i j)) (w (ix2 i j)) = _
  rw [h i j, k i j]

/-- The entrywise reciprocal square root. -/
theorem rsqrt (h : Is v f) : Is (rsqrt v) (fun i j => Ideal.rsqrt (f i j)) := fun i j => congrArg Ideal.rsqrt (h i j)

/-- The host's entrywise reciprocal square root. -/
theorem hrsqrt (h : Is v f) : Is (Host.rsqrt v) (fun i j => Ideal.rsqrt (f i j)) := fun i j => congrArg Ideal.rsqrt (h i j)

/-- One number everywhere, from its word. -/
theorem const {x : EReal} {b : BitVec φ.bits} (h : Ideal.ofBits φ b = x) :
    Is (broadcast ⟨2, ![M, N]⟩ (Scalar.ofBits (F := Ideal) φ b) : FVec Ideal ⟨2, ![M, N]⟩ φ) (fun _ _ => x) := fun _ _ => h

/-- The host's matrix with one number everywhere. -/
theorem hconst {c : FVec Ideal ⟨0, ![]⟩ .f32} {x : EReal} (h : ∀ z, c z = x) (hb : (⟨0, ![]⟩ : Shape).BroadcastsInDim ⟨2, ![M, N]⟩ ![]) :
    Is (broadcastInDim ⟨2, ![M, N]⟩ ![] hb c : FVec Ideal ⟨2, ![M, N]⟩ .f32) (fun _ _ => x) := fun i j =>
  (broadcastInDim_apply _ hb c (ix2 i j) (fun a => a.elim0) (fun a => a.elim0)).trans (h _)

/-- The zero matrix. -/
theorem zero : Is (constant (F := Ideal) ⟨2, ![M, N]⟩ .f32 0x00000000#32) (fun _ _ => 0) := fun i j => by
  rw [constant_apply, Ideal.ofBits_zero_f32]

/-- The zero matrix, written as a repeated scalar. -/
theorem zero' : Is (broadcast ⟨2, ![M, N]⟩ (Scalar.ofBits (F := Ideal) .f32 0x00000000#32) : FVec Ideal ⟨2, ![M, N]⟩ .f32) (fun _ _ => 0) := fun i j => by
  show Ideal.ofBits .f32 0x00000000#32 = _
  rw [Ideal.ofBits_zero_f32]

/-- Casting to the same shape changes nothing. -/
theorem same (h : Is v f) (hc : (⟨2, ![M, N]⟩ : Shape).ShapeCasts ⟨2, ![M, N]⟩) :
    Is (shapeCast ⟨2, ![M, N]⟩ v hc : FVec Ideal ⟨2, ![M, N]⟩ φ) f := fun i j => by
  rw [shapeCast_apply v hc (ix2 i j) (ix2 i j) rfl]; exact h i j

/-- A matrix written under a leading axis of extent one. -/
theorem ofSlab {x : FVec Ideal ⟨3, ![1, M, N]⟩ φ} (h : ∀ i j, x (ix3 0 i j) = f i j)
    (hc : (⟨3, ![1, M, N]⟩ : Shape).ShapeCasts ⟨2, ![M, N]⟩) : Is (shapeCast ⟨2, ![M, N]⟩ x hc : FVec Ideal ⟨2, ![M, N]⟩ φ) f := fun i j => by
  rw [shapeCast_1ab_ab_apply]; exact h i j

/-- A row repeated down the columns. -/
theorem rowBcast {c : FVec Ideal ⟨2, ![1, N]⟩ φ} {f : Fin N → EReal} (h : Is c fun _ j => f j)
    (hb : (⟨2, ![1, N]⟩ : Shape).Broadcasts ⟨2, ![M, N]⟩) :
    Is (broadcastTo ⟨2, ![M, N]⟩ c hb : FVec Ideal ⟨2, ![M, N]⟩ φ) (fun _ j => f j) := fun i j => by
  rw [broadcastTo_1b_ab_apply]
  exact h 0 j

/-- A column repeated along the rows. -/
theorem bcast {c : FVec Ideal ⟨2, ![M, 1]⟩ φ} {f : Fin M → Fin 1 → EReal} (h : Is c f)
    (hb : (⟨2, ![M, 1]⟩ : Shape).Broadcasts ⟨2, ![M, N]⟩) (h1 : M ≠ 1) :
    Is (broadcastTo ⟨2, ![M, N]⟩ c hb : FVec Ideal ⟨2, ![M, N]⟩ φ) (fun i _ => f i 0) := fun i j => by
  rw [broadcastTo_apply c hb (ix2 i j) (ix2 i 0) (fun a => by
    match a with
    | ⟨0, _⟩ => exact (if_neg h1).symm
    | ⟨1, _⟩ => exact (if_pos rfl).symm)]
  exact h i 0

/-- The row sums, as a column. -/
theorem rowSum (h : Is v f) (hr : Shape.Reduces ⟨2, ![M, N]⟩ [1] ⟨1, ![M]⟩) (hc : (⟨1, ![M]⟩ : Shape).ShapeCasts ⟨2, ![M, 1]⟩)
    (acc : BitVec φ.bits) (hφ : FKind.Formats φ) (hacc : acc = FKind.add.neutral φ hφ) :
    Is (shapeCast ⟨2, ![M, 1]⟩ (multiReduction .add [1] ⟨1, ![M]⟩ v acc hr hφ hacc) hc : FVec Ideal ⟨2, ![M, 1]⟩ φ)
      (fun i _ => ∑ j, f i j) := fun i k => by
  rw [Subsingleton.elim k 0, shapeCast_a_a1_apply, Ideal.multiReduction_add_single]
  refine Finset.sum_congr rfl fun j _ => (congrArg v (funext fun a => ?_)).trans (h i j)
  match a with
  | ⟨0, _⟩ => rfl
  | ⟨1, _⟩ => rfl

/-- The column sums, as a row. -/
theorem colSum (h : Is v f) (hr : Shape.Reduces ⟨2, ![M, N]⟩ [0] ⟨1, ![N]⟩) (hc : (⟨1, ![N]⟩ : Shape).ShapeCasts ⟨2, ![1, N]⟩)
    (acc : BitVec φ.bits) (hφ : FKind.Formats φ) (hacc : acc = FKind.add.neutral φ hφ) :
    Is (shapeCast ⟨2, ![1, N]⟩ (multiReduction .add [0] ⟨1, ![N]⟩ v acc hr hφ hacc) hc : FVec Ideal ⟨2, ![1, N]⟩ φ)
      (fun _ j => ∑ i, f i j) := fun k j => by
  rw [Subsingleton.elim k 0, shapeCast_a_1a_apply, Ideal.multiReduction_add_single]
  refine Finset.sum_congr rfl fun i _ => (congrArg v (funext fun a => ?_)).trans (h i j)
  match a with
  | ⟨0, _⟩ => rfl
  | ⟨1, _⟩ => rfl

/-- A product of a matrix with a matrix transposed. -/
theorem nt {a : FVec Ideal ⟨2, ![M, K]⟩ φ} {b : FVec Ideal ⟨2, ![N, K]⟩ ψ} {f : Fin M → Fin K → EReal} {g : Fin N → Fin K → EReal}
    {acc : FVec Ideal ⟨2, ![M, N]⟩ .f32} {e : Fin M → Fin N → EReal} (ha : Is a f) (hb : Is b g) (hacc : Is acc e) (prec : Option ContractPrecision)
    {D : DotDims ⟨2, ![M, K]⟩ ⟨2, ![N, K]⟩ ⟨2, ![M, N]⟩} (hD : D = DotDims.transposedRhs M K N) :
    Is (matmul D prec a b acc) (fun i j => e i j + ∑ k, f i k * g j k) := fun i j => by
  subst hD
  refine (Ideal.matmul_transposedRhs_apply prec a b acc i j).trans ?_
  rw [hacc i j]
  exact congrArg _ (Finset.sum_congr rfl fun k _ => by rw [ha i k, hb j k])

/-- The whole array. -/
theorem array (h : Is v f) : v = fun y => f (y 0) (y 1) := by
  funext y
  exact (congrArg v (ValueIdx.eq_ix2 (n0 := M) (n1 := N) y)).trans (h (y 0) (y 1))

end Is

/-- An entry of one slab of a block, loaded whole. -/
theorem slab_at {A M N : ℕ} {x : (⟨3, ![A, M, N]⟩ : Shape).Idx → EReal} {f : Fin A → Fin M → Fin N → EReal} (h : ∀ a i j, x (ix3 a i j) = f a i j) (s : Fin A)
    (hi : ∀ a, (![s.val, 0, 0] : Fin 3 → Nat) a + (⟨3, ![1, M, N]⟩ : Shape).size a ≤ (⟨3, ![A, M, N]⟩ : Shape).size a) (i : Fin M) (j : Fin N) :
    x ((Rect.unit (s := ⟨3, ![A, M, N]⟩) ![s.val, 0, 0] (⟨3, ![1, M, N]⟩ : Shape).size hi).idx (ix3 0 i j)) = f s i j := by
  refine (congrArg x (funext fun a => ?_)).trans (h s i j)
  match a with
  | ⟨0, _⟩ => exact Fin.ext (by show s.val + 1 * 0 = s.val; omega)
  | ⟨1, _⟩ => exact Fin.ext (by show 0 + 1 * i.val = i.val; omega)
  | ⟨2, _⟩ => exact Fin.ext (by show 0 + 1 * j.val = j.val; omega)

/-- The number under the root: the mean square of a row, and the small number. -/
def msq (x : Fin 1024 → EReal) : EReal := Ideal.div (∑ e, x e * x e) ((1024 : ℝ) : EReal) + ((eps : ℝ) : EReal)

/-- The reciprocal of a row's root mean square. -/
def irms (x : Fin 1024 → EReal) : EReal := Ideal.rsqrt (msq x)

/-- The quotient by 1024. -/
theorem div_thousand (y : EReal) : Ideal.div y ((1024 : ℝ) : EReal) = y * ((1 / 1024 : ℝ) : EReal) := Ideal.div_coe (by norm_num : (1024 : ℝ) ≠ 0) y

/-- A sum of multiples by one nonnegative real number. -/
theorem sum_mul_coe {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (EReal.coe_nonneg.mpr hc) (EReal.coe_ne_top c)]

/-- Twice a multiple by a real number. -/
theorem twice (T : EReal) (c : ℝ) : T * (c : EReal) + T * (c : EReal) = T * ((2 * c : ℝ) : EReal) := by
  have key : ∀ d : ℝ, 0 ≤ d → T * (d : EReal) + T * (d : EReal) = T * ((2 * d : ℝ) : EReal) := fun d hd => by
    rw [← EReal.left_distrib_of_nonneg (EReal.coe_nonneg.mpr hd) (EReal.coe_nonneg.mpr hd), ← EReal.coe_add, two_mul]
  rcases le_total 0 c with h | h
  · exact key c h
  · have e := key (-c) (by linarith)
    induction T with
    | bot =>
      rcases h.lt_or_eq with h | rfl
      · rw [EReal.bot_mul_coe_of_neg h, EReal.bot_mul_coe_of_neg (by linarith)]; rfl
      · simp
    | top =>
      rcases h.lt_or_eq with h | rfl
      · rw [EReal.top_mul_coe_of_neg h, EReal.top_mul_coe_of_neg (by linarith)]; rfl
      · simp
    | coe t => rw [← EReal.coe_mul, ← EReal.coe_mul, ← EReal.coe_add]; exact congrArg _ (by ring)

/-- The mean square of a row with an infinite entry. -/
theorem msq_top {x : Fin 1024 → EReal} {e : Fin 1024} (h : x e = ⊤ ∨ x e = ⊥) : msq x = ⊤ := by
  have hn : ∀ i, 0 ≤ x i * x i := fun i => by
    induction x i with
    | bot => rw [EReal.bot_mul_bot]; exact le_top
    | top => rw [EReal.top_mul_top]; exact le_top
    | coe r => rw [← EReal.coe_mul]; exact EReal.coe_nonneg.mpr (mul_self_nonneg r)
  have ht : x e * x e = ⊤ := by rcases h with h | h <;> rw [h] <;> rfl
  have hs : ∑ i, x i * x i = ⊤ := top_le_iff.mp (ht ▸ Finset.single_le_sum (fun i _ => hn i) (Finset.mem_univ e))
  unfold msq
  rw [div_thousand, hs, EReal.top_mul_coe_of_pos (by norm_num), EReal.top_add_coe]

/-- The mean square of a row of reals. -/
theorem msq_coe {x : Fin 1024 → EReal} {y : Fin 1024 → ℝ} (h : ∀ e, x e = ((y e : ℝ) : EReal)) :
    msq x = (((∑ e, y e * y e) / 1024 + eps : ℝ) : EReal) := by
  unfold msq
  rw [div_thousand, show ∑ e, x e * x e = ((∑ e, y e * y e : ℝ) : EReal) from by
    rw [coe_sum]
    exact Finset.sum_congr rfl fun e _ => by rw [h e, EReal.coe_mul], ← EReal.coe_mul, ← EReal.coe_add, mul_one_div]

/-- The gradient through the norm of one row: written with the cube of the reciprocal root, and with the reciprocal root taken out. -/
theorem through_norm (a x : Fin 1024 → EReal) (d : Fin 1024) :
    (a d * irms x + x d * Ideal.div ((∑ e, x e * a e) * (((-(1 / 2) : ℝ) : EReal) * Ideal.div (irms x) (msq x))) ((1024 : ℝ) : EReal))
        + Ideal.div ((∑ e, x e * a e) * (((-(1 / 2) : ℝ) : EReal) * Ideal.div (irms x) (msq x))) ((1024 : ℝ) : EReal) * x d
      = irms x * (a d - x d * irms x * Ideal.div (∑ e, a e * (x e * irms x)) ((1024 : ℝ) : EReal)) := by
  by_cases h : ∃ e, x e = ⊤ ∨ x e = ⊥
  · obtain ⟨e, he⟩ := h
    have hr : irms x = 0 := by unfold irms; rw [msq_top he]; rfl
    have hd : Ideal.div (0 : EReal) (msq x) = 0 := by
      unfold Ideal.div
      rw [msq_top he, if_neg (by decide), zero_mul]
    rw [hr, hd, mul_zero, mul_zero, mul_zero, div_thousand, zero_mul, mul_zero, zero_mul, zero_mul, add_zero, add_zero]
  · have hx : ∀ e, ∃ r : ℝ, x e = ((r : ℝ) : EReal) := fun e => by
      have : ¬ (x e = ⊤ ∨ x e = ⊥) := fun k => h ⟨e, k⟩
      exact ⟨(x e).toReal, (EReal.coe_toReal (fun k => this (.inl k)) (fun k => this (.inr k))).symm⟩
    choose y hy using hx
    have hpos : 0 < (∑ e, y e * y e) / 1024 + eps := Mlp.mean_pos y
    generalize hq : (∑ e, y e * y e) / 1024 + eps = q at hpos
    have hm : msq x = ((q : ℝ) : EReal) := by rw [msq_coe hy, hq]
    have hi : irms x = (((Real.sqrt q)⁻¹ : ℝ) : EReal) := by
      unfold irms
      rw [hm, Ideal.rsqrt_coe, if_neg (not_lt.mpr hpos.le), if_neg hpos.ne']
    have hrr : (Real.sqrt q)⁻¹ * (Real.sqrt q)⁻¹ = 1 / q := by
      rw [← mul_inv, Real.mul_self_sqrt hpos.le, one_div]
    have hr0 : 0 ≤ (Real.sqrt q)⁻¹ := inv_nonneg.mpr (Real.sqrt_nonneg q)
    rw [hi, hm]
    generalize (Real.sqrt q)⁻¹ = r at hrr hr0
    have hs : ∑ e, a e * (x e * (r : EReal)) = (∑ e, x e * a e) * (r : EReal) := by
      rw [← sum_mul_coe _ _ hr0]
      exact Finset.sum_congr rfl fun e _ => by rw [mul_left_comm, mul_assoc]
    rw [hs]
    generalize (∑ e, x e * a e) = T
    rw [Ideal.div_coe hpos.ne', div_thousand, div_thousand, hy d, ← EReal.coe_mul, ← EReal.coe_mul, ← EReal.coe_mul, mul_assoc T, mul_assoc T, mul_left_comm _ T, mul_assoc T, mul_left_comm _ T]
    simp only [← EReal.coe_mul]
    rw [mul_comm (-(1 / 2) * (r * (1 / q)) * (1 / 1024)) (y d), add_assoc, twice, sub_eq_add_neg,
      EReal.left_distrib_of_nonneg_of_ne_top (EReal.coe_nonneg.mpr hr0) (EReal.coe_ne_top r), mul_comm (a d), ← mul_neg, mul_left_comm _ T, ← EReal.coe_neg, ← EReal.coe_mul]
    refine congrArg (fun z : ℝ => (r : EReal) * a d + T * (z : EReal)) ?_
    rw [← hrr]
    ring

end Cert.Proof

end
-- ==== Proof.UpDx.lean ====
/-
  The gradient that the gated MLP's first product hands to its input, through the norm, over the ideal values: one
  block at a time, and the sums over the grid's points.
-/
module

public import proofs.«01_k».proof.Proof.ExtOps
public import proofs.«01_k».proof.Proof.Gen.Kernel3Ideal.Frame

@[expose] public section

set_option maxRecDepth 16384

noncomputable section

namespace Cert.Proof.UpDx

open Idealize.ShloMosaic hiding ix2 ix3 ix4
open Idealize.ShloMosaic.TcCoe Idealize.SL Idealize.SL.Sem Idealize.ShloMosaic.ValueIdx Cert.Kernel3Ideal Cert.Proof.Mlp
open scoped BigOperators

/-- The product of two pairs of column blocks. -/
theorem prod_rep {v0 v2 v7 v9 : Vec Ideal S1x1024x704 .bf16} {p w q z : Fin 1024 → Fin 704 → EReal} (h0 : ∀ i n, v0 (ix3 0 i n) = p i n)
    (h2 : ∀ i n, v2 (ix3 0 i n) = w i n) (h7 : ∀ i n, v7 (ix3 0 i n) = q i n) (h9 : ∀ i n, v9 (ix3 0 i n) = z i n) :
    Is (Gen.k0_pay1 (F := Ideal) v0 v2 v7 v9) (fun i d => ∑ n, p i n * w d n + ∑ n, q i n * z d n) := by
  have a := (Is.ofSlab (φ := .bf16) h0 Facts₀.shapeCasts_S1x1024x704_S1024x704).nt (Is.ofSlab (φ := .bf16) h2 Facts₀.shapeCasts_S1x1024x704_S1024x704) Is.zero none
    (D := dot_S1024x704_S1024x704_S1024x1024_1_1_0_0_n_n) rfl
  have b := (Is.ofSlab (φ := .bf16) h7 Facts₀.shapeCasts_S1x1024x704_S1024x704).nt (Is.ofSlab (φ := .bf16) h9 Facts₀.shapeCasts_S1x1024x704_S1024x704) Is.zero none
    (D := dot_S1024x704_S1024x704_S1024x1024_1_1_0_0_n_n) rfl
  exact ((Is.zero'.add a).add b).congr fun i d => by beta_reduce; rw [zero_add, zero_add, zero_add]

section norm
variable {v27 v28 v60 : Vec Ideal S1024x1024 .f32} {v39 v46 : Vec Ideal S1x1024 .f32} {S X G : Fin 1024 → Fin 1024 → EReal} {g f : Fin 1024 → EReal}

/-- The reciprocal of each row's root mean square. -/
theorem irms_rep (hx : Is (φ := .f32) v28 X) : Is (Gen.k0_pay5 (F := Ideal) v28) (fun i _ => irms (X i)) :=
  ((((hx.mul hx).rowSum Facts₀.reduces_S1024x1024_S1024 Facts₀.shapeCasts_S1024_S1024x1 0x00000000#32 (.inl rfl) rfl).div (Is.const thousand_word)).add (Is.const eps_word.1)).rsqrt

/-- The rows divided by their root mean square. -/
theorem row_rep (hx : Is (φ := .f32) v28 X) : Is (Gen.k0_pay6 (F := Ideal) v28) (fun i d => X i d * irms (X i)) :=
  hx.mul ((irms_rep hx).bcast Facts₀.broadcasts_S1024x1_S1024x1024 (by decide))

/-- The gain's gradient over a block of rows, added to what there was. -/
theorem gain_rep (hs : Is (φ := .f32) v27 S) (hx : Is (φ := .f32) v28 X) (hf : Is (φ := .f32) v39 fun _ d => f d) :
    Is (Gen.k0_pay7 (F := Ideal) v27 v28 v39) (fun _ d => f d + ∑ i, S i d * (X i d * irms (X i))) :=
  (hf.same Facts₀.shapeCasts_S1x1024_S1x1024).add ((hs.mul (row_rep hx)).colSum Facts₀.reduces_S1024x1024_S1024_2 Facts₀.shapeCasts_S1024_S1x1024 0x00000000#32 (.inl rfl) rfl)

/-- The gradient through the norm of one row. -/
def back (s x g : Fin 1024 → EReal) (d : Fin 1024) : EReal :=
  irms x * (s d * g d - x d * irms x * Ideal.div (∑ e, s e * g e * (x e * irms x)) ((1024 : ℝ) : EReal))

/-- The gradient through the norm, plus the gradient passed by. -/
theorem back_rep (hs : Is (φ := .f32) v27 S) (hx : Is (φ := .f32) v28 X) (hg : Is (φ := .f32) v46 fun _ d => g d) (hG : Is (φ := .f32) v60 G) :
    Is (Gen.k0_pay8 (F := Ideal) v27 v28 v46 v60) (fun i d => back (S i) (X i) g d + G i d) := by
  have a := hs.mul ((hg.same Facts₀.shapeCasts_S1x1024_S1x1024).rowBcast Facts₀.broadcasts_S1x1024_S1024x1024)
  have b := (((a.mul (row_rep hx)).rowSum Facts₀.reduces_S1024x1024_S1024 Facts₀.shapeCasts_S1024_S1024x1 0x00000000#32 (.inl rfl) rfl).div (Is.const thousand_word)).bcast Facts₀.broadcasts_S1024x1_S1024x1024 (by decide)
  exact (((irms_rep hx).bcast Facts₀.broadcasts_S1024x1_S1024x1024 (by decide)).mul (a.sub ((row_rep hx).mul b))).add hG

end norm

variable (m : (ℓ : Loc nD τ sig) → Buf (Elt Ideal) ℓ) (ρ : Dev nD → PrngReg) (c : Dev nD)

/-- The grid has 16 points. -/
theorem lt (t : Fin cfg0.N) : t.val < 16 := lt_of_lt_of_eq t.isLt Gen.N_0

/-- The numbers in a grid point's blocks. -/
structure Blocks (t : Fin cfg0.N) (D W : Fin 2 → Fin 1024 → Fin 704 → EReal) (X G : Fin 1024 → Fin 1024 → EReal) (g : Fin 1024 → EReal) : Prop where
  /-- The gradient's columns. -/
  du : ∀ s i n, (Gen.iblk m c 0 t : Vec Ideal S2x1024x704 .bf16) (ix3 s i n) = D s i n
  /-- The weights' columns. -/
  w : ∀ s i n, (Gen.iblk m c 1 t : Vec Ideal S2x1024x704 .bf16) (ix3 s i n) = W s i n
  /-- The rows. -/
  x : ∀ i d, (Gen.iblk m c 2 t : Vec Ideal S1024x1024 .f32) (ix2 i d) = X i d
  /-- The gain. -/
  gn : ∀ i d, (Gen.iblk m c 3 t : Vec Ideal S1x1024 .f32) (ix2 i d) = g d
  /-- The gradient passed by. -/
  g : ∀ i d, (Gen.iblk m c 4 t : Vec Ideal S1024x1024 .f32) (ix2 i d) = G i d

variable {m c} {t : Fin cfg0.N} {D W : Fin 2 → Fin 1024 → Fin 704 → EReal} {X G : Fin 1024 → Fin 1024 → EReal} {g : Fin 1024 → EReal}

/-- One point's product. -/
def part (D W : Fin 2 → Fin 1024 → Fin 704 → EReal) (i d : Fin 1024) : EReal := ∑ n, D 0 i n * W 0 d n + ∑ n, D 1 i n * W 1 d n

/-- One point's product, from its blocks. -/
theorem Blocks.prod (B : Blocks m c t D W X G g) {v0 v2 v7 v9 : Vec Ideal S1x1024x704 .bf16}
    (h0 : v0 = View.ld (Gen.iblk m c 0 t : Vec Ideal S2x1024x704 .bf16) (Rect.unit (s := S2x1024x704) ![0, 0, 0] S1x1024x704.size Facts₀.inb_S2x1024x704_S1x1024x704_0_0_0))
    (h2 : v2 = View.ld (Gen.iblk m c 1 t : Vec Ideal S2x1024x704 .bf16) (Rect.unit (s := S2x1024x704) ![0, 0, 0] S1x1024x704.size Facts₀.inb_S2x1024x704_S1x1024x704_0_0_0))
    (h7 : v7 = View.ld (Gen.iblk m c 0 t : Vec Ideal S2x1024x704 .bf16) (Rect.unit (s := S2x1024x704) ![1, 0, 0] S1x1024x704.size Facts₀.inb_S2x1024x704_S1x1024x704_1_0_0))
    (h9 : v9 = View.ld (Gen.iblk m c 1 t : Vec Ideal S2x1024x704 .bf16) (Rect.unit (s := S2x1024x704) ![1, 0, 0] S1x1024x704.size Facts₀.inb_S2x1024x704_S1x1024x704_1_0_0)) :
    Is (Gen.k0_pay1 (F := Ideal) v0 v2 v7 v9) (part D W) := by
  subst h0 h2 h7 h9
  exact prod_rep (fun i n => slab_at B.du 0 _ i n) (fun i n => slab_at B.w 0 _ i n) (fun i n => slab_at B.du 1 _ i n) (fun i n => slab_at B.w 1 _ i n)

/-- The first of four column steps begins the sum. -/
theorem sum_first (B : Blocks m c t D W X G g) (h : t.val % 4 = 0) :
    Is (M := 1024) (N := 1024) (φ := .f32) (Gen.outsAt0 m c t.val t.isLt).2.2 (part D W) := fun i d => by
  have key := (B.prod rfl rfl rfl rfl).same Facts₀.shapeCasts_S1024x1024_S1024x1024
  by_cases h0 : t.val % 16 = 0
  · rw [Gen.outsAt0_A m c t h0 h (by omega) (by omega)]
    frame_out
    exact key i d
  · rw [Gen.outsAt0_D m c t h0 h (by omega) (by omega)]
    frame_out
    exact key i d

/-- A later column step adds to it. -/
theorem sum_next (B : Blocks m c t D W X G g) (h : ¬ t.val % 4 = 0) {f : Fin 1024 → Fin 1024 → EReal}
    (hf : Is (M := 1024) (N := 1024) (φ := .f32) (Gen.outsAt0 m c (t.val - 1) (Nat.lt_of_le_of_lt (Nat.sub_le _ _) t.isLt)).2.2 f) :
    Is (M := 1024) (N := 1024) (φ := .f32) (Gen.outsAt0 m c t.val t.isLt).2.2 (fun i d => f i d + part D W i d) := fun i d => by
  have key := (hf.add (B.prod rfl rfl rfl rfl)).same Facts₀.shapeCasts_S1024x1024_S1024x1024
  by_cases h3 : t.val % 4 = 3
  · rw [Gen.outsAt0_C m c t (by omega) h (by omega) h3]
    frame_out
    rw [read_unread_whole]
    exact key i d
  · rw [Gen.outsAt0_B m c t (by omega) h (by omega) h3]
    frame_out
    rw [read_unread_whole]
    exact key i d

/-- The gain's gradient begins at zero. -/
theorem gain_zero (h : t.val % 16 = 0) : Is (M := 1) (N := 1024) (φ := .f32) (Gen.outsAt0 m c t.val t.isLt).2.1 (fun _ _ => 0) := fun i d => by
  rw [Gen.outsAt0_A m c t h (by omega) (by omega) (by omega)]
  frame_out
  exact Is.zero' i d

/-- The gain's gradient stays as it was until a block of rows is finished. -/
theorem gain_keep (h : ¬ t.val % 16 = 0) (h3 : ¬ t.val % 4 = 3) :
    (Gen.outsAt0 m c t.val t.isLt).2.1 = (Gen.outsAt0 m c (t.val - 1) (Nat.lt_of_le_of_lt (Nat.sub_le _ _) t.isLt)).2.1 := by
  by_cases h1 : t.val % 4 = 0
  · rw [Gen.outsAt0_D m c t h h1 (by omega) h3]
    rfl
  · rw [Gen.outsAt0_B m c t h h1 (by omega) h3]
    rfl

/-- A finished block of rows adds to the gain's gradient. -/
theorem gain_next (B : Blocks m c t D W X G g) (h3 : t.val % 4 = 3) {f : Fin 1024 → Fin 1024 → EReal} {k : Fin 1024 → EReal}
    (hf : Is (M := 1024) (N := 1024) (φ := .f32) (Gen.outsAt0 m c (t.val - 1) (Nat.lt_of_le_of_lt (Nat.sub_le _ _) t.isLt)).2.2 f)
    (hk : Is (M := 1) (N := 1024) (φ := .f32) (Gen.outsAt0 m c (t.val - 1) (Nat.lt_of_le_of_lt (Nat.sub_le _ _) t.isLt)).2.1 (fun _ d => k d)) :
    Is (M := 1) (N := 1024) (φ := .f32) (Gen.outsAt0 m c t.val t.isLt).2.1
      (fun _ d => k d + ∑ i, (f i d + part D W i d) * (X i d * irms (X i))) := fun i d => by
  have key := gain_rep ((hf.add (B.prod rfl rfl rfl rfl)).same Facts₀.shapeCasts_S1024x1024_S1024x1024) B.x hk
  rw [Gen.outsAt0_C m c t (by omega) (by omega) (by omega) h3]
  frame_open
  simp (disch := decide) only [↓ View.readCov_skip, ↓ View.readCov_cons_toLoadRect, ↓ View.readCov_fill]
  frame_out
  rw [read_unread_whole]
  exact key i d

/-- The block of the input's gradient. -/
theorem back_block (B : Blocks m c t D W X G g) (h3 : t.val % 4 = 3) {f : Fin 1024 → Fin 1024 → EReal}
    (hf : Is (M := 1024) (N := 1024) (φ := .f32) (Gen.outsAt0 m c (t.val - 1) (Nat.lt_of_le_of_lt (Nat.sub_le _ _) t.isLt)).2.2 f) :
    Is (M := 1024) (N := 1024) (φ := .f32) (Gen.outsAt0 m c t.val t.isLt).1
      (fun i d => back (fun d => f i d + part D W i d) (X i) g d + G i d) := fun i d => by
  have key := back_rep ((hf.add (B.prod rfl rfl rfl rfl)).same Facts₀.shapeCasts_S1024x1024_S1024x1024) B.x B.gn B.g
  rw [Gen.outsAt0_C m c t (by omega) (by omega) (by omega) h3]
  frame_open
  simp (disch := decide) only [↓ View.readCov_skip, ↓ View.readCov_cons_toLoadRect, ↓ View.readCov_fill]
  frame_out
  rw [read_unread_whole]
  exact key i d

end Cert.Proof.UpDx

end
-- ==== Proof.UpDxArr.lean ====
/-
  The arrays that the gated MLP's first product's gradient leaves over the ideal values: the input's gradient through
  the norm, and the norm's gain's gradient.
-/
module

public import proofs.«01_k».proof.Proof.UpDx

@[expose] public section

set_option maxRecDepth 16384

noncomputable section

namespace Cert.Proof.UpDx

open Idealize.ShloMosaic hiding ix2 ix3 ix4
open Idealize.ShloMosaic.TcCoe Idealize.SL Idealize.SL.Sem Idealize.ShloMosaic.ValueIdx Cert.Kernel3Ideal
open scoped BigOperators

/-- Row `d` of the second layer's weights. -/
def upRow (d : Fin 1024) : Fin 2048 := ⟨1024 + d.val, by omega⟩

/-- Column block `s` of the pair that step `n` reads. -/
def pair (n : ℕ) (s : Fin 2) : Fin 8 := ⟨n % 4 * 2 + s.val, by omega⟩

/-- Row `i` of the block of rows numbered `r`. -/
def rowAt (r : ℕ) (i : Fin 1024) : Fin 4096 := ⟨r % 4 * 1024 + i.val, by omega⟩

/-- Where each window's block of a grid point lies. -/
theorem idx : ∀ t : Fin cfg0.N, (win0_0.index t = ![t.val % 4, t.val / 4, 0] ∧ win0_1.index t = ![t.val % 4, 1, 0]) ∧
    (win0_2.index t = ![t.val / 4, 0] ∧ win0_3.index t = ![0, 0] ∧ win0_4.index t = ![t.val / 4, 0]) ∧ win0_5.index t = ![t.val / 4, 0] ∧ win0_6.index t = ![0, 0] := by
  decide +kernel

variable (m : (ℓ : Loc nD τ sig) → Buf (Elt Ideal) ℓ) (ρ : Dev nD → PrngReg) (c : Dev nD)

/-- The numbers that the call finds in its arrays. -/
structure Entry (D : Fin 8 → Fin 4096 → Fin 704 → EReal) (W : Fin 8 → Fin 1024 → Fin 704 → EReal) (X G : Fin 4096 → Fin 1024 → EReal) (g : Fin 1024 → EReal) : Prop where
  /-- The gradient's columns, block by block. -/
  du : ∀ b i n, Gen.V m c main_arg0 (ix3 b i n) = D b i n
  /-- The weights' columns, block by block. -/
  w : ∀ b d n, Gen.V m c main_v2 (ix3 b (upRow d) n) = W b d n
  /-- The rows. -/
  x : ∀ i d, Gen.V m c main_arg2 (ix2 i d) = X i d
  /-- The gain. -/
  gn : ∀ d, Gen.V m c main_v3 (ix2 (0 : Fin 1) d) = g d
  /-- The gradient passed by. -/
  g : ∀ i d, Gen.V m c main_arg4 (ix2 i d) = G i d

variable {m c} {D : Fin 8 → Fin 4096 → Fin 704 → EReal} {W : Fin 8 → Fin 1024 → Fin 704 → EReal} {X G : Fin 4096 → Fin 1024 → EReal} {g : Fin 1024 → EReal}

/-- The blocks of one grid point. -/
theorem Entry.blocks (E : Entry m c D W X G g) (t : Fin cfg0.N) :
    Blocks m c t (fun s i n => D (pair t.val s) (rowAt (t.val / 4) i) n) (fun s d n => W (pair t.val s) d n)
      (fun i => X (rowAt (t.val / 4) i)) (fun i => G (rowAt (t.val / 4) i)) g := by
  have hlt := lt t
  have hr : t.val / 4 % 4 = t.val / 4 := by omega
  obtain ⟨⟨i0, i1⟩, ⟨i2, i3, i4⟩, -⟩ := idx t
  refine ⟨fun s i n => ?_, fun s i n => ?_, fun i d => ?_, fun i d => ?_, fun i d => ?_⟩
  · rw [← E.du]; blk_ext [Gen.iblk, i0, pair, rowAt, hr]
  · rw [← E.w]; blk_ext [Gen.iblk, i1, pair]; rfl
  · rw [← E.x]; blk_ext [Gen.iblk, i2, rowAt, hr]
  · rw [← E.gn]; blk_ext [Gen.iblk, i3]
  · rw [← E.g]; blk_ext [Gen.iblk, i4, rowAt, hr]

/-- The product of the gradient with the weights transposed. -/
def dh (D : Fin 8 → Fin 4096 → Fin 704 → EReal) (W : Fin 8 → Fin 1024 → Fin 704 → EReal) (i : Fin 4096) (d : Fin 1024) : EReal := ∑ b, ∑ n, D b i n * W b d n

/-- What step `n` adds. -/
def stepPart (D : Fin 8 → Fin 4096 → Fin 704 → EReal) (W : Fin 8 → Fin 1024 → Fin 704 → EReal) (n : ℕ) (i d : Fin 1024) : EReal :=
  part (fun s i k => D (pair n s) (rowAt (n / 4) i) k) (fun s d k => W (pair n s) d k) i d

/-- The sum of a block of rows before its last step. -/
theorem sum_three (E : Entry m c D W X G g) (t : Fin cfg0.N) (h : t.val % 4 = 3) :
    Is (M := 1024) (N := 1024) (φ := .f32) (Gen.outsAt0 m c (t.val - 1) (Nat.lt_of_le_of_lt (Nat.sub_le _ _) t.isLt)).2.2
      (fun i d => (stepPart D W (t.val - 1 - 1 - 1) i d + stepPart D W (t.val - 1 - 1) i d) + stepPart D W (t.val - 1) i d) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  have a := sum_first (E.blocks ⟨_, h3⟩) (by show (t.val - 1 - 1 - 1) % 4 = 0; omega)
  have b := sum_next (E.blocks ⟨_, h2⟩) (by show ¬ (t.val - 1 - 1) % 4 = 0; omega) a
  exact sum_next (E.blocks ⟨_, h1⟩) (by show ¬ (t.val - 1) % 4 = 0; omega) b

/-- The four steps of a block of rows make the whole product. -/
theorem sum_four (t : ℕ) (h : t % 4 = 3) (i d : Fin 1024) :
    ((stepPart D W (t - 1 - 1 - 1) i d + stepPart D W (t - 1 - 1) i d) + stepPart D W (t - 1) i d) + stepPart D W t i d = dh D W (rowAt (t / 4) i) d := by
  have r1 : (t - 1) / 4 = t / 4 := by omega
  have r2 : (t - 1 - 1) / 4 = t / 4 := by omega
  have r3 : (t - 1 - 1 - 1) / 4 = t / 4 := by omega
  have p0 : ∀ s, pair t s = ⟨6 + s.val, by omega⟩ := fun s => Fin.ext (by show t % 4 * 2 + s.val = 6 + s.val; omega)
  have p1 : ∀ s, pair (t - 1) s = ⟨4 + s.val, by omega⟩ := fun s => Fin.ext (by show (t - 1) % 4 * 2 + s.val = 4 + s.val; omega)
  have p2 : ∀ s, pair (t - 1 - 1) s = ⟨2 + s.val, by omega⟩ := fun s => Fin.ext (by show (t - 1 - 1) % 4 * 2 + s.val = 2 + s.val; omega)
  have p3 : ∀ s, pair (t - 1 - 1 - 1) s = ⟨0 + s.val, by omega⟩ := fun s => Fin.ext (by show (t - 1 - 1 - 1) % 4 * 2 + s.val = 0 + s.val; omega)
  unfold stepPart part dh
  rw [Fin.sum_univ_eight]
  simp only [r1, r2, r3, p0, p1, p2, p3]
  have q : ∀ a b c d e f g h : EReal, ((a + b) + (c + d)) + (e + f) + (g + h) = a + b + c + d + e + f + g + h := fun a b c d e f g h => by simp only [add_assoc]
  exact q _ _ _ _ _ _ _ _

/-- The gain's gradient over one block of rows. -/
def gainPart (D : Fin 8 → Fin 4096 → Fin 704 → EReal) (W : Fin 8 → Fin 1024 → Fin 704 → EReal) (X : Fin 4096 → Fin 1024 → EReal) (r : ℕ) (d : Fin 1024) : EReal :=
  ∑ i : Fin 1024, dh D W (rowAt r i) d * (X (rowAt r i) d * irms (X (rowAt r i)))

/-- The gain's gradient after a grid point: the sum over the finished blocks of rows. -/
theorem gain_run (E : Entry m c D W X G g) : ∀ (n : ℕ) (hn : n < cfg0.N),
    Is (M := 1) (N := 1024) (φ := .f32) (Gen.outsAt0 m c n hn).2.1 (fun _ d => ∑ r ∈ Finset.range ((n + 1) / 4), gainPart D W X r d)
  | 0, hn => (gain_zero (t := ⟨0, hn⟩) rfl).congr fun i d => by simp
  | n + 1, hn => by
    have hlt : n + 1 < 16 := lt ⟨n + 1, hn⟩
    have ih := gain_run E n (Nat.lt_of_succ_lt hn)
    by_cases h3 : (n + 1) % 4 = 3
    · have key := gain_next (E.blocks ⟨n + 1, hn⟩) h3 (sum_three E ⟨n + 1, hn⟩ h3) ih
      refine key.congr fun i d => ?_
      have e : (n + 1 + 1) / 4 = (n + 1) / 4 + 1 := by omega
      rw [e, Finset.sum_range_succ]
      refine congrArg (_ + ·) (Finset.sum_congr rfl fun i _ => congrArg (· * _) ?_)
      exact sum_four (n + 1) h3 i d
    · have e : (n + 1 + 1) / 4 = (n + 1) / 4 := by omega
      have key := gain_keep (m := m) (c := c) (t := ⟨n + 1, hn⟩) (by show ¬ (n + 1) % 16 = 0; omega) h3
      rw [e]
      intro i d
      exact (congrFun key (ix2 i d)).trans (ih i d)

/-- The sum over the four blocks of rows is the sum over all rows. -/
theorem gain_total (d : Fin 1024) : ∑ r ∈ Finset.range 4, gainPart D W X r d = ∑ i, dh D W i d * (X i d * irms (X i)) := by
  rw [Finset.sum_range]
  unfold gainPart
  rw [← Equiv.sum_comp (finProdFinEquiv : Fin 4 × Fin 1024 ≃ Fin (4 * 1024)) (fun i : Fin 4096 => dh D W i d * (X i d * irms (X i))), Fintype.sum_prod_type]
  refine Finset.sum_congr rfl fun r _ => Finset.sum_congr rfl fun i _ => ?_
  have e : rowAt r.val i = (finProdFinEquiv (r, i) : Fin (4 * 1024)) := Fin.ext (by
    show r.val % 4 * 1024 + i.val = i.val + 1024 * r.val
    have := r.isLt
    omega)
  rw [e]

/-- The array of the input's gradient. -/
theorem dx_array (E : Entry m c D W X G g) : (Gen.dats m 0 c).arrAt 5 cfg0.N = fun y : S4096x1024.Idx =>
    back (dh D W (y 0)) (X (y 0)) g (y 1) + G (y 0) (y 1) := by
  refine (Gen.dats m 0 c).arrAt_eq_of_covers 5 _ (by decide +kernel) fun t hf y => ?_
  have h3 := (Gen.flush0_5 t).mp hf
  have hlt := lt t
  have hr : t.val / 4 % 4 = t.val / 4 := by omega
  blk_simp
  rw [Gen.after0_5]
  obtain ⟨i, d, rfl⟩ : ∃ (i d : Fin 1024), y = ix2 i d := ⟨y 0, y 1, ValueIdx.eq_ix2 (n0 := 1024) (n1 := 1024) y⟩
  have e0 : (win0_5.blk t).view.emb (ix2 i d) 0 = rowAt (t.val / 4) i := Fin.ext (by unfold rowAt; blk_simp [idx t, hr]; rfl)
  have e1 : (win0_5.blk t).view.emb (ix2 i d) 1 = d := Fin.ext (by blk_simp [idx t] <;> simp <;> rfl)
  rw [e0, e1]
  refine (back_block (E.blocks t) h3 (sum_three E t h3) i d).trans ?_
  refine congrArg (fun s => back s (X (rowAt (t.val / 4) i)) g d + G (rowAt (t.val / 4) i) d) (funext fun d => ?_)
  exact sum_four t.val h3 i d

/-- The array of the gain's gradient. -/
theorem gain_array (E : Entry m c D W X G g) : (Gen.dats m 0 c).arrAt 6 cfg0.N = fun y : S1x1024.Idx =>
    ∑ i, dh D W i (y 1) * (X i (y 1) * irms (X i)) := by
  refine (Gen.dats m 0 c).arrAt_eq_of_covers 6 _ (by decide +kernel) fun t hf y => ?_
  have h15 := (Gen.flush0_6 t).mp hf
  have hlt := lt t
  blk_simp
  rw [Gen.after0_6]
  obtain ⟨i, d, rfl⟩ : ∃ (i : Fin 1) (d : Fin 1024), y = ix2 i d := ⟨y 0, y 1, ValueIdx.eq_ix2 (n0 := 1) (n1 := 1024) y⟩
  have e1 : (win0_6.blk t).view.emb (ix2 i d) 1 = d := Fin.ext (by blk_simp [idx t] <;> simp <;> rfl)
  rw [e1]
  refine (gain_run E t.val t.isLt i d).trans ?_
  have e : (t.val + 1) / 4 = 4 := by omega
  rw [e]
  exact gain_total d

end Cert.Proof.UpDx

end
-- ==== Proof.UpDxRef.lean ====
/-
  What the reference of the first product's gradient computes: the input's gradient through the norm,
  and the norm's gain's gradient.
-/
module

public import proofs.«01_k».proof.Proof.UpDxArr
public import proofs.«01_k».proof.Proof.MlpRef
public import proofs.«01_k».proof.Proof.Gen.Reference3Ideal.Read
public import proofs.«01_k».proof.Proof.Gen.Reference3Ideal.Run

@[expose] public section

set_option maxRecDepth 16384

noncomputable section

namespace Cert.Proof.UpDx

open Idealize.ShloMosaic hiding ix1 ix2 ix3 ix4
open Idealize.ShloMosaic.TcCoe Idealize.SL Idealize.SL.Sem Idealize.ShloMosaic.ValueIdx Cert.Proof.Mlp
open Cert.Proof.MlpRef (col8)
open scoped BigOperators

/-- The weights by column blocks. -/
def cols (W : Fin 1024 → Fin 5632 → EReal) (b : Fin 8) (d : Fin 1024) (n : Fin 704) : EReal := W d (col8 b n)

/-- The gradient's columns in one row. -/
def wide (D : Fin 8 → Fin 4096 → Fin 704 → EReal) (i : Fin 4096) (y : Fin 5632) : EReal := D ⟨y.val / 704, by omega⟩ i ⟨y.val % 704, by omega⟩

/-- The product over all columns is the product block by block. -/
theorem sum_wide (D : Fin 8 → Fin 4096 → Fin 704 → EReal) (W : Fin 1024 → Fin 5632 → EReal) (i : Fin 4096) (d : Fin 1024) :
    ∑ y, wide D i y * W d y = dh D (cols W) i d := by
  rw [← Equiv.sum_comp (finProdFinEquiv : Fin 8 × Fin 704 ≃ Fin (8 * 704)) (fun y : Fin 5632 => wide D i y * W d y), Fintype.sum_prod_type]
  unfold dh
  refine Finset.sum_congr rfl fun b _ => Finset.sum_congr rfl fun n _ => ?_
  have hb := b.isLt
  have hn := n.isLt
  have e : (finProdFinEquiv (b, n) : Fin (8 * 704)) = col8 b n := Fin.ext (by
    show n.val + 704 * b.val = b.val * 704 + n.val
    omega)
  rw [e]
  unfold wide cols
  refine congrArg (· * _) (congrArg₂ (fun b n => D b i n) (Fin.ext ?_) (Fin.ext ?_))
  · show (b.val * 704 + n.val) / 704 = b.val
    omega
  · show (b.val * 704 + n.val) % 704 = n.val
    omega

/-- The word of minus one half. -/
theorem half_word : Ideal.ofBits .f32 0xBF000000#32 = ((-(1 / 2) : ℝ) : EReal) := by
  simp only [Ideal.ofBits, Ideal.ieee]
  rw [if_neg (by decide), if_neg (by decide)]
  refine congrArg _ ?_
  rw [if_pos (by decide)]
  norm_num [show (BitVec.extractLsb' 0 23 0xBF000000#32).toNat = 0 from rfl, show (BitVec.extractLsb' 23 8 0xBF000000#32).toNat = 126 from rfl]

namespace Ref

open Cert.Reference3Ideal Cert.Reference3Ideal.Read Cert.Reference3Ideal.Facts₀

/-- The entries of the reference's five arguments. -/
structure Given (x0 : (⟨S8x4096x704, .bf16⟩ : BufTy).Contents (Elt Ideal)) (x1 : (⟨S2x1024x5632, .f32⟩ : BufTy).Contents (Elt Ideal))
    (x2 : (⟨S4096x1024, .f32⟩ : BufTy).Contents (Elt Ideal)) (x3 : (⟨S1024, .f32⟩ : BufTy).Contents (Elt Ideal))
    (x4 : (⟨S4096x1024, .f32⟩ : BufTy).Contents (Elt Ideal)) (D : Fin 8 → Fin 4096 → Fin 704 → EReal) (W : Fin 1024 → Fin 5632 → EReal)
    (X G : Fin 4096 → Fin 1024 → EReal) (g : Fin 1024 → EReal) : Prop where
  /-- The gradient's columns, block by block. -/
  a0 : ∀ b i n, x0 (ix3 b i n) = D b i n
  /-- The weights of the second layer. -/
  a1 : ∀ (d : Fin 1024) (y : Fin 5632), x1 (ix3 (1 : Fin 2) d y) = W d y
  /-- The rows. -/
  a2 : ∀ i d, x2 (ix2 i d) = X i d
  /-- The gain. -/
  a3 : ∀ d, x3 (ix1 d) = g d
  /-- The gradient passed by. -/
  a4 : ∀ i d, x4 (ix2 i d) = G i d

/-- Any five arrays have entries, those of arrays that they equal. -/
theorem given {x0 y0 : (⟨S8x4096x704, .bf16⟩ : BufTy).Contents (Elt Ideal)} {x1 y1 : (⟨S2x1024x5632, .f32⟩ : BufTy).Contents (Elt Ideal)}
    {x2 y2 : (⟨S4096x1024, .f32⟩ : BufTy).Contents (Elt Ideal)} {x3 y3 : (⟨S1024, .f32⟩ : BufTy).Contents (Elt Ideal)}
    {x4 y4 : (⟨S4096x1024, .f32⟩ : BufTy).Contents (Elt Ideal)} (e0 : y0 = x0) (e1 : y1 = x1) (e2 : y2 = x2) (e3 : y3 = x3) (e4 : y4 = x4) :
    Given y0 y1 y2 y3 y4 (fun b i n => x0 (ix3 b i n)) (fun d y => x1 (ix3 (1 : Fin 2) d y)) (fun i d => x2 (ix2 i d)) (fun i d => x4 (ix2 i d)) (fun d => x3 (ix1 d)) := by
  subst e0 e1 e2 e3 e4
  exact ⟨fun _ _ _ => rfl, fun _ _ => rfl, fun _ _ => rfl, fun _ => rfl, fun _ _ => rfl⟩

variable {x0 : (⟨S8x4096x704, .bf16⟩ : BufTy).Contents (Elt Ideal)} {x1 : (⟨S2x1024x5632, .f32⟩ : BufTy).Contents (Elt Ideal)}
  {x2 : (⟨S4096x1024, .f32⟩ : BufTy).Contents (Elt Ideal)} {x3 : (⟨S1024, .f32⟩ : BufTy).Contents (Elt Ideal)}
  {x4 : (⟨S4096x1024, .f32⟩ : BufTy).Contents (Elt Ideal)} {D : Fin 8 → Fin 4096 → Fin 704 → EReal} {W : Fin 1024 → Fin 5632 → EReal}
  {X G : Fin 4096 → Fin 1024 → EReal} {g : Fin 1024 → EReal} (E : Given x0 x1 x2 x3 x4 D W X G g)

include E

/-- The second layer's weights. -/
theorem ref_w : Is (M := 1024) (N := 5632) (φ := .f32) (val_main_v17 (F := Ideal) x1) W := fun d y => by
  rw [val_main_v17_apply, val_main_v16_apply, ← E.a1 d y]
  refine congrArg x1 (funext fun a => ?_)
  have := d.isLt
  have := y.isLt
  match a with
  | ⟨0, _⟩ => rfl
  | ⟨1, _⟩ => exact Fin.ext (by show (d.val * 5632 + y.val) / 5632 % 1024 = d.val; omega)
  | ⟨2, _⟩ => exact Fin.ext (by show (d.val * 5632 + y.val) % 5632 = y.val; omega)

/-- The gradient's columns in one row. -/
theorem ref_du : Is (M := 4096) (N := 5632) (φ := .f32) (val_main_v21 (F := Ideal) x0) (wide D) := fun i y => by
  have hy := y.isLt
  have hi := i.isLt
  refine (val_main_v21_apply x0 _).trans ?_
  refine ((val_main_v20_apply x0 _).trans (val_main_v19_apply x0 _)).trans ?_
  refine (congrArg x0 (funext fun a => ?_)).trans (E.a0 ⟨y.val / 704, by omega⟩ i ⟨y.val % 704, by omega⟩)
  match a with
  | ⟨0, _⟩ => exact Fin.ext (by show (i.val * 5632 + y.val) / 704 % 8 = y.val / 704; omega)
  | ⟨1, _⟩ => exact Fin.ext (by show (i.val * 5632 + y.val) / 5632 = i.val; omega)
  | ⟨2, _⟩ => exact Fin.ext (by show (i.val * 5632 + y.val) % 704 = y.val % 704; omega)

/-- The product of the gradient with the weights transposed. -/
theorem ref_dh : Is (M := 4096) (N := 1024) (φ := .f32) (val_main_v22 (F := Ideal) x0 x1) (dh D (cols W)) := fun i d => by
  rw [val_main_v22_apply, ← sum_wide]
  refine Finset.sum_congr rfl fun k _ => ?_
  exact congrArg₂ (· * ·) ((congrArg (val_main_v21 (F := Ideal) x0) (funext fun a => by match a with | ⟨0, _⟩ => rfl | ⟨1, _⟩ => rfl)).trans (ref_du E i k))
    ((congrArg (val_main_v17 (F := Ideal) x1) (funext fun a => by match a with | ⟨0, _⟩ => rfl | ⟨1, _⟩ => rfl)).trans (ref_w E d k))

/-- The number under the root. -/
theorem ref_mean : Is (M := 4096) (N := 1) (φ := .f32) (val_main_v6 (F := Ideal) x2) (fun i _ => msq (X i)) := by
  have hx : Is (M := 4096) (N := 1024) (φ := .f32) x2 X := E.a2
  have e2 : Is (M := 4096) (N := 1) (φ := .f32) (val_main_v2 (F := Ideal) x2) (fun i _ => ∑ d, X i d * X i d) := fun i z => by
    rw [val_main_v2_apply, val_main_v1_apply, val_main_cst_apply, word_zero, zero_add]
    refine Finset.sum_congr rfl fun d _ => ?_
    refine (congrArg (val_main_v0 (F := Ideal) x2) (?_ : _ = ix2 i d)).trans ((hx.mul hx) i d)
    funext a; match a with | ⟨0, _⟩ => rfl | ⟨1, _⟩ => rfl
  have e3 : Is (M := 4096) (N := 1) (φ := .f32) (val_main_v3 (F := Ideal)) (fun _ _ => ((1024 : ℝ) : EReal)) := Is.hconst (fun _ => thousand_word) bcast_S_S4096x1
  have e5 : Is (M := 4096) (N := 1) (φ := .f32) (val_main_v5 (F := Ideal)) (fun _ _ => ((eps : ℝ) : EReal)) := Is.hconst (fun _ => eps_word.1) bcast_S_S4096x1
  exact (e2.hdiv e3).add e5

/-- The reciprocal of each row's root mean square. -/
theorem ref_irms : Is (M := 4096) (N := 1) (φ := .f32) (val_main_v7 (F := Ideal) x2) (fun i _ => irms (X i)) :=
  (ref_mean E).hrsqrt

/-- The rows divided by their root mean square. -/
theorem ref_row : Is (M := 4096) (N := 1024) (φ := .f32) (val_main_v12 (F := Ideal) x2) (fun i d => X i d * irms (X i)) := by
  have e11 : Is (M := 4096) (N := 1024) (φ := .f32) (val_main_v11 (F := Ideal) x2) (fun i _ => irms (X i)) := fun i d => by
    rw [val_main_v11_apply, ← ref_irms E i 0]
    exact congrArg (val_main_v7 (F := Ideal) x2) (funext fun a => by match a with | ⟨0, _⟩ => rfl | ⟨1, _⟩ => rfl)
  have hx : Is (M := 4096) (N := 1024) (φ := .f32) x2 X := E.a2
  exact hx.mul e11

/-- The gain's gradient. -/
theorem ref_gain : Is (M := 1) (N := 1024) (φ := .f32) (val_main_v44 (F := Ideal) x0 x1 x2) (fun _ d => ∑ i, dh D (cols W) i d * (X i d * irms (X i))) := fun z d => by
  rw [val_main_v44_apply, val_main_v28_apply, Fin.sum_univ_one, val_main_v25_apply, val_main_v24_apply, val_main_cst_3_apply, val_main_cst_4_apply, word_zero, zero_add,
    zero_add]
  refine Finset.sum_congr rfl fun i _ => ?_
  rw [mul_comm (dh D (cols W) i d)]
  refine (congrArg (val_main_v23 (F := Ideal) x0 x1 x2) (?_ : _ = ix2 i d)).trans (((ref_row E).mul (ref_dh E)) i d)
  have hd := d.isLt
  have hz : z.val = 0 := by omega
  funext a
  match a with
  | ⟨0, _⟩ => rfl
  | ⟨1, _⟩ => exact Fin.ext (by show 0 * 1024 + (z.val * 1024 + d.val) = d.val; omega)

/-- The input's gradient. -/
theorem ref_dx : Is (M := 4096) (N := 1024) (φ := .f32) (val_main_v43 (F := Ideal) x0 x1 x2 x3 x4) (fun i d => back (dh D (cols W) i) (X i) g d + G i d) := by
  have hx : Is (M := 4096) (N := 1024) (φ := .f32) x2 X := E.a2
  have e26 : Is (M := 4096) (N := 1024) (φ := .f32) (val_main_v26 (F := Ideal) x3) (fun _ d => g d) := fun i d => by
    rw [val_main_v26_apply, val_main_v13_apply]
    exact (congrArg x3 (funext fun a => by match a with | ⟨0, _⟩ => rfl)).trans (E.a3 d)
  have e27 : Is (M := 4096) (N := 1024) (φ := .f32) (val_main_v27 (F := Ideal) x0 x1 x3) (fun i d => dh D (cols W) i d * g d) := (ref_dh E).mul e26
  have e31 : Is (M := 4096) (N := 1) (φ := .f32) (val_main_v31 (F := Ideal) x0 x1 x2 x3) (fun i _ => ∑ d, X i d * (dh D (cols W) i d * g d)) := fun i z => by
    rw [val_main_v31_apply, val_main_v30_apply, val_main_cst_5_apply, word_zero, zero_add]
    refine Finset.sum_congr rfl fun d _ => ?_
    refine (congrArg (val_main_v29 (F := Ideal) x0 x1 x2 x3) (?_ : _ = ix2 i d)).trans ((hx.mul e27) i d)
    have hz : z.val = 0 := by omega
    funext a
    match a with
    | ⟨0, _⟩ => exact Fin.ext (by show i.val * 1 + z.val = i.val; omega)
    | ⟨1, _⟩ => rfl
  have e9 : Is (M := 4096) (N := 1) (φ := .f32) (val_main_v9 (F := Ideal)) (fun _ _ => ((-(1 / 2) : ℝ) : EReal)) := Is.hconst (fun _ => half_word) bcast_S_S4096x1
  have e10 : Is (M := 4096) (N := 1) (φ := .f32) (val_main_v10 (F := Ideal) x2) (fun i _ => ((-(1 / 2) : ℝ) : EReal) * Ideal.div (irms (X i)) (msq (X i))) :=
    e9.mul ((ref_irms E).hdiv (ref_mean E))
  have e35 : Is (M := 4096) (N := 1) (φ := .f32) (val_main_v35 (F := Ideal)) (fun _ _ => ((1024 : ℝ) : EReal)) := Is.hconst (fun _ => thousand_word) bcast_S_S4096x1
  have e36 : Is (M := 4096) (N := 1) (φ := .f32) (val_main_v36 (F := Ideal) x0 x1 x2 x3) _ := (e31.mul e10).hdiv e35
  have e38 : Is (M := 4096) (N := 1024) (φ := .f32) (val_main_v38 (F := Ideal) x0 x1 x2 x3) (fun i _ =>
      Ideal.div ((∑ d, X i d * (dh D (cols W) i d * g d)) * (((-(1 / 2) : ℝ) : EReal) * Ideal.div (irms (X i)) (msq (X i)))) ((1024 : ℝ) : EReal)) := fun i d => by
    rw [val_main_v38_apply, val_main_v37_apply, Fin.sum_univ_one, val_main_cst_7_apply, word_zero, zero_add]
    refine (congrArg (val_main_v36 (F := Ideal) x0 x1 x2 x3) (?_ : _ = ix2 i 0)).trans (e36 i 0)
    funext a; match a with | ⟨0, _⟩ => rfl | ⟨1, _⟩ => rfl
  have e32 : Is (M := 4096) (N := 1024) (φ := .f32) (val_main_v32 (F := Ideal) x2) (fun i _ => irms (X i)) := fun i d => by
    rw [val_main_v32_apply, ← ref_irms E i 0]
    exact congrArg (val_main_v7 (F := Ideal) x2) (funext fun a => by match a with | ⟨0, _⟩ => rfl | ⟨1, _⟩ => rfl)
  have hG : Is (M := 4096) (N := 1024) (φ := .f32) x4 G := E.a4
  have key : Is (M := 4096) (N := 1024) (φ := .f32) (val_main_v43 (F := Ideal) x0 x1 x2 x3 x4) _ := (((e27.mul e32).add (hx.mul e38)).add (e38.mul hx)).add hG
  exact key.congr fun i d => congrArg (· + G i d) (through_norm (fun d => dh D (cols W) i d * g d) (X i) d)

omit E

/-- Two arrays are the gradients. -/
def Holds (D : Fin 8 → Fin 4096 → Fin 704 → EReal) (W : Fin 1024 → Fin 5632 → EReal) (X G : Fin 4096 → Fin 1024 → EReal) (g : Fin 1024 → EReal)
    (dx : S4096x1024.Idx → EReal) (dg : S1x1024.Idx → EReal) : Prop :=
  dx = (fun y => back (dh D (cols W) (y 0)) (X (y 0)) g (y 1) + G (y 0) (y 1)) ∧
  dg = (fun y => ∑ i, dh D (cols W) i (y 1) * (X i (y 1) * irms (X i)))

variable (m : (ℓ : Loc nD τ sig) → Buf (Elt Ideal) ℓ) (ρ : Dev nD → PrngReg)

/-- The reference has no semaphore. -/
theorem no_sem : ∀ _ : SemLoc sig, False := by decide

/-- The reference's results from its arguments. -/
theorem run_values {D : Dev nD → Fin 8 → Fin 4096 → Fin 704 → EReal} {W : Dev nD → Fin 1024 → Fin 5632 → EReal} {X G : Dev nD → Fin 4096 → Fin 1024 → EReal} {g : Dev nD → Fin 1024 → EReal}
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (D c) (W c) (X c) (G c) (g c)) :
    θ_run defs (onTc (τ := τ) (main (F := Ideal))) ⟨m, fun _ => 0, ρ⟩ (fun r => ∀ c : Dev nD,
      Holds (D c) (W c) (X c) (G c) (g c) (r.2.mem ((c.tc : Thread nD τ).loc main_v43)) (r.2.mem ((c.tc : Thread nD τ).loc main_v44))) :=
  (θ_run defs _ _).mono (fun _ h c =>
    ⟨((h c).1.trans (val_main_v43_eq (F := Ideal) _ _)).trans (ref_dx (hE c)).array,
     ((h c).2.1.trans (val_main_v44_eq (F := Ideal) _ _ _)).trans (ref_gain (hE c)).array⟩) (Cert.Reference3Ideal.Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2, funext fun g => (no_sem g.2).elim⟩) (Cert.Reference3Ideal.Value.run m ρ)

end Ref

end Cert.Proof.UpDx

end
-- ==== Proof.UpDxRun.lean ====
/-
  What the kernel of the first product's gradient leaves of its arguments: what the host's operations hand its region,
  and its two results.
-/
module

public import proofs.«01_k».proof.Proof.UpDxRef
public import Idealize.ShloMosaic.Lib.StableHlo.RunRead

@[expose] public section

set_option maxRecDepth 16384

noncomputable section

namespace Cert.Proof.UpDx

open Idealize.ShloMosaic hiding ix1 ix2 ix3 ix4
open Idealize.ShloMosaic.TcCoe Idealize.SL Idealize.SL.Sem Idealize.ShloMosaic.ValueIdx Cert.Kernel3Ideal
open Cert.Proof.MlpRef (col8)
open Ref (Given Holds)
open scoped BigOperators

variable (m : (ℓ : Loc nD τ sig) → Buf (Elt Ideal) ℓ) (ρ : Dev nD → PrngReg) (c : Dev nD)

/-- What the region finds in the weights' array. -/
theorem h_v2 : Gen.V m c main_v2 = transpose S8x2048x704 [1, 0, 2] (shapeCast S2048x8x704
      (truncf .bf16 (m ((c.tc : Thread nD τ).loc main_arg1) : FVec Ideal S2x1024x5632 .f32) Facts₀.bitsLt_bf16_f32 : FVec Ideal S2x1024x5632 .bf16)
        Facts₀.shapeCasts_S2x1024x5632_S2048x8x704) Facts₀.transposes_S2048x8x704_S8x2048x704_1_0_2 := by
  unfold Gen.V Gen.hostOps0
  after_reads_simp
  rfl

/-- What the region finds in the gain's array. -/
theorem h_v3 : Gen.V m c main_v3 = shapeCast S1x1024 (m ((c.tc : Thread nD τ).loc main_arg3) : FVec Ideal S1024 .f32) Facts₀.shapeCasts_S1024_S1x1024 := by
  unfold Gen.V Gen.hostOps0
  after_reads_simp
  rfl

variable {m c} {D : Fin 8 → Fin 4096 → Fin 704 → EReal} {W : Fin 1024 → Fin 5632 → EReal} {X G : Fin 4096 → Fin 1024 → EReal} {g : Fin 1024 → EReal}

/-- The arguments are what the region finds. -/
theorem entry (E : Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) D W X G g) : Entry m c D (cols W) X G g where
  du := fun b i n => (congrFun (Gen.V_main_arg0 m c) _).trans (E.a0 b i n)
  w := fun b d n => by
    refine (congrFun (h_v2 m c) _).trans ?_
    refine (transpose_apply [1, 0, 2] _ _ (ix3 b (upRow d) n) (ix3 (upRow d) b n)
      (fun a => match a with | ⟨0, _⟩ => rfl | ⟨1, _⟩ => rfl | ⟨2, _⟩ => rfl)).trans ?_
    refine (shapeCast_apply _ _ (ix3 (upRow d) b n) (ix3 (1 : Fin 2) d (col8 b n)) ?_).trans (E.a1 d _)
    rw [Shape.rowMajor_val_three, Shape.rowMajor_val_three]
    show (1 * 1024 + d.val) * 5632 + (b.val * 704 + n.val) = ((1024 + d.val) * 8 + b.val) * 704 + n.val
    omega
  x := fun i d => (congrFun (Gen.V_main_arg2 m c) _).trans (E.a2 i d)
  gn := fun d => by
    refine (congrFun (h_v3 m c) _).trans ((shapeCast_apply _ _ (ix2 (0 : Fin 1) d) (ix1 d) ?_).trans (E.a3 d))
    rw [Shape.rowMajor_val_one, Shape.rowMajor_val_two]
    show d.val = 0 * 1024 + d.val
    omega
  g := fun i d => (congrFun (Gen.V_main_arg4 m c) _).trans (E.a4 i d)

variable (m)

/-- The kernel leaves the two gradients of its arguments, and its arguments as they were. -/
theorem run_values {D : Dev nD → Fin 8 → Fin 4096 → Fin 704 → EReal} {W : Dev nD → Fin 1024 → Fin 5632 → EReal} {X G : Dev nD → Fin 4096 → Fin 1024 → EReal} {g : Dev nD → Fin 1024 → EReal}
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (D c) (W c) (X c) (G c) (g c)) :
    θ_run defs (onTc (τ := τ) (main (F := Ideal))) ⟨m, fun _ => 0, ρ⟩ (fun r => ∀ c : Dev nD,
      Holds (D c) (W c) (X c) (G c) (g c) (r.2.mem ((c.tc : Thread nD τ).loc main_v4_0)) (r.2.mem ((c.tc : Thread nD τ).loc main_v4_1))) :=
  (θ_run defs _ _).mono (fun _ h c => ⟨((h c).1 5).trans (dx_array (entry (hE c))), ((h c).1 6).trans (gain_array (entry (hE c)))⟩) (Gen.run_main m ρ)

end Cert.Proof.UpDx

end
-- ==== Proof.UpDx0.lean ====
/-
  The gradient that the gated MLP's first product hands to its input, through the norm, over the ideal values: one
  block at a time, and the sums over the grid's points.
-/
module

public import proofs.«01_k».proof.Proof.UpDx
public import proofs.«01_k».proof.Proof.Gen.Kernel6Ideal.Frame

@[expose] public section

set_option maxRecDepth 16384

noncomputable section

namespace Cert.Proof.UpDx0

open Idealize.ShloMosaic hiding ix2 ix3 ix4
open Idealize.ShloMosaic.TcCoe Idealize.SL Idealize.SL.Sem Idealize.ShloMosaic.ValueIdx Cert.Kernel6Ideal Cert.Proof.Mlp
open Cert.Proof.UpDx
open scoped BigOperators

/-- The product of two pairs of column blocks. -/
theorem prod_rep {v0 v2 v7 v9 : Vec Ideal S1x1024x704 .bf16} {p w q z : Fin 1024 → Fin 704 → EReal} (h0 : ∀ i n, v0 (ix3 0 i n) = p i n)
    (h2 : ∀ i n, v2 (ix3 0 i n) = w i n) (h7 : ∀ i n, v7 (ix3 0 i n) = q i n) (h9 : ∀ i n, v9 (ix3 0 i n) = z i n) :
    Is (Gen.k0_pay1 (F := Ideal) v0 v2 v7 v9) (fun i d => ∑ n, p i n * w d n + ∑ n, q i n * z d n) := by
  have a := (Is.ofSlab (φ := .bf16) h0 Facts₀.shapeCasts_S1x1024x704_S1024x704).nt (Is.ofSlab (φ := .bf16) h2 Facts₀.shapeCasts_S1x1024x704_S1024x704) Is.zero none
    (D := dot_S1024x704_S1024x704_S1024x1024_1_1_0_0_n_n) rfl
  have b := (Is.ofSlab (φ := .bf16) h7 Facts₀.shapeCasts_S1x1024x704_S1024x704).nt (Is.ofSlab (φ := .bf16) h9 Facts₀.shapeCasts_S1x1024x704_S1024x704) Is.zero none
    (D := dot_S1024x704_S1024x704_S1024x1024_1_1_0_0_n_n) rfl
  exact ((Is.zero'.add a).add b).congr fun i d => by beta_reduce; rw [zero_add, zero_add, zero_add]

section norm
variable {v27 v28 v60 : Vec Ideal S1024x1024 .f32} {v39 v46 : Vec Ideal S1x1024 .f32} {S X G : Fin 1024 → Fin 1024 → EReal} {g f : Fin 1024 → EReal}

/-- The reciprocal of each row's root mean square. -/
theorem irms_rep (hx : Is (φ := .f32) v28 X) : Is (Gen.k0_pay5 (F := Ideal) v28) (fun i _ => irms (X i)) :=
  ((((hx.mul hx).rowSum Facts₀.reduces_S1024x1024_S1024 Facts₀.shapeCasts_S1024_S1024x1 0x00000000#32 (.inl rfl) rfl).div (Is.const thousand_word)).add (Is.const eps_word.1)).rsqrt

/-- The rows divided by their root mean square. -/
theorem row_rep (hx : Is (φ := .f32) v28 X) : Is (Gen.k0_pay6 (F := Ideal) v28) (fun i d => X i d * irms (X i)) :=
  hx.mul ((irms_rep hx).bcast Facts₀.broadcasts_S1024x1_S1024x1024 (by decide))

/-- The gain's gradient over a block of rows, added to what there was. -/
theorem gain_rep (hs : Is (φ := .f32) v27 S) (hx : Is (φ := .f32) v28 X) (hf : Is (φ := .f32) v39 fun _ d => f d) :
    Is (Gen.k0_pay7 (F := Ideal) v27 v28 v39) (fun _ d => f d + ∑ i, S i d * (X i d * irms (X i))) :=
  (hf.same Facts₀.shapeCasts_S1x1024_S1x1024).add ((hs.mul (row_rep hx)).colSum Facts₀.reduces_S1024x1024_S1024_2 Facts₀.shapeCasts_S1024_S1x1024 0x00000000#32 (.inl rfl) rfl)

/-- The gradient through the norm, plus the gradient passed by. -/
theorem back_rep (hs : Is (φ := .f32) v27 S) (hx : Is (φ := .f32) v28 X) (hg : Is (φ := .f32) v46 fun _ d => g d) (hG : Is (φ := .f32) v60 G) :
    Is (Gen.k0_pay8 (F := Ideal) v27 v28 v46 v60) (fun i d => back (S i) (X i) g d + G i d) := by
  have a := hs.mul ((hg.same Facts₀.shapeCasts_S1x1024_S1x1024).rowBcast Facts₀.broadcasts_S1x1024_S1024x1024)
  have b := (((a.mul (row_rep hx)).rowSum Facts₀.reduces_S1024x1024_S1024 Facts₀.shapeCasts_S1024_S1024x1 0x00000000#32 (.inl rfl) rfl).div (Is.const thousand_word)).bcast Facts₀.broadcasts_S1024x1_S1024x1024 (by decide)
  exact (((irms_rep hx).bcast Facts₀.broadcasts_S1024x1_S1024x1024 (by decide)).mul (a.sub ((row_rep hx).mul b))).add hG

end norm

variable (m : (ℓ : Loc nD τ sig) → Buf (Elt Ideal) ℓ) (ρ : Dev nD → PrngReg) (c : Dev nD)

/-- The grid has 16 points. -/
theorem lt (t : Fin cfg0.N) : t.val < 16 := lt_of_lt_of_eq t.isLt Gen.N_0

/-- The numbers in a grid point's blocks. -/
structure Blocks (t : Fin cfg0.N) (D W : Fin 2 → Fin 1024 → Fin 704 → EReal) (X G : Fin 1024 → Fin 1024 → EReal) (g : Fin 1024 → EReal) : Prop where
  /-- The gradient's columns. -/
  du : ∀ s i n, (Gen.iblk m c 0 t : Vec Ideal S2x1024x704 .bf16) (ix3 s i n) = D s i n
  /-- The weights' columns. -/
  w : ∀ s i n, (Gen.iblk m c 1 t : Vec Ideal S2x1024x704 .bf16) (ix3 s i n) = W s i n
  /-- The rows. -/
  x : ∀ i d, (Gen.iblk m c 2 t : Vec Ideal S1024x1024 .f32) (ix2 i d) = X i d
  /-- The gain. -/
  gn : ∀ i d, (Gen.iblk m c 3 t : Vec Ideal S1x1024 .f32) (ix2 i d) = g d
  /-- The gradient passed by. -/
  g : ∀ i d, (Gen.iblk m c 4 t : Vec Ideal S1024x1024 .f32) (ix2 i d) = G i d

variable {m c} {t : Fin cfg0.N} {D W : Fin 2 → Fin 1024 → Fin 704 → EReal} {X G : Fin 1024 → Fin 1024 → EReal} {g : Fin 1024 → EReal}

/-- One point's product, from its blocks. -/
theorem Blocks.prod (B : Blocks m c t D W X G g) {v0 v2 v7 v9 : Vec Ideal S1x1024x704 .bf16}
    (h0 : v0 = View.ld (Gen.iblk m c 0 t : Vec Ideal S2x1024x704 .bf16) (Rect.unit (s := S2x1024x704) ![0, 0, 0] S1x1024x704.size Facts₀.inb_S2x1024x704_S1x1024x704_0_0_0))
    (h2 : v2 = View.ld (Gen.iblk m c 1 t : Vec Ideal S2x1024x704 .bf16) (Rect.unit (s := S2x1024x704) ![0, 0, 0] S1x1024x704.size Facts₀.inb_S2x1024x704_S1x1024x704_0_0_0))
    (h7 : v7 = View.ld (Gen.iblk m c 0 t : Vec Ideal S2x1024x704 .bf16) (Rect.unit (s := S2x1024x704) ![1, 0, 0] S1x1024x704.size Facts₀.inb_S2x1024x704_S1x1024x704_1_0_0))
    (h9 : v9 = View.ld (Gen.iblk m c 1 t : Vec Ideal S2x1024x704 .bf16) (Rect.unit (s := S2x1024x704) ![1, 0, 0] S1x1024x704.size Facts₀.inb_S2x1024x704_S1x1024x704_1_0_0)) :
    Is (Gen.k0_pay1 (F := Ideal) v0 v2 v7 v9) (part D W) := by
  subst h0 h2 h7 h9
  exact prod_rep (fun i n => slab_at B.du 0 _ i n) (fun i n => slab_at B.w 0 _ i n) (fun i n => slab_at B.du 1 _ i n) (fun i n => slab_at B.w 1 _ i n)

/-- The first of four column steps begins the sum. -/
theorem sum_first (B : Blocks m c t D W X G g) (h : t.val % 4 = 0) :
    Is (M := 1024) (N := 1024) (φ := .f32) (Gen.outsAt0 m c t.val t.isLt).2.2 (part D W) := fun i d => by
  have key := (B.prod rfl rfl rfl rfl).same Facts₀.shapeCasts_S1024x1024_S1024x1024
  by_cases h0 : t.val % 16 = 0
  · rw [Gen.outsAt0_A m c t h0 h (by omega) (by omega)]
    frame_out
    exact key i d
  · rw [Gen.outsAt0_D m c t h0 h (by omega) (by omega)]
    frame_out
    exact key i d

/-- A later column step adds to it. -/
theorem sum_next (B : Blocks m c t D W X G g) (h : ¬ t.val % 4 = 0) {f : Fin 1024 → Fin 1024 → EReal}
    (hf : Is (M := 1024) (N := 1024) (φ := .f32) (Gen.outsAt0 m c (t.val - 1) (Nat.lt_of_le_of_lt (Nat.sub_le _ _) t.isLt)).2.2 f) :
    Is (M := 1024) (N := 1024) (φ := .f32) (Gen.outsAt0 m c t.val t.isLt).2.2 (fun i d => f i d + part D W i d) := fun i d => by
  have key := (hf.add (B.prod rfl rfl rfl rfl)).same Facts₀.shapeCasts_S1024x1024_S1024x1024
  by_cases h3 : t.val % 4 = 3
  · rw [Gen.outsAt0_C m c t (by omega) h (by omega) h3]
    frame_out
    rw [read_unread_whole]
    exact key i d
  · rw [Gen.outsAt0_B m c t (by omega) h (by omega) h3]
    frame_out
    rw [read_unread_whole]
    exact key i d

/-- The gain's gradient begins at zero. -/
theorem gain_zero (h : t.val % 16 = 0) : Is (M := 1) (N := 1024) (φ := .f32) (Gen.outsAt0 m c t.val t.isLt).2.1 (fun _ _ => 0) := fun i d => by
  rw [Gen.outsAt0_A m c t h (by omega) (by omega) (by omega)]
  frame_out
  exact Is.zero' i d

/-- The gain's gradient stays as it was until a block of rows is finished. -/
theorem gain_keep (h : ¬ t.val % 16 = 0) (h3 : ¬ t.val % 4 = 3) :
    (Gen.outsAt0 m c t.val t.isLt).2.1 = (Gen.outsAt0 m c (t.val - 1) (Nat.lt_of_le_of_lt (Nat.sub_le _ _) t.isLt)).2.1 := by
  by_cases h1 : t.val % 4 = 0
  · rw [Gen.outsAt0_D m c t h h1 (by omega) h3]
    rfl
  · rw [Gen.outsAt0_B m c t h h1 (by omega) h3]
    rfl

/-- A finished block of rows adds to the gain's gradient. -/
theorem gain_next (B : Blocks m c t D W X G g) (h3 : t.val % 4 = 3) {f : Fin 1024 → Fin 1024 → EReal} {k : Fin 1024 → EReal}
    (hf : Is (M := 1024) (N := 1024) (φ := .f32) (Gen.outsAt0 m c (t.val - 1) (Nat.lt_of_le_of_lt (Nat.sub_le _ _) t.isLt)).2.2 f)
    (hk : Is (M := 1) (N := 1024) (φ := .f32) (Gen.outsAt0 m c (t.val - 1) (Nat.lt_of_le_of_lt (Nat.sub_le _ _) t.isLt)).2.1 (fun _ d => k d)) :
    Is (M := 1) (N := 1024) (φ := .f32) (Gen.outsAt0 m c t.val t.isLt).2.1
      (fun _ d => k d + ∑ i, (f i d + part D W i d) * (X i d * irms (X i))) := fun i d => by
  have key := gain_rep ((hf.add (B.prod rfl rfl rfl rfl)).same Facts₀.shapeCasts_S1024x1024_S1024x1024) B.x hk
  rw [Gen.outsAt0_C m c t (by omega) (by omega) (by omega) h3]
  frame_open
  simp (disch := decide) only [↓ View.readCov_skip, ↓ View.readCov_cons_toLoadRect, ↓ View.readCov_fill]
  frame_out
  rw [read_unread_whole]
  exact key i d

/-- The block of the input's gradient. -/
theorem back_block (B : Blocks m c t D W X G g) (h3 : t.val % 4 = 3) {f : Fin 1024 → Fin 1024 → EReal}
    (hf : Is (M := 1024) (N := 1024) (φ := .f32) (Gen.outsAt0 m c (t.val - 1) (Nat.lt_of_le_of_lt (Nat.sub_le _ _) t.isLt)).2.2 f) :
    Is (M := 1024) (N := 1024) (φ := .f32) (Gen.outsAt0 m c t.val t.isLt).1
      (fun i d => back (fun d => f i d + part D W i d) (X i) g d + G i d) := fun i d => by
  have key := back_rep ((hf.add (B.prod rfl rfl rfl rfl)).same Facts₀.shapeCasts_S1024x1024_S1024x1024) B.x B.gn B.g
  rw [Gen.outsAt0_C m c t (by omega) (by omega) (by omega) h3]
  frame_open
  simp (disch := decide) only [↓ View.readCov_skip, ↓ View.readCov_cons_toLoadRect, ↓ View.readCov_fill]
  frame_out
  rw [read_unread_whole]
  exact key i d

end Cert.Proof.UpDx0

end
-- ==== Proof.UpDx0Arr.lean ====
/-
  The arrays that the gated MLP's first product's gradient leaves over the ideal values: the input's gradient through
  the norm, and the norm's gain's gradient.
-/
module

public import proofs.«01_k».proof.Proof.UpDxArr
public import proofs.«01_k».proof.Proof.UpDx0

@[expose] public section

set_option maxRecDepth 16384

noncomputable section

namespace Cert.Proof.UpDx0

open Idealize.ShloMosaic hiding ix2 ix3 ix4
open Idealize.ShloMosaic.TcCoe Idealize.SL Idealize.SL.Sem Idealize.ShloMosaic.ValueIdx Cert.Kernel6Ideal
open Cert.Proof.UpDx
open scoped BigOperators

/-- Row `d` of the first layer's weights. -/
def upRow (d : Fin 1024) : Fin 2048 := ⟨d.val, by omega⟩

/-- Where each window's block of a grid point lies. -/
theorem idx : ∀ t : Fin cfg0.N, (win0_0.index t = ![t.val % 4, t.val / 4, 0] ∧ win0_1.index t = ![t.val % 4, 0, 0]) ∧
    (win0_2.index t = ![t.val / 4, 0] ∧ win0_3.index t = ![0, 0] ∧ win0_4.index t = ![t.val / 4, 0]) ∧ win0_5.index t = ![t.val / 4, 0] ∧ win0_6.index t = ![0, 0] := by
  decide +kernel

variable (m : (ℓ : Loc nD τ sig) → Buf (Elt Ideal) ℓ) (ρ : Dev nD → PrngReg) (c : Dev nD)

/-- The numbers that the call finds in its arrays. -/
structure Entry (D : Fin 8 → Fin 4096 → Fin 704 → EReal) (W : Fin 8 → Fin 1024 → Fin 704 → EReal) (X G : Fin 4096 → Fin 1024 → EReal) (g : Fin 1024 → EReal) : Prop where
  /-- The gradient's columns, block by block. -/
  du : ∀ b i n, Gen.V m c main_arg0 (ix3 b i n) = D b i n
  /-- The weights' columns, block by block. -/
  w : ∀ b d n, Gen.V m c main_v2 (ix3 b (upRow d) n) = W b d n
  /-- The rows. -/
  x : ∀ i d, Gen.V m c main_arg2 (ix2 i d) = X i d
  /-- The gain. -/
  gn : ∀ d, Gen.V m c main_v3 (ix2 (0 : Fin 1) d) = g d
  /-- The gradient passed by. -/
  g : ∀ i d, Gen.V m c main_arg4 (ix2 i d) = G i d

variable {m c} {D : Fin 8 → Fin 4096 → Fin 704 → EReal} {W : Fin 8 → Fin 1024 → Fin 704 → EReal} {X G : Fin 4096 → Fin 1024 → EReal} {g : Fin 1024 → EReal}

/-- The blocks of one grid point. -/
theorem Entry.blocks (E : Entry m c D W X G g) (t : Fin cfg0.N) :
    Blocks m c t (fun s i n => D (pair t.val s) (rowAt (t.val / 4) i) n) (fun s d n => W (pair t.val s) d n)
      (fun i => X (rowAt (t.val / 4) i)) (fun i => G (rowAt (t.val / 4) i)) g := by
  have hlt := lt t
  have hr : t.val / 4 % 4 = t.val / 4 := by omega
  obtain ⟨⟨i0, i1⟩, ⟨i2, i3, i4⟩, -⟩ := idx t
  refine ⟨fun s i n => ?_, fun s i n => ?_, fun i d => ?_, fun i d => ?_, fun i d => ?_⟩
  · rw [← E.du]; blk_ext [Gen.iblk, i0, pair, rowAt, hr]
  · rw [← E.w]; blk_ext [Gen.iblk, i1, pair]; rfl
  · rw [← E.x]; blk_ext [Gen.iblk, i2, rowAt, hr]
  · rw [← E.gn]; blk_ext [Gen.iblk, i3]
  · rw [← E.g]; blk_ext [Gen.iblk, i4, rowAt, hr]

/-- The sum of a block of rows before its last step. -/
theorem sum_three (E : Entry m c D W X G g) (t : Fin cfg0.N) (h : t.val % 4 = 3) :
    Is (M := 1024) (N := 1024) (φ := .f32) (Gen.outsAt0 m c (t.val - 1) (Nat.lt_of_le_of_lt (Nat.sub_le _ _) t.isLt)).2.2
      (fun i d => (stepPart D W (t.val - 1 - 1 - 1) i d + stepPart D W (t.val - 1 - 1) i d) + stepPart D W (t.val - 1) i d) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  have a := sum_first (E.blocks ⟨_, h3⟩) (by show (t.val - 1 - 1 - 1) % 4 = 0; omega)
  have b := sum_next (E.blocks ⟨_, h2⟩) (by show ¬ (t.val - 1 - 1) % 4 = 0; omega) a
  exact sum_next (E.blocks ⟨_, h1⟩) (by show ¬ (t.val - 1) % 4 = 0; omega) b

/-- The gain's gradient after a grid point: the sum over the finished blocks of rows. -/
theorem gain_run (E : Entry m c D W X G g) : ∀ (n : ℕ) (hn : n < cfg0.N),
    Is (M := 1) (N := 1024) (φ := .f32) (Gen.outsAt0 m c n hn).2.1 (fun _ d => ∑ r ∈ Finset.range ((n + 1) / 4), gainPart D W X r d)
  | 0, hn => (gain_zero (t := ⟨0, hn⟩) rfl).congr fun i d => by simp
  | n + 1, hn => by
    have hlt : n + 1 < 16 := lt ⟨n + 1, hn⟩
    have ih := gain_run E n (Nat.lt_of_succ_lt hn)
    by_cases h3 : (n + 1) % 4 = 3
    · have key := gain_next (E.blocks ⟨n + 1, hn⟩) h3 (sum_three E ⟨n + 1, hn⟩ h3) ih
      refine key.congr fun i d => ?_
      have e : (n + 1 + 1) / 4 = (n + 1) / 4 + 1 := by omega
      rw [e, Finset.sum_range_succ]
      refine congrArg (_ + ·) (Finset.sum_congr rfl fun i _ => congrArg (· * _) ?_)
      exact sum_four (n + 1) h3 i d
    · have e : (n + 1 + 1) / 4 = (n + 1) / 4 := by omega
      have key := gain_keep (m := m) (c := c) (t := ⟨n + 1, hn⟩) (by show ¬ (n + 1) % 16 = 0; omega) h3
      rw [e]
      intro i d
      exact (congrFun key (ix2 i d)).trans (ih i d)

/-- The array of the input's gradient. -/
theorem dx_array (E : Entry m c D W X G g) : (Gen.dats m 0 c).arrAt 5 cfg0.N = fun y : S4096x1024.Idx =>
    back (dh D W (y 0)) (X (y 0)) g (y 1) + G (y 0) (y 1) := by
  refine (Gen.dats m 0 c).arrAt_eq_of_covers 5 _ (by decide +kernel) fun t hf y => ?_
  have h3 := (Gen.flush0_5 t).mp hf
  have hlt := lt t
  have hr : t.val / 4 % 4 = t.val / 4 := by omega
  blk_simp
  rw [Gen.after0_5]
  obtain ⟨i, d, rfl⟩ : ∃ (i d : Fin 1024), y = ix2 i d := ⟨y 0, y 1, ValueIdx.eq_ix2 (n0 := 1024) (n1 := 1024) y⟩
  have e0 : (win0_5.blk t).view.emb (ix2 i d) 0 = rowAt (t.val / 4) i := Fin.ext (by unfold rowAt; blk_simp [idx t, hr]; rfl)
  have e1 : (win0_5.blk t).view.emb (ix2 i d) 1 = d := Fin.ext (by blk_simp [idx t] <;> simp <;> rfl)
  rw [e0, e1]
  refine (back_block (E.blocks t) h3 (sum_three E t h3) i d).trans ?_
  refine congrArg (fun s => back s (X (rowAt (t.val / 4) i)) g d + G (rowAt (t.val / 4) i) d) (funext fun d => ?_)
  exact sum_four t.val h3 i d

/-- The array of the gain's gradient. -/
theorem gain_array (E : Entry m c D W X G g) : (Gen.dats m 0 c).arrAt 6 cfg0.N = fun y : S1x1024.Idx =>
    ∑ i, dh D W i (y 1) * (X i (y 1) * irms (X i)) := by
  refine (Gen.dats m 0 c).arrAt_eq_of_covers 6 _ (by decide +kernel) fun t hf y => ?_
  have h15 := (Gen.flush0_6 t).mp hf
  have hlt := lt t
  blk_simp
  rw [Gen.after0_6]
  obtain ⟨i, d, rfl⟩ : ∃ (i : Fin 1) (d : Fin 1024), y = ix2 i d := ⟨y 0, y 1, ValueIdx.eq_ix2 (n0 := 1) (n1 := 1024) y⟩
  have e1 : (win0_6.blk t).view.emb (ix2 i d) 1 = d := Fin.ext (by blk_simp [idx t] <;> simp <;> rfl)
  rw [e1]
  refine (gain_run E t.val t.isLt i d).trans ?_
  have e : (t.val + 1) / 4 = 4 := by omega
  rw [e]
  exact gain_total d

end Cert.Proof.UpDx0

end
-- ==== Proof.UpDx0Ref.lean ====
/-
  What the reference of the first product's gradient computes: the input's gradient through the norm,
  and the norm's gain's gradient.
-/
module

public import proofs.«01_k».proof.Proof.UpDxRef
public import proofs.«01_k».proof.Proof.UpDx0Arr
public import proofs.«01_k».proof.Proof.MlpRef
public import proofs.«01_k».proof.Proof.Gen.Reference6Ideal.Read
public import proofs.«01_k».proof.Proof.Gen.Reference6Ideal.Run

@[expose] public section

set_option maxRecDepth 16384

noncomputable section

namespace Cert.Proof.UpDx0

open Idealize.ShloMosaic hiding ix1 ix2 ix3 ix4
open Idealize.ShloMosaic.TcCoe Idealize.SL Idealize.SL.Sem Idealize.ShloMosaic.ValueIdx Cert.Proof.Mlp
open Cert.Proof.MlpRef (col8)
open Cert.Proof.UpDx
open scoped BigOperators

namespace Ref

open Cert.Reference6Ideal Cert.Reference6Ideal.Read Cert.Reference6Ideal.Facts₀

/-- The entries of the reference's five arguments. -/
structure Given (x0 : (⟨S8x4096x704, .bf16⟩ : BufTy).Contents (Elt Ideal)) (x1 : (⟨S2x1024x5632, .f32⟩ : BufTy).Contents (Elt Ideal))
    (x2 : (⟨S4096x1024, .f32⟩ : BufTy).Contents (Elt Ideal)) (x3 : (⟨S1024, .f32⟩ : BufTy).Contents (Elt Ideal))
    (x4 : (⟨S4096x1024, .f32⟩ : BufTy).Contents (Elt Ideal)) (D : Fin 8 → Fin 4096 → Fin 704 → EReal) (W : Fin 1024 → Fin 5632 → EReal)
    (X G : Fin 4096 → Fin 1024 → EReal) (g : Fin 1024 → EReal) : Prop where
  /-- The gradient's columns, block by block. -/
  a0 : ∀ b i n, x0 (ix3 b i n) = D b i n
  /-- The weights of the first layer. -/
  a1 : ∀ (d : Fin 1024) (y : Fin 5632), x1 (ix3 (0 : Fin 2) d y) = W d y
  /-- The rows. -/
  a2 : ∀ i d, x2 (ix2 i d) = X i d
  /-- The gain. -/
  a3 : ∀ d, x3 (ix1 d) = g d
  /-- The gradient passed by. -/
  a4 : ∀ i d, x4 (ix2 i d) = G i d

/-- Any five arrays have entries, those of arrays that they equal. -/
theorem given {x0 y0 : (⟨S8x4096x704, .bf16⟩ : BufTy).Contents (Elt Ideal)} {x1 y1 : (⟨S2x1024x5632, .f32⟩ : BufTy).Contents (Elt Ideal)}
    {x2 y2 : (⟨S4096x1024, .f32⟩ : BufTy).Contents (Elt Ideal)} {x3 y3 : (⟨S1024, .f32⟩ : BufTy).Contents (Elt Ideal)}
    {x4 y4 : (⟨S4096x1024, .f32⟩ : BufTy).Contents (Elt Ideal)} (e0 : y0 = x0) (e1 : y1 = x1) (e2 : y2 = x2) (e3 : y3 = x3) (e4 : y4 = x4) :
    Given y0 y1 y2 y3 y4 (fun b i n => x0 (ix3 b i n)) (fun d y => x1 (ix3 (0 : Fin 2) d y)) (fun i d => x2 (ix2 i d)) (fun i d => x4 (ix2 i d)) (fun d => x3 (ix1 d)) := by
  subst e0 e1 e2 e3 e4
  exact ⟨fun _ _ _ => rfl, fun _ _ => rfl, fun _ _ => rfl, fun _ => rfl, fun _ _ => rfl⟩

variable {x0 : (⟨S8x4096x704, .bf16⟩ : BufTy).Contents (Elt Ideal)} {x1 : (⟨S2x1024x5632, .f32⟩ : BufTy).Contents (Elt Ideal)}
  {x2 : (⟨S4096x1024, .f32⟩ : BufTy).Contents (Elt Ideal)} {x3 : (⟨S1024, .f32⟩ : BufTy).Contents (Elt Ideal)}
  {x4 : (⟨S4096x1024, .f32⟩ : BufTy).Contents (Elt Ideal)} {D : Fin 8 → Fin 4096 → Fin 704 → EReal} {W : Fin 1024 → Fin 5632 → EReal}
  {X G : Fin 4096 → Fin 1024 → EReal} {g : Fin 1024 → EReal} (E : Given x0 x1 x2 x3 x4 D W X G g)

include E

/-- The first layer's weights. -/
theorem ref_w : Is (M := 1024) (N := 5632) (φ := .f32) (val_main_v17 (F := Ideal) x1) W := fun d y => by
  rw [val_main_v17_apply, val_main_v16_apply, ← E.a1 d y]
  refine congrArg x1 (funext fun a => ?_)
  have := d.isLt
  have := y.isLt
  match a with
  | ⟨0, _⟩ => rfl
  | ⟨1, _⟩ => exact Fin.ext (by show (d.val * 5632 + y.val) / 5632 % 1024 = d.val; omega)
  | ⟨2, _⟩ => exact Fin.ext (by show (d.val * 5632 + y.val) % 5632 = y.val; omega)

/-- The gradient's columns in one row. -/
theorem ref_du : Is (M := 4096) (N := 5632) (φ := .f32) (val_main_v21 (F := Ideal) x0) (wide D) := fun i y => by
  have hy := y.isLt
  have hi := i.isLt
  refine (val_main_v21_apply x0 _).trans ?_
  refine ((val_main_v20_apply x0 _).trans (val_main_v19_apply x0 _)).trans ?_
  refine (congrArg x0 (funext fun a => ?_)).trans (E.a0 ⟨y.val / 704, by omega⟩ i ⟨y.val % 704, by omega⟩)
  match a with
  | ⟨0, _⟩ => exact Fin.ext (by show (i.val * 5632 + y.val) / 704 % 8 = y.val / 704; omega)
  | ⟨1, _⟩ => exact Fin.ext (by show (i.val * 5632 + y.val) / 5632 = i.val; omega)
  | ⟨2, _⟩ => exact Fin.ext (by show (i.val * 5632 + y.val) % 704 = y.val % 704; omega)

/-- The product of the gradient with the weights transposed. -/
theorem ref_dh : Is (M := 4096) (N := 1024) (φ := .f32) (val_main_v22 (F := Ideal) x0 x1) (dh D (cols W)) := fun i d => by
  rw [val_main_v22_apply, ← sum_wide]
  refine Finset.sum_congr rfl fun k _ => ?_
  exact congrArg₂ (· * ·) ((congrArg (val_main_v21 (F := Ideal) x0) (funext fun a => by match a with | ⟨0, _⟩ => rfl | ⟨1, _⟩ => rfl)).trans (ref_du E i k))
    ((congrArg (val_main_v17 (F := Ideal) x1) (funext fun a => by match a with | ⟨0, _⟩ => rfl | ⟨1, _⟩ => rfl)).trans (ref_w E d k))

/-- The number under the root. -/
theorem ref_mean : Is (M := 4096) (N := 1) (φ := .f32) (val_main_v6 (F := Ideal) x2) (fun i _ => msq (X i)) := by
  have hx : Is (M := 4096) (N := 1024) (φ := .f32) x2 X := E.a2
  have e2 : Is (M := 4096) (N := 1) (φ := .f32) (val_main_v2 (F := Ideal) x2) (fun i _ => ∑ d, X i d * X i d) := fun i z => by
    rw [val_main_v2_apply, val_main_v1_apply, val_main_cst_apply, word_zero, zero_add]
    refine Finset.sum_congr rfl fun d _ => ?_
    refine (congrArg (val_main_v0 (F := Ideal) x2) (?_ : _ = ix2 i d)).trans ((hx.mul hx) i d)
    funext a; match a with | ⟨0, _⟩ => rfl | ⟨1, _⟩ => rfl
  have e3 : Is (M := 4096) (N := 1) (φ := .f32) (val_main_v3 (F := Ideal)) (fun _ _ => ((1024 : ℝ) : EReal)) := Is.hconst (fun _ => thousand_word) bcast_S_S4096x1
  have e5 : Is (M := 4096) (N := 1) (φ := .f32) (val_main_v5 (F := Ideal)) (fun _ _ => ((eps : ℝ) : EReal)) := Is.hconst (fun _ => eps_word.1) bcast_S_S4096x1
  exact (e2.hdiv e3).add e5

/-- The reciprocal of each row's root mean square. -/
theorem ref_irms : Is (M := 4096) (N := 1) (φ := .f32) (val_main_v7 (F := Ideal) x2) (fun i _ => irms (X i)) :=
  (ref_mean E).hrsqrt

/-- The rows divided by their root mean square. -/
theorem ref_row : Is (M := 4096) (N := 1024) (φ := .f32) (val_main_v12 (F := Ideal) x2) (fun i d => X i d * irms (X i)) := by
  have e11 : Is (M := 4096) (N := 1024) (φ := .f32) (val_main_v11 (F := Ideal) x2) (fun i _ => irms (X i)) := fun i d => by
    rw [val_main_v11_apply, ← ref_irms E i 0]
    exact congrArg (val_main_v7 (F := Ideal) x2) (funext fun a => by match a with | ⟨0, _⟩ => rfl | ⟨1, _⟩ => rfl)
  have hx : Is (M := 4096) (N := 1024) (φ := .f32) x2 X := E.a2
  exact hx.mul e11

/-- The gain's gradient. -/
theorem ref_gain : Is (M := 1) (N := 1024) (φ := .f32) (val_main_v44 (F := Ideal) x0 x1 x2) (fun _ d => ∑ i, dh D (cols W) i d * (X i d * irms (X i))) := fun z d => by
  rw [val_main_v44_apply, val_main_v28_apply, Fin.sum_univ_one, val_main_v25_apply, val_main_v24_apply, val_main_cst_3_apply, val_main_cst_4_apply, word_zero, zero_add,
    zero_add]
  refine Finset.sum_congr rfl fun i _ => ?_
  rw [mul_comm (dh D (cols W) i d)]
  refine (congrArg (val_main_v23 (F := Ideal) x0 x1 x2) (?_ : _ = ix2 i d)).trans (((ref_row E).mul (ref_dh E)) i d)
  have hd := d.isLt
  have hz : z.val = 0 := by omega
  funext a
  match a with
  | ⟨0, _⟩ => rfl
  | ⟨1, _⟩ => exact Fin.ext (by show 0 * 1024 + (z.val * 1024 + d.val) = d.val; omega)

/-- The input's gradient. -/
theorem ref_dx : Is (M := 4096) (N := 1024) (φ := .f32) (val_main_v43 (F := Ideal) x0 x1 x2 x3 x4) (fun i d => back (dh D (cols W) i) (X i) g d + G i d) := by
  have hx : Is (M := 4096) (N := 1024) (φ := .f32) x2 X := E.a2
  have e26 : Is (M := 4096) (N := 1024) (φ := .f32) (val_main_v26 (F := Ideal) x3) (fun _ d => g d) := fun i d => by
    rw [val_main_v26_apply, val_main_v13_apply]
    exact (congrArg x3 (funext fun a => by match a with | ⟨0, _⟩ => rfl)).trans (E.a3 d)
  have e27 : Is (M := 4096) (N := 1024) (φ := .f32) (val_main_v27 (F := Ideal) x0 x1 x3) (fun i d => dh D (cols W) i d * g d) := (ref_dh E).mul e26
  have e31 : Is (M := 4096) (N := 1) (φ := .f32) (val_main_v31 (F := Ideal) x0 x1 x2 x3) (fun i _ => ∑ d, X i d * (dh D (cols W) i d * g d)) := fun i z => by
    rw [val_main_v31_apply, val_main_v30_apply, val_main_cst_5_apply, word_zero, zero_add]
    refine Finset.sum_congr rfl fun d _ => ?_
    refine (congrArg (val_main_v29 (F := Ideal) x0 x1 x2 x3) (?_ : _ = ix2 i d)).trans ((hx.mul e27) i d)
    have hz : z.val = 0 := by omega
    funext a
    match a with
    | ⟨0, _⟩ => exact Fin.ext (by show i.val * 1 + z.val = i.val; omega)
    | ⟨1, _⟩ => rfl
  have e9 : Is (M := 4096) (N := 1) (φ := .f32) (val_main_v9 (F := Ideal)) (fun _ _ => ((-(1 / 2) : ℝ) : EReal)) := Is.hconst (fun _ => half_word) bcast_S_S4096x1
  have e10 : Is (M := 4096) (N := 1) (φ := .f32) (val_main_v10 (F := Ideal) x2) (fun i _ => ((-(1 / 2) : ℝ) : EReal) * Ideal.div (irms (X i)) (msq (X i))) :=
    e9.mul ((ref_irms E).hdiv (ref_mean E))
  have e35 : Is (M := 4096) (N := 1) (φ := .f32) (val_main_v35 (F := Ideal)) (fun _ _ => ((1024 : ℝ) : EReal)) := Is.hconst (fun _ => thousand_word) bcast_S_S4096x1
  have e36 : Is (M := 4096) (N := 1) (φ := .f32) (val_main_v36 (F := Ideal) x0 x1 x2 x3) _ := (e31.mul e10).hdiv e35
  have e38 : Is (M := 4096) (N := 1024) (φ := .f32) (val_main_v38 (F := Ideal) x0 x1 x2 x3) (fun i _ =>
      Ideal.div ((∑ d, X i d * (dh D (cols W) i d * g d)) * (((-(1 / 2) : ℝ) : EReal) * Ideal.div (irms (X i)) (msq (X i)))) ((1024 : ℝ) : EReal)) := fun i d => by
    rw [val_main_v38_apply, val_main_v37_apply, Fin.sum_univ_one, val_main_cst_7_apply, word_zero, zero_add]
    refine (congrArg (val_main_v36 (F := Ideal) x0 x1 x2 x3) (?_ : _ = ix2 i 0)).trans (e36 i 0)
    funext a; match a with | ⟨0, _⟩ => rfl | ⟨1, _⟩ => rfl
  have e32 : Is (M := 4096) (N := 1024) (φ := .f32) (val_main_v32 (F := Ideal) x2) (fun i _ => irms (X i)) := fun i d => by
    rw [val_main_v32_apply, ← ref_irms E i 0]
    exact congrArg (val_main_v7 (F := Ideal) x2) (funext fun a => by match a with | ⟨0, _⟩ => rfl | ⟨1, _⟩ => rfl)
  have hG : Is (M := 4096) (N := 1024) (φ := .f32) x4 G := E.a4
  have key : Is (M := 4096) (N := 1024) (φ := .f32) (val_main_v43 (F := Ideal) x0 x1 x2 x3 x4) _ := (((e27.mul e32).add (hx.mul e38)).add (e38.mul hx)).add hG
  exact key.congr fun i d => congrArg (· + G i d) (through_norm (fun d => dh D (cols W) i d * g d) (X i) d)

omit E

/-- Two arrays are the gradients. -/
def Holds (D : Fin 8 → Fin 4096 → Fin 704 → EReal) (W : Fin 1024 → Fin 5632 → EReal) (X G : Fin 4096 → Fin 1024 → EReal) (g : Fin 1024 → EReal)
    (dx : S4096x1024.Idx → EReal) (dg : S1x1024.Idx → EReal) : Prop :=
  dx = (fun y => back (dh D (cols W) (y 0)) (X (y 0)) g (y 1) + G (y 0) (y 1)) ∧
  dg = (fun y => ∑ i, dh D (cols W) i (y 1) * (X i (y 1) * irms (X i)))

variable (m : (ℓ : Loc nD τ sig) → Buf (Elt Ideal) ℓ) (ρ : Dev nD → PrngReg)

/-- The reference has no semaphore. -/
theorem no_sem : ∀ _ : SemLoc sig, False := by decide

/-- The reference's results from its arguments. -/
theorem run_values {D : Dev nD → Fin 8 → Fin 4096 → Fin 704 → EReal} {W : Dev nD → Fin 1024 → Fin 5632 → EReal} {X G : Dev nD → Fin 4096 → Fin 1024 → EReal} {g : Dev nD → Fin 1024 → EReal}
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (D c) (W c) (X c) (G c) (g c)) :
    θ_run defs (onTc (τ := τ) (main (F := Ideal))) ⟨m, fun _ => 0, ρ⟩ (fun r => ∀ c : Dev nD,
      Holds (D c) (W c) (X c) (G c) (g c) (r.2.mem ((c.tc : Thread nD τ).loc main_v43)) (r.2.mem ((c.tc : Thread nD τ).loc main_v44))) :=
  (θ_run defs _ _).mono (fun _ h c =>
    ⟨((h c).1.trans (val_main_v43_eq (F := Ideal) _ _)).trans (ref_dx (hE c)).array,
     ((h c).2.1.trans (val_main_v44_eq (F := Ideal) _ _ _)).trans (ref_gain (hE c)).array⟩) (Cert.Reference6Ideal.Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2, funext fun g => (no_sem g.2).elim⟩) (Cert.Reference6Ideal.Value.run m ρ)

end Ref

end Cert.Proof.UpDx0

end
-- ==== Proof.UpDx0Run.lean ====
/-
  What the kernel of the first product's gradient leaves of its arguments: what the host's operations hand its region,
  and its two results.
-/
module

public import proofs.«01_k».proof.Proof.UpDxRun
public import proofs.«01_k».proof.Proof.UpDx0Ref
public import Idealize.ShloMosaic.Lib.StableHlo.RunRead

@[expose] public section

set_option maxRecDepth 16384

noncomputable section

namespace Cert.Proof.UpDx0

open Idealize.ShloMosaic hiding ix1 ix2 ix3 ix4
open Idealize.ShloMosaic.TcCoe Idealize.SL Idealize.SL.Sem Idealize.ShloMosaic.ValueIdx Cert.Kernel6Ideal
open Cert.Proof.MlpRef (col8)
open Cert.Proof.UpDx0.Ref (Given Holds)
open Cert.Proof.UpDx
open scoped BigOperators

variable (m : (ℓ : Loc nD τ sig) → Buf (Elt Ideal) ℓ) (ρ : Dev nD → PrngReg) (c : Dev nD)

/-- What the region finds in the weights' array. -/
theorem h_v2 : Gen.V m c main_v2 = transpose S8x2048x704 [1, 0, 2] (shapeCast S2048x8x704
      (truncf .bf16 (m ((c.tc : Thread nD τ).loc main_arg1) : FVec Ideal S2x1024x5632 .f32) Facts₀.bitsLt_bf16_f32 : FVec Ideal S2x1024x5632 .bf16)
        Facts₀.shapeCasts_S2x1024x5632_S2048x8x704) Facts₀.transposes_S2048x8x704_S8x2048x704_1_0_2 := by
  unfold Gen.V Gen.hostOps0
  after_reads_simp
  rfl

/-- What the region finds in the gain's array. -/
theorem h_v3 : Gen.V m c main_v3 = shapeCast S1x1024 (m ((c.tc : Thread nD τ).loc main_arg3) : FVec Ideal S1024 .f32) Facts₀.shapeCasts_S1024_S1x1024 := by
  unfold Gen.V Gen.hostOps0
  after_reads_simp
  rfl

variable {m c} {D : Fin 8 → Fin 4096 → Fin 704 → EReal} {W : Fin 1024 → Fin 5632 → EReal} {X G : Fin 4096 → Fin 1024 → EReal} {g : Fin 1024 → EReal}

/-- The arguments are what the region finds. -/
theorem entry (E : Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) D W X G g) : Entry m c D (cols W) X G g where
  du := fun b i n => (congrFun (Gen.V_main_arg0 m c) _).trans (E.a0 b i n)
  w := fun b d n => by
    refine (congrFun (h_v2 m c) _).trans ?_
    refine (transpose_apply [1, 0, 2] _ _ (ix3 b (upRow d) n) (ix3 (upRow d) b n)
      (fun a => match a with | ⟨0, _⟩ => rfl | ⟨1, _⟩ => rfl | ⟨2, _⟩ => rfl)).trans ?_
    refine (shapeCast_apply _ _ (ix3 (upRow d) b n) (ix3 (0 : Fin 2) d (col8 b n)) ?_).trans (E.a1 d _)
    rw [Shape.rowMajor_val_three, Shape.rowMajor_val_three]
    show (0 * 1024 + d.val) * 5632 + (b.val * 704 + n.val) = (d.val * 8 + b.val) * 704 + n.val
    omega
  x := fun i d => (congrFun (Gen.V_main_arg2 m c) _).trans (E.a2 i d)
  gn := fun d => by
    refine (congrFun (h_v3 m c) _).trans ((shapeCast_apply _ _ (ix2 (0 : Fin 1) d) (ix1 d) ?_).trans (E.a3 d))
    rw [Shape.rowMajor_val_one, Shape.rowMajor_val_two]
    show d.val = 0 * 1024 + d.val
    omega
  g := fun i d => (congrFun (Gen.V_main_arg4 m c) _).trans (E.a4 i d)

variable (m)

/-- The kernel leaves the two gradients of its arguments, and its arguments as they were. -/
theorem run_values {D : Dev nD → Fin 8 → Fin 4096 → Fin 704 → EReal} {W : Dev nD → Fin 1024 → Fin 5632 → EReal} {X G : Dev nD → Fin 4096 → Fin 1024 → EReal} {g : Dev nD → Fin 1024 → EReal}
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (D c) (W c) (X c) (G c) (g c)) :
    θ_run defs (onTc (τ := τ) (main (F := Ideal))) ⟨m, fun _ => 0, ρ⟩ (fun r => ∀ c : Dev nD,
      Holds (D c) (W c) (X c) (G c) (g c) (r.2.mem ((c.tc : Thread nD τ).loc main_v4_0)) (r.2.mem ((c.tc : Thread nD τ).loc main_v4_1))) :=
  (θ_run defs _ _).mono (fun _ h c => ⟨((h c).1 5).trans (dx_array (entry (hE c))), ((h c).1 6).trans (gain_array (entry (hE c)))⟩) (Gen.run_main m ρ)

end Cert.Proof.UpDx0

end
-- ==== Proof.DownDw.lean ====
module
public import proofs.«01_k».proof.Proof.Ops
public import proofs.«01_k».proof.Proof.Gen.Kernel4Ideal
public import proofs.«01_k».proof.Proof.Gen.Kernel4Ideal.Skeleton
public import proofs.«01_k».proof.Proof.Gen.Kernel4Ideal.Frame
public import Idealize.ShloMosaic.Lib.Pipeline.ValueKit
public import Idealize.ShloMosaic.Lib.Pipeline.ReadBack
public import proofs.«01_k».proof.Proof.Gen.Reference4Ideal.Run
public import proofs.«01_k».proof.Proof.Gen.Reference4Ideal.Read
@[expose] public section
set_option maxRecDepth 16384

/-! # The gradient of the MLP's second product in its weights

The kernel runs over 4 blocks of 704 hidden columns and 2 halves of the 4096 rows, and adds the second half's product to the first's.
Nothing is assumed of the arguments: a sum over two halves is the whole sum among the ideal values. -/

noncomputable section
namespace Cert.Proof.DownDw
open Idealize.ShloMosaic hiding ix2 ix3
open Idealize.ShloMosaic.TcCoe Idealize.SL Idealize.SL.Sem Idealize.ShloMosaic.ValueIdx Cert.Kernel4Ideal
open scoped BigOperators

/-- Entry `(i, j)` of a product of a transposed matrix with a matrix, at any ideal values. -/
theorem tn_apply {M N K : ℕ} {φ ψ : FTy} (a : FVec Ideal ⟨2, ![K, M]⟩ φ) (b : FVec Ideal ⟨2, ![K, N]⟩ ψ) (acc : FVec Ideal ⟨2, ![M, N]⟩ .f32)
    (prec : Option ContractPrecision) {D : DotDims ⟨2, ![K, M]⟩ ⟨2, ![K, N]⟩ ⟨2, ![M, N]⟩} (hr : D.contr.rank = 1)
    (hs : D.contr.size ⟨0, by rw [hr]; exact Nat.one_pos⟩ = K)
    (hl : ∀ i j (k : D.contr.Idx), D.lhsIdx (ix2 i j) k = ix2 ((contrEquiv1 D K hr hs) k) i)
    (hr' : ∀ i j (k : D.contr.Idx), D.rhsIdx (ix2 i j) k = ix2 ((contrEquiv1 D K hr hs) k) j) (i : Fin M) (j : Fin N) :
    matmul D prec a b acc (ix2 i j) = acc (ix2 i j) + ∑ k, a (ix2 k i) * b (ix2 k j) := by
  refine (Ideal.matmul_apply D prec a b acc (ix2 i j)).trans ?_
  rw [← Equiv.sum_comp (contrEquiv1 D K hr hs).symm]
  refine congrArg _ (Finset.sum_congr rfl fun k _ => ?_)
  rw [hl, hr', Equiv.apply_symm_apply]

/-- One point's product, entry by entry. -/
theorem product_apply (x0 : Vec Ideal S1x2048x704 .bf16) (x1 : Vec Ideal S2048x1024 .f32) (i : Fin 704) (j : Fin 1024) :
    Gen.k0_pay1 (F := Ideal) x0 x1 (ix2 i j) = 0 + ∑ k : Fin 2048, x0 (ix3 0 k i) * x1 (ix2 k j) := by
  refine (tn_apply _ _ _ none (D := dot_S2048x704_S2048x1024_S704x1024_0_0_1_1_n_n) rfl rfl
    (fun i j k => by funext x; match x with | ⟨0, _⟩ => rfl | ⟨1, _⟩ => rfl)
    (fun i j k => by funext x; match x with | ⟨0, _⟩ => rfl | ⟨1, _⟩ => rfl) i j).trans ?_
  refine congrArg₂ (· + ·) ((Rep.zero i j).trans EReal.coe_zero) (Finset.sum_congr rfl fun k _ => ?_)
  refine congrArg₂ (· * ·) (shapeCast_1ab_ab_apply _ _ _ _) rfl

variable (m : (ℓ : Loc nD τ sig) → Buf (Elt Ideal) ℓ) (ρ : Dev nD → PrngReg) (c : Dev nD)

/-- The product of two blocks. -/
def blkDw (x0 : S1x2048x704.Idx → EReal) (x1 : S2048x1024.Idx → EReal) (p : Fin 704 × Fin 1024) : EReal :=
  ∑ k : Fin 2048, x0 (ix3 0 k p.1) * x1 (ix2 k p.2)

/-- One point's product. -/
def part (t : Fin cfg0.N) (p : Fin 704 × Fin 1024) : EReal := blkDw (Gen.iblk m c 0 t) (Gen.iblk m c 1 t) p

/-- The first half begins the sum. -/
theorem point_first (t : Fin cfg0.N) (h0 : t.val % 2 = 0) (p : Fin 704 × Fin 1024) :
    Gen.outsAt0 m c t.val t.isLt (ix2 p.1 p.2) = 0 + part m c t p := by
  rw [Gen.outsAt0_A m c t h0 (by omega)]
  frame_out
  exact product_apply _ _ p.1 p.2

/-- The second half adds to it. -/
theorem point_next (t : Fin cfg0.N) (h0 : ¬ t.val % 2 = 0) (p : Fin 704 × Fin 1024) :
    Gen.outsAt0 m c t.val t.isLt (ix2 p.1 p.2)
      = Gen.outsAt0 m c (t.val - 1) (Nat.lt_of_le_of_lt (Nat.sub_le _ _) t.isLt) (ix2 p.1 p.2) + part m c t p := by
  rw [Gen.outsAt0_B m c t h0 (by omega)]
  frame_out
  refine congrArg₂ (· + ·) (shapeCast_apply _ _ _ _ rfl) ((product_apply _ _ p.1 p.2).trans (zero_add _))

/-- Where each window's block of a grid point lies. -/
theorem idx : ∀ t : Fin cfg0.N, win0_0.index t = ![t.val / 2, t.val % 2, 0] ∧ win0_1.index t = ![t.val % 2, 0] ∧
    win0_2.index t = ![t.val / 2, 0] := by
  decide +kernel

/-- The grid has 8 points. -/
theorem lt (t : Fin cfg0.N) : t.val < 8 := lt_of_lt_of_eq t.isLt Gen.N_0

/-- The weights' gradient at column `j` of block `b`. -/
def blkCol (a : S4x4096x704.Idx → EReal) (g : S4096x1024.Idx → EReal) (b : Fin 4) (j : Fin 704) (d : Fin 1024) : EReal :=
  ∑ i : Fin 4096, a (ix3 b i j) * g (ix2 i d)

/-- The weights' gradient: hidden column `y` is column `y % 704` of block `y / 704`. -/
def dw (a : S4x4096x704.Idx → EReal) (g : S4096x1024.Idx → EReal) (y : Fin 2816) (d : Fin 1024) : EReal :=
  blkCol a g ⟨y.val / 704, by omega⟩ ⟨y.val % 704, by omega⟩ d

/-- The sum over a block's two halves is the sum over all rows. -/
theorem point_run (t : Fin cfg0.N) (ht : t.val % 2 = 1) (j : Fin 704) (d : Fin 1024) :
    Gen.outsAt0 m c t.val t.isLt (ix2 j d)
      = blkCol (m ((c.tc : Thread nD τ).loc main_arg0)) (m ((c.tc : Thread nD τ).loc main_arg1)) ⟨t.val / 2, by have := lt t; omega⟩ j d := by
  refine (Pipeline.eq_sum_fin_of_reset_step_apply_of_flush (ι := Fin 704 × Fin 1024) (fun n h p => Gen.outsAt0 m c n h (ix2 p.1 p.2)) 2 (fun _ => (0 : EReal)) _
    (fun t h p => point_first m c t h p) (fun t h p => point_next m c t h p) t ht (j, d)).trans ?_
  rw [zero_add]
  refine Fin.sum_mul_add_congr (fun (s : Fin 2) (b : Fin 2048) hl => ?_)
  have e := Pipeline.run_point_lt_of_flush t ht s
  have h0 : (2 * (t.val / 2) + s.val) / 2 = t.val / 2 := by omega
  have h1 : (2 * (t.val / 2) + s.val) % 2 = s.val := by omega
  refine congrArg₂ (· * ·) ?_ ?_
  · blk_ext [Gen.iblk, idx ⟨_, e⟩, h0, h1]
  · blk_ext [Gen.iblk, idx ⟨_, e⟩, h0, h1]

/-- The array of the weights' gradient. -/
theorem array : (Gen.dats m 0 c).arrAt 2 cfg0.N = fun y : S2816x1024.Idx =>
    dw (m ((c.tc : Thread nD τ).loc main_arg0)) (m ((c.tc : Thread nD τ).loc main_arg1)) (y 0) (y 1) := by
  refine (Gen.dats m 0 c).arrAt_eq_of_covers 2 _ (by decide +kernel) fun t hf y => ?_
  blk_simp
  rw [Gen.after0_2]
  obtain ⟨j, d, rfl⟩ : ∃ (j : Fin 704) (d : Fin 1024), y = ix2 j d := ⟨y 0, y 1, ValueIdx.eq_ix2 (n0 := 704) (n1 := 1024) y⟩
  have e0 : ((win0_2.blk t).view.emb (ix2 j d) 0).val = t.val / 2 * 704 + j.val := by blk_simp [idx t]; rfl
  have e1 : (win0_2.blk t).view.emb (ix2 j d) 1 = d := Fin.ext (by blk_simp [idx t]; simp; rfl)
  rw [e1]
  refine (point_run m c t ((Gen.flush0_2 t).mp hf) j d).trans ?_
  unfold dw
  refine congrArg₂ (fun b k => blkCol _ _ b k d) ?_ ?_
  · exact Fin.ext (by show t.val / 2 = _ / 704; rw [e0]; omega)
  · exact Fin.ext (by show j.val = _ % 704; rw [e0]; omega)

/-- The kernel leaves the weights' gradient, and its arguments as they were. -/
theorem run_values : θ_run defs (onTc (τ := τ) (main (F := Ideal))) ⟨m, fun _ => 0, ρ⟩ (fun r => ∀ c : Dev nD,
      (r.2.mem ((c.tc : Thread nD τ).loc main_v0) = fun y : S2816x1024.Idx =>
        dw (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (array m c), h.2 c⟩) (θ_run_and (Gen.run_main m ρ) (Gen.unchanged m ρ))

/-- The reference's gradient, entry by entry. -/
theorem ref_apply (a : S4x4096x704.Idx → EReal) (g : S4096x1024.Idx → EReal) (y : Fin 2816) (d : Fin 1024) :
    Cert.Reference4Ideal.Read.val_main_v6 (F := Ideal) a g (ix2 y d) = dw a g y d := by
  rw [Cert.Reference4Ideal.Read.val_main_v6_apply, Cert.Reference4Ideal.Read.val_main_v5_apply]
  unfold dw blkCol
  refine Finset.sum_congr rfl fun i _ => ?_
  rw [mul_comm]
  refine congrArg₂ (· * ·) ?_ (congrArg g (by funext k; match k with | ⟨0, _⟩ => rfl | ⟨1, _⟩ => rfl))
  rw [Cert.Reference4Ideal.Read.val_main_v2_apply, Cert.Reference4Ideal.Read.val_main_v1_apply, Cert.Reference4Ideal.Read.val_main_v0_apply]
  refine congrArg a ?_
  funext k
  match k with
  | ⟨0, _⟩ => exact Fin.ext (by show (i.val * 2816 + y.val) / 704 % 4 = y.val / 704; omega)
  | ⟨1, _⟩ => exact Fin.ext (by show (i.val * 2816 + y.val) / 2816 = i.val; omega)
  | ⟨2, _⟩ => exact Fin.ext (by show (i.val * 2816 + y.val) % 704 = y.val % 704; omega)

end Cert.Proof.DownDw

namespace Cert.Proof.DownDw.Ref
open Idealize.ShloMosaic hiding ix2 ix3
open Idealize.ShloMosaic.TcCoe Idealize.SL Idealize.SL.Sem Idealize.ShloMosaic.ValueIdx Cert.Reference4Ideal

variable (m : (ℓ : Loc nD τ sig) → Buf (Elt Ideal) ℓ) (ρ : Dev nD → PrngReg)

/-- The reference has no semaphore. -/
theorem no_sem : ∀ _ : SemLoc sig, False := by decide

/-- The reference leaves the weights' gradient, and its arguments as they were. -/
theorem run_values : θ_run defs (onTc (τ := τ) (main (F := Ideal))) ⟨m, fun _ => 0, ρ⟩ (fun r => ∀ c : Dev nD,
      (r.2.mem ((c.tc : Thread nD τ).loc main_v6) = fun y : S2816x1024.Idx =>
        dw (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1.trans (Read.val_main_v6_eq (F := Ideal) _ _)).trans (funext fun y =>
    (congrArg _ (ValueIdx.eq_ix2 (n0 := 2816) (n1 := 1024) y)).trans (ref_apply _ _ _ _)), (h c).2⟩) (Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, funext fun g => (no_sem g.2).elim⟩) (Value.run m ρ)

end Cert.Proof.DownDw.Ref
end
-- ==== Proof.ODw.lean ====
module
public import proofs.«01_k».proof.Proof.DownDw
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Reference7Ideal.Run
public import proofs.«01_k».proof.Proof.Gen.Reference7Ideal.Read
@[expose] public section
set_option maxRecDepth 16384

/-! # The gradient of the product after an attention in its weights

The kernel runs over 2 halves of the 4096 rows, and adds the second half's product to the first's.
Nothing is assumed of the arguments: a sum over two halves is the whole sum among the ideal values. -/

noncomputable section
namespace Cert.Proof.ODw
open Idealize.ShloMosaic hiding ix2 ix3
open Idealize.ShloMosaic.TcCoe Idealize.SL Idealize.SL.Sem Idealize.ShloMosaic.ValueIdx Cert.Kernel7Ideal
open scoped BigOperators

/-- One point's product, entry by entry. -/
theorem product_apply (x0 : Vec Ideal S2048x1024 .bf16) (x1 : Vec Ideal S2048x1024 .f32) (i : Fin 1024) (j : Fin 1024) :
    Gen.k0_pay1 (F := Ideal) x0 x1 (ix2 i j) = 0 + ∑ k : Fin 2048, x0 (ix2 k i) * x1 (ix2 k j) := by
  refine (DownDw.tn_apply _ _ _ none (D := dot_S2048x1024_S2048x1024_S1024x1024_0_0_1_1_n_n) rfl rfl
    (fun i j k => by funext x; match x with | ⟨0, _⟩ => rfl | ⟨1, _⟩ => rfl)
    (fun i j k => by funext x; match x with | ⟨0, _⟩ => rfl | ⟨1, _⟩ => rfl) i j).trans ?_
  exact congrArg₂ (· + ·) ((Rep.zero i j).trans EReal.coe_zero) rfl

variable (m : (ℓ : Loc nD τ sig) → Buf (Elt Ideal) ℓ) (ρ : Dev nD → PrngReg) (c : Dev nD)

/-- The product of two blocks. -/
def blkDw (x0 : S2048x1024.Idx → EReal) (x1 : S2048x1024.Idx → EReal) (p : Fin 1024 × Fin 1024) : EReal :=
  ∑ k : Fin 2048, x0 (ix2 k p.1) * x1 (ix2 k p.2)

/-- One point's product. -/
def part (t : Fin cfg0.N) (p : Fin 1024 × Fin 1024) : EReal := blkDw (Gen.iblk m c 0 t) (Gen.iblk m c 1 t) p

/-- The first half begins the sum. -/
theorem point_first (t : Fin cfg0.N) (h0 : t.val % 2 = 0) (p : Fin 1024 × Fin 1024) :
    Gen.outsAt0 m c t.val t.isLt (ix2 p.1 p.2) = 0 + part m c t p := by
  rw [Gen.outsAt0_A m c t h0 (by omega)]
  frame_out
  exact product_apply _ _ p.1 p.2

/-- The second half adds to it. -/
theorem point_next (t : Fin cfg0.N) (h0 : ¬ t.val % 2 = 0) (p : Fin 1024 × Fin 1024) :
    Gen.outsAt0 m c t.val t.isLt (ix2 p.1 p.2)
      = Gen.outsAt0 m c (t.val - 1) (Nat.lt_of_le_of_lt (Nat.sub_le _ _) t.isLt) (ix2 p.1 p.2) + part m c t p := by
  rw [Gen.outsAt0_B m c t h0 (by omega)]
  frame_out
  refine congrArg₂ (· + ·) (shapeCast_apply _ _ _ _ rfl) ((product_apply _ _ p.1 p.2).trans (zero_add _))

/-- Where each window's block of a grid point lies. -/
theorem idx : ∀ t : Fin cfg0.N, win0_0.index t = ![t.val % 2, 0] ∧ win0_1.index t = ![t.val % 2, 0] ∧
    win0_2.index t = ![0, 0] := by
  decide +kernel

/-- The weights' gradient. -/
def dw (a : S4096x1024.Idx → EReal) (g : S4096x1024.Idx → EReal) (j : Fin 1024) (d : Fin 1024) : EReal :=
  ∑ i : Fin 4096, a (ix2 i j) * g (ix2 i d)

/-- The sum over the two halves is the sum over all rows. -/
theorem point_run (t : Fin cfg0.N) (ht : t.val % 2 = 1) (j : Fin 1024) (d : Fin 1024) :
    Gen.outsAt0 m c t.val t.isLt (ix2 j d)
      = dw (m ((c.tc : Thread nD τ).loc main_arg0)) (m ((c.tc : Thread nD τ).loc main_arg1)) j d := by
  refine (Pipeline.eq_sum_fin_of_reset_step_apply_of_flush (ι := Fin 1024 × Fin 1024) (fun n h p => Gen.outsAt0 m c n h (ix2 p.1 p.2)) 2 (fun _ => (0 : EReal)) _
    (fun t h p => point_first m c t h p) (fun t h p => point_next m c t h p) t ht (j, d)).trans ?_
  rw [zero_add]
  refine Fin.sum_mul_add_congr (fun (s : Fin 2) (b : Fin 2048) hl => ?_)
  have e := Pipeline.run_point_lt_of_flush t ht s
  have h1 : (2 * (t.val / 2) + s.val) % 2 = s.val := by omega
  refine congrArg₂ (· * ·) ?_ ?_
  · blk_ext [Gen.iblk, idx ⟨_, e⟩, h1]
  · blk_ext [Gen.iblk, idx ⟨_, e⟩, h1]

/-- The array of the weights' gradient. -/
theorem array : (Gen.dats m 0 c).arrAt 2 cfg0.N = fun y : S1024x1024.Idx =>
    dw (m ((c.tc : Thread nD τ).loc main_arg0)) (m ((c.tc : Thread nD τ).loc main_arg1)) (y 0) (y 1) := by
  refine (Gen.dats m 0 c).arrAt_eq_of_covers 2 _ (by decide +kernel) fun t hf y => ?_
  blk_simp
  rw [Gen.after0_2]
  obtain ⟨j, d, rfl⟩ : ∃ (j : Fin 1024) (d : Fin 1024), y = ix2 j d := ⟨y 0, y 1, ValueIdx.eq_ix2 (n0 := 1024) (n1 := 1024) y⟩
  have e0 : (win0_2.blk t).view.emb (ix2 j d) 0 = j := Fin.ext (by blk_simp [idx t]; simp; rfl)
  have e1 : (win0_2.blk t).view.emb (ix2 j d) 1 = d := Fin.ext (by blk_simp [idx t]; simp; rfl)
  rw [e0, e1]
  exact point_run m c t ((Gen.flush0_2 t).mp hf) j d

/-- The kernel leaves the weights' gradient, and its arguments as they were. -/
theorem run_values : θ_run defs (onTc (τ := τ) (main (F := Ideal))) ⟨m, fun _ => 0, ρ⟩ (fun r => ∀ c : Dev nD,
      (r.2.mem ((c.tc : Thread nD τ).loc main_v0) = fun y : S1024x1024.Idx =>
        dw (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (array m c), h.2 c⟩) (θ_run_and (Gen.run_main m ρ) (Gen.unchanged m ρ))

/-- The reference's gradient, entry by entry. -/
theorem ref_apply (a : S4096x1024.Idx → EReal) (g : S4096x1024.Idx → EReal) (y : Fin 1024) (d : Fin 1024) :
    Cert.Reference7Ideal.Read.val_main_v4 (F := Ideal) a g (ix2 y d) = dw a g y d := by
  rw [Cert.Reference7Ideal.Read.val_main_v4_apply, Cert.Reference7Ideal.Read.val_main_v3_apply]
  unfold dw
  refine Finset.sum_congr rfl fun i _ => ?_
  rw [mul_comm]
  refine congrArg₂ (· * ·) ?_ (congrArg g (by funext k; match k with | ⟨0, _⟩ => rfl | ⟨1, _⟩ => rfl))
  rw [Cert.Reference7Ideal.Read.val_main_v1_apply]
  exact congrArg a (by funext k; match k with | ⟨0, _⟩ => rfl | ⟨1, _⟩ => rfl)

end Cert.Proof.ODw

namespace Cert.Proof.ODw.Ref
open Idealize.ShloMosaic hiding ix2 ix3
open Idealize.ShloMosaic.TcCoe Idealize.SL Idealize.SL.Sem Idealize.ShloMosaic.ValueIdx Cert.Reference7Ideal

variable (m : (ℓ : Loc nD τ sig) → Buf (Elt Ideal) ℓ) (ρ : Dev nD → PrngReg)

/-- The reference has no semaphore. -/
theorem no_sem : ∀ _ : SemLoc sig, False := by decide

/-- The reference leaves the weights' gradient, and its arguments as they were. -/
theorem run_values : θ_run defs (onTc (τ := τ) (main (F := Ideal))) ⟨m, fun _ => 0, ρ⟩ (fun r => ∀ c : Dev nD,
      (r.2.mem ((c.tc : Thread nD τ).loc main_v4) = fun y : S1024x1024.Idx =>
        dw (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1.trans (Read.val_main_v4_eq (F := Ideal) _ _)).trans (funext fun y =>
    (congrArg _ (ValueIdx.eq_ix2 (n0 := 1024) (n1 := 1024) y)).trans (ref_apply _ _ _ _)), (h c).2⟩) (Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, funext fun g => (no_sem g.2).elim⟩) (Value.run m ρ)

end Cert.Proof.ODw.Ref
end
-- ==== Proof.ODx.lean ====
module
public import proofs.«01_k».proof.Proof.ExtOps
public import proofs.«01_k».proof.Proof.Gen.Kernel8Ideal
public import proofs.«01_k».proof.Proof.Gen.Kernel8Ideal.Skeleton
public import proofs.«01_k».proof.Proof.Gen.Kernel8Ideal.Frame
public import proofs.«01_k».proof.Proof.Gen.Reference8Ideal.Run
public import proofs.«01_k».proof.Proof.Gen.Reference8Ideal.Read
public import Idealize.ShloMosaic.Lib.StableHlo.RunRead
@[expose] public section
set_option maxRecDepth 16384

/-! # The gradient of the product after an attention in its input

The kernel runs over 4 blocks of 1024 rows, each the product of the block with the transposed weights.
Nothing is assumed of the arguments. -/

noncomputable section
namespace Cert.Proof.ODx
open Idealize.ShloMosaic hiding ix1 ix2 ix3 ix4
open Idealize.ShloMosaic.TcCoe Idealize.SL Idealize.SL.Sem Idealize.ShloMosaic.ValueIdx Cert.Kernel8Ideal
open scoped BigOperators

/-- The product of a block of rows with the transposed weights. -/
theorem product_is {x0 : Vec Ideal S1024x1024 .f32} {x1 : Vec Ideal S1024x1024 .bf16} {f w : Fin 1024 → Fin 1024 → EReal}
    (h0 : Is (φ := .f32) x0 f) (h1 : Is (φ := .bf16) x1 w) :
    Is (φ := .bf16) (Gen.k0_pay1 (F := Ideal) x0 x1) (fun i j => ∑ k, f i k * w j k) := by
  have h0' : Is (φ := .bf16) (truncf .bf16 (x0 : FVec Ideal S1024x1024 .f32) Facts₀.bitsLt_bf16_f32) f := h0
  exact (h0'.nt (h1.same Facts₀.shapeCasts_S1024x1024_S1024x1024) Is.zero none (D := dot_S1024x1024_S1024x1024_S1024x1024_1_1_0_0_n_n) rfl).congr
    fun i j => zero_add _

/-- Row `i` of the block of rows numbered `r`. -/
def rowAt (r : ℕ) (i : Fin 1024) : Fin 4096 := ⟨r % 4 * 1024 + i.val, by omega⟩

/-- Where each window's block of a grid point lies. -/
theorem idx : ∀ t : Fin cfg0.N, win0_0.index t = ![t.val % 4, 0] ∧ win0_1.index t = ![0, 0] ∧ win0_2.index t = ![t.val % 4, 0] := by
  decide +kernel

/-- The input's gradient. -/
def dx (w : S1024x1024.Idx → EReal) (g : S4096x1024.Idx → EReal) (i : Fin 4096) (j : Fin 1024) : EReal :=
  ∑ k : Fin 1024, g (ix2 i k) * w (ix2 j k)

variable (m : (ℓ : Loc nD τ sig) → Buf (Elt Ideal) ℓ) (ρ : Dev nD → PrngReg) (c : Dev nD)

/-- What the region finds in the weights' array. -/
theorem h_v0 : Gen.V m c main_v0 = (truncf .bf16 (m ((c.tc : Thread nD τ).loc main_arg0) : FVec Ideal S1024x1024 .f32) Facts₀.bitsLt_bf16_f32 : FVec Ideal S1024x1024 .bf16) := by
  unfold Gen.V Gen.hostOps0
  after_reads_simp

/-- The block of a grid point. -/
theorem block (t : Fin cfg0.N) : Is (M := 1024) (N := 1024) (φ := .bf16) (Gen.out0_2 (F := Ideal) (Gen.iblk m c 0 t) (Gen.iblk m c 1 t))
    (fun i j => dx (m ((c.tc : Thread nD τ).loc main_arg0)) (m ((c.tc : Thread nD τ).loc main_arg1)) (rowAt t.val i) j) := fun i j => by
  have h0 : Is (M := 1024) (N := 1024) (φ := .f32) (Gen.iblk m c 0 t : Vec Ideal S1024x1024 .f32) (fun i k => m ((c.tc : Thread nD τ).loc main_arg1) (ix2 (rowAt t.val i) k)) := fun i k => by
    refine Eq.trans ?_ (congrFun (Gen.V_main_arg1 m c) _)
    blk_ext [Gen.iblk, idx t, rowAt]
  have h1 : Is (M := 1024) (N := 1024) (φ := .bf16) (Gen.iblk m c 1 t : Vec Ideal S1024x1024 .bf16) (fun j k => m ((c.tc : Thread nD τ).loc main_arg0) (ix2 j k)) := fun j k => by
    refine Eq.trans ?_ (congrFun (h_v0 m c) (ix2 j k))
    blk_ext [Gen.iblk, idx t]
  have key := product_is h0 h1
  unfold Gen.out0_2
  frame_out
  exact key i j

/-- The array of the input's gradient. -/
theorem array : (Gen.dats m 0 c).arrAt 2 cfg0.N = fun y : S4096x1024.Idx =>
    dx (m ((c.tc : Thread nD τ).loc main_arg0)) (m ((c.tc : Thread nD τ).loc main_arg1)) (y 0) (y 1) := by
  refine (Gen.dats m 0 c).arrAt_eq_of_covers 2 _ (by decide +kernel) fun t hf y => ?_
  blk_simp
  rw [Gen.after0_2]
  obtain ⟨j, d, rfl⟩ : ∃ (j : Fin 1024) (d : Fin 1024), y = ix2 j d := ⟨y 0, y 1, ValueIdx.eq_ix2 (n0 := 1024) (n1 := 1024) y⟩
  have e0 : (win0_2.blk t).view.emb (ix2 j d) 0 = rowAt t.val j := Fin.ext (by blk_simp [idx t]; rfl)
  have e1 : (win0_2.blk t).view.emb (ix2 j d) 1 = d := Fin.ext (by blk_simp [idx t]; simp; rfl)
  rw [e0, e1]
  exact block m c t j d

/-- The kernel leaves the input's gradient, and its arguments as they were. -/
theorem run_values : θ_run defs (onTc (τ := τ) (main (F := Ideal))) ⟨m, fun _ => 0, ρ⟩ (fun r => ∀ c : Dev nD,
      (r.2.mem ((c.tc : Thread nD τ).loc main_v1) = fun y : S4096x1024.Idx =>
        dx (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (array m c), h.2 c⟩) (θ_run_and (Gen.run_main m ρ) (Gen.unchanged m ρ))

/-- The reference's gradient, entry by entry. -/
theorem ref_apply (w : S1024x1024.Idx → EReal) (g : S4096x1024.Idx → EReal) (i : Fin 4096) (j : Fin 1024) :
    Cert.Reference8Ideal.Read.val_main_v3 (F := Ideal) w g (ix2 i j) = dx w g i j := by
  refine (Cert.Reference8Ideal.Read.val_main_v3_apply (F := Ideal) w g (ix2 i j)).trans ?_
  refine (Cert.Reference8Ideal.Read.val_main_v2_apply w g (ix2 i j)).trans ?_
  unfold dx
  refine Finset.sum_congr rfl fun k _ => ?_
  exact congrArg₂ (· * ·) (congrArg g (by funext k; match k with | ⟨0, _⟩ => rfl | ⟨1, _⟩ => rfl)) (congrArg w (by funext k; match k with | ⟨0, _⟩ => rfl | ⟨1, _⟩ => rfl))

end Cert.Proof.ODx

namespace Cert.Proof.ODx.Ref
open Idealize.ShloMosaic hiding ix1 ix2 ix3 ix4
open Idealize.ShloMosaic.TcCoe Idealize.SL Idealize.SL.Sem Idealize.ShloMosaic.ValueIdx Cert.Reference8Ideal

variable (m : (ℓ : Loc nD τ sig) → Buf (Elt Ideal) ℓ) (ρ : Dev nD → PrngReg)

/-- The reference has no semaphore. -/
theorem no_sem : ∀ _ : SemLoc sig, False := by decide

/-- The reference leaves the input's gradient, and its arguments as they were. -/
theorem run_values : θ_run defs (onTc (τ := τ) (main (F := Ideal))) ⟨m, fun _ => 0, ρ⟩ (fun r => ∀ c : Dev nD,
      (r.2.mem ((c.tc : Thread nD τ).loc main_v3) = fun y : S4096x1024.Idx =>
        dx (m ((c.tc : Thread nD τ).loc main_arg0)) (m ((c.tc : Thread nD τ).loc main_arg1)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1.trans (Read.val_main_v3_eq (F := Ideal) _ _)).trans (funext fun y =>
    (congrArg _ (ValueIdx.eq_ix2 (n0 := 4096) (n1 := 1024) y)).trans (ref_apply _ _ _ _)), (h c).2⟩) (Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, funext fun g => (no_sem g.2).elim⟩) (Value.run m ρ)

end Cert.Proof.ODx.Ref
end
-- ==== Proof.QDx.lean ====
/-
  The gradients of the product that makes the queries, over the ideal values: the weights' gradient, and the gradient
  that the product hands through the norm to its input, block by block.
-/
module

public import proofs.«01_k».proof.Proof.DownDw
public import proofs.«01_k».proof.Proof.UpDxRef
public import proofs.«01_k».proof.Proof.Gen.Kernel9Ideal
public import proofs.«01_k».proof.Proof.Gen.Kernel9Ideal.Skeleton
public import proofs.«01_k».proof.Proof.Gen.Kernel9Ideal.Frame

@[expose] public section

set_option maxRecDepth 16384

noncomputable section

namespace Cert.Proof.QDx

open Idealize.ShloMosaic hiding ix1 ix2 ix3 ix4
open Idealize.ShloMosaic.TcCoe Idealize.SL Idealize.SL.Sem Idealize.ShloMosaic.ValueIdx Cert.Kernel9Ideal Cert.Proof.Mlp
open Cert.Proof.UpDx (back)
open scoped BigOperators

section payloads
variable {v0 v1 : Vec Ideal S1024x1024 .bf16} {v9 v41 : Vec Ideal S1024x1024 .f32} {v20 v27 : Vec Ideal S1x1024 .f32}
  {P W X G : Fin 1024 → Fin 1024 → EReal} {f g : Fin 1024 → EReal}

/-- The product of a block of rows with the transposed weights. -/
theorem prod_is (h0 : Is (φ := .bf16) v0 P) (h1 : Is (φ := .bf16) v1 W) :
    Is (Gen.k1_pay2 (F := Ideal) v0 v1) (fun i d => ∑ n, P i n * W d n) :=
  (h0.nt (h1.same Facts₀.shapeCasts_S1024x1024_S1024x1024) Is.zero none (D := dot_S1024x1024_S1024x1024_S1024x1024_1_1_0_0_n_n) rfl).congr fun _ _ => zero_add _

/-- The reciprocal of each row's root mean square. -/
theorem irms_is (hx : Is (φ := .f32) v9 X) : Is (Gen.k1_pay4 (F := Ideal) v9) (fun i _ => irms (X i)) :=
  ((((hx.mul hx).rowSum Facts₀.reduces_S1024x1024_S1024 Facts₀.shapeCasts_S1024_S1024x1 0x00000000#32 (.inl rfl) rfl).div (Is.const thousand_word)).add (Is.const eps_word.1)).rsqrt

/-- The rows divided by their root mean square. -/
theorem row_is (hx : Is (φ := .f32) v9 X) : Is (Gen.k1_pay5 (F := Ideal) v9) (fun i d => X i d * irms (X i)) :=
  hx.mul ((irms_is hx).bcast Facts₀.broadcasts_S1024x1_S1024x1024 (by decide))

/-- The gain's gradient over a block of rows, added to what there was. -/
theorem gain_is (h0 : Is (φ := .bf16) v0 P) (h1 : Is (φ := .bf16) v1 W) (hx : Is (φ := .f32) v9 X) (hf : Is (φ := .f32) v20 fun _ d => f d) :
    Is (Gen.k1_pay6 (F := Ideal) v0 v1 v9 v20) (fun _ d => f d + ∑ i, (∑ n, P i n * W d n) * (X i d * irms (X i))) :=
  (hf.same Facts₀.shapeCasts_S1x1024_S1x1024).add
    (((prod_is h0 h1).mul (row_is hx)).colSum Facts₀.reduces_S1024x1024_S1024_2 Facts₀.shapeCasts_S1024_S1x1024 0x00000000#32 (.inl rfl) rfl)

/-- The gradient through the norm, plus the gradient passed by. -/
theorem back_is (h0 : Is (φ := .bf16) v0 P) (h1 : Is (φ := .bf16) v1 W) (hx : Is (φ := .f32) v9 X) (hg : Is (φ := .f32) v27 fun _ d => g d) (hG : Is (φ := .f32) v41 G) :
    Is (Gen.k1_pay1 (F := Ideal) (Gen.k1_pay4 v9) (Gen.k1_pay5 v9) (Gen.k1_pay7 v0 v1 v27) (Gen.k1_pay8 v0 v1 v9 v27) v41)
      (fun i d => back (fun d => ∑ n, P i n * W d n) (X i) g d + G i d) := by
  have a : Is (Gen.k1_pay7 (F := Ideal) v0 v1 v27) _ := (prod_is h0 h1).mul ((hg.same Facts₀.shapeCasts_S1x1024_S1x1024).rowBcast Facts₀.broadcasts_S1x1024_S1024x1024)
  have b := (((a.mul (row_is hx)).rowSum Facts₀.reduces_S1024x1024_S1024 Facts₀.shapeCasts_S1024_S1024x1 0x00000000#32 (.inl rfl) rfl).div (Is.const thousand_word)).bcast Facts₀.broadcasts_S1024x1_S1024x1024 (by decide)
  exact (((irms_is hx).bcast Facts₀.broadcasts_S1024x1_S1024x1024 (by decide)).mul (a.sub ((row_is hx).mul b))).add hG

end payloads

/-- Row `i` of the block of rows numbered `r`. -/
def rowAt (r : ℕ) (i : Fin 1024) : Fin 4096 := ⟨r % 4 * 1024 + i.val, by omega⟩

/-- Where each window's block of a grid point lies. -/
theorem idx : ∀ t : Fin cfg1.N, (win1_0.index t = ![t.val % 4, 0] ∧ win1_1.index t = ![0, 0] ∧ win1_2.index t = ![t.val % 4, 0]) ∧
    (win1_3.index t = ![0, 0] ∧ win1_4.index t = ![t.val % 4, 0]) ∧ win1_5.index t = ![t.val % 4, 0] ∧ win1_6.index t = ![0, 0] := by
  decide +kernel

/-- The second grid has 4 points. -/
theorem lt (t : Fin cfg1.N) : t.val < 4 := lt_of_lt_of_eq t.isLt Gen.N_1

variable (V : (c : Dev nD) → (b : Ref sig .tc) → Buf (Elt Ideal) ((c : Thread nD τ).loc b)) (c : Dev nD)

/-- The numbers that the second call finds in its arrays. -/
structure Entry (P : Fin 4096 → Fin 1024 → EReal) (W : Fin 1024 → Fin 1024 → EReal) (X G : Fin 4096 → Fin 1024 → EReal) (g : Fin 1024 → EReal) : Prop where
  /-- The gradient of the product. -/
  dq : ∀ i n, V c main_arg2 (ix2 i n) = P i n
  /-- The weights. -/
  w : ∀ d n, V c main_v1 (ix2 d n) = W d n
  /-- The rows. -/
  x : ∀ i d, V c main_arg3 (ix2 i d) = X i d
  /-- The gain. -/
  gn : ∀ d, V c main_v2 (ix2 (0 : Fin 1) d) = g d
  /-- The gradient passed by. -/
  g : ∀ i d, V c main_arg5 (ix2 i d) = G i d

/-- The product of the gradient with the weights transposed. -/
def dh (P : Fin 4096 → Fin 1024 → EReal) (W : Fin 1024 → Fin 1024 → EReal) (i : Fin 4096) (d : Fin 1024) : EReal := ∑ n, P i n * W d n

/-- The numbers in a grid point's blocks. -/
structure Blocks (t : Fin cfg1.N) (P W X G : Fin 1024 → Fin 1024 → EReal) (g : Fin 1024 → EReal) : Prop where
  /-- The gradient of the product. -/
  dq : Is (M := 1024) (N := 1024) (φ := .bf16) (Gen.iblk1 V c 0 t : Vec Ideal S1024x1024 .bf16) P
  /-- The weights. -/
  w : Is (M := 1024) (N := 1024) (φ := .bf16) (Gen.iblk1 V c 1 t : Vec Ideal S1024x1024 .bf16) W
  /-- The rows. -/
  x : Is (M := 1024) (N := 1024) (φ := .f32) (Gen.iblk1 V c 2 t : Vec Ideal S1024x1024 .f32) X
  /-- The gain. -/
  gn : Is (M := 1) (N := 1024) (φ := .f32) (Gen.iblk1 V c 3 t : Vec Ideal S1x1024 .f32) (fun _ d => g d)
  /-- The gradient passed by. -/
  g : Is (M := 1024) (N := 1024) (φ := .f32) (Gen.iblk1 V c 4 t : Vec Ideal S1024x1024 .f32) G

section point
variable {V c} {t : Fin cfg1.N} {P W X G : Fin 1024 → Fin 1024 → EReal} {g : Fin 1024 → EReal}

/-- The block of the input's gradient. -/
theorem back_block (B : Blocks V c t P W X G g) : Is (M := 1024) (N := 1024) (φ := .f32) (Gen.outsAt1 V c t.val t.isLt).1
    (fun i d => back (fun d => ∑ n, P i n * W d n) (X i) g d + G i d) := fun i d => by
  have key := back_is B.dq B.w B.x B.gn B.g
  by_cases h : t.val % 4 = 0
  · rw [Gen.outsAt1_A V c t h]
    frame_out
    exact key i d
  · rw [Gen.outsAt1_B V c t h]
    frame_out
    exact key i d

/-- The first block of rows begins the gain's gradient. -/
theorem gain_first (B : Blocks V c t P W X G g) (h : t.val % 4 = 0) : Is (M := 1) (N := 1024) (φ := .f32) (Gen.outsAt1 V c t.val t.isLt).2
    (fun _ d => 0 + ∑ i, (∑ n, P i n * W d n) * (X i d * irms (X i))) := fun i d => by
  have key := gain_is (f := fun _ => 0) B.dq B.w B.x (Is.zero' (M := 1) (N := 1024))
  rw [Gen.outsAt1_A V c t h]
  frame_out
  exact key i d

/-- A later block of rows adds to it. -/
theorem gain_next (B : Blocks V c t P W X G g) (h : ¬ t.val % 4 = 0) {k : Fin 1024 → EReal}
    (hk : Is (M := 1) (N := 1024) (φ := .f32) (Gen.outsAt1 V c (t.val - 1) (Nat.lt_of_le_of_lt (Nat.sub_le _ _) t.isLt)).2 (fun _ d => k d)) :
    Is (M := 1) (N := 1024) (φ := .f32) (Gen.outsAt1 V c t.val t.isLt).2
      (fun _ d => k d + ∑ i, (∑ n, P i n * W d n) * (X i d * irms (X i))) := fun i d => by
  have key := gain_is B.dq B.w B.x hk
  rw [Gen.outsAt1_B V c t h]
  frame_out
  exact key i d

end point

section arrays
variable {V c} {P : Fin 4096 → Fin 1024 → EReal} {W : Fin 1024 → Fin 1024 → EReal} {X G : Fin 4096 → Fin 1024 → EReal} {g : Fin 1024 → EReal}

/-- The blocks of one grid point. -/
theorem Entry.blocks (E : Entry V c P W X G g) (t : Fin cfg1.N) :
    Blocks V c t (fun i => P (rowAt t.val i)) W (fun i => X (rowAt t.val i)) (fun i => G (rowAt t.val i)) g := by
  obtain ⟨⟨i0, i1, i2⟩, ⟨i3, i4⟩, -⟩ := idx t
  refine ⟨fun i n => ?_, fun d n => ?_, fun i d => ?_, fun i d => ?_, fun i d => ?_⟩
  · rw [← E.dq]; blk_ext [Gen.iblk1, i0, rowAt]
  · rw [← E.w]; blk_ext [Gen.iblk1, i1]
  · rw [← E.x]; blk_ext [Gen.iblk1, i2, rowAt]
  · refine Eq.trans ?_ (E.gn d); blk_ext [Gen.iblk1, i3]
  · rw [← E.g]; blk_ext [Gen.iblk1, i4, rowAt]

/-- The gain's gradient over one block of rows. -/
def gainPart (P : Fin 4096 → Fin 1024 → EReal) (W : Fin 1024 → Fin 1024 → EReal) (X : Fin 4096 → Fin 1024 → EReal) (r : ℕ) (d : Fin 1024) : EReal :=
  ∑ i : Fin 1024, dh P W (rowAt r i) d * (X (rowAt r i) d * irms (X (rowAt r i)))

/-- The gain's gradient after a grid point: the sum over the finished blocks of rows. -/
theorem gain_run (E : Entry V c P W X G g) : ∀ (n : ℕ) (hn : n < cfg1.N),
    Is (M := 1) (N := 1024) (φ := .f32) (Gen.outsAt1 V c n hn).2 (fun _ d => ∑ r ∈ Finset.range (n + 1), gainPart P W X r d)
  | 0, hn => (gain_first (E.blocks ⟨0, hn⟩) rfl).congr fun i d => by
      rw [Finset.sum_range_succ, Finset.sum_range_zero]
      rfl
  | n + 1, hn => by
    have hlt : n + 1 < 4 := lt ⟨n + 1, hn⟩
    refine (gain_next (E.blocks ⟨n + 1, hn⟩) (by show ¬ (n + 1) % 4 = 0; omega) (gain_run E n (Nat.lt_of_succ_lt hn))).congr fun i d => ?_
    rw [Finset.sum_range_succ _ (n + 1)]
    rfl

/-- The sum over the four blocks of rows is the sum over all rows. -/
theorem gain_total (d : Fin 1024) : ∑ r ∈ Finset.range 4, gainPart P W X r d = ∑ i, dh P W i d * (X i d * irms (X i)) := by
  rw [Finset.sum_range]
  unfold gainPart
  rw [← Equiv.sum_comp (finProdFinEquiv : Fin 4 × Fin 1024 ≃ Fin (4 * 1024)) (fun i : Fin 4096 => dh P W i d * (X i d * irms (X i))), Fintype.sum_prod_type]
  refine Finset.sum_congr rfl fun r _ => Finset.sum_congr rfl fun i _ => ?_
  have e : rowAt r.val i = (finProdFinEquiv (r, i) : Fin (4 * 1024)) := Fin.ext (by
    show r.val % 4 * 1024 + i.val = i.val + 1024 * r.val
    have := r.isLt
    omega)
  rw [e]

/-- The array of the input's gradient. -/
theorem dx_array (E : Entry V c P W X G g) : (Gen.dat1 V c).arrAt 5 cfg1.N = fun y : S4096x1024.Idx =>
    back (dh P W (y 0)) (X (y 0)) g (y 1) + G (y 0) (y 1) := by
  refine (Gen.dat1 V c).arrAt_eq_of_covers 5 _ (by decide +kernel) fun t hf y => ?_
  blk_simp
  rw [Gen.after1_5]
  obtain ⟨i, d, rfl⟩ : ∃ (i d : Fin 1024), y = ix2 i d := ⟨y 0, y 1, ValueIdx.eq_ix2 (n0 := 1024) (n1 := 1024) y⟩
  have e0 : (win1_5.blk t).view.emb (ix2 i d) 0 = rowAt t.val i := Fin.ext (by unfold rowAt; blk_simp [idx t]; rfl)
  have e1 : (win1_5.blk t).view.emb (ix2 i d) 1 = d := Fin.ext (by blk_simp [idx t] <;> simp <;> rfl)
  rw [e0, e1]
  exact back_block (E.blocks t) i d

/-- The array of the gain's gradient. -/
theorem gain_array (E : Entry V c P W X G g) : (Gen.dat1 V c).arrAt 6 cfg1.N = fun y : S1x1024.Idx =>
    ∑ i, dh P W i (y 1) * (X i (y 1) * irms (X i)) := by
  refine (Gen.dat1 V c).arrAt_eq_of_covers 6 _ (by decide +kernel) fun t hf y => ?_
  have h3 := (Gen.flush1_6 t).mp hf
  have hlt := lt t
  blk_simp
  rw [Gen.after1_6]
  obtain ⟨i, d, rfl⟩ : ∃ (i : Fin 1) (d : Fin 1024), y = ix2 i d := ⟨y 0, y 1, ValueIdx.eq_ix2 (n0 := 1) (n1 := 1024) y⟩
  have e1 : (win1_6.blk t).view.emb (ix2 i d) 1 = d := Fin.ext (by blk_simp [idx t] <;> simp <;> rfl)
  rw [e1]
  refine (gain_run E t.val t.isLt i d).trans ?_
  have e : t.val + 1 = 4 := by omega
  rw [e]
  exact gain_total d

end arrays

/-- The weights' gradient. -/
def dw (a dq : S4096x1024.Idx → EReal) (j d : Fin 1024) : EReal := ∑ i : Fin 4096, a (ix2 i j) * dq (ix2 i d)

/-- Where each window's block of the first call lies. -/
theorem idx0 : ∀ t : Fin cfg0.N, win0_0.index t = ![0, 0] ∧ win0_1.index t = ![0, 0] ∧ win0_2.index t = ![0, 0] := by
  decide +kernel

/-- The product over all rows. -/
theorem product_apply (x0 x1 : Vec Ideal S4096x1024 .bf16) (i j : Fin 1024) : Gen.k0_pay1 (F := Ideal) x0 x1 (ix2 i j) = dw x0 x1 i j := by
  refine (DownDw.tn_apply _ _ _ none (D := dot_S4096x1024_S4096x1024_S1024x1024_0_0_1_1_n_n) rfl rfl
    (fun i j k => by funext x; match x with | ⟨0, _⟩ => rfl | ⟨1, _⟩ => rfl)
    (fun i j k => by funext x; match x with | ⟨0, _⟩ => rfl | ⟨1, _⟩ => rfl) i j).trans ?_
  exact (congrArg₂ (· + ·) ((Rep.zero i j).trans EReal.coe_zero) rfl).trans (zero_add _)

/-- The array of the weights' gradient. -/
theorem dw_array : (Gen.dat0 V c).arrAt 2 cfg0.N = fun y : S1024x1024.Idx => dw (V c main_arg0) (V c main_arg2) (y 0) (y 1) := by
  refine (Gen.dat0 V c).arrAt_eq_of_covers 2 _ (by decide +kernel) fun t hf y => ?_
  blk_simp
  rw [Gen.after0_2]
  obtain ⟨j, d, rfl⟩ : ∃ (j d : Fin 1024), y = ix2 j d := ⟨y 0, y 1, ValueIdx.eq_ix2 (n0 := 1024) (n1 := 1024) y⟩
  have e0 : (win0_2.blk t).view.emb (ix2 j d) 0 = j := Fin.ext (by blk_simp [idx0 t]; simp; rfl)
  have e1 : (win0_2.blk t).view.emb (ix2 j d) 1 = d := Fin.ext (by blk_simp [idx0 t]; simp; rfl)
  rw [e0, e1]
  unfold Gen.out0_2
  frame_out
  refine (product_apply _ _ j d).trans (Finset.sum_congr rfl fun i _ => congrArg₂ (· * ·) ?_ ?_)
  · blk_ext [Gen.iblk0, idx0 t]
  · blk_ext [Gen.iblk0, idx0 t]

end Cert.Proof.QDx

end
-- ==== Proof.QDxRef.lean ====
/-
  What the reference of the queries' product's gradients computes: the weights' gradient, the input's gradient through
  the norm, and the norm's gain's gradient.
-/
module

public import proofs.«01_k».proof.Proof.QDx
public import proofs.«01_k».proof.Proof.Gen.Reference9Ideal.Read
public import proofs.«01_k».proof.Proof.Gen.Reference9Ideal.Run

@[expose] public section

set_option maxRecDepth 16384

noncomputable section

namespace Cert.Proof.QDx.Ref

open Idealize.ShloMosaic hiding ix1 ix2 ix3 ix4
open Idealize.ShloMosaic.TcCoe Idealize.SL Idealize.SL.Sem Idealize.ShloMosaic.ValueIdx Cert.Proof.Mlp
open Cert.Proof.UpDx (back half_word)
open Cert.Reference9Ideal Cert.Reference9Ideal.Read Cert.Reference9Ideal.Facts₀
open scoped BigOperators

/-- The entries of the reference's six arguments. -/
structure Given (x0 : (⟨S4096x1024, .bf16⟩ : BufTy).Contents (Elt Ideal)) (x1 : (⟨S1024x1024, .f32⟩ : BufTy).Contents (Elt Ideal))
    (x2 : (⟨S4096x1024, .bf16⟩ : BufTy).Contents (Elt Ideal)) (x3 : (⟨S4096x1024, .f32⟩ : BufTy).Contents (Elt Ideal))
    (x4 : (⟨S1024, .f32⟩ : BufTy).Contents (Elt Ideal)) (x5 : (⟨S4096x1024, .f32⟩ : BufTy).Contents (Elt Ideal))
    (H P : Fin 4096 → Fin 1024 → EReal) (W : Fin 1024 → Fin 1024 → EReal) (X G : Fin 4096 → Fin 1024 → EReal) (g : Fin 1024 → EReal) : Prop where
  /-- The rows that the product took. -/
  a0 : ∀ i n, x0 (ix2 i n) = H i n
  /-- The weights. -/
  a1 : ∀ d n, x1 (ix2 d n) = W d n
  /-- The gradient of the product. -/
  a2 : ∀ i n, x2 (ix2 i n) = P i n
  /-- The rows before the norm. -/
  a3 : ∀ i d, x3 (ix2 i d) = X i d
  /-- The gain. -/
  a4 : ∀ d, x4 (ix1 d) = g d
  /-- The gradient passed by. -/
  a5 : ∀ i d, x5 (ix2 i d) = G i d

/-- Any six arrays have entries, those of arrays that they equal. -/
theorem given {x0 y0 x2 y2 : (⟨S4096x1024, .bf16⟩ : BufTy).Contents (Elt Ideal)} {x1 y1 : (⟨S1024x1024, .f32⟩ : BufTy).Contents (Elt Ideal)}
    {x3 y3 x5 y5 : (⟨S4096x1024, .f32⟩ : BufTy).Contents (Elt Ideal)} {x4 y4 : (⟨S1024, .f32⟩ : BufTy).Contents (Elt Ideal)}
    (e0 : y0 = x0) (e1 : y1 = x1) (e2 : y2 = x2) (e3 : y3 = x3) (e4 : y4 = x4) (e5 : y5 = x5) :
    Given y0 y1 y2 y3 y4 y5 (fun i n => x0 (ix2 i n)) (fun i n => x2 (ix2 i n)) (fun d n => x1 (ix2 d n)) (fun i d => x3 (ix2 i d)) (fun i d => x5 (ix2 i d)) (fun d => x4 (ix1 d)) := by
  subst e0 e1 e2 e3 e4 e5
  exact ⟨fun _ _ => rfl, fun _ _ => rfl, fun _ _ => rfl, fun _ _ => rfl, fun _ => rfl, fun _ _ => rfl⟩

variable {x0 x2 : (⟨S4096x1024, .bf16⟩ : BufTy).Contents (Elt Ideal)} {x1 : (⟨S1024x1024, .f32⟩ : BufTy).Contents (Elt Ideal)}
  {x3 x5 : (⟨S4096x1024, .f32⟩ : BufTy).Contents (Elt Ideal)} {x4 : (⟨S1024, .f32⟩ : BufTy).Contents (Elt Ideal)}
  {H P : Fin 4096 → Fin 1024 → EReal} {W : Fin 1024 → Fin 1024 → EReal}
  {X G : Fin 4096 → Fin 1024 → EReal} {g : Fin 1024 → EReal} (E : Given x0 x1 x2 x3 x4 x5 H P W X G g)

include E

/-- The weights' gradient. -/
theorem ref_dw : Is (M := 1024) (N := 1024) (φ := .f32) (val_main_v4 (F := Ideal) x0 x2) (fun j d => ∑ i, H i j * P i d) := fun j d => by
  rw [val_main_v4_apply, val_main_v3_apply]
  refine Finset.sum_congr rfl fun i _ => ?_
  rw [mul_comm (H i j)]
  exact congrArg₂ (· * ·) ((congrArg x2 (funext fun a => by match a with | ⟨0, _⟩ => rfl | ⟨1, _⟩ => rfl)).trans (E.a2 i d))
    ((congrArg x0 (funext fun a => by match a with | ⟨0, _⟩ => rfl | ⟨1, _⟩ => rfl)).trans (E.a0 i j))

/-- The product of the gradient with the weights transposed. -/
theorem ref_dh : Is (M := 4096) (N := 1024) (φ := .f32) (val_main_v22 (F := Ideal) x1 x2) (dh P W) := fun i d => by
  rw [val_main_v22_apply]
  refine Finset.sum_congr rfl fun k _ => ?_
  exact congrArg₂ (· * ·) ((congrArg x2 (funext fun a => by match a with | ⟨0, _⟩ => rfl | ⟨1, _⟩ => rfl)).trans (E.a2 i k))
    ((congrArg x1 (funext fun a => by match a with | ⟨0, _⟩ => rfl | ⟨1, _⟩ => rfl)).trans (E.a1 d k))

/-- The number under the root. -/
theorem ref_mean : Is (M := 4096) (N := 1) (φ := .f32) (val_main_v11 (F := Ideal) x3) (fun i _ => msq (X i)) := by
  have hx : Is (M := 4096) (N := 1024) (φ := .f32) x3 X := E.a3
  have e2 : Is (M := 4096) (N := 1) (φ := .f32) (val_main_v7 (F := Ideal) x3) (fun i _ => ∑ d, X i d * X i d) := fun i z => by
    rw [val_main_v7_apply, val_main_v6_apply, val_main_cst_apply, word_zero, zero_add]
    refine Finset.sum_congr rfl fun d _ => ?_
    refine (congrArg (val_main_v5 (F := Ideal) x3) (?_ : _ = ix2 i d)).trans ((hx.mul hx) i d)
    funext a; match a with | ⟨0, _⟩ => rfl | ⟨1, _⟩ => rfl
  have e3 : Is (M := 4096) (N := 1) (φ := .f32) (val_main_v8 (F := Ideal)) (fun _ _ => ((1024 : ℝ) : EReal)) := Is.hconst (fun _ => thousand_word) bcast_S_S4096x1
  have e5 : Is (M := 4096) (N := 1) (φ := .f32) (val_main_v10 (F := Ideal)) (fun _ _ => ((eps : ℝ) : EReal)) := Is.hconst (fun _ => eps_word.1) bcast_S_S4096x1
  exact (e2.hdiv e3).add e5

/-- The reciprocal of each row's root mean square. -/
theorem ref_irms : Is (M := 4096) (N := 1) (φ := .f32) (val_main_v12 (F := Ideal) x3) (fun i _ => irms (X i)) :=
  (ref_mean E).hrsqrt

/-- The rows divided by their root mean square. -/
theorem ref_row : Is (M := 4096) (N := 1024) (φ := .f32) (val_main_v17 (F := Ideal) x3) (fun i d => X i d * irms (X i)) := by
  have e11 : Is (M := 4096) (N := 1024) (φ := .f32) (val_main_v16 (F := Ideal) x3) (fun i _ => irms (X i)) := fun i d => by
    rw [val_main_v16_apply, ← ref_irms E i 0]
    exact congrArg (val_main_v12 (F := Ideal) x3) (funext fun a => by match a with | ⟨0, _⟩ => rfl | ⟨1, _⟩ => rfl)
  have hx : Is (M := 4096) (N := 1024) (φ := .f32) x3 X := E.a3
  exact hx.mul e11

/-- The gain's gradient. -/
theorem ref_gain : Is (M := 1) (N := 1024) (φ := .f32) (val_main_v44 (F := Ideal) x1 x2 x3) (fun _ d => ∑ i, dh P W i d * (X i d * irms (X i))) := fun z d => by
  rw [val_main_v44_apply, val_main_v28_apply, Fin.sum_univ_one, val_main_v25_apply, val_main_v24_apply, val_main_cst_3_apply, val_main_cst_4_apply, word_zero, zero_add,
    zero_add]
  refine Finset.sum_congr rfl fun i _ => ?_
  rw [mul_comm (dh P W i d)]
  refine (congrArg (val_main_v23 (F := Ideal) x1 x2 x3) (?_ : _ = ix2 i d)).trans (((ref_row E).mul (ref_dh E)) i d)
  have hd := d.isLt
  have hz : z.val = 0 := by omega
  funext a
  match a with
  | ⟨0, _⟩ => rfl
  | ⟨1, _⟩ => exact Fin.ext (by show 0 * 1024 + (z.val * 1024 + d.val) = d.val; omega)

/-- The input's gradient. -/
theorem ref_dx : Is (M := 4096) (N := 1024) (φ := .f32) (val_main_v43 (F := Ideal) x1 x2 x3 x4 x5) (fun i d => back (dh P W i) (X i) g d + G i d) := by
  have hx : Is (M := 4096) (N := 1024) (φ := .f32) x3 X := E.a3
  have e26 : Is (M := 4096) (N := 1024) (φ := .f32) (val_main_v26 (F := Ideal) x4) (fun _ d => g d) := fun i d => by
    rw [val_main_v26_apply, val_main_v18_apply]
    exact (congrArg x4 (funext fun a => by match a with | ⟨0, _⟩ => rfl)).trans (E.a4 d)
  have e27 : Is (M := 4096) (N := 1024) (φ := .f32) (val_main_v27 (F := Ideal) x1 x2 x4) (fun i d => dh P W i d * g d) := (ref_dh E).mul e26
  have e31 : Is (M := 4096) (N := 1) (φ := .f32) (val_main_v31 (F := Ideal) x1 x2 x3 x4) (fun i _ => ∑ d, X i d * (dh P W i d * g d)) := fun i z => by
    rw [val_main_v31_apply, val_main_v30_apply, val_main_cst_5_apply, word_zero, zero_add]
    refine Finset.sum_congr rfl fun d _ => ?_
    refine (congrArg (val_main_v29 (F := Ideal) x1 x2 x3 x4) (?_ : _ = ix2 i d)).trans ((hx.mul e27) i d)
    have hz : z.val = 0 := by omega
    funext a
    match a with
    | ⟨0, _⟩ => exact Fin.ext (by show i.val * 1 + z.val = i.val; omega)
    | ⟨1, _⟩ => rfl
  have e9 : Is (M := 4096) (N := 1) (φ := .f32) (val_main_v14 (F := Ideal)) (fun _ _ => ((-(1 / 2) : ℝ) : EReal)) := Is.hconst (fun _ => half_word) bcast_S_S4096x1
  have e10 : Is (M := 4096) (N := 1) (φ := .f32) (val_main_v15 (F := Ideal) x3) (fun i _ => ((-(1 / 2) : ℝ) : EReal) * Ideal.div (irms (X i)) (msq (X i))) :=
    e9.mul ((ref_irms E).hdiv (ref_mean E))
  have e35 : Is (M := 4096) (N := 1) (φ := .f32) (val_main_v35 (F := Ideal)) (fun _ _ => ((1024 : ℝ) : EReal)) := Is.hconst (fun _ => thousand_word) bcast_S_S4096x1
  have e36 : Is (M := 4096) (N := 1) (φ := .f32) (val_main_v36 (F := Ideal) x1 x2 x3 x4) _ := (e31.mul e10).hdiv e35
  have e38 : Is (M := 4096) (N := 1024) (φ := .f32) (val_main_v38 (F := Ideal) x1 x2 x3 x4) (fun i _ =>
      Ideal.div ((∑ d, X i d * (dh P W i d * g d)) * (((-(1 / 2) : ℝ) : EReal) * Ideal.div (irms (X i)) (msq (X i)))) ((1024 : ℝ) : EReal)) := fun i d => by
    rw [val_main_v38_apply, val_main_v37_apply, Fin.sum_univ_one, val_main_cst_7_apply, word_zero, zero_add]
    refine (congrArg (val_main_v36 (F := Ideal) x1 x2 x3 x4) (?_ : _ = ix2 i 0)).trans (e36 i 0)
    funext a; match a with | ⟨0, _⟩ => rfl | ⟨1, _⟩ => rfl
  have e32 : Is (M := 4096) (N := 1024) (φ := .f32) (val_main_v32 (F := Ideal) x3) (fun i _ => irms (X i)) := fun i d => by
    rw [val_main_v32_apply, ← ref_irms E i 0]
    exact congrArg (val_main_v12 (F := Ideal) x3) (funext fun a => by match a with | ⟨0, _⟩ => rfl | ⟨1, _⟩ => rfl)
  have hG : Is (M := 4096) (N := 1024) (φ := .f32) x5 G := E.a5
  have key : Is (M := 4096) (N := 1024) (φ := .f32) (val_main_v43 (F := Ideal) x1 x2 x3 x4 x5) _ := (((e27.mul e32).add (hx.mul e38)).add (e38.mul hx)).add hG
  exact key.congr fun i d => congrArg (· + G i d) (through_norm (fun d => dh P W i d * g d) (X i) d)

omit E

/-- Three arrays are the gradients. -/
def Holds (H P : Fin 4096 → Fin 1024 → EReal) (W : Fin 1024 → Fin 1024 → EReal) (X G : Fin 4096 → Fin 1024 → EReal) (g : Fin 1024 → EReal)
    (dw : S1024x1024.Idx → EReal) (dx : S4096x1024.Idx → EReal) (dg : S1x1024.Idx → EReal) : Prop :=
  dw = (fun y => ∑ i, H i (y 0) * P i (y 1)) ∧
  dx = (fun y => back (dh P W (y 0)) (X (y 0)) g (y 1) + G (y 0) (y 1)) ∧
  dg = (fun y => ∑ i, dh P W i (y 1) * (X i (y 1) * irms (X i)))

variable (m : (ℓ : Loc nD τ sig) → Buf (Elt Ideal) ℓ) (ρ : Dev nD → PrngReg)

/-- The reference has no semaphore. -/
theorem no_sem : ∀ _ : SemLoc sig, False := by decide

/-- The reference's results from its arguments. -/
theorem run_values {H P : Dev nD → Fin 4096 → Fin 1024 → EReal} {W : Dev nD → Fin 1024 → Fin 1024 → EReal} {X G : Dev nD → Fin 4096 → Fin 1024 → EReal} {g : Dev nD → Fin 1024 → EReal}
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (H c) (P c) (W c) (X c) (G c) (g c)) :
    θ_run defs (onTc (τ := τ) (main (F := Ideal))) ⟨m, fun _ => 0, ρ⟩ (fun r => ∀ c : Dev nD,
      Holds (H c) (P c) (W c) (X c) (G c) (g c) (r.2.mem ((c.tc : Thread nD τ).loc main_v4)) (r.2.mem ((c.tc : Thread nD τ).loc main_v43)) (r.2.mem ((c.tc : Thread nD τ).loc main_v44))) :=
  (θ_run defs _ _).mono (fun _ h c =>
    ⟨((h c).1.trans (val_main_v4_eq (F := Ideal) _ _)).trans (ref_dw (hE c)).array,
     ((h c).2.1.trans (val_main_v43_eq (F := Ideal) _ _)).trans (ref_dx (hE c)).array,
     ((h c).2.2.1.trans (val_main_v44_eq (F := Ideal) _ _ _)).trans (ref_gain (hE c)).array⟩) (Cert.Reference9Ideal.Value.run m ρ)

/-- The reference terminates with its arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h c).2.2.2, funext fun g => (no_sem g.2).elim⟩) (Cert.Reference9Ideal.Value.run m ρ)

end Cert.Proof.QDx.Ref

end
-- ==== Proof.QDxRun.lean ====
/-
  What the kernel of the queries' product's gradients leaves in its arrays: its two calls, and what the host's
  operations hand the second.
-/
module

public import proofs.«01_k».proof.Proof.QDxRef
public import Idealize.ShloMosaic.Lib.StableHlo.RunRead

@[expose] public section

set_option maxRecDepth 16384

noncomputable section

namespace Cert.Proof.QDx

open Idealize.ShloMosaic hiding ix1 ix2 ix3 ix4
open Idealize.ShloMosaic.TcCoe Idealize.SL Idealize.SL.RA Idealize.SL.BI Idealize.SL.Sem Idealize.ShloMosaic.ValueIdx Cert.Kernel9Ideal
open scoped Idealize.SL.BI
open Idealize.ShloMosaic.Rounds
open Idealize.SL.BI.BIBase Idealize.SL.BI.Laws Idealize.SL.ProofMode
open Cert.Proof.QDx.Ref (Given Holds)
open scoped BigOperators

variable (m : (ℓ : Loc nD τ sig) → Buf (Elt Ideal) ℓ) (ρ : Dev nD → PrngReg)

local notation "World" => MT nD τ sig Unit (Elt Ideal) ℕ (UR sig nD τ) ℕ

set_option backward.isDefEq.respectTransparency.types false in
/-- Every execution ends with each array at its contents after the last region. -/
theorem run_arrays : θ_run defs (onTc (τ := τ) (main (F := Ideal))) ⟨m, fun _ => 0, ρ⟩ (fun r =>
      ∀ (c : Dev nD), ∀ b ∈ Pipeline.ucRefs τ sig, r.2.mem ((c : Thread nD τ).1, b) = Gen.W3 m ρ c b) :=
  Pipeline.θ_run_regions_kit_sems (pcfgs (F := Ideal)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_region, Pipeline.Seg.pipes_host, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Htok
      imodintro
      isplitl [Htok]
      · iapply (show (ownU (initOf (Pipeline.cells cfgs Gen.cellOf_inj) (Pipeline.launchToks cfgs Gen.cellOf_inj)) : sProp World)
            ⊢ BI.own (emb₁ (initOf (Pipeline.cells cfgs Gen.cellOf_inj) (Pipeline.launchToks cfgs Gen.cellOf_inj))) from .rfl)
        iexact Htok
      · iapply (show (BI.emp : sProp World) ⊢ bigSep Finset.univ (fun _ : Dev nD => (BI.emp : sProp World)) from by rw [BI.bigSep_emp_const])
        iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hbuf, -, Howe, -, Hreg, -⟩, -⟩
      imodintro
      isplitl [Hbuf]
      · iexact Hbuf
      isplitl [Hreg]
      · iexists _; iexact Hreg
      · iexists ∅; iexact Howe)
    (QY := fun c s => ∀ b ∈ Pipeline.ucRefs τ sig, s.mem (((c : Thread nD τ)).1, b) = Gen.W3 m ρ c b)
    (hfin := fun c s' => by
      iintro ⟨⟨Hbuf, -⟩, HSI⟩
      unfold StableHlo.held
      imodintro
      iapply (pointsTo_read_all (Pipeline.ucRefs τ sig) (fun b => (((c : Thread nD τ)).1, b)) (Gen.W3 m ρ c) s')
      isplitl [Hbuf] <;> iassumption)
    (hQ := fun s h _ => h)

section
variable {c : Dev nD} {H P : Fin 4096 → Fin 1024 → EReal} {W : Fin 1024 → Fin 1024 → EReal} {X G : Fin 4096 → Fin 1024 → EReal} {g : Fin 1024 → EReal}
variable (E : Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) H P W X G g)
include E

/-- The cast weights. -/
theorem h_v1 (d n : Fin 1024) : Gen.W2 m ρ c (Proc.devRef .tc main_v1) (ix2 d n) = W d n := by
  have e : Gen.W2 m ρ c (Proc.devRef .tc main_v1) = (truncf .bf16 (Gen.W1 m ρ c (Proc.devRef .tc main_arg1) : FVec Ideal S1024x1024 .f32) Facts₀.bitsLt_bf16_f32 : FVec Ideal S1024x1024 .bf16) := by
    unfold Gen.W2
    after_reads_simp
  exact (congrFun e _).trans ((congrFun (Gen.W1_args m ρ c main_arg1 (by decide)) _).trans (E.a1 d n))

/-- The gain as a row. -/
theorem h_v2 (d : Fin 1024) : Gen.W2 m ρ c (Proc.devRef .tc main_v2) (ix2 (0 : Fin 1) d) = g d := by
  have e : Gen.W2 m ρ c (Proc.devRef .tc main_v2) = shapeCast S1x1024 (Gen.W1 m ρ c (Proc.devRef .tc main_arg4) : FVec Ideal S1024 .f32) Facts₀.shapeCasts_S1024_S1x1024 := by
    unfold Gen.W2
    after_reads_simp
    rfl
  refine (congrFun e _).trans ((shapeCast_apply _ _ (ix2 (0 : Fin 1) d) (ix1 d) ?_).trans ((congrFun (Gen.W1_args m ρ c main_arg4 (by decide)) _).trans (E.a4 d)))
  rw [Shape.rowMajor_val_one, Shape.rowMajor_val_two]
  show d.val = 0 * 1024 + d.val
  omega

/-- What the second call finds. -/
theorem entry : Entry (Gen.V2 m ρ) c P W X G g where
  dq i n := (congrFun (Gen.W2_args m ρ c main_arg2 (by decide)) _).trans (E.a2 i n)
  w d n := h_v1 m ρ E d n
  x i d := (congrFun (Gen.W2_args m ρ c main_arg3 (by decide)) _).trans (E.a3 i d)
  gn d := h_v2 m ρ E d
  g i d := (congrFun (Gen.W2_args m ρ c main_arg5 (by decide)) _).trans (E.a5 i d)

/-- After the second call: the weights' gradient, which the first left. -/
theorem w3_dw : Gen.W3 m ρ c (Proc.devRef .tc main_v0) = fun y : S1024x1024.Idx => ∑ i, H i (y 0) * P i (y 1) := by
  refine ((Gen.W3_of m ρ c main_v0 (by decide +kernel)).trans ((Gen.W2_of m ρ c main_v0 (by decide +kernel)).trans (Gen.W1_arr m ρ c 2))).trans
    ((dw_array (Gen.V0 m ρ) c).trans (funext fun y => Finset.sum_congr rfl fun i _ => ?_))
  exact congrArg₂ (· * ·) (E.a0 i (y 0)) (E.a2 i (y 1))

end

/-- The kernel leaves the three gradients of its arguments. -/
theorem run_values {H P : Dev nD → Fin 4096 → Fin 1024 → EReal} {W : Dev nD → Fin 1024 → Fin 1024 → EReal} {X G : Dev nD → Fin 4096 → Fin 1024 → EReal} {g : Dev nD → Fin 1024 → EReal}
    (hE : ∀ c : Dev nD, Given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (H c) (P c) (W c) (X c) (G c) (g c)) :
    θ_run defs (onTc (τ := τ) (main (F := Ideal))) ⟨m, fun _ => 0, ρ⟩ (fun r => ∀ c : Dev nD,
      Holds (H c) (P c) (W c) (X c) (G c) (g c) (r.2.mem ((c.tc : Thread nD τ).loc main_v0)) (r.2.mem ((c.tc : Thread nD τ).loc main_v3_0)) (r.2.mem ((c.tc : Thread nD τ).loc main_v3_1))) :=
  (θ_run defs _ _).mono (fun _ h c =>
    ⟨(h c _ (Gen.mem_uc main_v0 (by decide))).trans (w3_dw m ρ (hE c)),
     ((h c _ (Gen.mem_uc main_v3_0 (by decide))).trans (Gen.W3_arr m ρ c 5)).trans (dx_array (entry m ρ (hE c))),
     ((h c _ (Gen.mem_uc main_v3_1 (by decide))).trans (Gen.W3_arr m ρ c 6)).trans (gain_array (entry m ρ (hE c)))⟩) (run_arrays m ρ)

end Cert.Proof.QDx

end
-- ==== Proof.lean ====
/- Parts of a training step, proved: the attention forward and backward, both layers' gated MLPs forward and
   backward, and the gradients of the products around the attentions.
   All programs run and leave their arguments, and each kernel's results are its reference's. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Finite
public import proofs.«01_k».proof.Proof.Run
public import proofs.«01_k».proof.Proof.RefRun
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.MlpRun
public import proofs.«01_k».proof.Proof.Mlp0Run
public import proofs.«01_k».proof.Proof.Finite2
public import proofs.«01_k».proof.Proof.UpDxRun
public import proofs.«01_k».proof.Proof.UpDx0Run
public import proofs.«01_k».proof.Proof.DownDw
public import Idealize.ShloMosaic.Adequacy
public import Idealize.ShloMosaic.Init
public import proofs.«01_k».proof.Proof.ODw
public import proofs.«01_k».proof.Proof.ODx
public import proofs.«01_k».proof.Proof.QDxRun

@[expose] public section

noncomputable section

namespace Cert.Proof

open Idealize.ShloMosaic hiding ix3
open Idealize.SL.Sem Idealize.ShloMosaic.ValueIdx

/-- On finite arguments the kernel and the reference compute the same attention output and the same gradients. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm hargs
  choose X hX using fun c => (finite_real _ _ (hm c)).1
  choose D hD using fun c => (finite_real _ _ (hm c)).2
  exact ⟨_, _, _, _,
    run_values m g (fun c h i d => X c (ix3 h i d)) (fun c h i d => D c (ix3 h i d)) (fun c h i d => hX c _) (fun c h i d => hD c _),
    ref_values m' g' (fun c h i d => X c (ix3 h i d)) (fun c h i d => D c (ix3 h i d))
      (fun c h i d => (congrFun (hargs c).1 _).trans (hX c _)) (fun c h i d => (congrFun (hargs c).2 _).trans (hD c _))⟩

/-- On finite arguments the gated MLP's calls compute the reference's activation, output and gradients. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hm hargs
  choose P hP using fun c => finite2_real _ _ _ _ _ _ _ _ _ (hm c)
  have hP' : ∀ c : Dev Cert.Reference2Ideal.nD, _ := fun c => by
    obtain ⟨e0, e1, e2, e3, e4, e5, e6, e7, e8⟩ := hargs c
    have := hP c
    rw [← e0, ← e1, ← e2, ← e3, ← e4, ← e5, ← e6, ← e7, ← e8] at this
    exact this
  exact ⟨_, _, _, _, _, _,
    (θ_run _ _ _).mono (fun _ h c => ⟨(h.1 c).1, (h.1 c).2.1, (h.1 c).2.2.1, (h.1 c).2.2.2.1, (h.1 c).2.2.2.2.1, (h.1 c).2.2.2.2.2, h.2.1 c⟩)
      (θ_run_and (Mlp.run_values m g P hP) (Cert.Kernel2Ideal.Gen.frame m g)),
    (θ_run _ _ _).mono (fun _ h c => ⟨(h.1 c).1, (h.1 c).2.1, (h.1 c).2.2.1, (h.1 c).2.2.2.1, (h.1 c).2.2.2.2.1, (h.1 c).2.2.2.2.2, h.2.1 c⟩)
      (θ_run_and (MlpRef.run_values m' g' P hP') (MlpRef.frame m' g'))⟩

/-- The call of the first product's gradient computes the reference's two gradients. -/
theorem algebraic3 : Cert.algebraic_Kernel3Ideal_Reference3Ideal (hKernel3Ideal := Cert.Kernel3Ideal.Gen.facts)
    (hReference3Ideal := Cert.Reference3Ideal.Gen.facts) := by
  intro m g m' g' _ hargs
  exact ⟨_, _,
    (θ_run _ _ _).mono (fun _ h c => ⟨(h.1 c).1, (h.1 c).2, h.2 c⟩)
      (θ_run_and (UpDx.run_values m g fun c => UpDx.Ref.given rfl rfl rfl rfl rfl) (Cert.Kernel3Ideal.Gen.unchanged m g)),
    (θ_run _ _ _).mono (fun _ h c => ⟨(h.1 c).1, (h.1 c).2, h.2.1 c⟩)
      (θ_run_and (UpDx.Ref.run_values m' g' fun c => UpDx.Ref.given (hargs c).1 (hargs c).2.1 (hargs c).2.2.1 (hargs c).2.2.2.1 (hargs c).2.2.2.2) (UpDx.Ref.frame m' g'))⟩

/-- The call of the second product's gradient computes the reference's weights' gradient. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨_, DownDw.run_values m g, (θ_run _ _ _).mono (fun _ h c => ⟨(h c).1.trans ?_, (h c).2⟩) (DownDw.Ref.run_values m' g')⟩
  rw [(hargs c).1, (hargs c).2]

/-- On finite arguments the first layer's gated MLP's calls compute the reference's activation, output and gradients. -/
theorem algebraic5 : Cert.algebraic_Kernel5Ideal_Reference5Ideal_pre_finite2 (hKernel5Ideal := Cert.Kernel5Ideal.Gen.facts)
    (hReference5Ideal := Cert.Reference5Ideal.Gen.facts) (hPre_finite2 := Cert.Pre_finite2.Gen.facts) := by
  intro m g m' g' hm hargs
  choose P hP using fun c => finite5_real _ _ _ _ _ _ _ _ _ (hm c)
  have hP' : ∀ c : Dev Cert.Reference5Ideal.nD, _ := fun c => by
    obtain ⟨e0, e1, e2, e3, e4, e5, e6, e7, e8⟩ := hargs c
    have := hP c
    rw [← e0, ← e1, ← e2, ← e3, ← e4, ← e5, ← e6, ← e7, ← e8] at this
    exact this
  exact ⟨_, _, _, _, _, _,
    (θ_run _ _ _).mono (fun _ h c => ⟨(h.1 c).1, (h.1 c).2.1, (h.1 c).2.2.1, (h.1 c).2.2.2.1, (h.1 c).2.2.2.2.1, (h.1 c).2.2.2.2.2, h.2.1 c⟩)
      (θ_run_and (Mlp0.run_values m g P hP) (Cert.Kernel5Ideal.Gen.frame m g)),
    (θ_run _ _ _).mono (fun _ h c => ⟨(h.1 c).1, (h.1 c).2.1, (h.1 c).2.2.1, (h.1 c).2.2.2.1, (h.1 c).2.2.2.2.1, (h.1 c).2.2.2.2.2, h.2.1 c⟩)
      (θ_run_and (Mlp0Ref.run_values m' g' P hP') (Mlp0Ref.frame m' g'))⟩

/-- The call of the first layer's first product's gradient computes the reference's two gradients. -/
theorem algebraic6 : Cert.algebraic_Kernel6Ideal_Reference6Ideal (hKernel6Ideal := Cert.Kernel6Ideal.Gen.facts)
    (hReference6Ideal := Cert.Reference6Ideal.Gen.facts) := by
  intro m g m' g' _ hargs
  exact ⟨_, _,
    (θ_run _ _ _).mono (fun _ h c => ⟨(h.1 c).1, (h.1 c).2, h.2 c⟩)
      (θ_run_and (UpDx0.run_values m g fun c => UpDx0.Ref.given rfl rfl rfl rfl rfl) (Cert.Kernel6Ideal.Gen.unchanged m g)),
    (θ_run _ _ _).mono (fun _ h c => ⟨(h.1 c).1, (h.1 c).2, h.2.1 c⟩)
      (θ_run_and (UpDx0.Ref.run_values m' g' fun c => UpDx0.Ref.given (hargs c).1 (hargs c).2.1 (hargs c).2.2.1 (hargs c).2.2.2.1 (hargs c).2.2.2.2) (UpDx0.Ref.frame m' g'))⟩

/-- The call of the weights' gradient of the product after an attention computes the reference's. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨_, ODw.run_values m g, (θ_run _ _ _).mono (fun _ h c => ⟨(h c).1.trans ?_, (h c).2⟩) (ODw.Ref.run_values m' g')⟩
  rw [(hargs c).1, (hargs c).2]

/-- The call of the input's gradient of the product after an attention computes the reference's. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨_, ODx.run_values m g, (θ_run _ _ _).mono (fun _ h c => ⟨(h c).1.trans ?_, (h c).2⟩) (ODx.Ref.run_values m' g')⟩
  rw [(hargs c).1, (hargs c).2]

/-- The calls of the gradients of the product that makes the queries compute the reference's three gradients. -/
theorem algebraic9 : Cert.algebraic_Kernel9Ideal_Reference9Ideal (hKernel9Ideal := Cert.Kernel9Ideal.Gen.facts)
    (hReference9Ideal := Cert.Reference9Ideal.Gen.facts) := by
  intro m g m' g' _ hargs
  exact ⟨_, _, _,
    (θ_run _ _ _).mono (fun _ h c => ⟨(h.1 c).1, (h.1 c).2.1, (h.1 c).2.2, h.2 c⟩)
      (θ_run_and (QDx.run_values m g fun c => QDx.Ref.given rfl rfl rfl rfl rfl rfl) (Cert.Kernel9Ideal.Gen.unchanged m g)),
    (θ_run _ _ _).mono (fun _ h c => ⟨(h.1 c).1, (h.1 c).2.1, (h.1 c).2.2, h.2.1 c⟩)
      (θ_run_and (QDx.Ref.run_values m' g' fun c => QDx.Ref.given (hargs c).1 (hargs c).2.1 (hargs c).2.2.1 (hargs c).2.2.2.1 (hargs c).2.2.2.2.1 (hargs c).2.2.2.2.2) (QDx.Ref.frame m' g'))⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  fun m ρ _ => ref_frame m ρ, fun m ρ _ => ref_frame m ρ,
  fun m ρ _ => Cert.Kernel2.Gen.frame m ρ, fun m ρ _ => Cert.Kernel2Ideal.Gen.frame m ρ, fun m ρ _ => Cert.Kernel2Ideal.Gen.frame m ρ,
  fun m ρ _ => MlpRef.frame m ρ, fun m ρ _ => MlpRef.frame m ρ,
  fun m ρ _ => Cert.Kernel3.Gen.frame m ρ, fun m ρ _ => Cert.Kernel3Ideal.Gen.frame m ρ,
  fun m ρ _ => UpDx.Ref.frame m ρ,
  fun m ρ _ => Cert.Kernel4.Gen.frame m ρ, fun m ρ _ => Cert.Kernel4Ideal.Gen.frame m ρ, fun m ρ _ => DownDw.Ref.frame m ρ,
  fun m ρ _ => Cert.Kernel5.Gen.frame m ρ, fun m ρ _ => Cert.Kernel5Ideal.Gen.frame m ρ, fun m ρ _ => Cert.Kernel5Ideal.Gen.frame m ρ,
  fun m ρ _ => Mlp0Ref.frame m ρ, fun m ρ _ => Mlp0Ref.frame m ρ,
  fun m ρ _ => Cert.Kernel6.Gen.frame m ρ, fun m ρ _ => Cert.Kernel6Ideal.Gen.frame m ρ,
  fun m ρ _ => UpDx0.Ref.frame m ρ,
  fun m ρ _ => Cert.Kernel7.Gen.frame m ρ, fun m ρ _ => Cert.Kernel7Ideal.Gen.frame m ρ, fun m ρ _ => ODw.Ref.frame m ρ,
  fun m ρ _ => Cert.Kernel8.Gen.frame m ρ, fun m ρ _ => Cert.Kernel8Ideal.Gen.frame m ρ, fun m ρ _ => ODx.Ref.frame m ρ,
  fun m ρ _ => Cert.Kernel9.Gen.frame m ρ, fun m ρ _ => Cert.Kernel9Ideal.Gen.frame m ρ, fun m ρ _ => QDx.Ref.frame m ρ,
  trivial, algebraic, trivial, algebraic2, trivial, algebraic3, trivial, algebraic4,
  trivial, algebraic5, trivial, algebraic6,
  trivial, algebraic7, trivial, algebraic8, trivial, algebraic9⟩

end Cert.Proof

end
